-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gains [hPre_finite_gains : Cert.Pre_finite_gains.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gains.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gains [hPre_finite_gains : Cert.Pre_finite_gains.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gains.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_keys [hPre_finite_keys : Cert.Pre_finite_keys.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_keys.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_keys [hPre_finite_keys : Cert.Pre_finite_keys.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_keys.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Kernel14Ideal_finite_heads [hPre_finite_heads : Cert.Pre_finite_heads.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_finite_heads.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3)) (m ((c.tc : Thread Cert.Kernel14Ideal.nD Cert.Kernel14Ideal.τ).loc Cert.Kernel14Ideal.main_arg4)) (m ((c.tc : Thread Cert.Kernel14Ideal.nD Cert.Kernel14Ideal.τ).loc Cert.Kernel14Ideal.main_arg5)) (m ((c.tc : Thread Cert.Kernel14Ideal.nD Cert.Kernel14Ideal.τ).loc Cert.Kernel14Ideal.main_arg6)) (m ((c.tc : Thread Cert.Kernel14Ideal.nD Cert.Kernel14Ideal.τ).loc Cert.Kernel14Ideal.main_arg7)) (m ((c.tc : Thread Cert.Kernel14Ideal.nD Cert.Kernel14Ideal.τ).loc Cert.Kernel14Ideal.main_arg8))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_finite_heads [hPre_finite_heads : Cert.Pre_finite_heads.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_finite_heads.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3)) (m ((c.tc : Thread Cert.Reference14Ideal.nD Cert.Reference14Ideal.τ).loc Cert.Reference14Ideal.main_arg4)) (m ((c.tc : Thread Cert.Reference14Ideal.nD Cert.Reference14Ideal.τ).loc Cert.Reference14Ideal.main_arg5)) (m ((c.tc : Thread Cert.Reference14Ideal.nD Cert.Reference14Ideal.τ).loc Cert.Reference14Ideal.main_arg6)) (m ((c.tc : Thread Cert.Reference14Ideal.nD Cert.Reference14Ideal.τ).loc Cert.Reference14Ideal.main_arg7)) (m ((c.tc : Thread Cert.Reference14Ideal.nD Cert.Reference14Ideal.τ).loc Cert.Reference14Ideal.main_arg8))) = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Kernel15Ideal_finite_keys_in [hPre_finite_keys_in : Cert.Pre_finite_keys_in.Facts] (m : (ℓ : Loc Cert.Kernel15Ideal.nD Cert.Kernel15Ideal.τ Cert.Kernel15Ideal.sig) → Buf (Elt Ideal) ℓ) : Prop :=
  ∀ c : Dev Cert.Kernel15Ideal.nD,
    (Cert.Pre_finite_keys_in.fn (F := Ideal) (m ((c.tc : Thread Cert.Kernel15Ideal.nD Cert.Kernel15Ideal.τ).loc Cert.Kernel15Ideal.main_arg0)) (m ((c.tc : Thread Cert.Kernel15Ideal.nD Cert.Kernel15Ideal.τ).loc Cert.Kernel15Ideal.main_arg1)) (m ((c.tc : Thread Cert.Kernel15Ideal.nD Cert.Kernel15Ideal.τ).loc Cert.Kernel15Ideal.main_arg2)) (m ((c.tc : Thread Cert.Kernel15Ideal.nD Cert.Kernel15Ideal.τ).loc Cert.Kernel15Ideal.main_arg3)) (m ((c.tc : Thread Cert.Kernel15Ideal.nD Cert.Kernel15Ideal.τ).loc Cert.Kernel15Ideal.main_arg4)) (m ((c.tc : Thread Cert.Kernel15Ideal.nD Cert.Kernel15Ideal.τ).loc Cert.Kernel15Ideal.main_arg5)) (m ((c.tc : Thread Cert.Kernel15Ideal.nD Cert.Kernel15Ideal.τ).loc Cert.Kernel15Ideal.main_arg6)) (m ((c.tc : Thread Cert.Kernel15Ideal.nD Cert.Kernel15Ideal.τ).loc Cert.Kernel15Ideal.main_arg7)) (m ((c.tc : Thread Cert.Kernel15Ideal.nD Cert.Kernel15Ideal.τ).loc Cert.Kernel15Ideal.main_arg8)) (m ((c.tc : Thread Cert.Kernel15Ideal.nD Cert.Kernel15Ideal.τ).loc Cert.Kernel15Ideal.main_arg9))) = (fun _ => 1#1)

def Pre_Reference15Ideal (m : (ℓ : Loc Cert.Reference15Ideal.nD Cert.Reference15Ideal.τ Cert.Reference15Ideal.sig) → Buf (Elt Ideal) ℓ) : Prop :=
  True

def Pre_Reference15Ideal_finite_keys_in [hPre_finite_keys_in : Cert.Pre_finite_keys_in.Facts] (m : (ℓ : Loc Cert.Reference15Ideal.nD Cert.Reference15Ideal.τ Cert.Reference15Ideal.sig) → Buf (Elt Ideal) ℓ) : Prop :=
  ∀ c : Dev Cert.Reference15Ideal.nD,
    (Cert.Pre_finite_keys_in.fn (F := Ideal) (m ((c.tc : Thread Cert.Reference15Ideal.nD Cert.Reference15Ideal.τ).loc Cert.Reference15Ideal.main_arg0)) (m ((c.tc : Thread Cert.Reference15Ideal.nD Cert.Reference15Ideal.τ).loc Cert.Reference15Ideal.main_arg1)) (m ((c.tc : Thread Cert.Reference15Ideal.nD Cert.Reference15Ideal.τ).loc Cert.Reference15Ideal.main_arg2)) (m ((c.tc : Thread Cert.Reference15Ideal.nD Cert.Reference15Ideal.τ).loc Cert.Reference15Ideal.main_arg3)) (m ((c.tc : Thread Cert.Reference15Ideal.nD Cert.Reference15Ideal.τ).loc Cert.Reference15Ideal.main_arg4)) (m ((c.tc : Thread Cert.Reference15Ideal.nD Cert.Reference15Ideal.τ).loc Cert.Reference15Ideal.main_arg5)) (m ((c.tc : Thread Cert.Reference15Ideal.nD Cert.Reference15Ideal.τ).loc Cert.Reference15Ideal.main_arg6)) (m ((c.tc : Thread Cert.Reference15Ideal.nD Cert.Reference15Ideal.τ).loc Cert.Reference15Ideal.main_arg7)) (m ((c.tc : Thread Cert.Reference15Ideal.nD Cert.Reference15Ideal.τ).loc Cert.Reference15Ideal.main_arg8)) (m ((c.tc : Thread Cert.Reference15Ideal.nD Cert.Reference15Ideal.τ).loc Cert.Reference15Ideal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite_gains [hKernelIdeal : Cert.KernelIdeal.Facts] [hPre_finite_gains : Cert.Pre_finite_gains.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gains m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite_gains [hReferenceIdeal : Cert.ReferenceIdeal.Facts] [hPre_finite_gains : Cert.Pre_finite_gains.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gains m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite_keys [hKernel2Ideal : Cert.Kernel2Ideal.Facts] [hPre_finite_keys : Cert.Pre_finite_keys.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_keys m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite_keys [hReference2Ideal : Cert.Reference2Ideal.Facts] [hPre_finite_keys : Cert.Pre_finite_keys.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_keys m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7)
      ∧ r.2.mem ((c.tc : Thread Cert.Kernel14.nD Cert.Kernel14.τ).loc Cert.Kernel14.main_arg8) = m ((c.tc : Thread Cert.Kernel14.nD Cert.Kernel14.τ).loc Cert.Kernel14.main_arg8))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8))
      ∧ r.2.sem = fun _ => 0)

def quiescent_Kernel14Ideal_pre_finite_heads [hKernel14Ideal : Cert.Kernel14Ideal.Facts] [hPre_finite_heads : Cert.Pre_finite_heads.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal_finite_heads m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
      ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
      ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8))
      ∧ r.2.sem = fun _ => 0)

def quiescent_Reference14Ideal_pre_finite_heads [hReference14Ideal : Cert.Reference14Ideal.Facts] [hPre_finite_heads : Cert.Pre_finite_heads.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_finite_heads m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
      ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6)
      ∧ r.2.mem ((c.tc : Thread Cert.Kernel15.nD Cert.Kernel15.τ).loc Cert.Kernel15.main_arg7) = m ((c.tc : Thread Cert.Kernel15.nD Cert.Kernel15.τ).loc Cert.Kernel15.main_arg7)
      ∧ r.2.mem ((c.tc : Thread Cert.Kernel15.nD Cert.Kernel15.τ).loc Cert.Kernel15.main_arg8) = m ((c.tc : Thread Cert.Kernel15.nD Cert.Kernel15.τ).loc Cert.Kernel15.main_arg8)
      ∧ r.2.mem ((c.tc : Thread Cert.Kernel15.nD Cert.Kernel15.τ).loc Cert.Kernel15.main_arg9) = m ((c.tc : Thread Cert.Kernel15.nD Cert.Kernel15.τ).loc Cert.Kernel15.main_arg9))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
      ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9))
      ∧ r.2.sem = fun _ => 0)

def quiescent_Kernel15Ideal_pre_finite_keys_in [hKernel15Ideal : Cert.Kernel15Ideal.Facts] [hPre_finite_keys_in : Cert.Pre_finite_keys_in.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal_finite_keys_in m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
      ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
      ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
      ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8)
      ∧ r.2.mem ((c.tc : Thread Cert.Reference15Ideal.nD Cert.Reference15Ideal.τ).loc Cert.Reference15Ideal.main_arg9) = m ((c.tc : Thread Cert.Reference15Ideal.nD Cert.Reference15Ideal.τ).loc Cert.Reference15Ideal.main_arg9))
      ∧ r.2.sem = fun _ => 0)

def quiescent_Reference15Ideal_pre_finite_keys_in [hReference15Ideal : Cert.Reference15Ideal.Facts] [hPre_finite_keys_in : Cert.Pre_finite_keys_in.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal_finite_keys_in m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
      ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
      ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8)
      ∧ r.2.mem ((c.tc : Thread Cert.Reference15Ideal.nD Cert.Reference15Ideal.τ).loc Cert.Reference15Ideal.main_arg9) = m ((c.tc : Thread Cert.Reference15Ideal.nD Cert.Reference15Ideal.τ).loc Cert.Reference15Ideal.main_arg9))
      ∧ r.2.sem = fun _ => 0)

def preserves_Kernel_KernelIdeal : Prop :=
  True

def algebraic_KernelIdeal_ReferenceIdeal_on_rows_written_pre_finite_gains [hKernelIdeal : Cert.KernelIdeal.Facts] [hReferenceIdeal : Cert.ReferenceIdeal.Facts] [hPre_finite_gains : Cert.Pre_finite_gains.Facts] [hOn_rows_written : Cert.On_rows_written.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gains m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)) (v2 : (c : Dev Cert.KernelIdeal.nD) → Buf (Elt Ideal) ((c.tc : Thread Cert.KernelIdeal.nD Cert.KernelIdeal.τ).loc Cert.KernelIdeal.main_v17_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8192, 2048]⟩ : Shape).Idx, (Cert.On_rows_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.KernelIdeal.nD Cert.KernelIdeal.τ).loc Cert.KernelIdeal.main_v17_0) i = v0 c i)
          ∧ (∀ i : (⟨2, ![4096, 512]⟩ : Shape).Idx, (Cert.On_rows_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 i = 1#1 → r.2.mem ((c.tc : Thread Cert.KernelIdeal.nD Cert.KernelIdeal.τ).loc Cert.KernelIdeal.main_v17_1) i = v1 c i)
          ∧ (∀ i : (⟨2, ![4096, 512]⟩ : Shape).Idx, (Cert.On_rows_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 i = 1#1 → r.2.mem ((c.tc : Thread Cert.KernelIdeal.nD Cert.KernelIdeal.τ).loc Cert.KernelIdeal.main_v17_2) i = v2 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8192, 2048]⟩ : Shape).Idx, (Cert.On_rows_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.ReferenceIdeal.nD Cert.ReferenceIdeal.τ).loc Cert.ReferenceIdeal.main_v55) i = v0 c i)
          ∧ (∀ i : (⟨2, ![4096, 512]⟩ : Shape).Idx, (Cert.On_rows_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 i = 1#1 → r.2.mem ((c.tc : Thread Cert.ReferenceIdeal.nD Cert.ReferenceIdeal.τ).loc Cert.ReferenceIdeal.main_v56) i = v1 c i)
          ∧ (∀ i : (⟨2, ![4096, 512]⟩ : Shape).Idx, (Cert.On_rows_written.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 i = 1#1 → r.2.mem ((c.tc : Thread Cert.ReferenceIdeal.nD Cert.ReferenceIdeal.τ).loc Cert.ReferenceIdeal.main_v57) i = v2 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite_keys [hKernel2Ideal : Cert.Kernel2Ideal.Facts] [hReference2Ideal : Cert.Reference2Ideal.Facts] [hPre_finite_keys : Cert.Pre_finite_keys.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_keys m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v55)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v55) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v179) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v17) = v0 c
          ∧ r.2.mem ((c.tc : Thread Cert.Reference3Ideal.nD Cert.Reference3Ideal.τ).loc Cert.Reference3Ideal.main_v20) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v28) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v28) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v17)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v17) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v20) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v6)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v6) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v6)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v6) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v19) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v7)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v7) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v20) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v60) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v5)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v5) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v30) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v5_0)) (v1 : (c : Dev Cert.Kernel13Ideal.nD) → Buf (Elt Ideal) ((c.tc : Thread Cert.Kernel13Ideal.nD Cert.Kernel13Ideal.τ).loc Cert.Kernel13Ideal.main_v5_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v5_0) = v0 c
          ∧ r.2.mem ((c.tc : Thread Cert.Kernel13Ideal.nD Cert.Kernel13Ideal.τ).loc Cert.Kernel13Ideal.main_v5_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v34) = v0 c
          ∧ r.2.mem ((c.tc : Thread Cert.Reference13Ideal.nD Cert.Reference13Ideal.τ).loc Cert.Reference13Ideal.main_v62) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal_pre_finite_heads [hKernel14Ideal : Cert.Kernel14Ideal.Facts] [hReference14Ideal : Cert.Reference14Ideal.Facts] [hPre_finite_heads : Cert.Pre_finite_heads.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal_finite_heads m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)
      ∧ m' ((c.tc : Thread Cert.Reference14Ideal.nD Cert.Reference14Ideal.τ).loc Cert.Reference14Ideal.main_arg8) = m ((c.tc : Thread Cert.Kernel14Ideal.nD Cert.Kernel14Ideal.τ).loc Cert.Kernel14Ideal.main_arg8)) →
    ∃ (v0 : (c : Dev Cert.Kernel14Ideal.nD) → Buf (Elt Ideal) ((c.tc : Thread Cert.Kernel14Ideal.nD Cert.Kernel14Ideal.τ).loc Cert.Kernel14Ideal.main_v17)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v17) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7)
          ∧ r.2.mem ((c.tc : Thread Cert.Kernel14Ideal.nD Cert.Kernel14Ideal.τ).loc Cert.Kernel14Ideal.main_arg8) = m ((c.tc : Thread Cert.Kernel14Ideal.nD Cert.Kernel14Ideal.τ).loc Cert.Kernel14Ideal.main_arg8))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v44) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7)
          ∧ r.2.mem ((c.tc : Thread Cert.Reference14Ideal.nD Cert.Reference14Ideal.τ).loc Cert.Reference14Ideal.main_arg8) = m' ((c.tc : Thread Cert.Reference14Ideal.nD Cert.Reference14Ideal.τ).loc Cert.Reference14Ideal.main_arg8))

def preserves_Kernel15_Kernel15Ideal : Prop :=
  True

def algebraic_Kernel15Ideal_Reference15Ideal_pre_finite_keys_in [hKernel15Ideal : Cert.Kernel15Ideal.Facts] [hReference15Ideal : Cert.Reference15Ideal.Facts] [hPre_finite_keys_in : Cert.Pre_finite_keys_in.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal_finite_keys_in m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)
      ∧ m' ((c.tc : Thread Cert.Reference15Ideal.nD Cert.Reference15Ideal.τ).loc Cert.Reference15Ideal.main_arg7) = m ((c.tc : Thread Cert.Kernel15Ideal.nD Cert.Kernel15Ideal.τ).loc Cert.Kernel15Ideal.main_arg7)
      ∧ m' ((c.tc : Thread Cert.Reference15Ideal.nD Cert.Reference15Ideal.τ).loc Cert.Reference15Ideal.main_arg8) = m ((c.tc : Thread Cert.Kernel15Ideal.nD Cert.Kernel15Ideal.τ).loc Cert.Kernel15Ideal.main_arg8)
      ∧ m' ((c.tc : Thread Cert.Reference15Ideal.nD Cert.Reference15Ideal.τ).loc Cert.Reference15Ideal.main_arg9) = m ((c.tc : Thread Cert.Kernel15Ideal.nD Cert.Kernel15Ideal.τ).loc Cert.Kernel15Ideal.main_arg9)) →
    ∃ (v0 : (c : Dev Cert.Kernel15Ideal.nD) → Buf (Elt Ideal) ((c.tc : Thread Cert.Kernel15Ideal.nD Cert.Kernel15Ideal.τ).loc Cert.Kernel15Ideal.main_v40_0)) (v1 : (c : Dev Cert.Kernel15Ideal.nD) → Buf (Elt Ideal) ((c.tc : Thread Cert.Kernel15Ideal.nD Cert.Kernel15Ideal.τ).loc Cert.Kernel15Ideal.main_v40_1)) (v2 : (c : Dev Cert.Kernel15Ideal.nD) → Buf (Elt Ideal) ((c.tc : Thread Cert.Kernel15Ideal.nD Cert.Kernel15Ideal.τ).loc Cert.Kernel15Ideal.main_v40_2)) (v3 : (c : Dev Cert.Kernel15Ideal.nD) → Buf (Elt Ideal) ((c.tc : Thread Cert.Kernel15Ideal.nD Cert.Kernel15Ideal.τ).loc Cert.Kernel15Ideal.main_v40_3)) (v4 : (c : Dev Cert.Kernel15Ideal.nD) → Buf (Elt Ideal) ((c.tc : Thread Cert.Kernel15Ideal.nD Cert.Kernel15Ideal.τ).loc Cert.Kernel15Ideal.main_v40_4)) (v5 : (c : Dev Cert.Kernel15Ideal.nD) → Buf (Elt Ideal) ((c.tc : Thread Cert.Kernel15Ideal.nD Cert.Kernel15Ideal.τ).loc Cert.Kernel15Ideal.main_v40_5)) (v6 : (c : Dev Cert.Kernel15Ideal.nD) → Buf (Elt Ideal) ((c.tc : Thread Cert.Kernel15Ideal.nD Cert.Kernel15Ideal.τ).loc Cert.Kernel15Ideal.main_v40_6)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v40_0) = v0 c
          ∧ r.2.mem ((c.tc : Thread Cert.Kernel15Ideal.nD Cert.Kernel15Ideal.τ).loc Cert.Kernel15Ideal.main_v40_1) = v1 c
          ∧ r.2.mem ((c.tc : Thread Cert.Kernel15Ideal.nD Cert.Kernel15Ideal.τ).loc Cert.Kernel15Ideal.main_v40_2) = v2 c
          ∧ r.2.mem ((c.tc : Thread Cert.Kernel15Ideal.nD Cert.Kernel15Ideal.τ).loc Cert.Kernel15Ideal.main_v40_3) = v3 c
          ∧ r.2.mem ((c.tc : Thread Cert.Kernel15Ideal.nD Cert.Kernel15Ideal.τ).loc Cert.Kernel15Ideal.main_v40_4) = v4 c
          ∧ r.2.mem ((c.tc : Thread Cert.Kernel15Ideal.nD Cert.Kernel15Ideal.τ).loc Cert.Kernel15Ideal.main_v40_5) = v5 c
          ∧ r.2.mem ((c.tc : Thread Cert.Kernel15Ideal.nD Cert.Kernel15Ideal.τ).loc Cert.Kernel15Ideal.main_v40_6) = v6 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6)
          ∧ r.2.mem ((c.tc : Thread Cert.Kernel15Ideal.nD Cert.Kernel15Ideal.τ).loc Cert.Kernel15Ideal.main_arg7) = m ((c.tc : Thread Cert.Kernel15Ideal.nD Cert.Kernel15Ideal.τ).loc Cert.Kernel15Ideal.main_arg7)
          ∧ r.2.mem ((c.tc : Thread Cert.Kernel15Ideal.nD Cert.Kernel15Ideal.τ).loc Cert.Kernel15Ideal.main_arg8) = m ((c.tc : Thread Cert.Kernel15Ideal.nD Cert.Kernel15Ideal.τ).loc Cert.Kernel15Ideal.main_arg8)
          ∧ r.2.mem ((c.tc : Thread Cert.Kernel15Ideal.nD Cert.Kernel15Ideal.τ).loc Cert.Kernel15Ideal.main_arg9) = m ((c.tc : Thread Cert.Kernel15Ideal.nD Cert.Kernel15Ideal.τ).loc Cert.Kernel15Ideal.main_arg9))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v35) = v0 c
          ∧ r.2.mem ((c.tc : Thread Cert.Reference15Ideal.nD Cert.Reference15Ideal.τ).loc Cert.Reference15Ideal.main_v119) = v1 c
          ∧ r.2.mem ((c.tc : Thread Cert.Reference15Ideal.nD Cert.Reference15Ideal.τ).loc Cert.Reference15Ideal.main_v37) = v2 c
          ∧ r.2.mem ((c.tc : Thread Cert.Reference15Ideal.nD Cert.Reference15Ideal.τ).loc Cert.Reference15Ideal.main_v110) = v3 c
          ∧ r.2.mem ((c.tc : Thread Cert.Reference15Ideal.nD Cert.Reference15Ideal.τ).loc Cert.Reference15Ideal.main_v120) = v4 c
          ∧ r.2.mem ((c.tc : Thread Cert.Reference15Ideal.nD Cert.Reference15Ideal.τ).loc Cert.Reference15Ideal.main_v76) = v5 c
          ∧ r.2.mem ((c.tc : Thread Cert.Reference15Ideal.nD Cert.Reference15Ideal.τ).loc Cert.Reference15Ideal.main_v96) = v6 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6)
          ∧ r.2.mem ((c.tc : Thread Cert.Reference15Ideal.nD Cert.Reference15Ideal.τ).loc Cert.Reference15Ideal.main_arg7) = m' ((c.tc : Thread Cert.Reference15Ideal.nD Cert.Reference15Ideal.τ).loc Cert.Reference15Ideal.main_arg7)
          ∧ r.2.mem ((c.tc : Thread Cert.Reference15Ideal.nD Cert.Reference15Ideal.τ).loc Cert.Reference15Ideal.main_arg8) = m' ((c.tc : Thread Cert.Reference15Ideal.nD Cert.Reference15Ideal.τ).loc Cert.Reference15Ideal.main_arg8)
          ∧ r.2.mem ((c.tc : Thread Cert.Reference15Ideal.nD Cert.Reference15Ideal.τ).loc Cert.Reference15Ideal.main_arg9) = m' ((c.tc : Thread Cert.Reference15Ideal.nD Cert.Reference15Ideal.τ).loc Cert.Reference15Ideal.main_arg9))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hPre_finite_gains : Cert.Pre_finite_gains.Facts) (hPre_finite_keys : Cert.Pre_finite_keys.Facts) (hPre_finite_heads : Cert.Pre_finite_heads.Facts) (hPre_finite_keys_in : Cert.Pre_finite_keys_in.Facts) (hOn_rows_written : Cert.On_rows_written.Facts),
    quiescent_Kernel (hKernel := hKernel)
    ∧ quiescent_KernelIdeal (hKernelIdeal := hKernelIdeal)
    ∧ quiescent_KernelIdeal_pre_finite_gains (hKernelIdeal := hKernelIdeal) (hPre_finite_gains := hPre_finite_gains)
    ∧ quiescent_ReferenceIdeal (hReferenceIdeal := hReferenceIdeal)
    ∧ quiescent_ReferenceIdeal_pre_finite_gains (hReferenceIdeal := hReferenceIdeal) (hPre_finite_gains := hPre_finite_gains)
    ∧ quiescent_Kernel2 (hKernel2 := hKernel2)
    ∧ quiescent_Kernel2Ideal (hKernel2Ideal := hKernel2Ideal)
    ∧ quiescent_Kernel2Ideal_pre_finite_keys (hKernel2Ideal := hKernel2Ideal) (hPre_finite_keys := hPre_finite_keys)
    ∧ quiescent_Reference2Ideal (hReference2Ideal := hReference2Ideal)
    ∧ quiescent_Reference2Ideal_pre_finite_keys (hReference2Ideal := hReference2Ideal) (hPre_finite_keys := hPre_finite_keys)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Kernel14Ideal_pre_finite_heads (hKernel14Ideal := hKernel14Ideal) (hPre_finite_heads := hPre_finite_heads)
    ∧ quiescent_Reference14Ideal (hReference14Ideal := hReference14Ideal)
    ∧ quiescent_Reference14Ideal_pre_finite_heads (hReference14Ideal := hReference14Ideal) (hPre_finite_heads := hPre_finite_heads)
    ∧ quiescent_Kernel15 (hKernel15 := hKernel15)
    ∧ quiescent_Kernel15Ideal (hKernel15Ideal := hKernel15Ideal)
    ∧ quiescent_Kernel15Ideal_pre_finite_keys_in (hKernel15Ideal := hKernel15Ideal) (hPre_finite_keys_in := hPre_finite_keys_in)
    ∧ quiescent_Reference15Ideal (hReference15Ideal := hReference15Ideal)
    ∧ quiescent_Reference15Ideal_pre_finite_keys_in (hReference15Ideal := hReference15Ideal) (hPre_finite_keys_in := hPre_finite_keys_in)
    ∧ preserves_Kernel_KernelIdeal
    ∧ algebraic_KernelIdeal_ReferenceIdeal_on_rows_written_pre_finite_gains (hKernelIdeal := hKernelIdeal) (hReferenceIdeal := hReferenceIdeal) (hPre_finite_gains := hPre_finite_gains) (hOn_rows_written := hOn_rows_written)
    ∧ preserves_Kernel2_Kernel2Ideal
    ∧ algebraic_Kernel2Ideal_Reference2Ideal_pre_finite_keys (hKernel2Ideal := hKernel2Ideal) (hReference2Ideal := hReference2Ideal) (hPre_finite_keys := hPre_finite_keys)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal_pre_finite_heads (hKernel14Ideal := hKernel14Ideal) (hReference14Ideal := hReference14Ideal) (hPre_finite_heads := hPre_finite_heads)
    ∧ preserves_Kernel15_Kernel15Ideal
    ∧ algebraic_Kernel15Ideal_Reference15Ideal_pre_finite_keys_in (hKernel15Ideal := hKernel15Ideal) (hReference15Ideal := hReference15Ideal) (hPre_finite_keys_in := hPre_finite_keys_in)
-- ==== On_rows_written.lean ====
abbrev S16x256x10080 : Shape := ⟨3, ![16, 256, 10080]⟩
abbrev S4x1024x10080 : Shape := ⟨3, ![4, 1024, 10080]⟩
abbrev S1x128 : Shape := ⟨2, ![1, 128]⟩
abbrev S8192x2048 : Shape := ⟨2, ![8192, 2048]⟩
abbrev S_ : Shape := ⟨0, ![]⟩
abbrev S4096x512 : Shape := ⟨2, ![4096, 512]⟩

class Facts : Prop where
  bcast_S_S4096x512 : S_.BroadcastsInDim S4096x512 (![] : Fin 0 → Fin S4096x512.rank)
  bcast_S_S8192x2048 : S_.BroadcastsInDim S8192x2048 (![] : Fin 0 → Fin S8192x2048.rank)

variable [Facts]

def fn {F : FTy → Type} [FloatOps F] (main_arg0 : FVec F S16x256x10080 .f32) (main_arg1 : FVec F S4x1024x10080 .f32) (main_arg2 : FVec F S1x128 .f32) (main_arg3 : FVec F S1x128 .f32) : IVec S8192x2048 1 × IVec S4096x512 1 × IVec S4096x512 1 :=
  let main_v0 : IVec S8192x2048 32 := iotaInDim S8192x2048 32 0
  let main_c : IVec S_ 1 := constantI S_ 1 1#1
  let main_v1 : IVec S4096x512 1 := broadcastInDim S4096x512 ![] bcast_S_S4096x512 main_c
  let main_c_0 : IVec S_ 32 := constantI S_ 32 4096#32
  let main_v2 : IVec S8192x2048 32 := broadcastInDim S8192x2048 ![] bcast_S_S8192x2048 main_c_0
  let main_v3 : IVec S8192x2048 1 := cmpi .slt main_v0 main_v2
  (main_v3, main_v1, main_v1)
-- ==== Pre_finite_gains.lean ====
abbrev S16x256x10080 : Shape := ⟨3, ![16, 256, 10080]⟩
abbrev S4x1024x10080 : Shape := ⟨3, ![4, 1024, 10080]⟩
abbrev S1x128 : Shape := ⟨2, ![1, 128]⟩
abbrev S_ : Shape := ⟨0, ![]⟩

class Facts : Prop where
  bcast_S_S1x128 : S_.BroadcastsInDim S1x128 (![] : Fin 0 → Fin S1x128.rank)
  reducesTo_S1x128_S_d0_1 : S1x128.ReducesTo [0, 1] S_
  h_S_ : 0 < S_.numel

variable [Facts]

def fn {F : FTy → Type} [FloatOps F] (main_arg0 : FVec F S16x256x10080 .f32) (main_arg1 : FVec F S4x1024x10080 .f32) (main_arg2 : FVec F S1x128 .f32) (main_arg3 : FVec F S1x128 .f32) : IVec S_ 1 :=
  let main_v0 : FVec F S1x128 .f32 := Host.absf main_arg2
  let main_cst : FVec F S_ .f32 := constant S_ .f32 0x7F800000#32
  let main_v1 : FVec F S1x128 .f32 := broadcastInDim S1x128 ![] bcast_S_S1x128 main_cst
  let main_v2 : IVec S1x128 1 := cmpf .olt main_v0 main_v1
  let main_c : IVec S_ 1 := constantI S_ 1 1#1
  let main_v3 : IVec S_ 1 := (fun x v => Host.reduce IntOp.andi x v reducesTo_S1x128_S_d0_1 h_S_) main_v2 main_c
  let main_v4 : FVec F S1x128 .f32 := Host.absf main_arg3
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  main_v8
-- ==== Pre_finite_heads.lean ====
abbrev S8192x2048 : Shape := ⟨2, ![8192, 2048]⟩
abbrev S1x2048 : Shape := ⟨2, ![1, 2048]⟩
abbrev S1x32x64 : Shape := ⟨3, ![1, 32, 64]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S1x32x64 : S_.BroadcastsInDim S1x32x64 (![] : Fin 0 → Fin S1x32x64.rank)
  reducesTo_S1x32x64_S_d0_1_2 : S1x32x64.ReducesTo [0, 1, 2] S_

variable [Facts]

def fn_part1 {F : FTy → Type} [FloatOps F] (main_arg8 : FVec F S1x32x64 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S1x32x64 .f32 := Host.absf main_arg8
  let main_cst_6 : FVec F S_ .f32 := constant S_ .f32 0x7F800000#32
  let main_v20 : FVec F S1x32x64 .f32 := broadcastInDim S1x32x64 ![] bcast_S_S1x32x64 main_cst_6
  let main_v21 : IVec S1x32x64 1 := cmpf .olt main_v19 main_v20
  let main_c_7 : IVec S_ 1 := constantI S_ 1 1#1
  let main_v22 : IVec S_ 1 := (fun x v => Host.reduce IntOp.andi x v reducesTo_S1x32x64_S_d0_1_2 h_S_) main_v21 main_c_7
  let main_v23 : IVec S_ 1 := andi main_v18 main_v22
  main_v23

def fn {F : FTy → Type} [FloatOps F] (main_arg0 : FVec F S8192x2048 .f32) (main_arg1 : FVec F S8192x2048 .f32) (main_arg2 : FVec F S8192x2048 .f32) (main_arg3 : FVec F S8192x2048 .f32) (main_arg4 : FVec F S8192x2048 .f32) (main_arg5 : FVec F S8192x2048 .f32) (main_arg6 : FVec F S1x2048 .f32) (main_arg7 : FVec F S1x2048 .f32) (main_arg8 : FVec F S1x32x64 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg8 main_v13 main_v16
-- ==== Pre_finite_keys.lean ====
abbrev S16x256x10080 : Shape := ⟨3, ![16, 256, 10080]⟩
abbrev S4x1024x10080 : Shape := ⟨3, ![4, 1024, 10080]⟩
abbrev S4x1x512x4x128 : Shape := ⟨5, ![4, 1, 512, 4, 128]⟩
abbrev S1x128 : Shape := ⟨2, ![1, 128]⟩
abbrev S8192x2048 : Shape := ⟨2, ![8192, 2048]⟩
abbrev S_ : Shape := ⟨0, ![]⟩

class Facts : Prop where
  bcast_S_S1x128 : S_.BroadcastsInDim S1x128 (![] : Fin 0 → Fin S1x128.rank)
  reducesTo_S1x128_S_d0_1 : S1x128.ReducesTo [0, 1] S_
  h_S_ : 0 < S_.numel
  bcast_S_S4x1x512x4x128 : S_.BroadcastsInDim S4x1x512x4x128 (![] : Fin 0 → Fin S4x1x512x4x128.rank)
  reducesTo_S4x1x512x4x128_S_d0_1_2_3_4 : S4x1x512x4x128.ReducesTo [0, 1, 2, 3, 4] S_

variable [Facts]

def fn {F : FTy → Type} [FloatOps F] (main_arg0 : FVec F S16x256x10080 .f32) (main_arg1 : FVec F S4x1024x10080 .f32) (main_arg2 : FVec F S4x1x512x4x128 .f32) (main_arg3 : FVec F S4x1x512x4x128 .f32) (main_arg4 : FVec F S1x128 .f32) (main_arg5 : FVec F S1x128 .f32) (main_arg6 : FVec F S8192x2048 .bf16) : IVec S_ 1 :=
  let main_v0 : FVec F S1x128 .f32 := Host.absf main_arg4
  let main_cst : FVec F S_ .f32 := constant S_ .f32 0x7F800000#32
  let main_v1 : FVec F S1x128 .f32 := broadcastInDim S1x128 ![] bcast_S_S1x128 main_cst
  let main_v2 : IVec S1x128 1 := cmpf .olt main_v0 main_v1
  let main_c : IVec S_ 1 := constantI S_ 1 1#1
  let main_v3 : IVec S_ 1 := (fun x v => Host.reduce IntOp.andi x v reducesTo_S1x128_S_d0_1 h_S_) main_v2 main_c
  let main_v4 : FVec F S1x128 .f32 := Host.absf main_arg5
  let main_cst_0 : FVec F S_ .f32 := constant S_ .f32 0x7F800000#32
  let main_v5 : FVec F S1x128 .f32 := broadcastInDim S1x128 ![] bcast_S_S1x128 main_cst_0
  let main_v6 : IVec S1x128 1 := cmpf .olt main_v4 main_v5
  let main_c_1 : IVec S_ 1 := constantI S_ 1 1#1
  let main_v7 : IVec S_ 1 := (fun x v => Host.reduce IntOp.andi x v reducesTo_S1x128_S_d0_1 h_S_) main_v6 main_c_1
  let main_v8 : IVec S_ 1 := andi main_v3 main_v7
  let main_v9 : FVec F S4x1x512x4x128 .f32 := Host.absf main_arg2
  let main_cst_2 : FVec F S_ .f32 := constant S_ .f32 0x7F800000#32
  let main_v10 : FVec F S4x1x512x4x128 .f32 := broadcastInDim S4x1x512x4x128 ![] bcast_S_S4x1x512x4x128 main_cst_2
  let main_v11 : IVec S4x1x512x4x128 1 := cmpf .olt main_v9 main_v10
  let main_c_3 : IVec S_ 1 := constantI S_ 1 1#1
  let main_v12 : IVec S_ 1 := (fun x v => Host.reduce IntOp.andi x v reducesTo_S4x1x512x4x128_S_d0_1_2_3_4 h_S_) main_v11 main_c_3
  let main_v13 : IVec S_ 1 := andi main_v8 main_v12
  main_v13
-- ==== Pre_finite_keys_in.lean ====
abbrev S16x256x10080 : Shape := ⟨3, ![16, 256, 10080]⟩
abbrev S4x1024x10080 : Shape := ⟨3, ![4, 1024, 10080]⟩
abbrev S1x7008 : Shape := ⟨2, ![1, 7008]⟩
abbrev S1x2x2048 : Shape := ⟨3, ![1, 2, 2048]⟩
abbrev S1x2x128x2048 : Shape := ⟨4, ![1, 2, 128, 2048]⟩
abbrev S1x2048 : Shape := ⟨2, ![1, 2048]⟩
abbrev S1x128x2048 : Shape := ⟨3, ![1, 128, 2048]⟩
abbrev S1x480x2048 : Shape := ⟨3, ![1, 480, 2048]⟩
abbrev S_ : Shape := ⟨0, ![]⟩

class Facts : Prop where
  bcast_S_S16x256x10080 : S_.BroadcastsInDim S16x256x10080 (![] : Fin 0 → Fin S16x256x10080.rank)
  reducesTo_S16x256x10080_S_d0_1_2 : S16x256x10080.ReducesTo [0, 1, 2] S_
  h_S_ : 0 < S_.numel
  bcast_S_S4x1024x10080 : S_.BroadcastsInDim S4x1024x10080 (![] : Fin 0 → Fin S4x1024x10080.rank)
  reducesTo_S4x1024x10080_S_d0_1_2 : S4x1024x10080.ReducesTo [0, 1, 2] S_
  bcast_S_S1x7008 : S_.BroadcastsInDim S1x7008 (![] : Fin 0 → Fin S1x7008.rank)
  reducesTo_S1x7008_S_d0_1 : S1x7008.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_v13 : IVec S_ 1) (main_v16 : IVec S1x2048 1) : IVec S_ 1 :=
  let main_c_5 : IVec S_ 1 := constantI S_ 1 1#1
  let main_v17 : IVec S_ 1 := (fun x v => Host.reduce IntOp.andi x v reducesTo_S1x2048_S_d0_1 h_S_) main_v16 main_c_5
  let main_v18 : IVec S_ 1 := andi main_v13 main_v17
  main_v18

def fn {F : FTy → Type} [FloatOps F] (main_arg0 : FVec F S16x256x10080 .f32) (main_arg1 : FVec F S4x1024x10080 .f32) (main_arg2 : FVec F S1x7008 .f32) (main_arg3 : FVec F S1x2x2048 .f32) (main_arg4 : FVec F S1x2x128x2048 .f32) (main_arg5 : FVec F S1x2048 .f32) (main_arg6 : FVec F S1x128x2048 .f32) (main_arg7 : FVec F S1x480x2048 .f32) (main_arg8 : FVec F S1x2048 .f32) (main_arg9 : FVec F S1x2048 .f32) : IVec S_ 1 :=
  let main_v0 : FVec F S16x256x10080 .f32 := Host.absf main_arg0
  let main_cst : FVec F S_ .f32 := constant S_ .f32 0x7F800000#32
  let main_v1 : FVec F S16x256x10080 .f32 := broadcastInDim S16x256x10080 ![] bcast_S_S16x256x10080 main_cst
  let main_v2 : IVec S16x256x10080 1 := cmpf .olt main_v0 main_v1
  let main_c : IVec S_ 1 := constantI S_ 1 1#1
  let main_v3 : IVec S_ 1 := (fun x v => Host.reduce IntOp.andi x v reducesTo_S16x256x10080_S_d0_1_2 h_S_) main_v2 main_c
  let main_v4 : FVec F S4x1024x10080 .f32 := Host.absf main_arg1
  let main_cst_0 : FVec F S_ .f32 := constant S_ .f32 0x7F800000#32
  let main_v5 : FVec F S4x1024x10080 .f32 := broadcastInDim S4x1024x10080 ![] bcast_S_S4x1024x10080 main_cst_0
  let main_v6 : IVec S4x1024x10080 1 := cmpf .olt main_v4 main_v5
  let main_c_1 : IVec S_ 1 := constantI S_ 1 1#1
  let main_v7 : IVec S_ 1 := (fun x v => Host.reduce IntOp.andi x v reducesTo_S4x1024x10080_S_d0_1_2 h_S_) main_v6 main_c_1
  let main_v8 : IVec S_ 1 := andi main_v3 main_v7
  let main_v9 : FVec F S1x7008 .f32 := Host.absf main_arg2
  let main_cst_2 : FVec F S_ .f32 := constant S_ .f32 0x7F800000#32
  let main_v10 : FVec F S1x7008 .f32 := broadcastInDim S1x7008 ![] bcast_S_S1x7008 main_cst_2
  let main_v11 : IVec S1x7008 1 := cmpf .olt main_v9 main_v10
  let main_c_3 : IVec S_ 1 := constantI S_ 1 1#1
  let main_v12 : IVec S_ 1 := (fun x v => Host.reduce IntOp.andi x v reducesTo_S1x7008_S_d0_1 h_S_) main_v11 main_c_3
  let main_v13 : IVec S_ 1 := andi main_v8 main_v12
  let main_v14 : FVec F S1x2048 .f32 := Host.absf main_arg8
  let main_cst_4 : FVec F S_ .f32 := constant S_ .f32 0x7F800000#32
  let main_v15 : FVec F S1x2048 .f32 := broadcastInDim S1x2048 ![] bcast_S_S1x2048 main_cst_4
  let main_v16 : IVec S1x2048 1 := cmpf .olt main_v14 main_v15
  fn_part1 (F := F) main_v13 main_v16
-- ==== Kernel.lean ====
abbrev S16x256x10080 : Shape := ⟨3, ![16, 256, 10080]⟩
abbrev S4x1024x10080 : Shape := ⟨3, ![4, 1024, 10080]⟩
abbrev S1x128 : Shape := ⟨2, ![1, 128]⟩
abbrev S4096x10080 : Shape := ⟨2, ![4096, 10080]⟩
abbrev S8192x10080 : Shape := ⟨2, ![8192, 10080]⟩
abbrev S8192x6144 : Shape := ⟨2, ![8192, 6144]⟩
abbrev S8192x2048 : Shape := ⟨2, ![8192, 2048]⟩
abbrev S8192x512 : Shape := ⟨2, ![8192, 512]⟩
abbrev S8192x480 : Shape := ⟨2, ![8192, 480]⟩
abbrev S_ : Shape := ⟨0, ![]⟩
abbrev S8192x32 : Shape := ⟨2, ![8192, 32]⟩
abbrev S8192x256 : Shape := ⟨2, ![8192, 256]⟩
abbrev S8192x128 : Shape := ⟨2, ![8192, 128]⟩
abbrev S8192x10240 : Shape := ⟨2, ![8192, 10240]⟩
abbrev S128 : Shape := ⟨1, ![128]⟩
abbrev S4096x512 : Shape := ⟨2, ![4096, 512]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S1024x128 : Shape := ⟨2, ![1024, 128]⟩
abbrev S1024x256 : Shape := ⟨2, ![1024, 256]⟩
abbrev S1024 : Shape := ⟨1, ![1024]⟩
abbrev S1024x1 : Shape := ⟨2, ![1024, 1]⟩

abbrev nBuf : Space → Nat
  | .hbm => 26
  | .vmem => 14
  | .smem => 0
  | _ => 0

abbrev bufTy : (tb : Table) → Fin (tcTables nBuf tb) → BufTy
  | .hbm, ⟨0, _⟩ => ⟨S16x256x10080, .f32⟩
  | .hbm, ⟨1, _⟩ => ⟨S4x1024x10080, .f32⟩
  | .hbm, ⟨2, _⟩ => ⟨S1x128, .f32⟩
  | .hbm, ⟨3, _⟩ => ⟨S1x128, .f32⟩
  | .hbm, ⟨4, _⟩ => ⟨S4096x10080, .f32⟩
  | .hbm, ⟨5, _⟩ => ⟨S4096x10080, .f32⟩
  | .hbm, ⟨6, _⟩ => ⟨S8192x10080, .f32⟩
  | .hbm, ⟨7, _⟩ => ⟨S8192x6144, .f32⟩
  | .hbm, ⟨8, _⟩ => ⟨S8192x2048, .f32⟩
  | .hbm, ⟨9, _⟩ => ⟨S8192x512, .f32⟩
  | .hbm, ⟨10, _⟩ => ⟨S8192x512, .f32⟩
  | .hbm, ⟨11, _⟩ => ⟨S8192x480, .f32⟩
  | .hbm, ⟨12, _⟩ => ⟨S_, .f32⟩
  | .hbm, ⟨13, _⟩ => ⟨S8192x32, .f32⟩
  | .hbm, ⟨14, _⟩ => ⟨S8192x256, .f32⟩
  | .hbm, ⟨15, _⟩ => ⟨S8192x128, .f32⟩
  | .hbm, ⟨16, _⟩ => ⟨S_, .f32⟩
  | .hbm, ⟨17, _⟩ => ⟨S8192x128, .f32⟩
  | .hbm, ⟨18, _⟩ => ⟨S8192x10240, .f32⟩
  | .hbm, ⟨19, _⟩ => ⟨S128, .f32⟩
  | .hbm, ⟨20, _⟩ => ⟨S1x128, .f32⟩
  | .hbm, ⟨21, _⟩ => ⟨S128, .f32⟩
  | .hbm, ⟨22, _⟩ => ⟨S1x128, .f32⟩
  | .hbm, ⟨23, _⟩ => ⟨S8192x2048, .bf16⟩
  | .hbm, ⟨24, _⟩ => ⟨S4096x512, .f32⟩
  | .hbm, ⟨25, _⟩ => ⟨S4096x512, .f32⟩
  | .local _ .vmem, ⟨0, _⟩ => ⟨S256x512, .f32⟩
  | .local _ .vmem, ⟨1, _⟩ => ⟨S256x512, .f32⟩
  | .local _ .vmem, ⟨2, _⟩ => ⟨S256x128, .f32⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S1x128, .f32⟩
  | .local _ .vmem, ⟨7, _⟩ => ⟨S1x128, .f32⟩
  | .local _ .vmem, ⟨8, _⟩ => ⟨S256x512, .bf16⟩
  | .local _ .vmem, ⟨9, _⟩ => ⟨S256x512, .bf16⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S16x256x10080, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17_0 : Ref sig .tc := ⟨.hbm, 23, rfl⟩
abbrev main_v17_1 : Ref sig .tc := ⟨.hbm, 24, rfl⟩
abbrev main_v17_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.addi c64_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c68_i32 : BitVec 32 := 68#32
  let v0 : BitVec 32 := Scalar.addi c68_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S16x256x10080 : Shape := ⟨3, ![16, 256, 10080]⟩
abbrev S4x1024x10080 : Shape := ⟨3, ![4, 1024, 10080]⟩
abbrev S1x128 : Shape := ⟨2, ![1, 128]⟩
abbrev S16x256x2048 : Shape := ⟨3, ![16, 256, 2048]⟩
abbrev S16x256x16x128 : Shape := ⟨4, ![16, 256, 16, 128]⟩
abbrev S128 : Shape := ⟨1, ![128]⟩
abbrev S_ : Shape := ⟨0, ![]⟩
abbrev S16x256x16 : Shape := ⟨3, ![16, 256, 16]⟩
abbrev S16x256x16x1 : Shape := ⟨4, ![16, 256, 16, 1]⟩
abbrev S1x1x1x128 : Shape := ⟨4, ![1, 1, 1, 128]⟩
abbrev S16x256x512 : Shape := ⟨3, ![16, 256, 512]⟩
abbrev S16x256x4x128 : Shape := ⟨4, ![16, 256, 4, 128]⟩
abbrev S16x256x4 : Shape := ⟨3, ![16, 256, 4]⟩
abbrev S16x256x4x1 : Shape := ⟨4, ![16, 256, 4, 1]⟩
abbrev S16x256x4x4x128 : Shape := ⟨5, ![16, 256, 4, 4, 128]⟩
abbrev S16x4x256x256x4 : Shape := ⟨5, ![16, 4, 256, 256, 4]⟩
abbrev S16x4x4x256x256 : Shape := ⟨5, ![16, 4, 4, 256, 256]⟩
abbrev S16x4x4x256 : Shape := ⟨4, ![16, 4, 4, 256]⟩
abbrev S16x4x4x256x1 : Shape := ⟨5, ![16, 4, 4, 256, 1]⟩
abbrev S16x4x128x4x256 : Shape := ⟨5, ![16, 4, 128, 4, 256]⟩
abbrev S4096x2048 : Shape := ⟨2, ![4096, 2048]⟩
abbrev S8192x2048 : Shape := ⟨2, ![8192, 2048]⟩
abbrev S4096x512 : Shape := ⟨2, ![4096, 512]⟩

abbrev nBuf : Space → Nat
  | .hbm => 73
  | .vmem => 0
  | .smem => 0
  | _ => 0

abbrev bufTy : (tb : Table) → Fin (tcTables nBuf tb) → BufTy
  | .hbm, ⟨0, _⟩ => ⟨S16x256x10080, .f32⟩
  | .hbm, ⟨1, _⟩ => ⟨S4x1024x10080, .f32⟩
  | .hbm, ⟨2, _⟩ => ⟨S1x128, .f32⟩
  | .hbm, ⟨3, _⟩ => ⟨S1x128, .f32⟩
  | .hbm, ⟨4, _⟩ => ⟨S16x256x2048, .f32⟩
  | .hbm, ⟨5, _⟩ => ⟨S16x256x16x128, .f32⟩
  | .hbm, ⟨6, _⟩ => ⟨S128, .f32⟩
  | .hbm, ⟨7, _⟩ => ⟨S16x256x16x128, .f32⟩
  | .hbm, ⟨8, _⟩ => ⟨S_, .f32⟩
  | .hbm, ⟨9, _⟩ => ⟨S16x256x16, .f32⟩
  | .hbm, ⟨10, _⟩ => ⟨S16x256x16x1, .f32⟩
  | .hbm, ⟨11, _⟩ => ⟨S_, .f32⟩
  | .hbm, ⟨12, _⟩ => ⟨S16x256x16x1, .f32⟩
  | .hbm, ⟨13, _⟩ => ⟨S16x256x16x1, .f32⟩
  | .hbm, ⟨14, _⟩ => ⟨S_, .f32⟩
  | .hbm, ⟨15, _⟩ => ⟨S16x256x16x1, .f32⟩
  | .hbm, ⟨16, _⟩ => ⟨S16x256x16x1, .f32⟩
  | .hbm, ⟨17, _⟩ => ⟨S16x256x16x1, .f32⟩
  | .hbm, ⟨18, _⟩ => ⟨S16x256x16x128, .f32⟩
  | .hbm, ⟨19, _⟩ => ⟨S16x256x16x128, .f32⟩
  | .hbm, ⟨20, _⟩ => ⟨S1x1x1x128, .f32⟩
  | .hbm, ⟨21, _⟩ => ⟨S16x256x16x128, .f32⟩
  | .hbm, ⟨22, _⟩ => ⟨S16x256x16x128, .f32⟩
  | .hbm, ⟨23, _⟩ => ⟨S16x256x512, .f32⟩
  | .hbm, ⟨24, _⟩ => ⟨S16x256x4x128, .f32⟩
  | .hbm, ⟨25, _⟩ => ⟨S128, .f32⟩
  | .hbm, ⟨26, _⟩ => ⟨S16x256x4x128, .f32⟩
  | .hbm, ⟨27, _⟩ => ⟨S_, .f32⟩
  | .hbm, ⟨28, _⟩ => ⟨S16x256x4, .f32⟩
  | .hbm, ⟨29, _⟩ => ⟨S16x256x4x1, .f32⟩
  | .hbm, ⟨30, _⟩ => ⟨S_, .f32⟩
  | .hbm, ⟨31, _⟩ => ⟨S16x256x4x1, .f32⟩
  | .hbm, ⟨32, _⟩ => ⟨S16x256x4x1, .f32⟩
  | .hbm, ⟨33, _⟩ => ⟨S_, .f32⟩
  | .hbm, ⟨34, _⟩ => ⟨S16x256x4x1, .f32⟩
  | .hbm, ⟨35, _⟩ => ⟨S16x256x4x1, .f32⟩
  | .hbm, ⟨36, _⟩ => ⟨S16x256x4x1, .f32⟩
  | .hbm, ⟨37, _⟩ => ⟨S16x256x4x128, .f32⟩
  | .hbm, ⟨38, _⟩ => ⟨S16x256x4x128, .f32⟩
  | .hbm, ⟨39, _⟩ => ⟨S1x1x1x128, .f32⟩
  | .hbm, ⟨40, _⟩ => ⟨S16x256x4x128, .f32⟩
  | .hbm, ⟨41, _⟩ => ⟨S16x256x4x128, .f32⟩
  | .hbm, ⟨42, _⟩ => ⟨S16x256x512, .f32⟩
  | .hbm, ⟨43, _⟩ => ⟨S16x256x4x128, .f32⟩
  | .hbm, ⟨44, _⟩ => ⟨S16x256x4x4x128, .f32⟩
  | .hbm, ⟨45, _⟩ => ⟨S16x4x256x256x4, .f32⟩
  | .hbm, ⟨46, _⟩ => ⟨S16x4x4x256x256, .f32⟩
  | .hbm, ⟨47, _⟩ => ⟨S_, .f32⟩
  | .hbm, ⟨48, _⟩ => ⟨S16x4x4x256x256, .f32⟩
  | .hbm, ⟨49, _⟩ => ⟨S16x4x4x256x256, .f32⟩
  | .hbm, ⟨50, _⟩ => ⟨S_, .f32⟩
  | .hbm, ⟨51, _⟩ => ⟨S16x4x4x256, .f32⟩
  | .hbm, ⟨52, _⟩ => ⟨S_, .f32⟩
  | .hbm, ⟨53, _⟩ => ⟨S16x4x4x256, .f32⟩
  | .hbm, ⟨54, _⟩ => ⟨S16x4x4x256, .f32⟩
  | .hbm, ⟨55, _⟩ => ⟨S16x4x4x256x1, .f32⟩
  | .hbm, ⟨56, _⟩ => ⟨S16x4x4x256x256, .f32⟩
  | .hbm, ⟨57, _⟩ => ⟨S16x4x4x256x256, .f32⟩
  | .hbm, ⟨58, _⟩ => ⟨S16x4x4x256x256, .f32⟩
  | .hbm, ⟨59, _⟩ => ⟨S_, .f32⟩
  | .hbm, ⟨60, _⟩ => ⟨S16x4x4x256, .f32⟩
  | .hbm, ⟨61, _⟩ => ⟨S16x4x4x256x1, .f32⟩
  | .hbm, ⟨62, _⟩ => ⟨S16x4x4x256x256, .f32⟩
  | .hbm, ⟨63, _⟩ => ⟨S16x4x4x256x256, .f32⟩
  | .hbm, ⟨64, _⟩ => ⟨S16x4x128x4x256, .f32⟩
  | .hbm, ⟨65, _⟩ => ⟨S16x256x4x4x128, .f32⟩
  | .hbm, ⟨66, _⟩ => ⟨S4096x2048, .f32⟩
  | .hbm, ⟨67, _⟩ => ⟨S_, .f32⟩
  | .hbm, ⟨68, _⟩ => ⟨S4096x2048, .f32⟩
  | .hbm, ⟨69, _⟩ => ⟨S8192x2048, .f32⟩
  | .hbm, ⟨70, _⟩ => ⟨S8192x2048, .bf16⟩
  | .hbm, ⟨71, _⟩ => ⟨S4096x512, .f32⟩
  | .hbm, ⟨72, _⟩ => ⟨S4096x512, .f32⟩
  | _, _ => ⟨S16x256x10080, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_5 : Ref sig .tc := ⟨.hbm, 47, rfl⟩
abbrev main_v37 : Ref sig .tc := ⟨.hbm, 48, rfl⟩
abbrev main_v38 : Ref sig .tc := ⟨.hbm, 49, rfl⟩
abbrev main_cst_6 : Ref sig .tc := ⟨.hbm, 50, rfl⟩
abbrev main_v39 : Ref sig .tc := ⟨.hbm, 51, rfl⟩
abbrev main_cst_7 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_8 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_cst_9 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩

abbrev nD : Nat := 1
abbrev τ : Topo := Topo.v7x

variable {F : FTy → Type} [FloatOps F]
-- ==== Kernel2.lean ====
abbrev S16x256x10080 : Shape := ⟨3, ![16, 256, 10080]⟩
abbrev S4x1024x10080 : Shape := ⟨3, ![4, 1024, 10080]⟩
abbrev S4x1x512x4x128 : Shape := ⟨5, ![4, 1, 512, 4, 128]⟩
abbrev S1x128 : Shape := ⟨2, ![1, 128]⟩
abbrev S8192x2048 : Shape := ⟨2, ![8192, 2048]⟩
abbrev S4096x10080 : Shape := ⟨2, ![4096, 10080]⟩
abbrev S8192x10080 : Shape := ⟨2, ![8192, 10080]⟩
abbrev S8192x6144 : Shape := ⟨2, ![8192, 6144]⟩
abbrev S8192x512 : Shape := ⟨2, ![8192, 512]⟩
abbrev S8192x480 : Shape := ⟨2, ![8192, 480]⟩
abbrev S_ : Shape := ⟨0, ![]⟩
abbrev S8192x32 : Shape := ⟨2, ![8192, 32]⟩
abbrev S8192x256 : Shape := ⟨2, ![8192, 256]⟩
abbrev S8192x128 : Shape := ⟨2, ![8192, 128]⟩
abbrev S8192x10240 : Shape := ⟨2, ![8192, 10240]⟩
abbrev S4x512x4x128 : Shape := ⟨4, ![4, 512, 4, 128]⟩
abbrev S2048x512 : Shape := ⟨2, ![2048, 512]⟩
abbrev S128 : Shape := ⟨1, ![128]⟩
abbrev S1024 : Shape := ⟨1, ![1024]⟩
abbrev S32 : Shape := ⟨1, ![32]⟩
abbrev S1024x1 : Shape := ⟨2, ![1024, 1]⟩
abbrev S1x32 : Shape := ⟨2, ![1, 32]⟩
abbrev S1024x32 : Shape := ⟨2, ![1024, 32]⟩
abbrev S1024x128 : Shape := ⟨2, ![1024, 128]⟩
abbrev S1024x512 : Shape := ⟨2, ![1024, 512]⟩
abbrev S512x128 : Shape := ⟨2, ![512, 128]⟩
abbrev S256x128 : Shape := ⟨2, ![256, 128]⟩
abbrev S256 : Shape := ⟨1, ![256]⟩
abbrev S256x1 : Shape := ⟨2, ![256, 1]⟩
abbrev S256x512 : Shape := ⟨2, ![256, 512]⟩
abbrev S256x1024 : Shape := ⟨2, ![256, 1024]⟩

abbrev nBuf : Space → Nat
  | .hbm => 105
  | .vmem => 16
  | .smem => 0
  | _ => 0

abbrev bufTy : (tb : Table) → Fin (tcTables nBuf tb) → BufTy
  | .hbm, ⟨0, _⟩ => ⟨S16x256x10080, .f32⟩
  | .hbm, ⟨1, _⟩ => ⟨S4x1024x10080, .f32⟩
  | .hbm, ⟨2, _⟩ => ⟨S4x1x512x4x128, .f32⟩
  | .hbm, ⟨3, _⟩ => ⟨S4x1x512x4x128, .f32⟩
  | .hbm, ⟨4, _⟩ => ⟨S1x128, .f32⟩
  | .hbm, ⟨5, _⟩ => ⟨S1x128, .f32⟩
  | .hbm, ⟨6, _⟩ => ⟨S8192x2048, .bf16⟩
  | .hbm, ⟨7, _⟩ => ⟨S4096x10080, .f32⟩
  | .hbm, ⟨8, _⟩ => ⟨S4096x10080, .f32⟩
  | .hbm, ⟨9, _⟩ => ⟨S8192x10080, .f32⟩
  | .hbm, ⟨10, _⟩ => ⟨S8192x6144, .f32⟩
  | .hbm, ⟨11, _⟩ => ⟨S8192x2048, .f32⟩
  | .hbm, ⟨12, _⟩ => ⟨S8192x512, .f32⟩
  | .hbm, ⟨13, _⟩ => ⟨S8192x512, .f32⟩
  | .hbm, ⟨14, _⟩ => ⟨S8192x480, .f32⟩
  | .hbm, ⟨15, _⟩ => ⟨S_, .f32⟩
  | .hbm, ⟨16, _⟩ => ⟨S8192x32, .f32⟩
  | .hbm, ⟨17, _⟩ => ⟨S8192x256, .f32⟩
  | .hbm, ⟨18, _⟩ => ⟨S8192x128, .f32⟩
  | .hbm, ⟨19, _⟩ => ⟨S_, .f32⟩
  | .hbm, ⟨20, _⟩ => ⟨S8192x128, .f32⟩
  | .hbm, ⟨21, _⟩ => ⟨S8192x10240, .f32⟩
  | .hbm, ⟨22, _⟩ => ⟨S4x512x4x128, .f32⟩
  | .hbm, ⟨23, _⟩ => ⟨S2048x512, .f32⟩
  | .hbm, ⟨24, _⟩ => ⟨S4x512x4x128, .f32⟩
  | .hbm, ⟨25, _⟩ => ⟨S2048x512, .f32⟩
  | .hbm, ⟨26, _⟩ => ⟨S128, .f32⟩
  | .hbm, ⟨27, _⟩ => ⟨S1x128, .f32⟩
  | .hbm, ⟨28, _⟩ => ⟨S128, .f32⟩
  | .hbm, ⟨29, _⟩ => ⟨S1x128, .f32⟩
  | .hbm, ⟨30, _⟩ => ⟨S1024, .i32⟩
  | .hbm, ⟨31, _⟩ => ⟨S_, .i32⟩
  | .hbm, ⟨32, _⟩ => ⟨S_, .i32⟩
  | .hbm, ⟨33, _⟩ => ⟨S1024, .i32⟩
  | .hbm, ⟨34, _⟩ => ⟨S1024, .i32⟩
  | .hbm, ⟨35, _⟩ => ⟨S1024, .i32⟩
  | .hbm, ⟨36, _⟩ => ⟨S_, .i32⟩
  | .hbm, ⟨37, _⟩ => ⟨S1024, .i32⟩
  | .hbm, ⟨38, _⟩ => ⟨S1024, .i1⟩
  | .hbm, ⟨39, _⟩ => ⟨S1024, .i32⟩
  | .hbm, ⟨40, _⟩ => ⟨S1024, .i32⟩
  | .hbm, ⟨41, _⟩ => ⟨S_, .i32⟩
  | .hbm, ⟨42, _⟩ => ⟨S1024, .i32⟩
  | .hbm, ⟨43, _⟩ => ⟨S1024, .i1⟩
  | .hbm, ⟨44, _⟩ => ⟨S1024, .i1⟩
  | .hbm, ⟨45, _⟩ => ⟨S_, .i32⟩
  | .hbm, ⟨46, _⟩ => ⟨S1024, .i32⟩
  | .hbm, ⟨47, _⟩ => ⟨S1024, .i32⟩
  | .hbm, ⟨48, _⟩ => ⟨S1024, .i32⟩
  | .hbm, ⟨49, _⟩ => ⟨S1024, .f32⟩
  | .hbm, ⟨50, _⟩ => ⟨S1024, .i32⟩
  | .hbm, ⟨51, _⟩ => ⟨S_, .i32⟩
  | .hbm, ⟨52, _⟩ => ⟨S_, .i32⟩
  | .hbm, ⟨53, _⟩ => ⟨S_, .i32⟩
  | .hbm, ⟨54, _⟩ => ⟨S_, .i1⟩
  | .hbm, ⟨55, _⟩ => ⟨S_, .i32⟩
  | .hbm, ⟨56, _⟩ => ⟨S_, .i32⟩
  | .hbm, ⟨57, _⟩ => ⟨S1024, .i32⟩
  | .hbm, ⟨58, _⟩ => ⟨S1024, .i32⟩
  | .hbm, ⟨59, _⟩ => ⟨S_, .i32⟩
  | .hbm, ⟨60, _⟩ => ⟨S1024, .i32⟩
  | .hbm, ⟨61, _⟩ => ⟨S1024, .i1⟩
  | .hbm, ⟨62, _⟩ => ⟨S_, .i32⟩
  | .hbm, ⟨63, _⟩ => ⟨S1024, .i32⟩
  | .hbm, ⟨64, _⟩ => ⟨S1024, .i1⟩
  | .hbm, ⟨65, _⟩ => ⟨S_, .i32⟩
  | .hbm, ⟨66, _⟩ => ⟨S_, .i1⟩
  | .hbm, ⟨67, _⟩ => ⟨S1024, .i1⟩
  | .hbm, ⟨68, _⟩ => ⟨S1024, .i1⟩
  | .hbm, ⟨69, _⟩ => ⟨S1024, .i1⟩
  | .hbm, ⟨70, _⟩ => ⟨S1024, .i32⟩
  | .hbm, ⟨71, _⟩ => ⟨S1024, .i32⟩
  | .hbm, ⟨72, _⟩ => ⟨S1024, .i32⟩
  | .hbm, ⟨73, _⟩ => ⟨S1024, .f32⟩
  | .hbm, ⟨74, _⟩ => ⟨S32, .f32⟩
  | .hbm, ⟨75, _⟩ => ⟨S32, .f32⟩
  | .hbm, ⟨76, _⟩ => ⟨S_, .f32⟩
  | .hbm, ⟨77, _⟩ => ⟨S32, .f32⟩
  | .hbm, ⟨78, _⟩ => ⟨S32, .f32⟩
  | .hbm, ⟨79, _⟩ => ⟨S_, .f32⟩
  | .hbm, ⟨80, _⟩ => ⟨S32, .f32⟩
  | .hbm, ⟨81, _⟩ => ⟨S32, .f32⟩
  | .hbm, ⟨82, _⟩ => ⟨S1024x1, .f32⟩
  | .hbm, ⟨83, _⟩ => ⟨S1x32, .f32⟩
  | .hbm, ⟨84, _⟩ => ⟨S1024x32, .f32⟩
  | .hbm, ⟨85, _⟩ => ⟨S1024x32, .f32⟩
  | .hbm, ⟨86, _⟩ => ⟨S1024x32, .f32⟩
  | .hbm, ⟨87, _⟩ => ⟨S1024x1, .f32⟩
  | .hbm, ⟨88, _⟩ => ⟨S1x32, .f32⟩
  | .hbm, ⟨89, _⟩ => ⟨S1024x32, .f32⟩
  | .hbm, ⟨90, _⟩ => ⟨S1024x32, .f32⟩
  | .hbm, ⟨91, _⟩ => ⟨S1024x32, .f32⟩
  | .hbm, ⟨92, _⟩ => ⟨S1024x32, .f32⟩
  | .hbm, ⟨93, _⟩ => ⟨S1024x32, .f32⟩
  | .hbm, ⟨94, _⟩ => ⟨S1024x32, .f32⟩
  | .hbm, ⟨95, _⟩ => ⟨S1024x32, .f32⟩
  | .hbm, ⟨96, _⟩ => ⟨S1024x128, .f32⟩
  | .hbm, ⟨97, _⟩ => ⟨S1024x32, .f32⟩
  | .hbm, ⟨98, _⟩ => ⟨S1024x32, .f32⟩
  | .hbm, ⟨99, _⟩ => ⟨S1024x32, .f32⟩
  | .hbm, ⟨100, _⟩ => ⟨S1024x32, .f32⟩
  | .hbm, ⟨101, _⟩ => ⟨S1024x32, .f32⟩
  | .hbm, ⟨102, _⟩ => ⟨S1024x32, .f32⟩
  | .hbm, ⟨103, _⟩ => ⟨S1024x128, .f32⟩
  | .hbm, ⟨104, _⟩ => ⟨S8192x2048, .bf16⟩
  | .local _ .vmem, ⟨0, _⟩ => ⟨S1024x512, .f32⟩
  | .local _ .vmem, ⟨1, _⟩ => ⟨S1024x512, .f32⟩
  | .local _ .vmem, ⟨2, _⟩ => ⟨S1024x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S1x128, .f32⟩
  | .local _ .vmem, ⟨11, _⟩ => ⟨S1x128, .f32⟩
  | .local _ .vmem, ⟨12, _⟩ => ⟨S1024x128, .f32⟩
  | .local _ .vmem, ⟨13, _⟩ => ⟨S1024x128, .f32⟩
  | .local _ .vmem, ⟨14, _⟩ => ⟨S1024x512, .bf16⟩
  | .local _ .vmem, ⟨15, _⟩ => ⟨S1024x512, .bf16⟩
  | _, _ => ⟨S16x256x10080, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_v6 : Ref sig .tc := ⟨.hbm, 38, rfl⟩
abbrev main_call0_v7 : Ref sig .tc := ⟨.hbm, 39, rfl⟩
abbrev main_call0_v8 : Ref sig .tc := ⟨.hbm, 40, rfl⟩
abbrev main_call0_c : Ref sig .tc := ⟨.hbm, 41, rfl⟩
abbrev main_call0_v9 : Ref sig .tc := ⟨.hbm, 42, rfl⟩
abbrev main_call0_v10 : Ref sig .tc := ⟨.hbm, 43, rfl⟩
abbrev main_call0_v11 : Ref sig .tc := ⟨.hbm, 44, rfl⟩
abbrev main_call0_c_0 : Ref sig .tc := ⟨.hbm, 45, rfl⟩
abbrev main_call0_v12 : Ref sig .tc := ⟨.hbm, 46, rfl⟩
abbrev main_call0_v13 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_c_1 : Ref sig .tc := ⟨.hbm, 51, rfl⟩
abbrev main_call1_v0 : Ref sig .tc := ⟨.hbm, 52, rfl⟩
abbrev main_call1_c : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_c_1 : Ref sig .tc := ⟨.hbm, 59, rfl⟩
abbrev main_call1_v5 : Ref sig .tc := ⟨.hbm, 60, rfl⟩
abbrev main_call1_v6 : Ref sig .tc := ⟨.hbm, 61, rfl⟩
abbrev main_call1_c_2 : Ref sig .tc := ⟨.hbm, 62, rfl⟩
abbrev main_call1_v7 : Ref sig .tc := ⟨.hbm, 63, rfl⟩
abbrev main_call1_v8 : Ref sig .tc := ⟨.hbm, 64, rfl⟩
abbrev main_call1_c_3 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_v12 : Ref sig .tc := ⟨.hbm, 69, rfl⟩
abbrev main_call1_v13 : Ref sig .tc := ⟨.hbm, 70, rfl⟩
abbrev main_call1_v14 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_cst_2 : Ref sig .tc := ⟨.hbm, 76, rfl⟩
abbrev main_v29 : Ref sig .tc := ⟨.hbm, 77, rfl⟩
abbrev main_v30 : Ref sig .tc := ⟨.hbm, 78, rfl⟩
abbrev main_cst_3 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c12_i32 : BitVec 32 := 12#32
  let v1 : BitVec 32 := Scalar.addi c12_i32 arg1
  let c0_i32 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c64_i32 : BitVec 32 := 64#32
  let v1 : BitVec 32 := Scalar.addi c64_i32 arg1
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c68_i32 : BitVec 32 := 68#32
  let v1 : BitVec 32 := Scalar.addi c68_i32 arg1
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  ![v0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S16x256x10080 : Shape := ⟨3, ![16, 256, 10080]⟩
abbrev S4x1024x10080 : Shape := ⟨3, ![4, 1024, 10080]⟩
abbrev S4x1x512x4x128 : Shape := ⟨5, ![4, 1, 512, 4, 128]⟩
abbrev S1x128 : Shape := ⟨2, ![1, 128]⟩
abbrev S8192x2048 : Shape := ⟨2, ![8192, 2048]⟩
abbrev S4x1024x2048 : Shape := ⟨3, ![4, 1024, 2048]⟩
abbrev S4x1024x16x128 : Shape := ⟨4, ![4, 1024, 16, 128]⟩
abbrev S128 : Shape := ⟨1, ![128]⟩
abbrev S_ : Shape := ⟨0, ![]⟩
abbrev S4x1024x16 : Shape := ⟨3, ![4, 1024, 16]⟩
abbrev S4x1024x16x1 : Shape := ⟨4, ![4, 1024, 16, 1]⟩
abbrev S1x1x1x128 : Shape := ⟨4, ![1, 1, 1, 128]⟩
abbrev S16 : Shape := ⟨1, ![16]⟩
abbrev S16x64 : Shape := ⟨2, ![16, 64]⟩
abbrev S1024 : Shape := ⟨1, ![1024]⟩
abbrev S64 : Shape := ⟨1, ![64]⟩
abbrev S1x64 : Shape := ⟨2, ![1, 64]⟩
abbrev S32 : Shape := ⟨1, ![32]⟩
abbrev S4x1024x16x64 : Shape := ⟨4, ![4, 1024, 16, 64]⟩
abbrev S1024x1 : Shape := ⟨2, ![1024, 1]⟩
abbrev S1x32 : Shape := ⟨2, ![1, 32]⟩
abbrev S1024x32 : Shape := ⟨2, ![1024, 32]⟩
abbrev S1x1024x1x32 : Shape := ⟨4, ![1, 1024, 1, 32]⟩
abbrev S4x1024x16x32 : Shape := ⟨4, ![4, 1024, 16, 32]⟩
abbrev S4x1024x512 : Shape := ⟨3, ![4, 1024, 512]⟩
abbrev S4x1024x4x128 : Shape := ⟨4, ![4, 1024, 4, 128]⟩
abbrev S4x1024x4 : Shape := ⟨3, ![4, 1024, 4]⟩
abbrev S4x1024x4x1 : Shape := ⟨4, ![4, 1024, 4, 1]⟩
abbrev S4x512x4x128 : Shape := ⟨4, ![4, 512, 4, 128]⟩
abbrev S4x1024x4x64 : Shape := ⟨4, ![4, 1024, 4, 64]⟩
abbrev S4x1024x4x32 : Shape := ⟨4, ![4, 1024, 4, 32]⟩
abbrev S4x1536x4x128 : Shape := ⟨4, ![4, 1536, 4, 128]⟩
abbrev S4x1024x4x4x128 : Shape := ⟨5, ![4, 1024, 4, 4, 128]⟩
abbrev S4x4x1536x1024x4 : Shape := ⟨5, ![4, 4, 1536, 1024, 4]⟩
abbrev S4x4x4x1024x1536 : Shape := ⟨5, ![4, 4, 4, 1024, 1536]⟩
abbrev S4x4x4x1024 : Shape := ⟨4, ![4, 4, 4, 1024]⟩
abbrev S4x4x4x1024x1 : Shape := ⟨5, ![4, 4, 4, 1024, 1]⟩
abbrev S4x4x128x4x1024 : Shape := ⟨5, ![4, 4, 128, 4, 1024]⟩
abbrev S4096x2048 : Shape := ⟨2, ![4096, 2048]⟩

abbrev nBuf : Space → Nat
  | .hbm => 201
  | .vmem => 0
  | .smem => 0
  | _ => 0

abbrev hbmTy0_0 (i : Nat) : BufTy := match i % 128 with
  | 0 => ⟨S16x256x10080, .f32⟩
  | 1 => ⟨S4x1024x10080, .f32⟩
  | 2 => ⟨S4x1x512x4x128, .f32⟩
  | 3 => ⟨S4x1x512x4x128, .f32⟩
  | 4 => ⟨S1x128, .f32⟩
  | 5 => ⟨S1x128, .f32⟩
  | 6 => ⟨S8192x2048, .bf16⟩
  | 7 => ⟨S4x1024x2048, .f32⟩
  | 8 => ⟨S4x1024x16x128, .f32⟩
  | 9 => ⟨S128, .f32⟩
  | 10 => ⟨S4x1024x16x128, .f32⟩
  | 11 => ⟨S_, .f32⟩
  | 12 => ⟨S4x1024x16, .f32⟩
  | 13 => ⟨S4x1024x16x1, .f32⟩
  | 14 => ⟨S_, .f32⟩
  | 15 => ⟨S4x1024x16x1, .f32⟩
  | 16 => ⟨S4x1024x16x1, .f32⟩
  | 17 => ⟨S_, .f32⟩
  | 18 => ⟨S4x1024x16x1, .f32⟩
  | 19 => ⟨S4x1024x16x1, .f32⟩
  | 20 => ⟨S4x1024x16x1, .f32⟩
  | 21 => ⟨S4x1024x16x128, .f32⟩
  | 22 => ⟨S4x1024x16x128, .f32⟩
  | 23 => ⟨S1x1x1x128, .f32⟩
  | 24 => ⟨S4x1024x16x128, .f32⟩
  | 25 => ⟨S4x1024x16x128, .f32⟩
  | 26 => ⟨S16, .f32⟩
  | 27 => ⟨S16x64, .f32⟩
  | 28 => ⟨S1024, .f32⟩
  | 29 => ⟨S64, .f32⟩
  | 30 => ⟨S1x64, .f32⟩
  | 31 => ⟨S16x64, .f32⟩
  | 32 => ⟨S1024, .f32⟩
  | 33 => ⟨S32, .f32⟩
  | 34 => ⟨S32, .f32⟩
  | 35 => ⟨S_, .f32⟩
  | 36 => ⟨S32, .f32⟩
  | 37 => ⟨S32, .f32⟩
  | 38 => ⟨S_, .f32⟩
  | 39 => ⟨S32, .f32⟩
  | 40 => ⟨S32, .f32⟩
  | 41 => ⟨S4x1024x16x64, .f32⟩
  | 42 => ⟨S1024x1, .f32⟩
  | 43 => ⟨S1x32, .f32⟩
  | 44 => ⟨S1024x32, .f32⟩
  | 45 => ⟨S1024x32, .f32⟩
  | 46 => ⟨S1024x32, .f32⟩
  | 47 => ⟨S1024x32, .f32⟩
  | 48 => ⟨S1x1024x1x32, .f32⟩
  | 49 => ⟨S1024x32, .f32⟩
  | 50 => ⟨S1x1024x1x32, .f32⟩
  | 51 => ⟨S4x1024x16x32, .f32⟩
  | 52 => ⟨S4x1024x16x32, .f32⟩
  | 53 => ⟨S4x1024x16x32, .f32⟩
  | 54 => ⟨S4x1024x16x32, .f32⟩
  | 55 => ⟨S4x1024x16x32, .f32⟩
  | 56 => ⟨S4x1024x16x32, .f32⟩
  | 57 => ⟨S4x1024x16x32, .f32⟩
  | 58 => ⟨S4x1024x16x32, .f32⟩
  | 59 => ⟨S4x1024x16x32, .f32⟩
  | 60 => ⟨S4x1024x16x32, .f32⟩
  | 61 => ⟨S4x1024x16x32, .f32⟩
  | 62 => ⟨S4x1024x16x32, .f32⟩
  | 63 => ⟨S4x1024x16x64, .f32⟩
  | 64 => ⟨S4x1024x16x64, .f32⟩
  | 65 => ⟨S1024x1, .f32⟩
  | 66 => ⟨S1x32, .f32⟩
  | 67 => ⟨S1024x32, .f32⟩
  | 68 => ⟨S1024x32, .f32⟩
  | 69 => ⟨S1024x32, .f32⟩
  | 70 => ⟨S1024x32, .f32⟩
  | 71 => ⟨S1x1024x1x32, .f32⟩
  | 72 => ⟨S1024x32, .f32⟩
  | 73 => ⟨S1x1024x1x32, .f32⟩
  | 74 => ⟨S4x1024x16x32, .f32⟩
  | 75 => ⟨S4x1024x16x32, .f32⟩
  | 76 => ⟨S4x1024x16x32, .f32⟩
  | 77 => ⟨S4x1024x16x32, .f32⟩
  | 78 => ⟨S4x1024x16x32, .f32⟩
  | 79 => ⟨S4x1024x16x32, .f32⟩
  | 80 => ⟨S4x1024x16x32, .f32⟩
  | 81 => ⟨S4x1024x16x32, .f32⟩
  | 82 => ⟨S4x1024x16x32, .f32⟩
  | 83 => ⟨S4x1024x16x32, .f32⟩
  | 84 => ⟨S4x1024x16x32, .f32⟩
  | 85 => ⟨S4x1024x16x32, .f32⟩
  | 86 => ⟨S4x1024x16x64, .f32⟩
  | 87 => ⟨S4x1024x16x128, .f32⟩
  | 88 => ⟨S4x1024x512, .f32⟩
  | 89 => ⟨S4x1024x4x128, .f32⟩
  | 90 => ⟨S128, .f32⟩
  | 91 => ⟨S4x1024x4x128, .f32⟩
  | 92 => ⟨S_, .f32⟩
  | 93 => ⟨S4x1024x4, .f32⟩
  | 94 => ⟨S4x1024x4x1, .f32⟩
  | 95 => ⟨S_, .f32⟩
  | 96 => ⟨S4x1024x4x1, .f32⟩
  | 97 => ⟨S4x1024x4x1, .f32⟩
  | 98 => ⟨S_, .f32⟩
  | 99 => ⟨S4x1024x4x1, .f32⟩
  | 100 => ⟨S4x1024x4x1, .f32⟩
  | 101 => ⟨S4x1024x4x1, .f32⟩
  | 102 => ⟨S4x1024x4x128, .f32⟩
  | 103 => ⟨S4x1024x4x128, .f32⟩
  | 104 => ⟨S1x1x1x128, .f32⟩
  | 105 => ⟨S4x1024x4x128, .f32⟩
  | 106 => ⟨S4x1024x4x128, .f32⟩
  | 107 => ⟨S4x1024x512, .f32⟩
  | 108 => ⟨S4x1024x4x128, .f32⟩
  | 109 => ⟨S4x512x4x128, .f32⟩
  | 110 => ⟨S16, .f32⟩
  | 111 => ⟨S16x64, .f32⟩
  | 112 => ⟨S1024, .f32⟩
  | 113 => ⟨S64, .f32⟩
  | 114 => ⟨S1x64, .f32⟩
  | 115 => ⟨S16x64, .f32⟩
  | 116 => ⟨S1024, .f32⟩
  | 117 => ⟨S32, .f32⟩
  | 118 => ⟨S32, .f32⟩
  | 119 => ⟨S_, .f32⟩
  | 120 => ⟨S32, .f32⟩
  | 121 => ⟨S32, .f32⟩
  | 122 => ⟨S_, .f32⟩
  | 123 => ⟨S32, .f32⟩
  | 124 => ⟨S32, .f32⟩
  | 125 => ⟨S4x1024x4x64, .f32⟩
  | 126 => ⟨S1024x1, .f32⟩
  | 127 => ⟨S1x32, .f32⟩
  | _ => ⟨S16x256x10080, .f32⟩

abbrev hbmTy0_1 (i : Nat) : BufTy := match i % 128 with
  | 0 => ⟨S1024x32, .f32⟩
  | 1 => ⟨S1024x32, .f32⟩
  | 2 => ⟨S1024x32, .f32⟩
  | 3 => ⟨S1024x32, .f32⟩
  | 4 => ⟨S1x1024x1x32, .f32⟩
  | 5 => ⟨S1024x32, .f32⟩
  | 6 => ⟨S1x1024x1x32, .f32⟩
  | 7 => ⟨S4x1024x4x32, .f32⟩
  | 8 => ⟨S4x1024x4x32, .f32⟩
  | 9 => ⟨S4x1024x4x32, .f32⟩
  | 10 => ⟨S4x1024x4x32, .f32⟩
  | 11 => ⟨S4x1024x4x32, .f32⟩
  | 12 => ⟨S4x1024x4x32, .f32⟩
  | 13 => ⟨S4x1024x4x32, .f32⟩
  | 14 => ⟨S4x1024x4x32, .f32⟩
  | 15 => ⟨S4x1024x4x32, .f32⟩
  | 16 => ⟨S4x1024x4x32, .f32⟩
  | 17 => ⟨S4x1024x4x32, .f32⟩
  | 18 => ⟨S4x1024x4x32, .f32⟩
  | 19 => ⟨S4x1024x4x64, .f32⟩
  | 20 => ⟨S4x1024x4x64, .f32⟩
  | 21 => ⟨S1024x1, .f32⟩
  | 22 => ⟨S1x32, .f32⟩
  | 23 => ⟨S1024x32, .f32⟩
  | 24 => ⟨S1024x32, .f32⟩
  | 25 => ⟨S1024x32, .f32⟩
  | 26 => ⟨S1024x32, .f32⟩
  | 27 => ⟨S1x1024x1x32, .f32⟩
  | 28 => ⟨S1024x32, .f32⟩
  | 29 => ⟨S1x1024x1x32, .f32⟩
  | 30 => ⟨S4x1024x4x32, .f32⟩
  | 31 => ⟨S4x1024x4x32, .f32⟩
  | 32 => ⟨S4x1024x4x32, .f32⟩
  | 33 => ⟨S4x1024x4x32, .f32⟩
  | 34 => ⟨S4x1024x4x32, .f32⟩
  | 35 => ⟨S4x1024x4x32, .f32⟩
  | 36 => ⟨S4x1024x4x32, .f32⟩
  | 37 => ⟨S4x1024x4x32, .f32⟩
  | 38 => ⟨S4x1024x4x32, .f32⟩
  | 39 => ⟨S4x1024x4x32, .f32⟩
  | 40 => ⟨S4x1024x4x32, .f32⟩
  | 41 => ⟨S4x1024x4x32, .f32⟩
  | 42 => ⟨S4x1024x4x64, .f32⟩
  | 43 => ⟨S4x1024x4x128, .f32⟩
  | 44 => ⟨S4x1536x4x128, .f32⟩
  | 45 => ⟨S4x512x4x128, .f32⟩
  | 46 => ⟨S4x1536x4x128, .f32⟩
  | 47 => ⟨S4x1024x4x4x128, .f32⟩
  | 48 => ⟨S4x4x1536x1024x4, .f32⟩
  | 49 => ⟨S4x4x4x1024x1536, .f32⟩
  | 50 => ⟨S_, .f32⟩
  | 51 => ⟨S4x4x4x1024x1536, .f32⟩
  | 52 => ⟨S4x4x4x1024x1536, .f32⟩
  | 53 => ⟨S_, .f32⟩
  | 54 => ⟨S4x4x4x1024, .f32⟩
  | 55 => ⟨S_, .f32⟩
  | 56 => ⟨S4x4x4x1024, .f32⟩
  | 57 => ⟨S4x4x4x1024, .f32⟩
  | 58 => ⟨S4x4x4x1024x1, .f32⟩
  | 59 => ⟨S4x4x4x1024x1536, .f32⟩
  | 60 => ⟨S4x4x4x1024x1536, .f32⟩
  | 61 => ⟨S4x4x4x1024x1536, .f32⟩
  | 62 => ⟨S_, .f32⟩
  | 63 => ⟨S4x4x4x1024, .f32⟩
  | 64 => ⟨S4x4x4x1024x1, .f32⟩
  | 65 => ⟨S4x4x4x1024x1536, .f32⟩
  | 66 => ⟨S4x4x4x1024x1536, .f32⟩
  | 67 => ⟨S4x4x128x4x1024, .f32⟩
  | 68 => ⟨S4x1024x4x4x128, .f32⟩
  | 69 => ⟨S4096x2048, .f32⟩
  | 70 => ⟨S4096x2048, .bf16⟩
  | 71 => ⟨S4096x2048, .bf16⟩
  | 72 => ⟨S8192x2048, .bf16⟩
  | _ => ⟨S16x256x10080, .f32⟩

abbrev hbmTy (i : Nat) : BufTy := match i / 128 with
  | 0 => hbmTy0_0 i
  | 1 => hbmTy0_1 i
  | _ => ⟨S16x256x10080, .f32⟩

abbrev bufTy : (tb : Table) → Fin (tcTables nBuf tb) → BufTy
  | .hbm, ⟨i, _⟩ => hbmTy i
  | _, _ => ⟨S16x256x10080, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_cst_4 : Ref sig .tc := ⟨.hbm, 92, rfl⟩
abbrev main_v80 : Ref sig .tc := ⟨.hbm, 93, rfl⟩
abbrev main_v81 : Ref sig .tc := ⟨.hbm, 94, rfl⟩
abbrev main_cst_5 : Ref sig .tc := ⟨.hbm, 95, rfl⟩
abbrev main_v82 : Ref sig .tc := ⟨.hbm, 96, rfl⟩
abbrev main_v83 : Ref sig .tc := ⟨.hbm, 97, rfl⟩
abbrev main_cst_6 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_v94 : Ref sig .tc := ⟨.hbm, 109, rfl⟩
abbrev main_v95 : Ref sig .tc := ⟨.hbm, 110, rfl⟩
abbrev main_v96 : Ref sig .tc := ⟨.hbm, 111, rfl⟩
abbrev main_v97 : Ref sig .tc := ⟨.hbm, 112, rfl⟩
abbrev main_v98 : Ref sig .tc := ⟨.hbm, 113, rfl⟩
abbrev main_v99 : Ref sig .tc := ⟨.hbm, 114, rfl⟩
abbrev main_v100 : Ref sig .tc := ⟨.hbm, 115, rfl⟩
abbrev main_v101 : Ref sig .tc := ⟨.hbm, 116, rfl⟩
abbrev main_v102 : Ref sig .tc := ⟨.hbm, 117, rfl⟩
abbrev main_v103 : Ref sig .tc := ⟨.hbm, 118, rfl⟩
abbrev main_cst_7 : Ref sig .tc := ⟨.hbm, 119, rfl⟩
abbrev main_v104 : Ref sig .tc := ⟨.hbm, 120, rfl⟩
abbrev main_v105 : Ref sig .tc := ⟨.hbm, 121, rfl⟩
abbrev main_cst_8 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩
abbrev main_v132 : Ref sig .tc := ⟨.hbm, 149, rfl⟩
abbrev main_v133 : Ref sig .tc := ⟨.hbm, 150, rfl⟩
abbrev main_v134 : Ref sig .tc := ⟨.hbm, 151, rfl⟩
abbrev main_v135 : Ref sig .tc := ⟨.hbm, 152, rfl⟩
abbrev main_v136 : Ref sig .tc := ⟨.hbm, 153, rfl⟩
abbrev main_v137 : Ref sig .tc := ⟨.hbm, 154, rfl⟩
abbrev main_v138 : Ref sig .tc := ⟨.hbm, 155, rfl⟩
abbrev main_v139 : Ref sig .tc := ⟨.hbm, 156, rfl⟩
abbrev main_v140 : Ref sig .tc := ⟨.hbm, 157, rfl⟩
abbrev main_v141 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_v148 : Ref sig .tc := ⟨.hbm, 165, rfl⟩
abbrev main_v149 : Ref sig .tc := ⟨.hbm, 166, rfl⟩
abbrev main_v150 : Ref sig .tc := ⟨.hbm, 167, rfl⟩
abbrev main_v151 : Ref sig .tc := ⟨.hbm, 168, rfl⟩
abbrev main_v152 : Ref sig .tc := ⟨.hbm, 169, rfl⟩
abbrev main_v153 : Ref sig .tc := ⟨.hbm, 170, rfl⟩
abbrev main_v154 : Ref sig .tc := ⟨.hbm, 171, rfl⟩
abbrev main_v155 : Ref sig .tc := ⟨.hbm, 172, rfl⟩
abbrev main_v156 : Ref sig .tc := ⟨.hbm, 173, rfl⟩
abbrev main_v157 : Ref sig .tc := ⟨.hbm, 174, rfl⟩
abbrev main_v158 : Ref sig .tc := ⟨.hbm, 175, rfl⟩
abbrev main_v159 : Ref sig .tc := ⟨.hbm, 176, rfl⟩
abbrev main_v160 : Ref sig .tc := ⟨.hbm, 177, rfl⟩
abbrev main_cst_9 : Ref sig .tc := ⟨.hbm, 178, rfl⟩
abbrev main_v161 : Ref sig .tc := ⟨.hbm, 179, rfl⟩
abbrev main_v162 : Ref sig .tc := ⟨.hbm, 180, rfl⟩
abbrev main_cst_10 : Ref sig .tc := ⟨.hbm, 181, rfl⟩
abbrev main_v163 : Ref sig .tc := ⟨.hbm, 182, rfl⟩
abbrev main_cst_11 : Ref sig .tc := ⟨.hbm, 183, rfl⟩
abbrev main_v164 : Ref sig .tc := ⟨.hbm, 184, rfl⟩
abbrev main_v165 : Ref sig .tc := ⟨.hbm, 185, rfl⟩
abbrev main_v166 : Ref sig .tc := ⟨.hbm, 186, rfl⟩
abbrev main_v167 : Ref sig .tc := ⟨.hbm, 187, rfl⟩
abbrev main_v168 : Ref sig .tc := ⟨.hbm, 188, rfl⟩
abbrev main_v169 : Ref sig .tc := ⟨.hbm, 189, rfl⟩
abbrev main_cst_12 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩

abbrev nD : Nat := 1
abbrev τ : Topo := Topo.v7x

variable {F : FTy → Type} [FloatOps F]
-- ==== Kernel3.lean ====
abbrev S16x256x4096 : Shape := ⟨3, ![16, 256, 4096]⟩
abbrev S4x1024x4096 : Shape := ⟨3, ![4, 1024, 4096]⟩
abbrev S2x2x4096x22016 : Shape := ⟨4, ![2, 2, 4096, 22016]⟩
abbrev S2x2x11008x4096 : Shape := ⟨4, ![2, 2, 11008, 4096]⟩
abbrev S4096x4096 : Shape := ⟨2, ![4096, 4096]⟩
abbrev S8192x4096 : Shape := ⟨2, ![8192, 4096]⟩
abbrev S8192x11008 : Shape := ⟨2, ![8192, 11008]⟩
abbrev S11008x4096 : Shape := ⟨2, ![11008, 4096]⟩
abbrev S1024x4096 : Shape := ⟨2, ![1024, 4096]⟩
abbrev S1x1x4096x256 : Shape := ⟨4, ![1, 1, 4096, 256]⟩
abbrev S1x1x32x4096 : Shape := ⟨4, ![1, 1, 32, 4096]⟩
abbrev S1024x256 : Shape := ⟨2, ![1024, 256]⟩
abbrev S32x4096 : Shape := ⟨2, ![32, 4096]⟩
abbrev S4096x256 : Shape := ⟨2, ![4096, 256]⟩

abbrev nBuf : Space → Nat
  | .hbm => 10
  | .vmem => 14
  | .smem => 0
  | _ => 0

abbrev bufTy : (tb : Table) → Fin (tcTables nBuf tb) → BufTy
  | .hbm, ⟨0, _⟩ => ⟨S16x256x4096, .f32⟩
  | .hbm, ⟨1, _⟩ => ⟨S4x1024x4096, .f32⟩
  | .hbm, ⟨2, _⟩ => ⟨S2x2x4096x22016, .f32⟩
  | .hbm, ⟨3, _⟩ => ⟨S2x2x11008x4096, .f32⟩
  | .hbm, ⟨4, _⟩ => ⟨S4096x4096, .f32⟩
  | .hbm, ⟨5, _⟩ => ⟨S4096x4096, .f32⟩
  | .hbm, ⟨6, _⟩ => ⟨S8192x4096, .f32⟩
  | .hbm, ⟨7, _⟩ => ⟨S8192x4096, .bf16⟩
  | .hbm, ⟨8, _⟩ => ⟨S8192x11008, .bf16⟩
  | .hbm, ⟨9, _⟩ => ⟨S11008x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x1x4096x256, .f32⟩
  | .local _ .vmem, ⟨3, _⟩ => ⟨S1x1x4096x256, .f32⟩
  | .local _ .vmem, ⟨4, _⟩ => ⟨S1x1x4096x256, .f32⟩
  | .local _ .vmem, ⟨5, _⟩ => ⟨S1x1x4096x256, .f32⟩
  | .local _ .vmem, ⟨6, _⟩ => ⟨S1x1x32x4096, .f32⟩
  | .local _ .vmem, ⟨7, _⟩ => ⟨S1x1x32x4096, .f32⟩
  | .local _ .vmem, ⟨8, _⟩ => ⟨S1024x256, .bf16⟩
  | .local _ .vmem, ⟨9, _⟩ => ⟨S1024x256, .bf16⟩
  | .local _ .vmem, ⟨10, _⟩ => ⟨S32x4096, .bf16⟩
  | .local _ .vmem, ⟨11, _⟩ => ⟨S32x4096, .bf16⟩
  | .local _ .vmem, ⟨12, _⟩ => ⟨S4096x256, .bf16⟩
  | .local _ .vmem, ⟨13, _⟩ => ⟨S4096x256, .bf16⟩
  | _, _ => ⟨S16x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![43, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  ![c1_i32.toNat, c1_i32_0.toNat, c0_i32.toNat, arg0.toNat]

def cc0_transform_2 (i : grid0.Coords) : Fin 4 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg0
  let c1_i32 : BitVec 32 := 1#32
  let c1_i32_0 : BitVec 32 := 1#32
  let c0_i32 : BitVec 32 := 0#32
  let c0_i32_1 : BitVec 32 := 0#32
  ![c1_i32.toNat, c1_i32_0.toNat, c0_i32.toNat, v0.toNat]

def cc0_transform_3 (i : grid0.Coords) : Fin 4 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c343_i32 : BitVec 32 := 343#32
  let v2 : BitVec 32 := Scalar.minsi v1 c343_i32
  let c1_i32 : BitVec 32 := 1#32
  let c1_i32_0 : BitVec 32 := 1#32
  let c0_i32 : BitVec 32 := 0#32
  let c0_i32_1 : BitVec 32 := 0#32
  ![c1_i32.toNat, c1_i32_0.toNat, v2.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c343_i32 : BitVec 32 := 343#32
  let v2 : BitVec 32 := Scalar.minsi v1 c343_i32
  let c0_i32 : BitVec 32 := 0#32
  let c0_i32_0 : BitVec 32 := 0#32
  ![v2.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x32x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S16x256x4096 : Shape := ⟨3, ![16, 256, 4096]⟩
abbrev S4x1024x4096 : Shape := ⟨3, ![4, 1024, 4096]⟩
abbrev S2x2x4096x22016 : Shape := ⟨4, ![2, 2, 4096, 22016]⟩
abbrev S2x2x11008x4096 : Shape := ⟨4, ![2, 2, 11008, 4096]⟩
abbrev S1x1x4096x22016 : Shape := ⟨4, ![1, 1, 4096, 22016]⟩
abbrev S4096x22016 : Shape := ⟨2, ![4096, 22016]⟩
abbrev S16x256x22016 : Shape := ⟨3, ![16, 256, 22016]⟩
abbrev S16x256x11008 : Shape := ⟨3, ![16, 256, 11008]⟩
abbrev S_ : Shape := ⟨0, ![]⟩
abbrev S4096x11008 : Shape := ⟨2, ![4096, 11008]⟩
abbrev S4x1024x22016 : Shape := ⟨3, ![4, 1024, 22016]⟩
abbrev S4x1024x11008 : Shape := ⟨3, ![4, 1024, 11008]⟩
abbrev S8192x11008 : Shape := ⟨2, ![8192, 11008]⟩
abbrev S1x1x11008x4096 : Shape := ⟨4, ![1, 1, 11008, 4096]⟩
abbrev S11008x4096 : Shape := ⟨2, ![11008, 4096]⟩

abbrev nBuf : Space → Nat
  | .hbm => 41
  | .vmem => 0
  | .smem => 0
  | _ => 0

abbrev bufTy : (tb : Table) → Fin (tcTables nBuf tb) → BufTy
  | .hbm, ⟨0, _⟩ => ⟨S16x256x4096, .f32⟩
  | .hbm, ⟨1, _⟩ => ⟨S4x1024x4096, .f32⟩
  | .hbm, ⟨2, _⟩ => ⟨S2x2x4096x22016, .f32⟩
  | .hbm, ⟨3, _⟩ => ⟨S2x2x11008x4096, .f32⟩
  | .hbm, ⟨4, _⟩ => ⟨S1x1x4096x22016, .f32⟩
  | .hbm, ⟨5, _⟩ => ⟨S4096x22016, .f32⟩
  | .hbm, ⟨6, _⟩ => ⟨S16x256x22016, .f32⟩
  | .hbm, ⟨7, _⟩ => ⟨S16x256x11008, .f32⟩
  | .hbm, ⟨8, _⟩ => ⟨S16x256x11008, .f32⟩
  | .hbm, ⟨9, _⟩ => ⟨S16x256x11008, .f32⟩
  | .hbm, ⟨10, _⟩ => ⟨S16x256x11008, .f32⟩
  | .hbm, ⟨11, _⟩ => ⟨S_, .f32⟩
  | .hbm, ⟨12, _⟩ => ⟨S16x256x11008, .f32⟩
  | .hbm, ⟨13, _⟩ => ⟨S16x256x11008, .f32⟩
  | .hbm, ⟨14, _⟩ => ⟨S_, .f32⟩
  | .hbm, ⟨15, _⟩ => ⟨S16x256x11008, .f32⟩
  | .hbm, ⟨16, _⟩ => ⟨S16x256x11008, .f32⟩
  | .hbm, ⟨17, _⟩ => ⟨S16x256x11008, .f32⟩
  | .hbm, ⟨18, _⟩ => ⟨S16x256x11008, .f32⟩
  | .hbm, ⟨19, _⟩ => ⟨S4096x11008, .f32⟩
  | .hbm, ⟨20, _⟩ => ⟨S1x1x4096x22016, .f32⟩
  | .hbm, ⟨21, _⟩ => ⟨S4096x22016, .f32⟩
  | .hbm, ⟨22, _⟩ => ⟨S4x1024x22016, .f32⟩
  | .hbm, ⟨23, _⟩ => ⟨S4x1024x11008, .f32⟩
  | .hbm, ⟨24, _⟩ => ⟨S4x1024x11008, .f32⟩
  | .hbm, ⟨25, _⟩ => ⟨S4x1024x11008, .f32⟩
  | .hbm, ⟨26, _⟩ => ⟨S4x1024x11008, .f32⟩
  | .hbm, ⟨27, _⟩ => ⟨S_, .f32⟩
  | .hbm, ⟨28, _⟩ => ⟨S4x1024x11008, .f32⟩
  | .hbm, ⟨29, _⟩ => ⟨S4x1024x11008, .f32⟩
  | .hbm, ⟨30, _⟩ => ⟨S_, .f32⟩
  | .hbm, ⟨31, _⟩ => ⟨S4x1024x11008, .f32⟩
  | .hbm, ⟨32, _⟩ => ⟨S4x1024x11008, .f32⟩
  | .hbm, ⟨33, _⟩ => ⟨S4x1024x11008, .f32⟩
  | .hbm, ⟨34, _⟩ => ⟨S4x1024x11008, .f32⟩
  | .hbm, ⟨35, _⟩ => ⟨S4096x11008, .f32⟩
  | .hbm, ⟨36, _⟩ => ⟨S8192x11008, .f32⟩
  | .hbm, ⟨37, _⟩ => ⟨S8192x11008, .bf16⟩
  | .hbm, ⟨38, _⟩ => ⟨S1x1x11008x4096, .f32⟩
  | .hbm, ⟨39, _⟩ => ⟨S11008x4096, .f32⟩
  | .hbm, ⟨40, _⟩ => ⟨S11008x4096, .bf16⟩
  | _, _ => ⟨S16x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_call1_v0 : Ref sig .tc := ⟨.hbm, 25, rfl⟩
abbrev main_call1_v1 : Ref sig .tc := ⟨.hbm, 26, rfl⟩
abbrev main_call1_cst : Ref sig .tc := ⟨.hbm, 27, rfl⟩
abbrev main_call1_v2 : Ref sig .tc := ⟨.hbm, 28, rfl⟩
abbrev main_call1_v3 : Ref sig .tc := ⟨.hbm, 29, rfl⟩
abbrev main_call1_cst_0 : Ref sig .tc := ⟨.hbm, 30, rfl⟩
abbrev main_call1_v4 : Ref sig .tc := ⟨.hbm, 31, rfl⟩
abbrev main_call1_v5 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩

abbrev nD : Nat := 1
abbrev τ : Topo := Topo.v7x

variable {F : FTy → Type} [FloatOps F]
-- ==== Kernel4.lean ====
abbrev S8192x11008 : Shape := ⟨2, ![8192, 11008]⟩
abbrev S2x2x11008x4096 : Shape := ⟨4, ![2, 2, 11008, 4096]⟩
abbrev S8192x4096 : Shape := ⟨2, ![8192, 4096]⟩
abbrev S2x8x36864 : Shape := ⟨3, ![2, 8, 36864]⟩
abbrev S2x8x9x4096 : Shape := ⟨4, ![2, 8, 9, 4096]⟩
abbrev S2x9x8x4096 : Shape := ⟨4, ![2, 9, 8, 4096]⟩
abbrev S2x9x8x1x4096 : Shape := ⟨5, ![2, 9, 8, 1, 4096]⟩
abbrev S1x1x11008x4096 : Shape := ⟨4, ![1, 1, 11008, 4096]⟩
abbrev S11008x4096 : Shape := ⟨2, ![11008, 4096]⟩
abbrev S512x11008 : Shape := ⟨2, ![512, 11008]⟩
abbrev S11008x512 : Shape := ⟨2, ![11008, 512]⟩
abbrev S512x512 : Shape := ⟨2, ![512, 512]⟩
abbrev S1x1x1x1x512 : Shape := ⟨5, ![1, 1, 1, 1, 512]⟩
abbrev S1x512 : Shape := ⟨2, ![1, 512]⟩

abbrev nBuf : Space → Nat
  | .hbm => 12
  | .vmem => 10
  | .smem => 0
  | _ => 0

abbrev bufTy : (tb : Table) → Fin (tcTables nBuf tb) → BufTy
  | .hbm, ⟨0, _⟩ => ⟨S8192x11008, .f32⟩
  | .hbm, ⟨1, _⟩ => ⟨S2x2x11008x4096, .f32⟩
  | .hbm, ⟨2, _⟩ => ⟨S8192x4096, .f32⟩
  | .hbm, ⟨3, _⟩ => ⟨S2x8x36864, .f32⟩
  | .hbm, ⟨4, _⟩ => ⟨S2x8x9x4096, .f32⟩
  | .hbm, ⟨5, _⟩ => ⟨S2x9x8x4096, .f32⟩
  | .hbm, ⟨6, _⟩ => ⟨S2x9x8x1x4096, .f32⟩
  | .hbm, ⟨7, _⟩ => ⟨S8192x11008, .bf16⟩
  | .hbm, ⟨8, _⟩ => ⟨S1x1x11008x4096, .f32⟩
  | .hbm, ⟨9, _⟩ => ⟨S11008x4096, .f32⟩
  | .hbm, ⟨10, _⟩ => ⟨S11008x4096, .bf16⟩
  | .hbm, ⟨11, _⟩ => ⟨S8192x4096, .f32⟩
  | .local _ .vmem, ⟨0, _⟩ => ⟨S512x11008, .bf16⟩
  | .local _ .vmem, ⟨1, _⟩ => ⟨S512x11008, .bf16⟩
  | .local _ .vmem, ⟨2, _⟩ => ⟨S11008x512, .bf16⟩
  | .local _ .vmem, ⟨3, _⟩ => ⟨S11008x512, .bf16⟩
  | .local _ .vmem, ⟨4, _⟩ => ⟨S512x512, .f32⟩
  | .local _ .vmem, ⟨5, _⟩ => ⟨S512x512, .f32⟩
  | .local _ .vmem, ⟨6, _⟩ => ⟨S1x1x1x1x512, .f32⟩
  | .local _ .vmem, ⟨7, _⟩ => ⟨S1x1x1x1x512, .f32⟩
  | .local _ .vmem, ⟨8, _⟩ => ⟨S512x512, .f32⟩
  | .local _ .vmem, ⟨9, _⟩ => ⟨S512x512, .f32⟩
  | _, _ => ⟨S8192x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 5 → Nat :=
  let arg0 : BitVec 32 := BitVec.ofNat 32 (i 0).val
  let arg1 : BitVec 32 := BitVec.ofNat 32 (i 1).val
  let c512_i32 : BitVec 32 := 512#32
  let v0 : BitVec 32 := Scalar.muli arg0 c512_i32
  let c4096_i32 : BitVec 32 := 4096#32
  let v1 : BitVec 1 := Scalar.cmpi .slt v0 c4096_i32
  let c4096_i32_0 : BitVec 32 := 4096#32
  let v2 : BitVec 32 := Scalar.subi v0 c4096_i32_0
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c1_i32_7 : BitVec 32 := 1#32
  let c8_i32 : BitVec 32 := 8#32
  let c0_i32_8 : BitVec 32 := 0#32
  let c0_i32_9 : BitVec 32 := 0#32
  ![c1_i32_7.toNat, c8_i32.toNat, v21.toNat, c0_i32_8.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S8192x11008 : Shape := ⟨2, ![8192, 11008]⟩
abbrev S2x2x11008x4096 : Shape := ⟨4, ![2, 2, 11008, 4096]⟩
abbrev S8192x4096 : Shape := ⟨2, ![8192, 4096]⟩
abbrev S2x8x36864 : Shape := ⟨3, ![2, 8, 36864]⟩
abbrev S1x1x11008x4096 : Shape := ⟨4, ![1, 1, 11008, 4096]⟩
abbrev S11008x4096 : Shape := ⟨2, ![11008, 4096]⟩
abbrev S_ : Shape := ⟨0, ![]⟩
abbrev S1x8x36864 : Shape := ⟨3, ![1, 8, 36864]⟩
abbrev S8x36864 : Shape := ⟨2, ![8, 36864]⟩
abbrev S8x3x3x4096 : Shape := ⟨4, ![8, 3, 3, 4096]⟩
abbrev S8x1x1x4096 : Shape := ⟨4, ![8, 1, 1, 4096]⟩
abbrev S8x4096 : Shape := ⟨2, ![8, 4096]⟩
abbrev S1x4096 : Shape := ⟨2, ![1, 4096]⟩
abbrev S1x1x4096 : Shape := ⟨3, ![1, 1, 4096]⟩
abbrev S1x4096x4096 : Shape := ⟨3, ![1, 4096, 4096]⟩
abbrev S4096x4096 : Shape := ⟨2, ![4096, 4096]⟩
abbrev S4x4096 : Shape := ⟨2, ![4, 4096]⟩
abbrev S4x1x4096 : Shape := ⟨3, ![4, 1, 4096]⟩
abbrev S4x1024x4096 : Shape := ⟨3, ![4, 1024, 4096]⟩

abbrev nBuf : Space → Nat
  | .hbm => 29
  | .vmem => 0
  | .smem => 0
  | _ => 0

abbrev bufTy : (tb : Table) → Fin (tcTables nBuf tb) → BufTy
  | .hbm, ⟨0, _⟩ => ⟨S8192x11008, .f32⟩
  | .hbm, ⟨1, _⟩ => ⟨S2x2x11008x4096, .f32⟩
  | .hbm, ⟨2, _⟩ => ⟨S8192x4096, .f32⟩
  | .hbm, ⟨3, _⟩ => ⟨S2x8x36864, .f32⟩
  | .hbm, ⟨4, _⟩ => ⟨S1x1x11008x4096, .f32⟩
  | .hbm, ⟨5, _⟩ => ⟨S11008x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S1x8x36864, .f32⟩
  | .hbm, ⟨11, _⟩ => ⟨S8x36864, .f32⟩
  | .hbm, ⟨12, _⟩ => ⟨S8x3x3x4096, .f32⟩
  | .hbm, ⟨13, _⟩ => ⟨S8x1x1x4096, .f32⟩
  | .hbm, ⟨14, _⟩ => ⟨S8x4096, .f32⟩
  | .hbm, ⟨15, _⟩ => ⟨S1x4096, .f32⟩
  | .hbm, ⟨16, _⟩ => ⟨S1x1x4096, .f32⟩
  | .hbm, ⟨17, _⟩ => ⟨S1x4096x4096, .f32⟩
  | .hbm, ⟨18, _⟩ => ⟨S4096x4096, .f32⟩
  | .hbm, ⟨19, _⟩ => ⟨S4x4096, .f32⟩
  | .hbm, ⟨20, _⟩ => ⟨S4x1x4096, .f32⟩
  | .hbm, ⟨21, _⟩ => ⟨S4x1024x4096, .f32⟩
  | .hbm, ⟨22, _⟩ => ⟨S4096x4096, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S8192x4096, .f32⟩
  | .hbm, ⟨27, _⟩ => ⟨S8192x4096, .f32⟩
  | .hbm, ⟨28, _⟩ => ⟨S8192x4096, .f32⟩
  | _, _ => ⟨S8192x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Kernel5.lean ====
abbrev S8192x4096 : Shape := ⟨2, ![8192, 4096]⟩
abbrev S2x3x4096 : Shape := ⟨3, ![2, 3, 4096]⟩
abbrev S2x3x1x4096 : Shape := ⟨4, ![2, 3, 1, 4096]⟩
abbrev S4096x4096 : Shape := ⟨2, ![4096, 4096]⟩
abbrev S512x4096 : Shape := ⟨2, ![512, 4096]⟩
abbrev S1x1x1x4096 : Shape := ⟨4, ![1, 1, 1, 4096]⟩
abbrev S512 : Shape := ⟨1, ![512]⟩
abbrev S512x1 : Shape := ⟨2, ![512, 1]⟩
abbrev S1x4096 : Shape := ⟨2, ![1, 4096]⟩

abbrev nBuf : Space → Nat
  | .hbm => 6
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S2x3x4096, .f32⟩
  | .hbm, ⟨2, _⟩ => ⟨S2x3x4096, .f32⟩
  | .hbm, ⟨3, _⟩ => ⟨S2x3x1x4096, .f32⟩
  | .hbm, ⟨4, _⟩ => ⟨S2x3x1x4096, .f32⟩
  | .hbm, ⟨5, _⟩ => ⟨S4096x4096, .f32⟩
  | .local _ .vmem, ⟨0, _⟩ => ⟨S512x4096, .f32⟩
  | .local _ .vmem, ⟨1, _⟩ => ⟨S512x4096, .f32⟩
  | .local _ .vmem, ⟨2, _⟩ => ⟨S1x1x1x4096, .f32⟩
  | .local _ .vmem, ⟨3, _⟩ => ⟨S1x1x1x4096, .f32⟩
  | .local _ .vmem, ⟨4, _⟩ => ⟨S512x4096, .f32⟩
  | .local _ .vmem, ⟨5, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 4 → Nat :=
  let arg0 : BitVec 32 := BitVec.ofNat 32 (i 0).val
  let c1_i32 : BitVec 32 := 1#32
  let c2_i32 : BitVec 32 := 2#32
  let c0_i32 : BitVec 32 := 0#32
  let c0_i32_0 : BitVec 32 := 0#32
  let c0_i32_1 : BitVec 32 := 0#32
  ![c1_i32.toNat, c2_i32.toNat, c0_i32.toNat, c0_i32_0.toNat]

def cc0_transform_2 (i : grid0.Coords) : Fin 4 → Nat :=
  let arg0 : BitVec 32 := BitVec.ofNat 32 (i 0).val
  let c1_i32 : BitVec 32 := 1#32
  let c2_i32 : BitVec 32 := 2#32
  let c0_i32 : BitVec 32 := 0#32
  let c0_i32_0 : BitVec 32 := 0#32
  let c0_i32_1 : BitVec 32 := 0#32
  ![c1_i32.toNat, c2_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S8192x4096 : Shape := ⟨2, ![8192, 4096]⟩
abbrev S2x3x4096 : Shape := ⟨3, ![2, 3, 4096]⟩
abbrev S4096x4096 : Shape := ⟨2, ![4096, 4096]⟩
abbrev S1x1x4096 : Shape := ⟨3, ![1, 1, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 37
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S2x3x4096, .f32⟩
  | .hbm, ⟨2, _⟩ => ⟨S2x3x4096, .f32⟩
  | .hbm, ⟨3, _⟩ => ⟨S4096x4096, .f32⟩
  | .hbm, ⟨4, _⟩ => ⟨S1x1x4096, .f32⟩
  | .hbm, ⟨5, _⟩ => ⟨S4096, .f32⟩
  | .hbm, ⟨6, _⟩ => ⟨S1x1x4096, .f32⟩
  | .hbm, ⟨7, _⟩ => ⟨S4096, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x4096, .f32⟩
  | .hbm, ⟨30, _⟩ => ⟨S4096x4096, .f32⟩
  | .hbm, ⟨31, _⟩ => ⟨S1x4096, .f32⟩
  | .hbm, ⟨32, _⟩ => ⟨S4096x4096, .f32⟩
  | .hbm, ⟨33, _⟩ => ⟨S4096x4096, .f32⟩
  | .hbm, ⟨34, _⟩ => ⟨S1x4096, .f32⟩
  | .hbm, ⟨35, _⟩ => ⟨S4096x4096, .f32⟩
  | .hbm, ⟨36, _⟩ => ⟨S4096x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Kernel6.lean ====
abbrev S8192x4096 : Shape := ⟨2, ![8192, 4096]⟩
abbrev S2x3x4096 : Shape := ⟨3, ![2, 3, 4096]⟩
abbrev S2x3x1x4096 : Shape := ⟨4, ![2, 3, 1, 4096]⟩
abbrev S4096x4096 : Shape := ⟨2, ![4096, 4096]⟩
abbrev S512x4096 : Shape := ⟨2, ![512, 4096]⟩
abbrev S1x1x1x4096 : Shape := ⟨4, ![1, 1, 1, 4096]⟩
abbrev S512 : Shape := ⟨1, ![512]⟩
abbrev S512x1 : Shape := ⟨2, ![512, 1]⟩
abbrev S1x4096 : Shape := ⟨2, ![1, 4096]⟩

abbrev nBuf : Space → Nat
  | .hbm => 6
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S2x3x4096, .f32⟩
  | .hbm, ⟨2, _⟩ => ⟨S2x3x4096, .f32⟩
  | .hbm, ⟨3, _⟩ => ⟨S2x3x1x4096, .f32⟩
  | .hbm, ⟨4, _⟩ => ⟨S2x3x1x4096, .f32⟩
  | .hbm, ⟨5, _⟩ => ⟨S4096x4096, .f32⟩
  | .local _ .vmem, ⟨0, _⟩ => ⟨S512x4096, .f32⟩
  | .local _ .vmem, ⟨1, _⟩ => ⟨S512x4096, .f32⟩
  | .local _ .vmem, ⟨2, _⟩ => ⟨S1x1x1x4096, .f32⟩
  | .local _ .vmem, ⟨3, _⟩ => ⟨S1x1x1x4096, .f32⟩
  | .local _ .vmem, ⟨4, _⟩ => ⟨S512x4096, .f32⟩
  | .local _ .vmem, ⟨5, _⟩ => ⟨S512x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_1 (i : grid0.Coords) : Fin 4 → Nat :=
  let arg0 : BitVec 32 := BitVec.ofNat 32 (i 0).val
  let c1_i32 : BitVec 32 := 1#32
  let c2_i32 : BitVec 32 := 2#32
  let c0_i32 : BitVec 32 := 0#32
  let c0_i32_0 : BitVec 32 := 0#32
  let c0_i32_1 : BitVec 32 := 0#32
  ![c1_i32.toNat, c2_i32.toNat, c0_i32.toNat, c0_i32_0.toNat]

def cc0_transform_2 (i : grid0.Coords) : Fin 4 → Nat :=
  let arg0 : BitVec 32 := BitVec.ofNat 32 (i 0).val
  let c1_i32 : BitVec 32 := 1#32
  let c2_i32 : BitVec 32 := 2#32
  let c0_i32 : BitVec 32 := 0#32
  let c0_i32_0 : BitVec 32 := 0#32
  let c0_i32_1 : BitVec 32 := 0#32
  ![c1_i32.toNat, c2_i32.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S8192x4096 : Shape := ⟨2, ![8192, 4096]⟩
abbrev S2x3x4096 : Shape := ⟨3, ![2, 3, 4096]⟩
abbrev S4096x4096 : Shape := ⟨2, ![4096, 4096]⟩
abbrev S1x1x4096 : Shape := ⟨3, ![1, 1, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 37
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S2x3x4096, .f32⟩
  | .hbm, ⟨2, _⟩ => ⟨S2x3x4096, .f32⟩
  | .hbm, ⟨3, _⟩ => ⟨S4096x4096, .f32⟩
  | .hbm, ⟨4, _⟩ => ⟨S1x1x4096, .f32⟩
  | .hbm, ⟨5, _⟩ => ⟨S4096, .f32⟩
  | .hbm, ⟨6, _⟩ => ⟨S1x1x4096, .f32⟩
  | .hbm, ⟨7, _⟩ => ⟨S4096, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S4096x4096, .f32⟩
  | .hbm, ⟨30, _⟩ => ⟨S4096x4096, .f32⟩
  | .hbm, ⟨31, _⟩ => ⟨S1x4096, .f32⟩
  | .hbm, ⟨32, _⟩ => ⟨S4096x4096, .f32⟩
  | .hbm, ⟨33, _⟩ => ⟨S4096x4096, .f32⟩
  | .hbm, ⟨34, _⟩ => ⟨S1x4096, .f32⟩
  | .hbm, ⟨35, _⟩ => ⟨S4096x4096, .f32⟩
  | .hbm, ⟨36, _⟩ => ⟨S4096x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Kernel7.lean ====
abbrev S16x256x4096 : Shape := ⟨3, ![16, 256, 4096]⟩
abbrev S4x1024x4096 : Shape := ⟨3, ![4, 1024, 4096]⟩
abbrev S1x4096x10080 : Shape := ⟨3, ![1, 4096, 10080]⟩
abbrev S4096x4096 : Shape := ⟨2, ![4096, 4096]⟩
abbrev S8192x4096 : Shape := ⟨2, ![8192, 4096]⟩
abbrev S4096x10080 : Shape := ⟨2, ![4096, 10080]⟩
abbrev S4096x6144 : Shape := ⟨2, ![4096, 6144]⟩
abbrev S4096x2048 : Shape := ⟨2, ![4096, 2048]⟩
abbrev S4096x512 : Shape := ⟨2, ![4096, 512]⟩
abbrev S4096x480 : Shape := ⟨2, ![4096, 480]⟩
abbrev S_ : Shape := ⟨0, ![]⟩
abbrev S4096x32 : Shape := ⟨2, ![4096, 32]⟩
abbrev S4096x256 : Shape := ⟨2, ![4096, 256]⟩
abbrev S4096x128 : Shape := ⟨2, ![4096, 128]⟩
abbrev S4096x10240 : Shape := ⟨2, ![4096, 10240]⟩
abbrev S10240x4096 : Shape := ⟨2, ![10240, 4096]⟩
abbrev S8192x10240 : Shape := ⟨2, ![8192, 10240]⟩
abbrev S1024x4096 : Shape := ⟨2, ![1024, 4096]⟩
abbrev S512x4096 : Shape := ⟨2, ![512, 4096]⟩
abbrev S1024x512 : Shape := ⟨2, ![1024, 512]⟩

abbrev nBuf : Space → Nat
  | .hbm => 23
  | .vmem => 6
  | .smem => 0
  | _ => 0

abbrev bufTy : (tb : Table) → Fin (tcTables nBuf tb) → BufTy
  | .hbm, ⟨0, _⟩ => ⟨S16x256x4096, .f32⟩
  | .hbm, ⟨1, _⟩ => ⟨S4x1024x4096, .f32⟩
  | .hbm, ⟨2, _⟩ => ⟨S1x4096x10080, .f32⟩
  | .hbm, ⟨3, _⟩ => ⟨S4096x4096, .f32⟩
  | .hbm, ⟨4, _⟩ => ⟨S4096x4096, .f32⟩
  | .hbm, ⟨5, _⟩ => ⟨S8192x4096, .f32⟩
  | .hbm, ⟨6, _⟩ => ⟨S8192x4096, .bf16⟩
  | .hbm, ⟨7, _⟩ => ⟨S4096x10080, .f32⟩
  | .hbm, ⟨8, _⟩ => ⟨S4096x6144, .f32⟩
  | .hbm, ⟨9, _⟩ => ⟨S4096x2048, .f32⟩
  | .hbm, ⟨10, _⟩ => ⟨S4096x512, .f32⟩
  | .hbm, ⟨11, _⟩ => ⟨S4096x512, .f32⟩
  | .hbm, ⟨12, _⟩ => ⟨S4096x480, .f32⟩
  | .hbm, ⟨13, _⟩ => ⟨S_, .f32⟩
  | .hbm, ⟨14, _⟩ => ⟨S4096x32, .f32⟩
  | .hbm, ⟨15, _⟩ => ⟨S4096x256, .f32⟩
  | .hbm, ⟨16, _⟩ => ⟨S4096x128, .f32⟩
  | .hbm, ⟨17, _⟩ => ⟨S_, .f32⟩
  | .hbm, ⟨18, _⟩ => ⟨S4096x128, .f32⟩
  | .hbm, ⟨19, _⟩ => ⟨S4096x10240, .f32⟩
  | .hbm, ⟨20, _⟩ => ⟨S10240x4096, .f32⟩
  | .hbm, ⟨21, _⟩ => ⟨S10240x4096, .bf16⟩
  | .hbm, ⟨22, _⟩ => ⟨S8192x10240, .f32⟩
  | .local _ .vmem, ⟨0, _⟩ => ⟨S1024x4096, .bf16⟩
  | .local _ .vmem, ⟨1, _⟩ => ⟨S1024x4096, .bf16⟩
  | .local _ .vmem, ⟨2, _⟩ => ⟨S512x4096, .bf16⟩
  | .local _ .vmem, ⟨3, _⟩ => ⟨S512x4096, .bf16⟩
  | .local _ .vmem, ⟨4, _⟩ => ⟨S1024x512, .f32⟩
  | .local _ .vmem, ⟨5, _⟩ => ⟨S1024x512, .f32⟩
  | _, _ => ⟨S16x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 20], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S16x256x4096 : Shape := ⟨3, ![16, 256, 4096]⟩
abbrev S4x1024x4096 : Shape := ⟨3, ![4, 1024, 4096]⟩
abbrev S1x4096x10080 : Shape := ⟨3, ![1, 4096, 10080]⟩
abbrev S4096x10080 : Shape := ⟨2, ![4096, 10080]⟩
abbrev S16x256x10080 : Shape := ⟨3, ![16, 256, 10080]⟩
abbrev S4096x6144 : Shape := ⟨2, ![4096, 6144]⟩
abbrev S4096x480 : Shape := ⟨2, ![4096, 480]⟩
abbrev S4096x384 : Shape := ⟨2, ![4096, 384]⟩
abbrev S4096x3072 : Shape := ⟨2, ![4096, 3072]⟩
abbrev S_ : Shape := ⟨0, ![]⟩
abbrev S4096x32 : Shape := ⟨2, ![4096, 32]⟩
abbrev S4096x128 : Shape := ⟨2, ![4096, 128]⟩
abbrev S4096x10240 : Shape := ⟨2, ![4096, 10240]⟩
abbrev S4x1024x10080 : Shape := ⟨3, ![4, 1024, 10080]⟩
abbrev S8192x10240 : Shape := ⟨2, ![8192, 10240]⟩

abbrev nBuf : Space → Nat
  | .hbm => 28
  | .vmem => 0
  | .smem => 0
  | _ => 0

abbrev bufTy : (tb : Table) → Fin (tcTables nBuf tb) → BufTy
  | .hbm, ⟨0, _⟩ => ⟨S16x256x4096, .f32⟩
  | .hbm, ⟨1, _⟩ => ⟨S4x1024x4096, .f32⟩
  | .hbm, ⟨2, _⟩ => ⟨S1x4096x10080, .f32⟩
  | .hbm, ⟨3, _⟩ => ⟨S4096x10080, .f32⟩
  | .hbm, ⟨4, _⟩ => ⟨S16x256x10080, .f32⟩
  | .hbm, ⟨5, _⟩ => ⟨S4096x10080, .f32⟩
  | .hbm, ⟨6, _⟩ => ⟨S4096x6144, .f32⟩
  | .hbm, ⟨7, _⟩ => ⟨S4096x480, .f32⟩
  | .hbm, ⟨8, _⟩ => ⟨S4096x384, .f32⟩
  | .hbm, ⟨9, _⟩ => ⟨S4096x3072, .f32⟩
  | .hbm, ⟨10, _⟩ => ⟨S_, .f32⟩
  | .hbm, ⟨11, _⟩ => ⟨S4096x32, .f32⟩
  | .hbm, ⟨12, _⟩ => ⟨S_, .f32⟩
  | .hbm, ⟨13, _⟩ => ⟨S4096x128, .f32⟩
  | .hbm, ⟨14, _⟩ => ⟨S4096x10240, .f32⟩
  | .hbm, ⟨15, _⟩ => ⟨S4096x10080, .f32⟩
  | .hbm, ⟨16, _⟩ => ⟨S4x1024x10080, .f32⟩
  | .hbm, ⟨17, _⟩ => ⟨S4096x10080, .f32⟩
  | .hbm, ⟨18, _⟩ => ⟨S4096x6144, .f32⟩
  | .hbm, ⟨19, _⟩ => ⟨S4096x480, .f32⟩
  | .hbm, ⟨20, _⟩ => ⟨S4096x384, .f32⟩
  | .hbm, ⟨21, _⟩ => ⟨S4096x3072, .f32⟩
  | .hbm, ⟨22, _⟩ => ⟨S_, .f32⟩
  | .hbm, ⟨23, _⟩ => ⟨S4096x32, .f32⟩
  | .hbm, ⟨24, _⟩ => ⟨S_, .f32⟩
  | .hbm, ⟨25, _⟩ => ⟨S4096x128, .f32⟩
  | .hbm, ⟨26, _⟩ => ⟨S4096x10240, .f32⟩
  | .hbm, ⟨27, _⟩ => ⟨S8192x10240, .f32⟩
  | _, _ => ⟨S16x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel8.lean ====
abbrev S16x256x4096 : Shape := ⟨3, ![16, 256, 4096]⟩
abbrev S4x1024x4096 : Shape := ⟨3, ![4, 1024, 4096]⟩
abbrev S1x4096x4096 : Shape := ⟨3, ![1, 4096, 4096]⟩
abbrev S4096x4096 : Shape := ⟨2, ![4096, 4096]⟩
abbrev S8192x4096 : Shape := ⟨2, ![8192, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 10
  | .vmem => 6
  | .smem => 0
  | _ => 0

abbrev bufTy : (tb : Table) → Fin (tcTables nBuf tb) → BufTy
  | .hbm, ⟨0, _⟩ => ⟨S16x256x4096, .f32⟩
  | .hbm, ⟨1, _⟩ => ⟨S4x1024x4096, .f32⟩
  | .hbm, ⟨2, _⟩ => ⟨S1x4096x4096, .f32⟩
  | .hbm, ⟨3, _⟩ => ⟨S4096x4096, .f32⟩
  | .hbm, ⟨4, _⟩ => ⟨S4096x4096, .f32⟩
  | .hbm, ⟨5, _⟩ => ⟨S8192x4096, .f32⟩
  | .hbm, ⟨6, _⟩ => ⟨S8192x4096, .bf16⟩
  | .hbm, ⟨7, _⟩ => ⟨S4096x4096, .f32⟩
  | .hbm, ⟨8, _⟩ => ⟨S4096x4096, .bf16⟩
  | .hbm, ⟨9, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | _, _ => ⟨S16x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S16x256x4096 : Shape := ⟨3, ![16, 256, 4096]⟩
abbrev S4x1024x4096 : Shape := ⟨3, ![4, 1024, 4096]⟩
abbrev S1x4096x4096 : Shape := ⟨3, ![1, 4096, 4096]⟩
abbrev S4096x4096 : Shape := ⟨2, ![4096, 4096]⟩
abbrev S8192x4096 : Shape := ⟨2, ![8192, 4096]⟩

abbrev nBuf : Space → Nat
  | .hbm => 10
  | .vmem => 0
  | .smem => 0
  | _ => 0

abbrev bufTy : (tb : Table) → Fin (tcTables nBuf tb) → BufTy
  | .hbm, ⟨0, _⟩ => ⟨S16x256x4096, .f32⟩
  | .hbm, ⟨1, _⟩ => ⟨S4x1024x4096, .f32⟩
  | .hbm, ⟨2, _⟩ => ⟨S1x4096x4096, .f32⟩
  | .hbm, ⟨3, _⟩ => ⟨S4096x4096, .f32⟩
  | .hbm, ⟨4, _⟩ => ⟨S16x256x4096, .f32⟩
  | .hbm, ⟨5, _⟩ => ⟨S4096x4096, .f32⟩
  | .hbm, ⟨6, _⟩ => ⟨S4096x4096, .f32⟩
  | .hbm, ⟨7, _⟩ => ⟨S4x1024x4096, .f32⟩
  | .hbm, ⟨8, _⟩ => ⟨S4096x4096, .f32⟩
  | .hbm, ⟨9, _⟩ => ⟨S8192x4096, .f32⟩
  | _, _ => ⟨S16x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S8192x4096 : Shape := ⟨2, ![8192, 4096]⟩
abbrev S1x4096x4096 : Shape := ⟨3, ![1, 4096, 4096]⟩
abbrev S2x8x36864 : Shape := ⟨3, ![2, 8, 36864]⟩
abbrev S2x8x9x4096 : Shape := ⟨4, ![2, 8, 9, 4096]⟩
abbrev S2x9x8x4096 : Shape := ⟨4, ![2, 9, 8, 4096]⟩
abbrev S2x9x8x1x4096 : Shape := ⟨5, ![2, 9, 8, 1, 4096]⟩
abbrev S4096x4096 : Shape := ⟨2, ![4096, 4096]⟩
abbrev S1024x4096 : Shape := ⟨2, ![1024, 4096]⟩
abbrev S4096x512 : Shape := ⟨2, ![4096, 512]⟩
abbrev S1024x512 : Shape := ⟨2, ![1024, 512]⟩
abbrev S1x1x1x1x512 : Shape := ⟨5, ![1, 1, 1, 1, 512]⟩
abbrev S1x512 : Shape := ⟨2, ![1, 512]⟩

abbrev nBuf : Space → Nat
  | .hbm => 11
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S1x4096x4096, .f32⟩
  | .hbm, ⟨2, _⟩ => ⟨S8192x4096, .f32⟩
  | .hbm, ⟨3, _⟩ => ⟨S2x8x36864, .f32⟩
  | .hbm, ⟨4, _⟩ => ⟨S2x8x9x4096, .f32⟩
  | .hbm, ⟨5, _⟩ => ⟨S2x9x8x4096, .f32⟩
  | .hbm, ⟨6, _⟩ => ⟨S2x9x8x1x4096, .f32⟩
  | .hbm, ⟨7, _⟩ => ⟨S8192x4096, .bf16⟩
  | .hbm, ⟨8, _⟩ => ⟨S4096x4096, .f32⟩
  | .hbm, ⟨9, _⟩ => ⟨S4096x4096, .bf16⟩
  | .hbm, ⟨10, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1x1x1x1x512, .f32⟩
  | .local _ .vmem, ⟨7, _⟩ => ⟨S1x1x1x1x512, .f32⟩
  | .local _ .vmem, ⟨8, _⟩ => ⟨S1024x512, .f32⟩
  | .local _ .vmem, ⟨9, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 5 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 1 := Scalar.cmpi .slt v0 c4096_i32
  let c4096_i32_0 : BitVec 32 := 4096#32
  let v2 : BitVec 32 := Scalar.subi v0 c4096_i32_0
  let c1024_i32_1 : BitVec 32 := 1024#32
  let v3 : BitVec 32 := Scalar.divsi v2 c1024_i32_1
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c1024_i32_1 c0_i32_3
  let v10 : BitVec 32 := Scalar.extui v9
  let c0_i32_4 : BitVec 32 := 0#32
  let v11 : BitVec 1 := Scalar.cmpi .slt c1024_i32_1 c0_i32_4
  let v12 : BitVec 32 := Scalar.extui v11
  let v13 : BitVec 32 := Scalar.subi v10 v12
  let v14 : BitVec 1 := Scalar.cmpi .ne v8 v13
  let v15 : BitVec 32 := Scalar.remsi v2 c1024_i32_1
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c1_i32_6 : BitVec 32 := 1#32
  let v20 : BitVec 32 := Scalar.addi c1_i32_6 v19
  let c0_i32_7 : BitVec 32 := 0#32
  let v21 : BitVec 32 := Scalar.select v1 c0_i32_7 v20
  let c0_i32_8 : BitVec 32 := 0#32
  let c5_i32 : BitVec 32 := 5#32
  let c0_i32_9 : BitVec 32 := 0#32
  let c0_i32_10 : BitVec 32 := 0#32
  ![c0_i32_8.toNat, c5_i32.toNat, v21.toNat, c0_i32_9.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference9Ideal.lean ====
abbrev S8192x4096 : Shape := ⟨2, ![8192, 4096]⟩
abbrev S1x4096x4096 : Shape := ⟨3, ![1, 4096, 4096]⟩
abbrev S2x8x36864 : Shape := ⟨3, ![2, 8, 36864]⟩
abbrev S4096x4096 : Shape := ⟨2, ![4096, 4096]⟩
abbrev S1x8x36864 : Shape := ⟨3, ![1, 8, 36864]⟩
abbrev S8x36864 : Shape := ⟨2, ![8, 36864]⟩
abbrev S8x3x3x4096 : Shape := ⟨4, ![8, 3, 3, 4096]⟩
abbrev S8x1x1x4096 : Shape := ⟨4, ![8, 1, 1, 4096]⟩
abbrev S8x4096 : Shape := ⟨2, ![8, 4096]⟩
abbrev S1x4096 : Shape := ⟨2, ![1, 4096]⟩
abbrev S1x1x4096 : Shape := ⟨3, ![1, 1, 4096]⟩
abbrev S4x4096 : Shape := ⟨2, ![4, 4096]⟩
abbrev S4x1x4096 : Shape := ⟨3, ![4, 1, 4096]⟩
abbrev S4x1024x4096 : Shape := ⟨3, ![4, 1024, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096x4096, .f32⟩
  | .hbm, ⟨2, _⟩ => ⟨S8192x4096, .f32⟩
  | .hbm, ⟨3, _⟩ => ⟨S2x8x36864, .f32⟩
  | .hbm, ⟨4, _⟩ => ⟨S4096x4096, .f32⟩
  | .hbm, ⟨5, _⟩ => ⟨S8192x4096, .f32⟩
  | .hbm, ⟨6, _⟩ => ⟨S1x8x36864, .f32⟩
  | .hbm, ⟨7, _⟩ => ⟨S8x36864, .f32⟩
  | .hbm, ⟨8, _⟩ => ⟨S8x3x3x4096, .f32⟩
  | .hbm, ⟨9, _⟩ => ⟨S8x1x1x4096, .f32⟩
  | .hbm, ⟨10, _⟩ => ⟨S8x4096, .f32⟩
  | .hbm, ⟨11, _⟩ => ⟨S1x4096, .f32⟩
  | .hbm, ⟨12, _⟩ => ⟨S1x1x4096, .f32⟩
  | .hbm, ⟨13, _⟩ => ⟨S1x4096x4096, .f32⟩
  | .hbm, ⟨14, _⟩ => ⟨S4096x4096, .f32⟩
  | .hbm, ⟨15, _⟩ => ⟨S4x4096, .f32⟩
  | .hbm, ⟨16, _⟩ => ⟨S4x1x4096, .f32⟩
  | .hbm, ⟨17, _⟩ => ⟨S4x1024x4096, .f32⟩
  | .hbm, ⟨18, _⟩ => ⟨S4096x4096, .f32⟩
  | .hbm, ⟨19, _⟩ => ⟨S_, .f32⟩
  | .hbm, ⟨20, _⟩ => ⟨S8192x4096, .f32⟩
  | .hbm, ⟨21, _⟩ => ⟨S8192x4096, .f32⟩
  | .hbm, ⟨22, _⟩ => ⟨S8192x4096, .f32⟩
  | .hbm, ⟨23, _⟩ => ⟨S8192x4096, .f32⟩
  | .hbm, ⟨24, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩

abbrev nD : Nat := 1
abbrev τ : Topo := Topo.v7x

variable {F : FTy → Type} [FloatOps F]
-- ==== Kernel10.lean ====
abbrev S8192x2048 : Shape := ⟨2, ![8192, 2048]⟩
abbrev S1x4096x4096 : Shape := ⟨3, ![1, 4096, 4096]⟩
abbrev S8192x4096 : Shape := ⟨2, ![8192, 4096]⟩
abbrev S2x8x36864 : Shape := ⟨3, ![2, 8, 36864]⟩
abbrev S2x8x9x4096 : Shape := ⟨4, ![2, 8, 9, 4096]⟩
abbrev S2x9x8x4096 : Shape := ⟨4, ![2, 9, 8, 4096]⟩
abbrev S2x9x8x1x4096 : Shape := ⟨5, ![2, 9, 8, 1, 4096]⟩
abbrev S4096x4096 : Shape := ⟨2, ![4096, 4096]⟩
abbrev S1024x2048 : Shape := ⟨2, ![1024, 2048]⟩
abbrev S2048x512 : Shape := ⟨2, ![2048, 512]⟩
abbrev S1024x512 : Shape := ⟨2, ![1024, 512]⟩
abbrev S1x1x1x1x512 : Shape := ⟨5, ![1, 1, 1, 1, 512]⟩
abbrev S1x512 : Shape := ⟨2, ![1, 512]⟩

abbrev nBuf : Space → Nat
  | .hbm => 13
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x4096x4096, .f32⟩
  | .hbm, ⟨3, _⟩ => ⟨S8192x4096, .f32⟩
  | .hbm, ⟨4, _⟩ => ⟨S2x8x36864, .f32⟩
  | .hbm, ⟨5, _⟩ => ⟨S2x8x9x4096, .f32⟩
  | .hbm, ⟨6, _⟩ => ⟨S2x9x8x4096, .f32⟩
  | .hbm, ⟨7, _⟩ => ⟨S2x9x8x1x4096, .f32⟩
  | .hbm, ⟨8, _⟩ => ⟨S8192x2048, .bf16⟩
  | .hbm, ⟨9, _⟩ => ⟨S8192x2048, .bf16⟩
  | .hbm, ⟨10, _⟩ => ⟨S4096x4096, .f32⟩
  | .hbm, ⟨11, _⟩ => ⟨S4096x4096, .bf16⟩
  | .hbm, ⟨12, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S1024x512, .f32⟩
  | .local _ .vmem, ⟨9, _⟩ => ⟨S1024x512, .f32⟩
  | .local _ .vmem, ⟨10, _⟩ => ⟨S1x1x1x1x512, .f32⟩
  | .local _ .vmem, ⟨11, _⟩ => ⟨S1x1x1x1x512, .f32⟩
  | .local _ .vmem, ⟨12, _⟩ => ⟨S1024x512, .f32⟩
  | .local _ .vmem, ⟨13, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 5 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 1 := Scalar.cmpi .slt v0 c4096_i32
  let c4096_i32_0 : BitVec 32 := 4096#32
  let v2 : BitVec 32 := Scalar.subi v0 c4096_i32_0
  let c1024_i32_1 : BitVec 32 := 1024#32
  let v3 : BitVec 32 := Scalar.divsi v2 c1024_i32_1
  let c0_i32 : BitVec 32 := 0#32
  let v4 : BitVec 1 := Scalar.cmpi .sgt v2 c0_i32
  let v5 : BitVec 32 := Scalar.extui v4
  let c0_i32_2 : BitVec 32 := 0#32
  let v6 : BitVec 1 := Scalar.cmpi .slt v2 c0_i32_2
  let v7 : BitVec 32 := Scalar.extui v6
  let v8 : BitVec 32 := Scalar.subi v5 v7
  let c0_i32_3 : BitVec 32 := 0#32
  let v9 : BitVec 1 := Scalar.cmpi .sgt c1024_i32_1 c0_i32_3
  let v10 : BitVec 32 := Scalar.extui v9
  let c0_i32_4 : BitVec 32 := 0#32
  let v11 : BitVec 1 := Scalar.cmpi .slt c1024_i32_1 c0_i32_4
  let v12 : BitVec 32 := Scalar.extui v11
  let v13 : BitVec 32 := Scalar.subi v10 v12
  let v14 : BitVec 1 := Scalar.cmpi .ne v8 v13
  let v15 : BitVec 32 := Scalar.remsi v2 c1024_i32_1
  let c0_i32_5 : BitVec 32 := 0#32
  let v16 : BitVec 1 := Scalar.cmpi .ne v15 c0_i32_5
  let v17 : BitVec 1 := Scalar.andi v14 v16
  let c1_i32 : BitVec 32 := 1#32
  let v18 : BitVec 32 := Scalar.subi v3 c1_i32
  let v19 : BitVec 32 := Scalar.select v17 v18 v3
  let c1_i32_6 : BitVec 32 := 1#32
  let v20 : BitVec 32 := Scalar.addi c1_i32_6 v19
  let c0_i32_7 : BitVec 32 := 0#32
  let v21 : BitVec 32 := Scalar.select v1 c0_i32_7 v20
  let c1_i32_8 : BitVec 32 := 1#32
  let c5_i32 : BitVec 32 := 5#32
  let c0_i32_9 : BitVec 32 := 0#32
  let c0_i32_10 : BitVec 32 := 0#32
  ![c1_i32_8.toNat, c5_i32.toNat, v21.toNat, c0_i32_9.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference10Ideal.lean ====
abbrev S8192x2048 : Shape := ⟨2, ![8192, 2048]⟩
abbrev S1x4096x4096 : Shape := ⟨3, ![1, 4096, 4096]⟩
abbrev S8192x4096 : Shape := ⟨2, ![8192, 4096]⟩
abbrev S2x8x36864 : Shape := ⟨3, ![2, 8, 36864]⟩
abbrev S4096x4096 : Shape := ⟨2, ![4096, 4096]⟩
abbrev S1x8x36864 : Shape := ⟨3, ![1, 8, 36864]⟩
abbrev S8x36864 : Shape := ⟨2, ![8, 36864]⟩
abbrev S8x3x3x4096 : Shape := ⟨4, ![8, 3, 3, 4096]⟩
abbrev S8x1x1x4096 : Shape := ⟨4, ![8, 1, 1, 4096]⟩
abbrev S8x4096 : Shape := ⟨2, ![8, 4096]⟩
abbrev S1x4096 : Shape := ⟨2, ![1, 4096]⟩
abbrev S1x1x4096 : Shape := ⟨3, ![1, 1, 4096]⟩
abbrev S4x4096 : Shape := ⟨2, ![4, 4096]⟩
abbrev S4x1x4096 : Shape := ⟨3, ![4, 1, 4096]⟩
abbrev S4x1024x4096 : Shape := ⟨3, ![4, 1024, 4096]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x4096x4096, .f32⟩
  | .hbm, ⟨3, _⟩ => ⟨S8192x4096, .f32⟩
  | .hbm, ⟨4, _⟩ => ⟨S2x8x36864, .f32⟩
  | .hbm, ⟨5, _⟩ => ⟨S8192x4096, .f32⟩
  | .hbm, ⟨6, _⟩ => ⟨S4096x4096, .f32⟩
  | .hbm, ⟨7, _⟩ => ⟨S8192x4096, .f32⟩
  | .hbm, ⟨8, _⟩ => ⟨S1x8x36864, .f32⟩
  | .hbm, ⟨9, _⟩ => ⟨S8x36864, .f32⟩
  | .hbm, ⟨10, _⟩ => ⟨S8x3x3x4096, .f32⟩
  | .hbm, ⟨11, _⟩ => ⟨S8x1x1x4096, .f32⟩
  | .hbm, ⟨12, _⟩ => ⟨S8x4096, .f32⟩
  | .hbm, ⟨13, _⟩ => ⟨S1x4096, .f32⟩
  | .hbm, ⟨14, _⟩ => ⟨S1x1x4096, .f32⟩
  | .hbm, ⟨15, _⟩ => ⟨S1x4096x4096, .f32⟩
  | .hbm, ⟨16, _⟩ => ⟨S4096x4096, .f32⟩
  | .hbm, ⟨17, _⟩ => ⟨S4x4096, .f32⟩
  | .hbm, ⟨18, _⟩ => ⟨S4x1x4096, .f32⟩
  | .hbm, ⟨19, _⟩ => ⟨S4x1024x4096, .f32⟩
  | .hbm, ⟨20, _⟩ => ⟨S4096x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S8192x4096, .f32⟩
  | .hbm, ⟨25, _⟩ => ⟨S8192x4096, .f32⟩
  | .hbm, ⟨26, _⟩ => ⟨S8192x4096, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]
-- ==== Kernel11.lean ====
abbrev S4096 : Shape := ⟨1, ![4096]⟩
abbrev S4x4096 : Shape := ⟨2, ![4, 4096]⟩
abbrev S2x4096x36864 : Shape := ⟨3, ![2, 4096, 36864]⟩
abbrev S2x36864 : Shape := ⟨2, ![2, 36864]⟩
abbrev S1x4096 : Shape := ⟨2, ![1, 4096]⟩
abbrev S_ : Shape := ⟨0, ![]⟩
abbrev S3x4096 : Shape := ⟨2, ![3, 4096]⟩
abbrev S8x4096 : Shape := ⟨2, ![8, 4096]⟩
abbrev S2x1x36864 : Shape := ⟨3, ![2, 1, 36864]⟩
abbrev S2x8x36864 : Shape := ⟨3, ![2, 8, 36864]⟩
abbrev S1x4096x512 : Shape := ⟨3, ![1, 4096, 512]⟩
abbrev S1x1x512 : Shape := ⟨3, ![1, 1, 512]⟩
abbrev S1x8x512 : Shape := ⟨3, ![1, 8, 512]⟩
abbrev S4096x512 : Shape := ⟨2, ![4096, 512]⟩
abbrev S8x512 : Shape := ⟨2, ![8, 512]⟩
abbrev S1x512 : Shape := ⟨2, ![1, 512]⟩

abbrev nBuf : Space → Nat
  | .hbm => 10
  | .vmem => 7
  | .smem => 0
  | _ => 0

abbrev bufTy : (tb : Table) → Fin (tcTables nBuf tb) → BufTy
  | .hbm, ⟨0, _⟩ => ⟨S4096, .f32⟩
  | .hbm, ⟨1, _⟩ => ⟨S4x4096, .f32⟩
  | .hbm, ⟨2, _⟩ => ⟨S2x4096x36864, .f32⟩
  | .hbm, ⟨3, _⟩ => ⟨S2x36864, .f32⟩
  | .hbm, ⟨4, _⟩ => ⟨S1x4096, .f32⟩
  | .hbm, ⟨5, _⟩ => ⟨S_, .f32⟩
  | .hbm, ⟨6, _⟩ => ⟨S3x4096, .f32⟩
  | .hbm, ⟨7, _⟩ => ⟨S8x4096, .f32⟩
  | .hbm, ⟨8, _⟩ => ⟨S2x1x36864, .f32⟩
  | .hbm, ⟨9, _⟩ => ⟨S2x8x36864, .f32⟩
  | .local _ .vmem, ⟨0, _⟩ => ⟨S8x4096, .f32⟩
  | .local _ .vmem, ⟨1, _⟩ => ⟨S1x4096x512, .f32⟩
  | .local _ .vmem, ⟨2, _⟩ => ⟨S1x4096x512, .f32⟩
  | .local _ .vmem, ⟨3, _⟩ => ⟨S1x1x512, .f32⟩
  | .local _ .vmem, ⟨4, _⟩ => ⟨S1x1x512, .f32⟩
  | .local _ .vmem, ⟨5, _⟩ => ⟨S1x8x512, .f32⟩
  | .local _ .vmem, ⟨6, _⟩ => ⟨S1x8x512, .f32⟩
  | _, _ => ⟨S4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 72], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference11Ideal.lean ====
abbrev S4096 : Shape := ⟨1, ![4096]⟩
abbrev S4x4096 : Shape := ⟨2, ![4, 4096]⟩
abbrev S2x4096x36864 : Shape := ⟨3, ![2, 4096, 36864]⟩
abbrev S2x36864 : Shape := ⟨2, ![2, 36864]⟩
abbrev S1x4096 : Shape := ⟨2, ![1, 4096]⟩
abbrev S_ : Shape := ⟨0, ![]⟩
abbrev S1x4096x36864 : Shape := ⟨3, ![1, 4096, 36864]⟩
abbrev S4096x36864 : Shape := ⟨2, ![4096, 36864]⟩
abbrev S1x36864 : Shape := ⟨2, ![1, 36864]⟩
abbrev S36864 : Shape := ⟨1, ![36864]⟩
abbrev S1x1x36864 : Shape := ⟨3, ![1, 1, 36864]⟩
abbrev S2x1x36864 : Shape := ⟨3, ![2, 1, 36864]⟩
abbrev S4x36864 : Shape := ⟨2, ![4, 36864]⟩
abbrev S1x4x36864 : Shape := ⟨3, ![1, 4, 36864]⟩
abbrev S2x4x36864 : Shape := ⟨3, ![2, 4, 36864]⟩
abbrev S3x4096 : Shape := ⟨2, ![3, 4096]⟩
abbrev S3x36864 : Shape := ⟨2, ![3, 36864]⟩
abbrev S1x3x36864 : Shape := ⟨3, ![1, 3, 36864]⟩
abbrev S2x3x36864 : Shape := ⟨3, ![2, 3, 36864]⟩
abbrev S2x8x36864 : Shape := ⟨3, ![2, 8, 36864]⟩

abbrev nBuf : Space → Nat
  | .hbm => 90
  | .vmem => 0
  | .smem => 0
  | _ => 0

abbrev bufTy : (tb : Table) → Fin (tcTables nBuf tb) → BufTy
  | .hbm, ⟨0, _⟩ => ⟨S4096, .f32⟩
  | .hbm, ⟨1, _⟩ => ⟨S4x4096, .f32⟩
  | .hbm, ⟨2, _⟩ => ⟨S2x4096x36864, .f32⟩
  | .hbm, ⟨3, _⟩ => ⟨S2x36864, .f32⟩
  | .hbm, ⟨4, _⟩ => ⟨S1x4096, .f32⟩
  | .hbm, ⟨5, _⟩ => ⟨S1x4096, .f32⟩
  | .hbm, ⟨6, _⟩ => ⟨S1x4096, .f32⟩
  | .hbm, ⟨7, _⟩ => ⟨S_, .f32⟩
  | .hbm, ⟨8, _⟩ => ⟨S1x4096, .f32⟩
  | .hbm, ⟨9, _⟩ => ⟨S1x4096, .f32⟩
  | .hbm, ⟨10, _⟩ => ⟨S_, .f32⟩
  | .hbm, ⟨11, _⟩ => ⟨S1x4096, .f32⟩
  | .hbm, ⟨12, _⟩ => ⟨S1x4096, .f32⟩
  | .hbm, ⟨13, _⟩ => ⟨S1x4096, .f32⟩
  | .hbm, ⟨14, _⟩ => ⟨S1x4096x36864, .f32⟩
  | .hbm, ⟨15, _⟩ => ⟨S4096x36864, .f32⟩
  | .hbm, ⟨16, _⟩ => ⟨S1x36864, .f32⟩
  | .hbm, ⟨17, _⟩ => ⟨S1x36864, .f32⟩
  | .hbm, ⟨18, _⟩ => ⟨S36864, .f32⟩
  | .hbm, ⟨19, _⟩ => ⟨S1x36864, .f32⟩
  | .hbm, ⟨20, _⟩ => ⟨S1x36864, .f32⟩
  | .hbm, ⟨21, _⟩ => ⟨S1x4096x36864, .f32⟩
  | .hbm, ⟨22, _⟩ => ⟨S4096x36864, .f32⟩
  | .hbm, ⟨23, _⟩ => ⟨S1x36864, .f32⟩
  | .hbm, ⟨24, _⟩ => ⟨S1x36864, .f32⟩
  | .hbm, ⟨25, _⟩ => ⟨S36864, .f32⟩
  | .hbm, ⟨26, _⟩ => ⟨S1x36864, .f32⟩
  | .hbm, ⟨27, _⟩ => ⟨S1x36864, .f32⟩
  | .hbm, ⟨28, _⟩ => ⟨S1x1x36864, .f32⟩
  | .hbm, ⟨29, _⟩ => ⟨S1x1x36864, .f32⟩
  | .hbm, ⟨30, _⟩ => ⟨S2x1x36864, .f32⟩
  | .hbm, ⟨31, _⟩ => ⟨S4x4096, .f32⟩
  | .hbm, ⟨32, _⟩ => ⟨S4x4096, .f32⟩
  | .hbm, ⟨33, _⟩ => ⟨S_, .f32⟩
  | .hbm, ⟨34, _⟩ => ⟨S4x4096, .f32⟩
  | .hbm, ⟨35, _⟩ => ⟨S4x4096, .f32⟩
  | .hbm, ⟨36, _⟩ => ⟨S_, .f32⟩
  | .hbm, ⟨37, _⟩ => ⟨S4x4096, .f32⟩
  | .hbm, ⟨38, _⟩ => ⟨S4x4096, .f32⟩
  | .hbm, ⟨39, _⟩ => ⟨S4x4096, .f32⟩
  | .hbm, ⟨40, _⟩ => ⟨S1x4096x36864, .f32⟩
  | .hbm, ⟨41, _⟩ => ⟨S4096x36864, .f32⟩
  | .hbm, ⟨42, _⟩ => ⟨S4x36864, .f32⟩
  | .hbm, ⟨43, _⟩ => ⟨S1x36864, .f32⟩
  | .hbm, ⟨44, _⟩ => ⟨S36864, .f32⟩
  | .hbm, ⟨45, _⟩ => ⟨S1x36864, .f32⟩
  | .hbm, ⟨46, _⟩ => ⟨S4x36864, .f32⟩
  | .hbm, ⟨47, _⟩ => ⟨S4x36864, .f32⟩
  | .hbm, ⟨48, _⟩ => ⟨S1x4096x36864, .f32⟩
  | .hbm, ⟨49, _⟩ => ⟨S4096x36864, .f32⟩
  | .hbm, ⟨50, _⟩ => ⟨S4x36864, .f32⟩
  | .hbm, ⟨51, _⟩ => ⟨S1x36864, .f32⟩
  | .hbm, ⟨52, _⟩ => ⟨S36864, .f32⟩
  | .hbm, ⟨53, _⟩ => ⟨S1x36864, .f32⟩
  | .hbm, ⟨54, _⟩ => ⟨S4x36864, .f32⟩
  | .hbm, ⟨55, _⟩ => ⟨S4x36864, .f32⟩
  | .hbm, ⟨56, _⟩ => ⟨S1x4x36864, .f32⟩
  | .hbm, ⟨57, _⟩ => ⟨S1x4x36864, .f32⟩
  | .hbm, ⟨58, _⟩ => ⟨S2x4x36864, .f32⟩
  | .hbm, ⟨59, _⟩ => ⟨S_, .f32⟩
  | .hbm, ⟨60, _⟩ => ⟨S3x4096, .f32⟩
  | .hbm, ⟨61, _⟩ => ⟨S3x4096, .f32⟩
  | .hbm, ⟨62, _⟩ => ⟨S3x4096, .f32⟩
  | .hbm, ⟨63, _⟩ => ⟨S_, .f32⟩
  | .hbm, ⟨64, _⟩ => ⟨S3x4096, .f32⟩
  | .hbm, ⟨65, _⟩ => ⟨S3x4096, .f32⟩
  | .hbm, ⟨66, _⟩ => ⟨S_, .f32⟩
  | .hbm, ⟨67, _⟩ => ⟨S3x4096, .f32⟩
  | .hbm, ⟨68, _⟩ => ⟨S3x4096, .f32⟩
  | .hbm, ⟨69, _⟩ => ⟨S3x4096, .f32⟩
  | .hbm, ⟨70, _⟩ => ⟨S1x4096x36864, .f32⟩
  | .hbm, ⟨71, _⟩ => ⟨S4096x36864, .f32⟩
  | .hbm, ⟨72, _⟩ => ⟨S3x36864, .f32⟩
  | .hbm, ⟨73, _⟩ => ⟨S1x36864, .f32⟩
  | .hbm, ⟨74, _⟩ => ⟨S36864, .f32⟩
  | .hbm, ⟨75, _⟩ => ⟨S1x36864, .f32⟩
  | .hbm, ⟨76, _⟩ => ⟨S3x36864, .f32⟩
  | .hbm, ⟨77, _⟩ => ⟨S3x36864, .f32⟩
  | .hbm, ⟨78, _⟩ => ⟨S1x4096x36864, .f32⟩
  | .hbm, ⟨79, _⟩ => ⟨S4096x36864, .f32⟩
  | .hbm, ⟨80, _⟩ => ⟨S3x36864, .f32⟩
  | .hbm, ⟨81, _⟩ => ⟨S1x36864, .f32⟩
  | .hbm, ⟨82, _⟩ => ⟨S36864, .f32⟩
  | .hbm, ⟨83, _⟩ => ⟨S1x36864, .f32⟩
  | .hbm, ⟨84, _⟩ => ⟨S3x36864, .f32⟩
  | .hbm, ⟨85, _⟩ => ⟨S3x36864, .f32⟩
  | .hbm, ⟨86, _⟩ => ⟨S1x3x36864, .f32⟩
  | .hbm, ⟨87, _⟩ => ⟨S1x3x36864, .f32⟩
  | .hbm, ⟨88, _⟩ => ⟨S2x3x36864, .f32⟩
  | .hbm, ⟨89, _⟩ => ⟨S2x8x36864, .f32⟩
  | _, _ => ⟨S4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call1_v0 : Ref sig .tc := ⟨.hbm, 31, rfl⟩
abbrev main_call1_v1 : Ref sig .tc := ⟨.hbm, 32, rfl⟩
abbrev main_call1_cst : Ref sig .tc := ⟨.hbm, 33, rfl⟩
abbrev main_call1_v2 : Ref sig .tc := ⟨.hbm, 34, rfl⟩
abbrev main_call1_v3 : Ref sig .tc := ⟨.hbm, 35, rfl⟩
abbrev main_call1_cst_0 : Ref sig .tc := ⟨.hbm, 36, rfl⟩
abbrev main_call1_v4 : Ref sig .tc := ⟨.hbm, 37, rfl⟩
abbrev main_call1_v5 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst : Ref sig .tc := ⟨.hbm, 59, rfl⟩
abbrev main_v39 : Ref sig .tc := ⟨.hbm, 60, rfl⟩
abbrev main_call2_v0 : Ref sig .tc := ⟨.hbm, 61, rfl⟩
abbrev main_call2_v1 : Ref sig .tc := ⟨.hbm, 62, rfl⟩
abbrev main_call2_cst : Ref sig .tc := ⟨.hbm, 63, rfl⟩
abbrev main_call2_v2 : Ref sig .tc := ⟨.hbm, 64, rfl⟩
abbrev main_call2_v3 : Ref sig .tc := ⟨.hbm, 65, rfl⟩
abbrev main_call2_cst_0 : Ref sig .tc := ⟨.hbm, 66, rfl⟩
abbrev main_call2_v4 : Ref sig .tc := ⟨.hbm, 67, rfl⟩
abbrev main_call2_v5 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩

abbrev nD : Nat := 1
abbrev τ : Topo := Topo.v7x

variable {F : FTy → Type} [FloatOps F]
-- ==== Kernel12.lean ====
abbrev S16x256x4096 : Shape := ⟨3, ![16, 256, 4096]⟩
abbrev S4x1024x4096 : Shape := ⟨3, ![4, 1024, 4096]⟩
abbrev S2x8x36864 : Shape := ⟨3, ![2, 8, 36864]⟩
abbrev S2x8x9x4096 : Shape := ⟨4, ![2, 8, 9, 4096]⟩
abbrev S2x9x8x4096 : Shape := ⟨4, ![2, 9, 8, 4096]⟩
abbrev S2x9x8x1x4096 : Shape := ⟨5, ![2, 9, 8, 1, 4096]⟩
abbrev S4096x4096 : Shape := ⟨2, ![4096, 4096]⟩
abbrev S8192x4096 : Shape := ⟨2, ![8192, 4096]⟩
abbrev S256x4096 : Shape := ⟨2, ![256, 4096]⟩
abbrev S1x1x1x1x4096 : Shape := ⟨5, ![1, 1, 1, 1, 4096]⟩
abbrev S1x4096 : Shape := ⟨2, ![1, 4096]⟩

abbrev nBuf : Space → Nat
  | .hbm => 9
  | .vmem => 10
  | .smem => 0
  | _ => 0

abbrev bufTy : (tb : Table) → Fin (tcTables nBuf tb) → BufTy
  | .hbm, ⟨0, _⟩ => ⟨S16x256x4096, .f32⟩
  | .hbm, ⟨1, _⟩ => ⟨S4x1024x4096, .f32⟩
  | .hbm, ⟨2, _⟩ => ⟨S2x8x36864, .f32⟩
  | .hbm, ⟨3, _⟩ => ⟨S2x8x9x4096, .f32⟩
  | .hbm, ⟨4, _⟩ => ⟨S2x9x8x4096, .f32⟩
  | .hbm, ⟨5, _⟩ => ⟨S2x9x8x1x4096, .f32⟩
  | .hbm, ⟨6, _⟩ => ⟨S4096x4096, .f32⟩
  | .hbm, ⟨7, _⟩ => ⟨S4096x4096, .f32⟩
  | .hbm, ⟨8, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x1x1x1x4096, .f32⟩
  | .local _ .vmem, ⟨5, _⟩ => ⟨S1x1x1x1x4096, .f32⟩
  | .local _ .vmem, ⟨6, _⟩ => ⟨S1x1x1x1x4096, .f32⟩
  | .local _ .vmem, ⟨7, _⟩ => ⟨S1x1x1x1x4096, .f32⟩
  | .local _ .vmem, ⟨8, _⟩ => ⟨S256x4096, .bf16⟩
  | .local _ .vmem, ⟨9, _⟩ => ⟨S256x4096, .bf16⟩
  | _, _ => ⟨S16x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 5 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 1 := Scalar.cmpi .slt v0 c4096_i32
  let c4096_i32_0 : BitVec 32 := 4096#32
  let v2 : BitVec 32 := Scalar.subi v0 c4096_i32_0
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c0_i32_8 : BitVec 32 := 0#32
  let c0_i32_9 : BitVec 32 := 0#32
  let c0_i32_10 : BitVec 32 := 0#32
  let c0_i32_11 : BitVec 32 := 0#32
  ![c0_i32_7.toNat, c0_i32_8.toNat, v21.toNat, c0_i32_9.toNat, c0_i32_10.toNat]

def cc0_transform_3 (i : grid0.Coords) : Fin 5 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 1 := Scalar.cmpi .slt v0 c4096_i32
  let c4096_i32_0 : BitVec 32 := 4096#32
  let v2 : BitVec 32 := Scalar.subi v0 c4096_i32_0
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c0_i32_7 : BitVec 32 := 0#32
  let c1_i32_8 : BitVec 32 := 1#32
  let c0_i32_9 : BitVec 32 := 0#32
  let c0_i32_10 : BitVec 32 := 0#32
  let c0_i32_11 : BitVec 32 := 0#32
  ![c0_i32_7.toNat, c1_i32_8.toNat, v21.toNat, c0_i32_9.toNat, c0_i32_10.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference12Ideal.lean ====
abbrev S16x256x4096 : Shape := ⟨3, ![16, 256, 4096]⟩
abbrev S4x1024x4096 : Shape := ⟨3, ![4, 1024, 4096]⟩
abbrev S2x8x36864 : Shape := ⟨3, ![2, 8, 36864]⟩
abbrev S1x8x36864 : Shape := ⟨3, ![1, 8, 36864]⟩
abbrev S8x36864 : Shape := ⟨2, ![8, 36864]⟩
abbrev S8x3x3x4096 : Shape := ⟨4, ![8, 3, 3, 4096]⟩
abbrev S8x1x1x4096 : Shape := ⟨4, ![8, 1, 1, 4096]⟩
abbrev S8x4096 : Shape := ⟨2, ![8, 4096]⟩
abbrev S1x4096 : Shape := ⟨2, ![1, 4096]⟩
abbrev S1x1x4096 : Shape := ⟨3, ![1, 1, 4096]⟩
abbrev S_ : Shape := ⟨0, ![]⟩
abbrev S4x4096 : Shape := ⟨2, ![4, 4096]⟩
abbrev S4x1x4096 : Shape := ⟨3, ![4, 1, 4096]⟩
abbrev S4096x4096 : Shape := ⟨2, ![4096, 4096]⟩
abbrev S8192x4096 : Shape := ⟨2, ![8192, 4096]⟩

abbrev nBuf : Space → Nat
  | .hbm => 36
  | .vmem => 0
  | .smem => 0
  | _ => 0

abbrev bufTy : (tb : Table) → Fin (tcTables nBuf tb) → BufTy
  | .hbm, ⟨0, _⟩ => ⟨S16x256x4096, .f32⟩
  | .hbm, ⟨1, _⟩ => ⟨S4x1024x4096, .f32⟩
  | .hbm, ⟨2, _⟩ => ⟨S2x8x36864, .f32⟩
  | .hbm, ⟨3, _⟩ => ⟨S1x8x36864, .f32⟩
  | .hbm, ⟨4, _⟩ => ⟨S8x36864, .f32⟩
  | .hbm, ⟨5, _⟩ => ⟨S8x3x3x4096, .f32⟩
  | .hbm, ⟨6, _⟩ => ⟨S8x1x1x4096, .f32⟩
  | .hbm, ⟨7, _⟩ => ⟨S8x4096, .f32⟩
  | .hbm, ⟨8, _⟩ => ⟨S8x1x1x4096, .f32⟩
  | .hbm, ⟨9, _⟩ => ⟨S8x4096, .f32⟩
  | .hbm, ⟨10, _⟩ => ⟨S1x4096, .f32⟩
  | .hbm, ⟨11, _⟩ => ⟨S1x1x4096, .f32⟩
  | .hbm, ⟨12, _⟩ => ⟨S1x4096, .f32⟩
  | .hbm, ⟨13, _⟩ => ⟨S1x1x4096, .f32⟩
  | .hbm, ⟨14, _⟩ => ⟨S_, .f32⟩
  | .hbm, ⟨15, _⟩ => ⟨S1x1x4096, .f32⟩
  | .hbm, ⟨16, _⟩ => ⟨S1x1x4096, .f32⟩
  | .hbm, ⟨17, _⟩ => ⟨S16x256x4096, .f32⟩
  | .hbm, ⟨18, _⟩ => ⟨S16x256x4096, .f32⟩
  | .hbm, ⟨19, _⟩ => ⟨S16x256x4096, .f32⟩
  | .hbm, ⟨20, _⟩ => ⟨S16x256x4096, .f32⟩
  | .hbm, ⟨21, _⟩ => ⟨S4x4096, .f32⟩
  | .hbm, ⟨22, _⟩ => ⟨S4x1x4096, .f32⟩
  | .hbm, ⟨23, _⟩ => ⟨S4x4096, .f32⟩
  | .hbm, ⟨24, _⟩ => ⟨S4x1x4096, .f32⟩
  | .hbm, ⟨25, _⟩ => ⟨S_, .f32⟩
  | .hbm, ⟨26, _⟩ => ⟨S4x1x4096, .f32⟩
  | .hbm, ⟨27, _⟩ => ⟨S4x1x4096, .f32⟩
  | .hbm, ⟨28, _⟩ => ⟨S4x1024x4096, .f32⟩
  | .hbm, ⟨29, _⟩ => ⟨S4x1024x4096, .f32⟩
  | .hbm, ⟨30, _⟩ => ⟨S4x1024x4096, .f32⟩
  | .hbm, ⟨31, _⟩ => ⟨S4x1024x4096, .f32⟩
  | .hbm, ⟨32, _⟩ => ⟨S4096x4096, .f32⟩
  | .hbm, ⟨33, _⟩ => ⟨S4096x4096, .f32⟩
  | .hbm, ⟨34, _⟩ => ⟨S8192x4096, .f32⟩
  | .hbm, ⟨35, _⟩ => ⟨S8192x4096, .bf16⟩
  | _, _ => ⟨S16x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_cst_0 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩

abbrev nD : Nat := 1
abbrev τ : Topo := Topo.v7x

variable {F : FTy → Type} [FloatOps F]
-- ==== Kernel13.lean ====
abbrev S8192x4096 : Shape := ⟨2, ![8192, 4096]⟩
abbrev S2x8x36864 : Shape := ⟨3, ![2, 8, 36864]⟩
abbrev S2x3x4096 : Shape := ⟨3, ![2, 3, 4096]⟩
abbrev S2x8x9x4096 : Shape := ⟨4, ![2, 8, 9, 4096]⟩
abbrev S2x9x8x4096 : Shape := ⟨4, ![2, 9, 8, 4096]⟩
abbrev S2x9x8x1x4096 : Shape := ⟨5, ![2, 9, 8, 1, 4096]⟩
abbrev S2x3x1x4096 : Shape := ⟨4, ![2, 3, 1, 4096]⟩
abbrev S512x4096 : Shape := ⟨2, ![512, 4096]⟩
abbrev S1x1x1x4096 : Shape := ⟨4, ![1, 1, 1, 4096]⟩
abbrev S1x1x1x1x4096 : Shape := ⟨5, ![1, 1, 1, 1, 4096]⟩
abbrev S512 : Shape := ⟨1, ![512]⟩
abbrev S512x1 : Shape := ⟨2, ![512, 1]⟩
abbrev S1x4096 : Shape := ⟨2, ![1, 4096]⟩

abbrev nBuf : Space → Nat
  | .hbm => 11
  | .vmem => 12
  | .smem => 0
  | _ => 0

abbrev bufTy : (tb : Table) → Fin (tcTables nBuf tb) → BufTy
  | .hbm, ⟨0, _⟩ => ⟨S8192x4096, .f32⟩
  | .hbm, ⟨1, _⟩ => ⟨S2x8x36864, .f32⟩
  | .hbm, ⟨2, _⟩ => ⟨S2x3x4096, .f32⟩
  | .hbm, ⟨3, _⟩ => ⟨S2x3x4096, .f32⟩
  | .hbm, ⟨4, _⟩ => ⟨S2x8x9x4096, .f32⟩
  | .hbm, ⟨5, _⟩ => ⟨S2x9x8x4096, .f32⟩
  | .hbm, ⟨6, _⟩ => ⟨S2x9x8x1x4096, .f32⟩
  | .hbm, ⟨7, _⟩ => ⟨S2x3x1x4096, .f32⟩
  | .hbm, ⟨8, _⟩ => ⟨S2x3x1x4096, .f32⟩
  | .hbm, ⟨9, _⟩ => ⟨S8192x4096, .f32⟩
  | .hbm, ⟨10, _⟩ => ⟨S8192x4096, .bf16⟩
  | .local _ .vmem, ⟨0, _⟩ => ⟨S512x4096, .f32⟩
  | .local _ .vmem, ⟨1, _⟩ => ⟨S512x4096, .f32⟩
  | .local _ .vmem, ⟨2, _⟩ => ⟨S1x1x1x4096, .f32⟩
  | .local _ .vmem, ⟨3, _⟩ => ⟨S1x1x1x4096, .f32⟩
  | .local _ .vmem, ⟨4, _⟩ => ⟨S1x1x1x1x4096, .f32⟩
  | .local _ .vmem, ⟨5, _⟩ => ⟨S1x1x1x1x4096, .f32⟩
  | .local _ .vmem, ⟨6, _⟩ => ⟨S1x1x1x1x4096, .f32⟩
  | .local _ .vmem, ⟨7, _⟩ => ⟨S1x1x1x1x4096, .f32⟩
  | .local _ .vmem, ⟨8, _⟩ => ⟨S512x4096, .f32⟩
  | .local _ .vmem, ⟨9, _⟩ => ⟨S512x4096, .f32⟩
  | .local _ .vmem, ⟨10, _⟩ => ⟨S512x4096, .bf16⟩
  | .local _ .vmem, ⟨11, _⟩ => ⟨S512x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_2 (i : grid0.Coords) : Fin 4 → Nat :=
  let arg0 : BitVec 32 := BitVec.ofNat 32 (i 0).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_3 (i : grid0.Coords) : Fin 5 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 1 := Scalar.cmpi .slt v0 c4096_i32
  let c4096_i32_0 : BitVec 32 := 4096#32
  let v2 : BitVec 32 := Scalar.subi v0 c4096_i32_0
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c1_i32_7 : BitVec 32 := 1#32
  let c6_i32 : BitVec 32 := 6#32
  let c0_i32_8 : BitVec 32 := 0#32
  let c0_i32_9 : BitVec 32 := 0#32
  let c0_i32_10 : BitVec 32 := 0#32
  ![c1_i32_7.toNat, c6_i32.toNat, v21.toNat, c0_i32_8.toNat, c0_i32_9.toNat]

def cc0_transform_4 (i : grid0.Coords) : Fin 5 → Nat :=
  let arg0 : BitVec 32 := BitVec.ofNat 32 (i 0).val
  let c512_i32 : BitVec 32 := 512#32
  let v0 : BitVec 32 := Scalar.muli arg0 c512_i32
  let c4096_i32 : BitVec 32 := 4096#32
  let v1 : BitVec 1 := Scalar.cmpi .slt v0 c4096_i32
  let c4096_i32_0 : BitVec 32 := 4096#32
  let v2 : BitVec 32 := Scalar.subi v0 c4096_i32_0
  let c1024_i32 : BitVec 32 := 1024#32
  let v3 : BitVec 32 := Scalar.divsi v2 c1024_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let c1_i32 : BitVec 32 := 1#32
  let v18 : BitVec 32 := Scalar.subi v3 c1_i32
  let v19 : BitVec 32 := Scalar.select v17 v18 v3
  let c1_i32_5 : BitVec 32 := 1#32
  let v20 : BitVec 32 := Scalar.addi c1_i32_5 v19
  let c0_i32_6 : BitVec 32 := 0#32
  let v21 : BitVec 32 := Scalar.select v1 c0_i32_6 v20
  let c1_i32_7 : BitVec 32 := 1#32
  let c7_i32 : BitVec 32 := 7#32
  let c0_i32_8 : BitVec 32 := 0#32
  let c0_i32_9 : BitVec 32 := 0#32
  let c0_i32_10 : BitVec 32 := 0#32
  ![c1_i32_7.toNat, c7_i32.toNat, v21.toNat, c0_i32_8.toNat, c0_i32_9.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference13Ideal.lean ====
abbrev S8192x4096 : Shape := ⟨2, ![8192, 4096]⟩
abbrev S2x8x36864 : Shape := ⟨3, ![2, 8, 36864]⟩
abbrev S2x3x4096 : Shape := ⟨3, ![2, 3, 4096]⟩
abbrev S1x8x36864 : Shape := ⟨3, ![1, 8, 36864]⟩
abbrev S8x36864 : Shape := ⟨2, ![8, 36864]⟩
abbrev S8x3x3x4096 : Shape := ⟨4, ![8, 3, 3, 4096]⟩
abbrev S8x1x1x4096 : Shape := ⟨4, ![8, 1, 1, 4096]⟩
abbrev S8x4096 : Shape := ⟨2, ![8, 4096]⟩
abbrev S1x1x4096 : Shape := ⟨3, ![1, 1, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩
abbrev S4096x4096 : Shape := ⟨2, ![4096, 4096]⟩
abbrev S1x4096x4096 : Shape := ⟨3, ![1, 4096, 4096]⟩
abbrev S4x1024x4096 : Shape := ⟨3, ![4, 1024, 4096]⟩
abbrev S4x4096 : Shape := ⟨2, ![4, 4096]⟩
abbrev S4x1x4096 : Shape := ⟨3, ![4, 1, 4096]⟩

abbrev nBuf : Space → Nat
  | .hbm => 74
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S2x8x36864, .f32⟩
  | .hbm, ⟨2, _⟩ => ⟨S2x3x4096, .f32⟩
  | .hbm, ⟨3, _⟩ => ⟨S2x3x4096, .f32⟩
  | .hbm, ⟨4, _⟩ => ⟨S1x8x36864, .f32⟩
  | .hbm, ⟨5, _⟩ => ⟨S8x36864, .f32⟩
  | .hbm, ⟨6, _⟩ => ⟨S8x3x3x4096, .f32⟩
  | .hbm, ⟨7, _⟩ => ⟨S8x1x1x4096, .f32⟩
  | .hbm, ⟨8, _⟩ => ⟨S8x4096, .f32⟩
  | .hbm, ⟨9, _⟩ => ⟨S8x1x1x4096, .f32⟩
  | .hbm, ⟨10, _⟩ => ⟨S8x4096, .f32⟩
  | .hbm, ⟨11, _⟩ => ⟨S1x1x4096, .f32⟩
  | .hbm, ⟨12, _⟩ => ⟨S4096, .f32⟩
  | .hbm, ⟨13, _⟩ => ⟨S1x1x4096, .f32⟩
  | .hbm, ⟨14, _⟩ => ⟨S4096, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x4096, .f32⟩
  | .hbm, ⟨22, _⟩ => ⟨S8192x4096, .f32⟩
  | .hbm, ⟨23, _⟩ => ⟨S8192x4096, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x4096, .f32⟩
  | .hbm, ⟨31, _⟩ => ⟨S8192x4096, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x4096, .f32⟩
  | .hbm, ⟨37, _⟩ => ⟨S8192x4096, .f32⟩
  | .hbm, ⟨38, _⟩ => ⟨S1x4096, .f32⟩
  | .hbm, ⟨39, _⟩ => ⟨S8192x4096, .f32⟩
  | .hbm, ⟨40, _⟩ => ⟨S8192x4096, .f32⟩
  | .hbm, ⟨41, _⟩ => ⟨S1x4096, .f32⟩
  | .hbm, ⟨42, _⟩ => ⟨S8192x4096, .f32⟩
  | .hbm, ⟨43, _⟩ => ⟨S8192x4096, .f32⟩
  | .hbm, ⟨44, _⟩ => ⟨S4096x4096, .f32⟩
  | .hbm, ⟨45, _⟩ => ⟨S1x4096x4096, .f32⟩
  | .hbm, ⟨46, _⟩ => ⟨S1x4096, .f32⟩
  | .hbm, ⟨47, _⟩ => ⟨S1x1x4096, .f32⟩
  | .hbm, ⟨48, _⟩ => ⟨S1x4096, .f32⟩
  | .hbm, ⟨49, _⟩ => ⟨S1x1x4096, .f32⟩
  | .hbm, ⟨50, _⟩ => ⟨S_, .f32⟩
  | .hbm, ⟨51, _⟩ => ⟨S1x1x4096, .f32⟩
  | .hbm, ⟨52, _⟩ => ⟨S1x1x4096, .f32⟩
  | .hbm, ⟨53, _⟩ => ⟨S1x4096x4096, .f32⟩
  | .hbm, ⟨54, _⟩ => ⟨S1x4096x4096, .f32⟩
  | .hbm, ⟨55, _⟩ => ⟨S1x4096x4096, .f32⟩
  | .hbm, ⟨56, _⟩ => ⟨S1x4096x4096, .f32⟩
  | .hbm, ⟨57, _⟩ => ⟨S4096x4096, .f32⟩
  | .hbm, ⟨58, _⟩ => ⟨S4x1024x4096, .f32⟩
  | .hbm, ⟨59, _⟩ => ⟨S4x4096, .f32⟩
  | .hbm, ⟨60, _⟩ => ⟨S4x1x4096, .f32⟩
  | .hbm, ⟨61, _⟩ => ⟨S4x4096, .f32⟩
  | .hbm, ⟨62, _⟩ => ⟨S4x1x4096, .f32⟩
  | .hbm, ⟨63, _⟩ => ⟨S_, .f32⟩
  | .hbm, ⟨64, _⟩ => ⟨S4x1x4096, .f32⟩
  | .hbm, ⟨65, _⟩ => ⟨S4x1x4096, .f32⟩
  | .hbm, ⟨66, _⟩ => ⟨S4x1024x4096, .f32⟩
  | .hbm, ⟨67, _⟩ => ⟨S4x1024x4096, .f32⟩
  | .hbm, ⟨68, _⟩ => ⟨S4x1024x4096, .f32⟩
  | .hbm, ⟨69, _⟩ => ⟨S4x1024x4096, .f32⟩
  | .hbm, ⟨70, _⟩ => ⟨S4096x4096, .f32⟩
  | .hbm, ⟨71, _⟩ => ⟨S4096x4096, .f32⟩
  | .hbm, ⟨72, _⟩ => ⟨S8192x4096, .f32⟩
  | .hbm, ⟨73, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_1 : Ref sig .tc := ⟨.hbm, 24, rfl⟩
abbrev main_v18 : Ref sig .tc := ⟨.hbm, 25, rfl⟩
abbrev main_v19 : Ref sig .tc := ⟨.hbm, 26, rfl⟩
abbrev main_cst_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_cst_4 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_cst_5 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩

abbrev nD : Nat := 1
abbrev τ : Topo := Topo.v7x

variable {F : FTy → Type} [FloatOps F]
-- ==== Kernel14.lean ====
abbrev S8192x2048 : Shape := ⟨2, ![8192, 2048]⟩
abbrev S1x2048 : Shape := ⟨2, ![1, 2048]⟩
abbrev S1x32x64 : Shape := ⟨3, ![1, 32, 64]⟩
abbrev S2048 : Shape := ⟨1, ![2048]⟩
abbrev S32x64 : Shape := ⟨2, ![32, 64]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩

abbrev nBuf : Space → Nat
  | .hbm => 45
  | .vmem => 21
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S1x2048, .f32⟩
  | .hbm, ⟨7, _⟩ => ⟨S1x2048, .f32⟩
  | .hbm, ⟨8, _⟩ => ⟨S1x32x64, .f32⟩
  | .hbm, ⟨9, _⟩ => ⟨S2048, .f32⟩
  | .hbm, ⟨10, _⟩ => ⟨S1x2048, .f32⟩
  | .hbm, ⟨11, _⟩ => ⟨S2048, .f32⟩
  | .hbm, ⟨12, _⟩ => ⟨S1x2048, .f32⟩
  | .hbm, ⟨13, _⟩ => ⟨S32x64, .f32⟩
  | .hbm, ⟨14, _⟩ => ⟨S1x2048, .f32⟩
  | .hbm, ⟨15, _⟩ => ⟨S512, .i32⟩
  | .hbm, ⟨16, _⟩ => ⟨S_, .i32⟩
  | .hbm, ⟨17, _⟩ => ⟨S_, .i32⟩
  | .hbm, ⟨18, _⟩ => ⟨S512, .i32⟩
  | .hbm, ⟨19, _⟩ => ⟨S512, .i32⟩
  | .hbm, ⟨20, _⟩ => ⟨S512, .i32⟩
  | .hbm, ⟨21, _⟩ => ⟨S_, .i32⟩
  | .hbm, ⟨22, _⟩ => ⟨S512, .i32⟩
  | .hbm, ⟨23, _⟩ => ⟨S512, .i1⟩
  | .hbm, ⟨24, _⟩ => ⟨S512, .i32⟩
  | .hbm, ⟨25, _⟩ => ⟨S512, .i32⟩
  | .hbm, ⟨26, _⟩ => ⟨S_, .i32⟩
  | .hbm, ⟨27, _⟩ => ⟨S512, .i32⟩
  | .hbm, ⟨28, _⟩ => ⟨S512, .i1⟩
  | .hbm, ⟨29, _⟩ => ⟨S512, .i1⟩
  | .hbm, ⟨30, _⟩ => ⟨S_, .i32⟩
  | .hbm, ⟨31, _⟩ => ⟨S512, .i32⟩
  | .hbm, ⟨32, _⟩ => ⟨S512, .i32⟩
  | .hbm, ⟨33, _⟩ => ⟨S512, .i32⟩
  | .hbm, ⟨34, _⟩ => ⟨S512x1, .i32⟩
  | .hbm, ⟨35, _⟩ => ⟨S1x512, .i32⟩
  | .hbm, ⟨36, _⟩ => ⟨S512x512, .i32⟩
  | .hbm, ⟨37, _⟩ => ⟨S512x512, .i32⟩
  | .hbm, ⟨38, _⟩ => ⟨S512x512, .i1⟩
  | .hbm, ⟨39, _⟩ => ⟨S512x512, .f32⟩
  | .hbm, ⟨40, _⟩ => ⟨S_, .f32⟩
  | .hbm, ⟨41, _⟩ => ⟨S512x512, .f32⟩
  | .hbm, ⟨42, _⟩ => ⟨S512x512, .f32⟩
  | .hbm, ⟨43, _⟩ => ⟨S512x512, .bf16⟩
  | .hbm, ⟨44, _⟩ => ⟨S8192x2048, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_cst : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference14Ideal.lean ====
abbrev S8192x2048 : Shape := ⟨2, ![8192, 2048]⟩
abbrev S1x2048 : Shape := ⟨2, ![1, 2048]⟩
abbrev S1x32x64 : Shape := ⟨3, ![1, 32, 64]⟩
abbrev S8192x32x64 : Shape := ⟨3, ![8192, 32, 64]⟩
abbrev S_ : Shape := ⟨0, ![]⟩
abbrev S8192x32 : Shape := ⟨2, ![8192, 32]⟩
abbrev S8192x32x1 : Shape := ⟨3, ![8192, 32, 1]⟩
abbrev S2048 : Shape := ⟨1, ![2048]⟩
abbrev S32x64 : Shape := ⟨2, ![32, 64]⟩

abbrev nBuf : Space → Nat
  | .hbm => 60
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S1x2048, .f32⟩
  | .hbm, ⟨7, _⟩ => ⟨S1x2048, .f32⟩
  | .hbm, ⟨8, _⟩ => ⟨S1x32x64, .f32⟩
  | .hbm, ⟨9, _⟩ => ⟨S8192x2048, .f32⟩
  | .hbm, ⟨10, _⟩ => ⟨S8192x32x64, .f32⟩
  | .hbm, ⟨11, _⟩ => ⟨S_, .f32⟩
  | .hbm, ⟨12, _⟩ => ⟨S8192x32, .f32⟩
  | .hbm, ⟨13, _⟩ => ⟨S8192x32x1, .f32⟩
  | .hbm, ⟨14, _⟩ => ⟨S_, .f32⟩
  | .hbm, ⟨15, _⟩ => ⟨S8192x32x1, .f32⟩
  | .hbm, ⟨16, _⟩ => ⟨S8192x32x1, .f32⟩
  | .hbm, ⟨17, _⟩ => ⟨S8192x32x64, .f32⟩
  | .hbm, ⟨18, _⟩ => ⟨S8192x32x64, .f32⟩
  | .hbm, ⟨19, _⟩ => ⟨S8192x32x64, .f32⟩
  | .hbm, ⟨20, _⟩ => ⟨S_, .f32⟩
  | .hbm, ⟨21, _⟩ => ⟨S8192x32, .f32⟩
  | .hbm, ⟨22, _⟩ => ⟨S8192x32x1, .f32⟩
  | .hbm, ⟨23, _⟩ => ⟨S_, .f32⟩
  | .hbm, ⟨24, _⟩ => ⟨S8192x32x1, .f32⟩
  | .hbm, ⟨25, _⟩ => ⟨S8192x32x1, .f32⟩
  | .hbm, ⟨26, _⟩ => ⟨S8192x32x64, .f32⟩
  | .hbm, ⟨27, _⟩ => ⟨S8192x32x64, .f32⟩
  | .hbm, ⟨28, _⟩ => ⟨S_, .f32⟩
  | .hbm, ⟨29, _⟩ => ⟨S8192x32x1, .f32⟩
  | .hbm, ⟨30, _⟩ => ⟨S8192x32x1, .f32⟩
  | .hbm, ⟨31, _⟩ => ⟨S8192x32x1, .f32⟩
  | .hbm, ⟨32, _⟩ => ⟨S8192x32x64, .f32⟩
  | .hbm, ⟨33, _⟩ => ⟨S8192x32x64, .f32⟩
  | .hbm, ⟨34, _⟩ => ⟨S8192x2048, .f32⟩
  | .hbm, ⟨35, _⟩ => ⟨S2048, .f32⟩
  | .hbm, ⟨36, _⟩ => ⟨S1x2048, .f32⟩
  | .hbm, ⟨37, _⟩ => ⟨S8192x2048, .f32⟩
  | .hbm, ⟨38, _⟩ => ⟨S8192x2048, .f32⟩
  | .hbm, ⟨39, _⟩ => ⟨S2048, .f32⟩
  | .hbm, ⟨40, _⟩ => ⟨S1x2048, .f32⟩
  | .hbm, ⟨41, _⟩ => ⟨S8192x2048, .f32⟩
  | .hbm, ⟨42, _⟩ => ⟨S8192x2048, .f32⟩
  | .hbm, ⟨43, _⟩ => ⟨S8192x32x64, .f32⟩
  | .hbm, ⟨44, _⟩ => ⟨S8192x32x64, .f32⟩
  | .hbm, ⟨45, _⟩ => ⟨S8192x32x64, .f32⟩
  | .hbm, ⟨46, _⟩ => ⟨S32x64, .f32⟩
  | .hbm, ⟨47, _⟩ => ⟨S1x32x64, .f32⟩
  | .hbm, ⟨48, _⟩ => ⟨S8192x32x64, .f32⟩
  | .hbm, ⟨49, _⟩ => ⟨S8192x32x64, .f32⟩
  | .hbm, ⟨50, _⟩ => ⟨S_, .f32⟩
  | .hbm, ⟨51, _⟩ => ⟨S8192x32, .f32⟩
  | .hbm, ⟨52, _⟩ => ⟨S8192x32x1, .f32⟩
  | .hbm, ⟨53, _⟩ => ⟨S8192x32x64, .f32⟩
  | .hbm, ⟨54, _⟩ => ⟨S8192x32x64, .f32⟩
  | .hbm, ⟨55, _⟩ => ⟨S8192x32x64, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Kernel15.lean ====
abbrev S16x256x10080 : Shape := ⟨3, ![16, 256, 10080]⟩
abbrev S4x1024x10080 : Shape := ⟨3, ![4, 1024, 10080]⟩
abbrev S1x7008 : Shape := ⟨2, ![1, 7008]⟩
abbrev S1x2x2048 : Shape := ⟨3, ![1, 2, 2048]⟩
abbrev S1x2x128x2048 : Shape := ⟨4, ![1, 2, 128, 2048]⟩
abbrev S1x2048 : Shape := ⟨2, ![1, 2048]⟩
abbrev S1x128x2048 : Shape := ⟨3, ![1, 128, 2048]⟩
abbrev S1x480x2048 : Shape := ⟨3, ![1, 480, 2048]⟩
abbrev S256x256 : Shape := ⟨2, ![256, 256]⟩
abbrev S480x2048 : Shape := ⟨2, ![480, 2048]⟩
abbrev S_ : Shape := ⟨0, ![]⟩
abbrev S32x2048 : Shape := ⟨2, ![32, 2048]⟩
abbrev S512x2048 : Shape := ⟨2, ![512, 2048]⟩
abbrev S4096x10080 : Shape := ⟨2, ![4096, 10080]⟩
abbrev S8192x10080 : Shape := ⟨2, ![8192, 10080]⟩
abbrev S8192x6144 : Shape := ⟨2, ![8192, 6144]⟩
abbrev S8192x2048 : Shape := ⟨2, ![8192, 2048]⟩
abbrev S8192x512 : Shape := ⟨2, ![8192, 512]⟩
abbrev S8192x480 : Shape := ⟨2, ![8192, 480]⟩
abbrev S8192x32 : Shape := ⟨2, ![8192, 32]⟩
abbrev S8192x256 : Shape := ⟨2, ![8192, 256]⟩
abbrev S8192x128 : Shape := ⟨2, ![8192, 128]⟩
abbrev S8192x10240 : Shape := ⟨2, ![8192, 10240]⟩
abbrev S7008 : Shape := ⟨1, ![7008]⟩
abbrev S6144 : Shape := ⟨1, ![6144]⟩
abbrev S3072 : Shape := ⟨1, ![3072]⟩
abbrev S480 : Shape := ⟨1, ![480]⟩
abbrev S32 : Shape := ⟨1, ![32]⟩
abbrev S256 : Shape := ⟨1, ![256]⟩
abbrev S128 : Shape := ⟨1, ![128]⟩
abbrev S10240 : Shape := ⟨1, ![10240]⟩
abbrev S1x10240 : Shape := ⟨2, ![1, 10240]⟩
abbrev S2x2048 : Shape := ⟨2, ![2, 2048]⟩
abbrev S2x1x2048 : Shape := ⟨3, ![2, 1, 2048]⟩
abbrev S2x128x2048 : Shape := ⟨3, ![2, 128, 2048]⟩
abbrev S2048 : Shape := ⟨1, ![2048]⟩
abbrev S128x2048 : Shape := ⟨2, ![128, 2048]⟩
abbrev S2x8192x2048 : Shape := ⟨3, ![2, 8192, 2048]⟩
abbrev S1024x256 : Shape := ⟨2, ![1024, 256]⟩
abbrev S1024x512 : Shape := ⟨2, ![1024, 512]⟩
abbrev S1024x128 : Shape := ⟨2, ![1024, 128]⟩
abbrev S1x256 : Shape := ⟨2, ![1, 256]⟩
abbrev S1x512 : Shape := ⟨2, ![1, 512]⟩
abbrev S1x128 : Shape := ⟨2, ![1, 128]⟩
abbrev S2x1x256 : Shape := ⟨3, ![2, 1, 256]⟩
abbrev S2x128x256 : Shape := ⟨3, ![2, 128, 256]⟩
abbrev S128x256 : Shape := ⟨2, ![128, 256]⟩
abbrev S512x256 : Shape := ⟨2, ![512, 256]⟩
abbrev S2x1024x256 : Shape := ⟨3, ![2, 1024, 256]⟩
abbrev S1x1x256 : Shape := ⟨3, ![1, 1, 256]⟩
abbrev S1x128x256 : Shape := ⟨3, ![1, 128, 256]⟩
abbrev S1x1024x256 : Shape := ⟨3, ![1, 1024, 256]⟩

abbrev nBuf : Space → Nat
  | .hbm => 64
  | .vmem => 53
  | .smem => 0
  | _ => 0

abbrev bufTy : (tb : Table) → Fin (tcTables nBuf tb) → BufTy
  | .hbm, ⟨0, _⟩ => ⟨S16x256x10080, .f32⟩
  | .hbm, ⟨1, _⟩ => ⟨S4x1024x10080, .f32⟩
  | .hbm, ⟨2, _⟩ => ⟨S1x7008, .f32⟩
  | .hbm, ⟨3, _⟩ => ⟨S1x2x2048, .f32⟩
  | .hbm, ⟨4, _⟩ => ⟨S1x2x128x2048, .f32⟩
  | .hbm, ⟨5, _⟩ => ⟨S1x2048, .f32⟩
  | .hbm, ⟨6, _⟩ => ⟨S1x128x2048, .f32⟩
  | .hbm, ⟨7, _⟩ => ⟨S1x480x2048, .f32⟩
  | .hbm, ⟨8, _⟩ => ⟨S1x2048, .f32⟩
  | .hbm, ⟨9, _⟩ => ⟨S1x2048, .f32⟩
  | .hbm, ⟨10, _⟩ => ⟨S256x256, .f32⟩
  | .hbm, ⟨11, _⟩ => ⟨S480x2048, .f32⟩
  | .hbm, ⟨12, _⟩ => ⟨S_, .f32⟩
  | .hbm, ⟨13, _⟩ => ⟨S32x2048, .f32⟩
  | .hbm, ⟨14, _⟩ => ⟨S512x2048, .f32⟩
  | .hbm, ⟨15, _⟩ => ⟨S4096x10080, .f32⟩
  | .hbm, ⟨16, _⟩ => ⟨S4096x10080, .f32⟩
  | .hbm, ⟨17, _⟩ => ⟨S8192x10080, .f32⟩
  | .hbm, ⟨18, _⟩ => ⟨S8192x6144, .f32⟩
  | .hbm, ⟨19, _⟩ => ⟨S8192x2048, .f32⟩
  | .hbm, ⟨20, _⟩ => ⟨S8192x512, .f32⟩
  | .hbm, ⟨21, _⟩ => ⟨S8192x512, .f32⟩
  | .hbm, ⟨22, _⟩ => ⟨S8192x480, .f32⟩
  | .hbm, ⟨23, _⟩ => ⟨S_, .f32⟩
  | .hbm, ⟨24, _⟩ => ⟨S8192x32, .f32⟩
  | .hbm, ⟨25, _⟩ => ⟨S8192x256, .f32⟩
  | .hbm, ⟨26, _⟩ => ⟨S8192x128, .f32⟩
  | .hbm, ⟨27, _⟩ => ⟨S_, .f32⟩
  | .hbm, ⟨28, _⟩ => ⟨S8192x128, .f32⟩
  | .hbm, ⟨29, _⟩ => ⟨S8192x10240, .f32⟩
  | .hbm, ⟨30, _⟩ => ⟨S7008, .f32⟩
  | .hbm, ⟨31, _⟩ => ⟨S6144, .f32⟩
  | .hbm, ⟨32, _⟩ => ⟨S_, .f32⟩
  | .hbm, ⟨33, _⟩ => ⟨S3072, .f32⟩
  | .hbm, ⟨34, _⟩ => ⟨S480, .f32⟩
  | .hbm, ⟨35, _⟩ => ⟨S_, .f32⟩
  | .hbm, ⟨36, _⟩ => ⟨S32, .f32⟩
  | .hbm, ⟨37, _⟩ => ⟨S256, .f32⟩
  | .hbm, ⟨38, _⟩ => ⟨S128, .f32⟩
  | .hbm, ⟨39, _⟩ => ⟨S_, .f32⟩
  | .hbm, ⟨40, _⟩ => ⟨S128, .f32⟩
  | .hbm, ⟨41, _⟩ => ⟨S10240, .f32⟩
  | .hbm, ⟨42, _⟩ => ⟨S1x10240, .f32⟩
  | .hbm, ⟨43, _⟩ => ⟨S2x2048, .f32⟩
  | .hbm, ⟨44, _⟩ => ⟨S2x1x2048, .f32⟩
  | .hbm, ⟨45, _⟩ => ⟨S2x128x2048, .f32⟩
  | .hbm, ⟨46, _⟩ => ⟨S2x128x2048, .bf16⟩
  | .hbm, ⟨47, _⟩ => ⟨S2048, .f32⟩
  | .hbm, ⟨48, _⟩ => ⟨S1x2048, .f32⟩
  | .hbm, ⟨49, _⟩ => ⟨S128x2048, .f32⟩
  | .hbm, ⟨50, _⟩ => ⟨S128x2048, .bf16⟩
  | .hbm, ⟨51, _⟩ => ⟨S512x2048, .bf16⟩
  | .hbm, ⟨52, _⟩ => ⟨S2048, .f32⟩
  | .hbm, ⟨53, _⟩ => ⟨S1x2048, .f32⟩
  | .hbm, ⟨54, _⟩ => ⟨S2048, .f32⟩
  | .hbm, ⟨55, _⟩ => ⟨S1x2048, .f32⟩
  | .hbm, ⟨56, _⟩ => ⟨S256x256, .bf16⟩
  | .hbm, ⟨57, _⟩ => ⟨S8192x2048, .f32⟩
  | .hbm, ⟨58, _⟩ => ⟨S8192x2048, .f32⟩
  | .hbm, ⟨59, _⟩ => ⟨S8192x2048, .f32⟩
  | .hbm, ⟨60, _⟩ => ⟨S8192x2048, .f32⟩
  | .hbm, ⟨61, _⟩ => ⟨S8192x2048, .f32⟩
  | .hbm, ⟨62, _⟩ => ⟨S2x8192x2048, .f32⟩
  | .hbm, ⟨63, _⟩ => ⟨S8192x2048, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x512, .f32⟩
  | .local _ .vmem, ⟨7, _⟩ => ⟨S1024x512, .f32⟩
  | .local _ .vmem, ⟨8, _⟩ => ⟨S1024x256, .f32⟩
  | .local _ .vmem, ⟨9, _⟩ => ⟨S1024x256, .f32⟩
  | .local _ .vmem, ⟨10, _⟩ => ⟨S1024x128, .f32⟩
  | .local _ .vmem, ⟨11, _⟩ => ⟨S1024x128, .f32⟩
  | .local _ .vmem, ⟨12, _⟩ => ⟨S1x256, .f32⟩
  | .local _ .vmem, ⟨13, _⟩ => ⟨S1x256, .f32⟩
  | .local _ .vmem, ⟨14, _⟩ => ⟨S1x256, .f32⟩
  | .local _ .vmem, ⟨15, _⟩ => ⟨S1x256, .f32⟩
  | .local _ .vmem, ⟨16, _⟩ => ⟨S1x256, .f32⟩
  | .local _ .vmem, ⟨17, _⟩ => ⟨S1x256, .f32⟩
  | .local _ .vmem, ⟨18, _⟩ => ⟨S1x512, .f32⟩
  | .local _ .vmem, ⟨19, _⟩ => ⟨S1x256, .f32⟩
  | .local _ .vmem, ⟨20, _⟩ => ⟨S1x128, .f32⟩
  | .local _ .vmem, ⟨21, _⟩ => ⟨S2x1x256, .f32⟩
  | .local _ .vmem, ⟨22, _⟩ => ⟨S2x1x256, .f32⟩
  | .local _ .vmem, ⟨23, _⟩ => ⟨S2x128x256, .bf16⟩
  | .local _ .vmem, ⟨24, _⟩ => ⟨S2x128x256, .bf16⟩
  | .local _ .vmem, ⟨25, _⟩ => ⟨S1x256, .f32⟩
  | .local _ .vmem, ⟨26, _⟩ => ⟨S1x256, .f32⟩
  | .local _ .vmem, ⟨27, _⟩ => ⟨S128x256, .bf16⟩
  | .local _ .vmem, ⟨28, _⟩ => ⟨S128x256, .bf16⟩
  | .local _ .vmem, ⟨29, _⟩ => ⟨S512x256, .bf16⟩
  | .local _ .vmem, ⟨30, _⟩ => ⟨S512x256, .bf16⟩
  | .local _ .vmem, ⟨31, _⟩ => ⟨S1x256, .f32⟩
  | .local _ .vmem, ⟨32, _⟩ => ⟨S1x256, .f32⟩
  | .local _ .vmem, ⟨33, _⟩ => ⟨S1x256, .f32⟩
  | .local _ .vmem, ⟨34, _⟩ => ⟨S1x256, .f32⟩
  | .local _ .vmem, ⟨35, _⟩ => ⟨S256x256, .bf16⟩
  | .local _ .vmem, ⟨36, _⟩ => ⟨S1024x256, .f32⟩
  | .local _ .vmem, ⟨37, _⟩ => ⟨S1024x256, .f32⟩
  | .local _ .vmem, ⟨38, _⟩ => ⟨S1024x256, .f32⟩
  | .local _ .vmem, ⟨39, _⟩ => ⟨S1024x256, .f32⟩
  | .local _ .vmem, ⟨40, _⟩ => ⟨S1024x256, .f32⟩
  | .local _ .vmem, ⟨41, _⟩ => ⟨S1024x256, .f32⟩
  | .local _ .vmem, ⟨42, _⟩ => ⟨S1024x256, .f32⟩
  | .local _ .vmem, ⟨43, _⟩ => ⟨S1024x256, .f32⟩
  | .local _ .vmem, ⟨44, _⟩ => ⟨S1024x256, .f32⟩
  | .local _ .vmem, ⟨45, _⟩ => ⟨S1024x256, .f32⟩
  | .local _ .vmem, ⟨46, _⟩ => ⟨S2x1024x256, .f32⟩
  | .local _ .vmem, ⟨47, _⟩ => ⟨S2x1024x256, .f32⟩
  | .local _ .vmem, ⟨48, _⟩ => ⟨S1024x256, .f32⟩
  | .local _ .vmem, ⟨49, _⟩ => ⟨S1024x256, .f32⟩
  | .local _ .vmem, ⟨50, _⟩ => ⟨S1024x512, .bf16⟩
  | .local _ .vmem, ⟨51, _⟩ => ⟨S1024x256, .bf16⟩
  | .local _ .vmem, ⟨52, _⟩ => ⟨S1024x128, .bf16⟩
  | _, _ => ⟨S16x256x10080, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  ofTc nBuf bufTy 0 50 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_5 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40_0 : Ref sig .tc := ⟨.hbm, 57, rfl⟩
abbrev main_v40_1 : Ref sig .tc := ⟨.hbm, 58, rfl⟩
abbrev main_v40_2 : Ref sig .tc := ⟨.hbm, 59, rfl⟩
abbrev main_v40_3 : Ref sig .tc := ⟨.hbm, 60, rfl⟩
abbrev main_v40_4 : Ref sig .tc := ⟨.hbm, 61, rfl⟩
abbrev main_v40_5 : Ref sig .tc := ⟨.hbm, 62, rfl⟩
abbrev main_v40_6 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg20_0 : Ref sig .tc := ⟨.vmem, 36, rfl⟩
abbrev cc0_stg20_1 : Ref sig .tc := ⟨.vmem, 37, rfl⟩
abbrev cc0_stg21_0 : Ref sig .tc := ⟨.vmem, 38, rfl⟩
abbrev cc0_stg21_1 : Ref sig .tc := ⟨.vmem, 39, rfl⟩
abbrev cc0_stg22_0 : Ref sig .tc := ⟨.vmem, 40, rfl⟩
abbrev cc0_stg22_1 : Ref sig .tc := ⟨.vmem, 41, rfl⟩
abbrev cc0_stg23_0 : Ref sig .tc := ⟨.vmem, 42, rfl⟩
abbrev cc0_stg23_1 : Ref sig .tc := ⟨.vmem, 43, rfl⟩
abbrev cc0_stg24_0 : Ref sig .tc := ⟨.vmem, 44, rfl⟩
abbrev cc0_stg24_1 : Ref sig .tc := ⟨.vmem, 45, rfl⟩
abbrev cc0_stg25_0 : Ref sig .tc := ⟨.vmem, 46, rfl⟩
abbrev cc0_stg25_1 : Ref sig .tc := ⟨.vmem, 47, rfl⟩
abbrev cc0_stg26_0 : Ref sig .tc := ⟨.vmem, 48, rfl⟩
abbrev cc0_stg26_1 : Ref sig .tc := ⟨.vmem, 49, rfl⟩
abbrev cc0_scratch0 : Ref sig .tc := ⟨.vmem, 50, rfl⟩
abbrev cc0_scratch1 : Ref sig .tc := ⟨.vmem, 51, rfl⟩
abbrev cc0_scratch2 : Ref sig .tc := ⟨.vmem, 52, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem20_0 : DmaSem sig := 36
abbrev cc0_sem20_1 : DmaSem sig := 37
abbrev cc0_sem21_0 : DmaSem sig := 38
abbrev cc0_sem21_1 : DmaSem sig := 39
abbrev cc0_sem22_0 : DmaSem sig := 40
abbrev cc0_sem22_1 : DmaSem sig := 41
abbrev cc0_sem23_0 : DmaSem sig := 42
abbrev cc0_sem23_1 : DmaSem sig := 43
abbrev cc0_sem24_0 : DmaSem sig := 44
abbrev cc0_sem24_1 : DmaSem sig := 45
abbrev cc0_sem25_0 : DmaSem sig := 46
abbrev cc0_sem25_1 : DmaSem sig := 47
abbrev cc0_sem26_0 : DmaSem sig := 48
abbrev cc0_sem26_1 : DmaSem sig := 49

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg0 : BitVec 32 := BitVec.ofNat 32 (i 0).val
  let c1024_i32 : BitVec 32 := 1024#32
  let v0 : BitVec 32 := Scalar.muli arg0 c1024_i32
  let c4096_i32 : BitVec 32 := 4096#32
  let v1 : BitVec 1 := Scalar.cmpi .slt v0 c4096_i32
  let v2 : BitVec 32 := Scalar.extui v1
  let c0_i32 : BitVec 32 := 0#32
  let v3 : BitVec 1 := Scalar.cmpi .ne v2 c0_i32
  v3

def k0_cond3 (i : grid0.Coords) : BitVec 1 :=
  let arg0 : BitVec 32 := BitVec.ofNat 32 (i 0).val
  let c1024_i32_0 : BitVec 32 := 1024#32
  let v4 : BitVec 32 := Scalar.muli arg0 c1024_i32_0
  let c4096_i32_1 : BitVec 32 := 4096#32
  let v5 : BitVec 1 := Scalar.cmpi .sge v4 c4096_i32_1
  let v6 : BitVec 32 := Scalar.extui v5
  let c0_i32_2 : BitVec 32 := 0#32
  let v7 : BitVec 1 := Scalar.cmpi .ne v6 c0_i32_2
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c18_i32 : BitVec 32 := 18#32
  let c0_i32 : BitVec 32 := 0#32
  ![arg0.toNat, c18_i32.toNat]

def cc0_transform_4 (i : grid0.Coords) : Fin 2 → Nat :=
  let arg0 : BitVec 32 := BitVec.ofNat 32 (i 0).val
  let arg1 : BitVec 32 := BitVec.ofNat 32 (i 1).val
  let c38_i32 : BitVec 32 := 38#32
  let c0_i32 : BitVec 32 := 0#32
  ![arg0.toNat, c38_i32.toNat]

def cc0_transform_5 (i : grid0.Coords) : Fin 2 → Nat :=
  let arg0 : BitVec 32 := BitVec.ofNat 32 (i 0).val
  let arg1 : BitVec 32 := BitVec.ofNat 32 (i 1).val
  let c78_i32 : BitVec 32 := 78#32
  let c0_i32 : BitVec 32 := 0#32
  ![arg0.toNat, c78_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c18_i32 : BitVec 32 := 18#32
  let c0_i32_0 : BitVec 32 := 0#32
  ![c0_i32.toNat, c18_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c38_i32 : BitVec 32 := 38#32
  let c0_i32_0 : BitVec 32 := 0#32
  ![c0_i32.toNat, c38_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c78_i32 : BitVec 32 := 78#32
  let c0_i32_0 : BitVec 32 := 0#32
  ![c0_i32.toNat, c78_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_21 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_22 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_23 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_24 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_26 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S2x1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S2x128x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S128x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![false, true]

abbrev stage0_17 : Fin 2 → Memref sig .tc .vmem S1x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![false, true]

abbrev stage0_18 : Fin 2 → Memref sig .tc .vmem S1x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![false, true]

abbrev stage0_19 : Fin 1 → Memref sig .tc .vmem S256x256 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false, false]

abbrev stage0_20 : Fin 2 → Memref sig .tc .vmem S1024x256 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1024x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1024x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1024x256 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1024x256 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S2x1024x256 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1024x256 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]
-- ==== Reference15Ideal.lean ====
abbrev S16x256x10080 : Shape := ⟨3, ![16, 256, 10080]⟩
abbrev S4x1024x10080 : Shape := ⟨3, ![4, 1024, 10080]⟩
abbrev S1x7008 : Shape := ⟨2, ![1, 7008]⟩
abbrev S1x2x2048 : Shape := ⟨3, ![1, 2, 2048]⟩
abbrev S1x2x128x2048 : Shape := ⟨4, ![1, 2, 128, 2048]⟩
abbrev S1x2048 : Shape := ⟨2, ![1, 2048]⟩
abbrev S1x128x2048 : Shape := ⟨3, ![1, 128, 2048]⟩
abbrev S1x480x2048 : Shape := ⟨3, ![1, 480, 2048]⟩
abbrev S16x256x7008 : Shape := ⟨3, ![16, 256, 7008]⟩
abbrev S7008 : Shape := ⟨1, ![7008]⟩
abbrev S16x1x7008 : Shape := ⟨3, ![16, 1, 7008]⟩
abbrev S_ : Shape := ⟨0, ![]⟩
abbrev S16x255x7008 : Shape := ⟨3, ![16, 255, 7008]⟩
abbrev S1x1x7008 : Shape := ⟨3, ![1, 1, 7008]⟩
abbrev S4x1024x7008 : Shape := ⟨3, ![4, 1024, 7008]⟩
abbrev S4x1x7008 : Shape := ⟨3, ![4, 1, 7008]⟩
abbrev S4x1023x7008 : Shape := ⟨3, ![4, 1023, 7008]⟩
abbrev S4096x7008 : Shape := ⟨2, ![4096, 7008]⟩
abbrev S8192x7008 : Shape := ⟨2, ![8192, 7008]⟩
abbrev S8192x2048 : Shape := ⟨2, ![8192, 2048]⟩
abbrev S8192x480 : Shape := ⟨2, ![8192, 480]⟩
abbrev S8192x256 : Shape := ⟨2, ![8192, 256]⟩
abbrev S8192x128 : Shape := ⟨2, ![8192, 128]⟩
abbrev S1x1x2048 : Shape := ⟨3, ![1, 1, 2048]⟩
abbrev S2048 : Shape := ⟨1, ![2048]⟩
abbrev S1x1x128x2048 : Shape := ⟨4, ![1, 1, 128, 2048]⟩
abbrev S128x2048 : Shape := ⟨2, ![128, 2048]⟩
abbrev S1x8192x2048 : Shape := ⟨3, ![1, 8192, 2048]⟩
abbrev S2x8192x2048 : Shape := ⟨3, ![2, 8192, 2048]⟩
abbrev S480x2048 : Shape := ⟨2, ![480, 2048]⟩
abbrev S8192x32x64 : Shape := ⟨3, ![8192, 32, 64]⟩
abbrev S8192x32 : Shape := ⟨2, ![8192, 32]⟩
abbrev S8192x32x1 : Shape := ⟨3, ![8192, 32, 1]⟩

abbrev nBuf : Space → Nat
  | .hbm => 171
  | .vmem => 0
  | .smem => 0
  | _ => 0

abbrev hbmTy0_0 (i : Nat) : BufTy := match i % 128 with
  | 0 => ⟨S16x256x10080, .f32⟩
  | 1 => ⟨S4x1024x10080, .f32⟩
  | 2 => ⟨S1x7008, .f32⟩
  | 3 => ⟨S1x2x2048, .f32⟩
  | 4 => ⟨S1x2x128x2048, .f32⟩
  | 5 => ⟨S1x2048, .f32⟩
  | 6 => ⟨S1x128x2048, .f32⟩
  | 7 => ⟨S1x480x2048, .f32⟩
  | 8 => ⟨S1x2048, .f32⟩
  | 9 => ⟨S1x2048, .f32⟩
  | 10 => ⟨S16x256x7008, .f32⟩
  | 11 => ⟨S7008, .f32⟩
  | 12 => ⟨S16x1x7008, .f32⟩
  | 13 => ⟨S_, .f32⟩
  | 14 => ⟨S16x1x7008, .f32⟩
  | 15 => ⟨S16x255x7008, .f32⟩
  | 16 => ⟨S16x256x7008, .f32⟩
  | 17 => ⟨S16x255x7008, .f32⟩
  | 18 => ⟨S16x256x7008, .f32⟩
  | 19 => ⟨S16x256x7008, .f32⟩
  | 20 => ⟨S_, .f32⟩
  | 21 => ⟨S16x256x7008, .f32⟩
  | 22 => ⟨S16x256x7008, .f32⟩
  | 23 => ⟨S16x256x7008, .f32⟩
  | 24 => ⟨S1x1x7008, .f32⟩
  | 25 => ⟨S16x256x7008, .f32⟩
  | 26 => ⟨S16x256x7008, .f32⟩
  | 27 => ⟨S16x256x7008, .f32⟩
  | 28 => ⟨S4x1024x7008, .f32⟩
  | 29 => ⟨S7008, .f32⟩
  | 30 => ⟨S4x1x7008, .f32⟩
  | 31 => ⟨S_, .f32⟩
  | 32 => ⟨S4x1x7008, .f32⟩
  | 33 => ⟨S4x1023x7008, .f32⟩
  | 34 => ⟨S4x1024x7008, .f32⟩
  | 35 => ⟨S4x1023x7008, .f32⟩
  | 36 => ⟨S4x1024x7008, .f32⟩
  | 37 => ⟨S4x1024x7008, .f32⟩
  | 38 => ⟨S_, .f32⟩
  | 39 => ⟨S4x1024x7008, .f32⟩
  | 40 => ⟨S4x1024x7008, .f32⟩
  | 41 => ⟨S4x1024x7008, .f32⟩
  | 42 => ⟨S1x1x7008, .f32⟩
  | 43 => ⟨S4x1024x7008, .f32⟩
  | 44 => ⟨S4x1024x7008, .f32⟩
  | 45 => ⟨S4x1024x7008, .f32⟩
  | 46 => ⟨S4096x7008, .f32⟩
  | 47 => ⟨S4096x7008, .f32⟩
  | 48 => ⟨S8192x7008, .f32⟩
  | 49 => ⟨S8192x2048, .f32⟩
  | 50 => ⟨S8192x2048, .f32⟩
  | 51 => ⟨S8192x2048, .f32⟩
  | 52 => ⟨S8192x480, .f32⟩
  | 53 => ⟨S8192x256, .f32⟩
  | 54 => ⟨S8192x128, .f32⟩
  | 55 => ⟨S8192x256, .f32⟩
  | 56 => ⟨S1x1x2048, .f32⟩
  | 57 => ⟨S2048, .f32⟩
  | 58 => ⟨S8192x128, .f32⟩
  | 59 => ⟨S1x1x128x2048, .f32⟩
  | 60 => ⟨S128x2048, .f32⟩
  | 61 => ⟨S8192x2048, .f32⟩
  | 62 => ⟨S1x2048, .f32⟩
  | 63 => ⟨S8192x2048, .f32⟩
  | 64 => ⟨S8192x2048, .f32⟩
  | 65 => ⟨S8192x2048, .f32⟩
  | 66 => ⟨S_, .f32⟩
  | 67 => ⟨S8192x2048, .f32⟩
  | 68 => ⟨S8192x2048, .f32⟩
  | 69 => ⟨S8192x2048, .f32⟩
  | 70 => ⟨S8192x2048, .f32⟩
  | 71 => ⟨S8192x2048, .i1⟩
  | 72 => ⟨S8192x2048, .f32⟩
  | 73 => ⟨S8192x2048, .f32⟩
  | 74 => ⟨S8192x2048, .f32⟩
  | 75 => ⟨S8192x2048, .f32⟩
  | 76 => ⟨S8192x2048, .f32⟩
  | 77 => ⟨S8192x2048, .f32⟩
  | 78 => ⟨S8192x2048, .f32⟩
  | 79 => ⟨S8192x2048, .f32⟩
  | 80 => ⟨S8192x2048, .f32⟩
  | 81 => ⟨S_, .f32⟩
  | 82 => ⟨S8192x2048, .f32⟩
  | 83 => ⟨S8192x2048, .f32⟩
  | 84 => ⟨S8192x2048, .f32⟩
  | 85 => ⟨S8192x2048, .f32⟩
  | 86 => ⟨S1x1x2048, .f32⟩
  | 87 => ⟨S2048, .f32⟩
  | 88 => ⟨S8192x128, .f32⟩
  | 89 => ⟨S1x1x128x2048, .f32⟩
  | 90 => ⟨S128x2048, .f32⟩
  | 91 => ⟨S8192x2048, .f32⟩
  | 92 => ⟨S1x2048, .f32⟩
  | 93 => ⟨S8192x2048, .f32⟩
  | 94 => ⟨S8192x2048, .f32⟩
  | 95 => ⟨S8192x2048, .f32⟩
  | 96 => ⟨S_, .f32⟩
  | 97 => ⟨S8192x2048, .f32⟩
  | 98 => ⟨S8192x2048, .f32⟩
  | 99 => ⟨S8192x2048, .f32⟩
  | 100 => ⟨S8192x2048, .f32⟩
  | 101 => ⟨S8192x2048, .i1⟩
  | 102 => ⟨S8192x2048, .f32⟩
  | 103 => ⟨S8192x2048, .f32⟩
  | 104 => ⟨S8192x2048, .f32⟩
  | 105 => ⟨S8192x2048, .f32⟩
  | 106 => ⟨S8192x2048, .f32⟩
  | 107 => ⟨S8192x2048, .f32⟩
  | 108 => ⟨S8192x2048, .f32⟩
  | 109 => ⟨S8192x2048, .f32⟩
  | 110 => ⟨S8192x2048, .f32⟩
  | 111 => ⟨S_, .f32⟩
  | 112 => ⟨S8192x2048, .f32⟩
  | 113 => ⟨S8192x2048, .f32⟩
  | 114 => ⟨S8192x2048, .f32⟩
  | 115 => ⟨S8192x2048, .f32⟩
  | 116 => ⟨S1x8192x2048, .f32⟩
  | 117 => ⟨S1x8192x2048, .f32⟩
  | 118 => ⟨S2x8192x2048, .f32⟩
  | 119 => ⟨S2048, .f32⟩
  | 120 => ⟨S128x2048, .f32⟩
  | 121 => ⟨S8192x2048, .f32⟩
  | 122 => ⟨S1x2048, .f32⟩
  | 123 => ⟨S8192x2048, .f32⟩
  | 124 => ⟨S8192x2048, .f32⟩
  | 125 => ⟨S8192x2048, .f32⟩
  | 126 => ⟨S8192x2048, .f32⟩
  | 127 => ⟨S_, .f32⟩
  | _ => ⟨S16x256x10080, .f32⟩

abbrev hbmTy0_1 (i : Nat) : BufTy := match i % 128 with
  | 0 => ⟨S8192x2048, .f32⟩
  | 1 => ⟨S8192x2048, .f32⟩
  | 2 => ⟨S_, .f32⟩
  | 3 => ⟨S8192x2048, .f32⟩
  | 4 => ⟨S8192x2048, .f32⟩
  | 5 => ⟨S8192x480, .f32⟩
  | 6 => ⟨S8192x480, .f32⟩
  | 7 => ⟨S_, .f32⟩
  | 8 => ⟨S8192x480, .f32⟩
  | 9 => ⟨S8192x480, .f32⟩
  | 10 => ⟨S_, .f32⟩
  | 11 => ⟨S8192x480, .f32⟩
  | 12 => ⟨S8192x480, .f32⟩
  | 13 => ⟨S480x2048, .f32⟩
  | 14 => ⟨S8192x2048, .f32⟩
  | 15 => ⟨S2048, .f32⟩
  | 16 => ⟨S1x2048, .f32⟩
  | 17 => ⟨S8192x2048, .f32⟩
  | 18 => ⟨S8192x2048, .f32⟩
  | 19 => ⟨S8192x32x64, .f32⟩
  | 20 => ⟨S8192x32x64, .f32⟩
  | 21 => ⟨S_, .f32⟩
  | 22 => ⟨S8192x32, .f32⟩
  | 23 => ⟨S8192x32x1, .f32⟩
  | 24 => ⟨S_, .f32⟩
  | 25 => ⟨S8192x32x1, .f32⟩
  | 26 => ⟨S8192x32x1, .f32⟩
  | 27 => ⟨S8192x32x1, .f32⟩
  | 28 => ⟨S8192x32x64, .f32⟩
  | 29 => ⟨S8192x32x64, .f32⟩
  | 30 => ⟨S8192x2048, .f32⟩
  | 31 => ⟨S_, .f32⟩
  | 32 => ⟨S8192x2048, .f32⟩
  | 33 => ⟨S8192x2048, .f32⟩
  | 34 => ⟨S2048, .f32⟩
  | 35 => ⟨S1x2048, .f32⟩
  | 36 => ⟨S8192x2048, .f32⟩
  | 37 => ⟨S8192x2048, .f32⟩
  | 38 => ⟨S_, .f32⟩
  | 39 => ⟨S8192x2048, .f32⟩
  | 40 => ⟨S8192x2048, .f32⟩
  | 41 => ⟨S8192x2048, .f32⟩
  | 42 => ⟨S8192x2048, .f32⟩
  | _ => ⟨S16x256x10080, .f32⟩

abbrev hbmTy (i : Nat) : BufTy := match i / 128 with
  | 0 => hbmTy0_0 i
  | 1 => hbmTy0_1 i
  | _ => ⟨S16x256x10080, .f32⟩

abbrev bufTy : (tb : Table) → Fin (tcTables nBuf tb) → BufTy
  | .hbm, ⟨i, _⟩ => hbmTy i
  | _, _ => ⟨S16x256x10080, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_call0_cst : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_call0_v5 : Ref sig .tc := ⟨.hbm, 72, rfl⟩
abbrev main_call0_v6 : Ref sig .tc := ⟨.hbm, 73, rfl⟩
abbrev main_call0_v7 : Ref sig .tc := ⟨.hbm, 74, rfl⟩
abbrev main_call0_v8 : Ref sig .tc := ⟨.hbm, 75, rfl⟩
abbrev main_call0_v9 : Ref sig .tc := ⟨.hbm, 76, rfl⟩
abbrev main_call0_v10 : Ref sig .tc := ⟨.hbm, 77, rfl⟩
abbrev main_call0_v11 : Ref sig .tc := ⟨.hbm, 78, rfl⟩
abbrev main_v52 : Ref sig .tc := ⟨.hbm, 79, rfl⟩
abbrev main_v53 : Ref sig .tc := ⟨.hbm, 80, rfl⟩
abbrev main_cst_3 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_call1_cst : Ref sig .tc := ⟨.hbm, 96, rfl⟩
abbrev main_call1_v0 : Ref sig .tc := ⟨.hbm, 97, rfl⟩
abbrev main_call1_v1 : Ref sig .tc := ⟨.hbm, 98, rfl⟩
abbrev main_call1_v2 : Ref sig .tc := ⟨.hbm, 99, rfl⟩
abbrev main_call1_v3 : Ref sig .tc := ⟨.hbm, 100, rfl⟩
abbrev main_call1_v4 : Ref sig .tc := ⟨.hbm, 101, rfl⟩
abbrev main_call1_v5 : Ref sig .tc := ⟨.hbm, 102, rfl⟩
abbrev main_call1_v6 : Ref sig .tc := ⟨.hbm, 103, rfl⟩
abbrev main_call1_v7 : Ref sig .tc := ⟨.hbm, 104, rfl⟩
abbrev main_call1_v8 : Ref sig .tc := ⟨.hbm, 105, rfl⟩
abbrev main_call1_v9 : Ref sig .tc := ⟨.hbm, 106, rfl⟩
abbrev main_call1_v10 : Ref sig .tc := ⟨.hbm, 107, rfl⟩
abbrev main_call1_v11 : Ref sig .tc := ⟨.hbm, 108, rfl⟩
abbrev main_v68 : Ref sig .tc := ⟨.hbm, 109, rfl⟩
abbrev main_v69 : Ref sig .tc := ⟨.hbm, 110, rfl⟩
abbrev main_cst_4 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_cst_5 : Ref sig .tc := ⟨.hbm, 127, rfl⟩
abbrev main_v85 : Ref sig .tc := ⟨.hbm, 128, rfl⟩
abbrev main_v86 : Ref sig .tc := ⟨.hbm, 129, rfl⟩
abbrev main_cst_6 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_cst_7 : Ref sig .tc := ⟨.hbm, 135, rfl⟩
abbrev main_v91 : Ref sig .tc := ⟨.hbm, 136, rfl⟩
abbrev main_v92 : Ref sig .tc := ⟨.hbm, 137, rfl⟩
abbrev main_cst_8 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_cst_9 : Ref sig .tc := ⟨.hbm, 149, rfl⟩
abbrev main_v103 : Ref sig .tc := ⟨.hbm, 150, rfl⟩
abbrev main_v104 : Ref sig .tc := ⟨.hbm, 151, rfl⟩
abbrev main_cst_10 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_cst_11 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_cst_12 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩

abbrev nD : Nat := 1
abbrev τ : Topo := Topo.v7x

variable {F : FTy → Type} [FloatOps F]
-- ==== Proof.RwkvPrepRunA.lean ====
/- The run of the preparation's body at a point of the context at the first column tile. -/
module

public import proofs.«01_k».proof.Proof.Gen.Kernel15Ideal.Frame.Runs

@[expose] public section

set_option maxRecDepth 16384

noncomputable section

namespace Cert.Kernel15Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body at a point of the context at the first column tile: what its stores leave in each output's buffer and in each scratch it writes, with the proof
    that it runs to its end on whole buffers and leaves the inputs as they were. -/
noncomputable def kernelRun0_A (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x128 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x512 .f32) (harg11 : arg11.IsWhole) (arg12 : Memref sig .tc .vmem S1x256 .f32) (harg12 : arg12.IsWhole) (arg13 : Memref sig .tc .vmem S1x128 .f32) (harg13 : arg13.IsWhole) (arg14 : Memref sig .tc .vmem S2x1x256 .f32) (harg14 : arg14.IsWhole) (arg15 : Memref sig .tc .vmem S2x128x256 .bf16) (harg15 : arg15.IsWhole) (arg16 : Memref sig .tc .vmem S1x256 .f32) (harg16 : arg16.IsWhole) (arg17 : Memref sig .tc .vmem S128x256 .bf16) (harg17 : arg17.IsWhole) (arg18 : Memref sig .tc .vmem S512x256 .bf16) (harg18 : arg18.IsWhole) (arg19 : Memref sig .tc .vmem S1x256 .f32) (harg19 : arg19.IsWhole) (arg20 : Memref sig .tc .vmem S1x256 .f32) (harg20 : arg20.IsWhole) (arg21 : Memref sig .tc .vmem S256x256 .bf16) (harg21 : arg21.IsWhole) (arg22 : Memref sig .tc .vmem S1024x256 .f32) (harg22 : arg22.IsWhole) (arg23 : Memref sig .tc .vmem S1024x256 .f32) (harg23 : arg23.IsWhole) (arg24 : Memref sig .tc .vmem S1024x256 .f32) (harg24 : arg24.IsWhole) (arg25 : Memref sig .tc .vmem S1024x256 .f32) (harg25 : arg25.IsWhole) (arg26 : Memref sig .tc .vmem S1024x256 .f32) (harg26 : arg26.IsWhole) (arg27 : Memref sig .tc .vmem S2x1024x256 .f32) (harg27 : arg27.IsWhole) (arg28 : Memref sig .tc .vmem S1024x256 .f32) (harg28 : arg28.IsWhole) (arg29 : Memref sig .tc .vmem S1024x512 .bf16) (harg29 : arg29.IsWhole) (arg30 : Memref sig .tc .vmem S1024x256 .bf16) (harg30 : arg30.IsWhole) (arg31 : Memref sig .tc .vmem S1024x128 .bf16) (harg31 : arg31.IsWhole) (hc0 : cond0_0 i) (hc1 : cond0_1 i) (hc2 : ¬cond0_2 i)
    (x0 : Vec F S1024x256 .f32) (x1 : Vec F S1024x256 .f32) (x2 : Vec F S1024x256 .f32) (x3 : Vec F S1024x512 .f32) (x4 : Vec F S1024x256 .f32) (x5 : Vec F S1024x128 .f32) (x6 : Vec F S1x256 .f32) (x7 : Vec F S1x256 .f32) (x8 : Vec F S1x256 .f32) (x9 : Vec F S1x512 .f32) (x10 : Vec F S1x256 .f32) (x11 : Vec F S1x128 .f32) (x12 : Vec F S2x1x256 .f32) (x13 : Vec F S2x128x256 .bf16) (x14 : Vec F S1x256 .f32) (x15 : Vec F S128x256 .bf16) (x16 : Vec F S512x256 .bf16) (x17 : Vec F S1x256 .f32) (x18 : Vec F S1x256 .f32) (x19 : Vec F S256x256 .bf16) :
    Σ' (L20 : List (View.Piece (Elt F) S1024x256 .f32)), Σ' (L21 : List (View.Piece (Elt F) S1024x256 .f32)), Σ' (L22 : List (View.Piece (Elt F) S1024x256 .f32)), Σ' (L23 : List (View.Piece (Elt F) S1024x256 .f32)), Σ' (L24 : List (View.Piece (Elt F) S1024x256 .f32)), Σ' (L25 : List (View.Piece (Elt F) S2x1024x256 .f32)), Σ' (L26 : List (View.Piece (Elt F) S1024x256 .f32)), Σ' (LS0 : List (View.Piece (Elt F) S1024x512 .bf16)), Σ' (LS1 : List (View.Piece (Elt F) S1024x256 .bf16)), { LS2 : List (View.Piece (Elt F) S1024x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f L24) ∗ (∃ f, arg27.view.loc (c : Thread nD τ) ↦[arg27.view.set]{fullShare} arg27.view.writes (Elt F) f L25) ∗ (∃ f, arg28.view.loc (c : Thread nD τ) ↦[arg28.view.set]{fullShare} arg28.view.writes (Elt F) f L26) ∗ (∃ f, arg29.view.loc (c : Thread nD τ) ↦[arg29.view.set]{fullShare} arg29.view.writes (Elt F) f LS0) ∗ (∃ f, arg30.view.loc (c : Thread nD τ) ↦[arg30.view.set]{fullShare} arg30.view.writes (Elt F) f LS1) ∗ (∃ f, arg31.view.loc (c : Thread nD τ) ↦[arg31.view.set]{fullShare} arg31.view.writes (Elt F) f LS2)) -∗ K ⟨⟩))
          ⊢ wp frame (wpE (defs₀ (F := F)) Variants.none c none) E (cc0_rwkv_prep i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K } := by
  refine ⟨?_, ?_, ?_, ?_, ?_, ?_, ?_, ?_, ?_, ?_, fun E K => ?run⟩
  case run =>
    simp only [cc0_rwkv_prep_eq_skeleton]; unfold cc0_rwkv_prep_skel
    simp only [k0_part9_eq_skeleton, k0_part4_eq_skeleton, k0_part1_eq_skeleton, k0_part2_eq_skeleton, k0_part3_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [HS0]; · iexists _; iexact HS0
    isplitl [HS1]; · iexists _; iexact HS1
    iexists _; iexact HS2

end Cert.Kernel15Ideal.Gen

end
-- ==== Proof.RwkvPrepRunB.lean ====
/- The run of the preparation's body at a point of the context past the first column tile. -/
module

public import proofs.«01_k».proof.Proof.RwkvPrepRunA

@[expose] public section

set_option maxRecDepth 16384

noncomputable section

namespace Cert.Kernel15Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body at a point of the context past the first column tile: what its stores leave in each output's buffer and in each scratch it writes, with the proof
    that it runs to its end on whole buffers and leaves the inputs as they were. -/
noncomputable def kernelRun0_B (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x128 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x512 .f32) (harg11 : arg11.IsWhole) (arg12 : Memref sig .tc .vmem S1x256 .f32) (harg12 : arg12.IsWhole) (arg13 : Memref sig .tc .vmem S1x128 .f32) (harg13 : arg13.IsWhole) (arg14 : Memref sig .tc .vmem S2x1x256 .f32) (harg14 : arg14.IsWhole) (arg15 : Memref sig .tc .vmem S2x128x256 .bf16) (harg15 : arg15.IsWhole) (arg16 : Memref sig .tc .vmem S1x256 .f32) (harg16 : arg16.IsWhole) (arg17 : Memref sig .tc .vmem S128x256 .bf16) (harg17 : arg17.IsWhole) (arg18 : Memref sig .tc .vmem S512x256 .bf16) (harg18 : arg18.IsWhole) (arg19 : Memref sig .tc .vmem S1x256 .f32) (harg19 : arg19.IsWhole) (arg20 : Memref sig .tc .vmem S1x256 .f32) (harg20 : arg20.IsWhole) (arg21 : Memref sig .tc .vmem S256x256 .bf16) (harg21 : arg21.IsWhole) (arg22 : Memref sig .tc .vmem S1024x256 .f32) (harg22 : arg22.IsWhole) (arg23 : Memref sig .tc .vmem S1024x256 .f32) (harg23 : arg23.IsWhole) (arg24 : Memref sig .tc .vmem S1024x256 .f32) (harg24 : arg24.IsWhole) (arg25 : Memref sig .tc .vmem S1024x256 .f32) (harg25 : arg25.IsWhole) (arg26 : Memref sig .tc .vmem S1024x256 .f32) (harg26 : arg26.IsWhole) (arg27 : Memref sig .tc .vmem S2x1024x256 .f32) (harg27 : arg27.IsWhole) (arg28 : Memref sig .tc .vmem S1024x256 .f32) (harg28 : arg28.IsWhole) (arg29 : Memref sig .tc .vmem S1024x512 .bf16) (harg29 : arg29.IsWhole) (arg30 : Memref sig .tc .vmem S1024x256 .bf16) (harg30 : arg30.IsWhole) (arg31 : Memref sig .tc .vmem S1024x128 .bf16) (harg31 : arg31.IsWhole) (hc0 : cond0_0 i) (hc1 : ¬cond0_1 i) (hc2 : ¬cond0_2 i)
    (x0 : Vec F S1024x256 .f32) (x1 : Vec F S1024x256 .f32) (x2 : Vec F S1024x256 .f32) (x3 : Vec F S1024x512 .f32) (x4 : Vec F S1024x256 .f32) (x5 : Vec F S1024x128 .f32) (x6 : Vec F S1x256 .f32) (x7 : Vec F S1x256 .f32) (x8 : Vec F S1x256 .f32) (x9 : Vec F S1x512 .f32) (x10 : Vec F S1x256 .f32) (x11 : Vec F S1x128 .f32) (x12 : Vec F S2x1x256 .f32) (x13 : Vec F S2x128x256 .bf16) (x14 : Vec F S1x256 .f32) (x15 : Vec F S128x256 .bf16) (x16 : Vec F S512x256 .bf16) (x17 : Vec F S1x256 .f32) (x18 : Vec F S1x256 .f32) (x19 : Vec F S256x256 .bf16) (xs0 : Vec F S1024x512 .bf16) (xs1 : Vec F S1024x256 .bf16) (xs2 : Vec F S1024x128 .bf16) :
    Σ' (L20 : List (View.Piece (Elt F) S1024x256 .f32)), Σ' (L21 : List (View.Piece (Elt F) S1024x256 .f32)), Σ' (L22 : List (View.Piece (Elt F) S1024x256 .f32)), Σ' (L23 : List (View.Piece (Elt F) S1024x256 .f32)), Σ' (L24 : List (View.Piece (Elt F) S1024x256 .f32)), Σ' (L25 : List (View.Piece (Elt F) S2x1024x256 .f32)), Σ' (L26 : List (View.Piece (Elt F) S1024x256 .f32)), Σ' (LS0 : List (View.Piece (Elt F) S1024x512 .bf16)), Σ' (LS1 : List (View.Piece (Elt F) S1024x256 .bf16)), { LS2 : List (View.Piece (Elt F) S1024x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ owns (c : Thread nD τ) arg29 fullShare xs0 ∗ owns (c : Thread nD τ) arg30 fullShare xs1 ∗ owns (c : Thread nD τ) arg31 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f L24) ∗ (∃ f, arg27.view.loc (c : Thread nD τ) ↦[arg27.view.set]{fullShare} arg27.view.writes (Elt F) f L25) ∗ (∃ f, arg28.view.loc (c : Thread nD τ) ↦[arg28.view.set]{fullShare} arg28.view.writes (Elt F) f L26) ∗ owns (c : Thread nD τ) arg29 fullShare xs0 ∗ owns (c : Thread nD τ) arg30 fullShare xs1 ∗ owns (c : Thread nD τ) arg31 fullShare xs2) -∗ K ⟨⟩))
          ⊢ wp frame (wpE (defs₀ (F := F)) Variants.none c none) E (cc0_rwkv_prep i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K } := by
  refine ⟨?_, ?_, ?_, ?_, ?_, ?_, ?_, [], [], [], fun E K => ?run⟩
  case run =>
    simp only [cc0_rwkv_prep_eq_skeleton]; unfold cc0_rwkv_prep_skel
    simp only [k0_part9_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg29.eq_unread hfs0; obtain rfl := harg30.eq_unread hfs1; obtain rfl := harg31.eq_unread hfs2
    sl_exec (disch := first | sl_exact hc0 | sl_exact hc1 | sl_exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [HS0]
    · iexists _; isplitr; · ipureintro; exact harg29.read_unread _
      iexact HS0
    isplitl [HS1]
    · iexists _; isplitr; · ipureintro; exact harg30.read_unread _
      iexact HS1
    iexists _; isplitr; · ipureintro; exact harg31.read_unread _
    iexact HS2

end Cert.Kernel15Ideal.Gen

end
-- ==== Proof.RwkvPrepRunC.lean ====
/- The run of the preparation's body at a point of the latent tokens at the first column tile. -/
module

public import proofs.«01_k».proof.Proof.RwkvPrepRunB

@[expose] public section

set_option maxRecDepth 16384

noncomputable section

namespace Cert.Kernel15Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body at a point of the latent tokens at the first column tile: what its stores leave in each output's buffer and in each scratch it writes, with the proof
    that it runs to its end on whole buffers and leaves the inputs as they were. -/
noncomputable def kernelRun0_C (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x128 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x512 .f32) (harg11 : arg11.IsWhole) (arg12 : Memref sig .tc .vmem S1x256 .f32) (harg12 : arg12.IsWhole) (arg13 : Memref sig .tc .vmem S1x128 .f32) (harg13 : arg13.IsWhole) (arg14 : Memref sig .tc .vmem S2x1x256 .f32) (harg14 : arg14.IsWhole) (arg15 : Memref sig .tc .vmem S2x128x256 .bf16) (harg15 : arg15.IsWhole) (arg16 : Memref sig .tc .vmem S1x256 .f32) (harg16 : arg16.IsWhole) (arg17 : Memref sig .tc .vmem S128x256 .bf16) (harg17 : arg17.IsWhole) (arg18 : Memref sig .tc .vmem S512x256 .bf16) (harg18 : arg18.IsWhole) (arg19 : Memref sig .tc .vmem S1x256 .f32) (harg19 : arg19.IsWhole) (arg20 : Memref sig .tc .vmem S1x256 .f32) (harg20 : arg20.IsWhole) (arg21 : Memref sig .tc .vmem S256x256 .bf16) (harg21 : arg21.IsWhole) (arg22 : Memref sig .tc .vmem S1024x256 .f32) (harg22 : arg22.IsWhole) (arg23 : Memref sig .tc .vmem S1024x256 .f32) (harg23 : arg23.IsWhole) (arg24 : Memref sig .tc .vmem S1024x256 .f32) (harg24 : arg24.IsWhole) (arg25 : Memref sig .tc .vmem S1024x256 .f32) (harg25 : arg25.IsWhole) (arg26 : Memref sig .tc .vmem S1024x256 .f32) (harg26 : arg26.IsWhole) (arg27 : Memref sig .tc .vmem S2x1024x256 .f32) (harg27 : arg27.IsWhole) (arg28 : Memref sig .tc .vmem S1024x256 .f32) (harg28 : arg28.IsWhole) (arg29 : Memref sig .tc .vmem S1024x512 .bf16) (harg29 : arg29.IsWhole) (arg30 : Memref sig .tc .vmem S1024x256 .bf16) (harg30 : arg30.IsWhole) (arg31 : Memref sig .tc .vmem S1024x128 .bf16) (harg31 : arg31.IsWhole) (hc0 : ¬cond0_0 i) (hc2 : cond0_2 i) (hc3 : cond0_3 i)
    (x0 : Vec F S1024x256 .f32) (x1 : Vec F S1024x256 .f32) (x2 : Vec F S1024x256 .f32) (x3 : Vec F S1024x512 .f32) (x4 : Vec F S1024x256 .f32) (x5 : Vec F S1024x128 .f32) (x6 : Vec F S1x256 .f32) (x7 : Vec F S1x256 .f32) (x8 : Vec F S1x256 .f32) (x9 : Vec F S1x512 .f32) (x10 : Vec F S1x256 .f32) (x11 : Vec F S1x128 .f32) (x12 : Vec F S2x1x256 .f32) (x13 : Vec F S2x128x256 .bf16) (x14 : Vec F S1x256 .f32) (x15 : Vec F S128x256 .bf16) (x16 : Vec F S512x256 .bf16) (x17 : Vec F S1x256 .f32) (x18 : Vec F S1x256 .f32) (x19 : Vec F S256x256 .bf16) :
    Σ' (L20 : List (View.Piece (Elt F) S1024x256 .f32)), Σ' (L21 : List (View.Piece (Elt F) S1024x256 .f32)), Σ' (L22 : List (View.Piece (Elt F) S1024x256 .f32)), Σ' (L23 : List (View.Piece (Elt F) S1024x256 .f32)), Σ' (L24 : List (View.Piece (Elt F) S1024x256 .f32)), Σ' (L25 : List (View.Piece (Elt F) S2x1024x256 .f32)), Σ' (L26 : List (View.Piece (Elt F) S1024x256 .f32)), Σ' (LS0 : List (View.Piece (Elt F) S1024x512 .bf16)), Σ' (LS1 : List (View.Piece (Elt F) S1024x256 .bf16)), { LS2 : List (View.Piece (Elt F) S1024x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d) ∗ (∃ d, owns (c : Thread nD τ) arg30 fullShare d) ∗ (∃ d, owns (c : Thread nD τ) arg31 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f L24) ∗ (∃ f, arg27.view.loc (c : Thread nD τ) ↦[arg27.view.set]{fullShare} arg27.view.writes (Elt F) f L25) ∗ (∃ f, arg28.view.loc (c : Thread nD τ) ↦[arg28.view.set]{fullShare} arg28.view.writes (Elt F) f L26) ∗ (∃ f, arg29.view.loc (c : Thread nD τ) ↦[arg29.view.set]{fullShare} arg29.view.writes (Elt F) f LS0) ∗ (∃ f, arg30.view.loc (c : Thread nD τ) ↦[arg30.view.set]{fullShare} arg30.view.writes (Elt F) f LS1) ∗ (∃ f, arg31.view.loc (c : Thread nD τ) ↦[arg31.view.set]{fullShare} arg31.view.writes (Elt F) f LS2)) -∗ K ⟨⟩))
          ⊢ wp frame (wpE (defs₀ (F := F)) Variants.none c none) E (cc0_rwkv_prep i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K } := by
  refine ⟨?_, ?_, ?_, ?_, ?_, ?_, ?_, ?_, ?_, ?_, fun E K => ?run⟩
  case run =>
    simp only [cc0_rwkv_prep_eq_skeleton]; unfold cc0_rwkv_prep_skel
    simp only [k0_part18_eq_skeleton, k0_part13_eq_skeleton, k0_part10_eq_skeleton, k0_part11_eq_skeleton, k0_part12_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19
    sl_exec (disch := first | sl_exact hc0 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [HS0]; · iexists _; iexact HS0
    isplitl [HS1]; · iexists _; iexact HS1
    iexists _; iexact HS2

end Cert.Kernel15Ideal.Gen

end
-- ==== Proof.RwkvPrepRunD.lean ====
/- The run of the preparation's body at a point of the latent tokens past the first column tile. -/
module

public import proofs.«01_k».proof.Proof.RwkvPrepRunC

@[expose] public section

set_option maxRecDepth 16384

noncomputable section

namespace Cert.Kernel15Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body at a point of the latent tokens past the first column tile: what its stores leave in each output's buffer and in each scratch it writes, with the proof
    that it runs to its end on whole buffers and leaves the inputs as they were. -/
noncomputable def kernelRun0_D (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x128 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x512 .f32) (harg11 : arg11.IsWhole) (arg12 : Memref sig .tc .vmem S1x256 .f32) (harg12 : arg12.IsWhole) (arg13 : Memref sig .tc .vmem S1x128 .f32) (harg13 : arg13.IsWhole) (arg14 : Memref sig .tc .vmem S2x1x256 .f32) (harg14 : arg14.IsWhole) (arg15 : Memref sig .tc .vmem S2x128x256 .bf16) (harg15 : arg15.IsWhole) (arg16 : Memref sig .tc .vmem S1x256 .f32) (harg16 : arg16.IsWhole) (arg17 : Memref sig .tc .vmem S128x256 .bf16) (harg17 : arg17.IsWhole) (arg18 : Memref sig .tc .vmem S512x256 .bf16) (harg18 : arg18.IsWhole) (arg19 : Memref sig .tc .vmem S1x256 .f32) (harg19 : arg19.IsWhole) (arg20 : Memref sig .tc .vmem S1x256 .f32) (harg20 : arg20.IsWhole) (arg21 : Memref sig .tc .vmem S256x256 .bf16) (harg21 : arg21.IsWhole) (arg22 : Memref sig .tc .vmem S1024x256 .f32) (harg22 : arg22.IsWhole) (arg23 : Memref sig .tc .vmem S1024x256 .f32) (harg23 : arg23.IsWhole) (arg24 : Memref sig .tc .vmem S1024x256 .f32) (harg24 : arg24.IsWhole) (arg25 : Memref sig .tc .vmem S1024x256 .f32) (harg25 : arg25.IsWhole) (arg26 : Memref sig .tc .vmem S1024x256 .f32) (harg26 : arg26.IsWhole) (arg27 : Memref sig .tc .vmem S2x1024x256 .f32) (harg27 : arg27.IsWhole) (arg28 : Memref sig .tc .vmem S1024x256 .f32) (harg28 : arg28.IsWhole) (arg29 : Memref sig .tc .vmem S1024x512 .bf16) (harg29 : arg29.IsWhole) (arg30 : Memref sig .tc .vmem S1024x256 .bf16) (harg30 : arg30.IsWhole) (arg31 : Memref sig .tc .vmem S1024x128 .bf16) (harg31 : arg31.IsWhole) (hc0 : ¬cond0_0 i) (hc2 : cond0_2 i) (hc3 : ¬cond0_3 i)
    (x0 : Vec F S1024x256 .f32) (x1 : Vec F S1024x256 .f32) (x2 : Vec F S1024x256 .f32) (x3 : Vec F S1024x512 .f32) (x4 : Vec F S1024x256 .f32) (x5 : Vec F S1024x128 .f32) (x6 : Vec F S1x256 .f32) (x7 : Vec F S1x256 .f32) (x8 : Vec F S1x256 .f32) (x9 : Vec F S1x512 .f32) (x10 : Vec F S1x256 .f32) (x11 : Vec F S1x128 .f32) (x12 : Vec F S2x1x256 .f32) (x13 : Vec F S2x128x256 .bf16) (x14 : Vec F S1x256 .f32) (x15 : Vec F S128x256 .bf16) (x16 : Vec F S512x256 .bf16) (x17 : Vec F S1x256 .f32) (x18 : Vec F S1x256 .f32) (x19 : Vec F S256x256 .bf16) (xs0 : Vec F S1024x512 .bf16) (xs1 : Vec F S1024x256 .bf16) (xs2 : Vec F S1024x128 .bf16) :
    Σ' (L20 : List (View.Piece (Elt F) S1024x256 .f32)), Σ' (L21 : List (View.Piece (Elt F) S1024x256 .f32)), Σ' (L22 : List (View.Piece (Elt F) S1024x256 .f32)), Σ' (L23 : List (View.Piece (Elt F) S1024x256 .f32)), Σ' (L24 : List (View.Piece (Elt F) S1024x256 .f32)), Σ' (L25 : List (View.Piece (Elt F) S2x1024x256 .f32)), Σ' (L26 : List (View.Piece (Elt F) S1024x256 .f32)), Σ' (LS0 : List (View.Piece (Elt F) S1024x512 .bf16)), Σ' (LS1 : List (View.Piece (Elt F) S1024x256 .bf16)), { LS2 : List (View.Piece (Elt F) S1024x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ owns (c : Thread nD τ) arg29 fullShare xs0 ∗ owns (c : Thread nD τ) arg30 fullShare xs1 ∗ owns (c : Thread nD τ) arg31 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ owns (c : Thread nD τ) arg21 fullShare x19 ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f L24) ∗ (∃ f, arg27.view.loc (c : Thread nD τ) ↦[arg27.view.set]{fullShare} arg27.view.writes (Elt F) f L25) ∗ (∃ f, arg28.view.loc (c : Thread nD τ) ↦[arg28.view.set]{fullShare} arg28.view.writes (Elt F) f L26) ∗ owns (c : Thread nD τ) arg29 fullShare xs0 ∗ owns (c : Thread nD τ) arg30 fullShare xs1 ∗ owns (c : Thread nD τ) arg31 fullShare xs2) -∗ K ⟨⟩))
          ⊢ wp frame (wpE (defs₀ (F := F)) Variants.none c none) E (cc0_rwkv_prep i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31) K } := by
  refine ⟨?_, ?_, ?_, ?_, ?_, ?_, ?_, [], [], [], fun E K => ?run⟩
  case run =>
    simp only [cc0_rwkv_prep_eq_skeleton]; unfold cc0_rwkv_prep_skel
    simp only [k0_part18_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19; obtain rfl := harg29.eq_unread hfs0; obtain rfl := harg30.eq_unread hfs1; obtain rfl := harg31.eq_unread hfs2
    sl_exec (disch := first | sl_exact hc0 | sl_exact hc2 | sl_exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]
    · iexists _; isplitr; · ipureintro; exact harg21.read_unread _
      iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    isplitl [HS0]
    · iexists _; isplitr; · ipureintro; exact harg29.read_unread _
      iexact HS0
    isplitl [HS1]
    · iexists _; isplitr; · ipureintro; exact harg30.read_unread _
      iexact HS1
    iexists _; isplitr; · ipureintro; exact harg31.read_unread _
    iexact HS2

end Cert.Kernel15Ideal.Gen

end
-- ==== Proof.RwkvPrepCov.lean ====
/- What each output's buffer and each carried scratch holds after the body, for each of the four kinds of grid point, and that the
   stores cover it. -/
module

public import proofs.«01_k».proof.Proof.RwkvPrepRunD

@[expose] public section

set_option maxRecDepth 16384

noncomputable section

namespace Cert.Kernel15Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
section

variable (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x128 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x512 .f32) (harg11 : arg11.IsWhole) (arg12 : Memref sig .tc .vmem S1x256 .f32) (harg12 : arg12.IsWhole) (arg13 : Memref sig .tc .vmem S1x128 .f32) (harg13 : arg13.IsWhole) (arg14 : Memref sig .tc .vmem S2x1x256 .f32) (harg14 : arg14.IsWhole) (arg15 : Memref sig .tc .vmem S2x128x256 .bf16) (harg15 : arg15.IsWhole) (arg16 : Memref sig .tc .vmem S1x256 .f32) (harg16 : arg16.IsWhole) (arg17 : Memref sig .tc .vmem S128x256 .bf16) (harg17 : arg17.IsWhole) (arg18 : Memref sig .tc .vmem S512x256 .bf16) (harg18 : arg18.IsWhole) (arg19 : Memref sig .tc .vmem S1x256 .f32) (harg19 : arg19.IsWhole) (arg20 : Memref sig .tc .vmem S1x256 .f32) (harg20 : arg20.IsWhole) (arg21 : Memref sig .tc .vmem S256x256 .bf16) (harg21 : arg21.IsWhole) (arg22 : Memref sig .tc .vmem S1024x256 .f32) (harg22 : arg22.IsWhole) (arg23 : Memref sig .tc .vmem S1024x256 .f32) (harg23 : arg23.IsWhole) (arg24 : Memref sig .tc .vmem S1024x256 .f32) (harg24 : arg24.IsWhole) (arg25 : Memref sig .tc .vmem S1024x256 .f32) (harg25 : arg25.IsWhole) (arg26 : Memref sig .tc .vmem S1024x256 .f32) (harg26 : arg26.IsWhole) (arg27 : Memref sig .tc .vmem S2x1024x256 .f32) (harg27 : arg27.IsWhole) (arg28 : Memref sig .tc .vmem S1024x256 .f32) (harg28 : arg28.IsWhole) (arg29 : Memref sig .tc .vmem S1024x512 .bf16) (harg29 : arg29.IsWhole) (arg30 : Memref sig .tc .vmem S1024x256 .bf16) (harg30 : arg30.IsWhole) (arg31 : Memref sig .tc .vmem S1024x128 .bf16) (harg31 : arg31.IsWhole) (hc0 : cond0_0 i) (hc1 : cond0_1 i) (hc2 : ¬cond0_2 i)
    (x0 : Vec F S1024x256 .f32) (x1 : Vec F S1024x256 .f32) (x2 : Vec F S1024x256 .f32) (x3 : Vec F S1024x512 .f32) (x4 : Vec F S1024x256 .f32) (x5 : Vec F S1024x128 .f32) (x6 : Vec F S1x256 .f32) (x7 : Vec F S1x256 .f32) (x8 : Vec F S1x256 .f32) (x9 : Vec F S1x512 .f32) (x10 : Vec F S1x256 .f32) (x11 : Vec F S1x128 .f32) (x12 : Vec F S2x1x256 .f32) (x13 : Vec F S2x128x256 .bf16) (x14 : Vec F S1x256 .f32) (x15 : Vec F S128x256 .bf16) (x16 : Vec F S512x256 .bf16) (x17 : Vec F S1x256 .f32) (x18 : Vec F S1x256 .f32) (x19 : Vec F S256x256 .bf16)

theorem cover0_A_20 (y : S1024x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 x0 x1 x2 x3 x4 x5 x6 x7 x8 x9 x10 x11 x12 x13 x14 x15 x16 x17 x18 x19).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 x0 x1 x2 x3 x4 x5 x6 x7 x8 x9 x10 x11 x12 x13 x14 x15 x16 x17 x18 x19).1 S1024x256.size (by sl_kernel_rfl) y

/-- What that point leaves there. -/
def out0_A_20 : Vec F S1024x256 .f32 :=
  VO0_20.read (Elt F) (VO0_20.writes (Elt F) VO0_20.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 x0 x1 x2 x3 x4 x5 x6 x7 x8 x9 x10 x11 x12 x13 x14 x15 x16 x17 x18 x19).1)

theorem cover0_A_21 (y : S1024x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 x0 x1 x2 x3 x4 x5 x6 x7 x8 x9 x10 x11 x12 x13 x14 x15 x16 x17 x18 x19).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 x0 x1 x2 x3 x4 x5 x6 x7 x8 x9 x10 x11 x12 x13 x14 x15 x16 x17 x18 x19).2.1 S1024x256.size (by sl_kernel_rfl) y

/-- What that point leaves there. -/
def out0_A_21 : Vec F S1024x256 .f32 :=
  VO0_21.read (Elt F) (VO0_21.writes (Elt F) VO0_21.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 x0 x1 x2 x3 x4 x5 x6 x7 x8 x9 x10 x11 x12 x13 x14 x15 x16 x17 x18 x19).2.1)

theorem cover0_A_22 (y : S1024x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 x0 x1 x2 x3 x4 x5 x6 x7 x8 x9 x10 x11 x12 x13 x14 x15 x16 x17 x18 x19).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 x0 x1 x2 x3 x4 x5 x6 x7 x8 x9 x10 x11 x12 x13 x14 x15 x16 x17 x18 x19).2.2.1 S1024x256.size (by sl_kernel_rfl) y

/-- What that point leaves there. -/
def out0_A_22 : Vec F S1024x256 .f32 :=
  VO0_22.read (Elt F) (VO0_22.writes (Elt F) VO0_22.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 x0 x1 x2 x3 x4 x5 x6 x7 x8 x9 x10 x11 x12 x13 x14 x15 x16 x17 x18 x19).2.2.1)

theorem cover0_A_23 (y : S1024x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 x0 x1 x2 x3 x4 x5 x6 x7 x8 x9 x10 x11 x12 x13 x14 x15 x16 x17 x18 x19).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 x0 x1 x2 x3 x4 x5 x6 x7 x8 x9 x10 x11 x12 x13 x14 x15 x16 x17 x18 x19).2.2.2.1 S1024x256.size (by sl_kernel_rfl) y

/-- What that point leaves there. -/
def out0_A_23 : Vec F S1024x256 .f32 :=
  VO0_23.read (Elt F) (VO0_23.writes (Elt F) VO0_23.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 x0 x1 x2 x3 x4 x5 x6 x7 x8 x9 x10 x11 x12 x13 x14 x15 x16 x17 x18 x19).2.2.2.1)

theorem cover0_A_24 (y : S1024x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 x0 x1 x2 x3 x4 x5 x6 x7 x8 x9 x10 x11 x12 x13 x14 x15 x16 x17 x18 x19).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 x0 x1 x2 x3 x4 x5 x6 x7 x8 x9 x10 x11 x12 x13 x14 x15 x16 x17 x18 x19).2.2.2.2.1 S1024x256.size (by sl_kernel_rfl) y

/-- What that point leaves there. -/
def out0_A_24 : Vec F S1024x256 .f32 :=
  VO0_24.read (Elt F) (VO0_24.writes (Elt F) VO0_24.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 x0 x1 x2 x3 x4 x5 x6 x7 x8 x9 x10 x11 x12 x13 x14 x15 x16 x17 x18 x19).2.2.2.2.1)

theorem cover0_A_25 (y : S2x1024x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 x0 x1 x2 x3 x4 x5 x6 x7 x8 x9 x10 x11 x12 x13 x14 x15 x16 x17 x18 x19).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 x0 x1 x2 x3 x4 x5 x6 x7 x8 x9 x10 x11 x12 x13 x14 x15 x16 x17 x18 x19).2.2.2.2.2.1 S1x1024x256.size (by sl_kernel_rfl) y

/-- What that point leaves there. -/
def out0_A_25 : Vec F S2x1024x256 .f32 :=
  VO0_25.read (Elt F) (VO0_25.writes (Elt F) VO0_25.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 x0 x1 x2 x3 x4 x5 x6 x7 x8 x9 x10 x11 x12 x13 x14 x15 x16 x17 x18 x19).2.2.2.2.2.1)

theorem cover0_A_26 (y : S1024x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 x0 x1 x2 x3 x4 x5 x6 x7 x8 x9 x10 x11 x12 x13 x14 x15 x16 x17 x18 x19).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 x0 x1 x2 x3 x4 x5 x6 x7 x8 x9 x10 x11 x12 x13 x14 x15 x16 x17 x18 x19).2.2.2.2.2.2.1 S1024x256.size (by sl_kernel_rfl) y

/-- What that point leaves there. -/
def out0_A_26 : Vec F S1024x256 .f32 :=
  VO0_26.read (Elt F) (VO0_26.writes (Elt F) VO0_26.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 x0 x1 x2 x3 x4 x5 x6 x7 x8 x9 x10 x11 x12 x13 x14 x15 x16 x17 x18 x19).2.2.2.2.2.2.1)

theorem scover0_A_0 (y : S1024x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 x0 x1 x2 x3 x4 x5 x6 x7 x8 x9 x10 x11 x12 x13 x14 x15 x16 x17 x18 x19).2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 x0 x1 x2 x3 x4 x5 x6 x7 x8 x9 x10 x11 x12 x13 x14 x15 x16 x17 x18 x19).2.2.2.2.2.2.2.1 S1024x512.size (by sl_kernel_rfl) y

/-- What that point leaves there. -/
def sout0_A_0 : Vec F S1024x512 .bf16 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 x0 x1 x2 x3 x4 x5 x6 x7 x8 x9 x10 x11 x12 x13 x14 x15 x16 x17 x18 x19).2.2.2.2.2.2.2.1)

theorem scover0_A_1 (y : S1024x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 x0 x1 x2 x3 x4 x5 x6 x7 x8 x9 x10 x11 x12 x13 x14 x15 x16 x17 x18 x19).2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 x0 x1 x2 x3 x4 x5 x6 x7 x8 x9 x10 x11 x12 x13 x14 x15 x16 x17 x18 x19).2.2.2.2.2.2.2.2.1 S1024x256.size (by sl_kernel_rfl) y

/-- What that point leaves there. -/
def sout0_A_1 : Vec F S1024x256 .bf16 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 x0 x1 x2 x3 x4 x5 x6 x7 x8 x9 x10 x11 x12 x13 x14 x15 x16 x17 x18 x19).2.2.2.2.2.2.2.2.1)

theorem scover0_A_2 (y : S1024x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 x0 x1 x2 x3 x4 x5 x6 x7 x8 x9 x10 x11 x12 x13 x14 x15 x16 x17 x18 x19).2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 x0 x1 x2 x3 x4 x5 x6 x7 x8 x9 x10 x11 x12 x13 x14 x15 x16 x17 x18 x19).2.2.2.2.2.2.2.2.2.1 S1024x128.size (by sl_kernel_rfl) y

/-- What that point leaves there. -/
def sout0_A_2 : Vec F S1024x128 .bf16 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 x0 x1 x2 x3 x4 x5 x6 x7 x8 x9 x10 x11 x12 x13 x14 x15 x16 x17 x18 x19).2.2.2.2.2.2.2.2.2.1)

end

section

variable (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x128 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x512 .f32) (harg11 : arg11.IsWhole) (arg12 : Memref sig .tc .vmem S1x256 .f32) (harg12 : arg12.IsWhole) (arg13 : Memref sig .tc .vmem S1x128 .f32) (harg13 : arg13.IsWhole) (arg14 : Memref sig .tc .vmem S2x1x256 .f32) (harg14 : arg14.IsWhole) (arg15 : Memref sig .tc .vmem S2x128x256 .bf16) (harg15 : arg15.IsWhole) (arg16 : Memref sig .tc .vmem S1x256 .f32) (harg16 : arg16.IsWhole) (arg17 : Memref sig .tc .vmem S128x256 .bf16) (harg17 : arg17.IsWhole) (arg18 : Memref sig .tc .vmem S512x256 .bf16) (harg18 : arg18.IsWhole) (arg19 : Memref sig .tc .vmem S1x256 .f32) (harg19 : arg19.IsWhole) (arg20 : Memref sig .tc .vmem S1x256 .f32) (harg20 : arg20.IsWhole) (arg21 : Memref sig .tc .vmem S256x256 .bf16) (harg21 : arg21.IsWhole) (arg22 : Memref sig .tc .vmem S1024x256 .f32) (harg22 : arg22.IsWhole) (arg23 : Memref sig .tc .vmem S1024x256 .f32) (harg23 : arg23.IsWhole) (arg24 : Memref sig .tc .vmem S1024x256 .f32) (harg24 : arg24.IsWhole) (arg25 : Memref sig .tc .vmem S1024x256 .f32) (harg25 : arg25.IsWhole) (arg26 : Memref sig .tc .vmem S1024x256 .f32) (harg26 : arg26.IsWhole) (arg27 : Memref sig .tc .vmem S2x1024x256 .f32) (harg27 : arg27.IsWhole) (arg28 : Memref sig .tc .vmem S1024x256 .f32) (harg28 : arg28.IsWhole) (arg29 : Memref sig .tc .vmem S1024x512 .bf16) (harg29 : arg29.IsWhole) (arg30 : Memref sig .tc .vmem S1024x256 .bf16) (harg30 : arg30.IsWhole) (arg31 : Memref sig .tc .vmem S1024x128 .bf16) (harg31 : arg31.IsWhole) (hc0 : cond0_0 i) (hc1 : ¬cond0_1 i) (hc2 : ¬cond0_2 i)
    (x0 : Vec F S1024x256 .f32) (x1 : Vec F S1024x256 .f32) (x2 : Vec F S1024x256 .f32) (x3 : Vec F S1024x512 .f32) (x4 : Vec F S1024x256 .f32) (x5 : Vec F S1024x128 .f32) (x6 : Vec F S1x256 .f32) (x7 : Vec F S1x256 .f32) (x8 : Vec F S1x256 .f32) (x9 : Vec F S1x512 .f32) (x10 : Vec F S1x256 .f32) (x11 : Vec F S1x128 .f32) (x12 : Vec F S2x1x256 .f32) (x13 : Vec F S2x128x256 .bf16) (x14 : Vec F S1x256 .f32) (x15 : Vec F S128x256 .bf16) (x16 : Vec F S512x256 .bf16) (x17 : Vec F S1x256 .f32) (x18 : Vec F S1x256 .f32) (x19 : Vec F S256x256 .bf16) (xs0 : Vec F S1024x512 .bf16) (xs1 : Vec F S1024x256 .bf16) (xs2 : Vec F S1024x128 .bf16)

theorem cover0_B_20 (y : S1024x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 x0 x1 x2 x3 x4 x5 x6 x7 x8 x9 x10 x11 x12 x13 x14 x15 x16 x17 x18 x19 xs0 xs1 xs2).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 x0 x1 x2 x3 x4 x5 x6 x7 x8 x9 x10 x11 x12 x13 x14 x15 x16 x17 x18 x19 xs0 xs1 xs2).1 S1024x256.size (by sl_kernel_rfl) y

/-- What that point leaves there. -/
def out0_B_20 : Vec F S1024x256 .f32 :=
  VO0_20.read (Elt F) (VO0_20.writes (Elt F) VO0_20.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 x0 x1 x2 x3 x4 x5 x6 x7 x8 x9 x10 x11 x12 x13 x14 x15 x16 x17 x18 x19 xs0 xs1 xs2).1)

theorem cover0_B_21 (y : S1024x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 x0 x1 x2 x3 x4 x5 x6 x7 x8 x9 x10 x11 x12 x13 x14 x15 x16 x17 x18 x19 xs0 xs1 xs2).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 x0 x1 x2 x3 x4 x5 x6 x7 x8 x9 x10 x11 x12 x13 x14 x15 x16 x17 x18 x19 xs0 xs1 xs2).2.1 S1024x256.size (by sl_kernel_rfl) y

/-- What that point leaves there. -/
def out0_B_21 : Vec F S1024x256 .f32 :=
  VO0_21.read (Elt F) (VO0_21.writes (Elt F) VO0_21.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 x0 x1 x2 x3 x4 x5 x6 x7 x8 x9 x10 x11 x12 x13 x14 x15 x16 x17 x18 x19 xs0 xs1 xs2).2.1)

theorem cover0_B_22 (y : S1024x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 x0 x1 x2 x3 x4 x5 x6 x7 x8 x9 x10 x11 x12 x13 x14 x15 x16 x17 x18 x19 xs0 xs1 xs2).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 x0 x1 x2 x3 x4 x5 x6 x7 x8 x9 x10 x11 x12 x13 x14 x15 x16 x17 x18 x19 xs0 xs1 xs2).2.2.1 S1024x256.size (by sl_kernel_rfl) y

/-- What that point leaves there. -/
def out0_B_22 : Vec F S1024x256 .f32 :=
  VO0_22.read (Elt F) (VO0_22.writes (Elt F) VO0_22.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 x0 x1 x2 x3 x4 x5 x6 x7 x8 x9 x10 x11 x12 x13 x14 x15 x16 x17 x18 x19 xs0 xs1 xs2).2.2.1)

theorem cover0_B_23 (y : S1024x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 x0 x1 x2 x3 x4 x5 x6 x7 x8 x9 x10 x11 x12 x13 x14 x15 x16 x17 x18 x19 xs0 xs1 xs2).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 x0 x1 x2 x3 x4 x5 x6 x7 x8 x9 x10 x11 x12 x13 x14 x15 x16 x17 x18 x19 xs0 xs1 xs2).2.2.2.1 S1024x256.size (by sl_kernel_rfl) y

/-- What that point leaves there. -/
def out0_B_23 : Vec F S1024x256 .f32 :=
  VO0_23.read (Elt F) (VO0_23.writes (Elt F) VO0_23.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 x0 x1 x2 x3 x4 x5 x6 x7 x8 x9 x10 x11 x12 x13 x14 x15 x16 x17 x18 x19 xs0 xs1 xs2).2.2.2.1)

theorem cover0_B_24 (y : S1024x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 x0 x1 x2 x3 x4 x5 x6 x7 x8 x9 x10 x11 x12 x13 x14 x15 x16 x17 x18 x19 xs0 xs1 xs2).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 x0 x1 x2 x3 x4 x5 x6 x7 x8 x9 x10 x11 x12 x13 x14 x15 x16 x17 x18 x19 xs0 xs1 xs2).2.2.2.2.1 S1024x256.size (by sl_kernel_rfl) y

/-- What that point leaves there. -/
def out0_B_24 : Vec F S1024x256 .f32 :=
  VO0_24.read (Elt F) (VO0_24.writes (Elt F) VO0_24.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 x0 x1 x2 x3 x4 x5 x6 x7 x8 x9 x10 x11 x12 x13 x14 x15 x16 x17 x18 x19 xs0 xs1 xs2).2.2.2.2.1)

theorem cover0_B_25 (y : S2x1024x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 x0 x1 x2 x3 x4 x5 x6 x7 x8 x9 x10 x11 x12 x13 x14 x15 x16 x17 x18 x19 xs0 xs1 xs2).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 x0 x1 x2 x3 x4 x5 x6 x7 x8 x9 x10 x11 x12 x13 x14 x15 x16 x17 x18 x19 xs0 xs1 xs2).2.2.2.2.2.1 S1x1024x256.size (by sl_kernel_rfl) y

/-- What that point leaves there. -/
def out0_B_25 : Vec F S2x1024x256 .f32 :=
  VO0_25.read (Elt F) (VO0_25.writes (Elt F) VO0_25.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 x0 x1 x2 x3 x4 x5 x6 x7 x8 x9 x10 x11 x12 x13 x14 x15 x16 x17 x18 x19 xs0 xs1 xs2).2.2.2.2.2.1)

theorem cover0_B_26 (y : S1024x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 x0 x1 x2 x3 x4 x5 x6 x7 x8 x9 x10 x11 x12 x13 x14 x15 x16 x17 x18 x19 xs0 xs1 xs2).2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 x0 x1 x2 x3 x4 x5 x6 x7 x8 x9 x10 x11 x12 x13 x14 x15 x16 x17 x18 x19 xs0 xs1 xs2).2.2.2.2.2.2.1 S1024x256.size (by sl_kernel_rfl) y

/-- What that point leaves there. -/
def out0_B_26 : Vec F S1024x256 .f32 :=
  VO0_26.read (Elt F) (VO0_26.writes (Elt F) VO0_26.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc1 hc2 x0 x1 x2 x3 x4 x5 x6 x7 x8 x9 x10 x11 x12 x13 x14 x15 x16 x17 x18 x19 xs0 xs1 xs2).2.2.2.2.2.2.1)

/-- What that point leaves there. -/
def sout0_B_0 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x128 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x512 .f32) (harg11 : arg11.IsWhole) (arg12 : Memref sig .tc .vmem S1x256 .f32) (harg12 : arg12.IsWhole) (arg13 : Memref sig .tc .vmem S1x128 .f32) (harg13 : arg13.IsWhole) (arg14 : Memref sig .tc .vmem S2x1x256 .f32) (harg14 : arg14.IsWhole) (arg15 : Memref sig .tc .vmem S2x128x256 .bf16) (harg15 : arg15.IsWhole) (arg16 : Memref sig .tc .vmem S1x256 .f32) (harg16 : arg16.IsWhole) (arg17 : Memref sig .tc .vmem S128x256 .bf16) (harg17 : arg17.IsWhole) (arg18 : Memref sig .tc .vmem S512x256 .bf16) (harg18 : arg18.IsWhole) (arg19 : Memref sig .tc .vmem S1x256 .f32) (harg19 : arg19.IsWhole) (arg20 : Memref sig .tc .vmem S1x256 .f32) (harg20 : arg20.IsWhole) (arg21 : Memref sig .tc .vmem S256x256 .bf16) (harg21 : arg21.IsWhole) (arg22 : Memref sig .tc .vmem S1024x256 .f32) (harg22 : arg22.IsWhole) (arg23 : Memref sig .tc .vmem S1024x256 .f32) (harg23 : arg23.IsWhole) (arg24 : Memref sig .tc .vmem S1024x256 .f32) (harg24 : arg24.IsWhole) (arg25 : Memref sig .tc .vmem S1024x256 .f32) (harg25 : arg25.IsWhole) (arg26 : Memref sig .tc .vmem S1024x256 .f32) (harg26 : arg26.IsWhole) (arg27 : Memref sig .tc .vmem S2x1024x256 .f32) (harg27 : arg27.IsWhole) (arg28 : Memref sig .tc .vmem S1024x256 .f32) (harg28 : arg28.IsWhole) (arg29 : Memref sig .tc .vmem S1024x512 .bf16) (harg29 : arg29.IsWhole) (arg30 : Memref sig .tc .vmem S1024x256 .bf16) (harg30 : arg30.IsWhole) (arg31 : Memref sig .tc .vmem S1024x128 .bf16) (harg31 : arg31.IsWhole) (hc0 : cond0_0 i) (hc1 : ¬cond0_1 i) (hc2 : ¬cond0_2 i)
    (x0 : Vec F S1024x256 .f32) (x1 : Vec F S1024x256 .f32) (x2 : Vec F S1024x256 .f32) (x3 : Vec F S1024x512 .f32) (x4 : Vec F S1024x256 .f32) (x5 : Vec F S1024x128 .f32) (x6 : Vec F S1x256 .f32) (x7 : Vec F S1x256 .f32) (x8 : Vec F S1x256 .f32) (x9 : Vec F S1x512 .f32) (x10 : Vec F S1x256 .f32) (x11 : Vec F S1x128 .f32) (x12 : Vec F S2x1x256 .f32) (x13 : Vec F S2x128x256 .bf16) (x14 : Vec F S1x256 .f32) (x15 : Vec F S128x256 .bf16) (x16 : Vec F S512x256 .bf16) (x17 : Vec F S1x256 .f32) (x18 : Vec F S1x256 .f32) (x19 : Vec F S256x256 .bf16) (xs0 : Vec F S1024x512 .bf16) (xs1 : Vec F S1024x256 .bf16) (xs2 : Vec F S1024x128 .bf16) : Vec F S1024x512 .bf16 := xs0

/-- What that point leaves there. -/
def sout0_B_1 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x128 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x512 .f32) (harg11 : arg11.IsWhole) (arg12 : Memref sig .tc .vmem S1x256 .f32) (harg12 : arg12.IsWhole) (arg13 : Memref sig .tc .vmem S1x128 .f32) (harg13 : arg13.IsWhole) (arg14 : Memref sig .tc .vmem S2x1x256 .f32) (harg14 : arg14.IsWhole) (arg15 : Memref sig .tc .vmem S2x128x256 .bf16) (harg15 : arg15.IsWhole) (arg16 : Memref sig .tc .vmem S1x256 .f32) (harg16 : arg16.IsWhole) (arg17 : Memref sig .tc .vmem S128x256 .bf16) (harg17 : arg17.IsWhole) (arg18 : Memref sig .tc .vmem S512x256 .bf16) (harg18 : arg18.IsWhole) (arg19 : Memref sig .tc .vmem S1x256 .f32) (harg19 : arg19.IsWhole) (arg20 : Memref sig .tc .vmem S1x256 .f32) (harg20 : arg20.IsWhole) (arg21 : Memref sig .tc .vmem S256x256 .bf16) (harg21 : arg21.IsWhole) (arg22 : Memref sig .tc .vmem S1024x256 .f32) (harg22 : arg22.IsWhole) (arg23 : Memref sig .tc .vmem S1024x256 .f32) (harg23 : arg23.IsWhole) (arg24 : Memref sig .tc .vmem S1024x256 .f32) (harg24 : arg24.IsWhole) (arg25 : Memref sig .tc .vmem S1024x256 .f32) (harg25 : arg25.IsWhole) (arg26 : Memref sig .tc .vmem S1024x256 .f32) (harg26 : arg26.IsWhole) (arg27 : Memref sig .tc .vmem S2x1024x256 .f32) (harg27 : arg27.IsWhole) (arg28 : Memref sig .tc .vmem S1024x256 .f32) (harg28 : arg28.IsWhole) (arg29 : Memref sig .tc .vmem S1024x512 .bf16) (harg29 : arg29.IsWhole) (arg30 : Memref sig .tc .vmem S1024x256 .bf16) (harg30 : arg30.IsWhole) (arg31 : Memref sig .tc .vmem S1024x128 .bf16) (harg31 : arg31.IsWhole) (hc0 : cond0_0 i) (hc1 : ¬cond0_1 i) (hc2 : ¬cond0_2 i)
    (x0 : Vec F S1024x256 .f32) (x1 : Vec F S1024x256 .f32) (x2 : Vec F S1024x256 .f32) (x3 : Vec F S1024x512 .f32) (x4 : Vec F S1024x256 .f32) (x5 : Vec F S1024x128 .f32) (x6 : Vec F S1x256 .f32) (x7 : Vec F S1x256 .f32) (x8 : Vec F S1x256 .f32) (x9 : Vec F S1x512 .f32) (x10 : Vec F S1x256 .f32) (x11 : Vec F S1x128 .f32) (x12 : Vec F S2x1x256 .f32) (x13 : Vec F S2x128x256 .bf16) (x14 : Vec F S1x256 .f32) (x15 : Vec F S128x256 .bf16) (x16 : Vec F S512x256 .bf16) (x17 : Vec F S1x256 .f32) (x18 : Vec F S1x256 .f32) (x19 : Vec F S256x256 .bf16) (xs0 : Vec F S1024x512 .bf16) (xs1 : Vec F S1024x256 .bf16) (xs2 : Vec F S1024x128 .bf16) : Vec F S1024x256 .bf16 := xs1

/-- What that point leaves there. -/
def sout0_B_2 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x128 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x512 .f32) (harg11 : arg11.IsWhole) (arg12 : Memref sig .tc .vmem S1x256 .f32) (harg12 : arg12.IsWhole) (arg13 : Memref sig .tc .vmem S1x128 .f32) (harg13 : arg13.IsWhole) (arg14 : Memref sig .tc .vmem S2x1x256 .f32) (harg14 : arg14.IsWhole) (arg15 : Memref sig .tc .vmem S2x128x256 .bf16) (harg15 : arg15.IsWhole) (arg16 : Memref sig .tc .vmem S1x256 .f32) (harg16 : arg16.IsWhole) (arg17 : Memref sig .tc .vmem S128x256 .bf16) (harg17 : arg17.IsWhole) (arg18 : Memref sig .tc .vmem S512x256 .bf16) (harg18 : arg18.IsWhole) (arg19 : Memref sig .tc .vmem S1x256 .f32) (harg19 : arg19.IsWhole) (arg20 : Memref sig .tc .vmem S1x256 .f32) (harg20 : arg20.IsWhole) (arg21 : Memref sig .tc .vmem S256x256 .bf16) (harg21 : arg21.IsWhole) (arg22 : Memref sig .tc .vmem S1024x256 .f32) (harg22 : arg22.IsWhole) (arg23 : Memref sig .tc .vmem S1024x256 .f32) (harg23 : arg23.IsWhole) (arg24 : Memref sig .tc .vmem S1024x256 .f32) (harg24 : arg24.IsWhole) (arg25 : Memref sig .tc .vmem S1024x256 .f32) (harg25 : arg25.IsWhole) (arg26 : Memref sig .tc .vmem S1024x256 .f32) (harg26 : arg26.IsWhole) (arg27 : Memref sig .tc .vmem S2x1024x256 .f32) (harg27 : arg27.IsWhole) (arg28 : Memref sig .tc .vmem S1024x256 .f32) (harg28 : arg28.IsWhole) (arg29 : Memref sig .tc .vmem S1024x512 .bf16) (harg29 : arg29.IsWhole) (arg30 : Memref sig .tc .vmem S1024x256 .bf16) (harg30 : arg30.IsWhole) (arg31 : Memref sig .tc .vmem S1024x128 .bf16) (harg31 : arg31.IsWhole) (hc0 : cond0_0 i) (hc1 : ¬cond0_1 i) (hc2 : ¬cond0_2 i)
    (x0 : Vec F S1024x256 .f32) (x1 : Vec F S1024x256 .f32) (x2 : Vec F S1024x256 .f32) (x3 : Vec F S1024x512 .f32) (x4 : Vec F S1024x256 .f32) (x5 : Vec F S1024x128 .f32) (x6 : Vec F S1x256 .f32) (x7 : Vec F S1x256 .f32) (x8 : Vec F S1x256 .f32) (x9 : Vec F S1x512 .f32) (x10 : Vec F S1x256 .f32) (x11 : Vec F S1x128 .f32) (x12 : Vec F S2x1x256 .f32) (x13 : Vec F S2x128x256 .bf16) (x14 : Vec F S1x256 .f32) (x15 : Vec F S128x256 .bf16) (x16 : Vec F S512x256 .bf16) (x17 : Vec F S1x256 .f32) (x18 : Vec F S1x256 .f32) (x19 : Vec F S256x256 .bf16) (xs0 : Vec F S1024x512 .bf16) (xs1 : Vec F S1024x256 .bf16) (xs2 : Vec F S1024x128 .bf16) : Vec F S1024x128 .bf16 := xs2

end

section

variable (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x128 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x512 .f32) (harg11 : arg11.IsWhole) (arg12 : Memref sig .tc .vmem S1x256 .f32) (harg12 : arg12.IsWhole) (arg13 : Memref sig .tc .vmem S1x128 .f32) (harg13 : arg13.IsWhole) (arg14 : Memref sig .tc .vmem S2x1x256 .f32) (harg14 : arg14.IsWhole) (arg15 : Memref sig .tc .vmem S2x128x256 .bf16) (harg15 : arg15.IsWhole) (arg16 : Memref sig .tc .vmem S1x256 .f32) (harg16 : arg16.IsWhole) (arg17 : Memref sig .tc .vmem S128x256 .bf16) (harg17 : arg17.IsWhole) (arg18 : Memref sig .tc .vmem S512x256 .bf16) (harg18 : arg18.IsWhole) (arg19 : Memref sig .tc .vmem S1x256 .f32) (harg19 : arg19.IsWhole) (arg20 : Memref sig .tc .vmem S1x256 .f32) (harg20 : arg20.IsWhole) (arg21 : Memref sig .tc .vmem S256x256 .bf16) (harg21 : arg21.IsWhole) (arg22 : Memref sig .tc .vmem S1024x256 .f32) (harg22 : arg22.IsWhole) (arg23 : Memref sig .tc .vmem S1024x256 .f32) (harg23 : arg23.IsWhole) (arg24 : Memref sig .tc .vmem S1024x256 .f32) (harg24 : arg24.IsWhole) (arg25 : Memref sig .tc .vmem S1024x256 .f32) (harg25 : arg25.IsWhole) (arg26 : Memref sig .tc .vmem S1024x256 .f32) (harg26 : arg26.IsWhole) (arg27 : Memref sig .tc .vmem S2x1024x256 .f32) (harg27 : arg27.IsWhole) (arg28 : Memref sig .tc .vmem S1024x256 .f32) (harg28 : arg28.IsWhole) (arg29 : Memref sig .tc .vmem S1024x512 .bf16) (harg29 : arg29.IsWhole) (arg30 : Memref sig .tc .vmem S1024x256 .bf16) (harg30 : arg30.IsWhole) (arg31 : Memref sig .tc .vmem S1024x128 .bf16) (harg31 : arg31.IsWhole) (hc0 : ¬cond0_0 i) (hc2 : cond0_2 i) (hc3 : cond0_3 i)
    (x0 : Vec F S1024x256 .f32) (x1 : Vec F S1024x256 .f32) (x2 : Vec F S1024x256 .f32) (x3 : Vec F S1024x512 .f32) (x4 : Vec F S1024x256 .f32) (x5 : Vec F S1024x128 .f32) (x6 : Vec F S1x256 .f32) (x7 : Vec F S1x256 .f32) (x8 : Vec F S1x256 .f32) (x9 : Vec F S1x512 .f32) (x10 : Vec F S1x256 .f32) (x11 : Vec F S1x128 .f32) (x12 : Vec F S2x1x256 .f32) (x13 : Vec F S2x128x256 .bf16) (x14 : Vec F S1x256 .f32) (x15 : Vec F S128x256 .bf16) (x16 : Vec F S512x256 .bf16) (x17 : Vec F S1x256 .f32) (x18 : Vec F S1x256 .f32) (x19 : Vec F S256x256 .bf16)

theorem cover0_C_20 (y : S1024x256.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc2 hc3 x0 x1 x2 x3 x4 x5 x6 x7 x8 x9 x10 x11 x12 x13 x14 x15 x16 x17 x18 x19).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc2 hc3 x0 x1 x2 x3 x4 x5 x6 x7 x8 x9 x10 x11 x12 x13 x14 x15 x16 x17 x18 x19).1 S1024x256.size (by sl_kernel_rfl) y

/-- What that point leaves there. -/
def out0_C_20 : Vec F S1024x256 .f32 :=
  VO0_20.read (Elt F) (VO0_20.writes (Elt F) VO0_20.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc2 hc3 x0 x1 x2 x3 x4 x5 x6 x7 x8 x9 x10 x11 x12 x13 x14 x15 x16 x17 x18 x19).1)

theorem cover0_C_21 (y : S1024x256.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc2 hc3 x0 x1 x2 x3 x4 x5 x6 x7 x8 x9 x10 x11 x12 x13 x14 x15 x16 x17 x18 x19).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc2 hc3 x0 x1 x2 x3 x4 x5 x6 x7 x8 x9 x10 x11 x12 x13 x14 x15 x16 x17 x18 x19).2.1 S1024x256.size (by sl_kernel_rfl) y

/-- What that point leaves there. -/
def out0_C_21 : Vec F S1024x256 .f32 :=
  VO0_21.read (Elt F) (VO0_21.writes (Elt F) VO0_21.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc2 hc3 x0 x1 x2 x3 x4 x5 x6 x7 x8 x9 x10 x11 x12 x13 x14 x15 x16 x17 x18 x19).2.1)

theorem cover0_C_22 (y : S1024x256.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc2 hc3 x0 x1 x2 x3 x4 x5 x6 x7 x8 x9 x10 x11 x12 x13 x14 x15 x16 x17 x18 x19).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc2 hc3 x0 x1 x2 x3 x4 x5 x6 x7 x8 x9 x10 x11 x12 x13 x14 x15 x16 x17 x18 x19).2.2.1 S1024x256.size (by sl_kernel_rfl) y

/-- What that point leaves there. -/
def out0_C_22 : Vec F S1024x256 .f32 :=
  VO0_22.read (Elt F) (VO0_22.writes (Elt F) VO0_22.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc2 hc3 x0 x1 x2 x3 x4 x5 x6 x7 x8 x9 x10 x11 x12 x13 x14 x15 x16 x17 x18 x19).2.2.1)

theorem cover0_C_23 (y : S1024x256.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc2 hc3 x0 x1 x2 x3 x4 x5 x6 x7 x8 x9 x10 x11 x12 x13 x14 x15 x16 x17 x18 x19).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc2 hc3 x0 x1 x2 x3 x4 x5 x6 x7 x8 x9 x10 x11 x12 x13 x14 x15 x16 x17 x18 x19).2.2.2.1 S1024x256.size (by sl_kernel_rfl) y

/-- What that point leaves there. -/
def out0_C_23 : Vec F S1024x256 .f32 :=
  VO0_23.read (Elt F) (VO0_23.writes (Elt F) VO0_23.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc2 hc3 x0 x1 x2 x3 x4 x5 x6 x7 x8 x9 x10 x11 x12 x13 x14 x15 x16 x17 x18 x19).2.2.2.1)

theorem cover0_C_24 (y : S1024x256.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc2 hc3 x0 x1 x2 x3 x4 x5 x6 x7 x8 x9 x10 x11 x12 x13 x14 x15 x16 x17 x18 x19).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc2 hc3 x0 x1 x2 x3 x4 x5 x6 x7 x8 x9 x10 x11 x12 x13 x14 x15 x16 x17 x18 x19).2.2.2.2.1 S1024x256.size (by sl_kernel_rfl) y

/-- What that point leaves there. -/
def out0_C_24 : Vec F S1024x256 .f32 :=
  VO0_24.read (Elt F) (VO0_24.writes (Elt F) VO0_24.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc2 hc3 x0 x1 x2 x3 x4 x5 x6 x7 x8 x9 x10 x11 x12 x13 x14 x15 x16 x17 x18 x19).2.2.2.2.1)

theorem cover0_C_25 (y : S2x1024x256.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc2 hc3 x0 x1 x2 x3 x4 x5 x6 x7 x8 x9 x10 x11 x12 x13 x14 x15 x16 x17 x18 x19).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc2 hc3 x0 x1 x2 x3 x4 x5 x6 x7 x8 x9 x10 x11 x12 x13 x14 x15 x16 x17 x18 x19).2.2.2.2.2.1 S1x1024x256.size (by sl_kernel_rfl) y

/-- What that point leaves there. -/
def out0_C_25 : Vec F S2x1024x256 .f32 :=
  VO0_25.read (Elt F) (VO0_25.writes (Elt F) VO0_25.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc2 hc3 x0 x1 x2 x3 x4 x5 x6 x7 x8 x9 x10 x11 x12 x13 x14 x15 x16 x17 x18 x19).2.2.2.2.2.1)

theorem cover0_C_26 (y : S1024x256.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc2 hc3 x0 x1 x2 x3 x4 x5 x6 x7 x8 x9 x10 x11 x12 x13 x14 x15 x16 x17 x18 x19).2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc2 hc3 x0 x1 x2 x3 x4 x5 x6 x7 x8 x9 x10 x11 x12 x13 x14 x15 x16 x17 x18 x19).2.2.2.2.2.2.1 S1024x256.size (by sl_kernel_rfl) y

/-- What that point leaves there. -/
def out0_C_26 : Vec F S1024x256 .f32 :=
  VO0_26.read (Elt F) (VO0_26.writes (Elt F) VO0_26.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc2 hc3 x0 x1 x2 x3 x4 x5 x6 x7 x8 x9 x10 x11 x12 x13 x14 x15 x16 x17 x18 x19).2.2.2.2.2.2.1)

theorem scover0_C_0 (y : S1024x512.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc2 hc3 x0 x1 x2 x3 x4 x5 x6 x7 x8 x9 x10 x11 x12 x13 x14 x15 x16 x17 x18 x19).2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc2 hc3 x0 x1 x2 x3 x4 x5 x6 x7 x8 x9 x10 x11 x12 x13 x14 x15 x16 x17 x18 x19).2.2.2.2.2.2.2.1 S1024x512.size (by sl_kernel_rfl) y

/-- What that point leaves there. -/
def sout0_C_0 : Vec F S1024x512 .bf16 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc2 hc3 x0 x1 x2 x3 x4 x5 x6 x7 x8 x9 x10 x11 x12 x13 x14 x15 x16 x17 x18 x19).2.2.2.2.2.2.2.1)

theorem scover0_C_1 (y : S1024x256.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc2 hc3 x0 x1 x2 x3 x4 x5 x6 x7 x8 x9 x10 x11 x12 x13 x14 x15 x16 x17 x18 x19).2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc2 hc3 x0 x1 x2 x3 x4 x5 x6 x7 x8 x9 x10 x11 x12 x13 x14 x15 x16 x17 x18 x19).2.2.2.2.2.2.2.2.1 S1024x256.size (by sl_kernel_rfl) y

/-- What that point leaves there. -/
def sout0_C_1 : Vec F S1024x256 .bf16 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc2 hc3 x0 x1 x2 x3 x4 x5 x6 x7 x8 x9 x10 x11 x12 x13 x14 x15 x16 x17 x18 x19).2.2.2.2.2.2.2.2.1)

theorem scover0_C_2 (y : S1024x128.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc2 hc3 x0 x1 x2 x3 x4 x5 x6 x7 x8 x9 x10 x11 x12 x13 x14 x15 x16 x17 x18 x19).2.2.2.2.2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc2 hc3 x0 x1 x2 x3 x4 x5 x6 x7 x8 x9 x10 x11 x12 x13 x14 x15 x16 x17 x18 x19).2.2.2.2.2.2.2.2.2.1 S1024x128.size (by sl_kernel_rfl) y

/-- What that point leaves there. -/
def sout0_C_2 : Vec F S1024x128 .bf16 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc2 hc3 x0 x1 x2 x3 x4 x5 x6 x7 x8 x9 x10 x11 x12 x13 x14 x15 x16 x17 x18 x19).2.2.2.2.2.2.2.2.2.1)

end

section

variable (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x128 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x512 .f32) (harg11 : arg11.IsWhole) (arg12 : Memref sig .tc .vmem S1x256 .f32) (harg12 : arg12.IsWhole) (arg13 : Memref sig .tc .vmem S1x128 .f32) (harg13 : arg13.IsWhole) (arg14 : Memref sig .tc .vmem S2x1x256 .f32) (harg14 : arg14.IsWhole) (arg15 : Memref sig .tc .vmem S2x128x256 .bf16) (harg15 : arg15.IsWhole) (arg16 : Memref sig .tc .vmem S1x256 .f32) (harg16 : arg16.IsWhole) (arg17 : Memref sig .tc .vmem S128x256 .bf16) (harg17 : arg17.IsWhole) (arg18 : Memref sig .tc .vmem S512x256 .bf16) (harg18 : arg18.IsWhole) (arg19 : Memref sig .tc .vmem S1x256 .f32) (harg19 : arg19.IsWhole) (arg20 : Memref sig .tc .vmem S1x256 .f32) (harg20 : arg20.IsWhole) (arg21 : Memref sig .tc .vmem S256x256 .bf16) (harg21 : arg21.IsWhole) (arg22 : Memref sig .tc .vmem S1024x256 .f32) (harg22 : arg22.IsWhole) (arg23 : Memref sig .tc .vmem S1024x256 .f32) (harg23 : arg23.IsWhole) (arg24 : Memref sig .tc .vmem S1024x256 .f32) (harg24 : arg24.IsWhole) (arg25 : Memref sig .tc .vmem S1024x256 .f32) (harg25 : arg25.IsWhole) (arg26 : Memref sig .tc .vmem S1024x256 .f32) (harg26 : arg26.IsWhole) (arg27 : Memref sig .tc .vmem S2x1024x256 .f32) (harg27 : arg27.IsWhole) (arg28 : Memref sig .tc .vmem S1024x256 .f32) (harg28 : arg28.IsWhole) (arg29 : Memref sig .tc .vmem S1024x512 .bf16) (harg29 : arg29.IsWhole) (arg30 : Memref sig .tc .vmem S1024x256 .bf16) (harg30 : arg30.IsWhole) (arg31 : Memref sig .tc .vmem S1024x128 .bf16) (harg31 : arg31.IsWhole) (hc0 : ¬cond0_0 i) (hc2 : cond0_2 i) (hc3 : ¬cond0_3 i)
    (x0 : Vec F S1024x256 .f32) (x1 : Vec F S1024x256 .f32) (x2 : Vec F S1024x256 .f32) (x3 : Vec F S1024x512 .f32) (x4 : Vec F S1024x256 .f32) (x5 : Vec F S1024x128 .f32) (x6 : Vec F S1x256 .f32) (x7 : Vec F S1x256 .f32) (x8 : Vec F S1x256 .f32) (x9 : Vec F S1x512 .f32) (x10 : Vec F S1x256 .f32) (x11 : Vec F S1x128 .f32) (x12 : Vec F S2x1x256 .f32) (x13 : Vec F S2x128x256 .bf16) (x14 : Vec F S1x256 .f32) (x15 : Vec F S128x256 .bf16) (x16 : Vec F S512x256 .bf16) (x17 : Vec F S1x256 .f32) (x18 : Vec F S1x256 .f32) (x19 : Vec F S256x256 .bf16) (xs0 : Vec F S1024x512 .bf16) (xs1 : Vec F S1024x256 .bf16) (xs2 : Vec F S1024x128 .bf16)

theorem cover0_D_20 (y : S1024x256.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc2 hc3 x0 x1 x2 x3 x4 x5 x6 x7 x8 x9 x10 x11 x12 x13 x14 x15 x16 x17 x18 x19 xs0 xs1 xs2).1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc2 hc3 x0 x1 x2 x3 x4 x5 x6 x7 x8 x9 x10 x11 x12 x13 x14 x15 x16 x17 x18 x19 xs0 xs1 xs2).1 S1024x256.size (by sl_kernel_rfl) y

/-- What that point leaves there. -/
def out0_D_20 : Vec F S1024x256 .f32 :=
  VO0_20.read (Elt F) (VO0_20.writes (Elt F) VO0_20.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc2 hc3 x0 x1 x2 x3 x4 x5 x6 x7 x8 x9 x10 x11 x12 x13 x14 x15 x16 x17 x18 x19 xs0 xs1 xs2).1)

theorem cover0_D_21 (y : S1024x256.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc2 hc3 x0 x1 x2 x3 x4 x5 x6 x7 x8 x9 x10 x11 x12 x13 x14 x15 x16 x17 x18 x19 xs0 xs1 xs2).2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc2 hc3 x0 x1 x2 x3 x4 x5 x6 x7 x8 x9 x10 x11 x12 x13 x14 x15 x16 x17 x18 x19 xs0 xs1 xs2).2.1 S1024x256.size (by sl_kernel_rfl) y

/-- What that point leaves there. -/
def out0_D_21 : Vec F S1024x256 .f32 :=
  VO0_21.read (Elt F) (VO0_21.writes (Elt F) VO0_21.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc2 hc3 x0 x1 x2 x3 x4 x5 x6 x7 x8 x9 x10 x11 x12 x13 x14 x15 x16 x17 x18 x19 xs0 xs1 xs2).2.1)

theorem cover0_D_22 (y : S1024x256.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc2 hc3 x0 x1 x2 x3 x4 x5 x6 x7 x8 x9 x10 x11 x12 x13 x14 x15 x16 x17 x18 x19 xs0 xs1 xs2).2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc2 hc3 x0 x1 x2 x3 x4 x5 x6 x7 x8 x9 x10 x11 x12 x13 x14 x15 x16 x17 x18 x19 xs0 xs1 xs2).2.2.1 S1024x256.size (by sl_kernel_rfl) y

/-- What that point leaves there. -/
def out0_D_22 : Vec F S1024x256 .f32 :=
  VO0_22.read (Elt F) (VO0_22.writes (Elt F) VO0_22.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc2 hc3 x0 x1 x2 x3 x4 x5 x6 x7 x8 x9 x10 x11 x12 x13 x14 x15 x16 x17 x18 x19 xs0 xs1 xs2).2.2.1)

theorem cover0_D_23 (y : S1024x256.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc2 hc3 x0 x1 x2 x3 x4 x5 x6 x7 x8 x9 x10 x11 x12 x13 x14 x15 x16 x17 x18 x19 xs0 xs1 xs2).2.2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc2 hc3 x0 x1 x2 x3 x4 x5 x6 x7 x8 x9 x10 x11 x12 x13 x14 x15 x16 x17 x18 x19 xs0 xs1 xs2).2.2.2.1 S1024x256.size (by sl_kernel_rfl) y

/-- What that point leaves there. -/
def out0_D_23 : Vec F S1024x256 .f32 :=
  VO0_23.read (Elt F) (VO0_23.writes (Elt F) VO0_23.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc2 hc3 x0 x1 x2 x3 x4 x5 x6 x7 x8 x9 x10 x11 x12 x13 x14 x15 x16 x17 x18 x19 xs0 xs1 xs2).2.2.2.1)

theorem cover0_D_24 (y : S1024x256.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc2 hc3 x0 x1 x2 x3 x4 x5 x6 x7 x8 x9 x10 x11 x12 x13 x14 x15 x16 x17 x18 x19 xs0 xs1 xs2).2.2.2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc2 hc3 x0 x1 x2 x3 x4 x5 x6 x7 x8 x9 x10 x11 x12 x13 x14 x15 x16 x17 x18 x19 xs0 xs1 xs2).2.2.2.2.1 S1024x256.size (by sl_kernel_rfl) y

/-- What that point leaves there. -/
def out0_D_24 : Vec F S1024x256 .f32 :=
  VO0_24.read (Elt F) (VO0_24.writes (Elt F) VO0_24.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc2 hc3 x0 x1 x2 x3 x4 x5 x6 x7 x8 x9 x10 x11 x12 x13 x14 x15 x16 x17 x18 x19 xs0 xs1 xs2).2.2.2.2.1)

theorem cover0_D_25 (y : S2x1024x256.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc2 hc3 x0 x1 x2 x3 x4 x5 x6 x7 x8 x9 x10 x11 x12 x13 x14 x15 x16 x17 x18 x19 xs0 xs1 xs2).2.2.2.2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc2 hc3 x0 x1 x2 x3 x4 x5 x6 x7 x8 x9 x10 x11 x12 x13 x14 x15 x16 x17 x18 x19 xs0 xs1 xs2).2.2.2.2.2.1 S1x1024x256.size (by sl_kernel_rfl) y

/-- What that point leaves there. -/
def out0_D_25 : Vec F S2x1024x256 .f32 :=
  VO0_25.read (Elt F) (VO0_25.writes (Elt F) VO0_25.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc2 hc3 x0 x1 x2 x3 x4 x5 x6 x7 x8 x9 x10 x11 x12 x13 x14 x15 x16 x17 x18 x19 xs0 xs1 xs2).2.2.2.2.2.1)

theorem cover0_D_26 (y : S1024x256.Idx) :
    ∃ pc ∈ (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc2 hc3 x0 x1 x2 x3 x4 x5 x6 x7 x8 x9 x10 x11 x12 x13 x14 x15 x16 x17 x18 x19 xs0 xs1 xs2).2.2.2.2.2.2.1, y ∈ pc.1.set :=
  View.cover_of_tiledL (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc2 hc3 x0 x1 x2 x3 x4 x5 x6 x7 x8 x9 x10 x11 x12 x13 x14 x15 x16 x17 x18 x19 xs0 xs1 xs2).2.2.2.2.2.2.1 S1024x256.size (by sl_kernel_rfl) y

/-- What that point leaves there. -/
def out0_D_26 : Vec F S1024x256 .f32 :=
  VO0_26.read (Elt F) (VO0_26.writes (Elt F) VO0_26.junk (kernelRun0_D c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 hc0 hc2 hc3 x0 x1 x2 x3 x4 x5 x6 x7 x8 x9 x10 x11 x12 x13 x14 x15 x16 x17 x18 x19 xs0 xs1 xs2).2.2.2.2.2.2.1)

/-- What that point leaves there. -/
def sout0_D_0 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x128 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x512 .f32) (harg11 : arg11.IsWhole) (arg12 : Memref sig .tc .vmem S1x256 .f32) (harg12 : arg12.IsWhole) (arg13 : Memref sig .tc .vmem S1x128 .f32) (harg13 : arg13.IsWhole) (arg14 : Memref sig .tc .vmem S2x1x256 .f32) (harg14 : arg14.IsWhole) (arg15 : Memref sig .tc .vmem S2x128x256 .bf16) (harg15 : arg15.IsWhole) (arg16 : Memref sig .tc .vmem S1x256 .f32) (harg16 : arg16.IsWhole) (arg17 : Memref sig .tc .vmem S128x256 .bf16) (harg17 : arg17.IsWhole) (arg18 : Memref sig .tc .vmem S512x256 .bf16) (harg18 : arg18.IsWhole) (arg19 : Memref sig .tc .vmem S1x256 .f32) (harg19 : arg19.IsWhole) (arg20 : Memref sig .tc .vmem S1x256 .f32) (harg20 : arg20.IsWhole) (arg21 : Memref sig .tc .vmem S256x256 .bf16) (harg21 : arg21.IsWhole) (arg22 : Memref sig .tc .vmem S1024x256 .f32) (harg22 : arg22.IsWhole) (arg23 : Memref sig .tc .vmem S1024x256 .f32) (harg23 : arg23.IsWhole) (arg24 : Memref sig .tc .vmem S1024x256 .f32) (harg24 : arg24.IsWhole) (arg25 : Memref sig .tc .vmem S1024x256 .f32) (harg25 : arg25.IsWhole) (arg26 : Memref sig .tc .vmem S1024x256 .f32) (harg26 : arg26.IsWhole) (arg27 : Memref sig .tc .vmem S2x1024x256 .f32) (harg27 : arg27.IsWhole) (arg28 : Memref sig .tc .vmem S1024x256 .f32) (harg28 : arg28.IsWhole) (arg29 : Memref sig .tc .vmem S1024x512 .bf16) (harg29 : arg29.IsWhole) (arg30 : Memref sig .tc .vmem S1024x256 .bf16) (harg30 : arg30.IsWhole) (arg31 : Memref sig .tc .vmem S1024x128 .bf16) (harg31 : arg31.IsWhole) (hc0 : ¬cond0_0 i) (hc2 : cond0_2 i) (hc3 : ¬cond0_3 i)
    (x0 : Vec F S1024x256 .f32) (x1 : Vec F S1024x256 .f32) (x2 : Vec F S1024x256 .f32) (x3 : Vec F S1024x512 .f32) (x4 : Vec F S1024x256 .f32) (x5 : Vec F S1024x128 .f32) (x6 : Vec F S1x256 .f32) (x7 : Vec F S1x256 .f32) (x8 : Vec F S1x256 .f32) (x9 : Vec F S1x512 .f32) (x10 : Vec F S1x256 .f32) (x11 : Vec F S1x128 .f32) (x12 : Vec F S2x1x256 .f32) (x13 : Vec F S2x128x256 .bf16) (x14 : Vec F S1x256 .f32) (x15 : Vec F S128x256 .bf16) (x16 : Vec F S512x256 .bf16) (x17 : Vec F S1x256 .f32) (x18 : Vec F S1x256 .f32) (x19 : Vec F S256x256 .bf16) (xs0 : Vec F S1024x512 .bf16) (xs1 : Vec F S1024x256 .bf16) (xs2 : Vec F S1024x128 .bf16) : Vec F S1024x512 .bf16 := xs0

/-- What that point leaves there. -/
def sout0_D_1 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x128 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x512 .f32) (harg11 : arg11.IsWhole) (arg12 : Memref sig .tc .vmem S1x256 .f32) (harg12 : arg12.IsWhole) (arg13 : Memref sig .tc .vmem S1x128 .f32) (harg13 : arg13.IsWhole) (arg14 : Memref sig .tc .vmem S2x1x256 .f32) (harg14 : arg14.IsWhole) (arg15 : Memref sig .tc .vmem S2x128x256 .bf16) (harg15 : arg15.IsWhole) (arg16 : Memref sig .tc .vmem S1x256 .f32) (harg16 : arg16.IsWhole) (arg17 : Memref sig .tc .vmem S128x256 .bf16) (harg17 : arg17.IsWhole) (arg18 : Memref sig .tc .vmem S512x256 .bf16) (harg18 : arg18.IsWhole) (arg19 : Memref sig .tc .vmem S1x256 .f32) (harg19 : arg19.IsWhole) (arg20 : Memref sig .tc .vmem S1x256 .f32) (harg20 : arg20.IsWhole) (arg21 : Memref sig .tc .vmem S256x256 .bf16) (harg21 : arg21.IsWhole) (arg22 : Memref sig .tc .vmem S1024x256 .f32) (harg22 : arg22.IsWhole) (arg23 : Memref sig .tc .vmem S1024x256 .f32) (harg23 : arg23.IsWhole) (arg24 : Memref sig .tc .vmem S1024x256 .f32) (harg24 : arg24.IsWhole) (arg25 : Memref sig .tc .vmem S1024x256 .f32) (harg25 : arg25.IsWhole) (arg26 : Memref sig .tc .vmem S1024x256 .f32) (harg26 : arg26.IsWhole) (arg27 : Memref sig .tc .vmem S2x1024x256 .f32) (harg27 : arg27.IsWhole) (arg28 : Memref sig .tc .vmem S1024x256 .f32) (harg28 : arg28.IsWhole) (arg29 : Memref sig .tc .vmem S1024x512 .bf16) (harg29 : arg29.IsWhole) (arg30 : Memref sig .tc .vmem S1024x256 .bf16) (harg30 : arg30.IsWhole) (arg31 : Memref sig .tc .vmem S1024x128 .bf16) (harg31 : arg31.IsWhole) (hc0 : ¬cond0_0 i) (hc2 : cond0_2 i) (hc3 : ¬cond0_3 i)
    (x0 : Vec F S1024x256 .f32) (x1 : Vec F S1024x256 .f32) (x2 : Vec F S1024x256 .f32) (x3 : Vec F S1024x512 .f32) (x4 : Vec F S1024x256 .f32) (x5 : Vec F S1024x128 .f32) (x6 : Vec F S1x256 .f32) (x7 : Vec F S1x256 .f32) (x8 : Vec F S1x256 .f32) (x9 : Vec F S1x512 .f32) (x10 : Vec F S1x256 .f32) (x11 : Vec F S1x128 .f32) (x12 : Vec F S2x1x256 .f32) (x13 : Vec F S2x128x256 .bf16) (x14 : Vec F S1x256 .f32) (x15 : Vec F S128x256 .bf16) (x16 : Vec F S512x256 .bf16) (x17 : Vec F S1x256 .f32) (x18 : Vec F S1x256 .f32) (x19 : Vec F S256x256 .bf16) (xs0 : Vec F S1024x512 .bf16) (xs1 : Vec F S1024x256 .bf16) (xs2 : Vec F S1024x128 .bf16) : Vec F S1024x256 .bf16 := xs1

/-- What that point leaves there. -/
def sout0_D_2 (c : Dev nD) (i : grid0.Coords) (arg2 : Memref sig .tc .vmem S1024x256 .f32) (harg2 : arg2.IsWhole) (arg3 : Memref sig .tc .vmem S1024x256 .f32) (harg3 : arg3.IsWhole) (arg4 : Memref sig .tc .vmem S1024x256 .f32) (harg4 : arg4.IsWhole) (arg5 : Memref sig .tc .vmem S1024x512 .f32) (harg5 : arg5.IsWhole) (arg6 : Memref sig .tc .vmem S1024x256 .f32) (harg6 : arg6.IsWhole) (arg7 : Memref sig .tc .vmem S1024x128 .f32) (harg7 : arg7.IsWhole) (arg8 : Memref sig .tc .vmem S1x256 .f32) (harg8 : arg8.IsWhole) (arg9 : Memref sig .tc .vmem S1x256 .f32) (harg9 : arg9.IsWhole) (arg10 : Memref sig .tc .vmem S1x256 .f32) (harg10 : arg10.IsWhole) (arg11 : Memref sig .tc .vmem S1x512 .f32) (harg11 : arg11.IsWhole) (arg12 : Memref sig .tc .vmem S1x256 .f32) (harg12 : arg12.IsWhole) (arg13 : Memref sig .tc .vmem S1x128 .f32) (harg13 : arg13.IsWhole) (arg14 : Memref sig .tc .vmem S2x1x256 .f32) (harg14 : arg14.IsWhole) (arg15 : Memref sig .tc .vmem S2x128x256 .bf16) (harg15 : arg15.IsWhole) (arg16 : Memref sig .tc .vmem S1x256 .f32) (harg16 : arg16.IsWhole) (arg17 : Memref sig .tc .vmem S128x256 .bf16) (harg17 : arg17.IsWhole) (arg18 : Memref sig .tc .vmem S512x256 .bf16) (harg18 : arg18.IsWhole) (arg19 : Memref sig .tc .vmem S1x256 .f32) (harg19 : arg19.IsWhole) (arg20 : Memref sig .tc .vmem S1x256 .f32) (harg20 : arg20.IsWhole) (arg21 : Memref sig .tc .vmem S256x256 .bf16) (harg21 : arg21.IsWhole) (arg22 : Memref sig .tc .vmem S1024x256 .f32) (harg22 : arg22.IsWhole) (arg23 : Memref sig .tc .vmem S1024x256 .f32) (harg23 : arg23.IsWhole) (arg24 : Memref sig .tc .vmem S1024x256 .f32) (harg24 : arg24.IsWhole) (arg25 : Memref sig .tc .vmem S1024x256 .f32) (harg25 : arg25.IsWhole) (arg26 : Memref sig .tc .vmem S1024x256 .f32) (harg26 : arg26.IsWhole) (arg27 : Memref sig .tc .vmem S2x1024x256 .f32) (harg27 : arg27.IsWhole) (arg28 : Memref sig .tc .vmem S1024x256 .f32) (harg28 : arg28.IsWhole) (arg29 : Memref sig .tc .vmem S1024x512 .bf16) (harg29 : arg29.IsWhole) (arg30 : Memref sig .tc .vmem S1024x256 .bf16) (harg30 : arg30.IsWhole) (arg31 : Memref sig .tc .vmem S1024x128 .bf16) (harg31 : arg31.IsWhole) (hc0 : ¬cond0_0 i) (hc2 : cond0_2 i) (hc3 : ¬cond0_3 i)
    (x0 : Vec F S1024x256 .f32) (x1 : Vec F S1024x256 .f32) (x2 : Vec F S1024x256 .f32) (x3 : Vec F S1024x512 .f32) (x4 : Vec F S1024x256 .f32) (x5 : Vec F S1024x128 .f32) (x6 : Vec F S1x256 .f32) (x7 : Vec F S1x256 .f32) (x8 : Vec F S1x256 .f32) (x9 : Vec F S1x512 .f32) (x10 : Vec F S1x256 .f32) (x11 : Vec F S1x128 .f32) (x12 : Vec F S2x1x256 .f32) (x13 : Vec F S2x128x256 .bf16) (x14 : Vec F S1x256 .f32) (x15 : Vec F S128x256 .bf16) (x16 : Vec F S512x256 .bf16) (x17 : Vec F S1x256 .f32) (x18 : Vec F S1x256 .f32) (x19 : Vec F S256x256 .bf16) (xs0 : Vec F S1024x512 .bf16) (xs1 : Vec F S1024x256 .bf16) (xs2 : Vec F S1024x128 .bf16) : Vec F S1024x128 .bf16 := xs2

end

end Cert.Kernel15Ideal.Gen

end

end
-- ==== Proof.RwkvPrepAt.lean ====
/- What the body leaves at each point, each kind over what the point before left, and the data of the pipeline. -/
module

public import proofs.«01_k».proof.Proof.RwkvPrepCov

@[expose] public section

set_option maxRecDepth 16384

noncomputable section

namespace Cert.Kernel15Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- What the body leaves at a point of kind A: the outputs, then the scratches. -/
@[reducible] def pointA (c : Dev nD) (t : Fin cfg0.N) (h0 : t.val < 32) (h1 : t.val % 8 = 0) (h2 : ¬32 ≤ t.val) : Vec F S1024x256 .f32 × Vec F S1024x256 .f32 × Vec F S1024x256 .f32 × Vec F S1024x256 .f32 × Vec F S1024x256 .f32 × Vec F S2x1024x256 .f32 × Vec F S1024x256 .f32 × Vec F S1024x512 .bf16 × Vec F S1024x256 .bf16 × Vec F S1024x128 .bf16 :=
  (out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_A_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t))

/-- What the body leaves at a point of kind B, over what the point before left: the outputs, then the scratches. -/
@[reducible] def pointB (c : Dev nD) (t : Fin cfg0.N) (h0 : t.val < 32) (h1 : ¬t.val % 8 = 0) (h2 : ¬32 ≤ t.val) (p : Vec F S1024x256 .f32 × Vec F S1024x256 .f32 × Vec F S1024x256 .f32 × Vec F S1024x256 .f32 × Vec F S1024x256 .f32 × Vec F S2x1024x256 .f32 × Vec F S1024x256 .f32 × Vec F S1024x512 .bf16 × Vec F S1024x256 .bf16 × Vec F S1024x128 .bf16) : Vec F S1024x256 .f32 × Vec F S1024x256 .f32 × Vec F S1024x256 .f32 × Vec F S1024x256 .f32 × Vec F S1024x256 .f32 × Vec F S2x1024x256 .f32 × Vec F S1024x256 .f32 × Vec F S1024x512 .bf16 × Vec F S1024x256 .bf16 × Vec F S1024x128 .bf16 :=
  (out0_B_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) p.2.2.2.2.2.2.2.1 p.2.2.2.2.2.2.2.2.1 p.2.2.2.2.2.2.2.2.2, out0_B_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) p.2.2.2.2.2.2.2.1 p.2.2.2.2.2.2.2.2.1 p.2.2.2.2.2.2.2.2.2, out0_B_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) p.2.2.2.2.2.2.2.1 p.2.2.2.2.2.2.2.2.1 p.2.2.2.2.2.2.2.2.2, out0_B_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) p.2.2.2.2.2.2.2.1 p.2.2.2.2.2.2.2.2.1 p.2.2.2.2.2.2.2.2.2, out0_B_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) p.2.2.2.2.2.2.2.1 p.2.2.2.2.2.2.2.2.1 p.2.2.2.2.2.2.2.2.2, out0_B_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) p.2.2.2.2.2.2.2.1 p.2.2.2.2.2.2.2.2.1 p.2.2.2.2.2.2.2.2.2, out0_B_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) p.2.2.2.2.2.2.2.1 p.2.2.2.2.2.2.2.2.1 p.2.2.2.2.2.2.2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) p.2.2.2.2.2.2.2.1 p.2.2.2.2.2.2.2.2.1 p.2.2.2.2.2.2.2.2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) p.2.2.2.2.2.2.2.1 p.2.2.2.2.2.2.2.2.1 p.2.2.2.2.2.2.2.2.2, sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) p.2.2.2.2.2.2.2.1 p.2.2.2.2.2.2.2.2.1 p.2.2.2.2.2.2.2.2.2)

/-- What the body leaves at a point of kind C: the outputs, then the scratches. -/
@[reducible] def pointC (c : Dev nD) (t : Fin cfg0.N) (h0 : ¬t.val < 32) (h2 : 32 ≤ t.val) (h3 : t.val % 8 = 0) : Vec F S1024x256 .f32 × Vec F S1024x256 .f32 × Vec F S1024x256 .f32 × Vec F S1024x256 .f32 × Vec F S1024x256 .f32 × Vec F S2x1024x256 .f32 × Vec F S1024x256 .f32 × Vec F S1024x512 .bf16 × Vec F S1024x256 .bf16 × Vec F S1024x128 .bf16 :=
  (out0_C_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) (fun h => h0 ((hcond0_0 t).mp h)) ((hcond0_2 t).mpr h2) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_C_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) (fun h => h0 ((hcond0_0 t).mp h)) ((hcond0_2 t).mpr h2) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_C_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) (fun h => h0 ((hcond0_0 t).mp h)) ((hcond0_2 t).mpr h2) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_C_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) (fun h => h0 ((hcond0_0 t).mp h)) ((hcond0_2 t).mpr h2) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_C_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) (fun h => h0 ((hcond0_0 t).mp h)) ((hcond0_2 t).mpr h2) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_C_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) (fun h => h0 ((hcond0_0 t).mp h)) ((hcond0_2 t).mpr h2) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), out0_C_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) (fun h => h0 ((hcond0_0 t).mp h)) ((hcond0_2 t).mpr h2) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) (fun h => h0 ((hcond0_0 t).mp h)) ((hcond0_2 t).mpr h2) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) (fun h => h0 ((hcond0_0 t).mp h)) ((hcond0_2 t).mpr h2) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t), sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) (fun h => h0 ((hcond0_0 t).mp h)) ((hcond0_2 t).mpr h2) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t))

/-- What the body leaves at a point of kind D, over what the point before left: the outputs, then the scratches. -/
@[reducible] def pointD (c : Dev nD) (t : Fin cfg0.N) (h0 : ¬t.val < 32) (h2 : 32 ≤ t.val) (h3 : ¬t.val % 8 = 0) (p : Vec F S1024x256 .f32 × Vec F S1024x256 .f32 × Vec F S1024x256 .f32 × Vec F S1024x256 .f32 × Vec F S1024x256 .f32 × Vec F S2x1024x256 .f32 × Vec F S1024x256 .f32 × Vec F S1024x512 .bf16 × Vec F S1024x256 .bf16 × Vec F S1024x128 .bf16) : Vec F S1024x256 .f32 × Vec F S1024x256 .f32 × Vec F S1024x256 .f32 × Vec F S1024x256 .f32 × Vec F S1024x256 .f32 × Vec F S2x1024x256 .f32 × Vec F S1024x256 .f32 × Vec F S1024x512 .bf16 × Vec F S1024x256 .bf16 × Vec F S1024x128 .bf16 :=
  (out0_D_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) (fun h => h0 ((hcond0_0 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) p.2.2.2.2.2.2.2.1 p.2.2.2.2.2.2.2.2.1 p.2.2.2.2.2.2.2.2.2, out0_D_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) (fun h => h0 ((hcond0_0 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) p.2.2.2.2.2.2.2.1 p.2.2.2.2.2.2.2.2.1 p.2.2.2.2.2.2.2.2.2, out0_D_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) (fun h => h0 ((hcond0_0 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) p.2.2.2.2.2.2.2.1 p.2.2.2.2.2.2.2.2.1 p.2.2.2.2.2.2.2.2.2, out0_D_23 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) (fun h => h0 ((hcond0_0 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) p.2.2.2.2.2.2.2.1 p.2.2.2.2.2.2.2.2.1 p.2.2.2.2.2.2.2.2.2, out0_D_24 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) (fun h => h0 ((hcond0_0 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) p.2.2.2.2.2.2.2.1 p.2.2.2.2.2.2.2.2.1 p.2.2.2.2.2.2.2.2.2, out0_D_25 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) (fun h => h0 ((hcond0_0 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) p.2.2.2.2.2.2.2.1 p.2.2.2.2.2.2.2.2.1 p.2.2.2.2.2.2.2.2.2, out0_D_26 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) (fun h => h0 ((hcond0_0 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) p.2.2.2.2.2.2.2.1 p.2.2.2.2.2.2.2.2.1 p.2.2.2.2.2.2.2.2.2, sout0_D_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) (fun h => h0 ((hcond0_0 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) p.2.2.2.2.2.2.2.1 p.2.2.2.2.2.2.2.2.1 p.2.2.2.2.2.2.2.2.2, sout0_D_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) (fun h => h0 ((hcond0_0 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) p.2.2.2.2.2.2.2.1 p.2.2.2.2.2.2.2.2.1 p.2.2.2.2.2.2.2.2.2, sout0_D_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) scM0_1 (Memref.isWhole_whole _) scM0_2 (Memref.isWhole_whole _) (fun h => h0 ((hcond0_0 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) p.2.2.2.2.2.2.2.1 p.2.2.2.2.2.2.2.2.1 p.2.2.2.2.2.2.2.2.2)

/-- What each point leaves. -/
def outsAt0 (c : Dev nD) : (n : ℕ) → n < cfg0.N → Vec F S1024x256 .f32 × Vec F S1024x256 .f32 × Vec F S1024x256 .f32 × Vec F S1024x256 .f32 × Vec F S1024x256 .f32 × Vec F S2x1024x256 .f32 × Vec F S1024x256 .f32 × Vec F S1024x512 .bf16 × Vec F S1024x256 .bf16 × Vec F S1024x128 .bf16
  | 0, hn => pointA m c ⟨0, hn⟩ (by (try dsimp only); omega) (Nat.zero_mod _) (fun h => by (try dsimp only at h); omega)
  | n + 1, hn =>
    if h0 : (n + 1) < 32 then
      if h1 : (n + 1) % 8 = 0 then
        if h2 : 32 ≤ (n + 1) then
          False.elim (by have hN : n + 1 < 64 := lt_of_lt_of_eq hn (show cfg0.N = 64 from N_0); omega)
        else
          pointA m c ⟨n + 1, hn⟩ h0 h1 h2
      else
        if h2 : 32 ≤ (n + 1) then
          False.elim (by have hN : n + 1 < 64 := lt_of_lt_of_eq hn (show cfg0.N = 64 from N_0); omega)
        else
          pointB m c ⟨n + 1, hn⟩ h0 h1 h2 (outsAt0 c n (Nat.lt_of_succ_lt hn))
    else
      if h2 : 32 ≤ (n + 1) then
        if h3 : (n + 1) % 8 = 0 then
          pointC m c ⟨n + 1, hn⟩ h0 h2 h3
        else
          pointD m c ⟨n + 1, hn⟩ h0 h2 h3 (outsAt0 c n (Nat.lt_of_succ_lt hn))
      else
        False.elim (by have hN : n + 1 < 64 := lt_of_lt_of_eq hn (show cfg0.N = 64 from N_0); omega)

/-- A point of kind A. -/
theorem outsAt0_A (c : Dev nD) (t : Fin cfg0.N) (h0 : t.val < 32) (h1 : t.val % 8 = 0) (h2 : ¬32 ≤ t.val) :
    outsAt0 m c t.val t.isLt = pointA m c t h0 h1 h2 := by
  obtain ⟨n, hn⟩ := t
  cases n with
  | zero => exact rfl
  | succ n => exact (dif_pos h0).trans ((dif_pos h1).trans ((dif_neg h2).trans rfl))

/-- A point of kind B. -/
theorem outsAt0_B (c : Dev nD) (t : Fin cfg0.N) (h0 : t.val < 32) (h1 : ¬t.val % 8 = 0) (h2 : ¬32 ≤ t.val) :
    outsAt0 m c t.val t.isLt = pointB m c t h0 h1 h2 (outsAt0 m c (t.val - 1) (Nat.lt_of_le_of_lt (Nat.sub_le _ _) t.isLt)) := by
  obtain ⟨n, hn⟩ := t
  cases n with
  | zero => exact (by exfalso; (try dsimp only at h1); exact absurd (Nat.zero_mod _) h1)
  | succ n => exact (dif_pos h0).trans ((dif_neg h1).trans ((dif_neg h2).trans rfl))

/-- A point of kind C. -/
theorem outsAt0_C (c : Dev nD) (t : Fin cfg0.N) (h0 : ¬t.val < 32) (h2 : 32 ≤ t.val) (h3 : t.val % 8 = 0) :
    outsAt0 m c t.val t.isLt = pointC m c t h0 h2 h3 := by
  obtain ⟨n, hn⟩ := t
  cases n with
  | zero => exact (by exfalso; (try dsimp only at h0); exact by omega)
  | succ n => exact (dif_neg h0).trans ((dif_pos h2).trans ((dif_pos h3).trans rfl))

/-- A point of kind D. -/
theorem outsAt0_D (c : Dev nD) (t : Fin cfg0.N) (h0 : ¬t.val < 32) (h2 : 32 ≤ t.val) (h3 : ¬t.val % 8 = 0) :
    outsAt0 m c t.val t.isLt = pointD m c t h0 h2 h3 (outsAt0 m c (t.val - 1) (Nat.lt_of_le_of_lt (Nat.sub_le _ _) t.isLt)) := by
  obtain ⟨n, hn⟩ := t
  cases n with
  | zero => exact (by exfalso; (try dsimp only at h0); exact by omega)
  | succ n => exact (dif_neg h0).trans ((dif_pos h2).trans ((dif_neg h3).trans rfl))

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2.1) ∗ owns (c : Thread nD τ) scM0_1 fullShare ((outsAt0 m c n hn).2.2.2.2.2.2.2.2.1) ∗ owns (c : Thread nD τ) scM0_2 fullShare ((outsAt0 m c n hn).2.2.2.2.2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2.2.2.1) ∗ owns (c : Thread nD τ) scM0_1 fullShare ((outsAt0 m c n hn).2.2.2.2.2.2.2.2.1) ∗ owns (c : Thread nD τ) scM0_2 fullShare ((outsAt0 m c n hn).2.2.2.2.2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.1) ∗ owns (c : Thread nD τ) scM0_1 fullShare ((outsAt0 m c (n - 1) (by omega)).2.2.2.2.2.2.2.2.1) ∗ owns (c : Thread nD τ) scM0_2 fullShare ((outsAt0 m c (n - 1) (by omega)).2.2.2.2.2.2.2.2.2)) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => (outsAt0 m c t.val t.isLt).1
    | ⟨21, _⟩ => (outsAt0 m c t.val t.isLt).2.1
    | ⟨22, _⟩ => (outsAt0 m c t.val t.isLt).2.2.1
    | ⟨23, _⟩ => (outsAt0 m c t.val t.isLt).2.2.2.1
    | ⟨24, _⟩ => (outsAt0 m c t.val t.isLt).2.2.2.2.1
    | ⟨25, _⟩ => (outsAt0 m c t.val t.isLt).2.2.2.2.2.1
    | ⟨26, _⟩ => (outsAt0 m c t.val t.isLt).2.2.2.2.2.2.1
    | ⟨_ + 27, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = (outsAt0 m c t.val t.isLt).1 := by dsimp only [dats]
theorem after0_21 (c : Dev nD) (t : Fin cfg0.N) : (dats m 0 c).after 21 t = (outsAt0 m c t.val t.isLt).2.1 := by dsimp only [dats]
theorem after0_22 (c : Dev nD) (t : Fin cfg0.N) : (dats m 0 c).after 22 t = (outsAt0 m c t.val t.isLt).2.2.1 := by dsimp only [dats]
theorem after0_23 (c : Dev nD) (t : Fin cfg0.N) : (dats m 0 c).after 23 t = (outsAt0 m c t.val t.isLt).2.2.2.1 := by dsimp only [dats]
theorem after0_24 (c : Dev nD) (t : Fin cfg0.N) : (dats m 0 c).after 24 t = (outsAt0 m c t.val t.isLt).2.2.2.2.1 := by dsimp only [dats]
theorem after0_25 (c : Dev nD) (t : Fin cfg0.N) : (dats m 0 c).after 25 t = (outsAt0 m c t.val t.isLt).2.2.2.2.2.1 := by dsimp only [dats]
theorem after0_26 (c : Dev nD) (t : Fin cfg0.N) : (dats m 0 c).after 26 t = (outsAt0 m c t.val t.isLt).2.2.2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t
    ∗ (dats m 0 c).leavesExact 24 t
    ∗ (dats m 0 c).leavesExact 25 t
    ∗ (dats m 0 c).leavesExact 26 t)

end Cert.Kernel15Ideal.Gen

end

end
-- ==== Proof.RwkvPrepBody.lean ====
/- The body at any point, the run of the preparation and its frame. -/
module

public import proofs.«01_k».proof.Proof.RwkvPrepAt
public import Idealize.ShloMosaic.Lib.Claim

@[expose] public section

set_option maxRecDepth 16384

noncomputable section

namespace Cert.Kernel15Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
set_option maxHeartbeats 44800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  by_cases h0 : t.val < 32
  · by_cases h1 : t.val % 8 = 0
    · by_cases h2 : 32 ≤ t.val
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [show (dats m 0 c).leavesExact 13 t = owns (c : Thread nD τ) (ms0_13 t) fullShare ((dats m 0 c).after 13 t) from by
      unfold Dat.leavesExact; rw [liveAt0_13 t], after0_13]
        rw [show (dats m 0 c).leavesExact 14 t = owns (c : Thread nD τ) (ms0_14 t) fullShare ((dats m 0 c).after 14 t) from by
      unfold Dat.leavesExact; rw [liveAt0_14 t], after0_14]
        rw [show (dats m 0 c).leavesExact 15 t = owns (c : Thread nD τ) (ms0_15 t) fullShare ((dats m 0 c).after 15 t) from by
      unfold Dat.leavesExact; rw [liveAt0_15 t], after0_15]
        rw [show (dats m 0 c).leavesExact 16 t = owns (c : Thread nD τ) (ms0_16 t) fullShare ((dats m 0 c).after 16 t) from by
      unfold Dat.leavesExact; rw [liveAt0_16 t], after0_16]
        rw [show (dats m 0 c).leavesExact 17 t = owns (c : Thread nD τ) (ms0_17 t) fullShare ((dats m 0 c).after 17 t) from by
      unfold Dat.leavesExact; rw [liveAt0_17 t], after0_17]
        rw [show (dats m 0 c).leavesExact 18 t = owns (c : Thread nD τ) (ms0_18 t) fullShare ((dats m 0 c).after 18 t) from by
      unfold Dat.leavesExact; rw [liveAt0_18 t], after0_18]
        rw [show (dats m 0 c).leavesExact 19 t = owns (c : Thread nD τ) (ms0_19 t) fullShare ((dats m 0 c).after 19 t) from by
      unfold Dat.leavesExact; rw [liveAt0_19 t], after0_19]
        rw [show (dats m 0 c).leavesExact 20 t = owns (c : Thread nD τ) (ms0_20 t) fullShare ((dats m 0 c).after 20 t) from by
      unfold Dat.leavesExact; rw [liveAt0_20_A t ((hcond0_0 t).mpr h0) ((hcond0_1 t).mpr h1) (fun h => h2 ((hcond0_2 t).mp h))], after0_20]
        rw [show (dats m 0 c).leavesExact 21 t = owns (c : Thread nD τ) (ms0_21 t) fullShare ((dats m 0 c).after 21 t) from by
      unfold Dat.leavesExact; rw [liveAt0_21_A t ((hcond0_0 t).mpr h0) ((hcond0_1 t).mpr h1) (fun h => h2 ((hcond0_2 t).mp h))], after0_21]
        rw [show (dats m 0 c).leavesExact 22 t = owns (c : Thread nD τ) (ms0_22 t) fullShare ((dats m 0 c).after 22 t) from by
      unfold Dat.leavesExact; rw [liveAt0_22_A t ((hcond0_0 t).mpr h0) ((hcond0_1 t).mpr h1) (fun h => h2 ((hcond0_2 t).mp h))], after0_22]
        rw [show (dats m 0 c).leavesExact 23 t = owns (c : Thread nD τ) (ms0_23 t) fullShare ((dats m 0 c).after 23 t) from by
      unfold Dat.leavesExact; rw [liveAt0_23_A t ((hcond0_0 t).mpr h0) ((hcond0_1 t).mpr h1) (fun h => h2 ((hcond0_2 t).mp h))], after0_23]
        rw [show (dats m 0 c).leavesExact 24 t = owns (c : Thread nD τ) (ms0_24 t) fullShare ((dats m 0 c).after 24 t) from by
      unfold Dat.leavesExact; rw [liveAt0_24_A t ((hcond0_0 t).mpr h0) ((hcond0_1 t).mpr h1) (fun h => h2 ((hcond0_2 t).mp h))], after0_24]
        rw [show (dats m 0 c).leavesExact 25 t = owns (c : Thread nD τ) (ms0_25 t) fullShare ((dats m 0 c).after 25 t) from by
      unfold Dat.leavesExact; rw [liveAt0_25_A t ((hcond0_0 t).mpr h0) ((hcond0_1 t).mpr h1) (fun h => h2 ((hcond0_2 t).mp h))], after0_25]
        rw [show (dats m 0 c).leavesExact 26 t = owns (c : Thread nD τ) (ms0_26 t) fullShare ((dats m 0 c).after 26 t) from by
      unfold Dat.leavesExact; rw [liveAt0_26_A t ((hcond0_0 t).mpr h0) ((hcond0_1 t).mpr h1) (fun h => h2 ((hcond0_2 t).mp h))], after0_26]
        by_cases hz : t.val = 0
        · rw [PhiS_castSucc m c t, PhiS_zero m c _ _ hz, PhiA0_eq]
          rw [outsAt0_A m c t h0 h1 h2]
          unfold pointA
          unfold out0_A_20 out0_A_21 out0_A_22 out0_A_23 out0_A_24 out0_A_25 out0_A_26 sout0_A_0 sout0_A_1 sout0_A_2; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
          iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)).2.2.2.2.2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]; · iexact H17
          isplitl [H18]; · iexact H18
          isplitl [H19]; · iexact H19
          isplitl [H20]; · iexists _; iexact H20
          isplitl [H21]; · iexists _; iexact H21
          isplitl [H22]; · iexists _; iexact H22
          isplitl [H23]; · iexists _; iexact H23
          isplitl [H24]; · iexists _; iexact H24
          isplitl [H25]; · iexists _; iexact H25
          isplitl [H26]; · iexists _; iexact H26
          isplitl [HS0]; · iexact HS0
          isplitl [HS1]; · iexact HS1
          isplitl [HS2]; · iexact HS2
          iintro ⟨H0, H1, H2, H3, H4, H5, H6, H7, H8, H9, H10, H11, H12, H13, H14, H15, H16, H17, H18, H19, ⟨%e20, H20⟩, ⟨%e21, H21⟩, ⟨%e22, H22⟩, ⟨%e23, H23⟩, ⟨%e24, H24⟩, ⟨%e25, H25⟩, ⟨%e26, H26⟩, ⟨%es0, HS0⟩, ⟨%es1, HS1⟩, ⟨%es2, HS2⟩⟩
          isplitl [HS0 HS1 HS2 Hg]
          · isplitl [HS0 HS1 HS2]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]; · iexact H17
          isplitl [H18]; · iexact H18
          isplitl [H19]; · iexact H19
          isplitl [H20]
          · unfold owns; iexists _; isplitr
            swap; · iexact H20
            ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H21]
          · unfold owns; iexists _; isplitr
            swap; · iexact H21
            ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H22]
          · unfold owns; iexists _; isplitr
            swap; · iexact H22
            ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H23]
          · unfold owns; iexists _; isplitr
            swap; · iexact H23
            ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H24]
          · unfold owns; iexists _; isplitr
            swap; · iexact H24
            ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H25]
          · unfold owns; iexists _; isplitr
            swap; · iexact H25
            ipureintro; exact View.read_writes_of_cover _ _ _ _ _ (cover0_A_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact H26
          ipureintro; exact View.read_writes_of_cover _ _ _ _ _ (cover0_A_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
        · rw [PhiS_castSucc m c t, PhiS_pos m c _ _ hz]
          rw [outsAt0_A m c t h0 h1 h2]
          unfold pointA
          unfold out0_A_20 out0_A_21 out0_A_22 out0_A_23 out0_A_24 out0_A_25 out0_A_26 sout0_A_0 sout0_A_1 sout0_A_2; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
          iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) ((hcond0_1 t).mpr h1) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)).2.2.2.2.2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]; · iexact H17
          isplitl [H18]; · iexact H18
          isplitl [H19]; · iexact H19
          isplitl [H20]; · iexists _; iexact H20
          isplitl [H21]; · iexists _; iexact H21
          isplitl [H22]; · iexists _; iexact H22
          isplitl [H23]; · iexists _; iexact H23
          isplitl [H24]; · iexists _; iexact H24
          isplitl [H25]; · iexists _; iexact H25
          isplitl [H26]; · iexists _; iexact H26
          isplitl [HS0]; · iexists _; iexact HS0
          isplitl [HS1]; · iexists _; iexact HS1
          isplitl [HS2]; · iexists _; iexact HS2
          iintro ⟨H0, H1, H2, H3, H4, H5, H6, H7, H8, H9, H10, H11, H12, H13, H14, H15, H16, H17, H18, H19, ⟨%e20, H20⟩, ⟨%e21, H21⟩, ⟨%e22, H22⟩, ⟨%e23, H23⟩, ⟨%e24, H24⟩, ⟨%e25, H25⟩, ⟨%e26, H26⟩, ⟨%es0, HS0⟩, ⟨%es1, HS1⟩, ⟨%es2, HS2⟩⟩
          isplitl [HS0 HS1 HS2 Hg]
          · isplitl [HS0 HS1 HS2]
            · isplitl [HS0]
              · unfold owns; iexists _; isplitr
                swap; · iexact HS0
                ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              unfold owns; iexists _; isplitr
              swap; · iexact HS2
              ipureintro; exact View.read_writes_of_cover _ _ _ _ _ (scover0_A_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]; · iexact H17
          isplitl [H18]; · iexact H18
          isplitl [H19]; · iexact H19
          isplitl [H20]
          · unfold owns; iexists _; isplitr
            swap; · iexact H20
            ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H21]
          · unfold owns; iexists _; isplitr
            swap; · iexact H21
            ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H22]
          · unfold owns; iexists _; isplitr
            swap; · iexact H22
            ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H23]
          · unfold owns; iexists _; isplitr
            swap; · iexact H23
            ipureintro; exact View.read_writes_of_cover _ _ _ _ _ (cover0_A_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H24]
          · unfold owns; iexists _; isplitr
            swap; · iexact H24
            ipureintro; exact View.read_writes_of_cover _ _ _ _ _ (cover0_A_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H25]
          · unfold owns; iexists _; isplitr
            swap; · iexact H25
            ipureintro; exact View.read_writes_of_cover _ _ _ _ _ (cover0_A_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact H26
          ipureintro; exact View.read_writes_of_cover _ _ _ _ _ (cover0_A_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · by_cases h2 : 32 ≤ t.val
      · exfalso; omega
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [show (dats m 0 c).leavesExact 13 t = owns (c : Thread nD τ) (ms0_13 t) fullShare ((dats m 0 c).after 13 t) from by
      unfold Dat.leavesExact; rw [liveAt0_13 t], after0_13]
        rw [show (dats m 0 c).leavesExact 14 t = owns (c : Thread nD τ) (ms0_14 t) fullShare ((dats m 0 c).after 14 t) from by
      unfold Dat.leavesExact; rw [liveAt0_14 t], after0_14]
        rw [show (dats m 0 c).leavesExact 15 t = owns (c : Thread nD τ) (ms0_15 t) fullShare ((dats m 0 c).after 15 t) from by
      unfold Dat.leavesExact; rw [liveAt0_15 t], after0_15]
        rw [show (dats m 0 c).leavesExact 16 t = owns (c : Thread nD τ) (ms0_16 t) fullShare ((dats m 0 c).after 16 t) from by
      unfold Dat.leavesExact; rw [liveAt0_16 t], after0_16]
        rw [show (dats m 0 c).leavesExact 17 t = owns (c : Thread nD τ) (ms0_17 t) fullShare ((dats m 0 c).after 17 t) from by
      unfold Dat.leavesExact; rw [liveAt0_17 t], after0_17]
        rw [show (dats m 0 c).leavesExact 18 t = owns (c : Thread nD τ) (ms0_18 t) fullShare ((dats m 0 c).after 18 t) from by
      unfold Dat.leavesExact; rw [liveAt0_18 t], after0_18]
        rw [show (dats m 0 c).leavesExact 19 t = owns (c : Thread nD τ) (ms0_19 t) fullShare ((dats m 0 c).after 19 t) from by
      unfold Dat.leavesExact; rw [liveAt0_19 t], after0_19]
        rw [show (dats m 0 c).leavesExact 20 t = owns (c : Thread nD τ) (ms0_20 t) fullShare ((dats m 0 c).after 20 t) from by
      unfold Dat.leavesExact; rw [liveAt0_20_B t ((hcond0_0 t).mpr h0) (fun h => h1 ((hcond0_1 t).mp h)) (fun h => h2 ((hcond0_2 t).mp h))], after0_20]
        rw [show (dats m 0 c).leavesExact 21 t = owns (c : Thread nD τ) (ms0_21 t) fullShare ((dats m 0 c).after 21 t) from by
      unfold Dat.leavesExact; rw [liveAt0_21_B t ((hcond0_0 t).mpr h0) (fun h => h1 ((hcond0_1 t).mp h)) (fun h => h2 ((hcond0_2 t).mp h))], after0_21]
        rw [show (dats m 0 c).leavesExact 22 t = owns (c : Thread nD τ) (ms0_22 t) fullShare ((dats m 0 c).after 22 t) from by
      unfold Dat.leavesExact; rw [liveAt0_22_B t ((hcond0_0 t).mpr h0) (fun h => h1 ((hcond0_1 t).mp h)) (fun h => h2 ((hcond0_2 t).mp h))], after0_22]
        rw [show (dats m 0 c).leavesExact 23 t = owns (c : Thread nD τ) (ms0_23 t) fullShare ((dats m 0 c).after 23 t) from by
      unfold Dat.leavesExact; rw [liveAt0_23_B t ((hcond0_0 t).mpr h0) (fun h => h1 ((hcond0_1 t).mp h)) (fun h => h2 ((hcond0_2 t).mp h))], after0_23]
        rw [show (dats m 0 c).leavesExact 24 t = owns (c : Thread nD τ) (ms0_24 t) fullShare ((dats m 0 c).after 24 t) from by
      unfold Dat.leavesExact; rw [liveAt0_24_B t ((hcond0_0 t).mpr h0) (fun h => h1 ((hcond0_1 t).mp h)) (fun h => h2 ((hcond0_2 t).mp h))], after0_24]
        rw [show (dats m 0 c).leavesExact 25 t = owns (c : Thread nD τ) (ms0_25 t) fullShare ((dats m 0 c).after 25 t) from by
      unfold Dat.leavesExact; rw [liveAt0_25_B t ((hcond0_0 t).mpr h0) (fun h => h1 ((hcond0_1 t).mp h)) (fun h => h2 ((hcond0_2 t).mp h))], after0_25]
        rw [show (dats m 0 c).leavesExact 26 t = owns (c : Thread nD τ) (ms0_26 t) fullShare ((dats m 0 c).after 26 t) from by
      unfold Dat.leavesExact; rw [liveAt0_26_B t ((hcond0_0 t).mpr h0) (fun h => h1 ((hcond0_1 t).mp h)) (fun h => h2 ((hcond0_2 t).mp h))], after0_26]
        by_cases hz : t.val = 0
        · exfalso; have hN : t.val < 64 := lt_of_lt_of_eq t.isLt (show cfg0.N = 64 from N_0); omega
        · rw [PhiS_castSucc m c t, PhiS_pos m c _ _ hz]
          rw [outsAt0_B m c t h0 h1 h2]
          unfold pointB
          unfold out0_B_20 out0_B_21 out0_B_22 out0_B_23 out0_B_24 out0_B_25 out0_B_26 sout0_B_0 sout0_B_1 sout0_B_2; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
          iapply ((kernelRun0_B c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (fun h => h2 ((hcond0_2 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) _ _ _).2.2.2.2.2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]; · iexact H17
          isplitl [H18]; · iexact H18
          isplitl [H19]; · iexact H19
          isplitl [H20]; · iexists _; iexact H20
          isplitl [H21]; · iexists _; iexact H21
          isplitl [H22]; · iexists _; iexact H22
          isplitl [H23]; · iexists _; iexact H23
          isplitl [H24]; · iexists _; iexact H24
          isplitl [H25]; · iexists _; iexact H25
          isplitl [H26]; · iexists _; iexact H26
          isplitl [HS0]; · iexact HS0
          isplitl [HS1]; · iexact HS1
          isplitl [HS2]; · iexact HS2
          iintro ⟨H0, H1, H2, H3, H4, H5, H6, H7, H8, H9, H10, H11, H12, H13, H14, H15, H16, H17, H18, H19, ⟨%e20, H20⟩, ⟨%e21, H21⟩, ⟨%e22, H22⟩, ⟨%e23, H23⟩, ⟨%e24, H24⟩, ⟨%e25, H25⟩, ⟨%e26, H26⟩, HS0, HS1, HS2⟩
          isplitl [HS0 HS1 HS2 Hg]
          · isplitl [HS0 HS1 HS2]
            · isplitl [HS0]
              · iexact HS0
              isplitl [HS1]
              · iexact HS1
              iexact HS2
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]; · iexact H17
          isplitl [H18]; · iexact H18
          isplitl [H19]; · iexact H19
          isplitl [H20]
          · unfold owns; iexists _; isplitr
            swap; · iexact H20
            ipureintro; exact View.read_writes_of_cover _ _ _ _ _ (cover0_B_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H21]
          · unfold owns; iexists _; isplitr
            swap; · iexact H21
            ipureintro; exact View.read_writes_of_cover _ _ _ _ _ (cover0_B_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H22]
          · unfold owns; iexists _; isplitr
            swap; · iexact H22
            ipureintro; exact View.read_writes_of_cover _ _ _ _ _ (cover0_B_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H23]
          · unfold owns; iexists _; isplitr
            swap; · iexact H23
            ipureintro; exact View.read_writes_of_cover _ _ _ _ _ (cover0_B_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H24]
          · unfold owns; iexists _; isplitr
            swap; · iexact H24
            ipureintro; exact View.read_writes_of_cover _ _ _ _ _ (cover0_B_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H25]
          · unfold owns; iexists _; isplitr
            swap; · iexact H25
            ipureintro; exact View.read_writes_of_cover _ _ _ _ _ (cover0_B_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact H26
          ipureintro; exact View.read_writes_of_cover _ _ _ _ _ (cover0_B_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  · by_cases h2 : 32 ≤ t.val
    · by_cases h3 : t.val % 8 = 0
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [show (dats m 0 c).leavesExact 13 t = owns (c : Thread nD τ) (ms0_13 t) fullShare ((dats m 0 c).after 13 t) from by
      unfold Dat.leavesExact; rw [liveAt0_13 t], after0_13]
        rw [show (dats m 0 c).leavesExact 14 t = owns (c : Thread nD τ) (ms0_14 t) fullShare ((dats m 0 c).after 14 t) from by
      unfold Dat.leavesExact; rw [liveAt0_14 t], after0_14]
        rw [show (dats m 0 c).leavesExact 15 t = owns (c : Thread nD τ) (ms0_15 t) fullShare ((dats m 0 c).after 15 t) from by
      unfold Dat.leavesExact; rw [liveAt0_15 t], after0_15]
        rw [show (dats m 0 c).leavesExact 16 t = owns (c : Thread nD τ) (ms0_16 t) fullShare ((dats m 0 c).after 16 t) from by
      unfold Dat.leavesExact; rw [liveAt0_16 t], after0_16]
        rw [show (dats m 0 c).leavesExact 17 t = owns (c : Thread nD τ) (ms0_17 t) fullShare ((dats m 0 c).after 17 t) from by
      unfold Dat.leavesExact; rw [liveAt0_17 t], after0_17]
        rw [show (dats m 0 c).leavesExact 18 t = owns (c : Thread nD τ) (ms0_18 t) fullShare ((dats m 0 c).after 18 t) from by
      unfold Dat.leavesExact; rw [liveAt0_18 t], after0_18]
        rw [show (dats m 0 c).leavesExact 19 t = owns (c : Thread nD τ) (ms0_19 t) fullShare ((dats m 0 c).after 19 t) from by
      unfold Dat.leavesExact; rw [liveAt0_19 t], after0_19]
        rw [show (dats m 0 c).leavesExact 20 t = owns (c : Thread nD τ) (ms0_20 t) fullShare ((dats m 0 c).after 20 t) from by
      unfold Dat.leavesExact; rw [liveAt0_20_C t (fun h => h0 ((hcond0_0 t).mp h)) ((hcond0_2 t).mpr h2) ((hcond0_3 t).mpr h3)], after0_20]
        rw [show (dats m 0 c).leavesExact 21 t = owns (c : Thread nD τ) (ms0_21 t) fullShare ((dats m 0 c).after 21 t) from by
      unfold Dat.leavesExact; rw [liveAt0_21_C t (fun h => h0 ((hcond0_0 t).mp h)) ((hcond0_2 t).mpr h2) ((hcond0_3 t).mpr h3)], after0_21]
        rw [show (dats m 0 c).leavesExact 22 t = owns (c : Thread nD τ) (ms0_22 t) fullShare ((dats m 0 c).after 22 t) from by
      unfold Dat.leavesExact; rw [liveAt0_22_C t (fun h => h0 ((hcond0_0 t).mp h)) ((hcond0_2 t).mpr h2) ((hcond0_3 t).mpr h3)], after0_22]
        rw [show (dats m 0 c).leavesExact 23 t = owns (c : Thread nD τ) (ms0_23 t) fullShare ((dats m 0 c).after 23 t) from by
      unfold Dat.leavesExact; rw [liveAt0_23_C t (fun h => h0 ((hcond0_0 t).mp h)) ((hcond0_2 t).mpr h2) ((hcond0_3 t).mpr h3)], after0_23]
        rw [show (dats m 0 c).leavesExact 24 t = owns (c : Thread nD τ) (ms0_24 t) fullShare ((dats m 0 c).after 24 t) from by
      unfold Dat.leavesExact; rw [liveAt0_24_C t (fun h => h0 ((hcond0_0 t).mp h)) ((hcond0_2 t).mpr h2) ((hcond0_3 t).mpr h3)], after0_24]
        rw [show (dats m 0 c).leavesExact 25 t = owns (c : Thread nD τ) (ms0_25 t) fullShare ((dats m 0 c).after 25 t) from by
      unfold Dat.leavesExact; rw [liveAt0_25_C t (fun h => h0 ((hcond0_0 t).mp h)) ((hcond0_2 t).mpr h2) ((hcond0_3 t).mpr h3)], after0_25]
        rw [show (dats m 0 c).leavesExact 26 t = owns (c : Thread nD τ) (ms0_26 t) fullShare ((dats m 0 c).after 26 t) from by
      unfold Dat.leavesExact; rw [liveAt0_26_C t (fun h => h0 ((hcond0_0 t).mp h)) ((hcond0_2 t).mpr h2) ((hcond0_3 t).mpr h3)], after0_26]
        by_cases hz : t.val = 0
        · exfalso; have hN : t.val < 64 := lt_of_lt_of_eq t.isLt (show cfg0.N = 64 from N_0); omega
        · rw [PhiS_castSucc m c t, PhiS_pos m c _ _ hz]
          rw [outsAt0_C m c t h0 h2 h3]
          unfold pointC
          unfold out0_C_20 out0_C_21 out0_C_22 out0_C_23 out0_C_24 out0_C_25 out0_C_26 sout0_C_0 sout0_C_1 sout0_C_2; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
          iapply ((kernelRun0_C c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_2 t).mpr h2) ((hcond0_3 t).mpr h3) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t)).2.2.2.2.2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]; · iexact H17
          isplitl [H18]; · iexact H18
          isplitl [H19]; · iexact H19
          isplitl [H20]; · iexists _; iexact H20
          isplitl [H21]; · iexists _; iexact H21
          isplitl [H22]; · iexists _; iexact H22
          isplitl [H23]; · iexists _; iexact H23
          isplitl [H24]; · iexists _; iexact H24
          isplitl [H25]; · iexists _; iexact H25
          isplitl [H26]; · iexists _; iexact H26
          isplitl [HS0]; · iexists _; iexact HS0
          isplitl [HS1]; · iexists _; iexact HS1
          isplitl [HS2]; · iexists _; iexact HS2
          iintro ⟨H0, H1, H2, H3, H4, H5, H6, H7, H8, H9, H10, H11, H12, H13, H14, H15, H16, H17, H18, H19, ⟨%e20, H20⟩, ⟨%e21, H21⟩, ⟨%e22, H22⟩, ⟨%e23, H23⟩, ⟨%e24, H24⟩, ⟨%e25, H25⟩, ⟨%e26, H26⟩, ⟨%es0, HS0⟩, ⟨%es1, HS1⟩, ⟨%es2, HS2⟩⟩
          isplitl [HS0 HS1 HS2 Hg]
          · isplitl [HS0 HS1 HS2]
            · isplitl [HS0]
              · unfold owns; iexists _; isplitr
                swap; · iexact HS0
                ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              isplitl [HS1]
              · unfold owns; iexists _; isplitr
                swap; · iexact HS1
                ipureintro; exact View.read_writes_of_cover _ _ _ _ _ (scover0_C_1 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
              unfold owns; iexists _; isplitr
              swap; · iexact HS2
              ipureintro; exact View.read_writes_of_cover _ _ _ _ _ (scover0_C_2 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]; · iexact H17
          isplitl [H18]; · iexact H18
          isplitl [H19]; · iexact H19
          isplitl [H20]
          · unfold owns; iexists _; isplitr
            swap; · iexact H20
            ipureintro; exact View.read_writes_of_cover _ _ _ _ _ (cover0_C_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H21]
          · unfold owns; iexists _; isplitr
            swap; · iexact H21
            ipureintro; exact View.read_writes_of_cover _ _ _ _ _ (cover0_C_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H22]
          · unfold owns; iexists _; isplitr
            swap; · iexact H22
            ipureintro; exact View.read_writes_of_cover _ _ _ _ _ (cover0_C_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H23]
          · unfold owns; iexists _; isplitr
            swap; · iexact H23
            ipureintro; exact View.read_writes_of_cover _ _ _ _ _ (cover0_C_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H24]
          · unfold owns; iexists _; isplitr
            swap; · iexact H24
            ipureintro; exact View.read_writes_of_cover _ _ _ _ _ (cover0_C_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H25]
          · unfold owns; iexists _; isplitr
            swap; · iexact H25
            ipureintro; exact View.read_writes_of_cover _ _ _ _ _ (cover0_C_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact H26
          ipureintro; exact View.read_writes_of_cover _ _ _ _ _ (cover0_C_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      · rw [show (dats m 0 c).leavesExact 0 t = owns (c : Thread nD τ) (ms0_0 t) fullShare ((dats m 0 c).after 0 t) from by
      unfold Dat.leavesExact; rw [liveAt0_0 t], after0_0]
        rw [show (dats m 0 c).leavesExact 1 t = owns (c : Thread nD τ) (ms0_1 t) fullShare ((dats m 0 c).after 1 t) from by
      unfold Dat.leavesExact; rw [liveAt0_1 t], after0_1]
        rw [show (dats m 0 c).leavesExact 2 t = owns (c : Thread nD τ) (ms0_2 t) fullShare ((dats m 0 c).after 2 t) from by
      unfold Dat.leavesExact; rw [liveAt0_2 t], after0_2]
        rw [show (dats m 0 c).leavesExact 3 t = owns (c : Thread nD τ) (ms0_3 t) fullShare ((dats m 0 c).after 3 t) from by
      unfold Dat.leavesExact; rw [liveAt0_3 t], after0_3]
        rw [show (dats m 0 c).leavesExact 4 t = owns (c : Thread nD τ) (ms0_4 t) fullShare ((dats m 0 c).after 4 t) from by
      unfold Dat.leavesExact; rw [liveAt0_4 t], after0_4]
        rw [show (dats m 0 c).leavesExact 5 t = owns (c : Thread nD τ) (ms0_5 t) fullShare ((dats m 0 c).after 5 t) from by
      unfold Dat.leavesExact; rw [liveAt0_5 t], after0_5]
        rw [show (dats m 0 c).leavesExact 6 t = owns (c : Thread nD τ) (ms0_6 t) fullShare ((dats m 0 c).after 6 t) from by
      unfold Dat.leavesExact; rw [liveAt0_6 t], after0_6]
        rw [show (dats m 0 c).leavesExact 7 t = owns (c : Thread nD τ) (ms0_7 t) fullShare ((dats m 0 c).after 7 t) from by
      unfold Dat.leavesExact; rw [liveAt0_7 t], after0_7]
        rw [show (dats m 0 c).leavesExact 8 t = owns (c : Thread nD τ) (ms0_8 t) fullShare ((dats m 0 c).after 8 t) from by
      unfold Dat.leavesExact; rw [liveAt0_8 t], after0_8]
        rw [show (dats m 0 c).leavesExact 9 t = owns (c : Thread nD τ) (ms0_9 t) fullShare ((dats m 0 c).after 9 t) from by
      unfold Dat.leavesExact; rw [liveAt0_9 t], after0_9]
        rw [show (dats m 0 c).leavesExact 10 t = owns (c : Thread nD τ) (ms0_10 t) fullShare ((dats m 0 c).after 10 t) from by
      unfold Dat.leavesExact; rw [liveAt0_10 t], after0_10]
        rw [show (dats m 0 c).leavesExact 11 t = owns (c : Thread nD τ) (ms0_11 t) fullShare ((dats m 0 c).after 11 t) from by
      unfold Dat.leavesExact; rw [liveAt0_11 t], after0_11]
        rw [show (dats m 0 c).leavesExact 12 t = owns (c : Thread nD τ) (ms0_12 t) fullShare ((dats m 0 c).after 12 t) from by
      unfold Dat.leavesExact; rw [liveAt0_12 t], after0_12]
        rw [show (dats m 0 c).leavesExact 13 t = owns (c : Thread nD τ) (ms0_13 t) fullShare ((dats m 0 c).after 13 t) from by
      unfold Dat.leavesExact; rw [liveAt0_13 t], after0_13]
        rw [show (dats m 0 c).leavesExact 14 t = owns (c : Thread nD τ) (ms0_14 t) fullShare ((dats m 0 c).after 14 t) from by
      unfold Dat.leavesExact; rw [liveAt0_14 t], after0_14]
        rw [show (dats m 0 c).leavesExact 15 t = owns (c : Thread nD τ) (ms0_15 t) fullShare ((dats m 0 c).after 15 t) from by
      unfold Dat.leavesExact; rw [liveAt0_15 t], after0_15]
        rw [show (dats m 0 c).leavesExact 16 t = owns (c : Thread nD τ) (ms0_16 t) fullShare ((dats m 0 c).after 16 t) from by
      unfold Dat.leavesExact; rw [liveAt0_16 t], after0_16]
        rw [show (dats m 0 c).leavesExact 17 t = owns (c : Thread nD τ) (ms0_17 t) fullShare ((dats m 0 c).after 17 t) from by
      unfold Dat.leavesExact; rw [liveAt0_17 t], after0_17]
        rw [show (dats m 0 c).leavesExact 18 t = owns (c : Thread nD τ) (ms0_18 t) fullShare ((dats m 0 c).after 18 t) from by
      unfold Dat.leavesExact; rw [liveAt0_18 t], after0_18]
        rw [show (dats m 0 c).leavesExact 19 t = owns (c : Thread nD τ) (ms0_19 t) fullShare ((dats m 0 c).after 19 t) from by
      unfold Dat.leavesExact; rw [liveAt0_19 t], after0_19]
        rw [show (dats m 0 c).leavesExact 20 t = owns (c : Thread nD τ) (ms0_20 t) fullShare ((dats m 0 c).after 20 t) from by
      unfold Dat.leavesExact; rw [liveAt0_20_D t (fun h => h0 ((hcond0_0 t).mp h)) ((hcond0_2 t).mpr h2) (fun h => h3 ((hcond0_3 t).mp h))], after0_20]
        rw [show (dats m 0 c).leavesExact 21 t = owns (c : Thread nD τ) (ms0_21 t) fullShare ((dats m 0 c).after 21 t) from by
      unfold Dat.leavesExact; rw [liveAt0_21_D t (fun h => h0 ((hcond0_0 t).mp h)) ((hcond0_2 t).mpr h2) (fun h => h3 ((hcond0_3 t).mp h))], after0_21]
        rw [show (dats m 0 c).leavesExact 22 t = owns (c : Thread nD τ) (ms0_22 t) fullShare ((dats m 0 c).after 22 t) from by
      unfold Dat.leavesExact; rw [liveAt0_22_D t (fun h => h0 ((hcond0_0 t).mp h)) ((hcond0_2 t).mpr h2) (fun h => h3 ((hcond0_3 t).mp h))], after0_22]
        rw [show (dats m 0 c).leavesExact 23 t = owns (c : Thread nD τ) (ms0_23 t) fullShare ((dats m 0 c).after 23 t) from by
      unfold Dat.leavesExact; rw [liveAt0_23_D t (fun h => h0 ((hcond0_0 t).mp h)) ((hcond0_2 t).mpr h2) (fun h => h3 ((hcond0_3 t).mp h))], after0_23]
        rw [show (dats m 0 c).leavesExact 24 t = owns (c : Thread nD τ) (ms0_24 t) fullShare ((dats m 0 c).after 24 t) from by
      unfold Dat.leavesExact; rw [liveAt0_24_D t (fun h => h0 ((hcond0_0 t).mp h)) ((hcond0_2 t).mpr h2) (fun h => h3 ((hcond0_3 t).mp h))], after0_24]
        rw [show (dats m 0 c).leavesExact 25 t = owns (c : Thread nD τ) (ms0_25 t) fullShare ((dats m 0 c).after 25 t) from by
      unfold Dat.leavesExact; rw [liveAt0_25_D t (fun h => h0 ((hcond0_0 t).mp h)) ((hcond0_2 t).mpr h2) (fun h => h3 ((hcond0_3 t).mp h))], after0_25]
        rw [show (dats m 0 c).leavesExact 26 t = owns (c : Thread nD τ) (ms0_26 t) fullShare ((dats m 0 c).after 26 t) from by
      unfold Dat.leavesExact; rw [liveAt0_26_D t (fun h => h0 ((hcond0_0 t).mp h)) ((hcond0_2 t).mpr h2) (fun h => h3 ((hcond0_3 t).mp h))], after0_26]
        by_cases hz : t.val = 0
        · exfalso; have hN : t.val < 64 := lt_of_lt_of_eq t.isLt (show cfg0.N = 64 from N_0); omega
        · rw [PhiS_castSucc m c t, PhiS_pos m c _ _ hz]
          rw [outsAt0_D m c t h0 h2 h3]
          unfold pointD
          unfold out0_D_20 out0_D_21 out0_D_22 out0_D_23 out0_D_24 out0_D_25 out0_D_26 sout0_D_0 sout0_D_1 sout0_D_2; (try dsimp only)
          iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
          iapply ((kernelRun0_D c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ (fun h => h0 ((hcond0_0 t).mp h)) ((hcond0_2 t).mpr h2) (fun h => h3 ((hcond0_3 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) _ _ _).2.2.2.2.2.2.2.2.2.2 Set.univ _)
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]; · iexact H17
          isplitl [H18]; · iexact H18
          isplitl [H19]; · iexact H19
          isplitl [H20]; · iexists _; iexact H20
          isplitl [H21]; · iexists _; iexact H21
          isplitl [H22]; · iexists _; iexact H22
          isplitl [H23]; · iexists _; iexact H23
          isplitl [H24]; · iexists _; iexact H24
          isplitl [H25]; · iexists _; iexact H25
          isplitl [H26]; · iexists _; iexact H26
          isplitl [HS0]; · iexact HS0
          isplitl [HS1]; · iexact HS1
          isplitl [HS2]; · iexact HS2
          iintro ⟨H0, H1, H2, H3, H4, H5, H6, H7, H8, H9, H10, H11, H12, H13, H14, H15, H16, H17, H18, H19, ⟨%e20, H20⟩, ⟨%e21, H21⟩, ⟨%e22, H22⟩, ⟨%e23, H23⟩, ⟨%e24, H24⟩, ⟨%e25, H25⟩, ⟨%e26, H26⟩, HS0, HS1, HS2⟩
          isplitl [HS0 HS1 HS2 Hg]
          · isplitl [HS0 HS1 HS2]
            · isplitl [HS0]
              · iexact HS0
              isplitl [HS1]
              · iexact HS1
              iexact HS2
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          isplitl [H10]; · iexact H10
          isplitl [H11]; · iexact H11
          isplitl [H12]; · iexact H12
          isplitl [H13]; · iexact H13
          isplitl [H14]; · iexact H14
          isplitl [H15]; · iexact H15
          isplitl [H16]; · iexact H16
          isplitl [H17]; · iexact H17
          isplitl [H18]; · iexact H18
          isplitl [H19]; · iexact H19
          isplitl [H20]
          · unfold owns; iexists _; isplitr
            swap; · iexact H20
            ipureintro; exact View.read_writes_of_cover _ _ _ _ _ (cover0_D_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H21]
          · unfold owns; iexists _; isplitr
            swap; · iexact H21
            ipureintro; exact View.read_writes_of_cover _ _ _ _ _ (cover0_D_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H22]
          · unfold owns; iexists _; isplitr
            swap; · iexact H22
            ipureintro; exact View.read_writes_of_cover _ _ _ _ _ (cover0_D_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H23]
          · unfold owns; iexists _; isplitr
            swap; · iexact H23
            ipureintro; exact View.read_writes_of_cover _ _ _ _ _ (cover0_D_23 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H24]
          · unfold owns; iexists _; isplitr
            swap; · iexact H24
            ipureintro; exact View.read_writes_of_cover _ _ _ _ _ (cover0_D_24 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          isplitl [H25]
          · unfold owns; iexists _; isplitr
            swap; · iexact H25
            ipureintro; exact View.read_writes_of_cover _ _ _ _ _ (cover0_D_25 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
          unfold owns; iexists _; isplitr
          swap; · iexact H26
          ipureintro; exact View.read_writes_of_cover _ _ _ _ _ (cover0_D_26 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · exfalso; omega

end Cert.Kernel15Ideal.Gen

end

end
-- ==== Proof.RwkvPrepFrame.lean ====
/- The body at any point, the run of the preparation and its frame. -/
module

public import proofs.«01_k».proof.Proof.RwkvPrepBody
public import proofs.«01_k».proof.Proof.RwkvPrepAt
public import Idealize.ShloMosaic.Lib.Claim

@[expose] public section

set_option maxRecDepth 16384

noncomputable section

namespace Cert.Kernel15Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem defs₀_row (t : Fin cfg0.N) :
    defs₀ (F := F) .tc cfg0.body (cfg0.bodyArgs t (cfg0.slots t)) = bodyAt0 t := by
  unfold defs₀; rw [Defs.onTc_tc]

set_option maxHeartbeats 16000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 64 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Kernel15Ideal.Gen

end

end
-- ==== Proof.RwkvPrepRefOps.lean ====
/- The reference program of the preparation of the scan, as the list of its host operations, and its run read back:
   the text of the generated run, with room for the elaboration of the list, which does not finish in the
   number of steps the generated file sets. -/
module

public import proofs.«01_k».proof.Proof.Gen.Reference15Ideal
public import Idealize.ShloMosaic.Lib.StableHlo.Run

@[expose] public section

noncomputable section

namespace Cert.Reference15Ideal.Value

open Cert.Reference15Ideal Cert.Reference15Ideal.Gen Idealize.ShloMosaic Idealize.ShloMosaic.TcCoe Idealize.SL.Sem Idealize.ShloMosaic.StableHlo

variable {F : FTy → Type} [FloatOps F]

/-- The joining of two arrays that gives `main_v5`, named. -/
def fn_main_v5 : (⟨S16x1x7008, .f32⟩ : BufTy).Contents (Elt F) → (⟨S16x255x7008, .f32⟩ : BufTy).Contents (Elt F) → (⟨S16x256x7008, .f32⟩ : BufTy).Contents (Elt F) :=
  (fun a b => concatenate S16x256x7008 1 [⟨S16x1x7008, a⟩, ⟨S16x255x7008, b⟩] concatenates_S16x1x7008_S16x255x7008_S16x256x7008_d1)

/-- The joining of two arrays that gives `main_v7`, named. -/
def fn_main_v7 : (⟨S16x255x7008, .f32⟩ : BufTy).Contents (Elt F) → (⟨S16x1x7008, .f32⟩ : BufTy).Contents (Elt F) → (⟨S16x256x7008, .f32⟩ : BufTy).Contents (Elt F) :=
  (fun a b => concatenate S16x256x7008 1 [⟨S16x255x7008, a⟩, ⟨S16x1x7008, b⟩] concatenates_S16x255x7008_S16x1x7008_S16x256x7008_d1)

/-- The joining of two arrays that gives `main_v21`, named. -/
def fn_main_v21 : (⟨S4x1x7008, .f32⟩ : BufTy).Contents (Elt F) → (⟨S4x1023x7008, .f32⟩ : BufTy).Contents (Elt F) → (⟨S4x1024x7008, .f32⟩ : BufTy).Contents (Elt F) :=
  (fun a b => concatenate S4x1024x7008 1 [⟨S4x1x7008, a⟩, ⟨S4x1023x7008, b⟩] concatenates_S4x1x7008_S4x1023x7008_S4x1024x7008_d1)

/-- The joining of two arrays that gives `main_v23`, named. -/
def fn_main_v23 : (⟨S4x1023x7008, .f32⟩ : BufTy).Contents (Elt F) → (⟨S4x1x7008, .f32⟩ : BufTy).Contents (Elt F) → (⟨S4x1024x7008, .f32⟩ : BufTy).Contents (Elt F) :=
  (fun a b => concatenate S4x1024x7008 1 [⟨S4x1023x7008, a⟩, ⟨S4x1x7008, b⟩] concatenates_S4x1023x7008_S4x1x7008_S4x1024x7008_d1)

/-- The joining of two arrays that gives `main_v34`, named. -/
def fn_main_v34 : (⟨S4096x7008, .f32⟩ : BufTy).Contents (Elt F) → (⟨S4096x7008, .f32⟩ : BufTy).Contents (Elt F) → (⟨S8192x7008, .f32⟩ : BufTy).Contents (Elt F) :=
  (fun a b => concatenate S8192x7008 0 [⟨S4096x7008, a⟩, ⟨S4096x7008, b⟩] concatenates_S4096x7008_S4096x7008_S8192x7008_d0)

/-- The joining of two arrays that gives `main_v76`, named. -/
def fn_main_v76 : (⟨S1x8192x2048, .f32⟩ : BufTy).Contents (Elt F) → (⟨S1x8192x2048, .f32⟩ : BufTy).Contents (Elt F) → (⟨S2x8192x2048, .f32⟩ : BufTy).Contents (Elt F) :=
  (fun a b => concatenate S2x8192x2048 0 [⟨S1x8192x2048, a⟩, ⟨S1x8192x2048, b⟩] concatenates_S1x8192x2048_S1x8192x2048_S2x8192x2048_d0)

set_option maxHeartbeats 8000000 in
set_option maxRecDepth 8192 in
/-- @main's 161 operations, in order (a called function's operations stand in its call's place, spelt `TRef.…`). -/
abbrev ops : List (HloOp τ sig (Elt F)) :=
  [ unary main_arg0 main_v0 ((extractStridedSlice S16x256x7008 ![0, 0, 0] · slices_S16x256x10080_S16x256x7008_0_0_0) : (⟨S16x256x10080, .f32⟩ : BufTy).Contents (Elt F) → (⟨S16x256x7008, .f32⟩ : BufTy).Contents (Elt F)),
    reshape main_arg2 main_v1 (rfl : (.f32 : EltTy) = .f32) shapeCasts_S1x7008_S7008,
    unary main_v0 main_v2 ((extractStridedSlice S16x1x7008 ![0, 0, 0] · slices_S16x256x7008_S16x1x7008_0_0_0) : (⟨S16x256x7008, .f32⟩ : BufTy).Contents (Elt F) → (⟨S16x1x7008, .f32⟩ : BufTy).Contents (Elt F)),
    nullary main_cst (constant S_ .f32 0x00000000#32),
    unary main_cst main_v3 (broadcastInDim S16x1x7008 ![] bcast_S_S16x1x7008 : (⟨S_, .f32⟩ : BufTy).Contents (Elt F) → (⟨S16x1x7008, .f32⟩ : BufTy).Contents (Elt F)),
    unary main_v0 main_v4 ((extractStridedSlice S16x255x7008 ![0, 0, 0] · slices_S16x256x7008_S16x255x7008_0_0_0) : (⟨S16x256x7008, .f32⟩ : BufTy).Contents (Elt F) → (⟨S16x255x7008, .f32⟩ : BufTy).Contents (Elt F)),
    binary main_v3 main_v4 main_v5 (fn_main_v5 (F := F)),
    unary main_v0 main_v6 ((extractStridedSlice S16x255x7008 ![0, 1, 0] · slices_S16x256x7008_S16x255x7008_0_1_0) : (⟨S16x256x7008, .f32⟩ : BufTy).Contents (Elt F) → (⟨S16x255x7008, .f32⟩ : BufTy).Contents (Elt F)),
    binary main_v6 main_v3 main_v7 (fn_main_v7 (F := F)),
    binary main_v5 main_v7 main_v8 (addf : (⟨S16x256x7008, .f32⟩ : BufTy).Contents (Elt F) → (⟨S16x256x7008, .f32⟩ : BufTy).Contents (Elt F) → (⟨S16x256x7008, .f32⟩ : BufTy).Contents (Elt F)),
    nullary main_cst_0 (constant S_ .f32 0x3F000000#32),
    unary main_cst_0 main_v9 (broadcastInDim S16x256x7008 ![] bcast_S_S16x256x7008 : (⟨S_, .f32⟩ : BufTy).Contents (Elt F) → (⟨S16x256x7008, .f32⟩ : BufTy).Contents (Elt F)),
    binary main_v9 main_v8 main_v10 (mulf : (⟨S16x256x7008, .f32⟩ : BufTy).Contents (Elt F) → (⟨S16x256x7008, .f32⟩ : BufTy).Contents (Elt F) → (⟨S16x256x7008, .f32⟩ : BufTy).Contents (Elt F)),
    binary main_v10 main_v0 main_v11 (subf : (⟨S16x256x7008, .f32⟩ : BufTy).Contents (Elt F) → (⟨S16x256x7008, .f32⟩ : BufTy).Contents (Elt F) → (⟨S16x256x7008, .f32⟩ : BufTy).Contents (Elt F)),
    unary main_v1 main_v12 (broadcastInDim S1x1x7008 ![2] bcast_S7008_S1x1x7008_2 : (⟨S7008, .f32⟩ : BufTy).Contents (Elt F) → (⟨S1x1x7008, .f32⟩ : BufTy).Contents (Elt F)),
    unary main_v12 main_v13 (broadcastInDim S16x256x7008 ![0, 1, 2] bcast_S1x1x7008_S16x256x7008_0_1_2 : (⟨S1x1x7008, .f32⟩ : BufTy).Contents (Elt F) → (⟨S16x256x7008, .f32⟩ : BufTy).Contents (Elt F)),
    binary main_v11 main_v13 main_v14 (mulf : (⟨S16x256x7008, .f32⟩ : BufTy).Contents (Elt F) → (⟨S16x256x7008, .f32⟩ : BufTy).Contents (Elt F) → (⟨S16x256x7008, .f32⟩ : BufTy).Contents (Elt F)),
    binary main_v0 main_v14 main_v15 (addf : (⟨S16x256x7008, .f32⟩ : BufTy).Contents (Elt F) → (⟨S16x256x7008, .f32⟩ : BufTy).Contents (Elt F) → (⟨S16x256x7008, .f32⟩ : BufTy).Contents (Elt F)),
    unary main_arg1 main_v16 ((extractStridedSlice S4x1024x7008 ![0, 0, 0] · slices_S4x1024x10080_S4x1024x7008_0_0_0) : (⟨S4x1024x10080, .f32⟩ : BufTy).Contents (Elt F) → (⟨S4x1024x7008, .f32⟩ : BufTy).Contents (Elt F)),
    reshape main_arg2 main_v17 (rfl : (.f32 : EltTy) = .f32) shapeCasts_S1x7008_S7008,
    unary main_v16 main_v18 ((extractStridedSlice S4x1x7008 ![0, 0, 0] · slices_S4x1024x7008_S4x1x7008_0_0_0) : (⟨S4x1024x7008, .f32⟩ : BufTy).Contents (Elt F) → (⟨S4x1x7008, .f32⟩ : BufTy).Contents (Elt F)),
    nullary main_cst_1 (constant S_ .f32 0x00000000#32),
    unary main_cst_1 main_v19 (broadcastInDim S4x1x7008 ![] bcast_S_S4x1x7008 : (⟨S_, .f32⟩ : BufTy).Contents (Elt F) → (⟨S4x1x7008, .f32⟩ : BufTy).Contents (Elt F)),
    unary main_v16 main_v20 ((extractStridedSlice S4x1023x7008 ![0, 0, 0] · slices_S4x1024x7008_S4x1023x7008_0_0_0) : (⟨S4x1024x7008, .f32⟩ : BufTy).Contents (Elt F) → (⟨S4x1023x7008, .f32⟩ : BufTy).Contents (Elt F)),
    binary main_v19 main_v20 main_v21 (fn_main_v21 (F := F)),
    unary main_v16 main_v22 ((extractStridedSlice S4x1023x7008 ![0, 1, 0] · slices_S4x1024x7008_S4x1023x7008_0_1_0) : (⟨S4x1024x7008, .f32⟩ : BufTy).Contents (Elt F) → (⟨S4x1023x7008, .f32⟩ : BufTy).Contents (Elt F)),
    binary main_v22 main_v19 main_v23 (fn_main_v23 (F := F)),
    binary main_v21 main_v23 main_v24 (addf : (⟨S4x1024x7008, .f32⟩ : BufTy).Contents (Elt F) → (⟨S4x1024x7008, .f32⟩ : BufTy).Contents (Elt F) → (⟨S4x1024x7008, .f32⟩ : BufTy).Contents (Elt F)),
    nullary main_cst_2 (constant S_ .f32 0x3F000000#32),
    unary main_cst_2 main_v25 (broadcastInDim S4x1024x7008 ![] bcast_S_S4x1024x7008 : (⟨S_, .f32⟩ : BufTy).Contents (Elt F) → (⟨S4x1024x7008, .f32⟩ : BufTy).Contents (Elt F)),
    binary main_v25 main_v24 main_v26 (mulf : (⟨S4x1024x7008, .f32⟩ : BufTy).Contents (Elt F) → (⟨S4x1024x7008, .f32⟩ : BufTy).Contents (Elt F) → (⟨S4x1024x7008, .f32⟩ : BufTy).Contents (Elt F)),
    binary main_v26 main_v16 main_v27 (subf : (⟨S4x1024x7008, .f32⟩ : BufTy).Contents (Elt F) → (⟨S4x1024x7008, .f32⟩ : BufTy).Contents (Elt F) → (⟨S4x1024x7008, .f32⟩ : BufTy).Contents (Elt F)),
    unary main_v17 main_v28 (broadcastInDim S1x1x7008 ![2] bcast_S7008_S1x1x7008_2 : (⟨S7008, .f32⟩ : BufTy).Contents (Elt F) → (⟨S1x1x7008, .f32⟩ : BufTy).Contents (Elt F)),
    unary main_v28 main_v29 (broadcastInDim S4x1024x7008 ![0, 1, 2] bcast_S1x1x7008_S4x1024x7008_0_1_2 : (⟨S1x1x7008, .f32⟩ : BufTy).Contents (Elt F) → (⟨S4x1024x7008, .f32⟩ : BufTy).Contents (Elt F)),
    binary main_v27 main_v29 main_v30 (mulf : (⟨S4x1024x7008, .f32⟩ : BufTy).Contents (Elt F) → (⟨S4x1024x7008, .f32⟩ : BufTy).Contents (Elt F) → (⟨S4x1024x7008, .f32⟩ : BufTy).Contents (Elt F)),
    binary main_v16 main_v30 main_v31 (addf : (⟨S4x1024x7008, .f32⟩ : BufTy).Contents (Elt F) → (⟨S4x1024x7008, .f32⟩ : BufTy).Contents (Elt F) → (⟨S4x1024x7008, .f32⟩ : BufTy).Contents (Elt F)),
    reshape main_v15 main_v32 (rfl : (.f32 : EltTy) = .f32) shapeCasts_S16x256x7008_S4096x7008,
    reshape main_v31 main_v33 (rfl : (.f32 : EltTy) = .f32) shapeCasts_S4x1024x7008_S4096x7008,
    binary main_v32 main_v33 main_v34 (fn_main_v34 (F := F)),
    unary main_v34 main_v35 ((extractStridedSlice S8192x2048 ![0, 0] · slices_S8192x7008_S8192x2048_0_0) : (⟨S8192x7008, .f32⟩ : BufTy).Contents (Elt F) → (⟨S8192x2048, .f32⟩ : BufTy).Contents (Elt F)),
    unary main_v34 main_v36 ((extractStridedSlice S8192x2048 ![0, 2048] · slices_S8192x7008_S8192x2048_0_2048) : (⟨S8192x7008, .f32⟩ : BufTy).Contents (Elt F) → (⟨S8192x2048, .f32⟩ : BufTy).Contents (Elt F)),
    unary main_v34 main_v37 ((extractStridedSlice S8192x2048 ![0, 4096] · slices_S8192x7008_S8192x2048_0_4096) : (⟨S8192x7008, .f32⟩ : BufTy).Contents (Elt F) → (⟨S8192x2048, .f32⟩ : BufTy).Contents (Elt F)),
    unary main_v34 main_v38 ((extractStridedSlice S8192x480 ![0, 6144] · slices_S8192x7008_S8192x480_0_6144) : (⟨S8192x7008, .f32⟩ : BufTy).Contents (Elt F) → (⟨S8192x480, .f32⟩ : BufTy).Contents (Elt F)),
    unary main_v34 main_v39 ((extractStridedSlice S8192x256 ![0, 6624] · slices_S8192x7008_S8192x256_0_6624) : (⟨S8192x7008, .f32⟩ : BufTy).Contents (Elt F) → (⟨S8192x256, .f32⟩ : BufTy).Contents (Elt F)),
    unary main_v34 main_v40 ((extractStridedSlice S8192x128 ![0, 6880] · slices_S8192x7008_S8192x128_0_6880) : (⟨S8192x7008, .f32⟩ : BufTy).Contents (Elt F) → (⟨S8192x128, .f32⟩ : BufTy).Contents (Elt F)),
    unary main_v39 main_v41 (Host.tanh : (⟨S8192x256, .f32⟩ : BufTy).Contents (Elt F) → (⟨S8192x256, .f32⟩ : BufTy).Contents (Elt F)),
    unary main_arg3 main_v42 ((extractStridedSlice S1x1x2048 ![0, 0, 0] · slices_S1x2x2048_S1x1x2048_0_0_0) : (⟨S1x2x2048, .f32⟩ : BufTy).Contents (Elt F) → (⟨S1x1x2048, .f32⟩ : BufTy).Contents (Elt F)),
    reshape main_v42 main_v43 (rfl : (.f32 : EltTy) = .f32) shapeCasts_S1x1x2048_S2048,
    unary main_v41 main_v44 ((extractStridedSlice S8192x128 ![0, 0] · slices_S8192x256_S8192x128_0_0) : (⟨S8192x256, .f32⟩ : BufTy).Contents (Elt F) → (⟨S8192x128, .f32⟩ : BufTy).Contents (Elt F)),
    unary main_arg4 main_v45 ((extractStridedSlice S1x1x128x2048 ![0, 0, 0, 0] · slices_S1x2x128x2048_S1x1x128x2048_0_0_0_0) : (⟨S1x2x128x2048, .f32⟩ : BufTy).Contents (Elt F) → (⟨S1x1x128x2048, .f32⟩ : BufTy).Contents (Elt F)),
    reshape main_v45 main_v46 (rfl : (.f32 : EltTy) = .f32) shapeCasts_S1x1x128x2048_S128x2048,
    binary main_v44 main_v46 main_v47 ((fun l r => Host.dotGeneral dot_S8192x128_S128x2048_S8192x2048_1_0_0_1_n_n none l r) : (⟨S8192x128, .f32⟩ : BufTy).Contents (Elt F) → (⟨S128x2048, .f32⟩ : BufTy).Contents (Elt F) → (⟨S8192x2048, .f32⟩ : BufTy).Contents (Elt F)),
    unary main_v43 main_v48 (broadcastInDim S1x2048 ![1] bcast_S2048_S1x2048_1 : (⟨S2048, .f32⟩ : BufTy).Contents (Elt F) → (⟨S1x2048, .f32⟩ : BufTy).Contents (Elt F)),
    unary main_v48 main_v49 (broadcastInDim S8192x2048 ![0, 1] bcast_S1x2048_S8192x2048_0_1 : (⟨S1x2048, .f32⟩ : BufTy).Contents (Elt F) → (⟨S8192x2048, .f32⟩ : BufTy).Contents (Elt F)),
    binary main_v49 main_v47 main_v50 (addf : (⟨S8192x2048, .f32⟩ : BufTy).Contents (Elt F) → (⟨S8192x2048, .f32⟩ : BufTy).Contents (Elt F) → (⟨S8192x2048, .f32⟩ : BufTy).Contents (Elt F)),
    unary main_v50 main_v51 (Host.negf : (⟨S8192x2048, .f32⟩ : BufTy).Contents (Elt F) → (⟨S8192x2048, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S8192x2048, .f32⟩) main_call0_v0) (broadcastInDim S8192x2048 ![] bcast_S_S8192x2048),
    TRef.binary (TRef.of (T := ⟨S8192x2048, .f32⟩) main_v51) (TRef.of (T := ⟨S8192x2048, .f32⟩) main_call0_v0) (TRef.of (T := ⟨S8192x2048, .f32⟩) main_call0_v1) maximumf,
    TRef.unary (TRef.of (T := ⟨S_, .f32⟩) main_call0_cst) (TRef.of (T := ⟨S8192x2048, .f32⟩) main_call0_v2) (broadcastInDim S8192x2048 ![] bcast_S_S8192x2048),
    TRef.binary (TRef.of (T := ⟨S8192x2048, .f32⟩) main_v51) (TRef.of (T := ⟨S8192x2048, .f32⟩) main_call0_v2) (TRef.of (T := ⟨S8192x2048, .f32⟩) main_call0_v3) subf,
    TRef.binary (TRef.of (T := ⟨S8192x2048, .f32⟩) main_call0_v3) (TRef.of (T := ⟨S8192x2048, .f32⟩) main_call0_v3) (TRef.of (T := ⟨S8192x2048, .i1⟩) main_call0_v4) (cmpf .une),
    TRef.unary (TRef.of (T := ⟨S_, .f32⟩) main_call0_cst) (TRef.of (T := ⟨S8192x2048, .f32⟩) main_call0_v5) (broadcastInDim S8192x2048 ![] bcast_S_S8192x2048),
    TRef.binary (TRef.of (T := ⟨S8192x2048, .f32⟩) main_v51) (TRef.of (T := ⟨S8192x2048, .f32⟩) main_call0_v5) (TRef.of (T := ⟨S8192x2048, .f32⟩) main_call0_v6) addf,
    TRef.unary (TRef.of (T := ⟨S8192x2048, .f32⟩) main_call0_v3) (TRef.of (T := ⟨S8192x2048, .f32⟩) main_call0_v7) Host.absf,
    TRef.unary (TRef.of (T := ⟨S8192x2048, .f32⟩) main_call0_v7) (TRef.of (T := ⟨S8192x2048, .f32⟩) main_call0_v8) Host.negf,
    TRef.unary (TRef.of (T := ⟨S8192x2048, .f32⟩) main_call0_v8) (TRef.of (T := ⟨S8192x2048, .f32⟩) main_call0_v9) Host.exp,
    TRef.unary (TRef.of (T := ⟨S8192x2048, .f32⟩) main_call0_v9) (TRef.of (T := ⟨S8192x2048, .f32⟩) main_call0_v10) Host.log1p,
    TRef.binary (TRef.of (T := ⟨S8192x2048, .f32⟩) main_call0_v1) (TRef.of (T := ⟨S8192x2048, .f32⟩) main_call0_v10) (TRef.of (T := ⟨S8192x2048, .f32⟩) main_call0_v11) addf,
    TRef.ternary (TRef.of (T := ⟨S8192x2048, .i1⟩) main_call0_v4) (TRef.of (T := ⟨S8192x2048, .f32⟩) main_call0_v6) (TRef.of (T := ⟨S8192x2048, .f32⟩) main_call0_v11) (TRef.of (T := ⟨S8192x2048, .f32⟩) main_v52) select,
    unary main_v52 main_v53 (Host.negf : (⟨S8192x2048, .f32⟩ : BufTy).Contents (Elt F) → (⟨S8192x2048, .f32⟩ : BufTy).Contents (Elt F)),
    nullary main_cst_3 (constant S_ .f32 0x3F000000#32),
    unary main_cst_3 main_v54 (broadcastInDim S8192x2048 ![] bcast_S_S8192x2048 : (⟨S_, .f32⟩ : BufTy).Contents (Elt F) → (⟨S8192x2048, .f32⟩ : BufTy).Contents (Elt F)),
    binary main_v53 main_v54 main_v55 (subf : (⟨S8192x2048, .f32⟩ : BufTy).Contents (Elt F) → (⟨S8192x2048, .f32⟩ : BufTy).Contents (Elt F) → (⟨S8192x2048, .f32⟩ : BufTy).Contents (Elt F)),
    unary main_v55 main_v56 (Host.exp : (⟨S8192x2048, .f32⟩ : BufTy).Contents (Elt F) → (⟨S8192x2048, .f32⟩ : BufTy).Contents (Elt F)),
    unary main_v56 main_v57 (Host.negf : (⟨S8192x2048, .f32⟩ : BufTy).Contents (Elt F) → (⟨S8192x2048, .f32⟩ : BufTy).Contents (Elt F)),
    unary main_arg3 main_v58 ((extractStridedSlice S1x1x2048 ![0, 1, 0] · slices_S1x2x2048_S1x1x2048_0_1_0) : (⟨S1x2x2048, .f32⟩ : BufTy).Contents (Elt F) → (⟨S1x1x2048, .f32⟩ : BufTy).Contents (Elt F)),
    reshape main_v58 main_v59 (rfl : (.f32 : EltTy) = .f32) shapeCasts_S1x1x2048_S2048,
    unary main_v41 main_v60 ((extractStridedSlice S8192x128 ![0, 128] · slices_S8192x256_S8192x128_0_128) : (⟨S8192x256, .f32⟩ : BufTy).Contents (Elt F) → (⟨S8192x128, .f32⟩ : BufTy).Contents (Elt F)),
    unary main_arg4 main_v61 ((extractStridedSlice S1x1x128x2048 ![0, 1, 0, 0] · slices_S1x2x128x2048_S1x1x128x2048_0_1_0_0) : (⟨S1x2x128x2048, .f32⟩ : BufTy).Contents (Elt F) → (⟨S1x1x128x2048, .f32⟩ : BufTy).Contents (Elt F)),
    reshape main_v61 main_v62 (rfl : (.f32 : EltTy) = .f32) shapeCasts_S1x1x128x2048_S128x2048,
    binary main_v60 main_v62 main_v63 ((fun l r => Host.dotGeneral dot_S8192x128_S128x2048_S8192x2048_1_0_0_1_n_n none l r) : (⟨S8192x128, .f32⟩ : BufTy).Contents (Elt F) → (⟨S128x2048, .f32⟩ : BufTy).Contents (Elt F) → (⟨S8192x2048, .f32⟩ : BufTy).Contents (Elt F)),
    unary main_v59 main_v64 (broadcastInDim S1x2048 ![1] bcast_S2048_S1x2048_1 : (⟨S2048, .f32⟩ : BufTy).Contents (Elt F) → (⟨S1x2048, .f32⟩ : BufTy).Contents (Elt F)),
    unary main_v64 main_v65 (broadcastInDim S8192x2048 ![0, 1] bcast_S1x2048_S8192x2048_0_1 : (⟨S1x2048, .f32⟩ : BufTy).Contents (Elt F) → (⟨S8192x2048, .f32⟩ : BufTy).Contents (Elt F)),
    binary main_v65 main_v63 main_v66 (addf : (⟨S8192x2048, .f32⟩ : BufTy).Contents (Elt F) → (⟨S8192x2048, .f32⟩ : BufTy).Contents (Elt F) → (⟨S8192x2048, .f32⟩ : BufTy).Contents (Elt F)),
    unary main_v66 main_v67 (Host.negf : (⟨S8192x2048, .f32⟩ : BufTy).Contents (Elt F) → (⟨S8192x2048, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S8192x2048, .f32⟩) main_call1_v0) (broadcastInDim S8192x2048 ![] bcast_S_S8192x2048),
    TRef.binary (TRef.of (T := ⟨S8192x2048, .f32⟩) main_v67) (TRef.of (T := ⟨S8192x2048, .f32⟩) main_call1_v0) (TRef.of (T := ⟨S8192x2048, .f32⟩) main_call1_v1) maximumf,
    TRef.unary (TRef.of (T := ⟨S_, .f32⟩) main_call1_cst) (TRef.of (T := ⟨S8192x2048, .f32⟩) main_call1_v2) (broadcastInDim S8192x2048 ![] bcast_S_S8192x2048),
    TRef.binary (TRef.of (T := ⟨S8192x2048, .f32⟩) main_v67) (TRef.of (T := ⟨S8192x2048, .f32⟩) main_call1_v2) (TRef.of (T := ⟨S8192x2048, .f32⟩) main_call1_v3) subf,
    TRef.binary (TRef.of (T := ⟨S8192x2048, .f32⟩) main_call1_v3) (TRef.of (T := ⟨S8192x2048, .f32⟩) main_call1_v3) (TRef.of (T := ⟨S8192x2048, .i1⟩) main_call1_v4) (cmpf .une),
    TRef.unary (TRef.of (T := ⟨S_, .f32⟩) main_call1_cst) (TRef.of (T := ⟨S8192x2048, .f32⟩) main_call1_v5) (broadcastInDim S8192x2048 ![] bcast_S_S8192x2048),
    TRef.binary (TRef.of (T := ⟨S8192x2048, .f32⟩) main_v67) (TRef.of (T := ⟨S8192x2048, .f32⟩) main_call1_v5) (TRef.of (T := ⟨S8192x2048, .f32⟩) main_call1_v6) addf,
    TRef.unary (TRef.of (T := ⟨S8192x2048, .f32⟩) main_call1_v3) (TRef.of (T := ⟨S8192x2048, .f32⟩) main_call1_v7) Host.absf,
    TRef.unary (TRef.of (T := ⟨S8192x2048, .f32⟩) main_call1_v7) (TRef.of (T := ⟨S8192x2048, .f32⟩) main_call1_v8) Host.negf,
    TRef.unary (TRef.of (T := ⟨S8192x2048, .f32⟩) main_call1_v8) (TRef.of (T := ⟨S8192x2048, .f32⟩) main_call1_v9) Host.exp,
    TRef.unary (TRef.of (T := ⟨S8192x2048, .f32⟩) main_call1_v9) (TRef.of (T := ⟨S8192x2048, .f32⟩) main_call1_v10) Host.log1p,
    TRef.binary (TRef.of (T := ⟨S8192x2048, .f32⟩) main_call1_v1) (TRef.of (T := ⟨S8192x2048, .f32⟩) main_call1_v10) (TRef.of (T := ⟨S8192x2048, .f32⟩) main_call1_v11) addf,
    TRef.ternary (TRef.of (T := ⟨S8192x2048, .i1⟩) main_call1_v4) (TRef.of (T := ⟨S8192x2048, .f32⟩) main_call1_v6) (TRef.of (T := ⟨S8192x2048, .f32⟩) main_call1_v11) (TRef.of (T := ⟨S8192x2048, .f32⟩) main_v68) select,
    unary main_v68 main_v69 (Host.negf : (⟨S8192x2048, .f32⟩ : BufTy).Contents (Elt F) → (⟨S8192x2048, .f32⟩ : BufTy).Contents (Elt F)),
    nullary main_cst_4 (constant S_ .f32 0x3F000000#32),
    unary main_cst_4 main_v70 (broadcastInDim S8192x2048 ![] bcast_S_S8192x2048 : (⟨S_, .f32⟩ : BufTy).Contents (Elt F) → (⟨S8192x2048, .f32⟩ : BufTy).Contents (Elt F)),
    binary main_v69 main_v70 main_v71 (subf : (⟨S8192x2048, .f32⟩ : BufTy).Contents (Elt F) → (⟨S8192x2048, .f32⟩ : BufTy).Contents (Elt F) → (⟨S8192x2048, .f32⟩ : BufTy).Contents (Elt F)),
    unary main_v71 main_v72 (Host.exp : (⟨S8192x2048, .f32⟩ : BufTy).Contents (Elt F) → (⟨S8192x2048, .f32⟩ : BufTy).Contents (Elt F)),
    unary main_v72 main_v73 (Host.negf : (⟨S8192x2048, .f32⟩ : BufTy).Contents (Elt F) → (⟨S8192x2048, .f32⟩ : BufTy).Contents (Elt F)),
    unary main_v57 main_v74 (broadcastInDim S1x8192x2048 ![1, 2] bcast_S8192x2048_S1x8192x2048_1_2 : (⟨S8192x2048, .f32⟩ : BufTy).Contents (Elt F) → (⟨S1x8192x2048, .f32⟩ : BufTy).Contents (Elt F)),
    unary main_v73 main_v75 (broadcastInDim S1x8192x2048 ![1, 2] bcast_S8192x2048_S1x8192x2048_1_2 : (⟨S8192x2048, .f32⟩ : BufTy).Contents (Elt F) → (⟨S1x8192x2048, .f32⟩ : BufTy).Contents (Elt F)),
    binary main_v74 main_v75 main_v76 (fn_main_v76 (F := F)),
    reshape main_arg5 main_v77 (rfl : (.f32 : EltTy) = .f32) shapeCasts_S1x2048_S2048,
    reshape main_arg6 main_v78 (rfl : (.f32 : EltTy) = .f32) shapeCasts_S1x128x2048_S128x2048,
    binary main_v40 main_v78 main_v79 ((fun l r => Host.dotGeneral dot_S8192x128_S128x2048_S8192x2048_1_0_0_1_n_n none l r) : (⟨S8192x128, .f32⟩ : BufTy).Contents (Elt F) → (⟨S128x2048, .f32⟩ : BufTy).Contents (Elt F) → (⟨S8192x2048, .f32⟩ : BufTy).Contents (Elt F)),
    unary main_v77 main_v80 (broadcastInDim S1x2048 ![1] bcast_S2048_S1x2048_1 : (⟨S2048, .f32⟩ : BufTy).Contents (Elt F) → (⟨S1x2048, .f32⟩ : BufTy).Contents (Elt F)),
    unary main_v80 main_v81 (broadcastInDim S8192x2048 ![0, 1] bcast_S1x2048_S8192x2048_0_1 : (⟨S1x2048, .f32⟩ : BufTy).Contents (Elt F) → (⟨S8192x2048, .f32⟩ : BufTy).Contents (Elt F)),
    binary main_v81 main_v79 main_v82 (addf : (⟨S8192x2048, .f32⟩ : BufTy).Contents (Elt F) → (⟨S8192x2048, .f32⟩ : BufTy).Contents (Elt F) → (⟨S8192x2048, .f32⟩ : BufTy).Contents (Elt F)),
    unary main_v82 main_v83 (Host.negf : (⟨S8192x2048, .f32⟩ : BufTy).Contents (Elt F) → (⟨S8192x2048, .f32⟩ : BufTy).Contents (Elt F)),
    unary main_v83 main_v84 (Host.exp : (⟨S8192x2048, .f32⟩ : BufTy).Contents (Elt F) → (⟨S8192x2048, .f32⟩ : BufTy).Contents (Elt F)),
    nullary main_cst_5 (constant S_ .f32 0x3F800000#32),
    unary main_cst_5 main_v85 (broadcastInDim S8192x2048 ![] bcast_S_S8192x2048 : (⟨S_, .f32⟩ : BufTy).Contents (Elt F) → (⟨S8192x2048, .f32⟩ : BufTy).Contents (Elt F)),
    binary main_v85 main_v84 main_v86 (addf : (⟨S8192x2048, .f32⟩ : BufTy).Contents (Elt F) → (⟨S8192x2048, .f32⟩ : BufTy).Contents (Elt F) → (⟨S8192x2048, .f32⟩ : BufTy).Contents (Elt F)),
    nullary main_cst_6 (constant S_ .f32 0x3F800000#32),
    unary main_cst_6 main_v87 (broadcastInDim S8192x2048 ![] bcast_S_S8192x2048 : (⟨S_, .f32⟩ : BufTy).Contents (Elt F) → (⟨S8192x2048, .f32⟩ : BufTy).Contents (Elt F)),
    binary main_v87 main_v86 main_v88 (Host.divf : (⟨S8192x2048, .f32⟩ : BufTy).Contents (Elt F) → (⟨S8192x2048, .f32⟩ : BufTy).Contents (Elt F) → (⟨S8192x2048, .f32⟩ : BufTy).Contents (Elt F)),
    unary main_v38 main_v89 (Host.negf : (⟨S8192x480, .f32⟩ : BufTy).Contents (Elt F) → (⟨S8192x480, .f32⟩ : BufTy).Contents (Elt F)),
    unary main_v89 main_v90 (Host.exp : (⟨S8192x480, .f32⟩ : BufTy).Contents (Elt F) → (⟨S8192x480, .f32⟩ : BufTy).Contents (Elt F)),
    nullary main_cst_7 (constant S_ .f32 0x3F800000#32),
    unary main_cst_7 main_v91 (broadcastInDim S8192x480 ![] bcast_S_S8192x480 : (⟨S_, .f32⟩ : BufTy).Contents (Elt F) → (⟨S8192x480, .f32⟩ : BufTy).Contents (Elt F)),
    binary main_v91 main_v90 main_v92 (addf : (⟨S8192x480, .f32⟩ : BufTy).Contents (Elt F) → (⟨S8192x480, .f32⟩ : BufTy).Contents (Elt F) → (⟨S8192x480, .f32⟩ : BufTy).Contents (Elt F)),
    nullary main_cst_8 (constant S_ .f32 0x3F800000#32),
    unary main_cst_8 main_v93 (broadcastInDim S8192x480 ![] bcast_S_S8192x480 : (⟨S_, .f32⟩ : BufTy).Contents (Elt F) → (⟨S8192x480, .f32⟩ : BufTy).Contents (Elt F)),
    binary main_v93 main_v92 main_v94 (Host.divf : (⟨S8192x480, .f32⟩ : BufTy).Contents (Elt F) → (⟨S8192x480, .f32⟩ : BufTy).Contents (Elt F) → (⟨S8192x480, .f32⟩ : BufTy).Contents (Elt F)),
    reshape main_arg7 main_v95 (rfl : (.f32 : EltTy) = .f32) shapeCasts_S1x480x2048_S480x2048,
    binary main_v94 main_v95 main_v96 ((fun l r => Host.dotGeneral dot_S8192x480_S480x2048_S8192x2048_1_0_0_1_n_n none l r) : (⟨S8192x480, .f32⟩ : BufTy).Contents (Elt F) → (⟨S480x2048, .f32⟩ : BufTy).Contents (Elt F) → (⟨S8192x2048, .f32⟩ : BufTy).Contents (Elt F)),
    reshape main_arg8 main_v97 (rfl : (.f32 : EltTy) = .f32) shapeCasts_S1x2048_S2048,
    unary main_v97 main_v98 (broadcastInDim S1x2048 ![1] bcast_S2048_S1x2048_1 : (⟨S2048, .f32⟩ : BufTy).Contents (Elt F) → (⟨S1x2048, .f32⟩ : BufTy).Contents (Elt F)),
    unary main_v98 main_v99 (broadcastInDim S8192x2048 ![0, 1] bcast_S1x2048_S8192x2048_0_1 : (⟨S1x2048, .f32⟩ : BufTy).Contents (Elt F) → (⟨S8192x2048, .f32⟩ : BufTy).Contents (Elt F)),
    binary main_v36 main_v99 main_v100 (mulf : (⟨S8192x2048, .f32⟩ : BufTy).Contents (Elt F) → (⟨S8192x2048, .f32⟩ : BufTy).Contents (Elt F) → (⟨S8192x2048, .f32⟩ : BufTy).Contents (Elt F)),
    reshape main_v100 main_v101 (rfl : (.f32 : EltTy) = .f32) shapeCasts_S8192x2048_S8192x32x64,
    binary main_v101 main_v101 main_v102 (mulf : (⟨S8192x32x64, .f32⟩ : BufTy).Contents (Elt F) → (⟨S8192x32x64, .f32⟩ : BufTy).Contents (Elt F) → (⟨S8192x32x64, .f32⟩ : BufTy).Contents (Elt F)),
    nullary main_cst_9 (constant S_ .f32 0x00000000#32),
    binary main_v102 main_cst_9 main_v103 ((fun x v => Host.reduceAdd x v reducesTo_S8192x32x64_S8192x32_d2 h_S_) : (⟨S8192x32x64, .f32⟩ : BufTy).Contents (Elt F) → (⟨S_, .f32⟩ : BufTy).Contents (Elt F) → (⟨S8192x32, .f32⟩ : BufTy).Contents (Elt F)),
    unary main_v103 main_v104 (broadcastInDim S8192x32x1 ![0, 1] bcast_S8192x32_S8192x32x1_0_1 : (⟨S8192x32, .f32⟩ : BufTy).Contents (Elt F) → (⟨S8192x32x1, .f32⟩ : BufTy).Contents (Elt F)),
    nullary main_cst_10 (constant S_ .f32 0x2B8CBCCC#32),
    unary main_cst_10 main_v105 (broadcastInDim S8192x32x1 ![] bcast_S_S8192x32x1 : (⟨S_, .f32⟩ : BufTy).Contents (Elt F) → (⟨S8192x32x1, .f32⟩ : BufTy).Contents (Elt F)),
    binary main_v104 main_v105 main_v106 (addf : (⟨S8192x32x1, .f32⟩ : BufTy).Contents (Elt F) → (⟨S8192x32x1, .f32⟩ : BufTy).Contents (Elt F) → (⟨S8192x32x1, .f32⟩ : BufTy).Contents (Elt F)),
    unary main_v106 main_v107 (Host.rsqrt : (⟨S8192x32x1, .f32⟩ : BufTy).Contents (Elt F) → (⟨S8192x32x1, .f32⟩ : BufTy).Contents (Elt F)),
    unary main_v107 main_v108 (broadcastInDim S8192x32x64 ![0, 1, 2] bcast_S8192x32x1_S8192x32x64_0_1_2 : (⟨S8192x32x1, .f32⟩ : BufTy).Contents (Elt F) → (⟨S8192x32x64, .f32⟩ : BufTy).Contents (Elt F)),
    binary main_v101 main_v108 main_v109 (mulf : (⟨S8192x32x64, .f32⟩ : BufTy).Contents (Elt F) → (⟨S8192x32x64, .f32⟩ : BufTy).Contents (Elt F) → (⟨S8192x32x64, .f32⟩ : BufTy).Contents (Elt F)),
    reshape main_v109 main_v110 (rfl : (.f32 : EltTy) = .f32) shapeCasts_S8192x32x64_S8192x2048,
    nullary main_cst_11 (constant S_ .f32 0x3F800000#32),
    unary main_cst_11 main_v111 (broadcastInDim S8192x2048 ![] bcast_S_S8192x2048 : (⟨S_, .f32⟩ : BufTy).Contents (Elt F) → (⟨S8192x2048, .f32⟩ : BufTy).Contents (Elt F)),
    binary main_v88 main_v111 main_v112 (subf : (⟨S8192x2048, .f32⟩ : BufTy).Contents (Elt F) → (⟨S8192x2048, .f32⟩ : BufTy).Contents (Elt F) → (⟨S8192x2048, .f32⟩ : BufTy).Contents (Elt F)),
    reshape main_arg9 main_v113 (rfl : (.f32 : EltTy) = .f32) shapeCasts_S1x2048_S2048,
    unary main_v113 main_v114 (broadcastInDim S1x2048 ![1] bcast_S2048_S1x2048_1 : (⟨S2048, .f32⟩ : BufTy).Contents (Elt F) → (⟨S1x2048, .f32⟩ : BufTy).Contents (Elt F)),
    unary main_v114 main_v115 (broadcastInDim S8192x2048 ![0, 1] bcast_S1x2048_S8192x2048_0_1 : (⟨S1x2048, .f32⟩ : BufTy).Contents (Elt F) → (⟨S8192x2048, .f32⟩ : BufTy).Contents (Elt F)),
    binary main_v112 main_v115 main_v116 (mulf : (⟨S8192x2048, .f32⟩ : BufTy).Contents (Elt F) → (⟨S8192x2048, .f32⟩ : BufTy).Contents (Elt F) → (⟨S8192x2048, .f32⟩ : BufTy).Contents (Elt F)),
    nullary main_cst_12 (constant S_ .f32 0x3F800000#32),
    unary main_cst_12 main_v117 (broadcastInDim S8192x2048 ![] bcast_S_S8192x2048 : (⟨S_, .f32⟩ : BufTy).Contents (Elt F) → (⟨S8192x2048, .f32⟩ : BufTy).Contents (Elt F)),
    binary main_v117 main_v116 main_v118 (addf : (⟨S8192x2048, .f32⟩ : BufTy).Contents (Elt F) → (⟨S8192x2048, .f32⟩ : BufTy).Contents (Elt F) → (⟨S8192x2048, .f32⟩ : BufTy).Contents (Elt F)),
    binary main_v36 main_v118 main_v119 (mulf : (⟨S8192x2048, .f32⟩ : BufTy).Contents (Elt F) → (⟨S8192x2048, .f32⟩ : BufTy).Contents (Elt F) → (⟨S8192x2048, .f32⟩ : BufTy).Contents (Elt F)),
    binary main_v110 main_v88 main_v120 (mulf : (⟨S8192x2048, .f32⟩ : BufTy).Contents (Elt F) → (⟨S8192x2048, .f32⟩ : BufTy).Contents (Elt F) → (⟨S8192x2048, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
set_option maxHeartbeats 8000000 in
theorem ops_sub : (ops : List (HloOp τ sig (Elt F))).Forall fun op => op.bufs ⊆ tcRefs τ sig :=
  ⟨unary_bufs_sub .., reshape_bufs_sub .., unary_bufs_sub .., nullary_bufs_sub .., unary_bufs_sub .., unary_bufs_sub .., binary_bufs_sub .., unary_bufs_sub .., binary_bufs_sub .., binary_bufs_sub .., nullary_bufs_sub .., unary_bufs_sub .., binary_bufs_sub .., binary_bufs_sub .., unary_bufs_sub .., unary_bufs_sub .., binary_bufs_sub .., binary_bufs_sub .., unary_bufs_sub .., reshape_bufs_sub .., unary_bufs_sub .., nullary_bufs_sub .., unary_bufs_sub .., unary_bufs_sub .., binary_bufs_sub .., unary_bufs_sub .., binary_bufs_sub .., binary_bufs_sub .., nullary_bufs_sub .., unary_bufs_sub .., binary_bufs_sub .., binary_bufs_sub .., unary_bufs_sub .., unary_bufs_sub .., binary_bufs_sub .., binary_bufs_sub .., reshape_bufs_sub .., reshape_bufs_sub .., binary_bufs_sub .., unary_bufs_sub .., unary_bufs_sub .., unary_bufs_sub .., unary_bufs_sub .., unary_bufs_sub .., unary_bufs_sub .., unary_bufs_sub .., unary_bufs_sub .., reshape_bufs_sub .., unary_bufs_sub .., unary_bufs_sub .., reshape_bufs_sub .., binary_bufs_sub .., unary_bufs_sub .., unary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., nullary_bufs_sub .., unary_bufs_sub .., binary_bufs_sub .., unary_bufs_sub .., unary_bufs_sub .., unary_bufs_sub .., reshape_bufs_sub .., unary_bufs_sub .., unary_bufs_sub .., reshape_bufs_sub .., binary_bufs_sub .., unary_bufs_sub .., unary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., nullary_bufs_sub .., unary_bufs_sub .., binary_bufs_sub .., unary_bufs_sub .., unary_bufs_sub .., unary_bufs_sub .., unary_bufs_sub .., binary_bufs_sub .., reshape_bufs_sub .., reshape_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., reshape_bufs_sub .., binary_bufs_sub .., reshape_bufs_sub .., unary_bufs_sub .., unary_bufs_sub .., binary_bufs_sub .., reshape_bufs_sub .., binary_bufs_sub .., nullary_bufs_sub .., binary_bufs_sub .., unary_bufs_sub .., nullary_bufs_sub .., unary_bufs_sub .., binary_bufs_sub .., unary_bufs_sub .., unary_bufs_sub .., binary_bufs_sub .., reshape_bufs_sub .., nullary_bufs_sub .., unary_bufs_sub .., binary_bufs_sub .., reshape_bufs_sub .., unary_bufs_sub .., unary_bufs_sub .., binary_bufs_sub .., nullary_bufs_sub .., unary_bufs_sub .., binary_bufs_sub .., binary_bufs_sub .., binary_bufs_sub ..⟩

set_option maxRecDepth 8192 in
set_option maxHeartbeats 8000000 in
/-- `main_v76`'s composed term of the arguments. -/
def res_main_v76 (m : (ℓ : Loc nD τ sig) → Buf (Elt F) ℓ) (c : Dev nD) : Buf (Elt F) ((c.tc : Thread nD τ).loc main_v76) :=
  concatenate S2x8192x2048 0 [⟨S1x8192x2048, (broadcastInDim S1x8192x2048 ![1, 2] bcast_S8192x2048_S1x8192x2048_1_2 (Host.negf (Host.exp (subf (Host.negf (select (cmpf .une (subf (Host.negf (addf (broadcastInDim S8192x2048 ![0, 1] bcast_S1x2048_S8192x2048_0_1 (broadcastInDim S1x2048 ![1] bcast_S2048_S1x2048_1 (shapeCast _ (extractStridedSlice S1x1x2048 ![0, 0, 0] (m ((c.tc : Thread nD τ).loc main_arg3)) slices_S1x2x2048_S1x1x2048_0_0_0) shapeCasts_S1x1x2048_S2048))) (Host.dotGeneral dot_S8192x128_S128x2048_S8192x2048_1_0_0_1_n_n none (extractStridedSlice S8192x128 ![0, 0] (Host.tanh (extractStridedSlice S8192x256 ![0, 6624] (concatenate S8192x7008 0 [⟨S4096x7008, (shapeCast _ (addf (extractStridedSlice S16x256x7008 ![0, 0, 0] (m ((c.tc : Thread nD τ).loc main_arg0)) slices_S16x256x10080_S16x256x7008_0_0_0) (mulf (subf (mulf (broadcastInDim S16x256x7008 ![] bcast_S_S16x256x7008 (constant S_ .f32 0x3F000000#32)) (addf (concatenate S16x256x7008 1 [⟨S16x1x7008, (broadcastInDim S16x1x7008 ![] bcast_S_S16x1x7008 (constant S_ .f32 0x00000000#32))⟩, ⟨S16x255x7008, (extractStridedSlice S16x255x7008 ![0, 0, 0] (extractStridedSlice S16x256x7008 ![0, 0, 0] (m ((c.tc : Thread nD τ).loc main_arg0)) slices_S16x256x10080_S16x256x7008_0_0_0) slices_S16x256x7008_S16x255x7008_0_0_0)⟩] concatenates_S16x1x7008_S16x255x7008_S16x256x7008_d1) (concatenate S16x256x7008 1 [⟨S16x255x7008, (extractStridedSlice S16x255x7008 ![0, 1, 0] (extractStridedSlice S16x256x7008 ![0, 0, 0] (m ((c.tc : Thread nD τ).loc main_arg0)) slices_S16x256x10080_S16x256x7008_0_0_0) slices_S16x256x7008_S16x255x7008_0_1_0)⟩, ⟨S16x1x7008, (broadcastInDim S16x1x7008 ![] bcast_S_S16x1x7008 (constant S_ .f32 0x00000000#32))⟩] concatenates_S16x255x7008_S16x1x7008_S16x256x7008_d1))) (extractStridedSlice S16x256x7008 ![0, 0, 0] (m ((c.tc : Thread nD τ).loc main_arg0)) slices_S16x256x10080_S16x256x7008_0_0_0)) (broadcastInDim S16x256x7008 ![0, 1, 2] bcast_S1x1x7008_S16x256x7008_0_1_2 (broadcastInDim S1x1x7008 ![2] bcast_S7008_S1x1x7008_2 (shapeCast _ (m ((c.tc : Thread nD τ).loc main_arg2)) shapeCasts_S1x7008_S7008))))) shapeCasts_S16x256x7008_S4096x7008)⟩, ⟨S4096x7008, (shapeCast _ (addf (extractStridedSlice S4x1024x7008 ![0, 0, 0] (m ((c.tc : Thread nD τ).loc main_arg1)) slices_S4x1024x10080_S4x1024x7008_0_0_0) (mulf (subf (mulf (broadcastInDim S4x1024x7008 ![] bcast_S_S4x1024x7008 (constant S_ .f32 0x3F000000#32)) (addf (concatenate S4x1024x7008 1 [⟨S4x1x7008, (broadcastInDim S4x1x7008 ![] bcast_S_S4x1x7008 (constant S_ .f32 0x00000000#32))⟩, ⟨S4x1023x7008, (extractStridedSlice S4x1023x7008 ![0, 0, 0] (extractStridedSlice S4x1024x7008 ![0, 0, 0] (m ((c.tc : Thread nD τ).loc main_arg1)) slices_S4x1024x10080_S4x1024x7008_0_0_0) slices_S4x1024x7008_S4x1023x7008_0_0_0)⟩] concatenates_S4x1x7008_S4x1023x7008_S4x1024x7008_d1) (concatenate S4x1024x7008 1 [⟨S4x1023x7008, (extractStridedSlice S4x1023x7008 ![0, 1, 0] (extractStridedSlice S4x1024x7008 ![0, 0, 0] (m ((c.tc : Thread nD τ).loc main_arg1)) slices_S4x1024x10080_S4x1024x7008_0_0_0) slices_S4x1024x7008_S4x1023x7008_0_1_0)⟩, ⟨S4x1x7008, (broadcastInDim S4x1x7008 ![] bcast_S_S4x1x7008 (constant S_ .f32 0x00000000#32))⟩] concatenates_S4x1023x7008_S4x1x7008_S4x1024x7008_d1))) (extractStridedSlice S4x1024x7008 ![0, 0, 0] (m ((c.tc : Thread nD τ).loc main_arg1)) slices_S4x1024x10080_S4x1024x7008_0_0_0)) (broadcastInDim S4x1024x7008 ![0, 1, 2] bcast_S1x1x7008_S4x1024x7008_0_1_2 (broadcastInDim S1x1x7008 ![2] bcast_S7008_S1x1x7008_2 (shapeCast _ (m ((c.tc : Thread nD τ).loc main_arg2)) shapeCasts_S1x7008_S7008))))) shapeCasts_S4x1024x7008_S4096x7008)⟩] concatenates_S4096x7008_S4096x7008_S8192x7008_d0) slices_S8192x7008_S8192x256_0_6624)) slices_S8192x256_S8192x128_0_0) (shapeCast _ (extractStridedSlice S1x1x128x2048 ![0, 0, 0, 0] (m ((c.tc : Thread nD τ).loc main_arg4)) slices_S1x2x128x2048_S1x1x128x2048_0_0_0_0) shapeCasts_S1x1x128x2048_S128x2048)))) (broadcastInDim S8192x2048 ![] bcast_S_S8192x2048 (constant S_ .f32 0x00000000#32))) (subf (Host.negf (addf (broadcastInDim S8192x2048 ![0, 1] bcast_S1x2048_S8192x2048_0_1 (broadcastInDim S1x2048 ![1] bcast_S2048_S1x2048_1 (shapeCast _ (extractStridedSlice S1x1x2048 ![0, 0, 0] (m ((c.tc : Thread nD τ).loc main_arg3)) slices_S1x2x2048_S1x1x2048_0_0_0) shapeCasts_S1x1x2048_S2048))) (Host.dotGeneral dot_S8192x128_S128x2048_S8192x2048_1_0_0_1_n_n none (extractStridedSlice S8192x128 ![0, 0] (Host.tanh (extractStridedSlice S8192x256 ![0, 6624] (concatenate S8192x7008 0 [⟨S4096x7008, (shapeCast _ (addf (extractStridedSlice S16x256x7008 ![0, 0, 0] (m ((c.tc : Thread nD τ).loc main_arg0)) slices_S16x256x10080_S16x256x7008_0_0_0) (mulf (subf (mulf (broadcastInDim S16x256x7008 ![] bcast_S_S16x256x7008 (constant S_ .f32 0x3F000000#32)) (addf (concatenate S16x256x7008 1 [⟨S16x1x7008, (broadcastInDim S16x1x7008 ![] bcast_S_S16x1x7008 (constant S_ .f32 0x00000000#32))⟩, ⟨S16x255x7008, (extractStridedSlice S16x255x7008 ![0, 0, 0] (extractStridedSlice S16x256x7008 ![0, 0, 0] (m ((c.tc : Thread nD τ).loc main_arg0)) slices_S16x256x10080_S16x256x7008_0_0_0) slices_S16x256x7008_S16x255x7008_0_0_0)⟩] concatenates_S16x1x7008_S16x255x7008_S16x256x7008_d1) (concatenate S16x256x7008 1 [⟨S16x255x7008, (extractStridedSlice S16x255x7008 ![0, 1, 0] (extractStridedSlice S16x256x7008 ![0, 0, 0] (m ((c.tc : Thread nD τ).loc main_arg0)) slices_S16x256x10080_S16x256x7008_0_0_0) slices_S16x256x7008_S16x255x7008_0_1_0)⟩, ⟨S16x1x7008, (broadcastInDim S16x1x7008 ![] bcast_S_S16x1x7008 (constant S_ .f32 0x00000000#32))⟩] concatenates_S16x255x7008_S16x1x7008_S16x256x7008_d1))) (extractStridedSlice S16x256x7008 ![0, 0, 0] (m ((c.tc : Thread nD τ).loc main_arg0)) slices_S16x256x10080_S16x256x7008_0_0_0)) (broadcastInDim S16x256x7008 ![0, 1, 2] bcast_S1x1x7008_S16x256x7008_0_1_2 (broadcastInDim S1x1x7008 ![2] bcast_S7008_S1x1x7008_2 (shapeCast _ (m ((c.tc : Thread nD τ).loc main_arg2)) shapeCasts_S1x7008_S7008))))) shapeCasts_S16x256x7008_S4096x7008)⟩, ⟨S4096x7008, (shapeCast _ (addf (extractStridedSlice S4x1024x7008 ![0, 0, 0] (m ((c.tc : Thread nD τ).loc main_arg1)) slices_S4x1024x10080_S4x1024x7008_0_0_0) (mulf (subf (mulf (broadcastInDim S4x1024x7008 ![] bcast_S_S4x1024x7008 (constant S_ .f32 0x3F000000#32)) (addf (concatenate S4x1024x7008 1 [⟨S4x1x7008, (broadcastInDim S4x1x7008 ![] bcast_S_S4x1x7008 (constant S_ .f32 0x00000000#32))⟩, ⟨S4x1023x7008, (extractStridedSlice S4x1023x7008 ![0, 0, 0] (extractStridedSlice S4x1024x7008 ![0, 0, 0] (m ((c.tc : Thread nD τ).loc main_arg1)) slices_S4x1024x10080_S4x1024x7008_0_0_0) slices_S4x1024x7008_S4x1023x7008_0_0_0)⟩] concatenates_S4x1x7008_S4x1023x7008_S4x1024x7008_d1) (concatenate S4x1024x7008 1 [⟨S4x1023x7008, (extractStridedSlice S4x1023x7008 ![0, 1, 0] (extractStridedSlice S4x1024x7008 ![0, 0, 0] (m ((c.tc : Thread nD τ).loc main_arg1)) slices_S4x1024x10080_S4x1024x7008_0_0_0) slices_S4x1024x7008_S4x1023x7008_0_1_0)⟩, ⟨S4x1x7008, (broadcastInDim S4x1x7008 ![] bcast_S_S4x1x7008 (constant S_ .f32 0x00000000#32))⟩] concatenates_S4x1023x7008_S4x1x7008_S4x1024x7008_d1))) (extractStridedSlice S4x1024x7008 ![0, 0, 0] (m ((c.tc : Thread nD τ).loc main_arg1)) slices_S4x1024x10080_S4x1024x7008_0_0_0)) (broadcastInDim S4x1024x7008 ![0, 1, 2] bcast_S1x1x7008_S4x1024x7008_0_1_2 (broadcastInDim S1x1x7008 ![2] bcast_S7008_S1x1x7008_2 (shapeCast _ (m ((c.tc : Thread nD τ).loc main_arg2)) shapeCasts_S1x7008_S7008))))) shapeCasts_S4x1024x7008_S4096x7008)⟩] concatenates_S4096x7008_S4096x7008_S8192x7008_d0) slices_S8192x7008_S8192x256_0_6624)) slices_S8192x256_S8192x128_0_0) (shapeCast _ (extractStridedSlice S1x1x128x2048 ![0, 0, 0, 0] (m ((c.tc : Thread nD τ).loc main_arg4)) slices_S1x2x128x2048_S1x1x128x2048_0_0_0_0) shapeCasts_S1x1x128x2048_S128x2048)))) (broadcastInDim S8192x2048 ![] bcast_S_S8192x2048 (constant S_ .f32 0x00000000#32)))) (addf (Host.negf (addf (broadcastInDim S8192x2048 ![0, 1] bcast_S1x2048_S8192x2048_0_1 (broadcastInDim S1x2048 ![1] bcast_S2048_S1x2048_1 (shapeCast _ (extractStridedSlice S1x1x2048 ![0, 0, 0] (m ((c.tc : Thread nD τ).loc main_arg3)) slices_S1x2x2048_S1x1x2048_0_0_0) shapeCasts_S1x1x2048_S2048))) (Host.dotGeneral dot_S8192x128_S128x2048_S8192x2048_1_0_0_1_n_n none (extractStridedSlice S8192x128 ![0, 0] (Host.tanh (extractStridedSlice S8192x256 ![0, 6624] (concatenate S8192x7008 0 [⟨S4096x7008, (shapeCast _ (addf (extractStridedSlice S16x256x7008 ![0, 0, 0] (m ((c.tc : Thread nD τ).loc main_arg0)) slices_S16x256x10080_S16x256x7008_0_0_0) (mulf (subf (mulf (broadcastInDim S16x256x7008 ![] bcast_S_S16x256x7008 (constant S_ .f32 0x3F000000#32)) (addf (concatenate S16x256x7008 1 [⟨S16x1x7008, (broadcastInDim S16x1x7008 ![] bcast_S_S16x1x7008 (constant S_ .f32 0x00000000#32))⟩, ⟨S16x255x7008, (extractStridedSlice S16x255x7008 ![0, 0, 0] (extractStridedSlice S16x256x7008 ![0, 0, 0] (m ((c.tc : Thread nD τ).loc main_arg0)) slices_S16x256x10080_S16x256x7008_0_0_0) slices_S16x256x7008_S16x255x7008_0_0_0)⟩] concatenates_S16x1x7008_S16x255x7008_S16x256x7008_d1) (concatenate S16x256x7008 1 [⟨S16x255x7008, (extractStridedSlice S16x255x7008 ![0, 1, 0] (extractStridedSlice S16x256x7008 ![0, 0, 0] (m ((c.tc : Thread nD τ).loc main_arg0)) slices_S16x256x10080_S16x256x7008_0_0_0) slices_S16x256x7008_S16x255x7008_0_1_0)⟩, ⟨S16x1x7008, (broadcastInDim S16x1x7008 ![] bcast_S_S16x1x7008 (constant S_ .f32 0x00000000#32))⟩] concatenates_S16x255x7008_S16x1x7008_S16x256x7008_d1))) (extractStridedSlice S16x256x7008 ![0, 0, 0] (m ((c.tc : Thread nD τ).loc main_arg0)) slices_S16x256x10080_S16x256x7008_0_0_0)) (broadcastInDim S16x256x7008 ![0, 1, 2] bcast_S1x1x7008_S16x256x7008_0_1_2 (broadcastInDim S1x1x7008 ![2] bcast_S7008_S1x1x7008_2 (shapeCast _ (m ((c.tc : Thread nD τ).loc main_arg2)) shapeCasts_S1x7008_S7008))))) shapeCasts_S16x256x7008_S4096x7008)⟩, ⟨S4096x7008, (shapeCast _ (addf (extractStridedSlice S4x1024x7008 ![0, 0, 0] (m ((c.tc : Thread nD τ).loc main_arg1)) slices_S4x1024x10080_S4x1024x7008_0_0_0) (mulf (subf (mulf (broadcastInDim S4x1024x7008 ![] bcast_S_S4x1024x7008 (constant S_ .f32 0x3F000000#32)) (addf (concatenate S4x1024x7008 1 [⟨S4x1x7008, (broadcastInDim S4x1x7008 ![] bcast_S_S4x1x7008 (constant S_ .f32 0x00000000#32))⟩, ⟨S4x1023x7008, (extractStridedSlice S4x1023x7008 ![0, 0, 0] (extractStridedSlice S4x1024x7008 ![0, 0, 0] (m ((c.tc : Thread nD τ).loc main_arg1)) slices_S4x1024x10080_S4x1024x7008_0_0_0) slices_S4x1024x7008_S4x1023x7008_0_0_0)⟩] concatenates_S4x1x7008_S4x1023x7008_S4x1024x7008_d1) (concatenate S4x1024x7008 1 [⟨S4x1023x7008, (extractStridedSlice S4x1023x7008 ![0, 1, 0] (extractStridedSlice S4x1024x7008 ![0, 0, 0] (m ((c.tc : Thread nD τ).loc main_arg1)) slices_S4x1024x10080_S4x1024x7008_0_0_0) slices_S4x1024x7008_S4x1023x7008_0_1_0)⟩, ⟨S4x1x7008, (broadcastInDim S4x1x7008 ![] bcast_S_S4x1x7008 (constant S_ .f32 0x00000000#32))⟩] concatenates_S4x1023x7008_S4x1x7008_S4x1024x7008_d1))) (extractStridedSlice S4x1024x7008 ![0, 0, 0] (m ((c.tc : Thread nD τ).loc main_arg1)) slices_S4x1024x10080_S4x1024x7008_0_0_0)) (broadcastInDim S4x1024x7008 ![0, 1, 2] bcast_S1x1x7008_S4x1024x7008_0_1_2 (broadcastInDim S1x1x7008 ![2] bcast_S7008_S1x1x7008_2 (shapeCast _ (m ((c.tc : Thread nD τ).loc main_arg2)) shapeCasts_S1x7008_S7008))))) shapeCasts_S4x1024x7008_S4096x7008)⟩] concatenates_S4096x7008_S4096x7008_S8192x7008_d0) slices_S8192x7008_S8192x256_0_6624)) slices_S8192x256_S8192x128_0_0) (shapeCast _ (extractStridedSlice S1x1x128x2048 ![0, 0, 0, 0] (m ((c.tc : Thread nD τ).loc main_arg4)) slices_S1x2x128x2048_S1x1x128x2048_0_0_0_0) shapeCasts_S1x1x128x2048_S128x2048)))) (broadcastInDim S8192x2048 ![] bcast_S_S8192x2048 (constant S_ .f32 0x00000000#32))) (addf (maximumf (Host.negf (addf (broadcastInDim S8192x2048 ![0, 1] bcast_S1x2048_S8192x2048_0_1 (broadcastInDim S1x2048 ![1] bcast_S2048_S1x2048_1 (shapeCast _ (extractStridedSlice S1x1x2048 ![0, 0, 0] (m ((c.tc : Thread nD τ).loc main_arg3)) slices_S1x2x2048_S1x1x2048_0_0_0) shapeCasts_S1x1x2048_S2048))) (Host.dotGeneral dot_S8192x128_S128x2048_S8192x2048_1_0_0_1_n_n none (extractStridedSlice S8192x128 ![0, 0] (Host.tanh (extractStridedSlice S8192x256 ![0, 6624] (concatenate S8192x7008 0 [⟨S4096x7008, (shapeCast _ (addf (extractStridedSlice S16x256x7008 ![0, 0, 0] (m ((c.tc : Thread nD τ).loc main_arg0)) slices_S16x256x10080_S16x256x7008_0_0_0) (mulf (subf (mulf (broadcastInDim S16x256x7008 ![] bcast_S_S16x256x7008 (constant S_ .f32 0x3F000000#32)) (addf (concatenate S16x256x7008 1 [⟨S16x1x7008, (broadcastInDim S16x1x7008 ![] bcast_S_S16x1x7008 (constant S_ .f32 0x00000000#32))⟩, ⟨S16x255x7008, (extractStridedSlice S16x255x7008 ![0, 0, 0] (extractStridedSlice S16x256x7008 ![0, 0, 0] (m ((c.tc : Thread nD τ).loc main_arg0)) slices_S16x256x10080_S16x256x7008_0_0_0) slices_S16x256x7008_S16x255x7008_0_0_0)⟩] concatenates_S16x1x7008_S16x255x7008_S16x256x7008_d1) (concatenate S16x256x7008 1 [⟨S16x255x7008, (extractStridedSlice S16x255x7008 ![0, 1, 0] (extractStridedSlice S16x256x7008 ![0, 0, 0] (m ((c.tc : Thread nD τ).loc main_arg0)) slices_S16x256x10080_S16x256x7008_0_0_0) slices_S16x256x7008_S16x255x7008_0_1_0)⟩, ⟨S16x1x7008, (broadcastInDim S16x1x7008 ![] bcast_S_S16x1x7008 (constant S_ .f32 0x00000000#32))⟩] concatenates_S16x255x7008_S16x1x7008_S16x256x7008_d1))) (extractStridedSlice S16x256x7008 ![0, 0, 0] (m ((c.tc : Thread nD τ).loc main_arg0)) slices_S16x256x10080_S16x256x7008_0_0_0)) (broadcastInDim S16x256x7008 ![0, 1, 2] bcast_S1x1x7008_S16x256x7008_0_1_2 (broadcastInDim S1x1x7008 ![2] bcast_S7008_S1x1x7008_2 (shapeCast _ (m ((c.tc : Thread nD τ).loc main_arg2)) shapeCasts_S1x7008_S7008))))) shapeCasts_S16x256x7008_S4096x7008)⟩, ⟨S4096x7008, (shapeCast _ (addf (extractStridedSlice S4x1024x7008 ![0, 0, 0] (m ((c.tc : Thread nD τ).loc main_arg1)) slices_S4x1024x10080_S4x1024x7008_0_0_0) (mulf (subf (mulf (broadcastInDim S4x1024x7008 ![] bcast_S_S4x1024x7008 (constant S_ .f32 0x3F000000#32)) (addf (concatenate S4x1024x7008 1 [⟨S4x1x7008, (broadcastInDim S4x1x7008 ![] bcast_S_S4x1x7008 (constant S_ .f32 0x00000000#32))⟩, ⟨S4x1023x7008, (extractStridedSlice S4x1023x7008 ![0, 0, 0] (extractStridedSlice S4x1024x7008 ![0, 0, 0] (m ((c.tc : Thread nD τ).loc main_arg1)) slices_S4x1024x10080_S4x1024x7008_0_0_0) slices_S4x1024x7008_S4x1023x7008_0_0_0)⟩] concatenates_S4x1x7008_S4x1023x7008_S4x1024x7008_d1) (concatenate S4x1024x7008 1 [⟨S4x1023x7008, (extractStridedSlice S4x1023x7008 ![0, 1, 0] (extractStridedSlice S4x1024x7008 ![0, 0, 0] (m ((c.tc : Thread nD τ).loc main_arg1)) slices_S4x1024x10080_S4x1024x7008_0_0_0) slices_S4x1024x7008_S4x1023x7008_0_1_0)⟩, ⟨S4x1x7008, (broadcastInDim S4x1x7008 ![] bcast_S_S4x1x7008 (constant S_ .f32 0x00000000#32))⟩] concatenates_S4x1023x7008_S4x1x7008_S4x1024x7008_d1))) (extractStridedSlice S4x1024x7008 ![0, 0, 0] (m ((c.tc : Thread nD τ).loc main_arg1)) slices_S4x1024x10080_S4x1024x7008_0_0_0)) (broadcastInDim S4x1024x7008 ![0, 1, 2] bcast_S1x1x7008_S4x1024x7008_0_1_2 (broadcastInDim S1x1x7008 ![2] bcast_S7008_S1x1x7008_2 (shapeCast _ (m ((c.tc : Thread nD τ).loc main_arg2)) shapeCasts_S1x7008_S7008))))) shapeCasts_S4x1024x7008_S4096x7008)⟩] concatenates_S4096x7008_S4096x7008_S8192x7008_d0) slices_S8192x7008_S8192x256_0_6624)) slices_S8192x256_S8192x128_0_0) (shapeCast _ (extractStridedSlice S1x1x128x2048 ![0, 0, 0, 0] (m ((c.tc : Thread nD τ).loc main_arg4)) slices_S1x2x128x2048_S1x1x128x2048_0_0_0_0) shapeCasts_S1x1x128x2048_S128x2048)))) (broadcastInDim S8192x2048 ![] bcast_S_S8192x2048 (constant S_ .f32 0x00000000#32))) (Host.log1p (Host.exp (Host.negf (Host.absf (subf (Host.negf (addf (broadcastInDim S8192x2048 ![0, 1] bcast_S1x2048_S8192x2048_0_1 (broadcastInDim S1x2048 ![1] bcast_S2048_S1x2048_1 (shapeCast _ (extractStridedSlice S1x1x2048 ![0, 0, 0] (m ((c.tc : Thread nD τ).loc main_arg3)) slices_S1x2x2048_S1x1x2048_0_0_0) shapeCasts_S1x1x2048_S2048))) (Host.dotGeneral dot_S8192x128_S128x2048_S8192x2048_1_0_0_1_n_n none (extractStridedSlice S8192x128 ![0, 0] (Host.tanh (extractStridedSlice S8192x256 ![0, 6624] (concatenate S8192x7008 0 [⟨S4096x7008, (shapeCast _ (addf (extractStridedSlice S16x256x7008 ![0, 0, 0] (m ((c.tc : Thread nD τ).loc main_arg0)) slices_S16x256x10080_S16x256x7008_0_0_0) (mulf (subf (mulf (broadcastInDim S16x256x7008 ![] bcast_S_S16x256x7008 (constant S_ .f32 0x3F000000#32)) (addf (concatenate S16x256x7008 1 [⟨S16x1x7008, (broadcastInDim S16x1x7008 ![] bcast_S_S16x1x7008 (constant S_ .f32 0x00000000#32))⟩, ⟨S16x255x7008, (extractStridedSlice S16x255x7008 ![0, 0, 0] (extractStridedSlice S16x256x7008 ![0, 0, 0] (m ((c.tc : Thread nD τ).loc main_arg0)) slices_S16x256x10080_S16x256x7008_0_0_0) slices_S16x256x7008_S16x255x7008_0_0_0)⟩] concatenates_S16x1x7008_S16x255x7008_S16x256x7008_d1) (concatenate S16x256x7008 1 [⟨S16x255x7008, (extractStridedSlice S16x255x7008 ![0, 1, 0] (extractStridedSlice S16x256x7008 ![0, 0, 0] (m ((c.tc : Thread nD τ).loc main_arg0)) slices_S16x256x10080_S16x256x7008_0_0_0) slices_S16x256x7008_S16x255x7008_0_1_0)⟩, ⟨S16x1x7008, (broadcastInDim S16x1x7008 ![] bcast_S_S16x1x7008 (constant S_ .f32 0x00000000#32))⟩] concatenates_S16x255x7008_S16x1x7008_S16x256x7008_d1))) (extractStridedSlice S16x256x7008 ![0, 0, 0] (m ((c.tc : Thread nD τ).loc main_arg0)) slices_S16x256x10080_S16x256x7008_0_0_0)) (broadcastInDim S16x256x7008 ![0, 1, 2] bcast_S1x1x7008_S16x256x7008_0_1_2 (broadcastInDim S1x1x7008 ![2] bcast_S7008_S1x1x7008_2 (shapeCast _ (m ((c.tc : Thread nD τ).loc main_arg2)) shapeCasts_S1x7008_S7008))))) shapeCasts_S16x256x7008_S4096x7008)⟩, ⟨S4096x7008, (shapeCast _ (addf (extractStridedSlice S4x1024x7008 ![0, 0, 0] (m ((c.tc : Thread nD τ).loc main_arg1)) slices_S4x1024x10080_S4x1024x7008_0_0_0) (mulf (subf (mulf (broadcastInDim S4x1024x7008 ![] bcast_S_S4x1024x7008 (constant S_ .f32 0x3F000000#32)) (addf (concatenate S4x1024x7008 1 [⟨S4x1x7008, (broadcastInDim S4x1x7008 ![] bcast_S_S4x1x7008 (constant S_ .f32 0x00000000#32))⟩, ⟨S4x1023x7008, (extractStridedSlice S4x1023x7008 ![0, 0, 0] (extractStridedSlice S4x1024x7008 ![0, 0, 0] (m ((c.tc : Thread nD τ).loc main_arg1)) slices_S4x1024x10080_S4x1024x7008_0_0_0) slices_S4x1024x7008_S4x1023x7008_0_0_0)⟩] concatenates_S4x1x7008_S4x1023x7008_S4x1024x7008_d1) (concatenate S4x1024x7008 1 [⟨S4x1023x7008, (extractStridedSlice S4x1023x7008 ![0, 1, 0] (extractStridedSlice S4x1024x7008 ![0, 0, 0] (m ((c.tc : Thread nD τ).loc main_arg1)) slices_S4x1024x10080_S4x1024x7008_0_0_0) slices_S4x1024x7008_S4x1023x7008_0_1_0)⟩, ⟨S4x1x7008, (broadcastInDim S4x1x7008 ![] bcast_S_S4x1x7008 (constant S_ .f32 0x00000000#32))⟩] concatenates_S4x1023x7008_S4x1x7008_S4x1024x7008_d1))) (extractStridedSlice S4x1024x7008 ![0, 0, 0] (m ((c.tc : Thread nD τ).loc main_arg1)) slices_S4x1024x10080_S4x1024x7008_0_0_0)) (broadcastInDim S4x1024x7008 ![0, 1, 2] bcast_S1x1x7008_S4x1024x7008_0_1_2 (broadcastInDim S1x1x7008 ![2] bcast_S7008_S1x1x7008_2 (shapeCast _ (m ((c.tc : Thread nD τ).loc main_arg2)) shapeCasts_S1x7008_S7008))))) shapeCasts_S4x1024x7008_S4096x7008)⟩] concatenates_S4096x7008_S4096x7008_S8192x7008_d0) slices_S8192x7008_S8192x256_0_6624)) slices_S8192x256_S8192x128_0_0) (shapeCast _ (extractStridedSlice S1x1x128x2048 ![0, 0, 0, 0] (m ((c.tc : Thread nD τ).loc main_arg4)) slices_S1x2x128x2048_S1x1x128x2048_0_0_0_0) shapeCasts_S1x1x128x2048_S128x2048)))) (broadcastInDim S8192x2048 ![] bcast_S_S8192x2048 (constant S_ .f32 0x00000000#32)))))))))) (broadcastInDim S8192x2048 ![] bcast_S_S8192x2048 (constant S_ .f32 0x3F000000#32))))))⟩, ⟨S1x8192x2048, (broadcastInDim S1x8192x2048 ![1, 2] bcast_S8192x2048_S1x8192x2048_1_2 (Host.negf (Host.exp (subf (Host.negf (select (cmpf .une (subf (Host.negf (addf (broadcastInDim S8192x2048 ![0, 1] bcast_S1x2048_S8192x2048_0_1 (broadcastInDim S1x2048 ![1] bcast_S2048_S1x2048_1 (shapeCast _ (extractStridedSlice S1x1x2048 ![0, 1, 0] (m ((c.tc : Thread nD τ).loc main_arg3)) slices_S1x2x2048_S1x1x2048_0_1_0) shapeCasts_S1x1x2048_S2048))) (Host.dotGeneral dot_S8192x128_S128x2048_S8192x2048_1_0_0_1_n_n none (extractStridedSlice S8192x128 ![0, 128] (Host.tanh (extractStridedSlice S8192x256 ![0, 6624] (concatenate S8192x7008 0 [⟨S4096x7008, (shapeCast _ (addf (extractStridedSlice S16x256x7008 ![0, 0, 0] (m ((c.tc : Thread nD τ).loc main_arg0)) slices_S16x256x10080_S16x256x7008_0_0_0) (mulf (subf (mulf (broadcastInDim S16x256x7008 ![] bcast_S_S16x256x7008 (constant S_ .f32 0x3F000000#32)) (addf (concatenate S16x256x7008 1 [⟨S16x1x7008, (broadcastInDim S16x1x7008 ![] bcast_S_S16x1x7008 (constant S_ .f32 0x00000000#32))⟩, ⟨S16x255x7008, (extractStridedSlice S16x255x7008 ![0, 0, 0] (extractStridedSlice S16x256x7008 ![0, 0, 0] (m ((c.tc : Thread nD τ).loc main_arg0)) slices_S16x256x10080_S16x256x7008_0_0_0) slices_S16x256x7008_S16x255x7008_0_0_0)⟩] concatenates_S16x1x7008_S16x255x7008_S16x256x7008_d1) (concatenate S16x256x7008 1 [⟨S16x255x7008, (extractStridedSlice S16x255x7008 ![0, 1, 0] (extractStridedSlice S16x256x7008 ![0, 0, 0] (m ((c.tc : Thread nD τ).loc main_arg0)) slices_S16x256x10080_S16x256x7008_0_0_0) slices_S16x256x7008_S16x255x7008_0_1_0)⟩, ⟨S16x1x7008, (broadcastInDim S16x1x7008 ![] bcast_S_S16x1x7008 (constant S_ .f32 0x00000000#32))⟩] concatenates_S16x255x7008_S16x1x7008_S16x256x7008_d1))) (extractStridedSlice S16x256x7008 ![0, 0, 0] (m ((c.tc : Thread nD τ).loc main_arg0)) slices_S16x256x10080_S16x256x7008_0_0_0)) (broadcastInDim S16x256x7008 ![0, 1, 2] bcast_S1x1x7008_S16x256x7008_0_1_2 (broadcastInDim S1x1x7008 ![2] bcast_S7008_S1x1x7008_2 (shapeCast _ (m ((c.tc : Thread nD τ).loc main_arg2)) shapeCasts_S1x7008_S7008))))) shapeCasts_S16x256x7008_S4096x7008)⟩, ⟨S4096x7008, (shapeCast _ (addf (extractStridedSlice S4x1024x7008 ![0, 0, 0] (m ((c.tc : Thread nD τ).loc main_arg1)) slices_S4x1024x10080_S4x1024x7008_0_0_0) (mulf (subf (mulf (broadcastInDim S4x1024x7008 ![] bcast_S_S4x1024x7008 (constant S_ .f32 0x3F000000#32)) (addf (concatenate S4x1024x7008 1 [⟨S4x1x7008, (broadcastInDim S4x1x7008 ![] bcast_S_S4x1x7008 (constant S_ .f32 0x00000000#32))⟩, ⟨S4x1023x7008, (extractStridedSlice S4x1023x7008 ![0, 0, 0] (extractStridedSlice S4x1024x7008 ![0, 0, 0] (m ((c.tc : Thread nD τ).loc main_arg1)) slices_S4x1024x10080_S4x1024x7008_0_0_0) slices_S4x1024x7008_S4x1023x7008_0_0_0)⟩] concatenates_S4x1x7008_S4x1023x7008_S4x1024x7008_d1) (concatenate S4x1024x7008 1 [⟨S4x1023x7008, (extractStridedSlice S4x1023x7008 ![0, 1, 0] (extractStridedSlice S4x1024x7008 ![0, 0, 0] (m ((c.tc : Thread nD τ).loc main_arg1)) slices_S4x1024x10080_S4x1024x7008_0_0_0) slices_S4x1024x7008_S4x1023x7008_0_1_0)⟩, ⟨S4x1x7008, (broadcastInDim S4x1x7008 ![] bcast_S_S4x1x7008 (constant S_ .f32 0x00000000#32))⟩] concatenates_S4x1023x7008_S4x1x7008_S4x1024x7008_d1))) (extractStridedSlice S4x1024x7008 ![0, 0, 0] (m ((c.tc : Thread nD τ).loc main_arg1)) slices_S4x1024x10080_S4x1024x7008_0_0_0)) (broadcastInDim S4x1024x7008 ![0, 1, 2] bcast_S1x1x7008_S4x1024x7008_0_1_2 (broadcastInDim S1x1x7008 ![2] bcast_S7008_S1x1x7008_2 (shapeCast _ (m ((c.tc : Thread nD τ).loc main_arg2)) shapeCasts_S1x7008_S7008))))) shapeCasts_S4x1024x7008_S4096x7008)⟩] concatenates_S4096x7008_S4096x7008_S8192x7008_d0) slices_S8192x7008_S8192x256_0_6624)) slices_S8192x256_S8192x128_0_128) (shapeCast _ (extractStridedSlice S1x1x128x2048 ![0, 1, 0, 0] (m ((c.tc : Thread nD τ).loc main_arg4)) slices_S1x2x128x2048_S1x1x128x2048_0_1_0_0) shapeCasts_S1x1x128x2048_S128x2048)))) (broadcastInDim S8192x2048 ![] bcast_S_S8192x2048 (constant S_ .f32 0x00000000#32))) (subf (Host.negf (addf (broadcastInDim S8192x2048 ![0, 1] bcast_S1x2048_S8192x2048_0_1 (broadcastInDim S1x2048 ![1] bcast_S2048_S1x2048_1 (shapeCast _ (extractStridedSlice S1x1x2048 ![0, 1, 0] (m ((c.tc : Thread nD τ).loc main_arg3)) slices_S1x2x2048_S1x1x2048_0_1_0) shapeCasts_S1x1x2048_S2048))) (Host.dotGeneral dot_S8192x128_S128x2048_S8192x2048_1_0_0_1_n_n none (extractStridedSlice S8192x128 ![0, 128] (Host.tanh (extractStridedSlice S8192x256 ![0, 6624] (concatenate S8192x7008 0 [⟨S4096x7008, (shapeCast _ (addf (extractStridedSlice S16x256x7008 ![0, 0, 0] (m ((c.tc : Thread nD τ).loc main_arg0)) slices_S16x256x10080_S16x256x7008_0_0_0) (mulf (subf (mulf (broadcastInDim S16x256x7008 ![] bcast_S_S16x256x7008 (constant S_ .f32 0x3F000000#32)) (addf (concatenate S16x256x7008 1 [⟨S16x1x7008, (broadcastInDim S16x1x7008 ![] bcast_S_S16x1x7008 (constant S_ .f32 0x00000000#32))⟩, ⟨S16x255x7008, (extractStridedSlice S16x255x7008 ![0, 0, 0] (extractStridedSlice S16x256x7008 ![0, 0, 0] (m ((c.tc : Thread nD τ).loc main_arg0)) slices_S16x256x10080_S16x256x7008_0_0_0) slices_S16x256x7008_S16x255x7008_0_0_0)⟩] concatenates_S16x1x7008_S16x255x7008_S16x256x7008_d1) (concatenate S16x256x7008 1 [⟨S16x255x7008, (extractStridedSlice S16x255x7008 ![0, 1, 0] (extractStridedSlice S16x256x7008 ![0, 0, 0] (m ((c.tc : Thread nD τ).loc main_arg0)) slices_S16x256x10080_S16x256x7008_0_0_0) slices_S16x256x7008_S16x255x7008_0_1_0)⟩, ⟨S16x1x7008, (broadcastInDim S16x1x7008 ![] bcast_S_S16x1x7008 (constant S_ .f32 0x00000000#32))⟩] concatenates_S16x255x7008_S16x1x7008_S16x256x7008_d1))) (extractStridedSlice S16x256x7008 ![0, 0, 0] (m ((c.tc : Thread nD τ).loc main_arg0)) slices_S16x256x10080_S16x256x7008_0_0_0)) (broadcastInDim S16x256x7008 ![0, 1, 2] bcast_S1x1x7008_S16x256x7008_0_1_2 (broadcastInDim S1x1x7008 ![2] bcast_S7008_S1x1x7008_2 (shapeCast _ (m ((c.tc : Thread nD τ).loc main_arg2)) shapeCasts_S1x7008_S7008))))) shapeCasts_S16x256x7008_S4096x7008)⟩, ⟨S4096x7008, (shapeCast _ (addf (extractStridedSlice S4x1024x7008 ![0, 0, 0] (m ((c.tc : Thread nD τ).loc main_arg1)) slices_S4x1024x10080_S4x1024x7008_0_0_0) (mulf (subf (mulf (broadcastInDim S4x1024x7008 ![] bcast_S_S4x1024x7008 (constant S_ .f32 0x3F000000#32)) (addf (concatenate S4x1024x7008 1 [⟨S4x1x7008, (broadcastInDim S4x1x7008 ![] bcast_S_S4x1x7008 (constant S_ .f32 0x00000000#32))⟩, ⟨S4x1023x7008, (extractStridedSlice S4x1023x7008 ![0, 0, 0] (extractStridedSlice S4x1024x7008 ![0, 0, 0] (m ((c.tc : Thread nD τ).loc main_arg1)) slices_S4x1024x10080_S4x1024x7008_0_0_0) slices_S4x1024x7008_S4x1023x7008_0_0_0)⟩] concatenates_S4x1x7008_S4x1023x7008_S4x1024x7008_d1) (concatenate S4x1024x7008 1 [⟨S4x1023x7008, (extractStridedSlice S4x1023x7008 ![0, 1, 0] (extractStridedSlice S4x1024x7008 ![0, 0, 0] (m ((c.tc : Thread nD τ).loc main_arg1)) slices_S4x1024x10080_S4x1024x7008_0_0_0) slices_S4x1024x7008_S4x1023x7008_0_1_0)⟩, ⟨S4x1x7008, (broadcastInDim S4x1x7008 ![] bcast_S_S4x1x7008 (constant S_ .f32 0x00000000#32))⟩] concatenates_S4x1023x7008_S4x1x7008_S4x1024x7008_d1))) (extractStridedSlice S4x1024x7008 ![0, 0, 0] (m ((c.tc : Thread nD τ).loc main_arg1)) slices_S4x1024x10080_S4x1024x7008_0_0_0)) (broadcastInDim S4x1024x7008 ![0, 1, 2] bcast_S1x1x7008_S4x1024x7008_0_1_2 (broadcastInDim S1x1x7008 ![2] bcast_S7008_S1x1x7008_2 (shapeCast _ (m ((c.tc : Thread nD τ).loc main_arg2)) shapeCasts_S1x7008_S7008))))) shapeCasts_S4x1024x7008_S4096x7008)⟩] concatenates_S4096x7008_S4096x7008_S8192x7008_d0) slices_S8192x7008_S8192x256_0_6624)) slices_S8192x256_S8192x128_0_128) (shapeCast _ (extractStridedSlice S1x1x128x2048 ![0, 1, 0, 0] (m ((c.tc : Thread nD τ).loc main_arg4)) slices_S1x2x128x2048_S1x1x128x2048_0_1_0_0) shapeCasts_S1x1x128x2048_S128x2048)))) (broadcastInDim S8192x2048 ![] bcast_S_S8192x2048 (constant S_ .f32 0x00000000#32)))) (addf (Host.negf (addf (broadcastInDim S8192x2048 ![0, 1] bcast_S1x2048_S8192x2048_0_1 (broadcastInDim S1x2048 ![1] bcast_S2048_S1x2048_1 (shapeCast _ (extractStridedSlice S1x1x2048 ![0, 1, 0] (m ((c.tc : Thread nD τ).loc main_arg3)) slices_S1x2x2048_S1x1x2048_0_1_0) shapeCasts_S1x1x2048_S2048))) (Host.dotGeneral dot_S8192x128_S128x2048_S8192x2048_1_0_0_1_n_n none (extractStridedSlice S8192x128 ![0, 128] (Host.tanh (extractStridedSlice S8192x256 ![0, 6624] (concatenate S8192x7008 0 [⟨S4096x7008, (shapeCast _ (addf (extractStridedSlice S16x256x7008 ![0, 0, 0] (m ((c.tc : Thread nD τ).loc main_arg0)) slices_S16x256x10080_S16x256x7008_0_0_0) (mulf (subf (mulf (broadcastInDim S16x256x7008 ![] bcast_S_S16x256x7008 (constant S_ .f32 0x3F000000#32)) (addf (concatenate S16x256x7008 1 [⟨S16x1x7008, (broadcastInDim S16x1x7008 ![] bcast_S_S16x1x7008 (constant S_ .f32 0x00000000#32))⟩, ⟨S16x255x7008, (extractStridedSlice S16x255x7008 ![0, 0, 0] (extractStridedSlice S16x256x7008 ![0, 0, 0] (m ((c.tc : Thread nD τ).loc main_arg0)) slices_S16x256x10080_S16x256x7008_0_0_0) slices_S16x256x7008_S16x255x7008_0_0_0)⟩] concatenates_S16x1x7008_S16x255x7008_S16x256x7008_d1) (concatenate S16x256x7008 1 [⟨S16x255x7008, (extractStridedSlice S16x255x7008 ![0, 1, 0] (extractStridedSlice S16x256x7008 ![0, 0, 0] (m ((c.tc : Thread nD τ).loc main_arg0)) slices_S16x256x10080_S16x256x7008_0_0_0) slices_S16x256x7008_S16x255x7008_0_1_0)⟩, ⟨S16x1x7008, (broadcastInDim S16x1x7008 ![] bcast_S_S16x1x7008 (constant S_ .f32 0x00000000#32))⟩] concatenates_S16x255x7008_S16x1x7008_S16x256x7008_d1))) (extractStridedSlice S16x256x7008 ![0, 0, 0] (m ((c.tc : Thread nD τ).loc main_arg0)) slices_S16x256x10080_S16x256x7008_0_0_0)) (broadcastInDim S16x256x7008 ![0, 1, 2] bcast_S1x1x7008_S16x256x7008_0_1_2 (broadcastInDim S1x1x7008 ![2] bcast_S7008_S1x1x7008_2 (shapeCast _ (m ((c.tc : Thread nD τ).loc main_arg2)) shapeCasts_S1x7008_S7008))))) shapeCasts_S16x256x7008_S4096x7008)⟩, ⟨S4096x7008, (shapeCast _ (addf (extractStridedSlice S4x1024x7008 ![0, 0, 0] (m ((c.tc : Thread nD τ).loc main_arg1)) slices_S4x1024x10080_S4x1024x7008_0_0_0) (mulf (subf (mulf (broadcastInDim S4x1024x7008 ![] bcast_S_S4x1024x7008 (constant S_ .f32 0x3F000000#32)) (addf (concatenate S4x1024x7008 1 [⟨S4x1x7008, (broadcastInDim S4x1x7008 ![] bcast_S_S4x1x7008 (constant S_ .f32 0x00000000#32))⟩, ⟨S4x1023x7008, (extractStridedSlice S4x1023x7008 ![0, 0, 0] (extractStridedSlice S4x1024x7008 ![0, 0, 0] (m ((c.tc : Thread nD τ).loc main_arg1)) slices_S4x1024x10080_S4x1024x7008_0_0_0) slices_S4x1024x7008_S4x1023x7008_0_0_0)⟩] concatenates_S4x1x7008_S4x1023x7008_S4x1024x7008_d1) (concatenate S4x1024x7008 1 [⟨S4x1023x7008, (extractStridedSlice S4x1023x7008 ![0, 1, 0] (extractStridedSlice S4x1024x7008 ![0, 0, 0] (m ((c.tc : Thread nD τ).loc main_arg1)) slices_S4x1024x10080_S4x1024x7008_0_0_0) slices_S4x1024x7008_S4x1023x7008_0_1_0)⟩, ⟨S4x1x7008, (broadcastInDim S4x1x7008 ![] bcast_S_S4x1x7008 (constant S_ .f32 0x00000000#32))⟩] concatenates_S4x1023x7008_S4x1x7008_S4x1024x7008_d1))) (extractStridedSlice S4x1024x7008 ![0, 0, 0] (m ((c.tc : Thread nD τ).loc main_arg1)) slices_S4x1024x10080_S4x1024x7008_0_0_0)) (broadcastInDim S4x1024x7008 ![0, 1, 2] bcast_S1x1x7008_S4x1024x7008_0_1_2 (broadcastInDim S1x1x7008 ![2] bcast_S7008_S1x1x7008_2 (shapeCast _ (m ((c.tc : Thread nD τ).loc main_arg2)) shapeCasts_S1x7008_S7008))))) shapeCasts_S4x1024x7008_S4096x7008)⟩] concatenates_S4096x7008_S4096x7008_S8192x7008_d0) slices_S8192x7008_S8192x256_0_6624)) slices_S8192x256_S8192x128_0_128) (shapeCast _ (extractStridedSlice S1x1x128x2048 ![0, 1, 0, 0] (m ((c.tc : Thread nD τ).loc main_arg4)) slices_S1x2x128x2048_S1x1x128x2048_0_1_0_0) shapeCasts_S1x1x128x2048_S128x2048)))) (broadcastInDim S8192x2048 ![] bcast_S_S8192x2048 (constant S_ .f32 0x00000000#32))) (addf (maximumf (Host.negf (addf (broadcastInDim S8192x2048 ![0, 1] bcast_S1x2048_S8192x2048_0_1 (broadcastInDim S1x2048 ![1] bcast_S2048_S1x2048_1 (shapeCast _ (extractStridedSlice S1x1x2048 ![0, 1, 0] (m ((c.tc : Thread nD τ).loc main_arg3)) slices_S1x2x2048_S1x1x2048_0_1_0) shapeCasts_S1x1x2048_S2048))) (Host.dotGeneral dot_S8192x128_S128x2048_S8192x2048_1_0_0_1_n_n none (extractStridedSlice S8192x128 ![0, 128] (Host.tanh (extractStridedSlice S8192x256 ![0, 6624] (concatenate S8192x7008 0 [⟨S4096x7008, (shapeCast _ (addf (extractStridedSlice S16x256x7008 ![0, 0, 0] (m ((c.tc : Thread nD τ).loc main_arg0)) slices_S16x256x10080_S16x256x7008_0_0_0) (mulf (subf (mulf (broadcastInDim S16x256x7008 ![] bcast_S_S16x256x7008 (constant S_ .f32 0x3F000000#32)) (addf (concatenate S16x256x7008 1 [⟨S16x1x7008, (broadcastInDim S16x1x7008 ![] bcast_S_S16x1x7008 (constant S_ .f32 0x00000000#32))⟩, ⟨S16x255x7008, (extractStridedSlice S16x255x7008 ![0, 0, 0] (extractStridedSlice S16x256x7008 ![0, 0, 0] (m ((c.tc : Thread nD τ).loc main_arg0)) slices_S16x256x10080_S16x256x7008_0_0_0) slices_S16x256x7008_S16x255x7008_0_0_0)⟩] concatenates_S16x1x7008_S16x255x7008_S16x256x7008_d1) (concatenate S16x256x7008 1 [⟨S16x255x7008, (extractStridedSlice S16x255x7008 ![0, 1, 0] (extractStridedSlice S16x256x7008 ![0, 0, 0] (m ((c.tc : Thread nD τ).loc main_arg0)) slices_S16x256x10080_S16x256x7008_0_0_0) slices_S16x256x7008_S16x255x7008_0_1_0)⟩, ⟨S16x1x7008, (broadcastInDim S16x1x7008 ![] bcast_S_S16x1x7008 (constant S_ .f32 0x00000000#32))⟩] concatenates_S16x255x7008_S16x1x7008_S16x256x7008_d1))) (extractStridedSlice S16x256x7008 ![0, 0, 0] (m ((c.tc : Thread nD τ).loc main_arg0)) slices_S16x256x10080_S16x256x7008_0_0_0)) (broadcastInDim S16x256x7008 ![0, 1, 2] bcast_S1x1x7008_S16x256x7008_0_1_2 (broadcastInDim S1x1x7008 ![2] bcast_S7008_S1x1x7008_2 (shapeCast _ (m ((c.tc : Thread nD τ).loc main_arg2)) shapeCasts_S1x7008_S7008))))) shapeCasts_S16x256x7008_S4096x7008)⟩, ⟨S4096x7008, (shapeCast _ (addf (extractStridedSlice S4x1024x7008 ![0, 0, 0] (m ((c.tc : Thread nD τ).loc main_arg1)) slices_S4x1024x10080_S4x1024x7008_0_0_0) (mulf (subf (mulf (broadcastInDim S4x1024x7008 ![] bcast_S_S4x1024x7008 (constant S_ .f32 0x3F000000#32)) (addf (concatenate S4x1024x7008 1 [⟨S4x1x7008, (broadcastInDim S4x1x7008 ![] bcast_S_S4x1x7008 (constant S_ .f32 0x00000000#32))⟩, ⟨S4x1023x7008, (extractStridedSlice S4x1023x7008 ![0, 0, 0] (extractStridedSlice S4x1024x7008 ![0, 0, 0] (m ((c.tc : Thread nD τ).loc main_arg1)) slices_S4x1024x10080_S4x1024x7008_0_0_0) slices_S4x1024x7008_S4x1023x7008_0_0_0)⟩] concatenates_S4x1x7008_S4x1023x7008_S4x1024x7008_d1) (concatenate S4x1024x7008 1 [⟨S4x1023x7008, (extractStridedSlice S4x1023x7008 ![0, 1, 0] (extractStridedSlice S4x1024x7008 ![0, 0, 0] (m ((c.tc : Thread nD τ).loc main_arg1)) slices_S4x1024x10080_S4x1024x7008_0_0_0) slices_S4x1024x7008_S4x1023x7008_0_1_0)⟩, ⟨S4x1x7008, (broadcastInDim S4x1x7008 ![] bcast_S_S4x1x7008 (constant S_ .f32 0x00000000#32))⟩] concatenates_S4x1023x7008_S4x1x7008_S4x1024x7008_d1))) (extractStridedSlice S4x1024x7008 ![0, 0, 0] (m ((c.tc : Thread nD τ).loc main_arg1)) slices_S4x1024x10080_S4x1024x7008_0_0_0)) (broadcastInDim S4x1024x7008 ![0, 1, 2] bcast_S1x1x7008_S4x1024x7008_0_1_2 (broadcastInDim S1x1x7008 ![2] bcast_S7008_S1x1x7008_2 (shapeCast _ (m ((c.tc : Thread nD τ).loc main_arg2)) shapeCasts_S1x7008_S7008))))) shapeCasts_S4x1024x7008_S4096x7008)⟩] concatenates_S4096x7008_S4096x7008_S8192x7008_d0) slices_S8192x7008_S8192x256_0_6624)) slices_S8192x256_S8192x128_0_128) (shapeCast _ (extractStridedSlice S1x1x128x2048 ![0, 1, 0, 0] (m ((c.tc : Thread nD τ).loc main_arg4)) slices_S1x2x128x2048_S1x1x128x2048_0_1_0_0) shapeCasts_S1x1x128x2048_S128x2048)))) (broadcastInDim S8192x2048 ![] bcast_S_S8192x2048 (constant S_ .f32 0x00000000#32))) (Host.log1p (Host.exp (Host.negf (Host.absf (subf (Host.negf (addf (broadcastInDim S8192x2048 ![0, 1] bcast_S1x2048_S8192x2048_0_1 (broadcastInDim S1x2048 ![1] bcast_S2048_S1x2048_1 (shapeCast _ (extractStridedSlice S1x1x2048 ![0, 1, 0] (m ((c.tc : Thread nD τ).loc main_arg3)) slices_S1x2x2048_S1x1x2048_0_1_0) shapeCasts_S1x1x2048_S2048))) (Host.dotGeneral dot_S8192x128_S128x2048_S8192x2048_1_0_0_1_n_n none (extractStridedSlice S8192x128 ![0, 128] (Host.tanh (extractStridedSlice S8192x256 ![0, 6624] (concatenate S8192x7008 0 [⟨S4096x7008, (shapeCast _ (addf (extractStridedSlice S16x256x7008 ![0, 0, 0] (m ((c.tc : Thread nD τ).loc main_arg0)) slices_S16x256x10080_S16x256x7008_0_0_0) (mulf (subf (mulf (broadcastInDim S16x256x7008 ![] bcast_S_S16x256x7008 (constant S_ .f32 0x3F000000#32)) (addf (concatenate S16x256x7008 1 [⟨S16x1x7008, (broadcastInDim S16x1x7008 ![] bcast_S_S16x1x7008 (constant S_ .f32 0x00000000#32))⟩, ⟨S16x255x7008, (extractStridedSlice S16x255x7008 ![0, 0, 0] (extractStridedSlice S16x256x7008 ![0, 0, 0] (m ((c.tc : Thread nD τ).loc main_arg0)) slices_S16x256x10080_S16x256x7008_0_0_0) slices_S16x256x7008_S16x255x7008_0_0_0)⟩] concatenates_S16x1x7008_S16x255x7008_S16x256x7008_d1) (concatenate S16x256x7008 1 [⟨S16x255x7008, (extractStridedSlice S16x255x7008 ![0, 1, 0] (extractStridedSlice S16x256x7008 ![0, 0, 0] (m ((c.tc : Thread nD τ).loc main_arg0)) slices_S16x256x10080_S16x256x7008_0_0_0) slices_S16x256x7008_S16x255x7008_0_1_0)⟩, ⟨S16x1x7008, (broadcastInDim S16x1x7008 ![] bcast_S_S16x1x7008 (constant S_ .f32 0x00000000#32))⟩] concatenates_S16x255x7008_S16x1x7008_S16x256x7008_d1))) (extractStridedSlice S16x256x7008 ![0, 0, 0] (m ((c.tc : Thread nD τ).loc main_arg0)) slices_S16x256x10080_S16x256x7008_0_0_0)) (broadcastInDim S16x256x7008 ![0, 1, 2] bcast_S1x1x7008_S16x256x7008_0_1_2 (broadcastInDim S1x1x7008 ![2] bcast_S7008_S1x1x7008_2 (shapeCast _ (m ((c.tc : Thread nD τ).loc main_arg2)) shapeCasts_S1x7008_S7008))))) shapeCasts_S16x256x7008_S4096x7008)⟩, ⟨S4096x7008, (shapeCast _ (addf (extractStridedSlice S4x1024x7008 ![0, 0, 0] (m ((c.tc : Thread nD τ).loc main_arg1)) slices_S4x1024x10080_S4x1024x7008_0_0_0) (mulf (subf (mulf (broadcastInDim S4x1024x7008 ![] bcast_S_S4x1024x7008 (constant S_ .f32 0x3F000000#32)) (addf (concatenate S4x1024x7008 1 [⟨S4x1x7008, (broadcastInDim S4x1x7008 ![] bcast_S_S4x1x7008 (constant S_ .f32 0x00000000#32))⟩, ⟨S4x1023x7008, (extractStridedSlice S4x1023x7008 ![0, 0, 0] (extractStridedSlice S4x1024x7008 ![0, 0, 0] (m ((c.tc : Thread nD τ).loc main_arg1)) slices_S4x1024x10080_S4x1024x7008_0_0_0) slices_S4x1024x7008_S4x1023x7008_0_0_0)⟩] concatenates_S4x1x7008_S4x1023x7008_S4x1024x7008_d1) (concatenate S4x1024x7008 1 [⟨S4x1023x7008, (extractStridedSlice S4x1023x7008 ![0, 1, 0] (extractStridedSlice S4x1024x7008 ![0, 0, 0] (m ((c.tc : Thread nD τ).loc main_arg1)) slices_S4x1024x10080_S4x1024x7008_0_0_0) slices_S4x1024x7008_S4x1023x7008_0_1_0)⟩, ⟨S4x1x7008, (broadcastInDim S4x1x7008 ![] bcast_S_S4x1x7008 (constant S_ .f32 0x00000000#32))⟩] concatenates_S4x1023x7008_S4x1x7008_S4x1024x7008_d1))) (extractStridedSlice S4x1024x7008 ![0, 0, 0] (m ((c.tc : Thread nD τ).loc main_arg1)) slices_S4x1024x10080_S4x1024x7008_0_0_0)) (broadcastInDim S4x1024x7008 ![0, 1, 2] bcast_S1x1x7008_S4x1024x7008_0_1_2 (broadcastInDim S1x1x7008 ![2] bcast_S7008_S1x1x7008_2 (shapeCast _ (m ((c.tc : Thread nD τ).loc main_arg2)) shapeCasts_S1x7008_S7008))))) shapeCasts_S4x1024x7008_S4096x7008)⟩] concatenates_S4096x7008_S4096x7008_S8192x7008_d0) slices_S8192x7008_S8192x256_0_6624)) slices_S8192x256_S8192x128_0_128) (shapeCast _ (extractStridedSlice S1x1x128x2048 ![0, 1, 0, 0] (m ((c.tc : Thread nD τ).loc main_arg4)) slices_S1x2x128x2048_S1x1x128x2048_0_1_0_0) shapeCasts_S1x1x128x2048_S128x2048)))) (broadcastInDim S8192x2048 ![] bcast_S_S8192x2048 (constant S_ .f32 0x00000000#32)))))))))) (broadcastInDim S8192x2048 ![] bcast_S_S8192x2048 (constant S_ .f32 0x3F000000#32))))))⟩] concatenates_S1x8192x2048_S1x8192x2048_S2x8192x2048_d0

set_option maxRecDepth 8192 in
set_option maxHeartbeats 8000000 in
/-- `main_v120`'s composed term of the arguments. -/
def res_main_v120 (m : (ℓ : Loc nD τ sig) → Buf (Elt F) ℓ) (c : Dev nD) : Buf (Elt F) ((c.tc : Thread nD τ).loc main_v120) :=
  mulf (shapeCast _ (mulf (shapeCast _ (mulf (extractStridedSlice S8192x2048 ![0, 2048] (concatenate S8192x7008 0 [⟨S4096x7008, (shapeCast _ (addf (extractStridedSlice S16x256x7008 ![0, 0, 0] (m ((c.tc : Thread nD τ).loc main_arg0)) slices_S16x256x10080_S16x256x7008_0_0_0) (mulf (subf (mulf (broadcastInDim S16x256x7008 ![] bcast_S_S16x256x7008 (constant S_ .f32 0x3F000000#32)) (addf (concatenate S16x256x7008 1 [⟨S16x1x7008, (broadcastInDim S16x1x7008 ![] bcast_S_S16x1x7008 (constant S_ .f32 0x00000000#32))⟩, ⟨S16x255x7008, (extractStridedSlice S16x255x7008 ![0, 0, 0] (extractStridedSlice S16x256x7008 ![0, 0, 0] (m ((c.tc : Thread nD τ).loc main_arg0)) slices_S16x256x10080_S16x256x7008_0_0_0) slices_S16x256x7008_S16x255x7008_0_0_0)⟩] concatenates_S16x1x7008_S16x255x7008_S16x256x7008_d1) (concatenate S16x256x7008 1 [⟨S16x255x7008, (extractStridedSlice S16x255x7008 ![0, 1, 0] (extractStridedSlice S16x256x7008 ![0, 0, 0] (m ((c.tc : Thread nD τ).loc main_arg0)) slices_S16x256x10080_S16x256x7008_0_0_0) slices_S16x256x7008_S16x255x7008_0_1_0)⟩, ⟨S16x1x7008, (broadcastInDim S16x1x7008 ![] bcast_S_S16x1x7008 (constant S_ .f32 0x00000000#32))⟩] concatenates_S16x255x7008_S16x1x7008_S16x256x7008_d1))) (extractStridedSlice S16x256x7008 ![0, 0, 0] (m ((c.tc : Thread nD τ).loc main_arg0)) slices_S16x256x10080_S16x256x7008_0_0_0)) (broadcastInDim S16x256x7008 ![0, 1, 2] bcast_S1x1x7008_S16x256x7008_0_1_2 (broadcastInDim S1x1x7008 ![2] bcast_S7008_S1x1x7008_2 (shapeCast _ (m ((c.tc : Thread nD τ).loc main_arg2)) shapeCasts_S1x7008_S7008))))) shapeCasts_S16x256x7008_S4096x7008)⟩, ⟨S4096x7008, (shapeCast _ (addf (extractStridedSlice S4x1024x7008 ![0, 0, 0] (m ((c.tc : Thread nD τ).loc main_arg1)) slices_S4x1024x10080_S4x1024x7008_0_0_0) (mulf (subf (mulf (broadcastInDim S4x1024x7008 ![] bcast_S_S4x1024x7008 (constant S_ .f32 0x3F000000#32)) (addf (concatenate S4x1024x7008 1 [⟨S4x1x7008, (broadcastInDim S4x1x7008 ![] bcast_S_S4x1x7008 (constant S_ .f32 0x00000000#32))⟩, ⟨S4x1023x7008, (extractStridedSlice S4x1023x7008 ![0, 0, 0] (extractStridedSlice S4x1024x7008 ![0, 0, 0] (m ((c.tc : Thread nD τ).loc main_arg1)) slices_S4x1024x10080_S4x1024x7008_0_0_0) slices_S4x1024x7008_S4x1023x7008_0_0_0)⟩] concatenates_S4x1x7008_S4x1023x7008_S4x1024x7008_d1) (concatenate S4x1024x7008 1 [⟨S4x1023x7008, (extractStridedSlice S4x1023x7008 ![0, 1, 0] (extractStridedSlice S4x1024x7008 ![0, 0, 0] (m ((c.tc : Thread nD τ).loc main_arg1)) slices_S4x1024x10080_S4x1024x7008_0_0_0) slices_S4x1024x7008_S4x1023x7008_0_1_0)⟩, ⟨S4x1x7008, (broadcastInDim S4x1x7008 ![] bcast_S_S4x1x7008 (constant S_ .f32 0x00000000#32))⟩] concatenates_S4x1023x7008_S4x1x7008_S4x1024x7008_d1))) (extractStridedSlice S4x1024x7008 ![0, 0, 0] (m ((c.tc : Thread nD τ).loc main_arg1)) slices_S4x1024x10080_S4x1024x7008_0_0_0)) (broadcastInDim S4x1024x7008 ![0, 1, 2] bcast_S1x1x7008_S4x1024x7008_0_1_2 (broadcastInDim S1x1x7008 ![2] bcast_S7008_S1x1x7008_2 (shapeCast _ (m ((c.tc : Thread nD τ).loc main_arg2)) shapeCasts_S1x7008_S7008))))) shapeCasts_S4x1024x7008_S4096x7008)⟩] concatenates_S4096x7008_S4096x7008_S8192x7008_d0) slices_S8192x7008_S8192x2048_0_2048) (broadcastInDim S8192x2048 ![0, 1] bcast_S1x2048_S8192x2048_0_1 (broadcastInDim S1x2048 ![1] bcast_S2048_S1x2048_1 (shapeCast _ (m ((c.tc : Thread nD τ).loc main_arg8)) shapeCasts_S1x2048_S2048)))) shapeCasts_S8192x2048_S8192x32x64) (broadcastInDim S8192x32x64 ![0, 1, 2] bcast_S8192x32x1_S8192x32x64_0_1_2 (Host.rsqrt (addf (broadcastInDim S8192x32x1 ![0, 1] bcast_S8192x32_S8192x32x1_0_1 (Host.reduceAdd (mulf (shapeCast _ (mulf (extractStridedSlice S8192x2048 ![0, 2048] (concatenate S8192x7008 0 [⟨S4096x7008, (shapeCast _ (addf (extractStridedSlice S16x256x7008 ![0, 0, 0] (m ((c.tc : Thread nD τ).loc main_arg0)) slices_S16x256x10080_S16x256x7008_0_0_0) (mulf (subf (mulf (broadcastInDim S16x256x7008 ![] bcast_S_S16x256x7008 (constant S_ .f32 0x3F000000#32)) (addf (concatenate S16x256x7008 1 [⟨S16x1x7008, (broadcastInDim S16x1x7008 ![] bcast_S_S16x1x7008 (constant S_ .f32 0x00000000#32))⟩, ⟨S16x255x7008, (extractStridedSlice S16x255x7008 ![0, 0, 0] (extractStridedSlice S16x256x7008 ![0, 0, 0] (m ((c.tc : Thread nD τ).loc main_arg0)) slices_S16x256x10080_S16x256x7008_0_0_0) slices_S16x256x7008_S16x255x7008_0_0_0)⟩] concatenates_S16x1x7008_S16x255x7008_S16x256x7008_d1) (concatenate S16x256x7008 1 [⟨S16x255x7008, (extractStridedSlice S16x255x7008 ![0, 1, 0] (extractStridedSlice S16x256x7008 ![0, 0, 0] (m ((c.tc : Thread nD τ).loc main_arg0)) slices_S16x256x10080_S16x256x7008_0_0_0) slices_S16x256x7008_S16x255x7008_0_1_0)⟩, ⟨S16x1x7008, (broadcastInDim S16x1x7008 ![] bcast_S_S16x1x7008 (constant S_ .f32 0x00000000#32))⟩] concatenates_S16x255x7008_S16x1x7008_S16x256x7008_d1))) (extractStridedSlice S16x256x7008 ![0, 0, 0] (m ((c.tc : Thread nD τ).loc main_arg0)) slices_S16x256x10080_S16x256x7008_0_0_0)) (broadcastInDim S16x256x7008 ![0, 1, 2] bcast_S1x1x7008_S16x256x7008_0_1_2 (broadcastInDim S1x1x7008 ![2] bcast_S7008_S1x1x7008_2 (shapeCast _ (m ((c.tc : Thread nD τ).loc main_arg2)) shapeCasts_S1x7008_S7008))))) shapeCasts_S16x256x7008_S4096x7008)⟩, ⟨S4096x7008, (shapeCast _ (addf (extractStridedSlice S4x1024x7008 ![0, 0, 0] (m ((c.tc : Thread nD τ).loc main_arg1)) slices_S4x1024x10080_S4x1024x7008_0_0_0) (mulf (subf (mulf (broadcastInDim S4x1024x7008 ![] bcast_S_S4x1024x7008 (constant S_ .f32 0x3F000000#32)) (addf (concatenate S4x1024x7008 1 [⟨S4x1x7008, (broadcastInDim S4x1x7008 ![] bcast_S_S4x1x7008 (constant S_ .f32 0x00000000#32))⟩, ⟨S4x1023x7008, (extractStridedSlice S4x1023x7008 ![0, 0, 0] (extractStridedSlice S4x1024x7008 ![0, 0, 0] (m ((c.tc : Thread nD τ).loc main_arg1)) slices_S4x1024x10080_S4x1024x7008_0_0_0) slices_S4x1024x7008_S4x1023x7008_0_0_0)⟩] concatenates_S4x1x7008_S4x1023x7008_S4x1024x7008_d1) (concatenate S4x1024x7008 1 [⟨S4x1023x7008, (extractStridedSlice S4x1023x7008 ![0, 1, 0] (extractStridedSlice S4x1024x7008 ![0, 0, 0] (m ((c.tc : Thread nD τ).loc main_arg1)) slices_S4x1024x10080_S4x1024x7008_0_0_0) slices_S4x1024x7008_S4x1023x7008_0_1_0)⟩, ⟨S4x1x7008, (broadcastInDim S4x1x7008 ![] bcast_S_S4x1x7008 (constant S_ .f32 0x00000000#32))⟩] concatenates_S4x1023x7008_S4x1x7008_S4x1024x7008_d1))) (extractStridedSlice S4x1024x7008 ![0, 0, 0] (m ((c.tc : Thread nD τ).loc main_arg1)) slices_S4x1024x10080_S4x1024x7008_0_0_0)) (broadcastInDim S4x1024x7008 ![0, 1, 2] bcast_S1x1x7008_S4x1024x7008_0_1_2 (broadcastInDim S1x1x7008 ![2] bcast_S7008_S1x1x7008_2 (shapeCast _ (m ((c.tc : Thread nD τ).loc main_arg2)) shapeCasts_S1x7008_S7008))))) shapeCasts_S4x1024x7008_S4096x7008)⟩] concatenates_S4096x7008_S4096x7008_S8192x7008_d0) slices_S8192x7008_S8192x2048_0_2048) (broadcastInDim S8192x2048 ![0, 1] bcast_S1x2048_S8192x2048_0_1 (broadcastInDim S1x2048 ![1] bcast_S2048_S1x2048_1 (shapeCast _ (m ((c.tc : Thread nD τ).loc main_arg8)) shapeCasts_S1x2048_S2048)))) shapeCasts_S8192x2048_S8192x32x64) (shapeCast _ (mulf (extractStridedSlice S8192x2048 ![0, 2048] (concatenate S8192x7008 0 [⟨S4096x7008, (shapeCast _ (addf (extractStridedSlice S16x256x7008 ![0, 0, 0] (m ((c.tc : Thread nD τ).loc main_arg0)) slices_S16x256x10080_S16x256x7008_0_0_0) (mulf (subf (mulf (broadcastInDim S16x256x7008 ![] bcast_S_S16x256x7008 (constant S_ .f32 0x3F000000#32)) (addf (concatenate S16x256x7008 1 [⟨S16x1x7008, (broadcastInDim S16x1x7008 ![] bcast_S_S16x1x7008 (constant S_ .f32 0x00000000#32))⟩, ⟨S16x255x7008, (extractStridedSlice S16x255x7008 ![0, 0, 0] (extractStridedSlice S16x256x7008 ![0, 0, 0] (m ((c.tc : Thread nD τ).loc main_arg0)) slices_S16x256x10080_S16x256x7008_0_0_0) slices_S16x256x7008_S16x255x7008_0_0_0)⟩] concatenates_S16x1x7008_S16x255x7008_S16x256x7008_d1) (concatenate S16x256x7008 1 [⟨S16x255x7008, (extractStridedSlice S16x255x7008 ![0, 1, 0] (extractStridedSlice S16x256x7008 ![0, 0, 0] (m ((c.tc : Thread nD τ).loc main_arg0)) slices_S16x256x10080_S16x256x7008_0_0_0) slices_S16x256x7008_S16x255x7008_0_1_0)⟩, ⟨S16x1x7008, (broadcastInDim S16x1x7008 ![] bcast_S_S16x1x7008 (constant S_ .f32 0x00000000#32))⟩] concatenates_S16x255x7008_S16x1x7008_S16x256x7008_d1))) (extractStridedSlice S16x256x7008 ![0, 0, 0] (m ((c.tc : Thread nD τ).loc main_arg0)) slices_S16x256x10080_S16x256x7008_0_0_0)) (broadcastInDim S16x256x7008 ![0, 1, 2] bcast_S1x1x7008_S16x256x7008_0_1_2 (broadcastInDim S1x1x7008 ![2] bcast_S7008_S1x1x7008_2 (shapeCast _ (m ((c.tc : Thread nD τ).loc main_arg2)) shapeCasts_S1x7008_S7008))))) shapeCasts_S16x256x7008_S4096x7008)⟩, ⟨S4096x7008, (shapeCast _ (addf (extractStridedSlice S4x1024x7008 ![0, 0, 0] (m ((c.tc : Thread nD τ).loc main_arg1)) slices_S4x1024x10080_S4x1024x7008_0_0_0) (mulf (subf (mulf (broadcastInDim S4x1024x7008 ![] bcast_S_S4x1024x7008 (constant S_ .f32 0x3F000000#32)) (addf (concatenate S4x1024x7008 1 [⟨S4x1x7008, (broadcastInDim S4x1x7008 ![] bcast_S_S4x1x7008 (constant S_ .f32 0x00000000#32))⟩, ⟨S4x1023x7008, (extractStridedSlice S4x1023x7008 ![0, 0, 0] (extractStridedSlice S4x1024x7008 ![0, 0, 0] (m ((c.tc : Thread nD τ).loc main_arg1)) slices_S4x1024x10080_S4x1024x7008_0_0_0) slices_S4x1024x7008_S4x1023x7008_0_0_0)⟩] concatenates_S4x1x7008_S4x1023x7008_S4x1024x7008_d1) (concatenate S4x1024x7008 1 [⟨S4x1023x7008, (extractStridedSlice S4x1023x7008 ![0, 1, 0] (extractStridedSlice S4x1024x7008 ![0, 0, 0] (m ((c.tc : Thread nD τ).loc main_arg1)) slices_S4x1024x10080_S4x1024x7008_0_0_0) slices_S4x1024x7008_S4x1023x7008_0_1_0)⟩, ⟨S4x1x7008, (broadcastInDim S4x1x7008 ![] bcast_S_S4x1x7008 (constant S_ .f32 0x00000000#32))⟩] concatenates_S4x1023x7008_S4x1x7008_S4x1024x7008_d1))) (extractStridedSlice S4x1024x7008 ![0, 0, 0] (m ((c.tc : Thread nD τ).loc main_arg1)) slices_S4x1024x10080_S4x1024x7008_0_0_0)) (broadcastInDim S4x1024x7008 ![0, 1, 2] bcast_S1x1x7008_S4x1024x7008_0_1_2 (broadcastInDim S1x1x7008 ![2] bcast_S7008_S1x1x7008_2 (shapeCast _ (m ((c.tc : Thread nD τ).loc main_arg2)) shapeCasts_S1x7008_S7008))))) shapeCasts_S4x1024x7008_S4096x7008)⟩] concatenates_S4096x7008_S4096x7008_S8192x7008_d0) slices_S8192x7008_S8192x2048_0_2048) (broadcastInDim S8192x2048 ![0, 1] bcast_S1x2048_S8192x2048_0_1 (broadcastInDim S1x2048 ![1] bcast_S2048_S1x2048_1 (shapeCast _ (m ((c.tc : Thread nD τ).loc main_arg8)) shapeCasts_S1x2048_S2048)))) shapeCasts_S8192x2048_S8192x32x64)) (constant S_ .f32 0x00000000#32) reducesTo_S8192x32x64_S8192x32_d2 h_S_)) (broadcastInDim S8192x32x1 ![] bcast_S_S8192x32x1 (constant S_ .f32 0x2B8CBCCC#32)))))) shapeCasts_S8192x32x64_S8192x2048) (Host.divf (broadcastInDim S8192x2048 ![] bcast_S_S8192x2048 (constant S_ .f32 0x3F800000#32)) (addf (broadcastInDim S8192x2048 ![] bcast_S_S8192x2048 (constant S_ .f32 0x3F800000#32)) (Host.exp (Host.negf (addf (broadcastInDim S8192x2048 ![0, 1] bcast_S1x2048_S8192x2048_0_1 (broadcastInDim S1x2048 ![1] bcast_S2048_S1x2048_1 (shapeCast _ (m ((c.tc : Thread nD τ).loc main_arg5)) shapeCasts_S1x2048_S2048))) (Host.dotGeneral dot_S8192x128_S128x2048_S8192x2048_1_0_0_1_n_n none (extractStridedSlice S8192x128 ![0, 6880] (concatenate S8192x7008 0 [⟨S4096x7008, (shapeCast _ (addf (extractStridedSlice S16x256x7008 ![0, 0, 0] (m ((c.tc : Thread nD τ).loc main_arg0)) slices_S16x256x10080_S16x256x7008_0_0_0) (mulf (subf (mulf (broadcastInDim S16x256x7008 ![] bcast_S_S16x256x7008 (constant S_ .f32 0x3F000000#32)) (addf (concatenate S16x256x7008 1 [⟨S16x1x7008, (broadcastInDim S16x1x7008 ![] bcast_S_S16x1x7008 (constant S_ .f32 0x00000000#32))⟩, ⟨S16x255x7008, (extractStridedSlice S16x255x7008 ![0, 0, 0] (extractStridedSlice S16x256x7008 ![0, 0, 0] (m ((c.tc : Thread nD τ).loc main_arg0)) slices_S16x256x10080_S16x256x7008_0_0_0) slices_S16x256x7008_S16x255x7008_0_0_0)⟩] concatenates_S16x1x7008_S16x255x7008_S16x256x7008_d1) (concatenate S16x256x7008 1 [⟨S16x255x7008, (extractStridedSlice S16x255x7008 ![0, 1, 0] (extractStridedSlice S16x256x7008 ![0, 0, 0] (m ((c.tc : Thread nD τ).loc main_arg0)) slices_S16x256x10080_S16x256x7008_0_0_0) slices_S16x256x7008_S16x255x7008_0_1_0)⟩, ⟨S16x1x7008, (broadcastInDim S16x1x7008 ![] bcast_S_S16x1x7008 (constant S_ .f32 0x00000000#32))⟩] concatenates_S16x255x7008_S16x1x7008_S16x256x7008_d1))) (extractStridedSlice S16x256x7008 ![0, 0, 0] (m ((c.tc : Thread nD τ).loc main_arg0)) slices_S16x256x10080_S16x256x7008_0_0_0)) (broadcastInDim S16x256x7008 ![0, 1, 2] bcast_S1x1x7008_S16x256x7008_0_1_2 (broadcastInDim S1x1x7008 ![2] bcast_S7008_S1x1x7008_2 (shapeCast _ (m ((c.tc : Thread nD τ).loc main_arg2)) shapeCasts_S1x7008_S7008))))) shapeCasts_S16x256x7008_S4096x7008)⟩, ⟨S4096x7008, (shapeCast _ (addf (extractStridedSlice S4x1024x7008 ![0, 0, 0] (m ((c.tc : Thread nD τ).loc main_arg1)) slices_S4x1024x10080_S4x1024x7008_0_0_0) (mulf (subf (mulf (broadcastInDim S4x1024x7008 ![] bcast_S_S4x1024x7008 (constant S_ .f32 0x3F000000#32)) (addf (concatenate S4x1024x7008 1 [⟨S4x1x7008, (broadcastInDim S4x1x7008 ![] bcast_S_S4x1x7008 (constant S_ .f32 0x00000000#32))⟩, ⟨S4x1023x7008, (extractStridedSlice S4x1023x7008 ![0, 0, 0] (extractStridedSlice S4x1024x7008 ![0, 0, 0] (m ((c.tc : Thread nD τ).loc main_arg1)) slices_S4x1024x10080_S4x1024x7008_0_0_0) slices_S4x1024x7008_S4x1023x7008_0_0_0)⟩] concatenates_S4x1x7008_S4x1023x7008_S4x1024x7008_d1) (concatenate S4x1024x7008 1 [⟨S4x1023x7008, (extractStridedSlice S4x1023x7008 ![0, 1, 0] (extractStridedSlice S4x1024x7008 ![0, 0, 0] (m ((c.tc : Thread nD τ).loc main_arg1)) slices_S4x1024x10080_S4x1024x7008_0_0_0) slices_S4x1024x7008_S4x1023x7008_0_1_0)⟩, ⟨S4x1x7008, (broadcastInDim S4x1x7008 ![] bcast_S_S4x1x7008 (constant S_ .f32 0x00000000#32))⟩] concatenates_S4x1023x7008_S4x1x7008_S4x1024x7008_d1))) (extractStridedSlice S4x1024x7008 ![0, 0, 0] (m ((c.tc : Thread nD τ).loc main_arg1)) slices_S4x1024x10080_S4x1024x7008_0_0_0)) (broadcastInDim S4x1024x7008 ![0, 1, 2] bcast_S1x1x7008_S4x1024x7008_0_1_2 (broadcastInDim S1x1x7008 ![2] bcast_S7008_S1x1x7008_2 (shapeCast _ (m ((c.tc : Thread nD τ).loc main_arg2)) shapeCasts_S1x7008_S7008))))) shapeCasts_S4x1024x7008_S4096x7008)⟩] concatenates_S4096x7008_S4096x7008_S8192x7008_d0) slices_S8192x7008_S8192x128_0_6880) (shapeCast _ (m ((c.tc : Thread nD τ).loc main_arg6)) shapeCasts_S1x128x2048_S128x2048)))))))

set_option maxRecDepth 8192 in
set_option maxHeartbeats 8000000 in
/-- `main_v110`'s composed term of the arguments. -/
def res_main_v110 (m : (ℓ : Loc nD τ sig) → Buf (Elt F) ℓ) (c : Dev nD) : Buf (Elt F) ((c.tc : Thread nD τ).loc main_v110) :=
  shapeCast _ (mulf (shapeCast _ (mulf (extractStridedSlice S8192x2048 ![0, 2048] (concatenate S8192x7008 0 [⟨S4096x7008, (shapeCast _ (addf (extractStridedSlice S16x256x7008 ![0, 0, 0] (m ((c.tc : Thread nD τ).loc main_arg0)) slices_S16x256x10080_S16x256x7008_0_0_0) (mulf (subf (mulf (broadcastInDim S16x256x7008 ![] bcast_S_S16x256x7008 (constant S_ .f32 0x3F000000#32)) (addf (concatenate S16x256x7008 1 [⟨S16x1x7008, (broadcastInDim S16x1x7008 ![] bcast_S_S16x1x7008 (constant S_ .f32 0x00000000#32))⟩, ⟨S16x255x7008, (extractStridedSlice S16x255x7008 ![0, 0, 0] (extractStridedSlice S16x256x7008 ![0, 0, 0] (m ((c.tc : Thread nD τ).loc main_arg0)) slices_S16x256x10080_S16x256x7008_0_0_0) slices_S16x256x7008_S16x255x7008_0_0_0)⟩] concatenates_S16x1x7008_S16x255x7008_S16x256x7008_d1) (concatenate S16x256x7008 1 [⟨S16x255x7008, (extractStridedSlice S16x255x7008 ![0, 1, 0] (extractStridedSlice S16x256x7008 ![0, 0, 0] (m ((c.tc : Thread nD τ).loc main_arg0)) slices_S16x256x10080_S16x256x7008_0_0_0) slices_S16x256x7008_S16x255x7008_0_1_0)⟩, ⟨S16x1x7008, (broadcastInDim S16x1x7008 ![] bcast_S_S16x1x7008 (constant S_ .f32 0x00000000#32))⟩] concatenates_S16x255x7008_S16x1x7008_S16x256x7008_d1))) (extractStridedSlice S16x256x7008 ![0, 0, 0] (m ((c.tc : Thread nD τ).loc main_arg0)) slices_S16x256x10080_S16x256x7008_0_0_0)) (broadcastInDim S16x256x7008 ![0, 1, 2] bcast_S1x1x7008_S16x256x7008_0_1_2 (broadcastInDim S1x1x7008 ![2] bcast_S7008_S1x1x7008_2 (shapeCast _ (m ((c.tc : Thread nD τ).loc main_arg2)) shapeCasts_S1x7008_S7008))))) shapeCasts_S16x256x7008_S4096x7008)⟩, ⟨S4096x7008, (shapeCast _ (addf (extractStridedSlice S4x1024x7008 ![0, 0, 0] (m ((c.tc : Thread nD τ).loc main_arg1)) slices_S4x1024x10080_S4x1024x7008_0_0_0) (mulf (subf (mulf (broadcastInDim S4x1024x7008 ![] bcast_S_S4x1024x7008 (constant S_ .f32 0x3F000000#32)) (addf (concatenate S4x1024x7008 1 [⟨S4x1x7008, (broadcastInDim S4x1x7008 ![] bcast_S_S4x1x7008 (constant S_ .f32 0x00000000#32))⟩, ⟨S4x1023x7008, (extractStridedSlice S4x1023x7008 ![0, 0, 0] (extractStridedSlice S4x1024x7008 ![0, 0, 0] (m ((c.tc : Thread nD τ).loc main_arg1)) slices_S4x1024x10080_S4x1024x7008_0_0_0) slices_S4x1024x7008_S4x1023x7008_0_0_0)⟩] concatenates_S4x1x7008_S4x1023x7008_S4x1024x7008_d1) (concatenate S4x1024x7008 1 [⟨S4x1023x7008, (extractStridedSlice S4x1023x7008 ![0, 1, 0] (extractStridedSlice S4x1024x7008 ![0, 0, 0] (m ((c.tc : Thread nD τ).loc main_arg1)) slices_S4x1024x10080_S4x1024x7008_0_0_0) slices_S4x1024x7008_S4x1023x7008_0_1_0)⟩, ⟨S4x1x7008, (broadcastInDim S4x1x7008 ![] bcast_S_S4x1x7008 (constant S_ .f32 0x00000000#32))⟩] concatenates_S4x1023x7008_S4x1x7008_S4x1024x7008_d1))) (extractStridedSlice S4x1024x7008 ![0, 0, 0] (m ((c.tc : Thread nD τ).loc main_arg1)) slices_S4x1024x10080_S4x1024x7008_0_0_0)) (broadcastInDim S4x1024x7008 ![0, 1, 2] bcast_S1x1x7008_S4x1024x7008_0_1_2 (broadcastInDim S1x1x7008 ![2] bcast_S7008_S1x1x7008_2 (shapeCast _ (m ((c.tc : Thread nD τ).loc main_arg2)) shapeCasts_S1x7008_S7008))))) shapeCasts_S4x1024x7008_S4096x7008)⟩] concatenates_S4096x7008_S4096x7008_S8192x7008_d0) slices_S8192x7008_S8192x2048_0_2048) (broadcastInDim S8192x2048 ![0, 1] bcast_S1x2048_S8192x2048_0_1 (broadcastInDim S1x2048 ![1] bcast_S2048_S1x2048_1 (shapeCast _ (m ((c.tc : Thread nD τ).loc main_arg8)) shapeCasts_S1x2048_S2048)))) shapeCasts_S8192x2048_S8192x32x64) (broadcastInDim S8192x32x64 ![0, 1, 2] bcast_S8192x32x1_S8192x32x64_0_1_2 (Host.rsqrt (addf (broadcastInDim S8192x32x1 ![0, 1] bcast_S8192x32_S8192x32x1_0_1 (Host.reduceAdd (mulf (shapeCast _ (mulf (extractStridedSlice S8192x2048 ![0, 2048] (concatenate S8192x7008 0 [⟨S4096x7008, (shapeCast _ (addf (extractStridedSlice S16x256x7008 ![0, 0, 0] (m ((c.tc : Thread nD τ).loc main_arg0)) slices_S16x256x10080_S16x256x7008_0_0_0) (mulf (subf (mulf (broadcastInDim S16x256x7008 ![] bcast_S_S16x256x7008 (constant S_ .f32 0x3F000000#32)) (addf (concatenate S16x256x7008 1 [⟨S16x1x7008, (broadcastInDim S16x1x7008 ![] bcast_S_S16x1x7008 (constant S_ .f32 0x00000000#32))⟩, ⟨S16x255x7008, (extractStridedSlice S16x255x7008 ![0, 0, 0] (extractStridedSlice S16x256x7008 ![0, 0, 0] (m ((c.tc : Thread nD τ).loc main_arg0)) slices_S16x256x10080_S16x256x7008_0_0_0) slices_S16x256x7008_S16x255x7008_0_0_0)⟩] concatenates_S16x1x7008_S16x255x7008_S16x256x7008_d1) (concatenate S16x256x7008 1 [⟨S16x255x7008, (extractStridedSlice S16x255x7008 ![0, 1, 0] (extractStridedSlice S16x256x7008 ![0, 0, 0] (m ((c.tc : Thread nD τ).loc main_arg0)) slices_S16x256x10080_S16x256x7008_0_0_0) slices_S16x256x7008_S16x255x7008_0_1_0)⟩, ⟨S16x1x7008, (broadcastInDim S16x1x7008 ![] bcast_S_S16x1x7008 (constant S_ .f32 0x00000000#32))⟩] concatenates_S16x255x7008_S16x1x7008_S16x256x7008_d1))) (extractStridedSlice S16x256x7008 ![0, 0, 0] (m ((c.tc : Thread nD τ).loc main_arg0)) slices_S16x256x10080_S16x256x7008_0_0_0)) (broadcastInDim S16x256x7008 ![0, 1, 2] bcast_S1x1x7008_S16x256x7008_0_1_2 (broadcastInDim S1x1x7008 ![2] bcast_S7008_S1x1x7008_2 (shapeCast _ (m ((c.tc : Thread nD τ).loc main_arg2)) shapeCasts_S1x7008_S7008))))) shapeCasts_S16x256x7008_S4096x7008)⟩, ⟨S4096x7008, (shapeCast _ (addf (extractStridedSlice S4x1024x7008 ![0, 0, 0] (m ((c.tc : Thread nD τ).loc main_arg1)) slices_S4x1024x10080_S4x1024x7008_0_0_0) (mulf (subf (mulf (broadcastInDim S4x1024x7008 ![] bcast_S_S4x1024x7008 (constant S_ .f32 0x3F000000#32)) (addf (concatenate S4x1024x7008 1 [⟨S4x1x7008, (broadcastInDim S4x1x7008 ![] bcast_S_S4x1x7008 (constant S_ .f32 0x00000000#32))⟩, ⟨S4x1023x7008, (extractStridedSlice S4x1023x7008 ![0, 0, 0] (extractStridedSlice S4x1024x7008 ![0, 0, 0] (m ((c.tc : Thread nD τ).loc main_arg1)) slices_S4x1024x10080_S4x1024x7008_0_0_0) slices_S4x1024x7008_S4x1023x7008_0_0_0)⟩] concatenates_S4x1x7008_S4x1023x7008_S4x1024x7008_d1) (concatenate S4x1024x7008 1 [⟨S4x1023x7008, (extractStridedSlice S4x1023x7008 ![0, 1, 0] (extractStridedSlice S4x1024x7008 ![0, 0, 0] (m ((c.tc : Thread nD τ).loc main_arg1)) slices_S4x1024x10080_S4x1024x7008_0_0_0) slices_S4x1024x7008_S4x1023x7008_0_1_0)⟩, ⟨S4x1x7008, (broadcastInDim S4x1x7008 ![] bcast_S_S4x1x7008 (constant S_ .f32 0x00000000#32))⟩] concatenates_S4x1023x7008_S4x1x7008_S4x1024x7008_d1))) (extractStridedSlice S4x1024x7008 ![0, 0, 0] (m ((c.tc : Thread nD τ).loc main_arg1)) slices_S4x1024x10080_S4x1024x7008_0_0_0)) (broadcastInDim S4x1024x7008 ![0, 1, 2] bcast_S1x1x7008_S4x1024x7008_0_1_2 (broadcastInDim S1x1x7008 ![2] bcast_S7008_S1x1x7008_2 (shapeCast _ (m ((c.tc : Thread nD τ).loc main_arg2)) shapeCasts_S1x7008_S7008))))) shapeCasts_S4x1024x7008_S4096x7008)⟩] concatenates_S4096x7008_S4096x7008_S8192x7008_d0) slices_S8192x7008_S8192x2048_0_2048) (broadcastInDim S8192x2048 ![0, 1] bcast_S1x2048_S8192x2048_0_1 (broadcastInDim S1x2048 ![1] bcast_S2048_S1x2048_1 (shapeCast _ (m ((c.tc : Thread nD τ).loc main_arg8)) shapeCasts_S1x2048_S2048)))) shapeCasts_S8192x2048_S8192x32x64) (shapeCast _ (mulf (extractStridedSlice S8192x2048 ![0, 2048] (concatenate S8192x7008 0 [⟨S4096x7008, (shapeCast _ (addf (extractStridedSlice S16x256x7008 ![0, 0, 0] (m ((c.tc : Thread nD τ).loc main_arg0)) slices_S16x256x10080_S16x256x7008_0_0_0) (mulf (subf (mulf (broadcastInDim S16x256x7008 ![] bcast_S_S16x256x7008 (constant S_ .f32 0x3F000000#32)) (addf (concatenate S16x256x7008 1 [⟨S16x1x7008, (broadcastInDim S16x1x7008 ![] bcast_S_S16x1x7008 (constant S_ .f32 0x00000000#32))⟩, ⟨S16x255x7008, (extractStridedSlice S16x255x7008 ![0, 0, 0] (extractStridedSlice S16x256x7008 ![0, 0, 0] (m ((c.tc : Thread nD τ).loc main_arg0)) slices_S16x256x10080_S16x256x7008_0_0_0) slices_S16x256x7008_S16x255x7008_0_0_0)⟩] concatenates_S16x1x7008_S16x255x7008_S16x256x7008_d1) (concatenate S16x256x7008 1 [⟨S16x255x7008, (extractStridedSlice S16x255x7008 ![0, 1, 0] (extractStridedSlice S16x256x7008 ![0, 0, 0] (m ((c.tc : Thread nD τ).loc main_arg0)) slices_S16x256x10080_S16x256x7008_0_0_0) slices_S16x256x7008_S16x255x7008_0_1_0)⟩, ⟨S16x1x7008, (broadcastInDim S16x1x7008 ![] bcast_S_S16x1x7008 (constant S_ .f32 0x00000000#32))⟩] concatenates_S16x255x7008_S16x1x7008_S16x256x7008_d1))) (extractStridedSlice S16x256x7008 ![0, 0, 0] (m ((c.tc : Thread nD τ).loc main_arg0)) slices_S16x256x10080_S16x256x7008_0_0_0)) (broadcastInDim S16x256x7008 ![0, 1, 2] bcast_S1x1x7008_S16x256x7008_0_1_2 (broadcastInDim S1x1x7008 ![2] bcast_S7008_S1x1x7008_2 (shapeCast _ (m ((c.tc : Thread nD τ).loc main_arg2)) shapeCasts_S1x7008_S7008))))) shapeCasts_S16x256x7008_S4096x7008)⟩, ⟨S4096x7008, (shapeCast _ (addf (extractStridedSlice S4x1024x7008 ![0, 0, 0] (m ((c.tc : Thread nD τ).loc main_arg1)) slices_S4x1024x10080_S4x1024x7008_0_0_0) (mulf (subf (mulf (broadcastInDim S4x1024x7008 ![] bcast_S_S4x1024x7008 (constant S_ .f32 0x3F000000#32)) (addf (concatenate S4x1024x7008 1 [⟨S4x1x7008, (broadcastInDim S4x1x7008 ![] bcast_S_S4x1x7008 (constant S_ .f32 0x00000000#32))⟩, ⟨S4x1023x7008, (extractStridedSlice S4x1023x7008 ![0, 0, 0] (extractStridedSlice S4x1024x7008 ![0, 0, 0] (m ((c.tc : Thread nD τ).loc main_arg1)) slices_S4x1024x10080_S4x1024x7008_0_0_0) slices_S4x1024x7008_S4x1023x7008_0_0_0)⟩] concatenates_S4x1x7008_S4x1023x7008_S4x1024x7008_d1) (concatenate S4x1024x7008 1 [⟨S4x1023x7008, (extractStridedSlice S4x1023x7008 ![0, 1, 0] (extractStridedSlice S4x1024x7008 ![0, 0, 0] (m ((c.tc : Thread nD τ).loc main_arg1)) slices_S4x1024x10080_S4x1024x7008_0_0_0) slices_S4x1024x7008_S4x1023x7008_0_1_0)⟩, ⟨S4x1x7008, (broadcastInDim S4x1x7008 ![] bcast_S_S4x1x7008 (constant S_ .f32 0x00000000#32))⟩] concatenates_S4x1023x7008_S4x1x7008_S4x1024x7008_d1))) (extractStridedSlice S4x1024x7008 ![0, 0, 0] (m ((c.tc : Thread nD τ).loc main_arg1)) slices_S4x1024x10080_S4x1024x7008_0_0_0)) (broadcastInDim S4x1024x7008 ![0, 1, 2] bcast_S1x1x7008_S4x1024x7008_0_1_2 (broadcastInDim S1x1x7008 ![2] bcast_S7008_S1x1x7008_2 (shapeCast _ (m ((c.tc : Thread nD τ).loc main_arg2)) shapeCasts_S1x7008_S7008))))) shapeCasts_S4x1024x7008_S4096x7008)⟩] concatenates_S4096x7008_S4096x7008_S8192x7008_d0) slices_S8192x7008_S8192x2048_0_2048) (broadcastInDim S8192x2048 ![0, 1] bcast_S1x2048_S8192x2048_0_1 (broadcastInDim S1x2048 ![1] bcast_S2048_S1x2048_1 (shapeCast _ (m ((c.tc : Thread nD τ).loc main_arg8)) shapeCasts_S1x2048_S2048)))) shapeCasts_S8192x2048_S8192x32x64)) (constant S_ .f32 0x00000000#32) reducesTo_S8192x32x64_S8192x32_d2 h_S_)) (broadcastInDim S8192x32x1 ![] bcast_S_S8192x32x1 (constant S_ .f32 0x2B8CBCCC#32)))))) shapeCasts_S8192x32x64_S8192x2048

set_option maxRecDepth 8192 in
set_option maxHeartbeats 8000000 in
/-- `main_v119`'s composed term of the arguments. -/
def res_main_v119 (m : (ℓ : Loc nD τ sig) → Buf (Elt F) ℓ) (c : Dev nD) : Buf (Elt F) ((c.tc : Thread nD τ).loc main_v119) :=
  mulf (extractStridedSlice S8192x2048 ![0, 2048] (concatenate S8192x7008 0 [⟨S4096x7008, (shapeCast _ (addf (extractStridedSlice S16x256x7008 ![0, 0, 0] (m ((c.tc : Thread nD τ).loc main_arg0)) slices_S16x256x10080_S16x256x7008_0_0_0) (mulf (subf (mulf (broadcastInDim S16x256x7008 ![] bcast_S_S16x256x7008 (constant S_ .f32 0x3F000000#32)) (addf (concatenate S16x256x7008 1 [⟨S16x1x7008, (broadcastInDim S16x1x7008 ![] bcast_S_S16x1x7008 (constant S_ .f32 0x00000000#32))⟩, ⟨S16x255x7008, (extractStridedSlice S16x255x7008 ![0, 0, 0] (extractStridedSlice S16x256x7008 ![0, 0, 0] (m ((c.tc : Thread nD τ).loc main_arg0)) slices_S16x256x10080_S16x256x7008_0_0_0) slices_S16x256x7008_S16x255x7008_0_0_0)⟩] concatenates_S16x1x7008_S16x255x7008_S16x256x7008_d1) (concatenate S16x256x7008 1 [⟨S16x255x7008, (extractStridedSlice S16x255x7008 ![0, 1, 0] (extractStridedSlice S16x256x7008 ![0, 0, 0] (m ((c.tc : Thread nD τ).loc main_arg0)) slices_S16x256x10080_S16x256x7008_0_0_0) slices_S16x256x7008_S16x255x7008_0_1_0)⟩, ⟨S16x1x7008, (broadcastInDim S16x1x7008 ![] bcast_S_S16x1x7008 (constant S_ .f32 0x00000000#32))⟩] concatenates_S16x255x7008_S16x1x7008_S16x256x7008_d1))) (extractStridedSlice S16x256x7008 ![0, 0, 0] (m ((c.tc : Thread nD τ).loc main_arg0)) slices_S16x256x10080_S16x256x7008_0_0_0)) (broadcastInDim S16x256x7008 ![0, 1, 2] bcast_S1x1x7008_S16x256x7008_0_1_2 (broadcastInDim S1x1x7008 ![2] bcast_S7008_S1x1x7008_2 (shapeCast _ (m ((c.tc : Thread nD τ).loc main_arg2)) shapeCasts_S1x7008_S7008))))) shapeCasts_S16x256x7008_S4096x7008)⟩, ⟨S4096x7008, (shapeCast _ (addf (extractStridedSlice S4x1024x7008 ![0, 0, 0] (m ((c.tc : Thread nD τ).loc main_arg1)) slices_S4x1024x10080_S4x1024x7008_0_0_0) (mulf (subf (mulf (broadcastInDim S4x1024x7008 ![] bcast_S_S4x1024x7008 (constant S_ .f32 0x3F000000#32)) (addf (concatenate S4x1024x7008 1 [⟨S4x1x7008, (broadcastInDim S4x1x7008 ![] bcast_S_S4x1x7008 (constant S_ .f32 0x00000000#32))⟩, ⟨S4x1023x7008, (extractStridedSlice S4x1023x7008 ![0, 0, 0] (extractStridedSlice S4x1024x7008 ![0, 0, 0] (m ((c.tc : Thread nD τ).loc main_arg1)) slices_S4x1024x10080_S4x1024x7008_0_0_0) slices_S4x1024x7008_S4x1023x7008_0_0_0)⟩] concatenates_S4x1x7008_S4x1023x7008_S4x1024x7008_d1) (concatenate S4x1024x7008 1 [⟨S4x1023x7008, (extractStridedSlice S4x1023x7008 ![0, 1, 0] (extractStridedSlice S4x1024x7008 ![0, 0, 0] (m ((c.tc : Thread nD τ).loc main_arg1)) slices_S4x1024x10080_S4x1024x7008_0_0_0) slices_S4x1024x7008_S4x1023x7008_0_1_0)⟩, ⟨S4x1x7008, (broadcastInDim S4x1x7008 ![] bcast_S_S4x1x7008 (constant S_ .f32 0x00000000#32))⟩] concatenates_S4x1023x7008_S4x1x7008_S4x1024x7008_d1))) (extractStridedSlice S4x1024x7008 ![0, 0, 0] (m ((c.tc : Thread nD τ).loc main_arg1)) slices_S4x1024x10080_S4x1024x7008_0_0_0)) (broadcastInDim S4x1024x7008 ![0, 1, 2] bcast_S1x1x7008_S4x1024x7008_0_1_2 (broadcastInDim S1x1x7008 ![2] bcast_S7008_S1x1x7008_2 (shapeCast _ (m ((c.tc : Thread nD τ).loc main_arg2)) shapeCasts_S1x7008_S7008))))) shapeCasts_S4x1024x7008_S4096x7008)⟩] concatenates_S4096x7008_S4096x7008_S8192x7008_d0) slices_S8192x7008_S8192x2048_0_2048) (addf (broadcastInDim S8192x2048 ![] bcast_S_S8192x2048 (constant S_ .f32 0x3F800000#32)) (mulf (subf (Host.divf (broadcastInDim S8192x2048 ![] bcast_S_S8192x2048 (constant S_ .f32 0x3F800000#32)) (addf (broadcastInDim S8192x2048 ![] bcast_S_S8192x2048 (constant S_ .f32 0x3F800000#32)) (Host.exp (Host.negf (addf (broadcastInDim S8192x2048 ![0, 1] bcast_S1x2048_S8192x2048_0_1 (broadcastInDim S1x2048 ![1] bcast_S2048_S1x2048_1 (shapeCast _ (m ((c.tc : Thread nD τ).loc main_arg5)) shapeCasts_S1x2048_S2048))) (Host.dotGeneral dot_S8192x128_S128x2048_S8192x2048_1_0_0_1_n_n none (extractStridedSlice S8192x128 ![0, 6880] (concatenate S8192x7008 0 [⟨S4096x7008, (shapeCast _ (addf (extractStridedSlice S16x256x7008 ![0, 0, 0] (m ((c.tc : Thread nD τ).loc main_arg0)) slices_S16x256x10080_S16x256x7008_0_0_0) (mulf (subf (mulf (broadcastInDim S16x256x7008 ![] bcast_S_S16x256x7008 (constant S_ .f32 0x3F000000#32)) (addf (concatenate S16x256x7008 1 [⟨S16x1x7008, (broadcastInDim S16x1x7008 ![] bcast_S_S16x1x7008 (constant S_ .f32 0x00000000#32))⟩, ⟨S16x255x7008, (extractStridedSlice S16x255x7008 ![0, 0, 0] (extractStridedSlice S16x256x7008 ![0, 0, 0] (m ((c.tc : Thread nD τ).loc main_arg0)) slices_S16x256x10080_S16x256x7008_0_0_0) slices_S16x256x7008_S16x255x7008_0_0_0)⟩] concatenates_S16x1x7008_S16x255x7008_S16x256x7008_d1) (concatenate S16x256x7008 1 [⟨S16x255x7008, (extractStridedSlice S16x255x7008 ![0, 1, 0] (extractStridedSlice S16x256x7008 ![0, 0, 0] (m ((c.tc : Thread nD τ).loc main_arg0)) slices_S16x256x10080_S16x256x7008_0_0_0) slices_S16x256x7008_S16x255x7008_0_1_0)⟩, ⟨S16x1x7008, (broadcastInDim S16x1x7008 ![] bcast_S_S16x1x7008 (constant S_ .f32 0x00000000#32))⟩] concatenates_S16x255x7008_S16x1x7008_S16x256x7008_d1))) (extractStridedSlice S16x256x7008 ![0, 0, 0] (m ((c.tc : Thread nD τ).loc main_arg0)) slices_S16x256x10080_S16x256x7008_0_0_0)) (broadcastInDim S16x256x7008 ![0, 1, 2] bcast_S1x1x7008_S16x256x7008_0_1_2 (broadcastInDim S1x1x7008 ![2] bcast_S7008_S1x1x7008_2 (shapeCast _ (m ((c.tc : Thread nD τ).loc main_arg2)) shapeCasts_S1x7008_S7008))))) shapeCasts_S16x256x7008_S4096x7008)⟩, ⟨S4096x7008, (shapeCast _ (addf (extractStridedSlice S4x1024x7008 ![0, 0, 0] (m ((c.tc : Thread nD τ).loc main_arg1)) slices_S4x1024x10080_S4x1024x7008_0_0_0) (mulf (subf (mulf (broadcastInDim S4x1024x7008 ![] bcast_S_S4x1024x7008 (constant S_ .f32 0x3F000000#32)) (addf (concatenate S4x1024x7008 1 [⟨S4x1x7008, (broadcastInDim S4x1x7008 ![] bcast_S_S4x1x7008 (constant S_ .f32 0x00000000#32))⟩, ⟨S4x1023x7008, (extractStridedSlice S4x1023x7008 ![0, 0, 0] (extractStridedSlice S4x1024x7008 ![0, 0, 0] (m ((c.tc : Thread nD τ).loc main_arg1)) slices_S4x1024x10080_S4x1024x7008_0_0_0) slices_S4x1024x7008_S4x1023x7008_0_0_0)⟩] concatenates_S4x1x7008_S4x1023x7008_S4x1024x7008_d1) (concatenate S4x1024x7008 1 [⟨S4x1023x7008, (extractStridedSlice S4x1023x7008 ![0, 1, 0] (extractStridedSlice S4x1024x7008 ![0, 0, 0] (m ((c.tc : Thread nD τ).loc main_arg1)) slices_S4x1024x10080_S4x1024x7008_0_0_0) slices_S4x1024x7008_S4x1023x7008_0_1_0)⟩, ⟨S4x1x7008, (broadcastInDim S4x1x7008 ![] bcast_S_S4x1x7008 (constant S_ .f32 0x00000000#32))⟩] concatenates_S4x1023x7008_S4x1x7008_S4x1024x7008_d1))) (extractStridedSlice S4x1024x7008 ![0, 0, 0] (m ((c.tc : Thread nD τ).loc main_arg1)) slices_S4x1024x10080_S4x1024x7008_0_0_0)) (broadcastInDim S4x1024x7008 ![0, 1, 2] bcast_S1x1x7008_S4x1024x7008_0_1_2 (broadcastInDim S1x1x7008 ![2] bcast_S7008_S1x1x7008_2 (shapeCast _ (m ((c.tc : Thread nD τ).loc main_arg2)) shapeCasts_S1x7008_S7008))))) shapeCasts_S4x1024x7008_S4096x7008)⟩] concatenates_S4096x7008_S4096x7008_S8192x7008_d0) slices_S8192x7008_S8192x128_0_6880) (shapeCast _ (m ((c.tc : Thread nD τ).loc main_arg6)) shapeCasts_S1x128x2048_S128x2048))))))) (broadcastInDim S8192x2048 ![] bcast_S_S8192x2048 (constant S_ .f32 0x3F800000#32))) (broadcastInDim S8192x2048 ![0, 1] bcast_S1x2048_S8192x2048_0_1 (broadcastInDim S1x2048 ![1] bcast_S2048_S1x2048_1 (shapeCast _ (m ((c.tc : Thread nD τ).loc main_arg9)) shapeCasts_S1x2048_S2048)))))

set_option maxRecDepth 8192 in
set_option maxHeartbeats 64400000 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v35) = extractStridedSlice S8192x2048 ![0, 0] (concatenate S8192x7008 0 [⟨S4096x7008, (shapeCast _ (addf (extractStridedSlice S16x256x7008 ![0, 0, 0] (m ((c.tc : Thread nD τ).loc main_arg0)) slices_S16x256x10080_S16x256x7008_0_0_0) (mulf (subf (mulf (broadcastInDim S16x256x7008 ![] bcast_S_S16x256x7008 (constant S_ .f32 0x3F000000#32)) (addf (concatenate S16x256x7008 1 [⟨S16x1x7008, (broadcastInDim S16x1x7008 ![] bcast_S_S16x1x7008 (constant S_ .f32 0x00000000#32))⟩, ⟨S16x255x7008, (extractStridedSlice S16x255x7008 ![0, 0, 0] (extractStridedSlice S16x256x7008 ![0, 0, 0] (m ((c.tc : Thread nD τ).loc main_arg0)) slices_S16x256x10080_S16x256x7008_0_0_0) slices_S16x256x7008_S16x255x7008_0_0_0)⟩] concatenates_S16x1x7008_S16x255x7008_S16x256x7008_d1) (concatenate S16x256x7008 1 [⟨S16x255x7008, (extractStridedSlice S16x255x7008 ![0, 1, 0] (extractStridedSlice S16x256x7008 ![0, 0, 0] (m ((c.tc : Thread nD τ).loc main_arg0)) slices_S16x256x10080_S16x256x7008_0_0_0) slices_S16x256x7008_S16x255x7008_0_1_0)⟩, ⟨S16x1x7008, (broadcastInDim S16x1x7008 ![] bcast_S_S16x1x7008 (constant S_ .f32 0x00000000#32))⟩] concatenates_S16x255x7008_S16x1x7008_S16x256x7008_d1))) (extractStridedSlice S16x256x7008 ![0, 0, 0] (m ((c.tc : Thread nD τ).loc main_arg0)) slices_S16x256x10080_S16x256x7008_0_0_0)) (broadcastInDim S16x256x7008 ![0, 1, 2] bcast_S1x1x7008_S16x256x7008_0_1_2 (broadcastInDim S1x1x7008 ![2] bcast_S7008_S1x1x7008_2 (shapeCast _ (m ((c.tc : Thread nD τ).loc main_arg2)) shapeCasts_S1x7008_S7008))))) shapeCasts_S16x256x7008_S4096x7008)⟩, ⟨S4096x7008, (shapeCast _ (addf (extractStridedSlice S4x1024x7008 ![0, 0, 0] (m ((c.tc : Thread nD τ).loc main_arg1)) slices_S4x1024x10080_S4x1024x7008_0_0_0) (mulf (subf (mulf (broadcastInDim S4x1024x7008 ![] bcast_S_S4x1024x7008 (constant S_ .f32 0x3F000000#32)) (addf (concatenate S4x1024x7008 1 [⟨S4x1x7008, (broadcastInDim S4x1x7008 ![] bcast_S_S4x1x7008 (constant S_ .f32 0x00000000#32))⟩, ⟨S4x1023x7008, (extractStridedSlice S4x1023x7008 ![0, 0, 0] (extractStridedSlice S4x1024x7008 ![0, 0, 0] (m ((c.tc : Thread nD τ).loc main_arg1)) slices_S4x1024x10080_S4x1024x7008_0_0_0) slices_S4x1024x7008_S4x1023x7008_0_0_0)⟩] concatenates_S4x1x7008_S4x1023x7008_S4x1024x7008_d1) (concatenate S4x1024x7008 1 [⟨S4x1023x7008, (extractStridedSlice S4x1023x7008 ![0, 1, 0] (extractStridedSlice S4x1024x7008 ![0, 0, 0] (m ((c.tc : Thread nD τ).loc main_arg1)) slices_S4x1024x10080_S4x1024x7008_0_0_0) slices_S4x1024x7008_S4x1023x7008_0_1_0)⟩, ⟨S4x1x7008, (broadcastInDim S4x1x7008 ![] bcast_S_S4x1x7008 (constant S_ .f32 0x00000000#32))⟩] concatenates_S4x1023x7008_S4x1x7008_S4x1024x7008_d1))) (extractStridedSlice S4x1024x7008 ![0, 0, 0] (m ((c.tc : Thread nD τ).loc main_arg1)) slices_S4x1024x10080_S4x1024x7008_0_0_0)) (broadcastInDim S4x1024x7008 ![0, 1, 2] bcast_S1x1x7008_S4x1024x7008_0_1_2 (broadcastInDim S1x1x7008 ![2] bcast_S7008_S1x1x7008_2 (shapeCast _ (m ((c.tc : Thread nD τ).loc main_arg2)) shapeCasts_S1x7008_S7008))))) shapeCasts_S4x1024x7008_S4096x7008)⟩] concatenates_S4096x7008_S4096x7008_S8192x7008_d0) slices_S8192x7008_S8192x2048_0_0
      ∧ r.2.mem ((c.tc : Thread nD τ).loc main_v119) = res_main_v119 m c
      ∧ r.2.mem ((c.tc : Thread nD τ).loc main_v37) = extractStridedSlice S8192x2048 ![0, 4096] (concatenate S8192x7008 0 [⟨S4096x7008, (shapeCast _ (addf (extractStridedSlice S16x256x7008 ![0, 0, 0] (m ((c.tc : Thread nD τ).loc main_arg0)) slices_S16x256x10080_S16x256x7008_0_0_0) (mulf (subf (mulf (broadcastInDim S16x256x7008 ![] bcast_S_S16x256x7008 (constant S_ .f32 0x3F000000#32)) (addf (concatenate S16x256x7008 1 [⟨S16x1x7008, (broadcastInDim S16x1x7008 ![] bcast_S_S16x1x7008 (constant S_ .f32 0x00000000#32))⟩, ⟨S16x255x7008, (extractStridedSlice S16x255x7008 ![0, 0, 0] (extractStridedSlice S16x256x7008 ![0, 0, 0] (m ((c.tc : Thread nD τ).loc main_arg0)) slices_S16x256x10080_S16x256x7008_0_0_0) slices_S16x256x7008_S16x255x7008_0_0_0)⟩] concatenates_S16x1x7008_S16x255x7008_S16x256x7008_d1) (concatenate S16x256x7008 1 [⟨S16x255x7008, (extractStridedSlice S16x255x7008 ![0, 1, 0] (extractStridedSlice S16x256x7008 ![0, 0, 0] (m ((c.tc : Thread nD τ).loc main_arg0)) slices_S16x256x10080_S16x256x7008_0_0_0) slices_S16x256x7008_S16x255x7008_0_1_0)⟩, ⟨S16x1x7008, (broadcastInDim S16x1x7008 ![] bcast_S_S16x1x7008 (constant S_ .f32 0x00000000#32))⟩] concatenates_S16x255x7008_S16x1x7008_S16x256x7008_d1))) (extractStridedSlice S16x256x7008 ![0, 0, 0] (m ((c.tc : Thread nD τ).loc main_arg0)) slices_S16x256x10080_S16x256x7008_0_0_0)) (broadcastInDim S16x256x7008 ![0, 1, 2] bcast_S1x1x7008_S16x256x7008_0_1_2 (broadcastInDim S1x1x7008 ![2] bcast_S7008_S1x1x7008_2 (shapeCast _ (m ((c.tc : Thread nD τ).loc main_arg2)) shapeCasts_S1x7008_S7008))))) shapeCasts_S16x256x7008_S4096x7008)⟩, ⟨S4096x7008, (shapeCast _ (addf (extractStridedSlice S4x1024x7008 ![0, 0, 0] (m ((c.tc : Thread nD τ).loc main_arg1)) slices_S4x1024x10080_S4x1024x7008_0_0_0) (mulf (subf (mulf (broadcastInDim S4x1024x7008 ![] bcast_S_S4x1024x7008 (constant S_ .f32 0x3F000000#32)) (addf (concatenate S4x1024x7008 1 [⟨S4x1x7008, (broadcastInDim S4x1x7008 ![] bcast_S_S4x1x7008 (constant S_ .f32 0x00000000#32))⟩, ⟨S4x1023x7008, (extractStridedSlice S4x1023x7008 ![0, 0, 0] (extractStridedSlice S4x1024x7008 ![0, 0, 0] (m ((c.tc : Thread nD τ).loc main_arg1)) slices_S4x1024x10080_S4x1024x7008_0_0_0) slices_S4x1024x7008_S4x1023x7008_0_0_0)⟩] concatenates_S4x1x7008_S4x1023x7008_S4x1024x7008_d1) (concatenate S4x1024x7008 1 [⟨S4x1023x7008, (extractStridedSlice S4x1023x7008 ![0, 1, 0] (extractStridedSlice S4x1024x7008 ![0, 0, 0] (m ((c.tc : Thread nD τ).loc main_arg1)) slices_S4x1024x10080_S4x1024x7008_0_0_0) slices_S4x1024x7008_S4x1023x7008_0_1_0)⟩, ⟨S4x1x7008, (broadcastInDim S4x1x7008 ![] bcast_S_S4x1x7008 (constant S_ .f32 0x00000000#32))⟩] concatenates_S4x1023x7008_S4x1x7008_S4x1024x7008_d1))) (extractStridedSlice S4x1024x7008 ![0, 0, 0] (m ((c.tc : Thread nD τ).loc main_arg1)) slices_S4x1024x10080_S4x1024x7008_0_0_0)) (broadcastInDim S4x1024x7008 ![0, 1, 2] bcast_S1x1x7008_S4x1024x7008_0_1_2 (broadcastInDim S1x1x7008 ![2] bcast_S7008_S1x1x7008_2 (shapeCast _ (m ((c.tc : Thread nD τ).loc main_arg2)) shapeCasts_S1x7008_S7008))))) shapeCasts_S4x1024x7008_S4096x7008)⟩] concatenates_S4096x7008_S4096x7008_S8192x7008_d0) slices_S8192x7008_S8192x2048_0_4096
      ∧ r.2.mem ((c.tc : Thread nD τ).loc main_v110) = res_main_v110 m c
      ∧ r.2.mem ((c.tc : Thread nD τ).loc main_v120) = res_main_v120 m c
      ∧ r.2.mem ((c.tc : Thread nD τ).loc main_v76) = res_main_v76 m c
      ∧ r.2.mem ((c.tc : Thread nD τ).loc main_v96) = Host.dotGeneral dot_S8192x480_S480x2048_S8192x2048_1_0_0_1_n_n none (Host.divf (broadcastInDim S8192x480 ![] bcast_S_S8192x480 (constant S_ .f32 0x3F800000#32)) (addf (broadcastInDim S8192x480 ![] bcast_S_S8192x480 (constant S_ .f32 0x3F800000#32)) (Host.exp (Host.negf (extractStridedSlice S8192x480 ![0, 6144] (concatenate S8192x7008 0 [⟨S4096x7008, (shapeCast _ (addf (extractStridedSlice S16x256x7008 ![0, 0, 0] (m ((c.tc : Thread nD τ).loc main_arg0)) slices_S16x256x10080_S16x256x7008_0_0_0) (mulf (subf (mulf (broadcastInDim S16x256x7008 ![] bcast_S_S16x256x7008 (constant S_ .f32 0x3F000000#32)) (addf (concatenate S16x256x7008 1 [⟨S16x1x7008, (broadcastInDim S16x1x7008 ![] bcast_S_S16x1x7008 (constant S_ .f32 0x00000000#32))⟩, ⟨S16x255x7008, (extractStridedSlice S16x255x7008 ![0, 0, 0] (extractStridedSlice S16x256x7008 ![0, 0, 0] (m ((c.tc : Thread nD τ).loc main_arg0)) slices_S16x256x10080_S16x256x7008_0_0_0) slices_S16x256x7008_S16x255x7008_0_0_0)⟩] concatenates_S16x1x7008_S16x255x7008_S16x256x7008_d1) (concatenate S16x256x7008 1 [⟨S16x255x7008, (extractStridedSlice S16x255x7008 ![0, 1, 0] (extractStridedSlice S16x256x7008 ![0, 0, 0] (m ((c.tc : Thread nD τ).loc main_arg0)) slices_S16x256x10080_S16x256x7008_0_0_0) slices_S16x256x7008_S16x255x7008_0_1_0)⟩, ⟨S16x1x7008, (broadcastInDim S16x1x7008 ![] bcast_S_S16x1x7008 (constant S_ .f32 0x00000000#32))⟩] concatenates_S16x255x7008_S16x1x7008_S16x256x7008_d1))) (extractStridedSlice S16x256x7008 ![0, 0, 0] (m ((c.tc : Thread nD τ).loc main_arg0)) slices_S16x256x10080_S16x256x7008_0_0_0)) (broadcastInDim S16x256x7008 ![0, 1, 2] bcast_S1x1x7008_S16x256x7008_0_1_2 (broadcastInDim S1x1x7008 ![2] bcast_S7008_S1x1x7008_2 (shapeCast _ (m ((c.tc : Thread nD τ).loc main_arg2)) shapeCasts_S1x7008_S7008))))) shapeCasts_S16x256x7008_S4096x7008)⟩, ⟨S4096x7008, (shapeCast _ (addf (extractStridedSlice S4x1024x7008 ![0, 0, 0] (m ((c.tc : Thread nD τ).loc main_arg1)) slices_S4x1024x10080_S4x1024x7008_0_0_0) (mulf (subf (mulf (broadcastInDim S4x1024x7008 ![] bcast_S_S4x1024x7008 (constant S_ .f32 0x3F000000#32)) (addf (concatenate S4x1024x7008 1 [⟨S4x1x7008, (broadcastInDim S4x1x7008 ![] bcast_S_S4x1x7008 (constant S_ .f32 0x00000000#32))⟩, ⟨S4x1023x7008, (extractStridedSlice S4x1023x7008 ![0, 0, 0] (extractStridedSlice S4x1024x7008 ![0, 0, 0] (m ((c.tc : Thread nD τ).loc main_arg1)) slices_S4x1024x10080_S4x1024x7008_0_0_0) slices_S4x1024x7008_S4x1023x7008_0_0_0)⟩] concatenates_S4x1x7008_S4x1023x7008_S4x1024x7008_d1) (concatenate S4x1024x7008 1 [⟨S4x1023x7008, (extractStridedSlice S4x1023x7008 ![0, 1, 0] (extractStridedSlice S4x1024x7008 ![0, 0, 0] (m ((c.tc : Thread nD τ).loc main_arg1)) slices_S4x1024x10080_S4x1024x7008_0_0_0) slices_S4x1024x7008_S4x1023x7008_0_1_0)⟩, ⟨S4x1x7008, (broadcastInDim S4x1x7008 ![] bcast_S_S4x1x7008 (constant S_ .f32 0x00000000#32))⟩] concatenates_S4x1023x7008_S4x1x7008_S4x1024x7008_d1))) (extractStridedSlice S4x1024x7008 ![0, 0, 0] (m ((c.tc : Thread nD τ).loc main_arg1)) slices_S4x1024x10080_S4x1024x7008_0_0_0)) (broadcastInDim S4x1024x7008 ![0, 1, 2] bcast_S1x1x7008_S4x1024x7008_0_1_2 (broadcastInDim S1x1x7008 ![2] bcast_S7008_S1x1x7008_2 (shapeCast _ (m ((c.tc : Thread nD τ).loc main_arg2)) shapeCasts_S1x7008_S7008))))) shapeCasts_S4x1024x7008_S4096x7008)⟩] concatenates_S4096x7008_S4096x7008_S8192x7008_d0) slices_S8192x7008_S8192x480_0_6144))))) (shapeCast _ (m ((c.tc : Thread nD τ).loc main_arg7)) shapeCasts_S1x480x2048_S480x2048)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v35).trans (by simp only [ops, TRef.binary, TRef.nullary, TRef.ternary, TRef.unary, TRef.toBuf, TRef.ofBuf, cast_eq]; after_results_simp <;> rfl),
      (h c main_v119).trans (by simp only [ops, TRef.binary, TRef.nullary, TRef.ternary, TRef.unary, TRef.toBuf, TRef.ofBuf, cast_eq]; after_results_simp <;> rfl <;> (unfold res_main_v119; rfl)),
      (h c main_v37).trans (by simp only [ops, TRef.binary, TRef.nullary, TRef.ternary, TRef.unary, TRef.toBuf, TRef.ofBuf, cast_eq]; after_results_simp <;> rfl),
      (h c main_v110).trans (by simp only [ops, TRef.binary, TRef.nullary, TRef.ternary, TRef.unary, TRef.toBuf, TRef.ofBuf, cast_eq]; after_results_simp <;> rfl <;> (unfold res_main_v110; rfl)),
      (h c main_v120).trans (by simp only [ops, TRef.binary, TRef.nullary, TRef.ternary, TRef.unary, TRef.toBuf, TRef.ofBuf, cast_eq]; after_results_simp <;> rfl <;> (unfold res_main_v120; rfl)),
      (h c main_v76).trans (by simp only [ops, TRef.binary, TRef.nullary, TRef.ternary, TRef.unary, TRef.toBuf, TRef.ofBuf, cast_eq]; after_results_simp <;> rfl <;> (unfold res_main_v76; rfl)),
      (h c main_v96).trans (by simp only [ops, TRef.binary, TRef.nullary, TRef.ternary, TRef.unary, TRef.toBuf, TRef.ofBuf, cast_eq]; after_results_simp <;> rfl),
      (h c main_arg0).trans (by simp only [ops, TRef.binary, TRef.nullary, TRef.ternary, TRef.unary, TRef.toBuf, TRef.ofBuf, cast_eq]; after_results_simp <;> rfl),
      (h c main_arg1).trans (by simp only [ops, TRef.binary, TRef.nullary, TRef.ternary, TRef.unary, TRef.toBuf, TRef.ofBuf, cast_eq]; after_results_simp <;> rfl),
      (h c main_arg2).trans (by simp only [ops, TRef.binary, TRef.nullary, TRef.ternary, TRef.unary, TRef.toBuf, TRef.ofBuf, cast_eq]; after_results_simp <;> rfl),
      (h c main_arg3).trans (by simp only [ops, TRef.binary, TRef.nullary, TRef.ternary, TRef.unary, TRef.toBuf, TRef.ofBuf, cast_eq]; after_results_simp <;> rfl),
      (h c main_arg4).trans (by simp only [ops, TRef.binary, TRef.nullary, TRef.ternary, TRef.unary, TRef.toBuf, TRef.ofBuf, cast_eq]; after_results_simp <;> rfl),
      (h c main_arg5).trans (by simp only [ops, TRef.binary, TRef.nullary, TRef.ternary, TRef.unary, TRef.toBuf, TRef.ofBuf, cast_eq]; after_results_simp <;> rfl),
      (h c main_arg6).trans (by simp only [ops, TRef.binary, TRef.nullary, TRef.ternary, TRef.unary, TRef.toBuf, TRef.ofBuf, cast_eq]; after_results_simp <;> rfl),
      (h c main_arg7).trans (by simp only [ops, TRef.binary, TRef.nullary, TRef.ternary, TRef.unary, TRef.toBuf, TRef.ofBuf, cast_eq]; after_results_simp <;> rfl),
      (h c main_arg8).trans (by simp only [ops, TRef.binary, TRef.nullary, TRef.ternary, TRef.unary, TRef.toBuf, TRef.ofBuf, cast_eq]; after_results_simp <;> rfl),
      (h c main_arg9).trans (by simp only [ops, TRef.binary, TRef.nullary, TRef.ternary, TRef.unary, TRef.toBuf, TRef.ofBuf, cast_eq]; after_results_simp <;> rfl)⟩)
    (run_seq scopedRefs_eq scopedSems_eq defs main (fun _ => ops) main_eq (fun _ => ops_sub) m ρ)

end Cert.Reference15Ideal.Value

end
-- ==== Proof.RealNums.lean ====
/- Extended reals that are real numbers, and the two facts about them that attention needs: a root-mean-square
   normalised row is real whatever the row is, and a softmax whose scores are real may be normalised after the
   weighted sum of the values instead of before. -/
module

public import Idealize.ShloMosaic.Lib.Pointwise
public import Idealize.ShloMosaic.Lib.IdealHost

@[expose] public section

noncomputable section

open Idealize.ShloMosaic

namespace Cert.RealNums

/-- `x` is a real number. -/
def IsReal (x : EReal) : Prop := ∃ r : ℝ, x = (r : EReal)

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.neg {x : EReal} (hx : IsReal x) : IsReal (-x) := by
  obtain ⟨a, rfl⟩ := hx; exact ⟨-a, (EReal.coe_neg a).symm⟩

theorem IsReal.max {x y : EReal} (hx : IsReal x) (hy : IsReal y) : IsReal (max x y) := by
  rcases max_choice x y with h | h <;> rw [h] <;> assumption

/-- A sum of coerced reals is the coerced sum. -/
theorem coe_sum {n : ℕ} (f : Fin n → ℝ) : ((∑ i, f i : ℝ) : EReal) = ∑ i, (f i : EReal) := by
  induction n with
  | zero => simp
  | succ n ih => rw [Fin.sum_univ_succ, Fin.sum_univ_succ, EReal.coe_add, ih]

theorem IsReal.sum {n : ℕ} {f : Fin n → EReal} (h : ∀ i, IsReal (f i)) : IsReal (∑ i, f i) := by
  choose g hg using h
  exact ⟨∑ i, g i, by rw [coe_sum]; exact Finset.sum_congr rfl fun i _ => hg i⟩

/-- The largest of finitely many (at least one) reals, folded from below, is real. -/
theorem IsReal.fold_max {n : ℕ} {f : Fin n → EReal} (hn : 0 < n) (h : ∀ i, IsReal (f i)) :
    IsReal (Finset.univ.fold Max.max ⊥ f) := by
  have key : ∀ s : Finset (Fin n), s.Nonempty → IsReal (s.fold Max.max ⊥ f) := by
    intro s hs
    induction hs using Finset.Nonempty.cons_induction with
    | singleton a => rw [Finset.fold_singleton, max_bot_right]; exact h a
    | cons a s ha hs ih => rw [Finset.fold_cons]; exact (h a).max ih
  exact key _ ⟨⟨0, hn⟩, Finset.mem_univ _⟩

/-- A nonnegative real factor distributes over any finite sum of extended reals. -/
theorem sum_mul_real {n : ℕ} (f : Fin n → EReal) {c : ℝ} (hc : 0 ≤ c) : (∑ i, f i) * (c : EReal) = ∑ i, f i * (c : EReal) := by
  induction n with
  | zero => simp
  | succ n ih =>
    rw [Fin.sum_univ_succ, Fin.sum_univ_succ,
      EReal.right_distrib_of_nonneg_of_ne_top (EReal.coe_nonneg.2 hc) (EReal.coe_ne_top c), ih]

/-- A real factor distributes over a finite sum of reals. -/
theorem sum_mul_of_real {n : ℕ} {f : Fin n → EReal} (hf : ∀ i, IsReal (f i)) {x : EReal} (hx : IsReal x) :
    (∑ i, f i) * x = ∑ i, f i * x := by
  obtain ⟨c, rfl⟩ := hx
  choose g hg using hf
  obtain rfl : f = fun i => (g i : EReal) := funext hg
  rw [← coe_sum, ← EReal.coe_mul, Finset.sum_mul, coe_sum]
  exact Finset.sum_congr rfl fun i _ => EReal.coe_mul _ _

/-- Of a softmax over real scores: every exponential is a positive real. -/
theorem exp_pos_real {x : EReal} (hx : IsReal x) : ∃ e : ℝ, 0 < e ∧ Ideal.exp x = (e : EReal) := by
  obtain ⟨r, rfl⟩ := hx; exact ⟨Real.exp r, Real.exp_pos r, rfl⟩

/-- Of a softmax over real scores: dividing by the sum of the weights is multiplying by one nonnegative real. -/
theorem inv_weights {n : ℕ} (hn : 0 < n) {E : Fin n → EReal} (hE : ∀ j, ∃ e : ℝ, 0 < e ∧ E j = (e : EReal)) :
    ∃ c : ℝ, 0 ≤ c ∧ ∀ x, Ideal.div x (∑ j, E j) = x * (c : EReal) := by
  choose e he hEe using hE
  obtain rfl : E = fun j => (e j : EReal) := funext hEe
  have hpos : 0 < ∑ j, e j := Finset.sum_pos (fun j _ => he j) ⟨⟨0, hn⟩, Finset.mem_univ _⟩
  refine ⟨1 / ∑ j, e j, by positivity, fun x => ?_⟩
  rw [← coe_sum]
  exact Ideal.div_coe hpos.ne' x

/-- NORMALISE AFTER THE SUM: with positive real weights, the weighted sum of the values divided by the sum of the weights
    is the sum of the values weighted by the normalised weights, whatever the values are. -/
theorem weighted_sum {n : ℕ} (hn : 0 < n) {E : Fin n → EReal} (hE : ∀ j, ∃ e : ℝ, 0 < e ∧ E j = (e : EReal))
    (v : Fin n → EReal) :
    (∑ j, E j * v j) * Ideal.div 1 (∑ j, E j) = ∑ j, v j * Ideal.div (E j) (∑ j, E j) := by
  obtain ⟨c, hc, h⟩ := inv_weights hn hE
  rw [h, one_mul, sum_mul_real _ hc]
  refine Finset.sum_congr rfl fun j _ => ?_
  rw [h, mul_comm (E j) (v j), mul_assoc]

theorem mul_self_nonneg (x : EReal) : 0 ≤ x * x := by
  induction x with
  | bot => simp
  | top => simp
  | coe r => rw [← EReal.coe_mul]; exact EReal.coe_nonneg.2 (_root_.mul_self_nonneg r)

theorem bits_128 : Ideal.ofBits .f32 0x43000000#32 = ((128 : ℝ) : EReal) := by
  simp [Ideal.ofBits, Ideal.ieee, -EReal.coe_mul]; norm_num

theorem bits_eps : ∃ e : ℝ, 0 < e ∧ Ideal.ofBits .f32 0x358637BD#32 = (e : EReal) := by
  refine ⟨8796093 / 2 ^ 43, by positivity, ?_⟩
  simp [Ideal.ofBits, Ideal.ieee, -EReal.coe_mul]; norm_num

theorem bits_scale : IsReal (Ideal.ofBits .f32 0x3DB504F3#32) := by
  simp only [Ideal.ofBits, Ideal.ieee]
  exact ⟨_, rfl⟩

theorem bits_bot : Ideal.ofBits .f32 0xFF800000#32 = ⊥ := by
  simp [Ideal.ofBits, Ideal.ieee]

/-- A ROOT-MEAN-SQUARE NORMALISED ROW IS REAL, whatever the row: an infinite entry makes the mean square infinite and the
    reciprocal root zero. -/
theorem rms_real (x : Fin 128 → EReal) (i : Fin 128) :
    IsReal (x i * Ideal.rsqrt (Ideal.div (∑ k, x k * x k) (Ideal.ofBits .f32 0x43000000#32) + Ideal.ofBits .f32 0x358637BD#32)) := by
  obtain ⟨e, he, hb⟩ := bits_eps
  rw [bits_128, hb, Ideal.div_coe (by norm_num : (128 : ℝ) ≠ 0)]
  by_cases h : ∀ k, IsReal (x k)
  · choose r hr using h
    obtain rfl : x = fun k => (r k : EReal) := funext hr
    have hs : (∑ k, (r k : EReal) * (r k : EReal)) = ((∑ k, r k * r k : ℝ) : EReal) := by
      rw [coe_sum]; exact Finset.sum_congr rfl fun k _ => (EReal.coe_mul _ _).symm
    have hn : 0 ≤ ∑ k, r k * r k := Finset.sum_nonneg fun k _ => _root_.mul_self_nonneg (r k)
    have hp : 0 < (∑ k, r k * r k) * (1 / 128) + e := by positivity
    dsimp only
    rw [hs, ← EReal.coe_mul, ← EReal.coe_add, Ideal.rsqrt_coe, if_neg (not_lt.2 hp.le), if_neg hp.ne', ← EReal.coe_mul]
    exact ⟨_, rfl⟩
  · obtain ⟨k, hk⟩ := not_forall.1 h
    have hkk : x k * x k = ⊤ := by
      induction hx : x k with
      | bot => rfl
      | top => rfl
      | coe r => exact absurd ⟨r, hx⟩ hk
    have hs : (∑ k, x k * x k) = ⊤ :=
      top_le_iff.1 (hkk ▸ Finset.single_le_sum (f := fun k => x k * x k) (fun j _ => mul_self_nonneg (x j)) (Finset.mem_univ k))
    rw [hs, EReal.top_mul_coe_of_pos (by norm_num), EReal.top_add_coe, Ideal.rsqrt_top, mul_zero]
    exact ⟨0, rfl⟩

/-! ## The row functions of attention -/

/-- Entry `d` of a row divided by its root mean square. -/
def nrm (x : Fin 128 → EReal) (d : Fin 128) : EReal :=
  x d * Ideal.rsqrt (Ideal.div (∑ k, x k * x k) (Ideal.ofBits .f32 0x43000000#32) + Ideal.ofBits .f32 0x358637BD#32)

theorem nrm_real (x : Fin 128 → EReal) (d : Fin 128) : IsReal (nrm x d) := rms_real x d

/-- The weight of score `j`: the exponential of its distance to the largest score. -/
def wt {n : ℕ} (s : Fin n → EReal) (j : Fin n) : EReal := Ideal.exp (s j - Finset.univ.fold Max.max ⊥ s)

/-- Attention of one query: the values weighted by the softmax of the scores. -/
def att {n : ℕ} (s v : Fin n → EReal) : EReal := ∑ j, v j * Ideal.div (wt s j) (∑ k, wt s k)

/-- The same with the normalisation after the sum. -/
def attLate {n : ℕ} (s v : Fin n → EReal) : EReal := (∑ j, wt s j * v j) * Ideal.div 1 (∑ k, wt s k)

/-- Over real scores the two are equal. -/
theorem attLate_eq {n : ℕ} (hn : 0 < n) {s : Fin n → EReal} (hs : ∀ j, IsReal (s j)) (v : Fin n → EReal) :
    attLate s v = att s v :=
  weighted_sum hn (fun j => exp_pos_real ((hs j).sub (IsReal.fold_max hn hs))) v

/-- A score with the scale applied to the query before the product is the score with the scale applied after it. -/
theorem score_eq {n : ℕ} {q k : Fin n → EReal} (hq : ∀ d, IsReal (q d)) (hk : ∀ d, IsReal (k d)) {c : EReal} (hc : IsReal c) :
    ∑ d, q d * c * k d = (∑ d, k d * q d) * c := by
  rw [sum_mul_of_real (fun d => (hk d).mul (hq d)) hc]
  exact Finset.sum_congr rfl fun d _ => by rw [mul_right_comm, mul_comm (q d) (k d)]

/-- Comparing the absolute value with infinity holds of real numbers only. -/
theorem real_of_abs_lt {x : Ideal .f32} (h : FloatOps.cmpf .olt (FloatOps.hostAbsf x) (Scalar.ofBits .f32 0x7F800000#32 : Ideal .f32) = 1#1) : IsReal x := by
  have hb : Ideal.ofBits .f32 0x7F800000#32 = ⊤ := by simp [Ideal.ofBits, Ideal.ieee]
  have h' : max (x : EReal) (-x) < ⊤ := by
    by_contra hn
    rw [← hb] at hn
    have : FloatOps.cmpf .olt (FloatOps.hostAbsf x) (Scalar.ofBits .f32 0x7F800000#32 : Ideal .f32) = 0#1 := by
      show Ideal.cmp .olt (max (x : EReal) (-x)) (Ideal.ofBits .f32 0x7F800000#32) = 0#1
      simp [Ideal.cmp, hn]
    rw [this] at h
    exact absurd h (by decide)
  change EReal at x
  induction x with
  | bot => exact absurd h' (by simp)
  | top => exact absurd h' (by simp)
  | coe r => exact ⟨r, rfl⟩

end Cert.RealNums

end
-- ==== Proof.AttnPromptRef.lean ====
/- The reference of the attention over the context tokens, read index by index. -/
module

public import proofs.«01_k».proof.Proof.Gen.ReferenceIdeal.Run
public import proofs.«01_k».proof.Proof.RealNums

@[expose] public section

set_option maxRecDepth 16384

noncomputable section

open Idealize.ShloMosaic Idealize.ShloMosaic.TcCoe Idealize.SL.Sem

namespace Cert.ReferenceIdeal.Attn
open Cert.ReferenceIdeal Cert.ReferenceIdeal.Gen
open Cert.RealNums

/-- The queries before normalisation. -/
def qRaw (a0 : FVec Ideal S16x256x10080 .f32) : FVec Ideal S16x256x16x128 .f32 :=
  shapeCast _ (extractStridedSlice S16x256x2048 ![0, 0, 7008] a0 slices_S16x256x10080_S16x256x2048_0_0_7008) shapeCasts_S16x256x2048_S16x256x16x128

/-- The keys before normalisation. -/
def kRaw (a0 : FVec Ideal S16x256x10080 .f32) : FVec Ideal S16x256x4x128 .f32 :=
  shapeCast _ (extractStridedSlice S16x256x512 ![0, 0, 9056] a0 slices_S16x256x10080_S16x256x512_0_0_9056) shapeCasts_S16x256x512_S16x256x4x128

/-- The values. -/
def vals (a0 : FVec Ideal S16x256x10080 .f32) : FVec Ideal S16x256x4x128 .f32 :=
  shapeCast _ (extractStridedSlice S16x256x512 ![0, 0, 9568] a0 slices_S16x256x10080_S16x256x512_0_0_9568) shapeCasts_S16x256x512_S16x256x4x128

/-- The normalised queries. -/
def qNorm (T3 : FVec Ideal S16x256x16x128 .f32) (a2 : FVec Ideal S1x128 .f32) : FVec Ideal S16x256x4x4x128 .f32 :=
  shapeCast _ (mulf (mulf T3 (broadcastInDim S16x256x16x128 ![0, 1, 2, 3] bcast_S16x256x16x1_S16x256x16x128_0_1_2_3 (Host.rsqrt (addf (Host.divf (broadcastInDim S16x256x16x1 ![0, 1, 2] bcast_S16x256x16_S16x256x16x1_0_1_2 (Host.reduceAdd (mulf T3 T3) (constant S_ .f32 0x00000000#32) reducesTo_S16x256x16x128_S16x256x16_d3 h_S_)) (broadcastInDim S16x256x16x1 ![] bcast_S_S16x256x16x1 (constant S_ .f32 0x43000000#32))) (broadcastInDim S16x256x16x1 ![] bcast_S_S16x256x16x1 (constant S_ .f32 0x358637BD#32)))))) (broadcastInDim S16x256x16x128 ![0, 1, 2, 3] bcast_S1x1x1x128_S16x256x16x128_0_1_2_3 (broadcastInDim S1x1x1x128 ![3] bcast_S128_S1x1x1x128_3 (shapeCast _ a2 shapeCasts_S1x128_S128)))) shapeCasts_S16x256x16x128_S16x256x4x4x128

/-- The normalised keys. -/
def kNorm (T4 : FVec Ideal S16x256x4x128 .f32) (a3 : FVec Ideal S1x128 .f32) : FVec Ideal S16x256x4x128 .f32 :=
  mulf (mulf T4 (broadcastInDim S16x256x4x128 ![0, 1, 2, 3] bcast_S16x256x4x1_S16x256x4x128_0_1_2_3 (Host.rsqrt (addf (Host.divf (broadcastInDim S16x256x4x1 ![0, 1, 2] bcast_S16x256x4_S16x256x4x1_0_1_2 (Host.reduceAdd (mulf T4 T4) (constant S_ .f32 0x00000000#32) reducesTo_S16x256x4x128_S16x256x4_d3 h_S_)) (broadcastInDim S16x256x4x1 ![] bcast_S_S16x256x4x1 (constant S_ .f32 0x43000000#32))) (broadcastInDim S16x256x4x1 ![] bcast_S_S16x256x4x1 (constant S_ .f32 0x358637BD#32)))))) (broadcastInDim S16x256x4x128 ![0, 1, 2, 3] bcast_S1x1x1x128_S16x256x4x128_0_1_2_3 (broadcastInDim S1x1x1x128 ![3] bcast_S128_S1x1x1x128_3 (shapeCast _ a3 shapeCasts_S1x128_S128)))

/-- The products of keys and queries. -/
def prods (KN : FVec Ideal S16x256x4x128 .f32) (QN : FVec Ideal S16x256x4x4x128 .f32) : FVec Ideal S16x4x256x256x4 .f32 :=
  Host.dotGeneral dot_S16x256x4x128_S16x256x4x4x128_S16x4x256x256x4_3_4_1_13_02_02 none KN QN

/-- The scores. -/
def scores (KN : FVec Ideal S16x256x4x128 .f32) (QN : FVec Ideal S16x256x4x4x128 .f32) : FVec Ideal S16x4x4x256x256 .f32 :=
  mulf (transpose S16x4x4x256x256 [0, 1, 4, 3, 2] (prods KN QN) transposes_S16x4x256x256x4_S16x4x4x256x256_0_1_4_3_2) (broadcastInDim S16x4x4x256x256 ![] bcast_S_S16x4x4x256x256 (constant S_ .f32 0x3DB504F3#32))

/-- Each row's largest score. -/
def mx (T2 : FVec Ideal S16x4x4x256x256 .f32) : FVec Ideal S16x4x4x256 .f32 :=
  Host.reduce FloatOps.maximumf T2 (constant S_ .f32 0xFF800000#32) reducesTo_S16x4x4x256x256_S16x4x4x256_d4 h_S_

/-- The exponentials of the scores less a row value. -/
def expoLess (M : FVec Ideal S16x4x4x256 .f32) (T2 : FVec Ideal S16x4x4x256x256 .f32) : FVec Ideal S16x4x4x256x256 .f32 :=
  Host.exp (subf T2 (broadcastInDim S16x4x4x256x256 ![0, 1, 2, 3, 4] bcast_S16x4x4x256x1_S16x4x4x256x256_0_1_2_3_4 (broadcastInDim S16x4x4x256x1 ![0, 1, 2, 3] bcast_S16x4x4x256_S16x4x4x256x1_0_1_2_3 (maximumf (broadcastInDim S16x4x4x256 ![] bcast_S_S16x4x4x256 (constant S_ .f32 0xFF800000#32)) M))))

/-- The exponentials of the scores less their row's largest. -/
def expo (T2 : FVec Ideal S16x4x4x256x256 .f32) : FVec Ideal S16x4x4x256x256 .f32 := expoLess (mx T2) T2

/-- The attended values, rows after the context zero. -/
def outOf (V : FVec Ideal S16x256x4x128 .f32) (T1 : FVec Ideal S16x4x4x256x256 .f32) : FVec Ideal S8192x2048 .bf16 :=
  truncf .bf16 (concatenate S8192x2048 0 [⟨S4096x2048, (shapeCast _ (transpose S16x256x4x4x128 [0, 4, 1, 3, 2] (Host.dotGeneral dot_S16x256x4x128_S16x4x4x256x256_S16x4x128x4x256_1_4_3_23_02_01 none V (Host.divf T1 (broadcastInDim S16x4x4x256x256 ![0, 1, 2, 3, 4] bcast_S16x4x4x256x1_S16x4x4x256x256_0_1_2_3_4 (broadcastInDim S16x4x4x256x1 ![0, 1, 2, 3] bcast_S16x4x4x256_S16x4x4x256x1_0_1_2_3 (Host.reduceAdd T1 (constant S_ .f32 0x00000000#32) reducesTo_S16x4x4x256x256_S16x4x4x256_d4 h_S_))))) transposes_S16x4x128x4x256_S16x256x4x4x128_0_4_1_3_2) shapeCasts_S16x256x4x4x128_S4096x2048)⟩, ⟨S4096x2048, (broadcastInDim S4096x2048 ![] bcast_S_S4096x2048 (constant S_ .f32 0x00000000#32))⟩] concatenates_S4096x2048_S4096x2048_S8192x2048_d0) bitsLt_bf16_f32

/-- The reference's attention output as a term of the arguments. -/
def O (a0 : FVec Ideal S16x256x10080 .f32) (a2 a3 : FVec Ideal S1x128 .f32) : FVec Ideal S8192x2048 .bf16 :=
  outOf (vals a0) (expo (scores (kNorm (kRaw a0) a3) (qNorm (qRaw a0) a2)))

/-- The reference's key output. -/
def K (a0 : FVec Ideal S16x256x10080 .f32) (a3 : FVec Ideal S1x128 .f32) : FVec Ideal S4096x512 .f32 :=
  shapeCast _ (kNorm (kRaw a0) a3) shapeCasts_S16x256x4x128_S4096x512

/-- The reference's value output. -/
def V (a0 : FVec Ideal S16x256x10080 .f32) : FVec Ideal S4096x512 .f32 :=
  shapeCast _ (vals a0) shapeCasts_S16x256x4x128_S4096x512

/-- The run's attention output is this term. -/
theorem O_eq (m : (ℓ : Loc nD τ sig) → Buf (Elt Ideal) ℓ) (c : Dev nD) :
    Cert.ReferenceIdeal.Value.res_main_v55 m c
      = O (m ((c.tc : Thread nD τ).loc main_arg0)) (m ((c.tc : Thread nD τ).loc main_arg2)) (m ((c.tc : Thread nD τ).loc main_arg3)) := rfl

theorem qNorm_at (a0 : FVec Ideal S16x256x10080 .f32) (a2 : FVec Ideal S1x128 .f32) (b : Fin 16) (t : Fin 256) (h g : Fin 4) (d : Fin 128) :
    qNorm (qRaw a0) a2 (ix5 b t h g d)
      = nrm (fun k => a0 (ix3 b t ⟨7008 + (((h : ℕ) * 4 + (g : ℕ)) * 128 + (k : ℕ)), by omega⟩)) d * a2 (ix2 0 d) := by
  pointwise [qNorm, qRaw, nrm]

theorem kNorm_at (a0 : FVec Ideal S16x256x10080 .f32) (a3 : FVec Ideal S1x128 .f32) (b : Fin 16) (t : Fin 256) (h : Fin 4) (d : Fin 128) :
    kNorm (kRaw a0) a3 (ix4 b t h d)
      = nrm (fun k => a0 (ix3 b t ⟨9056 + ((h : ℕ) * 128 + (k : ℕ)), by omega⟩)) d * a3 (ix2 0 d) := by
  pointwise [kNorm, kRaw, nrm]

theorem vals_at (a0 : FVec Ideal S16x256x10080 .f32) (b : Fin 16) (t : Fin 256) (h : Fin 4) (d : Fin 128) :
    vals a0 (ix4 b t h d) = a0 (ix3 b t ⟨9568 + ((h : ℕ) * 128 + (d : ℕ)), by omega⟩) := by
  pointwise [vals]

theorem prods_at (KN : FVec Ideal S16x256x4x128 .f32) (QN : FVec Ideal S16x256x4x4x128 .f32) (b : Fin 16) (h g : Fin 4) (i j : Fin 256) :
    prods KN QN (ix5 b h j i g) = ∑ d : Fin 128, KN (ix4 b j h d) * QN (ix5 b i h g d) := by
  pointwise [prods]

theorem scores_at (KN : FVec Ideal S16x256x4x128 .f32) (QN : FVec Ideal S16x256x4x4x128 .f32) (b : Fin 16) (h g : Fin 4) (i j : Fin 256) :
    scores KN QN (ix5 b h g i j) = (∑ d : Fin 128, KN (ix4 b j h d) * QN (ix5 b i h g d)) * Ideal.ofBits .f32 0x3DB504F3#32 := by
  rw [← prods_at]
  pointwise [scores]

theorem mx_at (S : FVec Ideal S16x4x4x256x256 .f32) (b : Fin 16) (h g : Fin 4) (i : Fin 256) :
    mx S (ix4 b h g i) = Finset.univ.fold Max.max ⊥ (fun j : Fin 256 => S (ix5 b h g i j)) := by
  pointwise [mx]
  rw [bits_bot]

theorem expoLess_at (M : FVec Ideal S16x4x4x256 .f32) (S : FVec Ideal S16x4x4x256x256 .f32) (b : Fin 16) (h g : Fin 4) (i j : Fin 256) :
    expoLess M S (ix5 b h g i j) = Ideal.exp (S (ix5 b h g i j) - M (ix4 b h g i)) := by
  pointwise [expoLess]
  rw [bits_bot, max_bot_left]

theorem expo_at (S : FVec Ideal S16x4x4x256x256 .f32) (b : Fin 16) (h g : Fin 4) (i j : Fin 256) :
    expo S (ix5 b h g i j) = wt (fun j => S (ix5 b h g i j)) j := by
  unfold expo wt
  rw [expoLess_at, mx_at]

theorem outOf_at (V : FVec Ideal S16x256x4x128 .f32) (E : FVec Ideal S16x4x4x256x256 .f32) (r : Fin 8192) (l : Fin 2048)
    (hr : (r : ℕ) < 4096) :
    outOf V E (ix2 r l) = ∑ j : Fin 256, V (ix4 ⟨(r : ℕ) / 256, by omega⟩ j ⟨(l : ℕ) / 512, by omega⟩ ⟨(l : ℕ) % 128, by omega⟩)
      * Ideal.div (E (ix5 ⟨(r : ℕ) / 256, by omega⟩ ⟨(l : ℕ) / 512, by omega⟩ ⟨(l : ℕ) / 128 % 4, by omega⟩ ⟨(r : ℕ) % 256, by omega⟩ j))
        (∑ k : Fin 256, E (ix5 ⟨(r : ℕ) / 256, by omega⟩ ⟨(l : ℕ) / 512, by omega⟩ ⟨(l : ℕ) / 128 % 4, by omega⟩ ⟨(r : ℕ) % 256, by omega⟩ k)) := by
  pointwise [outOf]
  exact dif_pos hr

/-- THE REFERENCE'S ATTENTION: at a context row and an output column, the attention of that query. -/
theorem O_at (a0 : FVec Ideal S16x256x10080 .f32) (a2 a3 : FVec Ideal S1x128 .f32) (r : Fin 8192) (l : Fin 2048) (hr : (r : ℕ) < 4096) :
    O a0 a2 a3 (ix2 r l) = att
      (fun j : Fin 256 => (∑ d : Fin 128,
        (nrm (fun k => a0 (ix3 ⟨(r : ℕ) / 256, by omega⟩ j ⟨9056 + ((l : ℕ) / 512 * 128 + (k : ℕ)), by omega⟩)) d * a3 (ix2 0 d))
        * (nrm (fun k => a0 (ix3 ⟨(r : ℕ) / 256, by omega⟩ ⟨(r : ℕ) % 256, by omega⟩
            ⟨7008 + (((l : ℕ) / 512 * 4 + (l : ℕ) / 128 % 4) * 128 + (k : ℕ)), by omega⟩)) d * a2 (ix2 0 d)))
        * Ideal.ofBits .f32 0x3DB504F3#32)
      (fun j => a0 (ix3 ⟨(r : ℕ) / 256, by omega⟩ j ⟨9568 + ((l : ℕ) / 512 * 128 + (l : ℕ) % 128), by omega⟩)) := by
  unfold O
  rw [outOf_at _ _ r l hr]
  simp only [expo_at, scores_at, qNorm_at, kNorm_at, vals_at]
  rfl

/-- The reference's keys at an index. -/
theorem K_at (a0 : FVec Ideal S16x256x10080 .f32) (a3 : FVec Ideal S1x128 .f32) (r : Fin 4096) (l : Fin 512) :
    K a0 a3 (ix2 r l) = nrm (fun k => a0 (ix3 ⟨(r : ℕ) / 256, by omega⟩ ⟨(r : ℕ) % 256, by omega⟩
      ⟨9056 + ((l : ℕ) / 128 * 128 + (k : ℕ)), by omega⟩)) ⟨(l : ℕ) % 128, by omega⟩ * a3 (ix2 0 ⟨(l : ℕ) % 128, by omega⟩) := by
  rw [← kNorm_at a0 a3 ⟨(r : ℕ) / 256, by omega⟩ ⟨(r : ℕ) % 256, by omega⟩ ⟨(l : ℕ) / 128, by omega⟩ ⟨(l : ℕ) % 128, by omega⟩]
  pointwise [K]

/-- The reference's values at an index. -/
theorem V_at (a0 : FVec Ideal S16x256x10080 .f32) (r : Fin 4096) (l : Fin 512) :
    V a0 (ix2 r l) = a0 (ix3 ⟨(r : ℕ) / 256, by omega⟩ ⟨(r : ℕ) % 256, by omega⟩
      ⟨9568 + ((l : ℕ) / 128 * 128 + (l : ℕ) % 128), by omega⟩) := by
  rw [← vals_at a0 ⟨(r : ℕ) / 256, by omega⟩ ⟨(r : ℕ) % 256, by omega⟩ ⟨(l : ℕ) / 128, by omega⟩ ⟨(l : ℕ) % 128, by omega⟩]
  pointwise [V]

end Cert.ReferenceIdeal.Attn

end
-- ==== Proof.AttnPrompt.lean ====
/- Attention over the context rows: the three result arrays of the tiled kernel are the reference's composed terms of the
   arguments, index by index. -/
module

public import proofs.«01_k».proof.Proof.Gen.KernelIdeal.Frame
public import proofs.«01_k».proof.Proof.AttnPromptRef
public import Idealize.ShloMosaic.Lib.Pipeline.ValueKit
public import Idealize.ShloMosaic.Lib.Pointwise
public import Idealize.ShloMosaic.Lib.Claim
public import Idealize.ShloMosaic.Lib.ReduceAll
public import proofs.«01_k».proof.Proof.Gen.Pre_finite_gains
public import proofs.«01_k».proof.Proof.Gen.On_rows_written
public import Idealize.ShloMosaic.Lib.StableHlo.RunRead

@[expose] public section

set_option maxRecDepth 16384

noncomputable section

open Idealize.ShloMosaic Idealize.ShloMosaic.TcCoe Idealize.SL.Sem

namespace Cert.KernelIdeal.Attn
open Cert.KernelIdeal Cert.KernelIdeal.Gen Cert.RealNums
open Idealize.ShloMosaic.Pipeline (Dat)

/-! ## The body's arithmetic at variable blocks -/

/-- The scores of the four stacked query heads. -/
def scr (Q : FVec Ideal S1024x128 .bf16) (K : FVec Ideal S256x128 .bf16) : FVec Ideal S1024x256 .f32 :=
  matmul dot_S1024x128_S256x128_S1024x256_1_1_0_0_n_n none Q K (constant S1024x256 .f32 0x00000000#32)

/-- Each row's largest score. -/
def mxr (S : FVec Ideal S1024x256 .f32) : FVec Ideal S1024 .f32 :=
  multiReduction .maximumf [1] S1024 S 0xFF800000#32 reduces_S1024x256_S1024 (.inl rfl) rfl

/-- The exponentials of the scores less a row value. -/
def exl (M : FVec Ideal S1024 .f32) (S : FVec Ideal S1024x256 .f32) : FVec Ideal S1024x256 .f32 :=
  exp (subf S (broadcastTo S1024x256 (shapeCast S1024x1 M shapeCasts_S1024_S1024x1) broadcasts_S1024x1_S1024x256))

/-- The attended values from the exponentials. -/
def avg (E : FVec Ideal S1024x256 .f32) (V : FVec Ideal S256x128 .bf16) : FVec Ideal S1024x128 .bf16 :=
  truncf .bf16 (mulf (matmul dot_S1024x256_S256x128_S1024x128_1_0_0_1_n_n none (truncf .bf16 E bitsLt_bf16_f32) V (constant S1024x128 .f32 0x00000000#32))
    (broadcastTo S1024x128 (divf (broadcast S1024x1 (Scalar.ofBits .f32 0x3F800000#32 : Ideal .f32)) (shapeCast S1024x1
      (multiReduction .add [1] S1024 E 0x00000000#32 reduces_S1024x256_S1024 (.inl rfl) rfl) shapeCasts_S1024_S1024x1)) broadcasts_S1024x1_S1024x128)) bitsLt_bf16_f32

/-- The stacked query heads. -/
def stack (q0 q1 q2 q3 : FVec Ideal S256x128 .bf16) : FVec Ideal S1024x128 .bf16 :=
  concatenate S1024x128 0 [⟨S256x128, q0⟩, ⟨S256x128, q1⟩, ⟨S256x128, q2⟩, ⟨S256x128, q3⟩] concatenates_S256x128_S256x128_S256x128_S256x128_S1024x128_d0

/-- The block's attention from the stacked queries, the keys and the values. -/
def blockAtt (Q : FVec Ideal S1024x128 .bf16) (K V : FVec Ideal S256x128 .bf16) : FVec Ideal S1024x128 .bf16 :=
  avg (exl (mxr (scr Q K)) (scr Q K)) V

theorem pay11_eq (v20 v21 v40 v59 v78 : FVec Ideal S256x128 .bf16) (v79 : Vec Ideal S256x128 .f32) (v81 : Vec Ideal S1x128 .f32) :
    k0_pay11 (F := Ideal) v20 v21 v40 v59 v78 v79 v81 = blockAtt (stack v40 v59 v78 (k0_pay10 v79 v81)) v20 v21 := rfl

theorem scr_at (Q : FVec Ideal S1024x128 .bf16) (K : FVec Ideal S256x128 .bf16) (r : Fin 1024) (j : Fin 256) :
    scr Q K (ix2 r j) = ∑ d : Fin 128, Q (ix2 r d) * K (ix2 j d) := by
  pointwise [scr]

theorem mxr_at (S : FVec Ideal S1024x256 .f32) (r : Fin 1024) :
    mxr S (ix1 r) = Finset.univ.fold Max.max ⊥ (fun j : Fin 256 => S (ix2 r j)) := by
  pointwise [mxr]
  rw [bits_bot]

theorem exl_at (M : FVec Ideal S1024 .f32) (S : FVec Ideal S1024x256 .f32) (r : Fin 1024) (j : Fin 256) :
    exl M S (ix2 r j) = Ideal.exp (S (ix2 r j) - M (ix1 r)) := by
  pointwise [exl]

theorem avg_at (E : FVec Ideal S1024x256 .f32) (V : FVec Ideal S256x128 .bf16) (r : Fin 1024) (l : Fin 128) :
    avg E V (ix2 r l) = (∑ j : Fin 256, E (ix2 r j) * V (ix2 j l)) * Ideal.div 1 (∑ k : Fin 256, E (ix2 r k)) := by
  pointwise [avg]

/-- The block's attention of one stacked row. -/
theorem blockAtt_at (Q : FVec Ideal S1024x128 .bf16) (K V : FVec Ideal S256x128 .bf16) (r : Fin 1024) (l : Fin 128) :
    blockAtt Q K V (ix2 r l) = attLate (fun j : Fin 256 => ∑ d : Fin 128, Q (ix2 r d) * K (ix2 j d)) (fun j => V (ix2 j l)) := by
  unfold blockAtt
  rw [avg_at]
  simp only [exl_at, mxr_at, scr_at]
  rfl

/-- The normalised keys. -/
theorem key_at (x : Vec Ideal S256x128 .f32) (g : Vec Ideal S1x128 .f32) (r : Fin 256) (l : Fin 128) :
    k0_pay2 (F := Ideal) x g (ix2 r l) = nrm (fun k => x (ix2 r k)) l * g (ix2 0 l) := by
  pointwise [k0_pay2, nrm]

/-- The normalised, scaled queries. -/
theorem query_at (x : Vec Ideal S256x128 .f32) (g : Vec Ideal S1x128 .f32) (r : Fin 256) (l : Fin 128) :
    k0_pay10 (F := Ideal) x g (ix2 r l) = nrm (fun k => x (ix2 r k)) l * g (ix2 0 l) * Ideal.ofBits .f32 0x3DB504F3#32 := by
  pointwise [k0_pay10, nrm]

/-- One stacked row of the block, from the raw blocks: the query row's head, the keys and the values. -/
theorem att_at (Q : FVec Ideal S1024x128 .bf16) (K V : FVec Ideal S256x128 .bf16) (x1 x2 : Vec Ideal S256x128 .f32) (R : Fin 1024) (l : Fin 128)
    (q gq gk : Fin 128 → EReal)
    (hq : ∀ d, Q (ix2 R d) = nrm q d * gq d * Ideal.ofBits .f32 0x3DB504F3#32)
    (hk : ∀ (j : Fin 256) (d : Fin 128), K (ix2 j d) = nrm (fun k => x1 (ix2 j k)) d * gk d)
    (hv : ∀ j : Fin 256, V (ix2 j l) = x2 (ix2 j l))
    (hgq : ∀ d, IsReal (gq d)) (hgk : ∀ d, IsReal (gk d)) :
    blockAtt Q K V (ix2 R l) = att
      (fun j : Fin 256 => (∑ d : Fin 128, (nrm (fun k => x1 (ix2 j k)) d * gk d) * (nrm q d * gq d)) * Ideal.ofBits .f32 0x3DB504F3#32)
      (fun j => x2 (ix2 j l)) := by
  rw [blockAtt_at]
  simp only [hq, hk, hv]
  have hs : (fun j : Fin 256 => ∑ d : Fin 128, nrm q d * gq d * Ideal.ofBits .f32 0x3DB504F3#32 * (nrm (fun k => x1 (ix2 j k)) d * gk d))
      = fun j : Fin 256 => (∑ d : Fin 128, (nrm (fun k => x1 (ix2 j k)) d * gk d) * (nrm q d * gq d)) * Ideal.ofBits .f32 0x3DB504F3#32 :=
    funext fun j => score_eq (fun d => (nrm_real _ _).mul (hgq d)) (fun d => (nrm_real _ _).mul (hgk d)) bits_scale
  rw [hs]
  exact attLate_eq (by norm_num) (fun j => (IsReal.sum fun d => ((nrm_real _ _).mul (hgk d)).mul ((nrm_real _ _).mul (hgq d))).mul bits_scale) _

/-- The stacked queries, at a stacked row. -/
theorem stack_at (q0 q1 q2 q3 : FVec Ideal S256x128 .bf16) (F : Fin 256 → Fin 4 → Fin 128 → EReal)
    (h0 : ∀ r d, q0 (ix2 r d) = F r 0 d) (h1 : ∀ r d, q1 (ix2 r d) = F r 1 d) (h2 : ∀ r d, q2 (ix2 r d) = F r 2 d) (h3 : ∀ r d, q3 (ix2 r d) = F r 3 d)
    (r : Fin 256) (p : Fin 4) (d : Fin 128) : stack q0 q1 q2 q3 (ix2 ⟨(p : ℕ) * 256 + (r : ℕ), by omega⟩ d) = F r p d := by
  rcases (by omega : (p : ℕ) = 0 ∨ (p : ℕ) = 1 ∨ (p : ℕ) = 2 ∨ (p : ℕ) = 3) with hp | hp | hp | hp
  · obtain rfl : p = 0 := Fin.ext hp
    rw [← h0]; pointwise [stack]
  · obtain rfl : p = 1 := Fin.ext hp
    rw [← h1]; pointwise [stack]
  · obtain rfl : p = 2 := Fin.ext hp
    rw [← h2]; pointwise [stack]; blk_point []
    all_goals (exfalso; omega)
  · obtain rfl : p = 3 := Fin.ext hp
    rw [← h3]; pointwise [stack]; blk_point []
    all_goals (exfalso; omega)

/-- The attention of a block's row, head and lane, from the point's blocks. -/
def head (b0 : Vec Ideal S256x512 .f32) (b1 b2 : Vec Ideal S256x128 .f32) (b3 b4 : Vec Ideal S1x128 .f32) (r : Fin 256) (p : Fin 4) (l : Fin 128) : EReal :=
  att
    (fun j : Fin 256 => (∑ d : Fin 128, (nrm (fun k => b1 (ix2 j k)) d * b4 (ix2 0 d))
      * (nrm (fun k => b0 (ix2 r ⟨(p : ℕ) * 128 + (k : ℕ), by omega⟩)) d * b3 (ix2 0 d))) * Ideal.ofBits .f32 0x3DB504F3#32)
    (fun j => b2 (ix2 j l))

/-- One stacked row of a point's attention, from its blocks. -/
theorem tile_at (b0 : Vec Ideal S256x512 .f32) (b1 b2 : Vec Ideal S256x128 .f32) (b3 b4 : Vec Ideal S1x128 .f32)
    (v79 : Vec Ideal S256x128 .f32) (v81 : Vec Ideal S1x128 .f32) (hv : ∀ (r : Fin 256) (k : Fin 128), v79 (ix2 r k) = b0 (ix2 r ⟨384 + (k : ℕ), by omega⟩))
    (hw : ∀ d : Fin 128, v81 (ix2 0 d) = b3 (ix2 0 d))
    (hgq : ∀ d : Fin 128, IsReal (b3 (ix2 0 d))) (hgk : ∀ d : Fin 128, IsReal (b4 (ix2 0 d))) (r : Fin 256) (p : Fin 4) (l : Fin 128) :
    k0_pay11 (F := Ideal) (k0_pay15 b0 b1 b2 b3 b4) (k0_pay16 b0 b1 b2 b3 b4) (k0_pay17 b0 b1 b2 b3 b4) (k0_pay18 b0 b1 b2 b3 b4)
        (k0_pay19 b0 b1 b2 b3 b4) v79 v81 (ix2 ⟨(p : ℕ) * 256 + (r : ℕ), by omega⟩ l) = head b0 b1 b2 b3 b4 r p l := by
  rw [pay11_eq]
  refine att_at _ _ _ b1 b2 _ l _ _ _ (fun d => ?_) (fun j d => ?_) (fun j => ?_) hgq hgk
  · refine stack_at _ _ _ _ (fun r p d => nrm (fun k => b0 (ix2 r ⟨(p : ℕ) * 128 + (k : ℕ), by omega⟩)) d * b3 (ix2 0 d) * Ideal.ofBits .f32 0x3DB504F3#32)
      (fun r d => ?_) (fun r d => ?_) (fun r d => ?_) (fun r d => ?_) r p d
    · pointwise [k0_pay17, k0_pay8, k0_pay6, k0_pay7, nrm]
    · pointwise [k0_pay18, k0_pay9, nrm]
    · pointwise [k0_pay19, k0_pay10, nrm]
    · pointwise [k0_pay10, nrm, hv, hw]
  · pointwise [k0_pay15, k0_pay4, k0_pay2, nrm]
  · pointwise [k0_pay16, k0_pay5, k0_pay3]

theorem pay12_at (a b c d e : FVec Ideal S256x128 .bf16) (f : Vec Ideal S256x128 .f32) (g : Vec Ideal S1x128 .f32) (r : Fin 256) (l : Fin 128) :
    k0_pay12 (F := Ideal) a b c d e f g (ix2 r l) = k0_pay11 a b c d e f g (ix2 ⟨((0 : Fin 4) : ℕ) * 256 + (r : ℕ), by omega⟩ l) := by
  pointwise [k0_pay12]
theorem pay13_at (a b c d e : FVec Ideal S256x128 .bf16) (f : Vec Ideal S256x128 .f32) (g : Vec Ideal S1x128 .f32) (r : Fin 256) (l : Fin 128) :
    k0_pay13 (F := Ideal) a b c d e f g (ix2 r l) = k0_pay11 a b c d e f g (ix2 ⟨((1 : Fin 4) : ℕ) * 256 + (r : ℕ), by omega⟩ l) := by
  pointwise [k0_pay13]
theorem pay14_at (a b c d e : FVec Ideal S256x128 .bf16) (f : Vec Ideal S256x128 .f32) (g : Vec Ideal S1x128 .f32) (r : Fin 256) (l : Fin 128) :
    k0_pay14 (F := Ideal) a b c d e f g (ix2 r l) = k0_pay11 a b c d e f g (ix2 ⟨((2 : Fin 4) : ℕ) * 256 + (r : ℕ), by omega⟩ l) := by
  pointwise [k0_pay14]
theorem pay1_at (T : FVec Ideal S1024x128 .bf16) (r : Fin 256) (l : Fin 128) :
    k0_pay1 (F := Ideal) T (ix2 r l) = T (ix2 ⟨((3 : Fin 4) : ℕ) * 256 + (r : ℕ), by omega⟩ l) := by
  pointwise [k0_pay1]

theorem head_congr (b0 : Vec Ideal S256x512 .f32) (b1 b2 : Vec Ideal S256x128 .f32) (b3 b4 : Vec Ideal S1x128 .f32) {r r' : Fin 256} {p p' : Fin 4} {l l' : Fin 128}
    (hr : (r' : ℕ) = r) (hp : (p : ℕ) = p') (hl : (l : ℕ) = l') : head b0 b1 b2 b3 b4 r p l = head b0 b1 b2 b3 b4 r' p' l' := by
  obtain rfl := Fin.ext hr; obtain rfl := Fin.ext hp; obtain rfl := Fin.ext hl; rfl

/-- What a point stores into the attention output, read at an index. -/
theorem out5_at (b0 : Vec Ideal S256x512 .f32) (b1 b2 : Vec Ideal S256x128 .f32) (b3 b4 : Vec Ideal S1x128 .f32)
    (hgq : ∀ d : Fin 128, IsReal (b3 (ix2 0 d))) (hgk : ∀ d : Fin 128, IsReal (b4 (ix2 0 d))) (r : Fin 256) (l : Fin 512) :
    out0_5 b0 b1 b2 b3 b4 (ix2 r l) = head b0 b1 b2 b3 b4 r ⟨(l : ℕ) / 128, by omega⟩ ⟨(l : ℕ) % 128, by omega⟩ := by
  unfold out0_5
  canon_tiles x h
  all_goals (idx_vars x; replace h0 : (r : ℕ) = x0 := h0)
  case piece0 =>
    replace h1 : (l : ℕ) = 384 + (x1 : ℕ) := h1
    exact (pay1_at _ x0 x1).trans ((tile_at b0 b1 b2 b3 b4 _ _ (fun r k => by pointwise) (fun d => by pointwise) hgq hgk x0 3 x1).trans
      (head_congr _ _ _ _ _ h0 (by show 3 = (l : ℕ) / 128; omega) (by show (x1 : ℕ) = (l : ℕ) % 128; omega)))
  case piece1 =>
    replace h1 : (l : ℕ) = 256 + (x1 : ℕ) := h1
    exact (pay14_at _ _ _ _ _ _ _ x0 x1).trans ((tile_at b0 b1 b2 b3 b4 _ _ (fun r k => by pointwise) (fun d => by pointwise) hgq hgk x0 2 x1).trans
      (head_congr _ _ _ _ _ h0 (by show 2 = (l : ℕ) / 128; omega) (by show (x1 : ℕ) = (l : ℕ) % 128; omega)))
  case piece2 =>
    replace h1 : (l : ℕ) = 128 + (x1 : ℕ) := h1
    exact (pay13_at _ _ _ _ _ _ _ x0 x1).trans ((tile_at b0 b1 b2 b3 b4 _ _ (fun r k => by pointwise) (fun d => by pointwise) hgq hgk x0 1 x1).trans
      (head_congr _ _ _ _ _ h0 (by show 1 = (l : ℕ) / 128; omega) (by show (x1 : ℕ) = (l : ℕ) % 128; omega)))
  case piece3 =>
    replace h1 : (l : ℕ) = (x1 : ℕ) := h1
    exact (pay12_at _ _ _ _ _ _ _ x0 x1).trans ((tile_at b0 b1 b2 b3 b4 _ _ (fun r k => by pointwise) (fun d => by pointwise) hgq hgk x0 0 x1).trans
      (head_congr _ _ _ _ _ h0 (by show 0 = (l : ℕ) / 128; omega) (by show (x1 : ℕ) = (l : ℕ) % 128; omega)))

/-- What a point stores into the keys. -/
theorem out6_at (b0 : Vec Ideal S256x512 .f32) (b1 b2 : Vec Ideal S256x128 .f32) (b3 b4 : Vec Ideal S1x128 .f32) (r : Fin 256) (l : Fin 128) :
    out0_6 b0 b1 b2 b3 b4 (ix2 r l) = nrm (fun k => b1 (ix2 r k)) l * b4 (ix2 0 l) := by
  unfold out0_6
  frame_out
  pointwise [k0_pay2, nrm]

/-- What a point stores into the values. -/
theorem out7_at (b0 : Vec Ideal S256x512 .f32) (b1 b2 : Vec Ideal S256x128 .f32) (b3 b4 : Vec Ideal S1x128 .f32) (r : Fin 256) (l : Fin 128) :
    out0_7 b0 b1 b2 b3 b4 (ix2 r l) = b2 (ix2 r l) := by
  unfold out0_7
  frame_out
  pointwise [k0_pay3]

variable (m : (ℓ : Loc nD τ sig) → Buf (Elt Ideal) ℓ)

/-! ## The blocks -/

theorem idx : ∀ t : Fin cfg0.N, win0_0.index t = ![t.val / 4, 12 + t.val % 4] ∧ win0_1.index t = ![t.val / 4, 64 + t.val % 4]
    ∧ win0_2.index t = ![t.val / 4, 68 + t.val % 4] ∧ win0_3.index t = ![0, 0] ∧ win0_4.index t = ![0, 0]
    ∧ win0_5.index t = ![t.val / 4, t.val % 4] ∧ win0_6.index t = ![t.val / 4, t.val % 4] ∧ win0_7.index t = ![t.val / 4, t.val % 4] :=
  (by decide +kernel : ∀ t : Fin grid0.N, _)

/-- The two groups' projections, one above the other. -/
def ROWS (a0 : FVec Ideal S16x256x10080 .f32) (a1 : FVec Ideal S4x1024x10080 .f32) : FVec Ideal S8192x10080 .f32 :=
  concatenate S8192x10080 0 [⟨S4096x10080, shapeCast S4096x10080 a0 shapeCasts_S16x256x10080_S4096x10080⟩, ⟨S4096x10080, shapeCast S4096x10080 a1 shapeCasts_S4x1024x10080_S4096x10080⟩] concatenates_S4096x10080_S4096x10080_S8192x10080_d0

/-- The projection's columns in the kernel's order. -/
def PACK (X : FVec Ideal S8192x10080 .f32) : FVec Ideal S8192x10240 .f32 :=
  concatenate S8192x10240 1 [⟨S8192x6144, extractStridedSlice S8192x6144 ![0, 0] X slices_S8192x10080_S8192x6144_0_0⟩,
    ⟨S8192x2048, extractStridedSlice S8192x2048 ![0, 7008] X slices_S8192x10080_S8192x2048_0_7008⟩,
    ⟨S8192x512, extractStridedSlice S8192x512 ![0, 9056] X slices_S8192x10080_S8192x512_0_9056⟩,
    ⟨S8192x512, extractStridedSlice S8192x512 ![0, 9568] X slices_S8192x10080_S8192x512_0_9568⟩,
    ⟨S8192x480, extractStridedSlice S8192x480 ![0, 6144] X slices_S8192x10080_S8192x480_0_6144⟩,
    ⟨S8192x32, broadcastInDim S8192x32 ![] bcast_S_S8192x32 (constant S_ .f32 0x00000000#32)⟩,
    ⟨S8192x256, extractStridedSlice S8192x256 ![0, 6624] X slices_S8192x10080_S8192x256_0_6624⟩,
    ⟨S8192x128, extractStridedSlice S8192x128 ![0, 6880] X slices_S8192x10080_S8192x128_0_6880⟩,
    ⟨S8192x128, broadcastInDim S8192x128 ![] bcast_S_S8192x128 (constant S_ .f32 0x00000000#32)⟩] concatenates_S8192x6144_S8192x2048_S8192x512_S8192x512_S8192x480_S8192x32_S8192x256_S8192x128_S8192x128_S8192x10240_d1

set_option maxHeartbeats 2000000 in
theorem V_packed (c : Dev nD) : V m c main_v12 = PACK (ROWS (m ((c : Thread nD τ).loc main_arg0)) (m ((c : Thread nD τ).loc main_arg1))) := by
  unfold V
  after_reads_simp
  rfl

theorem rows_at (a0 : FVec Ideal S16x256x10080 .f32) (a1 : FVec Ideal S4x1024x10080 .f32) (r : Fin 8192) (l : Fin 10080) (hr : (r : ℕ) < 4096) :
    ROWS a0 a1 (ix2 r l) = a0 (ix3 ⟨(r : ℕ) / 256, by omega⟩ ⟨(r : ℕ) % 256, by omega⟩ l) := by
  pointwise [ROWS]
  exact dif_pos hr

theorem pack_q (X : FVec Ideal S8192x10080 .f32) (r : Fin 8192) (k : Fin 2048) :
    PACK X (ix2 r ⟨6144 + (k : ℕ), by omega⟩) = X (ix2 r ⟨7008 + (k : ℕ), by omega⟩) := by
  pointwise [PACK]

theorem pack_k (X : FVec Ideal S8192x10080 .f32) (r : Fin 8192) (k : Fin 512) :
    PACK X (ix2 r ⟨8192 + (k : ℕ), by omega⟩) = X (ix2 r ⟨9056 + (k : ℕ), by omega⟩) := by
  pointwise [PACK]
  blk_point []
  all_goals (exfalso; omega)

theorem pack_v (X : FVec Ideal S8192x10080 .f32) (r : Fin 8192) (k : Fin 512) :
    PACK X (ix2 r ⟨8704 + (k : ℕ), by omega⟩) = X (ix2 r ⟨9568 + (k : ℕ), by omega⟩) := by
  pointwise [PACK]
  blk_point []
  all_goals (exfalso; omega)

/-- The query block of a point. -/
theorem q_at (c : Dev nD) (t : Fin cfg0.N) (ht : t.val < 64) (r : Fin 256) (k : Fin 512) :
    (iblk m c 0 t : Vec Ideal S256x512 .f32) (ix2 r k) = m ((c : Thread nD τ).loc main_arg0)
      (ix3 ⟨t.val / 4, by omega⟩ r ⟨7008 + (t.val % 4 * 512 + (k : ℕ)), by omega⟩ : S16x256x10080.Idx) := by
  have h : (iblk m c 0 t : Vec Ideal S256x512 .f32) (ix2 r k) = V m c main_v12
      (ix2 ⟨t.val / 4 * 256 + (r : ℕ), by omega⟩ ⟨6144 + (t.val % 4 * 512 + (k : ℕ)), by omega⟩ : S8192x10240.Idx) := by
    blk_point [iblk, idx t]
  rw [h, V_packed]
  refine (pack_q _ ⟨t.val / 4 * 256 + (r : ℕ), by omega⟩ ⟨t.val % 4 * 512 + (k : ℕ), by omega⟩).trans
    ((rows_at _ _ _ _ (by show t.val / 4 * 256 + (r : ℕ) < 4096; omega)).trans ?_)
  exact congrArg (m ((c : Thread nD τ).loc main_arg0)) ((ix3_inj ..).2 ⟨Fin.ext (by dsimp only; omega), Fin.ext (by dsimp only; omega), rfl⟩)

/-- The key block of a point. -/
theorem k_at (c : Dev nD) (t : Fin cfg0.N) (ht : t.val < 64) (r : Fin 256) (k : Fin 128) :
    (iblk m c 1 t : Vec Ideal S256x128 .f32) (ix2 r k) = m ((c : Thread nD τ).loc main_arg0)
      (ix3 ⟨t.val / 4, by omega⟩ r ⟨9056 + (t.val % 4 * 128 + (k : ℕ)), by omega⟩ : S16x256x10080.Idx) := by
  have h : (iblk m c 1 t : Vec Ideal S256x128 .f32) (ix2 r k) = V m c main_v12
      (ix2 ⟨t.val / 4 * 256 + (r : ℕ), by omega⟩ ⟨8192 + (t.val % 4 * 128 + (k : ℕ)), by omega⟩ : S8192x10240.Idx) := by
    blk_point [iblk, idx t]
  rw [h, V_packed]
  refine (pack_k _ ⟨t.val / 4 * 256 + (r : ℕ), by omega⟩ ⟨t.val % 4 * 128 + (k : ℕ), by omega⟩).trans
    ((rows_at _ _ _ _ (by show t.val / 4 * 256 + (r : ℕ) < 4096; omega)).trans ?_)
  exact congrArg (m ((c : Thread nD τ).loc main_arg0)) ((ix3_inj ..).2 ⟨Fin.ext (by dsimp only; omega), Fin.ext (by dsimp only; omega), rfl⟩)

/-- The value block of a point. -/
theorem v_at (c : Dev nD) (t : Fin cfg0.N) (ht : t.val < 64) (r : Fin 256) (k : Fin 128) :
    (iblk m c 2 t : Vec Ideal S256x128 .f32) (ix2 r k) = m ((c : Thread nD τ).loc main_arg0)
      (ix3 ⟨t.val / 4, by omega⟩ r ⟨9568 + (t.val % 4 * 128 + (k : ℕ)), by omega⟩ : S16x256x10080.Idx) := by
  have h : (iblk m c 2 t : Vec Ideal S256x128 .f32) (ix2 r k) = V m c main_v12
      (ix2 ⟨t.val / 4 * 256 + (r : ℕ), by omega⟩ ⟨8704 + (t.val % 4 * 128 + (k : ℕ)), by omega⟩ : S8192x10240.Idx) := by
    blk_point [iblk, idx t]
  rw [h, V_packed]
  refine (pack_v _ ⟨t.val / 4 * 256 + (r : ℕ), by omega⟩ ⟨t.val % 4 * 128 + (k : ℕ), by omega⟩).trans
    ((rows_at _ _ _ _ (by show t.val / 4 * 256 + (r : ℕ) < 4096; omega)).trans ?_)
  exact congrArg (m ((c : Thread nD τ).loc main_arg0)) ((ix3_inj ..).2 ⟨Fin.ext (by dsimp only; omega), Fin.ext (by dsimp only; omega), rfl⟩)

theorem gq_at (c : Dev nD) (t : Fin cfg0.N) (d : Fin 128) :
    (iblk m c 3 t : Vec Ideal S1x128 .f32) (ix2 0 d) = m ((c : Thread nD τ).loc main_arg2) (ix2 0 d : S1x128.Idx) := by
  blk_point [iblk, V, idx t]

theorem gk_at (c : Dev nD) (t : Fin cfg0.N) (d : Fin 128) :
    (iblk m c 4 t : Vec Ideal S1x128 .f32) (ix2 0 d) = m ((c : Thread nD τ).loc main_arg3) (ix2 0 d : S1x128.Idx) := by
  blk_point [iblk, V, idx t]

/-! ## The result arrays -/

open Cert.ReferenceIdeal.Attn (O K V O_at K_at V_at)

/-- The gains are real numbers. -/
def RealGains (c : Dev nD) : Prop :=
  (∀ d : Fin 128, IsReal ((m ((c : Thread nD τ).loc main_arg2)) (ix2 0 d : S1x128.Idx))) ∧ ∀ d : Fin 128, IsReal ((m ((c : Thread nD τ).loc main_arg3)) (ix2 0 d : S1x128.Idx))

theorem point5 (c : Dev nD) (hg : RealGains m c) (t : Fin cfg0.N) (y : S256x512.Idx) :
    out0_5 (iblk m c 0 t) (iblk m c 1 t) (iblk m c 2 t) (iblk m c 3 t) (iblk m c 4 t) y
      = O (m ((c : Thread nD τ).loc main_arg0)) (m ((c : Thread nD τ).loc main_arg2)) (m ((c : Thread nD τ).loc main_arg3)) (((cfg0.win 5).blk t).view.emb y) := by
  have ht : t.val < 64 := lt_of_lt_of_eq t.isLt N_0
  idx_vars y
  have hJ : ((cfg0.win 5).blk t).view.emb (ix2 y0 y1) = (ix2 ⟨t.val / 4 * 256 + (y0 : ℕ), by omega⟩ ⟨t.val % 4 * 512 + (y1 : ℕ), by omega⟩ : S8192x2048.Idx) := by
    blk_ext [idx t]
  rw [hJ]
  refine (out5_at _ _ _ _ _ (fun d => (gq_at m c t d).symm ▸ hg.1 d) (fun d => (gk_at m c t d).symm ▸ hg.2 d) y0 y1).trans
    (Eq.trans ?_ (O_at _ _ _ _ _ (by show t.val / 4 * 256 + (y0 : ℕ) < 4096; omega)).symm)
  unfold head
  refine congrArg₂ att (funext fun j => congrArg (· * Ideal.ofBits .f32 0x3DB504F3#32) (Finset.sum_congr rfl fun d _ =>
    Ideal.mul_congr (Ideal.mul_congr (congrArg (nrm · d) (funext fun k => (k_at m c t ht j k).trans ?_)) (gk_at m c t d))
      (Ideal.mul_congr (congrArg (nrm · d) (funext fun k => (q_at m c t ht y0 ⟨(y1 : ℕ) / 128 * 128 + (k : ℕ), by omega⟩).trans ?_)) (gq_at m c t d))))
    (funext fun j => (v_at m c t ht j ⟨(y1 : ℕ) % 128, by omega⟩).trans ?_)
  · exact congrArg (m ((c : Thread nD τ).loc main_arg0)) ((ix3_inj ..).2 ⟨Fin.ext (by dsimp only; omega), rfl, Fin.ext (by dsimp only; omega)⟩)
  · exact congrArg (m ((c : Thread nD τ).loc main_arg0)) ((ix3_inj ..).2 ⟨Fin.ext (by dsimp only; omega), Fin.ext (by dsimp only; omega), Fin.ext (by dsimp only; omega)⟩)
  · exact congrArg (m ((c : Thread nD τ).loc main_arg0)) ((ix3_inj ..).2 ⟨Fin.ext (by dsimp only; omega), rfl, Fin.ext (by dsimp only; omega)⟩)

theorem final5 (c : Dev nD) (hg : RealGains m c) : (dats m 0 c).arrAt 5 (cfgs 0).N
    = fun i => if (i 0 : ℕ) < 4096 then O (m ((c : Thread nD τ).loc main_arg0)) (m ((c : Thread nD τ).loc main_arg2)) (m ((c : Thread nD τ).loc main_arg3)) i else Gen.V m c main_v17_0 i := by
  refine (dats m 0 c).arrAt_eq_of_coversWhere 5 _ (fun β => β 0 < 16) (by decide +kernel) (fun t hf y => ?_)
    (fun j => by blk_simp [Pipeline.Window.cell_apply]; omega)
  blk_simp
  rw [after0_5]
  exact point5 m c hg t y

theorem point6 (c : Dev nD) (t : Fin cfg0.N) (y : S256x128.Idx) :
    out0_6 (iblk m c 0 t) (iblk m c 1 t) (iblk m c 2 t) (iblk m c 3 t) (iblk m c 4 t) y
      = K (m ((c : Thread nD τ).loc main_arg0)) (m ((c : Thread nD τ).loc main_arg3)) (((cfg0.win 6).blk t).view.emb y) := by
  have ht : t.val < 64 := lt_of_lt_of_eq t.isLt N_0
  idx_vars y
  have hJ : ((cfg0.win 6).blk t).view.emb (ix2 y0 y1) = (ix2 ⟨t.val / 4 * 256 + (y0 : ℕ), by omega⟩ ⟨t.val % 4 * 128 + (y1 : ℕ), by omega⟩ : S4096x512.Idx) := by
    blk_ext [idx t]
  rw [hJ]
  refine (out6_at _ _ _ _ _ y0 y1).trans (Eq.trans ?_ (K_at _ _ _ _).symm)
  have hd : (⟨(t.val % 4 * 128 + (y1 : ℕ)) % 128, by omega⟩ : Fin 128) = y1 := Fin.ext (by dsimp only; omega)
  dsimp only
  rw [hd]
  refine Ideal.mul_congr (congrArg (nrm · y1) (funext fun k => (k_at m c t ht y0 k).trans ?_)) (gk_at m c t y1)
  exact congrArg (m ((c : Thread nD τ).loc main_arg0)) ((ix3_inj ..).2 ⟨Fin.ext (by dsimp only; omega), Fin.ext (by dsimp only; omega), Fin.ext (by dsimp only; omega)⟩)

theorem final6 (c : Dev nD) : (dats m 0 c).arrAt 6 (cfgs 0).N = K (m ((c : Thread nD τ).loc main_arg0)) (m ((c : Thread nD τ).loc main_arg3)) := by
  refine (dats m 0 c).arrAt_eq_of_covers 6 _ (by decide +kernel) fun t _ y => ?_
  blk_simp
  rw [after0_6]
  exact point6 m c t y

theorem point7 (c : Dev nD) (t : Fin cfg0.N) (y : S256x128.Idx) :
    out0_7 (iblk m c 0 t) (iblk m c 1 t) (iblk m c 2 t) (iblk m c 3 t) (iblk m c 4 t) y
      = V (m ((c : Thread nD τ).loc main_arg0)) (((cfg0.win 7).blk t).view.emb y) := by
  have ht : t.val < 64 := lt_of_lt_of_eq t.isLt N_0
  idx_vars y
  have hJ : ((cfg0.win 7).blk t).view.emb (ix2 y0 y1) = (ix2 ⟨t.val / 4 * 256 + (y0 : ℕ), by omega⟩ ⟨t.val % 4 * 128 + (y1 : ℕ), by omega⟩ : S4096x512.Idx) := by
    blk_ext [idx t]
  rw [hJ]
  refine (out7_at _ _ _ _ _ y0 y1).trans (((v_at m c t ht y0 y1)).trans (Eq.trans ?_ (V_at _ _ _).symm))
  exact congrArg (m ((c : Thread nD τ).loc main_arg0)) ((ix3_inj ..).2 ⟨Fin.ext (by dsimp only; omega), Fin.ext (by dsimp only; omega), Fin.ext (by dsimp only; omega)⟩)

theorem final7 (c : Dev nD) : (dats m 0 c).arrAt 7 (cfgs 0).N = V (m ((c : Thread nD τ).loc main_arg0)) := by
  refine (dats m 0 c).arrAt_eq_of_covers 7 _ (by decide +kernel) fun t _ y => ?_
  blk_simp
  rw [after0_7]
  exact point7 m c t y

/-! ## The precondition and the mask -/

theorem gains_of_pre (a0 : FVec Ideal S16x256x10080 .f32) (a1 : FVec Ideal S4x1024x10080 .f32) (a2 a3 : FVec Ideal S1x128 .f32)
    (h : Cert.Pre_finite_gains.fn (F := Ideal) a0 a1 a2 a3 = fun _ => 1#1) :
    (∀ d : Fin 128, IsReal (a2 (ix2 0 d))) ∧ ∀ d : Fin 128, IsReal (a3 (ix2 0 d)) := by
  have h0 := congrFun h ix0
  unfold Cert.Pre_finite_gains.fn at h0
  dsimp only at h0
  obtain ⟨h1, h2⟩ := IntOp.andi_eq_one.1 h0
  exact ⟨fun d => real_of_abs_lt (Host.reduce_andi_all _ _ _ _ _ h1 (ix2 0 d)), fun d => real_of_abs_lt (Host.reduce_andi_all _ _ _ _ _ h2 (ix2 0 d))⟩

theorem mask_rows (a0 : FVec Ideal S16x256x10080 .f32) (a1 : FVec Ideal S4x1024x10080 .f32) (a2 a3 : FVec Ideal S1x128 .f32) (i : S8192x2048.Idx)
    (h : (Cert.On_rows_written.fn (F := Ideal) a0 a1 a2 a3).1 i = 1#1) : (i 0 : ℕ) < 4096 := by
  unfold Cert.On_rows_written.fn at h
  dsimp only at h
  idx_vars i
  pointwise at h
  show (i0 : ℕ) < 4096
  word_cmp at h

end Cert.KernelIdeal.Attn

end
-- ==== Proof.ClaimAttnPrompt.lean ====
module
public import proofs.«01_k».proof.Proof.AttnPrompt
public import proofs.«01_k».proof.Defs
public import proofs.«01_k».proof.Proof.Gen.ReferenceIdeal.Run
public import Idealize.ShloMosaic.Lib.Claim

@[expose] public section
noncomputable section
namespace Cert.Proof
open Idealize.ShloMosaic Idealize.SL.Sem
open Cert.ReferenceIdeal.Attn (O K V)

open Cert.KernelIdeal in
/-- What the kernel's run leaves in its three result arrays, at real gains. -/
theorem kernel_run (m : (ℓ : Loc nD τ sig) → Buf (Elt Ideal) ℓ) (g : Dev nD → PrngReg)
    (hg : ∀ c, Cert.KernelIdeal.Attn.RealGains m c) :
    θ_run defs (onTc (τ := τ) (main (F := Ideal))) ⟨m, fun _ => 0, g⟩ (fun r => ∀ c : Dev nD,
      r.2.mem ((c.tc : Thread nD τ).loc main_v17_0) = (fun i => if (i 0 : ℕ) < 4096
          then O (m ((c.tc : Thread nD τ).loc main_arg0)) (m ((c.tc : Thread nD τ).loc main_arg2)) (m ((c.tc : Thread nD τ).loc main_arg3)) i
          else Gen.V m c main_v17_0 i)
      ∧ r.2.mem ((c.tc : Thread nD τ).loc main_v17_1) = K (m ((c.tc : Thread nD τ).loc main_arg0)) (m ((c.tc : Thread nD τ).loc main_arg3))
      ∧ r.2.mem ((c.tc : Thread nD τ).loc main_v17_2) = V (m ((c.tc : Thread nD τ).loc main_arg0))) :=
  (θ_run defs _ _).mono (fun _ h c => ⟨((h c).1 5).trans (Attn.final5 m c (hg c)), ((h c).1 6).trans (Attn.final6 m c),
    ((h c).1 7).trans (Attn.final7 m c)⟩) (Gen.run_main m g)

/-- Attention over the context tokens: kernel and reference agree at every position the kernel writes. -/
theorem algebraic_attn_prompt : Cert.algebraic_KernelIdeal_ReferenceIdeal_on_rows_written_pre_finite_gains := by
  intro m g m' g' hpre hagree
  refine ⟨fun c => O (m (c.tc.loc Cert.KernelIdeal.main_arg0)) (m (c.tc.loc Cert.KernelIdeal.main_arg2))
      (m (c.tc.loc Cert.KernelIdeal.main_arg3)),
    fun c => K (m (c.tc.loc Cert.KernelIdeal.main_arg0)) (m (c.tc.loc Cert.KernelIdeal.main_arg3)),
    fun c => V (m (c.tc.loc Cert.KernelIdeal.main_arg0)), ?_, ?_⟩
  · have hg : ∀ c, Cert.KernelIdeal.Attn.RealGains m c := fun c => Cert.KernelIdeal.Attn.gains_of_pre _ _ _ _ (hpre c)
    refine (θ_run _ _ _).mono (fun r h c => ?_) (θ_run_and (kernel_run m g hg) (Cert.KernelIdeal.Gen.unchanged m g))
    refine ⟨fun i hi => ?_, fun i _ => congrFun (h.1 c).2.1 i, fun i _ => congrFun (h.1 c).2.2 i, h.2 c⟩
    exact (congrFun (h.1 c).1 i).trans (if_pos (Cert.KernelIdeal.Attn.mask_rows _ _ _ _ i hi))
  · refine (θ_run _ _ _).mono (fun r h c => ?_) (Cert.ReferenceIdeal.Value.run m' g')
    obtain ⟨a0, a1, a2, a3⟩ := hagree c
    obtain ⟨h0, h1, h2, h3⟩ := h c
    refine ⟨fun i _ => congrFun (h0.trans ?_) i, fun i _ => congrFun (h1.trans ?_) i, fun i _ => congrFun (h2.trans ?_) i, h3⟩
    · rw [← a0, ← a2, ← a3]; exact Cert.ReferenceIdeal.Attn.O_eq m' c
    · rw [← a0, ← a3]; rfl
    · rw [← a0]; rfl

end Cert.Proof
end
end
-- ==== Proof.AttnSampleRef.lean ====
/- The reference of the attention over the latent tokens, read index by index. -/
module

public import proofs.«01_k».proof.Proof.Gen.Reference2Ideal.Run
public import proofs.«01_k».proof.Proof.RealNums

@[expose] public section

set_option maxRecDepth 16384

noncomputable section

open Idealize.ShloMosaic Idealize.ShloMosaic.TcCoe Idealize.SL.Sem

namespace Cert.Reference2Ideal.Attn
open Cert.Reference2Ideal Cert.Reference2Ideal.Gen
open Cert.RealNums

/-! ## The reference's terms -/

/-- The frequencies. -/
def freq : FVec Ideal S32 .f32 :=
  Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))

/-- The angles of the grid rows. -/
def angR (F : FVec Ideal S32 .f32) : FVec Ideal S1024x32 .f32 :=
  mulf (broadcastInDim S1024x32 ![0, 1] bcast_S1024x1_S1024x32_0_1 (broadcastInDim S1024x1 ![0] bcast_S1024_S1024x1_0 (shapeCast _ (broadcastInDim S16x64 ![0] bcast_S16_S16x64_0 (sitofp .f32 (iotaInDim S16 32 0))) shapeCasts_S16x64_S1024))) (broadcastInDim S1024x32 ![0, 1] bcast_S1x32_S1024x32_0_1 (broadcastInDim S1x32 ![1] bcast_S32_S1x32_1 F))

/-- The angles of the grid columns. -/
def angC (F : FVec Ideal S32 .f32) : FVec Ideal S1024x32 .f32 :=
  mulf (broadcastInDim S1024x32 ![0, 1] bcast_S1024x1_S1024x32_0_1 (broadcastInDim S1024x1 ![0] bcast_S1024_S1024x1_0 (shapeCast _ (broadcastInDim S16x64 ![0, 1] bcast_S1x64_S16x64_0_1 (shapeCast _ (sitofp .f32 (iotaInDim S64 32 0)) shapeCasts_S64_S1x64)) shapeCasts_S16x64_S1024))) (broadcastInDim S1024x32 ![0, 1] bcast_S1x32_S1024x32_0_1 (broadcastInDim S1x32 ![1] bcast_S32_S1x32_1 F))

/-- The queries before normalisation. -/
def qRaw (a1 : FVec Ideal S4x1024x10080 .f32) : FVec Ideal S4x1024x16x128 .f32 :=
  shapeCast _ (extractStridedSlice S4x1024x2048 ![0, 0, 7008] a1 slices_S4x1024x10080_S4x1024x2048_0_0_7008) shapeCasts_S4x1024x2048_S4x1024x16x128

/-- The keys before normalisation. -/
def kRaw (a1 : FVec Ideal S4x1024x10080 .f32) : FVec Ideal S4x1024x4x128 .f32 :=
  shapeCast _ (extractStridedSlice S4x1024x512 ![0, 0, 9056] a1 slices_S4x1024x10080_S4x1024x512_0_0_9056) shapeCasts_S4x1024x512_S4x1024x4x128

/-- The normalised queries. -/
def qNorm (X : FVec Ideal S4x1024x16x128 .f32) (a4 : FVec Ideal S1x128 .f32) : FVec Ideal S4x1024x16x128 .f32 :=
  mulf (mulf X (broadcastInDim S4x1024x16x128 ![0, 1, 2, 3] bcast_S4x1024x16x1_S4x1024x16x128_0_1_2_3 (Host.rsqrt (addf (Host.divf (broadcastInDim S4x1024x16x1 ![0, 1, 2] bcast_S4x1024x16_S4x1024x16x1_0_1_2 (Host.reduceAdd (mulf X X) (constant S_ .f32 0x00000000#32) reducesTo_S4x1024x16x128_S4x1024x16_d3 h_S_)) (broadcastInDim S4x1024x16x1 ![] bcast_S_S4x1024x16x1 (constant S_ .f32 0x43000000#32))) (broadcastInDim S4x1024x16x1 ![] bcast_S_S4x1024x16x1 (constant S_ .f32 0x358637BD#32)))))) (broadcastInDim S4x1024x16x128 ![0, 1, 2, 3] bcast_S1x1x1x128_S4x1024x16x128_0_1_2_3 (broadcastInDim S1x1x1x128 ![3] bcast_S128_S1x1x1x128_3 (shapeCast _ a4 shapeCasts_S1x128_S128)))

/-- The normalised keys. -/
def kNorm (X : FVec Ideal S4x1024x4x128 .f32) (a5 : FVec Ideal S1x128 .f32) : FVec Ideal S4x1024x4x128 .f32 :=
  mulf (mulf X (broadcastInDim S4x1024x4x128 ![0, 1, 2, 3] bcast_S4x1024x4x1_S4x1024x4x128_0_1_2_3 (Host.rsqrt (addf (Host.divf (broadcastInDim S4x1024x4x1 ![0, 1, 2] bcast_S4x1024x4_S4x1024x4x1_0_1_2 (Host.reduceAdd (mulf X X) (constant S_ .f32 0x00000000#32) reducesTo_S4x1024x4x128_S4x1024x4_d3 h_S_)) (broadcastInDim S4x1024x4x1 ![] bcast_S_S4x1024x4x1 (constant S_ .f32 0x43000000#32))) (broadcastInDim S4x1024x4x1 ![] bcast_S_S4x1024x4x1 (constant S_ .f32 0x358637BD#32)))))) (broadcastInDim S4x1024x4x128 ![0, 1, 2, 3] bcast_S1x1x1x128_S4x1024x4x128_0_1_2_3 (broadcastInDim S1x1x1x128 ![3] bcast_S128_S1x1x1x128_3 (shapeCast _ a5 shapeCasts_S1x128_S128)))

/-- One half of the query lanes turned by its angles. -/
def turn16 (H : FVec Ideal S4x1024x16x64 .f32) (A : FVec Ideal S1024x32 .f32) : FVec Ideal S4x1024x16x64 .f32 :=
  concatenate S4x1024x16x64 3 [⟨S4x1024x16x32, (subf (mulf (extractStridedSlice S4x1024x16x32 ![0, 0, 0, 0] H slices_S4x1024x16x64_S4x1024x16x32_0_0_0_0) (broadcastInDim S4x1024x16x32 ![0, 1, 2, 3] bcast_S1x1024x1x32_S4x1024x16x32_0_1_2_3 (broadcastInDim S1x1024x1x32 ![1, 3] bcast_S1024x32_S1x1024x1x32_1_3 (Host.cos A)))) (mulf (extractStridedSlice S4x1024x16x32 ![0, 0, 0, 32] H slices_S4x1024x16x64_S4x1024x16x32_0_0_0_32) (broadcastInDim S4x1024x16x32 ![0, 1, 2, 3] bcast_S1x1024x1x32_S4x1024x16x32_0_1_2_3 (broadcastInDim S1x1024x1x32 ![1, 3] bcast_S1024x32_S1x1024x1x32_1_3 (Host.sin A)))))⟩, ⟨S4x1024x16x32, (addf (mulf (extractStridedSlice S4x1024x16x32 ![0, 0, 0, 32] H slices_S4x1024x16x64_S4x1024x16x32_0_0_0_32) (broadcastInDim S4x1024x16x32 ![0, 1, 2, 3] bcast_S1x1024x1x32_S4x1024x16x32_0_1_2_3 (broadcastInDim S1x1024x1x32 ![1, 3] bcast_S1024x32_S1x1024x1x32_1_3 (Host.cos A)))) (mulf (extractStridedSlice S4x1024x16x32 ![0, 0, 0, 0] H slices_S4x1024x16x64_S4x1024x16x32_0_0_0_0) (broadcastInDim S4x1024x16x32 ![0, 1, 2, 3] bcast_S1x1024x1x32_S4x1024x16x32_0_1_2_3 (broadcastInDim S1x1024x1x32 ![1, 3] bcast_S1024x32_S1x1024x1x32_1_3 (Host.sin A)))))⟩] concatenates_S4x1024x16x32_S4x1024x16x32_S4x1024x16x64_d3

/-- The turned queries. -/
def rope16 (X : FVec Ideal S4x1024x16x128 .f32) (AR AC : FVec Ideal S1024x32 .f32) : FVec Ideal S4x1024x16x128 .f32 :=
  concatenate S4x1024x16x128 3 [⟨S4x1024x16x64, turn16 (extractStridedSlice S4x1024x16x64 ![0, 0, 0, 0] X slices_S4x1024x16x128_S4x1024x16x64_0_0_0_0) AR⟩, ⟨S4x1024x16x64, turn16 (extractStridedSlice S4x1024x16x64 ![0, 0, 0, 64] X slices_S4x1024x16x128_S4x1024x16x64_0_0_0_64) AC⟩] concatenates_S4x1024x16x64_S4x1024x16x64_S4x1024x16x128_d3

/-- One half of the key lanes turned by its angles. -/
def turn4 (H : FVec Ideal S4x1024x4x64 .f32) (A : FVec Ideal S1024x32 .f32) : FVec Ideal S4x1024x4x64 .f32 :=
  concatenate S4x1024x4x64 3 [⟨S4x1024x4x32, (subf (mulf (extractStridedSlice S4x1024x4x32 ![0, 0, 0, 0] H slices_S4x1024x4x64_S4x1024x4x32_0_0_0_0) (broadcastInDim S4x1024x4x32 ![0, 1, 2, 3] bcast_S1x1024x1x32_S4x1024x4x32_0_1_2_3 (broadcastInDim S1x1024x1x32 ![1, 3] bcast_S1024x32_S1x1024x1x32_1_3 (Host.cos A)))) (mulf (extractStridedSlice S4x1024x4x32 ![0, 0, 0, 32] H slices_S4x1024x4x64_S4x1024x4x32_0_0_0_32) (broadcastInDim S4x1024x4x32 ![0, 1, 2, 3] bcast_S1x1024x1x32_S4x1024x4x32_0_1_2_3 (broadcastInDim S1x1024x1x32 ![1, 3] bcast_S1024x32_S1x1024x1x32_1_3 (Host.sin A)))))⟩, ⟨S4x1024x4x32, (addf (mulf (extractStridedSlice S4x1024x4x32 ![0, 0, 0, 32] H slices_S4x1024x4x64_S4x1024x4x32_0_0_0_32) (broadcastInDim S4x1024x4x32 ![0, 1, 2, 3] bcast_S1x1024x1x32_S4x1024x4x32_0_1_2_3 (broadcastInDim S1x1024x1x32 ![1, 3] bcast_S1024x32_S1x1024x1x32_1_3 (Host.cos A)))) (mulf (extractStridedSlice S4x1024x4x32 ![0, 0, 0, 0] H slices_S4x1024x4x64_S4x1024x4x32_0_0_0_0) (broadcastInDim S4x1024x4x32 ![0, 1, 2, 3] bcast_S1x1024x1x32_S4x1024x4x32_0_1_2_3 (broadcastInDim S1x1024x1x32 ![1, 3] bcast_S1024x32_S1x1024x1x32_1_3 (Host.sin A)))))⟩] concatenates_S4x1024x4x32_S4x1024x4x32_S4x1024x4x64_d3

/-- The turned keys. -/
def rope4 (X : FVec Ideal S4x1024x4x128 .f32) (AR AC : FVec Ideal S1024x32 .f32) : FVec Ideal S4x1024x4x128 .f32 :=
  concatenate S4x1024x4x128 3 [⟨S4x1024x4x64, turn4 (extractStridedSlice S4x1024x4x64 ![0, 0, 0, 0] X slices_S4x1024x4x128_S4x1024x4x64_0_0_0_0) AR⟩, ⟨S4x1024x4x64, turn4 (extractStridedSlice S4x1024x4x64 ![0, 0, 0, 64] X slices_S4x1024x4x128_S4x1024x4x64_0_0_0_64) AC⟩] concatenates_S4x1024x4x64_S4x1024x4x64_S4x1024x4x128_d3

/-- The queries, grouped by the key head they attend. -/
def qs (X : FVec Ideal S4x1024x16x128 .f32) : FVec Ideal S4x1024x4x4x128 .f32 := shapeCast _ X shapeCasts_S4x1024x16x128_S4x1024x4x4x128

/-- The cached entries followed by the latent tokens' own. -/
def joined (P : FVec Ideal S4x1x512x4x128 .f32) (X : FVec Ideal S4x1024x4x128 .f32) : FVec Ideal S4x1536x4x128 .f32 :=
  concatenate S4x1536x4x128 1 [⟨S4x512x4x128, (shapeCast _ P shapeCasts_S4x1x512x4x128_S4x512x4x128)⟩, ⟨S4x1024x4x128, X⟩] concatenates_S4x512x4x128_S4x1024x4x128_S4x1536x4x128_d1

/-- The values. -/
def vals (a1 : FVec Ideal S4x1024x10080 .f32) : FVec Ideal S4x1024x4x128 .f32 :=
  shapeCast _ (extractStridedSlice S4x1024x512 ![0, 0, 9568] a1 slices_S4x1024x10080_S4x1024x512_0_0_9568) shapeCasts_S4x1024x512_S4x1024x4x128

/-- The products of keys and queries. -/
def prods (KN : FVec Ideal S4x1536x4x128 .f32) (QN : FVec Ideal S4x1024x4x4x128 .f32) : FVec Ideal S4x4x1536x1024x4 .f32 :=
  Host.dotGeneral dot_S4x1536x4x128_S4x1024x4x4x128_S4x4x1536x1024x4_3_4_1_13_02_02 none KN QN

/-- The scores. -/
def scores (P : FVec Ideal S4x4x1536x1024x4 .f32) : FVec Ideal S4x4x4x1024x1536 .f32 :=
  mulf (transpose S4x4x4x1024x1536 [0, 1, 4, 3, 2] P transposes_S4x4x1536x1024x4_S4x4x4x1024x1536_0_1_4_3_2) (broadcastInDim S4x4x4x1024x1536 ![] bcast_S_S4x4x4x1024x1536 (constant S_ .f32 0x3DB504F3#32))

/-- Each row's largest score. -/
def mx (S : FVec Ideal S4x4x4x1024x1536 .f32) : FVec Ideal S4x4x4x1024 .f32 :=
  Host.reduce FloatOps.maximumf S (constant S_ .f32 0xFF800000#32) reducesTo_S4x4x4x1024x1536_S4x4x4x1024_d4 h_S_

/-- The exponentials of the scores less a row value. -/
def expoLess (M : FVec Ideal S4x4x4x1024 .f32) (S : FVec Ideal S4x4x4x1024x1536 .f32) : FVec Ideal S4x4x4x1024x1536 .f32 :=
  Host.exp (subf S (broadcastInDim S4x4x4x1024x1536 ![0, 1, 2, 3, 4] bcast_S4x4x4x1024x1_S4x4x4x1024x1536_0_1_2_3_4 (broadcastInDim S4x4x4x1024x1 ![0, 1, 2, 3] bcast_S4x4x4x1024_S4x4x4x1024x1_0_1_2_3 (maximumf (broadcastInDim S4x4x4x1024 ![] bcast_S_S4x4x4x1024 (constant S_ .f32 0xFF800000#32)) M))))

/-- The exponentials of the scores less their row's largest. -/
def expo (S : FVec Ideal S4x4x4x1024x1536 .f32) : FVec Ideal S4x4x4x1024x1536 .f32 := expoLess (mx S) S

/-- The attended values under the rows already there. -/
def outOf (a6 : FVec Ideal S8192x2048 .bf16) (V : FVec Ideal S4x1536x4x128 .f32) (E : FVec Ideal S4x4x4x1024x1536 .f32) : FVec Ideal S8192x2048 .bf16 :=
  concatenate S8192x2048 0 [⟨S4096x2048, (extractStridedSlice S4096x2048 ![0, 0] a6 slices_S8192x2048_S4096x2048_0_0)⟩, ⟨S4096x2048, (truncf .bf16 (shapeCast _ (transpose S4x1024x4x4x128 [0, 4, 1, 3, 2] (Host.dotGeneral dot_S4x1536x4x128_S4x4x4x1024x1536_S4x4x128x4x1024_1_4_3_23_02_01 none V (Host.divf E (broadcastInDim S4x4x4x1024x1536 ![0, 1, 2, 3, 4] bcast_S4x4x4x1024x1_S4x4x4x1024x1536_0_1_2_3_4 (broadcastInDim S4x4x4x1024x1 ![0, 1, 2, 3] bcast_S4x4x4x1024_S4x4x4x1024x1_0_1_2_3 (Host.reduceAdd E (constant S_ .f32 0x00000000#32) reducesTo_S4x4x4x1024x1536_S4x4x4x1024_d4 h_S_))))) transposes_S4x4x128x4x1024_S4x1024x4x4x128_0_4_1_3_2) shapeCasts_S4x1024x4x4x128_S4096x2048) bitsLt_bf16_f32)⟩] concatenates_S4096x2048_S4096x2048_S8192x2048_d0

/-- The reference's output as a term of the arguments. -/
def O (a1 : FVec Ideal S4x1024x10080 .f32) (a2 a3 : FVec Ideal S4x1x512x4x128 .f32) (a4 a5 : FVec Ideal S1x128 .f32) (a6 : FVec Ideal S8192x2048 .bf16) :
    FVec Ideal S8192x2048 .bf16 :=
  outOf a6 (joined a3 (vals a1)) (expo (scores (prods (joined a2 (rope4 (kNorm (kRaw a1) a5) (angR freq) (angC freq)))
    (qs (rope16 (qNorm (qRaw a1) a4) (angR freq) (angC freq))))))

/-! ## At an index -/

/-- A number below `2 ^ 32` as the word's float. -/
def posn (n : ℕ) : EReal := FloatOps.sitofp (F := Ideal) .f32 (BitVec.ofNat 32 n)

/-- One frequency. -/
def frq (k : ℕ) : EReal :=
  Ideal.pow (Ideal.ofBits .f32 0x461C4000#32) (Ideal.div (-posn k) (Ideal.ofBits .f32 0x42000000#32))

theorem freq_at (k : Fin 32) : freq (ix1 k) = frq k := by
  pointwise [freq, frq, posn]

theorem angR_at (F : FVec Ideal S32 .f32) (n : Fin 1024) (k : Fin 32) : angR F (ix2 n k) = posn ((n : ℕ) / 64) * F (ix1 k) := by
  pointwise [angR, posn]

theorem angC_at (F : FVec Ideal S32 .f32) (n : Fin 1024) (k : Fin 32) : angC F (ix2 n k) = posn ((n : ℕ) % 64) * F (ix1 k) := by
  pointwise [angC, posn]

/-- The angle of a token's lane. -/
def ang (n : ℕ) (l : ℕ) : EReal := posn (if l < 64 then n / 64 else n % 64) * frq (l % 32)

/-- A row with its lanes turned in pairs. -/
def rot (x : Fin 128 → EReal) (n : ℕ) (l : Fin 128) : EReal :=
  if h : (l : ℕ) % 64 < 32 then x l * Ideal.cos (ang n l) - x ⟨(l : ℕ) + 32, by omega⟩ * Ideal.sin (ang n l)
  else x l * Ideal.cos (ang n l) + x ⟨(l : ℕ) - 32, by omega⟩ * Ideal.sin (ang n l)

theorem lane_cases (l : Fin 128) : ∃ k : Fin 32, l = ⟨(k : ℕ), by omega⟩ ∨ l = ⟨32 + (k : ℕ), by omega⟩ ∨ l = ⟨64 + (k : ℕ), by omega⟩ ∨ l = ⟨64 + (32 + (k : ℕ)), by omega⟩ := by
  refine ⟨⟨(l : ℕ) % 32, by omega⟩, ?_⟩
  simp only [Fin.ext_iff]
  omega

theorem rot_lo (x : Fin 128 → EReal) (n : ℕ) (l l' : Fin 128) (p k : ℕ) (h : (l : ℕ) % 64 < 32) (hl : (l' : ℕ) = (l : ℕ) + 32)
    (hp : (if (l : ℕ) < 64 then n / 64 else n % 64) = p) (hk : (l : ℕ) % 32 = k) :
    rot x n l = x l * Ideal.cos (posn p * frq k) - x l' * Ideal.sin (posn p * frq k) := by
  subst hp hk
  obtain ⟨l', hl'⟩ := l'
  dsimp only at hl
  subst hl
  exact dif_pos h

theorem rot_hi (x : Fin 128 → EReal) (n : ℕ) (l l' : Fin 128) (p k : ℕ) (h : ¬ (l : ℕ) % 64 < 32) (hl : (l' : ℕ) = (l : ℕ) - 32)
    (hp : (if (l : ℕ) < 64 then n / 64 else n % 64) = p) (hk : (l : ℕ) % 32 = k) :
    rot x n l = x l * Ideal.cos (posn p * frq k) + x l' * Ideal.sin (posn p * frq k) := by
  subst hp hk
  obtain ⟨l', hl'⟩ := l'
  dsimp only at hl
  subst hl
  exact dif_neg h

theorem rot_0 (x : Fin 128 → EReal) (n : ℕ) (k : Fin 32) : rot x n ⟨(k : ℕ), by omega⟩
    = x ⟨(k : ℕ), by omega⟩ * Ideal.cos (posn (n / 64) * frq k) - x ⟨32 + (k : ℕ), by omega⟩ * Ideal.sin (posn (n / 64) * frq k) :=
  rot_lo x n _ _ _ _ (by dsimp only; omega) (by dsimp only; omega) (if_pos (by dsimp only; omega)) (by dsimp only; omega)

theorem rot_1 (x : Fin 128 → EReal) (n : ℕ) (k : Fin 32) : rot x n ⟨32 + (k : ℕ), by omega⟩
    = x ⟨32 + (k : ℕ), by omega⟩ * Ideal.cos (posn (n / 64) * frq k) + x ⟨(k : ℕ), by omega⟩ * Ideal.sin (posn (n / 64) * frq k) :=
  rot_hi x n _ _ _ _ (by dsimp only; omega) (by dsimp only; omega) (if_pos (by dsimp only; omega)) (by dsimp only; omega)

theorem rot_2 (x : Fin 128 → EReal) (n : ℕ) (k : Fin 32) : rot x n ⟨64 + (k : ℕ), by omega⟩
    = x ⟨64 + (k : ℕ), by omega⟩ * Ideal.cos (posn (n % 64) * frq k) - x ⟨64 + (32 + (k : ℕ)), by omega⟩ * Ideal.sin (posn (n % 64) * frq k) :=
  rot_lo x n _ _ _ _ (by dsimp only; omega) (by dsimp only; omega) (if_neg (by dsimp only; omega)) (by dsimp only; omega)

theorem rot_3 (x : Fin 128 → EReal) (n : ℕ) (k : Fin 32) : rot x n ⟨64 + (32 + (k : ℕ)), by omega⟩
    = x ⟨64 + (32 + (k : ℕ)), by omega⟩ * Ideal.cos (posn (n % 64) * frq k) + x ⟨64 + (k : ℕ), by omega⟩ * Ideal.sin (posn (n % 64) * frq k) :=
  rot_hi x n _ _ _ _ (by dsimp only; omega) (by dsimp only; omega) (if_neg (by dsimp only; omega)) (by dsimp only; omega)

theorem posn_real (n : ℕ) : IsReal (posn n) := ⟨_, rfl⟩

theorem frq_real (k : ℕ) : IsReal (frq k) := by
  obtain ⟨x, hx⟩ := posn_real k
  have h32 : Ideal.ofBits .f32 0x42000000#32 = ((32 : ℝ) : EReal) := by
    simp [Ideal.ofBits, Ideal.ieee, -EReal.coe_mul]; norm_num
  have hb : IsReal (Ideal.ofBits .f32 0x461C4000#32) := by simp only [Ideal.ofBits, Ideal.ieee]; exact ⟨_, rfl⟩
  obtain ⟨y, hy⟩ := hb
  unfold frq
  rw [hx, h32, hy, ← EReal.coe_neg, Ideal.div_coe (by norm_num : (32 : ℝ) ≠ 0), ← EReal.coe_mul]
  exact ⟨_, rfl⟩

theorem cos_real {x : EReal} (h : IsReal x) : IsReal (Ideal.cos x) := by obtain ⟨r, rfl⟩ := h; exact ⟨_, rfl⟩
theorem sin_real {x : EReal} (h : IsReal x) : IsReal (Ideal.sin x) := by obtain ⟨r, rfl⟩ := h; exact ⟨_, rfl⟩
theorem ang_real (n l : ℕ) : IsReal (ang n l) := (posn_real _).mul (frq_real _)

/-- A turned real row is real. -/
theorem rot_real {x : Fin 128 → EReal} (hx : ∀ k, IsReal (x k)) (n : ℕ) (l : Fin 128) : IsReal (rot x n l) := by
  unfold rot
  split
  · exact ((hx _).mul (cos_real (ang_real _ _))).sub ((hx _).mul (sin_real (ang_real _ _)))
  · exact ((hx _).mul (cos_real (ang_real _ _))).add ((hx _).mul (sin_real (ang_real _ _)))

theorem turn16_lo (H : FVec Ideal S4x1024x16x64 .f32) (A : FVec Ideal S1024x32 .f32) (b : Fin 4) (n : Fin 1024) (h : Fin 16) (k : Fin 32) :
    turn16 H A (ix4 b n h ⟨(k : ℕ), by omega⟩) = H (ix4 b n h ⟨(k : ℕ), by omega⟩) * Ideal.cos (A (ix2 n k)) - H (ix4 b n h ⟨32 + (k : ℕ), by omega⟩) * Ideal.sin (A (ix2 n k)) := by
  pointwise [turn16]

theorem turn16_hi (H : FVec Ideal S4x1024x16x64 .f32) (A : FVec Ideal S1024x32 .f32) (b : Fin 4) (n : Fin 1024) (h : Fin 16) (k : Fin 32) :
    turn16 H A (ix4 b n h ⟨32 + (k : ℕ), by omega⟩) = H (ix4 b n h ⟨32 + (k : ℕ), by omega⟩) * Ideal.cos (A (ix2 n k)) + H (ix4 b n h ⟨(k : ℕ), by omega⟩) * Ideal.sin (A (ix2 n k)) := by
  pointwise [turn16]

theorem rope16_lo (X : FVec Ideal S4x1024x16x128 .f32) (AR AC : FVec Ideal S1024x32 .f32) (b : Fin 4) (n : Fin 1024) (h : Fin 16) (k : Fin 64) :
    rope16 X AR AC (ix4 b n h ⟨(k : ℕ), by omega⟩)
      = turn16 (extractStridedSlice S4x1024x16x64 ![0, 0, 0, 0] X slices_S4x1024x16x128_S4x1024x16x64_0_0_0_0) AR (ix4 b n h k) := by
  pointwise [rope16]

theorem rope16_hi (X : FVec Ideal S4x1024x16x128 .f32) (AR AC : FVec Ideal S1024x32 .f32) (b : Fin 4) (n : Fin 1024) (h : Fin 16) (k : Fin 64) :
    rope16 X AR AC (ix4 b n h ⟨64 + (k : ℕ), by omega⟩)
      = turn16 (extractStridedSlice S4x1024x16x64 ![0, 0, 0, 64] X slices_S4x1024x16x128_S4x1024x16x64_0_0_0_64) AC (ix4 b n h k) := by
  pointwise [rope16]

theorem rope16_at (X : FVec Ideal S4x1024x16x128 .f32) (b : Fin 4) (n : Fin 1024) (h : Fin 16) (l : Fin 128) :
    rope16 X (angR freq) (angC freq) (ix4 b n h l) = rot (fun k => X (ix4 b n h k)) n l := by
  rcases lane_cases l with ⟨k, rfl | rfl | rfl | rfl⟩
  · refine (rope16_lo X _ _ b n h ⟨(k : ℕ), by omega⟩).trans ((turn16_lo _ _ b n h k).trans ?_)
    rw [angR_at, freq_at, rot_0]
    pointwise []
  · refine (rope16_lo X _ _ b n h ⟨32 + (k : ℕ), by omega⟩).trans ((turn16_hi _ _ b n h k).trans ?_)
    rw [angR_at, freq_at, rot_1]
    pointwise []
  · refine (rope16_hi X _ _ b n h ⟨(k : ℕ), by omega⟩).trans ((turn16_lo _ _ b n h k).trans ?_)
    rw [angC_at, freq_at, rot_2]
    pointwise []
  · refine (rope16_hi X _ _ b n h ⟨32 + (k : ℕ), by omega⟩).trans ((turn16_hi _ _ b n h k).trans ?_)
    rw [angC_at, freq_at, rot_3]
    pointwise []

theorem turn4_lo (H : FVec Ideal S4x1024x4x64 .f32) (A : FVec Ideal S1024x32 .f32) (b : Fin 4) (n : Fin 1024) (h : Fin 4) (k : Fin 32) :
    turn4 H A (ix4 b n h ⟨(k : ℕ), by omega⟩) = H (ix4 b n h ⟨(k : ℕ), by omega⟩) * Ideal.cos (A (ix2 n k)) - H (ix4 b n h ⟨32 + (k : ℕ), by omega⟩) * Ideal.sin (A (ix2 n k)) := by
  pointwise [turn4]

theorem turn4_hi (H : FVec Ideal S4x1024x4x64 .f32) (A : FVec Ideal S1024x32 .f32) (b : Fin 4) (n : Fin 1024) (h : Fin 4) (k : Fin 32) :
    turn4 H A (ix4 b n h ⟨32 + (k : ℕ), by omega⟩) = H (ix4 b n h ⟨32 + (k : ℕ), by omega⟩) * Ideal.cos (A (ix2 n k)) + H (ix4 b n h ⟨(k : ℕ), by omega⟩) * Ideal.sin (A (ix2 n k)) := by
  pointwise [turn4]

theorem rope4_lo (X : FVec Ideal S4x1024x4x128 .f32) (AR AC : FVec Ideal S1024x32 .f32) (b : Fin 4) (n : Fin 1024) (h : Fin 4) (k : Fin 64) :
    rope4 X AR AC (ix4 b n h ⟨(k : ℕ), by omega⟩)
      = turn4 (extractStridedSlice S4x1024x4x64 ![0, 0, 0, 0] X slices_S4x1024x4x128_S4x1024x4x64_0_0_0_0) AR (ix4 b n h k) := by
  pointwise [rope4]

theorem rope4_hi (X : FVec Ideal S4x1024x4x128 .f32) (AR AC : FVec Ideal S1024x32 .f32) (b : Fin 4) (n : Fin 1024) (h : Fin 4) (k : Fin 64) :
    rope4 X AR AC (ix4 b n h ⟨64 + (k : ℕ), by omega⟩)
      = turn4 (extractStridedSlice S4x1024x4x64 ![0, 0, 0, 64] X slices_S4x1024x4x128_S4x1024x4x64_0_0_0_64) AC (ix4 b n h k) := by
  pointwise [rope4]

theorem rope4_at (X : FVec Ideal S4x1024x4x128 .f32) (b : Fin 4) (n : Fin 1024) (h : Fin 4) (l : Fin 128) :
    rope4 X (angR freq) (angC freq) (ix4 b n h l) = rot (fun k => X (ix4 b n h k)) n l := by
  rcases lane_cases l with ⟨k, rfl | rfl | rfl | rfl⟩
  · refine (rope4_lo X _ _ b n h ⟨(k : ℕ), by omega⟩).trans ((turn4_lo _ _ b n h k).trans ?_)
    rw [angR_at, freq_at, rot_0]
    pointwise []
  · refine (rope4_lo X _ _ b n h ⟨32 + (k : ℕ), by omega⟩).trans ((turn4_hi _ _ b n h k).trans ?_)
    rw [angR_at, freq_at, rot_1]
    pointwise []
  · refine (rope4_hi X _ _ b n h ⟨(k : ℕ), by omega⟩).trans ((turn4_lo _ _ b n h k).trans ?_)
    rw [angC_at, freq_at, rot_2]
    pointwise []
  · refine (rope4_hi X _ _ b n h ⟨32 + (k : ℕ), by omega⟩).trans ((turn4_hi _ _ b n h k).trans ?_)
    rw [angC_at, freq_at, rot_3]
    pointwise []

theorem qNorm_at (a1 : FVec Ideal S4x1024x10080 .f32) (a4 : FVec Ideal S1x128 .f32) (b : Fin 4) (n : Fin 1024) (h : Fin 16) (d : Fin 128) :
    qNorm (qRaw a1) a4 (ix4 b n h d) = nrm (fun k => a1 (ix3 b n ⟨7008 + ((h : ℕ) * 128 + (k : ℕ)), by omega⟩)) d * a4 (ix2 0 d) := by
  pointwise [qNorm, qRaw, nrm]

theorem kNorm_at (a1 : FVec Ideal S4x1024x10080 .f32) (a5 : FVec Ideal S1x128 .f32) (b : Fin 4) (n : Fin 1024) (h : Fin 4) (d : Fin 128) :
    kNorm (kRaw a1) a5 (ix4 b n h d) = nrm (fun k => a1 (ix3 b n ⟨9056 + ((h : ℕ) * 128 + (k : ℕ)), by omega⟩)) d * a5 (ix2 0 d) := by
  pointwise [kNorm, kRaw, nrm]

theorem vals_at (a1 : FVec Ideal S4x1024x10080 .f32) (b : Fin 4) (n : Fin 1024) (h : Fin 4) (d : Fin 128) :
    vals a1 (ix4 b n h d) = a1 (ix3 b n ⟨9568 + ((h : ℕ) * 128 + (d : ℕ)), by omega⟩) := by
  pointwise [vals]

theorem qs_at (X : FVec Ideal S4x1024x16x128 .f32) (b : Fin 4) (n : Fin 1024) (h g : Fin 4) (d : Fin 128) :
    qs X (ix5 b n h g d) = X (ix4 b n ⟨(h : ℕ) * 4 + (g : ℕ), by omega⟩ d) := by
  pointwise [qs]

theorem joined_lo (P : FVec Ideal S4x1x512x4x128 .f32) (X : FVec Ideal S4x1024x4x128 .f32) (b : Fin 4) (j : Fin 512) (h : Fin 4) (d : Fin 128) :
    joined P X (ix4 b ⟨(j : ℕ), by omega⟩ h d) = P (ix5 b 0 j h d) := by
  pointwise [joined]

theorem joined_hi (P : FVec Ideal S4x1x512x4x128 .f32) (X : FVec Ideal S4x1024x4x128 .f32) (b : Fin 4) (j : Fin 1024) (h : Fin 4) (d : Fin 128) :
    joined P X (ix4 b ⟨512 + (j : ℕ), by omega⟩ h d) = X (ix4 b j h d) := by
  pointwise [joined]

theorem prods_at (KN : FVec Ideal S4x1536x4x128 .f32) (QN : FVec Ideal S4x1024x4x4x128 .f32) (b : Fin 4) (h g : Fin 4) (i : Fin 1024) (j : Fin 1536) :
    prods KN QN (ix5 b h j i g) = ∑ d : Fin 128, KN (ix4 b j h d) * QN (ix5 b i h g d) := by
  pointwise [prods]

theorem scores_at (P : FVec Ideal S4x4x1536x1024x4 .f32) (b : Fin 4) (h g : Fin 4) (i : Fin 1024) (j : Fin 1536) :
    scores P (ix5 b h g i j) = P (ix5 b h j i g) * Ideal.ofBits .f32 0x3DB504F3#32 := by
  pointwise [scores]

theorem mx_at (S : FVec Ideal S4x4x4x1024x1536 .f32) (b : Fin 4) (h g : Fin 4) (i : Fin 1024) :
    mx S (ix4 b h g i) = Finset.univ.fold Max.max ⊥ (fun j : Fin 1536 => S (ix5 b h g i j)) := by
  pointwise [mx]
  rw [bits_bot]

theorem expoLess_at (M : FVec Ideal S4x4x4x1024 .f32) (S : FVec Ideal S4x4x4x1024x1536 .f32) (b : Fin 4) (h g : Fin 4) (i : Fin 1024) (j : Fin 1536) :
    expoLess M S (ix5 b h g i j) = Ideal.exp (S (ix5 b h g i j) - M (ix4 b h g i)) := by
  pointwise [expoLess]
  rw [bits_bot, max_bot_left]

theorem expo_at (S : FVec Ideal S4x4x4x1024x1536 .f32) (b : Fin 4) (h g : Fin 4) (i : Fin 1024) (j : Fin 1536) :
    expo S (ix5 b h g i j) = wt (fun j => S (ix5 b h g i j)) j := by
  unfold expo wt
  rw [expoLess_at, mx_at]

theorem outOf_hi (a6 : FVec Ideal S8192x2048 .bf16) (V : FVec Ideal S4x1536x4x128 .f32) (E : FVec Ideal S4x4x4x1024x1536 .f32) (r : Fin 4096) (l : Fin 2048) :
    outOf a6 V E (ix2 ⟨4096 + (r : ℕ), by omega⟩ l) = ∑ j : Fin 1536, V (ix4 ⟨(r : ℕ) / 1024, by omega⟩ j ⟨(l : ℕ) / 512, by omega⟩ ⟨(l : ℕ) % 128, by omega⟩)
      * Ideal.div (E (ix5 ⟨(r : ℕ) / 1024, by omega⟩ ⟨(l : ℕ) / 512, by omega⟩ ⟨(l : ℕ) / 128 % 4, by omega⟩ ⟨(r : ℕ) % 1024, by omega⟩ j))
        (∑ k : Fin 1536, E (ix5 ⟨(r : ℕ) / 1024, by omega⟩ ⟨(l : ℕ) / 512, by omega⟩ ⟨(l : ℕ) / 128 % 4, by omega⟩ ⟨(r : ℕ) % 1024, by omega⟩ k)) := by
  pointwise [outOf]

theorem outOf_lo (a6 : FVec Ideal S8192x2048 .bf16) (V : FVec Ideal S4x1536x4x128 .f32) (E : FVec Ideal S4x4x4x1024x1536 .f32) (r : Fin 4096) (l : Fin 2048) :
    outOf a6 V E (ix2 ⟨(r : ℕ), by omega⟩ l) = a6 (ix2 ⟨(r : ℕ), by omega⟩ l) := by
  pointwise [outOf]

/-- The rows before the latent tokens' are the ones given. -/
theorem O_lo (a1 : FVec Ideal S4x1024x10080 .f32) (a2 a3 : FVec Ideal S4x1x512x4x128 .f32) (a4 a5 : FVec Ideal S1x128 .f32) (a6 : FVec Ideal S8192x2048 .bf16)
    (r : Fin 4096) (l : Fin 2048) : O a1 a2 a3 a4 a5 a6 (ix2 ⟨(r : ℕ), by omega⟩ l) = a6 (ix2 ⟨(r : ℕ), by omega⟩ l) := outOf_lo _ _ _ r l

/-- Attention of one query over the cached and the latent tokens, with the scale and the normalisation late. -/
def attTwo (q : Fin 128 → EReal) (k1 : Fin 512 → Fin 128 → EReal) (k2 : Fin 1024 → Fin 128 → EReal) (v1 : Fin 512 → EReal) (v2 : Fin 1024 → EReal) : EReal :=
  att (n := 512 + 1024)
    (Fin.addCases (fun j => (∑ d : Fin 128, k1 j d * q d) * Ideal.ofBits .f32 0x3DB504F3#32)
      (fun j => (∑ d : Fin 128, k2 j d * q d) * Ideal.ofBits .f32 0x3DB504F3#32))
    (Fin.addCases v1 v2)

/-- THE REFERENCE'S ATTENTION at a latent token, key head, query head and lane. -/
theorem O_hi (a1 : FVec Ideal S4x1024x10080 .f32) (a2 a3 : FVec Ideal S4x1x512x4x128 .f32) (a4 a5 : FVec Ideal S1x128 .f32) (a6 : FVec Ideal S8192x2048 .bf16)
    (b : Fin 4) (n : Fin 1024) (h g : Fin 4) (d : Fin 128) (R : Fin 8192) (L : Fin 2048)
    (hR : (R : ℕ) = 4096 + ((b : ℕ) * 1024 + (n : ℕ))) (hL : (L : ℕ) = (h : ℕ) * 512 + ((g : ℕ) * 128 + (d : ℕ))) :
    O a1 a2 a3 a4 a5 a6 (ix2 R L) = attTwo
      (rot (fun e => nrm (fun k => a1 (ix3 b n ⟨7008 + (((h : ℕ) * 4 + (g : ℕ)) * 128 + (k : ℕ)), by omega⟩)) e * a4 (ix2 0 e)) n)
      (fun j e => a2 (ix5 b 0 j h e))
      (fun j => rot (fun e => nrm (fun k => a1 (ix3 b j ⟨9056 + ((h : ℕ) * 128 + (k : ℕ)), by omega⟩)) e * a5 (ix2 0 e)) j)
      (fun j => a3 (ix5 b 0 j h d))
      (fun j => a1 (ix3 b j ⟨9568 + ((h : ℕ) * 128 + (d : ℕ)), by omega⟩)) := by
  obtain ⟨R, hR'⟩ := R
  dsimp only at hR
  subst hR
  refine (outOf_hi a6 _ _ ⟨(b : ℕ) * 1024 + (n : ℕ), by omega⟩ L).trans ?_
  have eb : (⟨(⟨(b : ℕ) * 1024 + (n : ℕ), by omega⟩ : Fin 4096).val / 1024, by dsimp only; omega⟩ : Fin 4) = b := Fin.ext (by dsimp only; omega)
  have en : (⟨(⟨(b : ℕ) * 1024 + (n : ℕ), by omega⟩ : Fin 4096).val % 1024, by dsimp only; omega⟩ : Fin 1024) = n := Fin.ext (by dsimp only; omega)
  have eh : (⟨(L : ℕ) / 512, by omega⟩ : Fin 4) = h := Fin.ext (by dsimp only; omega)
  have eg : (⟨(L : ℕ) / 128 % 4, by omega⟩ : Fin 4) = g := Fin.ext (by dsimp only; omega)
  have ed : (⟨(L : ℕ) % 128, by omega⟩ : Fin 128) = d := Fin.ext (by dsimp only; omega)
  rw [eb, en, eh, eg, ed]
  simp only [expo_at, scores_at, prods_at]
  unfold attTwo att
  refine (congrArg₂ (att (n := 1536)) (funext fun j => ?_) (funext fun j => ?_) : att (n := 1536) _ _ = att (n := 1536) _ _)
  · induction j using Fin.addCases (m := 512) (n := 1024) with
    | left j =>
      rw [Fin.addCases_left]
      refine congrArg (· * _) (Finset.sum_congr rfl fun e _ => Ideal.mul_congr (joined_lo _ _ _ j _ _) ?_)
      rw [qs_at, rope16_at]
      simp only [qNorm_at]
    | right j =>
      rw [Fin.addCases_right]
      refine congrArg (· * _) (Finset.sum_congr rfl fun e _ => Ideal.mul_congr ((joined_hi _ _ _ j _ _).trans ?_) ?_)
      · rw [rope4_at]
        simp only [kNorm_at]
      · rw [qs_at, rope16_at]
        simp only [qNorm_at]
  · induction j using Fin.addCases (m := 512) (n := 1024) with
    | left j =>
      rw [Fin.addCases_left]
      exact joined_lo _ _ _ j _ _
    | right j =>
      rw [Fin.addCases_right]
      exact (joined_hi _ _ _ j _ _).trans (vals_at _ _ _ _ _)

end Cert.Reference2Ideal.Attn

end
-- ==== Proof.AttnSampleTile.lean ====
/- Attention over the latent tokens: one tile of the kernel's body, read index by index. -/
module

public import proofs.«01_k».proof.Proof.Gen.Kernel2Ideal.Frame
public import proofs.«01_k».proof.Proof.AttnSampleRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem

namespace Cert.Kernel2Ideal.Attn
open Cert.Kernel2Ideal Cert.Kernel2Ideal.Gen Cert.RealNums
open Cert.Reference2Ideal.Attn (ang rot rot_real ang_real sin_real cos_real attTwo)

/-! ## The softmax in two parts -/

/-- Attention over two groups of keys with a common largest score, normalised at the end. -/
def splitLate {a b : ℕ} (s1 v1 : Fin a → EReal) (s2 v2 : Fin b → EReal) : EReal :=
  ((∑ j, Ideal.exp (s1 j - max (Finset.univ.fold Max.max ⊥ s1) (Finset.univ.fold Max.max ⊥ s2)) * v1 j)
      + ∑ j, Ideal.exp (s2 j - max (Finset.univ.fold Max.max ⊥ s1) (Finset.univ.fold Max.max ⊥ s2)) * v2 j)
    * Ideal.div 1 ((∑ j, Ideal.exp (s1 j - max (Finset.univ.fold Max.max ⊥ s1) (Finset.univ.fold Max.max ⊥ s2)))
      + ∑ j, Ideal.exp (s2 j - max (Finset.univ.fold Max.max ⊥ s1) (Finset.univ.fold Max.max ⊥ s2)))

/-- The largest of two groups is the larger of their largest. -/
theorem fold_max_add {a b : ℕ} (s1 : Fin a → EReal) (s2 : Fin b → EReal) :
    Finset.univ.fold Max.max ⊥ (Fin.addCases s1 s2 : Fin (a + b) → EReal)
      = max (Finset.univ.fold Max.max ⊥ s1) (Finset.univ.fold Max.max ⊥ s2) := by
  apply le_antisymm
  · refine Finset.fold_max_le _ |>.2 ⟨bot_le, fun j _ => ?_⟩
    induction j using Fin.addCases with
    | left j => rw [Fin.addCases_left]; exact le_max_of_le_left (Finset.le_fold_max _ |>.2 (Or.inr ⟨j, Finset.mem_univ _, le_rfl⟩))
    | right j => rw [Fin.addCases_right]; exact le_max_of_le_right (Finset.le_fold_max _ |>.2 (Or.inr ⟨j, Finset.mem_univ _, le_rfl⟩))
  · refine max_le (Finset.fold_max_le _ |>.2 ⟨bot_le, fun j _ => ?_⟩) (Finset.fold_max_le _ |>.2 ⟨bot_le, fun j _ => ?_⟩)
    · exact Finset.le_fold_max _ |>.2 (Or.inr ⟨Fin.castAdd b j, Finset.mem_univ _, by rw [Fin.addCases_left]⟩)
    · exact Finset.le_fold_max _ |>.2 (Or.inr ⟨Fin.natAdd a j, Finset.mem_univ _, by rw [Fin.addCases_right]⟩)

/-- Over real scores the two-part softmax is the softmax of both groups together. -/
theorem splitLate_eq {a b : ℕ} (ha : 0 < a) (s1 v1 : Fin a → EReal) (s2 v2 : Fin b → EReal) (h1 : ∀ j, IsReal (s1 j)) (h2 : ∀ j, IsReal (s2 j)) :
    splitLate s1 v1 s2 v2 = att (n := a + b) (Fin.addCases s1 s2) (Fin.addCases v1 v2) := by
  rw [← attLate_eq (by omega) (fun j => by
    induction j using Fin.addCases with
    | left j => rw [Fin.addCases_left]; exact h1 j
    | right j => rw [Fin.addCases_right]; exact h2 j)]
  unfold attLate wt splitLate
  rw [fold_max_add, Fin.sum_univ_add, Fin.sum_univ_add]
  simp only [Fin.addCases_left, Fin.addCases_right]

/-! ## One tile -/

/-- The scores against the cached keys. -/
def scA (Q : FVec Ideal S256x128 .bf16) (K : FVec Ideal S512x128 .bf16) : FVec Ideal S256x512 .f32 :=
  matmul dot_S256x128_S512x128_S256x512_1_1_0_0_n_n none Q K (constant S256x512 .f32 0x00000000#32)

/-- The scores against the latent keys. -/
def scB (Q : FVec Ideal S256x128 .bf16) (K : FVec Ideal S1024x128 .bf16) : FVec Ideal S256x1024 .f32 :=
  matmul dot_S256x128_S1024x128_S256x1024_1_1_0_0_n_n none Q K (constant S256x1024 .f32 0x00000000#32)

/-- Each row's largest score. -/
def mxs (A : FVec Ideal S256x512 .f32) (B : FVec Ideal S256x1024 .f32) : FVec Ideal S256x1 .f32 :=
  maximumf (shapeCast S256x1 (multiReduction .maximumf [1] S256 A 0xFF800000#32 reduces_S256x512_S256 (.inl rfl) rfl) shapeCasts_S256_S256x1)
    (shapeCast S256x1 (multiReduction .maximumf [1] S256 B 0xFF800000#32 reduces_S256x1024_S256 (.inl rfl) rfl) shapeCasts_S256_S256x1)

/-- The exponentials of the cached scores less a row value. -/
def exA (M : FVec Ideal S256x1 .f32) (A : FVec Ideal S256x512 .f32) : FVec Ideal S256x512 .f32 :=
  exp (subf A (broadcastTo S256x512 M broadcasts_S256x1_S256x512))

/-- The exponentials of the latent scores less a row value. -/
def exB (M : FVec Ideal S256x1 .f32) (B : FVec Ideal S256x1024 .f32) : FVec Ideal S256x1024 .f32 :=
  exp (subf B (broadcastTo S256x1024 M broadcasts_S256x1_S256x1024))

/-- The attended values from the exponentials. -/
def avgs (A : FVec Ideal S256x512 .f32) (B : FVec Ideal S256x1024 .f32) (VA : FVec Ideal S512x128 .bf16) (VB : FVec Ideal S1024x128 .bf16) : FVec Ideal S256x128 .bf16 :=
  truncf .bf16 (mulf (addf (matmul dot_S256x512_S512x128_S256x128_1_0_0_1_n_n none (truncf .bf16 A bitsLt_bf16_f32) VA (constant S256x128 .f32 0x00000000#32))
      (matmul dot_S256x1024_S1024x128_S256x128_1_0_0_1_n_n none (truncf .bf16 B bitsLt_bf16_f32) VB (constant S256x128 .f32 0x00000000#32)))
    (broadcastTo S256x128 (divf (broadcast S256x1 (Scalar.ofBits .f32 0x3F800000#32 : Ideal .f32))
      (addf (shapeCast S256x1 (multiReduction .add [1] S256 A 0x00000000#32 reduces_S256x512_S256 (.inl rfl) rfl) shapeCasts_S256_S256x1)
        (shapeCast S256x1 (multiReduction .add [1] S256 B 0x00000000#32 reduces_S256x1024_S256 (.inl rfl) rfl) shapeCasts_S256_S256x1))) broadcasts_S256x1_S256x128)) bitsLt_bf16_f32

/-- A tile's attention from its turned, scaled queries. -/
def tileAtt (Q : FVec Ideal S256x128 .bf16) (KA VA : FVec Ideal S512x128 .bf16) (KB VB : FVec Ideal S1024x128 .bf16) : FVec Ideal S256x128 .bf16 :=
  avgs (exA (mxs (scA Q KA) (scB Q KB)) (scA Q KA)) (exB (mxs (scA Q KA) (scB Q KB)) (scB Q KB)) VA VB

/-- The turned, scaled queries of a tile. -/
def qTurn (N C S : FVec Ideal S256x128 .f32) : FVec Ideal S256x128 .bf16 :=
  truncf .bf16 (mulf (addf (mulf N C) (mulf (select k0_pay27 (dynamicRotate 1 96#32 none N rotates_S256x128_d1) (dynamicRotate 1 32#32 none N rotates_S256x128_d1)) S))
    (broadcast S256x128 (Scalar.ofBits .f32 0x3DB504F3#32 : Ideal .f32))) bitsLt_bf16_f32

/-- One tile of the output. -/
def tile (KB VB : FVec Ideal S1024x128 .bf16) (KA VA : FVec Ideal S512x128 .bf16) (v : Vec Ideal S256x128 .f32) (g : Vec Ideal S1x128 .f32) (C S : FVec Ideal S256x128 .f32) :
    FVec Ideal S256x128 .bf16 :=
  tileAtt (qTurn (k0_pay24 v g) C S) KA VA KB VB

theorem scA_at (Q : FVec Ideal S256x128 .bf16) (K : FVec Ideal S512x128 .bf16) (r : Fin 256) (j : Fin 512) :
    scA Q K (ix2 r j) = ∑ d : Fin 128, Q (ix2 r d) * K (ix2 j d) := by
  pointwise [scA]

theorem scB_at (Q : FVec Ideal S256x128 .bf16) (K : FVec Ideal S1024x128 .bf16) (r : Fin 256) (j : Fin 1024) :
    scB Q K (ix2 r j) = ∑ d : Fin 128, Q (ix2 r d) * K (ix2 j d) := by
  pointwise [scB]

theorem mxs_at (A : FVec Ideal S256x512 .f32) (B : FVec Ideal S256x1024 .f32) (r : Fin 256) :
    mxs A B (ix2 r 0) = max (Finset.univ.fold Max.max ⊥ (fun j : Fin 512 => A (ix2 r j))) (Finset.univ.fold Max.max ⊥ (fun j : Fin 1024 => B (ix2 r j))) := by
  pointwise [mxs]
  rw [bits_bot]

theorem exA_at (M : FVec Ideal S256x1 .f32) (A : FVec Ideal S256x512 .f32) (r : Fin 256) (j : Fin 512) :
    exA M A (ix2 r j) = Ideal.exp (A (ix2 r j) - M (ix2 r 0)) := by
  pointwise [exA]

theorem exB_at (M : FVec Ideal S256x1 .f32) (B : FVec Ideal S256x1024 .f32) (r : Fin 256) (j : Fin 1024) :
    exB M B (ix2 r j) = Ideal.exp (B (ix2 r j) - M (ix2 r 0)) := by
  pointwise [exB]

theorem avgs_at (A : FVec Ideal S256x512 .f32) (B : FVec Ideal S256x1024 .f32) (VA : FVec Ideal S512x128 .bf16) (VB : FVec Ideal S1024x128 .bf16) (r : Fin 256) (l : Fin 128) :
    avgs A B VA VB (ix2 r l) = ((∑ j : Fin 512, A (ix2 r j) * VA (ix2 j l)) + ∑ j : Fin 1024, B (ix2 r j) * VB (ix2 j l))
      * Ideal.div 1 ((∑ j : Fin 512, A (ix2 r j)) + ∑ j : Fin 1024, B (ix2 r j)) := by
  pointwise [avgs]

theorem tileAtt_at (Q : FVec Ideal S256x128 .bf16) (KA VA : FVec Ideal S512x128 .bf16) (KB VB : FVec Ideal S1024x128 .bf16) (r : Fin 256) (l : Fin 128) :
    tileAtt Q KA VA KB VB (ix2 r l) = splitLate (fun j : Fin 512 => ∑ d : Fin 128, Q (ix2 r d) * KA (ix2 j d)) (fun j => VA (ix2 j l))
      (fun j : Fin 1024 => ∑ d : Fin 128, Q (ix2 r d) * KB (ix2 j d)) (fun j => VB (ix2 j l)) := by
  unfold tileAtt
  rw [avgs_at]
  simp only [exA_at, exB_at, mxs_at, scA_at, scB_at]
  rfl

/-- The lanes below the middle of their half. -/
theorem low_at (r : Fin 256) (l : Fin 128) : k0_pay27 (ix2 r l) = if (l : ℕ) % 64 < 32 then 1#1 else 0#1 := by
  pointwise [k0_pay27]
  revert l
  decide +kernel

theorem low_at' (r : Fin 1024) (l : Fin 128) : k0_pay5 (ix2 r l) = if (l : ℕ) % 64 < 32 then 1#1 else 0#1 := by
  pointwise [k0_pay5]
  revert l
  decide +kernel

/-- The table of signed sines. -/
def sgn (n : ℕ) (l : Fin 128) : EReal := if (l : ℕ) % 64 < 32 then -Ideal.sin (ang n l) else Ideal.sin (ang n l)

/-- The product with the signed table is the turned row. -/
theorem turn_eq (x : Fin 128 → EReal) (n : ℕ) (l : Fin 128) (y : EReal)
    (hlo : ∀ h : (l : ℕ) % 64 < 32, y = x ⟨(l : ℕ) + 32, by omega⟩) (hhi : ∀ h : ¬ (l : ℕ) % 64 < 32, y = x ⟨(l : ℕ) - 32, by omega⟩) :
    x l * Ideal.cos (ang n l) + y * sgn n l = rot x n l := by
  unfold rot sgn
  by_cases h : (l : ℕ) % 64 < 32
  · rw [dif_pos h, if_pos h, hlo h, mul_neg, sub_eq_add_neg]
  · rw [dif_neg h, if_neg h, hhi h]

theorem qTurn_at (N C S : FVec Ideal S256x128 .f32) (r : Fin 256) (l : Fin 128) (n : ℕ)
    (hC : ∀ l, C (ix2 r l) = Ideal.cos (ang n l)) (hS : ∀ l, S (ix2 r l) = sgn n l) :
    qTurn N C S (ix2 r l) = rot (fun k => N (ix2 r k)) n l * Ideal.ofBits .f32 0x3DB504F3#32 := by
  have h : qTurn N C S (ix2 r l) = (N (ix2 r l) * C (ix2 r l) + Scalar.select (k0_pay27 (ix2 r l)) (N (ix2 r ⟨((l : ℕ) + 128 - 96) % 128, by omega⟩)) (N (ix2 r ⟨((l : ℕ) + 128 - 32) % 128, by omega⟩)) * S (ix2 r l))
      * Ideal.ofBits .f32 0x3DB504F3#32 := by
    pointwise [qTurn]
  rw [h, hC, hS]
  refine congrArg (· * _) (turn_eq (fun k => N (ix2 r k)) n l _ (fun hl => ?_) (fun hl => ?_))
  · rw [low_at, if_pos hl]
    exact congrArg N ((ix2_inj ..).2 ⟨rfl, Fin.ext (by dsimp only; omega)⟩)
  · rw [low_at, if_neg hl]
    exact congrArg N ((ix2_inj ..).2 ⟨rfl, Fin.ext (by dsimp only; omega)⟩)

theorem kTurn_at (C S N : FVec Ideal S1024x128 .f32) (r : Fin 1024) (l : Fin 128) (n : ℕ)
    (hC : ∀ l, C (ix2 r l) = Ideal.cos (ang n l)) (hS : ∀ l, S (ix2 r l) = sgn n l) :
    k0_pay6 (F := Ideal) C S N k0_pay5 96#32 (ix2 r l) = rot (fun k => N (ix2 r k)) n l := by
  have h : k0_pay6 (F := Ideal) C S N k0_pay5 96#32 (ix2 r l)
      = N (ix2 r l) * C (ix2 r l) + Scalar.select (k0_pay5 (ix2 r l)) (N (ix2 r ⟨((l : ℕ) + 128 - 96) % 128, by omega⟩)) (N (ix2 r ⟨((l : ℕ) + 128 - 32) % 128, by omega⟩)) * S (ix2 r l) := by
    pointwise [k0_pay6]
  rw [h, hC, hS]
  refine turn_eq (fun k => N (ix2 r k)) n l _ (fun hl => ?_) (fun hl => ?_)
  · rw [low_at', if_pos hl]
    exact congrArg N ((ix2_inj ..).2 ⟨rfl, Fin.ext (by dsimp only; omega)⟩)
  · rw [low_at', if_neg hl]
    exact congrArg N ((ix2_inj ..).2 ⟨rfl, Fin.ext (by dsimp only; omega)⟩)

theorem qn_at (v : Vec Ideal S256x128 .f32) (g : Vec Ideal S1x128 .f32) (r : Fin 256) (l : Fin 128) :
    k0_pay24 (F := Ideal) v g (ix2 r l) = nrm (fun k => v (ix2 r k)) l * g (ix2 0 l) := by
  pointwise [k0_pay24, nrm]

theorem kn_at (v : Vec Ideal S1024x128 .f32) (g : Vec Ideal S1x128 .f32) (r : Fin 1024) (l : Fin 128) :
    k0_pay4 (F := Ideal) v g (ix2 r l) = nrm (fun k => v (ix2 r k)) l * g (ix2 0 l) := by
  pointwise [k0_pay4, nrm]

/-- A TILE'S ROW: the attention of its turned query over the cached and the turned latent keys. -/
theorem tile_at (KB VB : FVec Ideal S1024x128 .bf16) (KA VA : FVec Ideal S512x128 .bf16) (v : Vec Ideal S256x128 .f32) (g : Vec Ideal S1x128 .f32) (C S : FVec Ideal S256x128 .f32)
    (r : Fin 256) (l : Fin 128) (n : ℕ) (kb : Fin 1024 → Fin 128 → EReal)
    (hC : ∀ l, C (ix2 r l) = Ideal.cos (ang n l)) (hS : ∀ l, S (ix2 r l) = sgn n l) (hg : ∀ d, IsReal (g (ix2 0 d)))
    (hKA : ∀ j d, IsReal (KA (ix2 j d))) (hKB : ∀ j d, KB (ix2 j d) = kb j d) (hkb : ∀ j d, IsReal (kb j d)) :
    tile KB VB KA VA v g C S (ix2 r l) = attTwo (rot (fun e => nrm (fun k => v (ix2 r k)) e * g (ix2 0 e)) n)
      (fun j e => KA (ix2 j e)) kb (fun j => VA (ix2 j l)) (fun j => VB (ix2 j l)) := by
  unfold tile
  rw [tileAtt_at]
  simp only [qTurn_at _ _ _ r _ n hC hS, qn_at, hKB]
  have hq : ∀ d, IsReal (rot (fun e => nrm (fun k => v (ix2 r k)) e * g (ix2 0 e)) n d) := rot_real (fun e => (nrm_real _ _).mul (hg e)) n
  rw [splitLate_eq (by norm_num) _ _ _ _ (fun j => IsReal.sum fun d => ((hq d).mul bits_scale).mul (hKA j d)) (fun j => IsReal.sum fun d => ((hq d).mul bits_scale).mul (hkb j d))]
  unfold attTwo
  rw [funext fun j => score_eq hq (hKA j) bits_scale, funext fun j => score_eq hq (hkb j) bits_scale]

end Cert.Kernel2Ideal.Attn

end
-- ==== Proof.AttnSampleHost.lean ====
/- Attention over the latent tokens: the kernel's operands that are prepared before it starts, read index by index. -/
module

public import proofs.«01_k».proof.Proof.AttnSampleTile
public import Idealize.ShloMosaic.Lib.StableHlo.RunRead

@[expose] public section

set_option maxRecDepth 16384

noncomputable section

open Idealize.ShloMosaic Idealize.ShloMosaic.TcCoe Idealize.SL.Sem

namespace Cert.Kernel2Ideal.Attn
open Cert.Kernel2Ideal Cert.Kernel2Ideal.Gen Cert.RealNums
open Cert.Reference2Ideal.Attn (ang posn frq freq freq_at lane_cases)

variable (m : (ℓ : Loc nD τ sig) → Buf (Elt Ideal) ℓ)

/-! ## The tables of the turn -/

/-- A word over all 1024 tokens. -/
def every (w : BitVec 32) : IVec S1024 32 := broadcastInDim S1024 ![] bcast_S_S1024 (constantI S_ 32 w)

/-- A token's row of the grid, as the kernel's host code computes it. -/
def rowW : IVec S1024 32 :=
  select (andi (cmpi .ne (signi (iotaInDim S1024 32 0)) (broadcastInDim S1024 ![] bcast_S_S1024 (signi (constantI S_ 32 64#32))))
      (cmpi .ne (Host.remsi (iotaInDim S1024 32 0) (every 64#32)) (every 0#32)))
    (subi (Host.divsi (iotaInDim S1024 32 0) (every 64#32)) (every 1#32)) (Host.divsi (iotaInDim S1024 32 0) (every 64#32))

/-- The divisor of the remainder, guarded against zero. -/
def divW : IVec S_ 32 :=
  select (cmpi .eq (constantI S_ 32 64#32) (constantI S_ 32 0#32)) (constantI S_ 32 1#32) (constantI S_ 32 64#32)

/-- A token's column of the grid, as the kernel's host code computes it. -/
def colW : IVec S1024 32 :=
  select (andi (cmpi .ne (cmpi .slt (Host.remsi (iotaInDim S1024 32 0) (broadcastInDim S1024 ![] bcast_S_S1024 divW)) (every 0#32))
        (broadcastInDim S1024 ![] bcast_S_S1024 (cmpi .slt divW (constantI S_ 32 0#32))))
      (cmpi .ne (Host.remsi (iotaInDim S1024 32 0) (broadcastInDim S1024 ![] bcast_S_S1024 divW)) (every 0#32)))
    (addi (Host.remsi (iotaInDim S1024 32 0) (broadcastInDim S1024 ![] bcast_S_S1024 divW)) (broadcastInDim S1024 ![] bcast_S_S1024 divW))
    (Host.remsi (iotaInDim S1024 32 0) (broadcastInDim S1024 ![] bcast_S_S1024 divW))

theorem V_row (c : Dev nD) : V m c main_v22 = rowW := by
  unfold V
  after_reads_simp
  rfl

theorem V_col (c : Dev nD) : V m c main_v25 = colW := by
  unfold V
  after_reads_simp
  rfl

theorem rowW_at (n : Fin 1024) : rowW (ix1 n) = BitVec.ofNat 32 (n.val / 64) := by
  pointwise [rowW, every]
  revert n
  decide +kernel

theorem colW_at (n : Fin 1024) : colW (ix1 n) = BitVec.ofNat 32 (n.val % 64) := by
  pointwise [colW, divW, every]
  revert n
  decide +kernel

/-- The angles of one coordinate. -/
def angles (w : IVec S1024 32) : FVec Ideal S1024x32 .f32 :=
  mulf (broadcastInDim S1024x32 ![0, 1] bcast_S1024x1_S1024x32_0_1 (broadcastInDim S1024x1 ![0] bcast_S1024_S1024x1_0 (sitofp .f32 w)))
    (broadcastInDim S1024x32 ![0, 1] bcast_S1x32_S1024x32_0_1 (broadcastInDim S1x32 ![1] bcast_S32_S1x32_1 freq))

/-- Four 32-lane groups side by side. -/
def four (a b c d : FVec Ideal S1024x32 .f32) : FVec Ideal S1024x128 .f32 :=
  concatenate S1024x128 1 [⟨S1024x32, a⟩, ⟨S1024x32, b⟩, ⟨S1024x32, c⟩, ⟨S1024x32, d⟩] concatenates_S1024x32_S1024x32_S1024x32_S1024x32_S1024x128_d1

set_option maxHeartbeats 2000000 in
theorem V_cos (c : Dev nD) : V m c main_v47
    = four (Host.cos (angles rowW)) (Host.cos (angles rowW)) (Host.cos (angles colW)) (Host.cos (angles colW)) := by
  unfold V
  after_reads_simp
  rfl

set_option maxHeartbeats 2000000 in
theorem V_sin (c : Dev nD) : V m c main_v54
    = four (Host.negf (Host.sin (angles rowW))) (Host.sin (angles rowW)) (Host.negf (Host.sin (angles colW))) (Host.sin (angles colW)) := by
  unfold V
  after_reads_simp
  rfl

theorem angles_at (w : IVec S1024 32) (n : Fin 1024) (k : Fin 32) :
    angles w (ix2 n k) = FloatOps.sitofp .f32 (w (ix1 n)) * frq k := by
  pointwise [angles]
  rw [freq_at]

theorem four_0 (a b c d : FVec Ideal S1024x32 .f32) (n : Fin 1024) (k : Fin 32) : four a b c d (ix2 n ⟨k, by omega⟩) = a (ix2 n k) := by
  pointwise [four]
theorem four_1 (a b c d : FVec Ideal S1024x32 .f32) (n : Fin 1024) (k : Fin 32) : four a b c d (ix2 n ⟨32 + k, by omega⟩) = b (ix2 n k) := by
  pointwise [four]
theorem four_2 (a b c d : FVec Ideal S1024x32 .f32) (n : Fin 1024) (k : Fin 32) : four a b c d (ix2 n ⟨64 + k, by omega⟩) = c (ix2 n k) := by
  pointwise [four]
  rw [dif_neg (by omega), dif_neg (by omega), dif_pos (by omega)]
  exact congrArg (fun z => c (ix2 n z)) (Fin.ext (by dsimp only; omega))
theorem four_3 (a b c d : FVec Ideal S1024x32 .f32) (n : Fin 1024) (k : Fin 32) : four a b c d (ix2 n ⟨64 + (32 + k), by omega⟩) = d (ix2 n k) := by
  pointwise [four]
  rw [dif_neg (by omega), dif_neg (by omega), dif_neg (by omega)]
  exact congrArg (fun z => d (ix2 n z)) (Fin.ext (by dsimp only; omega))

theorem ang_row (n : Fin 1024) (k : Fin 32) (l : Fin 128) (hl : (l : ℕ) < 64) (hk : (l : ℕ) % 32 = k) : angles rowW (ix2 n k) = ang n l := by
  rw [angles_at, rowW_at]
  unfold ang posn
  rw [if_pos hl]
  exact congrArg _ (congrArg frq hk.symm)

theorem ang_col (n : Fin 1024) (k : Fin 32) (l : Fin 128) (hl : ¬ (l : ℕ) < 64) (hk : (l : ℕ) % 32 = k) : angles colW (ix2 n k) = ang n l := by
  rw [angles_at, colW_at]
  unfold ang posn
  rw [if_neg hl]
  exact congrArg _ (congrArg frq hk.symm)

/-- THE COSINE TABLE. -/
theorem cos_at (c : Dev nD) (n : Fin 1024) (l : Fin 128) : V m c main_v47 (ix2 n l : S1024x128.Idx) = Ideal.cos (ang n l) := by
  rw [V_cos]
  rcases lane_cases l with ⟨k, rfl | rfl | rfl | rfl⟩
  · exact (four_0 _ _ _ _ n k).trans (congrArg Ideal.cos (ang_row n k _ (by dsimp only; omega) (by dsimp only; omega)))
  · exact (four_1 _ _ _ _ n k).trans (congrArg Ideal.cos (ang_row n k _ (by dsimp only; omega) (by dsimp only; omega)))
  · exact (four_2 _ _ _ _ n k).trans (congrArg Ideal.cos (ang_col n k _ (by dsimp only; omega) (by dsimp only; omega)))
  · exact (four_3 _ _ _ _ n k).trans (congrArg Ideal.cos (ang_col n k _ (by dsimp only; omega) (by dsimp only; omega)))

/-- THE SIGNED SINE TABLE. -/
theorem sin_at (c : Dev nD) (n : Fin 1024) (l : Fin 128) : V m c main_v54 (ix2 n l : S1024x128.Idx) = sgn n l := by
  rw [V_sin]
  unfold sgn
  rcases lane_cases l with ⟨k, rfl | rfl | rfl | rfl⟩
  · rw [if_pos (by dsimp only; omega)]
    exact (four_0 _ _ _ _ n k).trans (congrArg (fun x => -Ideal.sin x) (ang_row n k _ (by dsimp only; omega) (by dsimp only; omega)))
  · rw [if_neg (by dsimp only; omega)]
    exact (four_1 _ _ _ _ n k).trans (congrArg Ideal.sin (ang_row n k _ (by dsimp only; omega) (by dsimp only; omega)))
  · rw [if_pos (by dsimp only; omega)]
    exact (four_2 _ _ _ _ n k).trans (congrArg (fun x => -Ideal.sin x) (ang_col n k _ (by dsimp only; omega) (by dsimp only; omega)))
  · rw [if_neg (by dsimp only; omega)]
    exact (four_3 _ _ _ _ n k).trans (congrArg Ideal.sin (ang_col n k _ (by dsimp only; omega) (by dsimp only; omega)))

/-! ## The packed projection, the caches and the gains -/

/-- The two groups' projections, one above the other. -/
def ROWS (a0 : FVec Ideal S16x256x10080 .f32) (a1 : FVec Ideal S4x1024x10080 .f32) : FVec Ideal S8192x10080 .f32 :=
  concatenate S8192x10080 0 [⟨S4096x10080, shapeCast S4096x10080 a0 shapeCasts_S16x256x10080_S4096x10080⟩, ⟨S4096x10080, shapeCast S4096x10080 a1 shapeCasts_S4x1024x10080_S4096x10080⟩] concatenates_S4096x10080_S4096x10080_S8192x10080_d0

/-- The projection's columns in the kernel's order. -/
def PACK (X : FVec Ideal S8192x10080 .f32) : FVec Ideal S8192x10240 .f32 :=
  concatenate S8192x10240 1 [⟨S8192x6144, extractStridedSlice S8192x6144 ![0, 0] X slices_S8192x10080_S8192x6144_0_0⟩,
    ⟨S8192x2048, extractStridedSlice S8192x2048 ![0, 7008] X slices_S8192x10080_S8192x2048_0_7008⟩,
    ⟨S8192x512, extractStridedSlice S8192x512 ![0, 9056] X slices_S8192x10080_S8192x512_0_9056⟩,
    ⟨S8192x512, extractStridedSlice S8192x512 ![0, 9568] X slices_S8192x10080_S8192x512_0_9568⟩,
    ⟨S8192x480, extractStridedSlice S8192x480 ![0, 6144] X slices_S8192x10080_S8192x480_0_6144⟩,
    ⟨S8192x32, broadcastInDim S8192x32 ![] bcast_S_S8192x32 (constant S_ .f32 0x00000000#32)⟩,
    ⟨S8192x256, extractStridedSlice S8192x256 ![0, 6624] X slices_S8192x10080_S8192x256_0_6624⟩,
    ⟨S8192x128, extractStridedSlice S8192x128 ![0, 6880] X slices_S8192x10080_S8192x128_0_6880⟩,
    ⟨S8192x128, broadcastInDim S8192x128 ![] bcast_S_S8192x128 (constant S_ .f32 0x00000000#32)⟩] concatenates_S8192x6144_S8192x2048_S8192x512_S8192x512_S8192x480_S8192x32_S8192x256_S8192x128_S8192x128_S8192x10240_d1

set_option maxHeartbeats 2000000 in
theorem V_packed (c : Dev nD) : V m c main_v12 = PACK (ROWS (m ((c : Thread nD τ).loc main_arg0)) (m ((c : Thread nD τ).loc main_arg1))) := by
  unfold V
  after_reads_simp
  rfl

/-- A row of the latent tokens. -/
theorem rows_late (a0 : FVec Ideal S16x256x10080 .f32) (a1 : FVec Ideal S4x1024x10080 .f32) (r : Fin 4096) (l : Fin 10080) :
    ROWS a0 a1 (ix2 ⟨4096 + (r : ℕ), by omega⟩ l) = a1 (ix3 ⟨(r : ℕ) / 1024, by omega⟩ ⟨(r : ℕ) % 1024, by omega⟩ l) := by
  pointwise [ROWS]

theorem pack_q (X : FVec Ideal S8192x10080 .f32) (r : Fin 8192) (k : Fin 2048) :
    PACK X (ix2 r ⟨6144 + (k : ℕ), by omega⟩) = X (ix2 r ⟨7008 + (k : ℕ), by omega⟩) := by
  pointwise [PACK]

theorem pack_k (X : FVec Ideal S8192x10080 .f32) (r : Fin 8192) (k : Fin 512) :
    PACK X (ix2 r ⟨8192 + (k : ℕ), by omega⟩) = X (ix2 r ⟨9056 + (k : ℕ), by omega⟩) := by
  pointwise [PACK]
  blk_point []
  all_goals (exfalso; omega)

theorem pack_v (X : FVec Ideal S8192x10080 .f32) (r : Fin 8192) (k : Fin 512) :
    PACK X (ix2 r ⟨8704 + (k : ℕ), by omega⟩) = X (ix2 r ⟨9568 + (k : ℕ), by omega⟩) := by
  pointwise [PACK]
  blk_point []
  all_goals (exfalso; omega)

/-- A cache as the kernel reads it. -/
def FLAT (x : FVec Ideal S4x1x512x4x128 .f32) : FVec Ideal S2048x512 .f32 := shapeCast S2048x512 (shapeCast S4x512x4x128 x shapeCasts_S4x1x512x4x128_S4x512x4x128) shapeCasts_S4x512x4x128_S2048x512

theorem V_ck (c : Dev nD) : V m c main_v14 = FLAT (m ((c : Thread nD τ).loc main_arg2)) := by
  unfold V
  after_reads_simp
  rfl

theorem V_cv (c : Dev nD) : V m c main_v16 = FLAT (m ((c : Thread nD τ).loc main_arg3)) := by
  unfold V
  after_reads_simp
  rfl

theorem flat_at (x : FVec Ideal S4x1x512x4x128 .f32) (s g : Fin 4) (j : Fin 512) (d : Fin 128) :
    FLAT x (ix2 ⟨(s : ℕ) * 512 + (j : ℕ), by omega⟩ ⟨(g : ℕ) * 128 + (d : ℕ), by omega⟩) = x (ix5 s 0 j g d) := by
  pointwise [FLAT]

end Cert.Kernel2Ideal.Attn

end
-- ==== Proof.AttnSample.lean ====
/- Attention over the latent tokens: what the kernel leaves in its result array. -/
module

public import proofs.«01_k».proof.Proof.AttnSampleHost
public import Idealize.ShloMosaic.Lib.Claim
public import Idealize.ShloMosaic.Lib.ReduceAll
public import proofs.«01_k».proof.Proof.Gen.Pre_finite_keys

@[expose] public section

set_option maxRecDepth 16384

noncomputable section

open Idealize.ShloMosaic Idealize.ShloMosaic.TcCoe Idealize.SL.Sem

namespace Cert.Kernel2Ideal.Attn
open Cert.Kernel2Ideal Cert.Kernel2Ideal.Gen Cert.RealNums
open Cert.Reference2Ideal.Attn (ang rot rot_real attTwo O O_lo O_hi)

variable (m : (ℓ : Loc nD τ sig) → Buf (Elt Ideal) ℓ)

/-! ## One point of the grid -/

/-- A query row's attention, from a point's blocks. -/
def headS (b0 : Vec Ideal S1024x512 .f32) (b1 b2 : Vec Ideal S1024x128 .f32) (b3 b4 : Vec Ideal S512x128 .f32) (b5 b6 : Vec Ideal S1x128 .f32)
    (r : Fin 1024) (p : Fin 4) (l : Fin 128) : EReal :=
  attTwo (rot (fun e => nrm (fun k => b0 (ix2 r ⟨(p : ℕ) * 128 + (k : ℕ), by omega⟩)) e * b5 (ix2 0 e)) r)
    (fun j : Fin 512 => fun e => b3 (ix2 j e)) (fun j : Fin 1024 => rot (fun e => nrm (fun k => b1 (ix2 j k)) e * b6 (ix2 0 e)) j)
    (fun j => b4 (ix2 j l)) (fun j => b2 (ix2 j l))

theorem headS_congr (b0 : Vec Ideal S1024x512 .f32) (b1 b2 : Vec Ideal S1024x128 .f32) (b3 b4 : Vec Ideal S512x128 .f32) (b5 b6 : Vec Ideal S1x128 .f32)
    {r r' : Fin 1024} {p p' : Fin 4} {l l' : Fin 128} (hr : (r' : ℕ) = r) (hp : (p : ℕ) = p') (hl : (l : ℕ) = l') :
    headS b0 b1 b2 b3 b4 b5 b6 r p l = headS b0 b1 b2 b3 b4 b5 b6 r' p' l' := by
  obtain rfl := Fin.ext hr; obtain rfl := Fin.ext hp; obtain rfl := Fin.ext hl; rfl

theorem pay7_at (x : Vec Ideal S1024x128 .f32) (j : Fin 1024) (d : Fin 128) : k0_pay7 x (ix2 j d) = x (ix2 j d) := by pointwise [k0_pay7]
theorem pay2_at (x : Vec Ideal S1024x128 .f32) (j : Fin 1024) (d : Fin 128) : k0_pay2 x (ix2 j d) = x (ix2 j d) := by pointwise [k0_pay2]
theorem pay3_at (x : Vec Ideal S1024x128 .f32) (j : Fin 1024) (d : Fin 128) : k0_pay3 x (ix2 j d) = x (ix2 j d) := by pointwise [k0_pay3]
theorem pay8_at (x : Vec Ideal S512x128 .f32) (j : Fin 512) (d : Fin 128) : k0_pay8 x (ix2 j d) = x (ix2 j d) := by pointwise [k0_pay8]
theorem pay9_at (x : Vec Ideal S512x128 .f32) (j : Fin 512) (d : Fin 128) : k0_pay9 x (ix2 j d) = x (ix2 j d) := by pointwise [k0_pay9]

theorem piece (b0 : Vec Ideal S1024x512 .f32) (b1 b2 : Vec Ideal S1024x128 .f32) (b3 b4 : Vec Ideal S512x128 .f32) (b5 b6 : Vec Ideal S1x128 .f32)
    (b7 b8 : Vec Ideal S1024x128 .f32) (h3 : ∀ (j : Fin 512) (d : Fin 128), IsReal (b3 (ix2 j d))) (h5 : ∀ d : Fin 128, IsReal (b5 (ix2 0 d)))
    (h6 : ∀ d : Fin 128, IsReal (b6 (ix2 0 d))) (h7 : ∀ (n : Fin 1024) (l : Fin 128), b7 (ix2 n l) = Ideal.cos (ang n l))
    (h8 : ∀ (n : Fin 1024) (l : Fin 128), b8 (ix2 n l) = sgn n l)
    (v : Vec Ideal S256x128 .f32) (C S : FVec Ideal S256x128 .f32) (r : Fin 1024) (p : Fin 4) (x0 : Fin 256) (x1 : Fin 128)
    (hv : ∀ k : Fin 128, v (ix2 x0 k) = b0 (ix2 r ⟨(p : ℕ) * 128 + (k : ℕ), by omega⟩))
    (hC : ∀ l : Fin 128, C (ix2 x0 l) = b7 (ix2 r l)) (hS : ∀ l : Fin 128, S (ix2 x0 l) = b8 (ix2 r l)) :
    tile (k0_pay6 (k0_pay2 b7) (k0_pay3 b8) (k0_pay4 b1 b6) k0_pay5 96#32) (k0_pay7 b2) (k0_pay8 b3) (k0_pay9 b4) v b5 C S (ix2 x0 x1)
      = headS b0 b1 b2 b3 b4 b5 b6 r p x1 := by
  rw [tile_at _ (k0_pay7 b2) (k0_pay8 b3) (k0_pay9 b4) v b5 C S x0 x1 r (fun j => rot (fun e => nrm (fun k => b1 (ix2 j k)) e * b6 (ix2 0 e)) j)
    (fun l => (hC l).trans (h7 r l)) (fun l => (hS l).trans (h8 r l)) h5 (fun j d => (pay8_at b3 j d).symm ▸ h3 j d)
    (fun j d => by
      rw [kTurn_at (k0_pay2 b7) (k0_pay3 b8) (k0_pay4 b1 b6) j d j (fun l => (pay2_at b7 j l).trans (h7 j l)) (fun l => (pay3_at b8 j l).trans (h8 j l))]
      exact congrArg (rot · j d) (funext fun e => kn_at b1 b6 j e))
    (fun j d => rot_real (fun e => (nrm_real _ _).mul (h6 e)) j d)]
  unfold headS
  simp only [hv, pay7_at, pay8_at, pay9_at]

set_option maxHeartbeats 4000000 in
/-- What a point stores, read at an index. -/
theorem out_at (c : Dev nD) (t : Fin cfg0.N) (h3 : ∀ (j : Fin 512) (d : Fin 128), IsReal ((iblk m c 3 t : Vec Ideal S512x128 .f32) (ix2 j d)))
    (h5 : ∀ d : Fin 128, IsReal ((iblk m c 5 t : Vec Ideal S1x128 .f32) (ix2 0 d)))
    (h6 : ∀ d : Fin 128, IsReal ((iblk m c 6 t : Vec Ideal S1x128 .f32) (ix2 0 d)))
    (h7 : ∀ (n : Fin 1024) (l : Fin 128), (iblk m c 7 t : Vec Ideal S1024x128 .f32) (ix2 n l) = Ideal.cos (ang n l))
    (h8 : ∀ (n : Fin 1024) (l : Fin 128), (iblk m c 8 t : Vec Ideal S1024x128 .f32) (ix2 n l) = sgn n l) (r : Fin 1024) (l : Fin 512) :
    outsAt0 m c t (ix2 r l) = headS (iblk m c 0 t) (iblk m c 1 t) (iblk m c 2 t) (iblk m c 3 t) (iblk m c 4 t) (iblk m c 5 t) (iblk m c 6 t)
      r ⟨(l : ℕ) / 128, by omega⟩ ⟨(l : ℕ) % 128, by omega⟩ := by
  unfold outsAt0 out0_A_9
  rw [View.read_writes_junk_eq_canon]
  unfold kernelRun0_A
  sl_unfold_words
  simp only [View.readAt_eq_ld, Memref.IsWhole.read_unread]
  generalize iblk m c 0 t = b0 at *
  generalize iblk m c 1 t = b1 at *
  generalize iblk m c 2 t = b2 at *
  generalize iblk m c 3 t = b3 at *
  generalize iblk m c 4 t = b4 at *
  generalize iblk m c 5 t = b5 at *
  generalize iblk m c 6 t = b6 at *
  generalize iblk m c 7 t = b7 at *
  generalize iblk m c 8 t = b8 at *
  canon_tiles x h
  all_goals (idx_vars x; simp (disch := decide) only [View.ld_unit_lit'])
  case piece0 =>
    replace h0 : (r : ℕ) = 768 + (x0 : ℕ) := h0
    replace h1 : (l : ℕ) = 384 + (x1 : ℕ) := h1
    exact (show _ = tile (k0_pay6 (k0_pay2 b7) (k0_pay3 b8) (k0_pay4 b1 b6) k0_pay5 96#32) (k0_pay7 b2) (k0_pay8 b3) (k0_pay9 b4)
        (View.ld b0 (Rect.unit ![768, 384] ![256, 128] inb_S1024x512_S256x128_768_384)) b5
        (extractStridedSlice S256x128 ![768, 0] (k0_pay2 b7) slices_S1024x128_o768_0_S256x128)
        (extractStridedSlice S256x128 ![768, 0] (k0_pay3 b8) slices_S1024x128_o768_0_S256x128) (ix2 x0 x1) from rfl).trans
      ((piece b0 b1 b2 b3 b4 b5 b6 b7 b8 h3 h5 h6 h7 h8 _ _ _ ⟨768 + (x0 : ℕ), by omega⟩ 3 x0 x1 (fun k => by pointwise) (fun l => by pointwise [k0_pay2]) (fun l => by pointwise [k0_pay3])).trans
        (headS_congr _ _ _ _ _ _ _ h0 (by show 3 = (l : ℕ) / 128; omega) (by show (x1 : ℕ) = (l : ℕ) % 128; omega)))
  case piece1 =>
    replace h0 : (r : ℕ) = 512 + (x0 : ℕ) := h0
    replace h1 : (l : ℕ) = 384 + (x1 : ℕ) := h1
    exact (show _ = tile (k0_pay6 (k0_pay2 b7) (k0_pay3 b8) (k0_pay4 b1 b6) k0_pay5 96#32) (k0_pay7 b2) (k0_pay8 b3) (k0_pay9 b4)
        (View.ld b0 (Rect.unit ![512, 384] ![256, 128] inb_S1024x512_S256x128_512_384)) b5
        (extractStridedSlice S256x128 ![512, 0] (k0_pay2 b7) slices_S1024x128_o512_0_S256x128)
        (extractStridedSlice S256x128 ![512, 0] (k0_pay3 b8) slices_S1024x128_o512_0_S256x128) (ix2 x0 x1) from rfl).trans
      ((piece b0 b1 b2 b3 b4 b5 b6 b7 b8 h3 h5 h6 h7 h8 _ _ _ ⟨512 + (x0 : ℕ), by omega⟩ 3 x0 x1 (fun k => by pointwise) (fun l => by pointwise [k0_pay2]) (fun l => by pointwise [k0_pay3])).trans
        (headS_congr _ _ _ _ _ _ _ h0 (by show 3 = (l : ℕ) / 128; omega) (by show (x1 : ℕ) = (l : ℕ) % 128; omega)))
  case piece2 =>
    replace h0 : (r : ℕ) = 256 + (x0 : ℕ) := h0
    replace h1 : (l : ℕ) = 384 + (x1 : ℕ) := h1
    exact (show _ = tile (k0_pay6 (k0_pay2 b7) (k0_pay3 b8) (k0_pay4 b1 b6) k0_pay5 96#32) (k0_pay7 b2) (k0_pay8 b3) (k0_pay9 b4)
        (View.ld b0 (Rect.unit ![256, 384] ![256, 128] inb_S1024x512_S256x128_256_384)) b5
        (extractStridedSlice S256x128 ![256, 0] (k0_pay2 b7) slices_S1024x128_o256_0_S256x128)
        (extractStridedSlice S256x128 ![256, 0] (k0_pay3 b8) slices_S1024x128_o256_0_S256x128) (ix2 x0 x1) from rfl).trans
      ((piece b0 b1 b2 b3 b4 b5 b6 b7 b8 h3 h5 h6 h7 h8 _ _ _ ⟨256 + (x0 : ℕ), by omega⟩ 3 x0 x1 (fun k => by pointwise) (fun l => by pointwise [k0_pay2]) (fun l => by pointwise [k0_pay3])).trans
        (headS_congr _ _ _ _ _ _ _ h0 (by show 3 = (l : ℕ) / 128; omega) (by show (x1 : ℕ) = (l : ℕ) % 128; omega)))
  case piece3 =>
    replace h0 : (r : ℕ) = (x0 : ℕ) := h0
    replace h1 : (l : ℕ) = 384 + (x1 : ℕ) := h1
    exact (show _ = tile (k0_pay6 (k0_pay2 b7) (k0_pay3 b8) (k0_pay4 b1 b6) k0_pay5 96#32) (k0_pay7 b2) (k0_pay8 b3) (k0_pay9 b4)
        (View.ld b0 (Rect.unit ![0, 384] ![256, 128] inb_S1024x512_S256x128_0_384)) b5
        (extractStridedSlice S256x128 ![0, 0] (k0_pay2 b7) slices_S1024x128_o0_0_S256x128)
        (extractStridedSlice S256x128 ![0, 0] (k0_pay3 b8) slices_S1024x128_o0_0_S256x128) (ix2 x0 x1) from rfl).trans
      ((piece b0 b1 b2 b3 b4 b5 b6 b7 b8 h3 h5 h6 h7 h8 _ _ _ ⟨(x0 : ℕ), by omega⟩ 3 x0 x1 (fun k => by pointwise) (fun l => by pointwise [k0_pay2]) (fun l => by pointwise [k0_pay3])).trans
        (headS_congr _ _ _ _ _ _ _ h0 (by show 3 = (l : ℕ) / 128; omega) (by show (x1 : ℕ) = (l : ℕ) % 128; omega)))
  case piece4 =>
    replace h0 : (r : ℕ) = 768 + (x0 : ℕ) := h0
    replace h1 : (l : ℕ) = 256 + (x1 : ℕ) := h1
    exact (show _ = tile (k0_pay6 (k0_pay2 b7) (k0_pay3 b8) (k0_pay4 b1 b6) k0_pay5 96#32) (k0_pay7 b2) (k0_pay8 b3) (k0_pay9 b4)
        (View.ld b0 (Rect.unit ![768, 256] ![256, 128] inb_S1024x512_S256x128_768_256)) b5
        (extractStridedSlice S256x128 ![768, 0] (k0_pay2 b7) slices_S1024x128_o768_0_S256x128)
        (extractStridedSlice S256x128 ![768, 0] (k0_pay3 b8) slices_S1024x128_o768_0_S256x128) (ix2 x0 x1) from rfl).trans
      ((piece b0 b1 b2 b3 b4 b5 b6 b7 b8 h3 h5 h6 h7 h8 _ _ _ ⟨768 + (x0 : ℕ), by omega⟩ 2 x0 x1 (fun k => by pointwise) (fun l => by pointwise [k0_pay2]) (fun l => by pointwise [k0_pay3])).trans
        (headS_congr _ _ _ _ _ _ _ h0 (by show 2 = (l : ℕ) / 128; omega) (by show (x1 : ℕ) = (l : ℕ) % 128; omega)))
  case piece5 =>
    replace h0 : (r : ℕ) = 512 + (x0 : ℕ) := h0
    replace h1 : (l : ℕ) = 256 + (x1 : ℕ) := h1
    exact (show _ = tile (k0_pay6 (k0_pay2 b7) (k0_pay3 b8) (k0_pay4 b1 b6) k0_pay5 96#32) (k0_pay7 b2) (k0_pay8 b3) (k0_pay9 b4)
        (View.ld b0 (Rect.unit ![512, 256] ![256, 128] inb_S1024x512_S256x128_512_256)) b5
        (extractStridedSlice S256x128 ![512, 0] (k0_pay2 b7) slices_S1024x128_o512_0_S256x128)
        (extractStridedSlice S256x128 ![512, 0] (k0_pay3 b8) slices_S1024x128_o512_0_S256x128) (ix2 x0 x1) from rfl).trans
      ((piece b0 b1 b2 b3 b4 b5 b6 b7 b8 h3 h5 h6 h7 h8 _ _ _ ⟨512 + (x0 : ℕ), by omega⟩ 2 x0 x1 (fun k => by pointwise) (fun l => by pointwise [k0_pay2]) (fun l => by pointwise [k0_pay3])).trans
        (headS_congr _ _ _ _ _ _ _ h0 (by show 2 = (l : ℕ) / 128; omega) (by show (x1 : ℕ) = (l : ℕ) % 128; omega)))
  case piece6 =>
    replace h0 : (r : ℕ) = 256 + (x0 : ℕ) := h0
    replace h1 : (l : ℕ) = 256 + (x1 : ℕ) := h1
    exact (show _ = tile (k0_pay6 (k0_pay2 b7) (k0_pay3 b8) (k0_pay4 b1 b6) k0_pay5 96#32) (k0_pay7 b2) (k0_pay8 b3) (k0_pay9 b4)
        (View.ld b0 (Rect.unit ![256, 256] ![256, 128] inb_S1024x512_S256x128_256_256)) b5
        (extractStridedSlice S256x128 ![256, 0] (k0_pay2 b7) slices_S1024x128_o256_0_S256x128)
        (extractStridedSlice S256x128 ![256, 0] (k0_pay3 b8) slices_S1024x128_o256_0_S256x128) (ix2 x0 x1) from rfl).trans
      ((piece b0 b1 b2 b3 b4 b5 b6 b7 b8 h3 h5 h6 h7 h8 _ _ _ ⟨256 + (x0 : ℕ), by omega⟩ 2 x0 x1 (fun k => by pointwise) (fun l => by pointwise [k0_pay2]) (fun l => by pointwise [k0_pay3])).trans
        (headS_congr _ _ _ _ _ _ _ h0 (by show 2 = (l : ℕ) / 128; omega) (by show (x1 : ℕ) = (l : ℕ) % 128; omega)))
  case piece7 =>
    replace h0 : (r : ℕ) = (x0 : ℕ) := h0
    replace h1 : (l : ℕ) = 256 + (x1 : ℕ) := h1
    exact (show _ = tile (k0_pay6 (k0_pay2 b7) (k0_pay3 b8) (k0_pay4 b1 b6) k0_pay5 96#32) (k0_pay7 b2) (k0_pay8 b3) (k0_pay9 b4)
        (View.ld b0 (Rect.unit ![0, 256] ![256, 128] inb_S1024x512_S256x128_0_256)) b5
        (extractStridedSlice S256x128 ![0, 0] (k0_pay2 b7) slices_S1024x128_o0_0_S256x128)
        (extractStridedSlice S256x128 ![0, 0] (k0_pay3 b8) slices_S1024x128_o0_0_S256x128) (ix2 x0 x1) from rfl).trans
      ((piece b0 b1 b2 b3 b4 b5 b6 b7 b8 h3 h5 h6 h7 h8 _ _ _ ⟨(x0 : ℕ), by omega⟩ 2 x0 x1 (fun k => by pointwise) (fun l => by pointwise [k0_pay2]) (fun l => by pointwise [k0_pay3])).trans
        (headS_congr _ _ _ _ _ _ _ h0 (by show 2 = (l : ℕ) / 128; omega) (by show (x1 : ℕ) = (l : ℕ) % 128; omega)))
  case piece8 =>
    replace h0 : (r : ℕ) = 768 + (x0 : ℕ) := h0
    replace h1 : (l : ℕ) = 128 + (x1 : ℕ) := h1
    exact (show _ = tile (k0_pay6 (k0_pay2 b7) (k0_pay3 b8) (k0_pay4 b1 b6) k0_pay5 96#32) (k0_pay7 b2) (k0_pay8 b3) (k0_pay9 b4)
        (View.ld b0 (Rect.unit ![768, 128] ![256, 128] inb_S1024x512_S256x128_768_128)) b5
        (extractStridedSlice S256x128 ![768, 0] (k0_pay2 b7) slices_S1024x128_o768_0_S256x128)
        (extractStridedSlice S256x128 ![768, 0] (k0_pay3 b8) slices_S1024x128_o768_0_S256x128) (ix2 x0 x1) from rfl).trans
      ((piece b0 b1 b2 b3 b4 b5 b6 b7 b8 h3 h5 h6 h7 h8 _ _ _ ⟨768 + (x0 : ℕ), by omega⟩ 1 x0 x1 (fun k => by pointwise) (fun l => by pointwise [k0_pay2]) (fun l => by pointwise [k0_pay3])).trans
        (headS_congr _ _ _ _ _ _ _ h0 (by show 1 = (l : ℕ) / 128; omega) (by show (x1 : ℕ) = (l : ℕ) % 128; omega)))
  case piece9 =>
    replace h0 : (r : ℕ) = 512 + (x0 : ℕ) := h0
    replace h1 : (l : ℕ) = 128 + (x1 : ℕ) := h1
    exact (show _ = tile (k0_pay6 (k0_pay2 b7) (k0_pay3 b8) (k0_pay4 b1 b6) k0_pay5 96#32) (k0_pay7 b2) (k0_pay8 b3) (k0_pay9 b4)
        (View.ld b0 (Rect.unit ![512, 128] ![256, 128] inb_S1024x512_S256x128_512_128)) b5
        (extractStridedSlice S256x128 ![512, 0] (k0_pay2 b7) slices_S1024x128_o512_0_S256x128)
        (extractStridedSlice S256x128 ![512, 0] (k0_pay3 b8) slices_S1024x128_o512_0_S256x128) (ix2 x0 x1) from rfl).trans
      ((piece b0 b1 b2 b3 b4 b5 b6 b7 b8 h3 h5 h6 h7 h8 _ _ _ ⟨512 + (x0 : ℕ), by omega⟩ 1 x0 x1 (fun k => by pointwise) (fun l => by pointwise [k0_pay2]) (fun l => by pointwise [k0_pay3])).trans
        (headS_congr _ _ _ _ _ _ _ h0 (by show 1 = (l : ℕ) / 128; omega) (by show (x1 : ℕ) = (l : ℕ) % 128; omega)))
  case piece10 =>
    replace h0 : (r : ℕ) = 256 + (x0 : ℕ) := h0
    replace h1 : (l : ℕ) = 128 + (x1 : ℕ) := h1
    exact (show _ = tile (k0_pay6 (k0_pay2 b7) (k0_pay3 b8) (k0_pay4 b1 b6) k0_pay5 96#32) (k0_pay7 b2) (k0_pay8 b3) (k0_pay9 b4)
        (View.ld b0 (Rect.unit ![256, 128] ![256, 128] inb_S1024x512_S256x128_256_128)) b5
        (extractStridedSlice S256x128 ![256, 0] (k0_pay2 b7) slices_S1024x128_o256_0_S256x128)
        (extractStridedSlice S256x128 ![256, 0] (k0_pay3 b8) slices_S1024x128_o256_0_S256x128) (ix2 x0 x1) from rfl).trans
      ((piece b0 b1 b2 b3 b4 b5 b6 b7 b8 h3 h5 h6 h7 h8 _ _ _ ⟨256 + (x0 : ℕ), by omega⟩ 1 x0 x1 (fun k => by pointwise) (fun l => by pointwise [k0_pay2]) (fun l => by pointwise [k0_pay3])).trans
        (headS_congr _ _ _ _ _ _ _ h0 (by show 1 = (l : ℕ) / 128; omega) (by show (x1 : ℕ) = (l : ℕ) % 128; omega)))
  case piece11 =>
    replace h0 : (r : ℕ) = (x0 : ℕ) := h0
    replace h1 : (l : ℕ) = 128 + (x1 : ℕ) := h1
    exact (show _ = tile (k0_pay6 (k0_pay2 b7) (k0_pay3 b8) (k0_pay4 b1 b6) k0_pay5 96#32) (k0_pay7 b2) (k0_pay8 b3) (k0_pay9 b4)
        (View.ld b0 (Rect.unit ![0, 128] ![256, 128] inb_S1024x512_S256x128_0_128)) b5
        (extractStridedSlice S256x128 ![0, 0] (k0_pay2 b7) slices_S1024x128_o0_0_S256x128)
        (extractStridedSlice S256x128 ![0, 0] (k0_pay3 b8) slices_S1024x128_o0_0_S256x128) (ix2 x0 x1) from rfl).trans
      ((piece b0 b1 b2 b3 b4 b5 b6 b7 b8 h3 h5 h6 h7 h8 _ _ _ ⟨(x0 : ℕ), by omega⟩ 1 x0 x1 (fun k => by pointwise) (fun l => by pointwise [k0_pay2]) (fun l => by pointwise [k0_pay3])).trans
        (headS_congr _ _ _ _ _ _ _ h0 (by show 1 = (l : ℕ) / 128; omega) (by show (x1 : ℕ) = (l : ℕ) % 128; omega)))
  case piece12 =>
    replace h0 : (r : ℕ) = 768 + (x0 : ℕ) := h0
    replace h1 : (l : ℕ) = (x1 : ℕ) := h1
    exact (show _ = tile (k0_pay6 (k0_pay2 b7) (k0_pay3 b8) (k0_pay4 b1 b6) k0_pay5 96#32) (k0_pay7 b2) (k0_pay8 b3) (k0_pay9 b4)
        (View.ld b0 (Rect.unit ![768, 0] ![256, 128] inb_S1024x512_S256x128_768_0)) b5
        (extractStridedSlice S256x128 ![768, 0] (k0_pay2 b7) slices_S1024x128_o768_0_S256x128)
        (extractStridedSlice S256x128 ![768, 0] (k0_pay3 b8) slices_S1024x128_o768_0_S256x128) (ix2 x0 x1) from rfl).trans
      ((piece b0 b1 b2 b3 b4 b5 b6 b7 b8 h3 h5 h6 h7 h8 _ _ _ ⟨768 + (x0 : ℕ), by omega⟩ 0 x0 x1 (fun k => by pointwise) (fun l => by pointwise [k0_pay2]) (fun l => by pointwise [k0_pay3])).trans
        (headS_congr _ _ _ _ _ _ _ h0 (by show 0 = (l : ℕ) / 128; omega) (by show (x1 : ℕ) = (l : ℕ) % 128; omega)))
  case piece13 =>
    replace h0 : (r : ℕ) = 512 + (x0 : ℕ) := h0
    replace h1 : (l : ℕ) = (x1 : ℕ) := h1
    exact (show _ = tile (k0_pay6 (k0_pay2 b7) (k0_pay3 b8) (k0_pay4 b1 b6) k0_pay5 96#32) (k0_pay7 b2) (k0_pay8 b3) (k0_pay9 b4)
        (View.ld b0 (Rect.unit ![512, 0] ![256, 128] inb_S1024x512_S256x128_512_0)) b5
        (extractStridedSlice S256x128 ![512, 0] (k0_pay2 b7) slices_S1024x128_o512_0_S256x128)
        (extractStridedSlice S256x128 ![512, 0] (k0_pay3 b8) slices_S1024x128_o512_0_S256x128) (ix2 x0 x1) from rfl).trans
      ((piece b0 b1 b2 b3 b4 b5 b6 b7 b8 h3 h5 h6 h7 h8 _ _ _ ⟨512 + (x0 : ℕ), by omega⟩ 0 x0 x1 (fun k => by pointwise) (fun l => by pointwise [k0_pay2]) (fun l => by pointwise [k0_pay3])).trans
        (headS_congr _ _ _ _ _ _ _ h0 (by show 0 = (l : ℕ) / 128; omega) (by show (x1 : ℕ) = (l : ℕ) % 128; omega)))
  case piece14 =>
    replace h0 : (r : ℕ) = 256 + (x0 : ℕ) := h0
    replace h1 : (l : ℕ) = (x1 : ℕ) := h1
    exact (show _ = tile (k0_pay6 (k0_pay2 b7) (k0_pay3 b8) (k0_pay4 b1 b6) k0_pay5 96#32) (k0_pay7 b2) (k0_pay8 b3) (k0_pay9 b4)
        (View.ld b0 (Rect.unit ![256, 0] ![256, 128] inb_S1024x512_S256x128_256_0)) b5
        (extractStridedSlice S256x128 ![256, 0] (k0_pay2 b7) slices_S1024x128_o256_0_S256x128)
        (extractStridedSlice S256x128 ![256, 0] (k0_pay3 b8) slices_S1024x128_o256_0_S256x128) (ix2 x0 x1) from rfl).trans
      ((piece b0 b1 b2 b3 b4 b5 b6 b7 b8 h3 h5 h6 h7 h8 _ _ _ ⟨256 + (x0 : ℕ), by omega⟩ 0 x0 x1 (fun k => by pointwise) (fun l => by pointwise [k0_pay2]) (fun l => by pointwise [k0_pay3])).trans
        (headS_congr _ _ _ _ _ _ _ h0 (by show 0 = (l : ℕ) / 128; omega) (by show (x1 : ℕ) = (l : ℕ) % 128; omega)))
  case piece15 =>
    replace h0 : (r : ℕ) = (x0 : ℕ) := h0
    replace h1 : (l : ℕ) = (x1 : ℕ) := h1
    exact (show _ = tile (k0_pay6 (k0_pay2 b7) (k0_pay3 b8) (k0_pay4 b1 b6) k0_pay5 96#32) (k0_pay7 b2) (k0_pay8 b3) (k0_pay9 b4)
        (View.ld b0 (Rect.unit ![0, 0] ![256, 128] inb_S1024x512_S256x128_0_0)) b5
        (extractStridedSlice S256x128 ![0, 0] (k0_pay2 b7) slices_S1024x128_o0_0_S256x128)
        (extractStridedSlice S256x128 ![0, 0] (k0_pay3 b8) slices_S1024x128_o0_0_S256x128) (ix2 x0 x1) from rfl).trans
      ((piece b0 b1 b2 b3 b4 b5 b6 b7 b8 h3 h5 h6 h7 h8 _ _ _ ⟨(x0 : ℕ), by omega⟩ 0 x0 x1 (fun k => by pointwise) (fun l => by pointwise [k0_pay2]) (fun l => by pointwise [k0_pay3])).trans
        (headS_congr _ _ _ _ _ _ _ h0 (by show 0 = (l : ℕ) / 128; omega) (by show (x1 : ℕ) = (l : ℕ) % 128; omega)))

/-! ## The blocks a point reads -/

theorem idx : ∀ t : Fin cfg0.N, win0_0.index t = ![4 + t.val / 4, 12 + t.val % 4] ∧ win0_1.index t = ![4 + t.val / 4, 64 + t.val % 4]
    ∧ win0_2.index t = ![4 + t.val / 4, 68 + t.val % 4] ∧ win0_3.index t = ![t.val / 4, t.val % 4] ∧ win0_4.index t = ![t.val / 4, t.val % 4]
    ∧ win0_5.index t = ![0, 0] ∧ win0_6.index t = ![0, 0] ∧ win0_7.index t = ![0, 0] ∧ win0_8.index t = ![0, 0]
    ∧ win0_9.index t = ![4 + t.val / 4, t.val % 4] :=
  (by decide +kernel : ∀ t : Fin grid0.N, _)

/-- The query block of a point. -/
theorem q_at (c : Dev nD) (t : Fin cfg0.N) (ht : t.val < 16) (r : Fin 1024) (k : Fin 512) :
    (iblk m c 0 t : Vec Ideal S1024x512 .f32) (ix2 r k) = m ((c : Thread nD τ).loc main_arg1)
      (ix3 ⟨t.val / 4, by omega⟩ r ⟨7008 + (t.val % 4 * 512 + (k : ℕ)), by omega⟩ : S4x1024x10080.Idx) := by
  have h : (iblk m c 0 t : Vec Ideal S1024x512 .f32) (ix2 r k) = V m c main_v12
      (ix2 ⟨4096 + (t.val / 4 * 1024 + (r : ℕ)), by omega⟩ ⟨6144 + (t.val % 4 * 512 + (k : ℕ)), by omega⟩ : S8192x10240.Idx) := by
    blk_point [iblk, idx t]
  rw [h, V_packed]
  refine (pack_q _ ⟨4096 + (t.val / 4 * 1024 + (r : ℕ)), by omega⟩ ⟨t.val % 4 * 512 + (k : ℕ), by omega⟩).trans
    ((rows_late _ _ ⟨t.val / 4 * 1024 + (r : ℕ), by omega⟩ _).trans ?_)
  exact congrArg (m ((c : Thread nD τ).loc main_arg1)) ((ix3_inj ..).2 ⟨Fin.ext (by dsimp only; omega), Fin.ext (by dsimp only; omega), rfl⟩)

/-- The key block of a point. -/
theorem k_at (c : Dev nD) (t : Fin cfg0.N) (ht : t.val < 16) (r : Fin 1024) (k : Fin 128) :
    (iblk m c 1 t : Vec Ideal S1024x128 .f32) (ix2 r k) = m ((c : Thread nD τ).loc main_arg1)
      (ix3 ⟨t.val / 4, by omega⟩ r ⟨9056 + (t.val % 4 * 128 + (k : ℕ)), by omega⟩ : S4x1024x10080.Idx) := by
  have h : (iblk m c 1 t : Vec Ideal S1024x128 .f32) (ix2 r k) = V m c main_v12
      (ix2 ⟨4096 + (t.val / 4 * 1024 + (r : ℕ)), by omega⟩ ⟨8192 + (t.val % 4 * 128 + (k : ℕ)), by omega⟩ : S8192x10240.Idx) := by
    blk_point [iblk, idx t]
  rw [h, V_packed]
  refine (pack_k _ ⟨4096 + (t.val / 4 * 1024 + (r : ℕ)), by omega⟩ ⟨t.val % 4 * 128 + (k : ℕ), by omega⟩).trans
    ((rows_late _ _ ⟨t.val / 4 * 1024 + (r : ℕ), by omega⟩ _).trans ?_)
  exact congrArg (m ((c : Thread nD τ).loc main_arg1)) ((ix3_inj ..).2 ⟨Fin.ext (by dsimp only; omega), Fin.ext (by dsimp only; omega), rfl⟩)

/-- The value block of a point. -/
theorem v_at (c : Dev nD) (t : Fin cfg0.N) (ht : t.val < 16) (r : Fin 1024) (k : Fin 128) :
    (iblk m c 2 t : Vec Ideal S1024x128 .f32) (ix2 r k) = m ((c : Thread nD τ).loc main_arg1)
      (ix3 ⟨t.val / 4, by omega⟩ r ⟨9568 + (t.val % 4 * 128 + (k : ℕ)), by omega⟩ : S4x1024x10080.Idx) := by
  have h : (iblk m c 2 t : Vec Ideal S1024x128 .f32) (ix2 r k) = V m c main_v12
      (ix2 ⟨4096 + (t.val / 4 * 1024 + (r : ℕ)), by omega⟩ ⟨8704 + (t.val % 4 * 128 + (k : ℕ)), by omega⟩ : S8192x10240.Idx) := by
    blk_point [iblk, idx t]
  rw [h, V_packed]
  refine (pack_v _ ⟨4096 + (t.val / 4 * 1024 + (r : ℕ)), by omega⟩ ⟨t.val % 4 * 128 + (k : ℕ), by omega⟩).trans
    ((rows_late _ _ ⟨t.val / 4 * 1024 + (r : ℕ), by omega⟩ _).trans ?_)
  exact congrArg (m ((c : Thread nD τ).loc main_arg1)) ((ix3_inj ..).2 ⟨Fin.ext (by dsimp only; omega), Fin.ext (by dsimp only; omega), rfl⟩)

/-- The cached key block of a point. -/
theorem ck_at (c : Dev nD) (t : Fin cfg0.N) (ht : t.val < 16) (j : Fin 512) (d : Fin 128) :
    (iblk m c 3 t : Vec Ideal S512x128 .f32) (ix2 j d) = m ((c : Thread nD τ).loc main_arg2)
      (ix5 ⟨t.val / 4, by omega⟩ 0 j ⟨t.val % 4, by omega⟩ d : S4x1x512x4x128.Idx) := by
  have h : (iblk m c 3 t : Vec Ideal S512x128 .f32) (ix2 j d) = V m c main_v14
      (ix2 ⟨t.val / 4 * 512 + (j : ℕ), by omega⟩ ⟨t.val % 4 * 128 + (d : ℕ), by omega⟩ : S2048x512.Idx) := by
    blk_point [iblk, idx t]
  rw [h, V_ck]
  exact flat_at _ ⟨t.val / 4, by omega⟩ ⟨t.val % 4, by omega⟩ j d

/-- The cached value block of a point. -/
theorem cv_at (c : Dev nD) (t : Fin cfg0.N) (ht : t.val < 16) (j : Fin 512) (d : Fin 128) :
    (iblk m c 4 t : Vec Ideal S512x128 .f32) (ix2 j d) = m ((c : Thread nD τ).loc main_arg3)
      (ix5 ⟨t.val / 4, by omega⟩ 0 j ⟨t.val % 4, by omega⟩ d : S4x1x512x4x128.Idx) := by
  have h : (iblk m c 4 t : Vec Ideal S512x128 .f32) (ix2 j d) = V m c main_v16
      (ix2 ⟨t.val / 4 * 512 + (j : ℕ), by omega⟩ ⟨t.val % 4 * 128 + (d : ℕ), by omega⟩ : S2048x512.Idx) := by
    blk_point [iblk, idx t]
  rw [h, V_cv]
  exact flat_at _ ⟨t.val / 4, by omega⟩ ⟨t.val % 4, by omega⟩ j d

/-- A gain as the kernel reads it. -/
def GAIN (x : FVec Ideal S1x128 .f32) : FVec Ideal S1x128 .f32 :=
  broadcastInDim S1x128 ![1] bcast_S128_S1x128_1 (shapeCast S128 x shapeCasts_S1x128_S128)

theorem gain_at (x : FVec Ideal S1x128 .f32) (d : Fin 128) : GAIN x (ix2 0 d) = x (ix2 0 d) := by
  pointwise [GAIN]

theorem V_gq (c : Dev nD) : V m c main_v18 = GAIN (m ((c : Thread nD τ).loc main_arg4)) := by
  unfold V
  after_reads_simp
  rfl

theorem V_gk (c : Dev nD) : V m c main_v20 = GAIN (m ((c : Thread nD τ).loc main_arg5)) := by
  unfold V
  after_reads_simp
  rfl

theorem gq_at (c : Dev nD) (t : Fin cfg0.N) (d : Fin 128) :
    (iblk m c 5 t : Vec Ideal S1x128 .f32) (ix2 0 d) = m ((c : Thread nD τ).loc main_arg4) (ix2 0 d : S1x128.Idx) := by
  have h : (iblk m c 5 t : Vec Ideal S1x128 .f32) (ix2 0 d) = V m c main_v18 (ix2 0 d : S1x128.Idx) := by
    blk_point [iblk, idx t]
  rw [h, V_gq, gain_at]

theorem gk_at (c : Dev nD) (t : Fin cfg0.N) (d : Fin 128) :
    (iblk m c 6 t : Vec Ideal S1x128 .f32) (ix2 0 d) = m ((c : Thread nD τ).loc main_arg5) (ix2 0 d : S1x128.Idx) := by
  have h : (iblk m c 6 t : Vec Ideal S1x128 .f32) (ix2 0 d) = V m c main_v20 (ix2 0 d : S1x128.Idx) := by
    blk_point [iblk, idx t]
  rw [h, V_gk, gain_at]

theorem tc_at (c : Dev nD) (t : Fin cfg0.N) (n : Fin 1024) (l : Fin 128) :
    (iblk m c 7 t : Vec Ideal S1024x128 .f32) (ix2 n l) = Ideal.cos (ang n l) := by
  have h : (iblk m c 7 t : Vec Ideal S1024x128 .f32) (ix2 n l) = V m c main_v47 (ix2 n l : S1024x128.Idx) := by
    blk_point [iblk, idx t]
  rw [h, cos_at]

theorem ts_at (c : Dev nD) (t : Fin cfg0.N) (n : Fin 1024) (l : Fin 128) :
    (iblk m c 8 t : Vec Ideal S1024x128 .f32) (ix2 n l) = sgn n l := by
  have h : (iblk m c 8 t : Vec Ideal S1024x128 .f32) (ix2 n l) = V m c main_v54 (ix2 n l : S1024x128.Idx) := by
    blk_point [iblk, idx t]
  rw [h, sin_at]

/-! ## The result array -/

/-- The gains and the cached keys are real numbers. -/
def RealKeys (c : Dev nD) : Prop :=
  (∀ d : Fin 128, IsReal ((m ((c : Thread nD τ).loc main_arg4)) (ix2 0 d : S1x128.Idx)))
    ∧ (∀ d : Fin 128, IsReal ((m ((c : Thread nD τ).loc main_arg5)) (ix2 0 d : S1x128.Idx)))
    ∧ ∀ i : S4x1x512x4x128.Idx, IsReal ((m ((c : Thread nD τ).loc main_arg2)) i)

/-- The result array, from the launch's arrays. -/
def OUT (c : Dev nD) : FVec Ideal S8192x2048 .bf16 :=
  O (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

theorem attTwo_congr {q q' : Fin 128 → EReal} {k1 k1' : Fin 512 → Fin 128 → EReal} {k2 k2' : Fin 1024 → Fin 128 → EReal} {v1 v1' : Fin 512 → EReal}
    {v2 v2' : Fin 1024 → EReal} (hq : q = q') (h1 : k1 = k1') (h2 : k2 = k2') (h3 : v1 = v1') (h4 : v2 = v2') :
    attTwo q k1 k2 v1 v2 = attTwo q' k1' k2' v1' v2' := by rw [hq, h1, h2, h3, h4]

theorem point9 (c : Dev nD) (hg : RealKeys m c) (t : Fin cfg0.N) (y : S1024x512.Idx) :
    outsAt0 m c t y = OUT m c (((cfg0.win 9).blk t).view.emb y) := by
  have ht : t.val < 16 := lt_of_lt_of_eq t.isLt N_0
  idx_vars y
  have hJ : ((cfg0.win 9).blk t).view.emb (ix2 y0 y1) = (ix2 ⟨4096 + (t.val / 4 * 1024 + (y0 : ℕ)), by omega⟩ ⟨t.val % 4 * 512 + (y1 : ℕ), by omega⟩ : S8192x2048.Idx) := by
    blk_ext [idx t]
  rw [hJ]
  refine (out_at m c t (fun j d => (ck_at m c t ht j d).symm ▸ hg.2.2 _) (fun d => (gq_at m c t d).symm ▸ hg.1 d)
    (fun d => (gk_at m c t d).symm ▸ hg.2.1 d) (tc_at m c t) (ts_at m c t) y0 y1).trans (Eq.trans ?_ (O_hi _ _ _ _ _ _ ⟨t.val / 4, by omega⟩ y0 ⟨t.val % 4, by omega⟩
      ⟨(y1 : ℕ) / 128, by omega⟩ ⟨(y1 : ℕ) % 128, by omega⟩ _ _ rfl (by dsimp only; omega)).symm)
  unfold headS
  refine attTwo_congr (congrArg (rot · (y0 : ℕ)) (funext fun e => Ideal.mul_congr (congrArg (nrm · e) (funext fun k =>
      (q_at m c t ht y0 ⟨(y1 : ℕ) / 128 * 128 + (k : ℕ), by omega⟩).trans ?_)) (gq_at m c t e)))
    (funext fun j => funext fun e => ck_at m c t ht j e)
    (funext fun j => congrArg (rot · (j : ℕ)) (funext fun e => Ideal.mul_congr (congrArg (nrm · e) (funext fun k => k_at m c t ht j k)) (gk_at m c t e)))
    (funext fun j => cv_at m c t ht j _) (funext fun j => v_at m c t ht j _)
  exact congrArg (m ((c : Thread nD τ).loc main_arg1)) ((ix3_inj ..).2 ⟨rfl, rfl, Fin.ext (by dsimp only; omega)⟩)

theorem V_out (c : Dev nD) : V m c main_v55 = m ((c : Thread nD τ).loc main_arg6) := by
  unfold V
  after_reads_simp
  rfl

theorem V_out_at (c : Dev nD) (i : S8192x2048.Idx) : V m c main_v55 i = (m ((c : Thread nD τ).loc main_arg6) : FVec Ideal S8192x2048 .bf16) i := by
  rw [V_out]

theorem OUT_lo (c : Dev nD) (r : Fin 4096) (l : Fin 2048) : OUT m c (ix2 ⟨(r : ℕ), by omega⟩ l)
    = (m ((c : Thread nD τ).loc main_arg6) : FVec Ideal S8192x2048 .bf16) (ix2 ⟨(r : ℕ), by omega⟩ l) := by
  unfold OUT
  exact O_lo _ _ _ _ _ _ r l

/-- THE RESULT ARRAY: the latent rows' attention, and the context rows as they came in. -/
theorem final9 (c : Dev nD) (hg : RealKeys m c) : (dats m 0 c).arrAt 9 (cfgs 0).N = OUT m c := by
  refine (dats m 0 c).arrAt_eq_of_coversWhere_of_agree 9 _ (fun β => 4 ≤ β 0) (by decide +kernel) (fun t hf y => ?_) (fun j hj => ?_)
  · blk_simp
    rw [after0_9]
    exact point9 m c hg t y
  · blk_simp [Pipeline.Window.cell_apply] at hj
    rw [A_eq]
    refine (V_out_at m c j).trans ?_
    idx_vars j
    replace hj : ¬ 4 ≤ (j0 : ℕ) / 1024 := hj
    exact (OUT_lo m c ⟨(j0 : ℕ), by omega⟩ j1).symm

/-! ## The precondition -/

theorem keys_of_pre (a0 : FVec Ideal S16x256x10080 .f32) (a1 : FVec Ideal S4x1024x10080 .f32) (a2 a3 : FVec Ideal S4x1x512x4x128 .f32)
    (a4 a5 : FVec Ideal S1x128 .f32) (a6 : FVec Ideal S8192x2048 .bf16)
    (h : Cert.Pre_finite_keys.fn (F := Ideal) a0 a1 a2 a3 a4 a5 a6 = fun _ => 1#1) :
    (∀ d : Fin 128, IsReal (a4 (ix2 0 d))) ∧ (∀ d : Fin 128, IsReal (a5 (ix2 0 d))) ∧ ∀ i : S4x1x512x4x128.Idx, IsReal (a2 i) := by
  have h0 := congrFun h ix0
  unfold Cert.Pre_finite_keys.fn at h0
  dsimp only at h0
  obtain ⟨h12, h3⟩ := IntOp.andi_eq_one.1 h0
  obtain ⟨h1, h2⟩ := IntOp.andi_eq_one.1 h12
  exact ⟨fun d => real_of_abs_lt (Host.reduce_andi_all _ _ _ _ _ h1 (ix2 0 d)), fun d => real_of_abs_lt (Host.reduce_andi_all _ _ _ _ _ h2 (ix2 0 d)),
    fun i => real_of_abs_lt (Host.reduce_andi_all _ _ _ _ _ h3 i)⟩

end Cert.Kernel2Ideal.Attn

end
-- ==== Proof.ClaimAttnSample.lean ====
module
public import proofs.«01_k».proof.Proof.AttnSample
public import proofs.«01_k».proof.Defs
public import proofs.«01_k».proof.Proof.Gen.Reference2Ideal.Run
public import Idealize.ShloMosaic.Lib.Claim

@[expose] public section
noncomputable section
namespace Cert.Proof
open Idealize.ShloMosaic Idealize.SL.Sem
open Cert.Reference2Ideal.Attn (O)

open Cert.Kernel2Ideal in
/-- What the kernel's run leaves in its result array, at real gains and cached keys. -/
theorem kernel2_run (m : (ℓ : Loc nD τ sig) → Buf (Elt Ideal) ℓ) (g : Dev nD → PrngReg)
    (hg : ∀ c, Cert.Kernel2Ideal.Attn.RealKeys m c) :
    θ_run defs (onTc (τ := τ) (main (F := Ideal))) ⟨m, fun _ => 0, g⟩ (fun r => ∀ c : Dev nD,
      r.2.mem ((c.tc : Thread nD τ).loc main_v55) = Attn.OUT m c) :=
  (θ_run defs _ _).mono (fun _ h c => ((h c).1 9).trans (Attn.final9 m c (hg c))) (Gen.run_main m g)

open Cert.Reference2Ideal in
set_option maxHeartbeats 4000000 in
/-- What the reference's run leaves in its result array. -/
theorem reference2_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v179) = O (m (c.tc.loc main_arg1)) (m (c.tc.loc main_arg2)) (m (c.tc.loc main_arg3))
        (m (c.tc.loc main_arg4)) (m (c.tc.loc main_arg5)) (m (c.tc.loc main_arg6))) :=
  (θ_run _ _ _).mono (fun r h c => (h c).1.trans rfl) (Value.run m g)

/-- Attention over the latent tokens: kernel and reference agree. -/
theorem algebraic_attn_sample : Cert.algebraic_Kernel2Ideal_Reference2Ideal_pre_finite_keys := by
  intro m g m' g' hpre hagree
  refine ⟨fun c => Cert.Kernel2Ideal.Attn.OUT m c, ?_, ?_⟩
  · have hg : ∀ c, Cert.Kernel2Ideal.Attn.RealKeys m c := fun c => Cert.Kernel2Ideal.Attn.keys_of_pre _ _ _ _ _ _ _ (hpre c)
    exact (θ_run _ _ _).mono (fun r h c => ⟨h.1 c, h.2 c⟩) (θ_run_and (kernel2_run m g hg) (Cert.Kernel2Ideal.Gen.unchanged m g))
  · refine (θ_run _ _ _).mono (fun r h c => ?_) (θ_run_and (reference2_run m' g') (Cert.Reference2Ideal.Value.run m' g'))
    obtain ⟨a0, a1, a2, a3, a4, a5, a6⟩ := hagree c
    refine ⟨(h.1 c).trans ?_, (h.2 c).2⟩
    rw [a1, a2, a3, a4, a5, a6]
    rfl

end Cert.Proof
end
end
-- ==== Proof.SwigluIn.lean ====
/- SwiGLU in: the two result arrays of the tiled kernel are the reference's composed terms of the arguments. -/
module

public import proofs.«01_k».proof.Proof.Gen.Kernel3Ideal.Frame
public import proofs.«01_k».proof.Proof.Gen.Reference3Ideal.Run
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem

namespace Cert.Reference3Ideal.Swiglu
open Cert.Reference3Ideal Cert.Reference3Ideal.Gen

/-- The gate's product through the sigmoid, times the other product. -/
def act (g u : EReal) : EReal := g * Ideal.div 1 (1 + Ideal.exp (-g)) * u

/-- The layer's weight. -/
def W (a2 : FVec Ideal S2x2x4096x22016 .f32) : FVec Ideal S4096x22016 .f32 :=
  shapeCast _ (extractStridedSlice S1x1x4096x22016 ![1, 1, 0, 0] a2 slices_S2x2x4096x22016_S1x1x4096x22016_1_1_0_0) shapeCasts_S1x1x4096x22016_S4096x22016

/-- Both products of the context rows, and of the latent rows. -/
def prodP (a0 : FVec Ideal S16x256x4096 .f32) (w : FVec Ideal S4096x22016 .f32) : FVec Ideal S16x256x22016 .f32 :=
  Host.dotGeneral dot_S16x256x4096_S4096x22016_S16x256x22016_2_0_01_1_n_n none a0 w
def prodS (a1 : FVec Ideal S4x1024x4096 .f32) (w : FVec Ideal S4096x22016 .f32) : FVec Ideal S4x1024x22016 .f32 :=
  Host.dotGeneral dot_S4x1024x4096_S4096x22016_S4x1024x22016_2_0_01_1_n_n none a1 w

/-- The hidden rows of the context, from the products. -/
def hidP (P : FVec Ideal S16x256x22016 .f32) : FVec Ideal S4096x11008 .f32 :=
  shapeCast _ (mulf (mulf (extractStridedSlice S16x256x11008 ![0, 0, 0] P slices_S16x256x22016_S16x256x11008_0_0_0) (Host.divf (broadcastInDim S16x256x11008 ![] bcast_S_S16x256x11008 (constant S_ .f32 0x3F800000#32)) (addf (broadcastInDim S16x256x11008 ![] bcast_S_S16x256x11008 (constant S_ .f32 0x3F800000#32)) (Host.exp (Host.negf (extractStridedSlice S16x256x11008 ![0, 0, 0] P slices_S16x256x22016_S16x256x11008_0_0_0)))))) (extractStridedSlice S16x256x11008 ![0, 0, 11008] P slices_S16x256x22016_S16x256x11008_0_0_11008)) shapeCasts_S16x256x11008_S4096x11008
/-- The hidden rows of the latent tokens, from the products. -/
def hidS (P : FVec Ideal S4x1024x22016 .f32) : FVec Ideal S4096x11008 .f32 :=
  shapeCast _ (mulf (mulf (extractStridedSlice S4x1024x11008 ![0, 0, 0] P slices_S4x1024x22016_S4x1024x11008_0_0_0) (Host.divf (broadcastInDim S4x1024x11008 ![] bcast_S_S4x1024x11008 (constant S_ .f32 0x3F800000#32)) (addf (broadcastInDim S4x1024x11008 ![] bcast_S_S4x1024x11008 (constant S_ .f32 0x3F800000#32)) (Host.exp (Host.negf (extractStridedSlice S4x1024x11008 ![0, 0, 0] P slices_S4x1024x22016_S4x1024x11008_0_0_0)))))) (extractStridedSlice S4x1024x11008 ![0, 0, 11008] P slices_S4x1024x22016_S4x1024x11008_0_0_11008)) shapeCasts_S4x1024x11008_S4096x11008
/-- Two blocks of rows on top of each other, cast. -/
def stack (A B : FVec Ideal S4096x11008 .f32) : FVec Ideal S8192x11008 .bf16 :=
  truncf .bf16 (concatenate S8192x11008 0 [⟨S4096x11008, A⟩, ⟨S4096x11008, B⟩] concatenates_S4096x11008_S4096x11008_S8192x11008_d0) bitsLt_bf16_f32

/-- The reference's first result. -/
def H (a0 : FVec Ideal S16x256x4096 .f32) (a1 : FVec Ideal S4x1024x4096 .f32) (a2 : FVec Ideal S2x2x4096x22016 .f32) : FVec Ideal S8192x11008 .bf16 :=
  stack (hidP (prodP a0 (W a2))) (hidS (prodS a1 (W a2)))
/-- The reference's second result. -/
def WO (a3 : FVec Ideal S2x2x11008x4096 .f32) : FVec Ideal S11008x4096 .bf16 :=
  truncf .bf16 (shapeCast _ (extractStridedSlice S1x1x11008x4096 ![1, 1, 0, 0] a3 slices_S2x2x11008x4096_S1x1x11008x4096_1_1_0_0) shapeCasts_S1x1x11008x4096_S11008x4096) bitsLt_bf16_f32

theorem W_at (a2 : FVec Ideal S2x2x4096x22016 .f32) (k : Fin 4096) (l : Fin 22016) : W a2 (ix2 k l) = a2 (ix4 1 1 k l) := by
  pointwise [W]
theorem WO_at (a3 : FVec Ideal S2x2x11008x4096 .f32) (k : Fin 11008) (l : Fin 4096) : WO a3 (ix2 k l) = a3 (ix4 1 1 k l) := by
  pointwise [WO]
theorem prodP_at (a0 : FVec Ideal S16x256x4096 .f32) (w : FVec Ideal S4096x22016 .f32) (b : Fin 16) (n : Fin 256) (l : Fin 22016) :
    prodP a0 w (ix3 b n l) = ∑ k : Fin 4096, a0 (ix3 b n k) * w (ix2 k l) := by
  pointwise [prodP]
theorem prodS_at (a1 : FVec Ideal S4x1024x4096 .f32) (w : FVec Ideal S4096x22016 .f32) (b : Fin 4) (n : Fin 1024) (l : Fin 22016) :
    prodS a1 w (ix3 b n l) = ∑ k : Fin 4096, a1 (ix3 b n k) * w (ix2 k l) := by
  pointwise [prodS]
theorem hidP_at (P : FVec Ideal S16x256x22016 .f32) (r : Fin 4096) (l : Fin 11008) :
    hidP P (ix2 r l) = act (P (ix3 ⟨(r : ℕ) / 256, by omega⟩ ⟨(r : ℕ) % 256, by omega⟩ ⟨(l : ℕ), by omega⟩))
      (P (ix3 ⟨(r : ℕ) / 256, by omega⟩ ⟨(r : ℕ) % 256, by omega⟩ ⟨11008 + (l : ℕ), by omega⟩)) := by
  pointwise [hidP, act]
theorem hidS_at (P : FVec Ideal S4x1024x22016 .f32) (r : Fin 4096) (l : Fin 11008) :
    hidS P (ix2 r l) = act (P (ix3 ⟨(r : ℕ) / 1024, by omega⟩ ⟨(r : ℕ) % 1024, by omega⟩ ⟨(l : ℕ), by omega⟩))
      (P (ix3 ⟨(r : ℕ) / 1024, by omega⟩ ⟨(r : ℕ) % 1024, by omega⟩ ⟨11008 + (l : ℕ), by omega⟩)) := by
  pointwise [hidS, act]

/-- One row of the two batches' activations, the context first. -/
def row (a0 : FVec Ideal S16x256x4096 .f32) (a1 : FVec Ideal S4x1024x4096 .f32) (r : Fin 8192) (k : Fin 4096) : EReal :=
  if h : (r : ℕ) < 4096 then a0 (ix3 ⟨(r : ℕ) / 256, by omega⟩ ⟨(r : ℕ) % 256, by omega⟩ k)
  else a1 (ix3 ⟨((r : ℕ) - 4096) / 1024, by omega⟩ ⟨((r : ℕ) - 4096) % 1024, by omega⟩ k)

theorem stack_at (A B : FVec Ideal S4096x11008 .f32) (r : Fin 8192) (l : Fin 11008) :
    stack A B (ix2 r l) = if h : (r : ℕ) < 4096 then A (ix2 ⟨(r : ℕ), h⟩ l) else B (ix2 ⟨(r : ℕ) - 4096, by omega⟩ l) := by
  pointwise [stack]

theorem H_at (a0 : FVec Ideal S16x256x4096 .f32) (a1 : FVec Ideal S4x1024x4096 .f32) (a2 : FVec Ideal S2x2x4096x22016 .f32) (r : Fin 8192) (l : Fin 11008) :
    H a0 a1 a2 (ix2 r l) = act (∑ k : Fin 4096, row a0 a1 r k * a2 (ix4 1 1 k ⟨(l : ℕ), by omega⟩))
      (∑ k : Fin 4096, row a0 a1 r k * a2 (ix4 1 1 k ⟨11008 + (l : ℕ), by omega⟩)) := by
  unfold H
  rw [stack_at]
  by_cases h : (r : ℕ) < 4096
  · rw [dif_pos h, hidP_at, prodP_at, prodP_at]
    simp only [W_at, row, dif_pos h]
  · rw [dif_neg h, hidS_at, prodS_at, prodS_at]
    simp only [W_at, row, dif_neg h]

end Cert.Reference3Ideal.Swiglu

namespace Cert.Kernel3Ideal.Swiglu
open Cert.Kernel3Ideal Cert.Kernel3Ideal.Gen
open Idealize.ShloMosaic.Pipeline (Dat)
open Cert.Reference3Ideal.Swiglu (act row H WO H_at WO_at)

variable (m : (ℓ : Loc nD τ sig) → Buf (Elt Ideal) ℓ)

/-- Every window's block index, at all grid points. -/
theorem idx : ∀ t : Fin cfg0.N, win0_0.index t = ![t.val % 8, 0] ∧ win0_1.index t = ![1, 1, 0, t.val / 8]
    ∧ win0_2.index t = ![1, 1, 0, 43 + t.val / 8] ∧ win0_3.index t = ![1, 1, t.val, 0]
    ∧ win0_4.index t = ![t.val % 8, t.val / 8] ∧ win0_5.index t = ![t.val, 0] :=
  (by decide +kernel : ∀ t : Fin grid0.N, _)

/-- The two batches' rows, one above the other. -/
def ROWS (a0 : FVec Ideal S16x256x4096 .f32) (a1 : FVec Ideal S4x1024x4096 .f32) : FVec Ideal S8192x4096 .bf16 :=
  truncf .bf16 (concatenate S8192x4096 0 [⟨S4096x4096, shapeCast S4096x4096 a0 shapeCasts_S16x256x4096_S4096x4096⟩, ⟨S4096x4096, shapeCast S4096x4096 a1 shapeCasts_S4x1024x4096_S4096x4096⟩] concatenates_S4096x4096_S4096x4096_S8192x4096_d0) bitsLt_bf16_f32

theorem V_rows (c : Dev nD) : V m c main_v3 = ROWS (m ((c : Thread nD τ).loc main_arg0)) (m ((c : Thread nD τ).loc main_arg1)) := by
  unfold V
  after_reads_simp
  rfl

theorem rows_at (a0 : FVec Ideal S16x256x4096 .f32) (a1 : FVec Ideal S4x1024x4096 .f32) (r : Fin 8192) (k : Fin 4096) :
    ROWS a0 a1 (ix2 r k) = row a0 a1 r k := by
  pointwise [ROWS, row]

theorem u_at (c : Dev nD) (t : Fin cfg0.N) (r : Fin 1024) (k : Fin 4096) :
    (iblk m c 0 t : Vec Ideal S1024x4096 .bf16) (ix2 r k) = row (m ((c : Thread nD τ).loc main_arg0)) (m ((c : Thread nD τ).loc main_arg1))
      ⟨t.val % 8 * 1024 + (r : ℕ), by omega⟩ k := by
  have h : (iblk m c 0 t : Vec Ideal S1024x4096 .bf16) (ix2 r k) = V m c main_v3
      (ix2 ⟨t.val % 8 * 1024 + (r : ℕ), by omega⟩ k : S8192x4096.Idx) := by
    blk_point [iblk, idx t]
  rw [h, V_rows]
  exact rows_at _ _ _ _

theorem pay1_at (v : Vec Ideal S1x1x4096x256 .f32) (k : Fin 4096) (l : Fin 256) :
    k0_pay1 (F := Ideal) v (ix2 k l) = v (ix4 0 0 k l) := by
  pointwise [k0_pay1]
theorem pay2_at (v : Vec Ideal S1x1x4096x256 .f32) (k : Fin 4096) (l : Fin 256) :
    k0_pay2 (F := Ideal) v (ix2 k l) = v (ix4 0 0 k l) := by
  pointwise [k0_pay2]
theorem pay3_at (v : Vec Ideal S1x1x32x4096 .f32) (r : Fin 32) (l : Fin 4096) :
    k0_pay3 (F := Ideal) v (ix2 r l) = v (ix4 0 0 r l) := by
  pointwise [k0_pay3]
theorem pay4_at (x : Vec Ideal S1024x4096 .bf16) (g u : Vec Ideal S4096x256 .bf16) (r : Fin 1024) (l : Fin 256) :
    k0_pay4 (F := Ideal) x g u (ix2 r l) = act (∑ k : Fin 4096, x (ix2 r k) * g (ix2 k l)) (∑ k : Fin 4096, x (ix2 r k) * u (ix2 k l)) := by
  pointwise [k0_pay4, act]
  rfl

theorem N_lt (t : Fin cfg0.N) : t.val < 344 := lt_of_lt_of_eq t.isLt N_0

theorem wg_at (c : Dev nD) (t : Fin cfg0.N) (ht : t.val < 344) (k : Fin 4096) (l : Fin 256) :
    k0_pay1 (F := Ideal) (iblk m c 1 t) (ix2 k l) = m ((c : Thread nD τ).loc main_arg2)
      (ix4 1 1 k ⟨t.val / 8 * 256 + (l : ℕ), by omega⟩ : S2x2x4096x22016.Idx) := by
  refine (pay1_at _ k l).trans ?_
  blk_point [iblk, V, idx t]
theorem wu_at (c : Dev nD) (t : Fin cfg0.N) (ht : t.val < 344) (k : Fin 4096) (l : Fin 256) :
    k0_pay2 (F := Ideal) (iblk m c 2 t) (ix2 k l) = m ((c : Thread nD τ).loc main_arg2)
      (ix4 1 1 k ⟨11008 + (t.val / 8 * 256 + (l : ℕ)), by omega⟩ : S2x2x4096x22016.Idx) := by
  refine (pay2_at _ k l).trans ?_
  blk_point [iblk, V, idx t]

/-- The two scratches hold the column tile's weight blocks at every point. -/
theorem scratch (c : Dev nD) : ∀ (n : ℕ) (hn : n < cfg0.N) (h : n < 344) (k : Fin 4096) (l : Fin 256),
    (outsAt0 m c n hn).2.2.1 (ix2 k l) = m ((c : Thread nD τ).loc main_arg2)
      (ix4 1 1 k ⟨n / 8 * 256 + (l : ℕ), by omega⟩ : S2x2x4096x22016.Idx)
    ∧ (outsAt0 m c n hn).2.2.2 (ix2 k l) = m ((c : Thread nD τ).loc main_arg2)
      (ix4 1 1 k ⟨11008 + (n / 8 * 256 + (l : ℕ)), by omega⟩ : S2x2x4096x22016.Idx) := by
  intro n
  induction n with
  | zero =>
    intro hn h k l
    rw [outsAt0_A m c ⟨0, hn⟩ rfl]
    constructor
    · frame_out
      exact wg_at m c ⟨0, hn⟩ h k l
    · frame_out
      exact wu_at m c ⟨0, hn⟩ h k l
  | succ n ih =>
    intro hn h k l
    by_cases h0 : (n + 1) % 8 = 0
    · rw [outsAt0_A m c ⟨n + 1, hn⟩ h0]
      constructor
      · frame_out
        exact wg_at m c ⟨n + 1, hn⟩ h k l
      · frame_out
        exact wu_at m c ⟨n + 1, hn⟩ h k l
    · rw [outsAt0_B m c ⟨n + 1, hn⟩ h0]
      have ih' := ih (by omega) (by omega) k l
      have e : (n + 1) / 8 = n / 8 := by omega
      simp only [e]
      exact ih'

/-- What a point leaves in the first output's buffer. -/
theorem out4 (c : Dev nD) (t : Fin cfg0.N) :
    (outsAt0 m c t.val t.isLt).1
      = k0_pay4 (F := Ideal) (iblk m c 0 t) (outsAt0 m c t.val t.isLt).2.2.1 (outsAt0 m c t.val t.isLt).2.2.2 := by
  by_cases h0 : t.val % 8 = 0
  · rw [outsAt0_A m c t h0]
    frame_out
  · rw [outsAt0_B m c t h0]
    frame_out
    unfold sout0_B_0 sout0_B_1
    exact congrArg₂ (k0_pay4 (F := Ideal) (iblk m c 0 t)) ((Memref.isWhole_whole cc0_scratch0).read_unread _) ((Memref.isWhole_whole cc0_scratch1).read_unread _)

theorem out5 (c : Dev nD) (t : Fin cfg0.N) :
    (outsAt0 m c t.val t.isLt).2.1 = k0_pay3 (F := Ideal) (iblk m c 3 t) := by
  by_cases h0 : t.val % 8 = 0
  · rw [outsAt0_A m c t h0]
    frame_out
  · rw [outsAt0_B m c t h0]
    frame_out

theorem point4 (c : Dev nD) (t : Fin cfg0.N) (y : S1024x256.Idx) :
    (outsAt0 m c t.val t.isLt).1 y = H (m ((c : Thread nD τ).loc main_arg0)) (m ((c : Thread nD τ).loc main_arg1))
      (m ((c : Thread nD τ).loc main_arg2)) (((cfg0.win 4).blk t).view.emb y) := by
  have ht := N_lt t
  idx_vars y
  obtain_idx j : S8192x11008 := [t.val % 8 * 1024 + (y0 : ℕ), t.val / 8 * 256 + (y1 : ℕ)] with hj
  have hJ : ((cfg0.win 4).blk t).view.emb (ix2 y0 y1) = j := by blk_ext [idx t]
  rw [hJ]
  idx_vars j
  rw [out4]
  refine (pay4_at _ _ _ y0 y1).trans (Eq.trans ?_ (H_at _ _ _ j0 j1).symm)
  refine congrArg₂ act (Finset.sum_congr rfl fun k _ => Ideal.mul_congr ((u_at m c t y0 k).trans ?_) ((scratch m c t.val t.isLt ht k y1).1.trans ?_))
    (Finset.sum_congr rfl fun k _ => Ideal.mul_congr ((u_at m c t y0 k).trans ?_) ((scratch m c t.val t.isLt ht k y1).2.trans ?_))
  · exact congrArg (fun z => row _ _ z k) (Fin.ext hj0.symm)
  · exact congrArg (m ((c : Thread nD τ).loc main_arg2)) ((ix4_inj ..).2 ⟨rfl, rfl, rfl, Fin.ext (by dsimp only; omega)⟩)
  · exact congrArg (fun z => row _ _ z k) (Fin.ext hj0.symm)
  · exact congrArg (m ((c : Thread nD τ).loc main_arg2)) ((ix4_inj ..).2 ⟨rfl, rfl, rfl, Fin.ext (by dsimp only; omega)⟩)

theorem point5 (c : Dev nD) (t : Fin cfg0.N) (y : S32x4096.Idx) :
    k0_pay3 (F := Ideal) (iblk m c 3 t) y = WO (m ((c : Thread nD τ).loc main_arg3)) (((cfg0.win 5).blk t).view.emb y) := by
  have ht := N_lt t
  idx_vars y
  obtain_idx j : S11008x4096 := [t.val * 32 + (y0 : ℕ), (y1 : ℕ)] with hj
  have hJ : ((cfg0.win 5).blk t).view.emb (ix2 y0 y1) = j := by blk_ext [idx t]
  rw [hJ]
  idx_vars j
  refine (pay3_at _ y0 y1).trans (Eq.trans ?_ (WO_at _ j0 j1).symm)
  blk_point [iblk, V, idx t]

theorem final4 (c : Dev nD) : (dats m 0 c).arrAt 4 (cfgs 0).N
    = H (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  exact point4 m c t y

theorem final5 (c : Dev nD) : (dats m 0 c).arrAt 5 (cfgs 0).N = WO (m ((c : Thread nD τ).loc main_arg3)) := by
  refine (dats m 0 c).arrAt_eq_of_covers 5 _ (by decide +kernel) fun t _ y => ?_
  blk_simp
  rw [after0_5, out5]
  exact point5 m c t y

end Cert.Kernel3Ideal.Swiglu

end
-- ==== Proof.ClaimSwigluIn.lean ====
module
public import proofs.«01_k».proof.Proof.SwigluIn
public import proofs.«01_k».proof.Defs
public import proofs.«01_k».proof.Proof.Gen.Reference3Ideal.Run
public import Idealize.ShloMosaic.Lib.Claim

@[expose] public section
noncomputable section
namespace Cert.Proof
open Idealize.ShloMosaic Idealize.SL.Sem

/-- SwiGLU's input products: kernel and reference agree on both results everywhere. -/
theorem algebraic_swiglu_in : Cert.algebraic_Kernel3Ideal_Reference3Ideal := by
  pair_intro
  · run_from Cert.Kernel3Ideal.Gen.run_main m g
  · run_from Cert.Reference3Ideal.Value.run m' g'
    · obtain ⟨a0, a1, a2, a3⟩ := hagree c
      rw [Cert.Kernel3Ideal.Swiglu.final4 m c, ← a0, ← a1, ← a2]
      rfl
    · obtain ⟨a0, a1, a2, a3⟩ := hagree c
      rw [Cert.Kernel3Ideal.Swiglu.final5 m c, ← a3]
      rfl

end Cert.Proof
end
end
-- ==== Proof.FfnOut.lean ====
/- The down projection of the feed-forward layer with its gated residual: the result array of the tiled kernel is the
   reference's composed term of the arguments, index by index. -/
module

public import proofs.«01_k».proof.Proof.Gen.Kernel4Ideal.Frame
public import proofs.«01_k».proof.Proof.Gen.Reference4Ideal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Reference4Ideal.FfnOut
open Cert.Reference4Ideal Cert.Reference4Ideal.Gen

/-- The reference's result as a term of the four arguments. -/
def REF (a0 : FVec Ideal S8192x11008 .f32) (a1 : FVec Ideal S2x2x11008x4096 .f32) (a2 : FVec Ideal S8192x4096 .f32)
    (a3 : FVec Ideal S2x8x36864 .f32) : FVec Ideal S8192x4096 .f32 :=
  addf (mulf (broadcastInDim S8192x4096 ![] bcast_S_S8192x4096 (constant S_ .f32 0x3FB504F3#32)) a2) (mulf (concatenate S8192x4096 0 [⟨S4096x4096, (shapeCast _ (broadcastInDim S1x4096x4096 ![0, 1, 2] bcast_S1x1x4096_S1x4096x4096_0_1_2 (broadcastInDim S1x1x4096 ![0, 2] bcast_S1x4096_S1x1x4096_0_2 (extractStridedSlice S1x4096 ![0, 0] (shapeCast _ (extractStridedSlice S8x1x1x4096 ![0, 2, 2, 0] (shapeCast _ (shapeCast _ (extractStridedSlice S1x8x36864 ![1, 0, 0] a3 slices_S2x8x36864_S1x8x36864_1_0_0) shapeCasts_S1x8x36864_S8x36864) shapeCasts_S8x36864_S8x3x3x4096) slices_S8x3x3x4096_S8x1x1x4096_0_2_2_0) shapeCasts_S8x1x1x4096_S8x4096) slices_S8x4096_S1x4096_0_0))) shapeCasts_S1x4096x4096_S4096x4096)⟩, ⟨S4096x4096, (shapeCast _ (broadcastInDim S4x1024x4096 ![0, 1, 2] bcast_S4x1x4096_S4x1024x4096_0_1_2 (broadcastInDim S4x1x4096 ![0, 2] bcast_S4x4096_S4x1x4096_0_2 (extractStridedSlice S4x4096 ![1, 0] (shapeCast _ (extractStridedSlice S8x1x1x4096 ![0, 2, 2, 0] (shapeCast _ (shapeCast _ (extractStridedSlice S1x8x36864 ![1, 0, 0] a3 slices_S2x8x36864_S1x8x36864_1_0_0) shapeCasts_S1x8x36864_S8x36864) shapeCasts_S8x36864_S8x3x3x4096) slices_S8x3x3x4096_S8x1x1x4096_0_2_2_0) shapeCasts_S8x1x1x4096_S8x4096) slices_S8x4096_S4x4096_1_0))) shapeCasts_S4x1024x4096_S4096x4096)⟩] concatenates_S4096x4096_S4096x4096_S8192x4096_d0) (mulf (broadcastInDim S8192x4096 ![] bcast_S_S8192x4096 (constant S_ .f32 0x3F000000#32)) (Host.dotGeneral dot_S8192x11008_S11008x4096_S8192x4096_1_0_0_1_n_n none a0 (shapeCast _ (extractStridedSlice S1x1x11008x4096 ![1, 1, 0, 0] a1 slices_S2x2x11008x4096_S1x1x11008x4096_1_1_0_0) shapeCasts_S1x1x11008x4096_S11008x4096))))

end Cert.Reference4Ideal.FfnOut

namespace Cert.Kernel4Ideal.FfnOut
open Cert.Kernel4Ideal Cert.Kernel4Ideal.Gen
open Idealize.ShloMosaic.Pipeline (Dat)
open Cert.Reference4Ideal.FfnOut (REF)

variable (m : (ℓ : Loc nD τ sig) → Buf (Elt Ideal) ℓ)

/-- The gate group of a row tile: the context first, then the samples, two tiles each. -/
abbrev grp (r : ℕ) : ℕ := if r < 8 then 0 else 1 + (r - 8) / 2

/-- Every window's block index, at all grid points. -/
theorem idx : ∀ t : Fin cfg0.N, win0_0.index t = ![t.val / 8, 0] ∧ win0_1.index t = ![0, t.val % 8]
    ∧ win0_2.index t = ![t.val / 8, t.val % 8] ∧ win0_3.index t = ![1, 8, grp (t.val / 8), 0, t.val % 8]
    ∧ win0_4.index t = ![t.val / 8, t.val % 8] :=
  (by decide +kernel : ∀ t : Fin grid0.N, _)

/-- What a point stores, read at an index. -/
theorem pay_at (v0 : FVec Ideal S512x11008 .bf16) (v2 : FVec Ideal S11008x512 .bf16) (v5 : FVec Ideal S512x512 .f32)
    (v8 : FVec Ideal S1x1x1x1x512 .f32) (r l : Fin 512) :
    k0_pay1 (F := Ideal) v0 v2 v5 v8 (ix2 r l) = Ideal.ofBits .f32 0x3FB504F3#32 * v5 (ix2 r l)
      + v8 (ix5 0 0 0 0 l) * (Ideal.ofBits .f32 0x3F000000#32 * ∑ k : Fin 11008, v0 (ix2 r k) * v2 (ix2 k l)) := by
  pointwise [k0_pay1]
  rw [mul_comm (Ideal.ofBits .f32 0x3F000000#32) (v8 _), mul_assoc]

/-- The reference's term, read at an index. -/
theorem ref_at (a0 : FVec Ideal S8192x11008 .f32) (a1 : FVec Ideal S2x2x11008x4096 .f32) (a2 : FVec Ideal S8192x4096 .f32)
    (a3 : FVec Ideal S2x8x36864 .f32) (r : Fin 8192) (l : Fin 4096) (g : Fin 8)
    (hg : (g : ℕ) = if (r : ℕ) < 4096 then 0 else 1 + ((r : ℕ) - 4096) / 1024) :
    REF a0 a1 a2 a3 (ix2 r l) = Ideal.ofBits .f32 0x3FB504F3#32 * a2 (ix2 r l)
      + a3 (ix3 1 g ⟨8 * 4096 + (l : ℕ), by omega⟩) * (Ideal.ofBits .f32 0x3F000000#32 * ∑ k : Fin 11008, a0 (ix2 r k) * a1 (ix4 1 1 k l)) := by
  pointwise [REF]
  refine Ideal.add_congr rfl (Ideal.mul_congr ?_ rfl)
  split
  · rename_i h
    rw [if_pos h] at hg
    exact congrArg (fun z : Fin 8 => a3 (ix3 1 z _)) (Fin.ext hg.symm)
  · rename_i h
    rw [if_neg h] at hg
    exact congrArg (fun z : Fin 8 => a3 (ix3 1 z _)) (Fin.ext hg.symm)

theorem point (c : Dev nD) (t : Fin cfg0.N) (y : S512x512.Idx) :
    k0_pay1 (F := Ideal) (iblk m c 0 t) (iblk m c 1 t) (iblk m c 2 t) (iblk m c 3 t) y
      = REF (m ((c : Thread nD τ).loc main_arg0)) (m ((c : Thread nD τ).loc main_arg1))
          (m ((c : Thread nD τ).loc main_arg2)) (m ((c : Thread nD τ).loc main_arg3)) (((cfg0.win 4).blk t).view.emb y) := by
  have ht : t.val < 128 := lt_of_lt_of_eq t.isLt N_0
  idx_vars y
  obtain_idx j : S8192x4096 := [t.val / 8 * 512 + (y0 : ℕ), t.val % 8 * 512 + (y1 : ℕ)] with hj
  have hJ : ((cfg0.win 4).blk t).view.emb (ix2 y0 y1) = j := by blk_ext [idx t]
  rw [hJ]
  idx_vars j
  refine (pay_at _ _ _ _ y0 y1).trans (Eq.trans ?_ (ref_at _ _ _ _ j0 j1 ⟨grp (t.val / 8), ?_⟩ ?_).symm)
  · blk_point [iblk, V, idx t]
  · show grp (t.val / 8) < 8
    unfold grp; split <;> omega
  · show grp (t.val / 8) = _
    unfold grp; split <;> split <;> omega

theorem final (c : Dev nD) : (dats m 0 c).arrAt 4 (cfgs 0).N
    = REF (m ((c : Thread nD τ).loc main_arg0)) (m ((c : Thread nD τ).loc main_arg1))
          (m ((c : Thread nD τ).loc main_arg2)) (m ((c : Thread nD τ).loc main_arg3)) := by
  refine (dats m 0 c).arrAt_eq_of_covers 4 _ (by decide +kernel) fun t _ y => ?_
  blk_simp
  rw [after0_4]; frame_out
  exact point m c t y

end Cert.Kernel4Ideal.FfnOut

end
-- ==== Proof.ClaimFfnOut.lean ====
module
public import proofs.«01_k».proof.Proof.FfnOut
public import proofs.«01_k».proof.Defs
public import proofs.«01_k».proof.Proof.Gen.Reference4Ideal.Run
public import Idealize.ShloMosaic.Lib.Claim

@[expose] public section
noncomputable section
namespace Cert.Proof
open Idealize.ShloMosaic Idealize.SL.Sem

/-- The output product of SwiGLU with its residual: kernel and reference agree everywhere. -/
theorem algebraic_ffn_out : Cert.algebraic_Kernel4Ideal_Reference4Ideal := by
  pair_intro
  · run_from Cert.Kernel4Ideal.Gen.run_main m g
  · run_from Cert.Reference4Ideal.Value.run m' g'
    obtain ⟨a0, a1, a2, a3⟩ := hagree c
    rw [Cert.Kernel4Ideal.FfnOut.final m c, ← a0, ← a1, ← a2, ← a3]
    rfl

end Cert.Proof
end
end
-- ==== Proof.LayerNormContext.lean ====
/- The last layer norm over the context rows: the kernel's result is the reference's composed term of the arguments. -/
module

public import proofs.«01_k».proof.Proof.Gen.Kernel5Ideal.Frame
public import proofs.«01_k».proof.Proof.Gen.Reference5Ideal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Reference5Ideal.LayerNorm
open Cert.Reference5Ideal Cert.Reference5Ideal.Gen

/-- The rows of this batch. -/
def rows (a0 : FVec Ideal S8192x4096 .f32) : FVec Ideal S4096x4096 .f32 :=
  extractStridedSlice S4096x4096 ![0, 0] a0 slices_S8192x4096_S4096x4096_0_0
/-- Each row's mean. -/
def mean (X : FVec Ideal S4096x4096 .f32) : FVec Ideal S4096x1 .f32 :=
  Host.divf (broadcastInDim S4096x1 ![0] bcast_S4096_S4096x1_0 (Host.reduceAdd X (constant S_ .f32 0x00000000#32) reducesTo_S4096x4096_S4096_d1 h_S_)) (broadcastInDim S4096x1 ![] bcast_S_S4096x1 (constant S_ .f32 0x45800000#32))
/-- The rows without their means. -/
def cen (X : FVec Ideal S4096x4096 .f32) : FVec Ideal S4096x4096 .f32 :=
  subf X (broadcastInDim S4096x4096 ![0, 1] bcast_S4096x1_S4096x4096_0_1 (mean X))
/-- The normed rows, scaled and shifted. -/
def scaled (C : FVec Ideal S4096x4096 .f32) (v : FVec Ideal S4096x1 .f32) (a1 a2 : FVec Ideal S2x3x4096 .f32) : FVec Ideal S4096x4096 .f32 :=
  addf (mulf (mulf C (broadcastInDim S4096x4096 ![0, 1] bcast_S4096x1_S4096x4096_0_1 (Host.rsqrt (addf v (broadcastInDim S4096x1 ![] bcast_S_S4096x1 (constant S_ .f32 0x3727C5AC#32)))))) (broadcastInDim S4096x4096 ![0, 1] bcast_S1x4096_S4096x4096_0_1 (broadcastInDim S1x4096 ![1] bcast_S4096_S1x4096_1 (shapeCast _ (extractStridedSlice S1x1x4096 ![1, 2, 0] a1 slices_S2x3x4096_S1x1x4096_1_2_0) shapeCasts_S1x1x4096_S4096)))) (broadcastInDim S4096x4096 ![0, 1] bcast_S1x4096_S4096x4096_0_1 (broadcastInDim S1x4096 ![1] bcast_S4096_S1x4096_1 (shapeCast _ (extractStridedSlice S1x1x4096 ![1, 2, 0] a2 slices_S2x3x4096_S1x1x4096_1_2_0) shapeCasts_S1x1x4096_S4096)))
/-- The reference's result as a term of the arguments. -/
def REF (a0 : FVec Ideal S8192x4096 .f32) (a1 a2 : FVec Ideal S2x3x4096 .f32) : FVec Ideal S4096x4096 .f32 :=
  scaled (cen (rows a0)) (mean (mulf (cen (rows a0)) (cen (rows a0)))) a1 a2

/-- The mean of 4096 numbers. -/
def avg (x : Fin 4096 → EReal) : EReal := Ideal.div (∑ k : Fin 4096, x k) (Ideal.ofBits .f32 0x45800000#32)
/-- One entry of a normed row. -/
def normed (x : Fin 4096 → EReal) (g b : EReal) (l : Fin 4096) : EReal :=
  (x l - avg x) * Ideal.rsqrt (avg (fun k => (x k - avg x) * (x k - avg x)) + Ideal.ofBits .f32 0x3727C5AC#32) * g + b

theorem rows_at (a0 : FVec Ideal S8192x4096 .f32) (r : Fin 4096) (l : Fin 4096) : rows a0 (ix2 r l) = a0 (ix2 ⟨0 + (r : ℕ), by omega⟩ l) := by
  pointwise [rows]
theorem mean_at (X : FVec Ideal S4096x4096 .f32) (r : Fin 4096) : mean X (ix2 r 0) = avg (fun k => X (ix2 r k)) := by
  pointwise [mean, avg]
theorem cen_at (X : FVec Ideal S4096x4096 .f32) (r : Fin 4096) (l : Fin 4096) : cen X (ix2 r l) = X (ix2 r l) - avg (fun k => X (ix2 r k)) := by
  rw [← mean_at]
  pointwise [cen]
theorem scaled_at (C : FVec Ideal S4096x4096 .f32) (v : FVec Ideal S4096x1 .f32) (a1 a2 : FVec Ideal S2x3x4096 .f32) (r : Fin 4096) (l : Fin 4096) :
    scaled C v a1 a2 (ix2 r l) = C (ix2 r l) * Ideal.rsqrt (v (ix2 r 0) + Ideal.ofBits .f32 0x3727C5AC#32) * a1 (ix3 1 2 l) + a2 (ix3 1 2 l) := by
  pointwise [scaled]
theorem ref_at (a0 : FVec Ideal S8192x4096 .f32) (a1 a2 : FVec Ideal S2x3x4096 .f32) (r : Fin 4096) (l : Fin 4096) :
    REF a0 a1 a2 (ix2 r l) = normed (fun k => a0 (ix2 ⟨0 + (r : ℕ), by omega⟩ k)) (a1 (ix3 1 2 l)) (a2 (ix3 1 2 l)) l := by
  unfold REF normed
  rw [scaled_at, mean_at]
  have h : ∀ k : Fin 4096, cen (rows a0) (ix2 r k) = a0 (ix2 ⟨0 + (r : ℕ), by omega⟩ k) - avg (fun k => a0 (ix2 ⟨0 + (r : ℕ), by omega⟩ k)) := fun k => by
    rw [cen_at]
    simp only [rows_at]
  rw [h]
  have h2 : ∀ k : Fin 4096, (mulf (cen (rows a0)) (cen (rows a0)) : FVec Ideal S4096x4096 .f32) (ix2 r k) = cen (rows a0) (ix2 r k) * cen (rows a0) (ix2 r k) := fun k => rfl
  simp only [h2, h]

end Cert.Reference5Ideal.LayerNorm

namespace Cert.Kernel5Ideal.LayerNorm
open Cert.Kernel5Ideal Cert.Kernel5Ideal.Gen
open Idealize.ShloMosaic.Pipeline (Dat)
open Cert.Reference5Ideal.LayerNorm (REF ref_at normed avg)

variable (m : (ℓ : Loc nD τ sig) → Buf (Elt Ideal) ℓ)

/-- Every window's block index, at all grid points. -/
theorem idx : ∀ t : Fin cfg0.N, win0_0.index t = ![t.val, 0] ∧ win0_1.index t = ![1, 2, 0, 0]
    ∧ win0_2.index t = ![1, 2, 0, 0] ∧ win0_3.index t = ![t.val, 0] :=
  (by decide +kernel : ∀ t : Fin grid0.N, _)

theorem pay_at (z : Vec Ideal S512x4096 .f32) (g b : Vec Ideal S1x1x1x4096 .f32) (r : Fin 512) (l : Fin 4096) :
    k0_pay1 (F := Ideal) z g b (ix2 r l) = normed (fun k => z (ix2 r k)) (g (ix4 0 0 0 l)) (b (ix4 0 0 0 l)) l := by
  pointwise [k0_pay1, normed, avg]

theorem point (c : Dev nD) (t : Fin cfg0.N) (y : S512x4096.Idx) :
    k0_pay1 (F := Ideal) (iblk m c 0 t) (iblk m c 1 t) (iblk m c 2 t) y
      = REF (m ((c : Thread nD τ).loc main_arg0)) (m ((c : Thread nD τ).loc main_arg1))
          (m ((c : Thread nD τ).loc main_arg2)) (((cfg0.win 3).blk t).view.emb y) := by
  have ht : t.val < 8 := lt_of_lt_of_eq t.isLt N_0
  idx_vars y
  obtain_idx j : S4096x4096 := [t.val * 512 + (y0 : ℕ), (y1 : ℕ)] with hj
  have hJ : ((cfg0.win 3).blk t).view.emb (ix2 y0 y1) = j := by blk_ext [idx t]
  rw [hJ]
  idx_vars j
  refine (pay_at _ _ _ y0 y1).trans (Eq.trans ?_ (ref_at _ _ _ j0 j1).symm)
  have e : j1 = y1 := Fin.ext hj1
  have hz : ∀ k : Fin 4096, (iblk m c 0 t : Vec Ideal S512x4096 .f32) (ix2 y0 k)
      = m ((c : Thread nD τ).loc main_arg0) (ix2 ⟨0 + (j0 : ℕ), by omega⟩ k : S8192x4096.Idx) := fun k => by
    blk_point [iblk, V, idx t]
  have hg : (iblk m c 1 t : Vec Ideal S1x1x1x4096 .f32) (ix4 0 0 0 y1) = m ((c : Thread nD τ).loc main_arg1) (ix3 1 2 y1 : S2x3x4096.Idx) := by
    blk_point [iblk, V, idx t]
  have hb : (iblk m c 2 t : Vec Ideal S1x1x1x4096 .f32) (ix4 0 0 0 y1) = m ((c : Thread nD τ).loc main_arg2) (ix3 1 2 y1 : S2x3x4096.Idx) := by
    blk_point [iblk, V, idx t]
  rw [hg, hb, funext hz, e]

theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.Kernel5Ideal.LayerNorm

end
-- ==== Proof.LayerNormLatent.lean ====
/- The last layer norm over the latent rows: the kernel's result is the reference's composed term of the arguments. -/
module

public import proofs.«01_k».proof.Proof.Gen.Kernel6Ideal.Frame
public import proofs.«01_k».proof.Proof.Gen.Reference6Ideal
public import proofs.«01_k».proof.Proof.LayerNormContext
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Reference6Ideal.LayerNorm
open Cert.Reference6Ideal Cert.Reference6Ideal.Gen

open Cert.Reference5Ideal.LayerNorm (mean cen scaled avg normed mean_at cen_at scaled_at)

/-- The rows of this batch. -/
def rows (a0 : FVec Ideal S8192x4096 .f32) : FVec Ideal S4096x4096 .f32 :=
  extractStridedSlice S4096x4096 ![4096, 0] a0 slices_S8192x4096_S4096x4096_4096_0
/-- The reference's result as a term of the arguments. -/
def REF (a0 : FVec Ideal S8192x4096 .f32) (a1 a2 : FVec Ideal S2x3x4096 .f32) : FVec Ideal S4096x4096 .f32 :=
  scaled (cen (rows a0)) (mean (mulf (cen (rows a0)) (cen (rows a0)))) a1 a2

theorem rows_at (a0 : FVec Ideal S8192x4096 .f32) (r : Fin 4096) (l : Fin 4096) : rows a0 (ix2 r l) = a0 (ix2 ⟨4096 + (r : ℕ), by omega⟩ l) := by
  pointwise [rows]
theorem ref_at (a0 : FVec Ideal S8192x4096 .f32) (a1 a2 : FVec Ideal S2x3x4096 .f32) (r : Fin 4096) (l : Fin 4096) :
    REF a0 a1 a2 (ix2 r l) = normed (fun k => a0 (ix2 ⟨4096 + (r : ℕ), by omega⟩ k)) (a1 (ix3 1 2 l)) (a2 (ix3 1 2 l)) l := by
  unfold REF normed
  refine (scaled_at _ _ _ _ r l).trans ?_
  rw [mean_at]
  have h : ∀ k : Fin 4096, cen (rows a0) (ix2 r k) = a0 (ix2 ⟨4096 + (r : ℕ), by omega⟩ k) - avg (fun k => a0 (ix2 ⟨4096 + (r : ℕ), by omega⟩ k)) := fun k => by
    refine (cen_at _ r k).trans ?_
    simp only [rows_at]
  have h2 : ∀ k : Fin 4096, (mulf (cen (rows a0)) (cen (rows a0)) : FVec Ideal S4096x4096 .f32) (ix2 r k) = cen (rows a0) (ix2 r k) * cen (rows a0) (ix2 r k) := fun k => rfl
  rw [h]
  simp only [h2, h]

end Cert.Reference6Ideal.LayerNorm

namespace Cert.Kernel6Ideal.LayerNorm
open Cert.Kernel6Ideal Cert.Kernel6Ideal.Gen
open Idealize.ShloMosaic.Pipeline (Dat)
open Cert.Reference6Ideal.LayerNorm (REF ref_at)
open Cert.Reference5Ideal.LayerNorm (normed avg)

variable (m : (ℓ : Loc nD τ sig) → Buf (Elt Ideal) ℓ)

/-- Every window's block index, at all grid points. -/
theorem idx : ∀ t : Fin cfg0.N, win0_0.index t = ![8 + t.val, 0] ∧ win0_1.index t = ![1, 2, 0, 0]
    ∧ win0_2.index t = ![1, 2, 0, 0] ∧ win0_3.index t = ![t.val, 0] :=
  (by decide +kernel : ∀ t : Fin grid0.N, _)

theorem pay_at (z : Vec Ideal S512x4096 .f32) (g b : Vec Ideal S1x1x1x4096 .f32) (r : Fin 512) (l : Fin 4096) :
    k0_pay1 (F := Ideal) z g b (ix2 r l) = normed (fun k => z (ix2 r k)) (g (ix4 0 0 0 l)) (b (ix4 0 0 0 l)) l := by
  exact Cert.Kernel5Ideal.LayerNorm.pay_at z g b r l

theorem point (c : Dev nD) (t : Fin cfg0.N) (y : S512x4096.Idx) :
    k0_pay1 (F := Ideal) (iblk m c 0 t) (iblk m c 1 t) (iblk m c 2 t) y
      = REF (m ((c : Thread nD τ).loc main_arg0)) (m ((c : Thread nD τ).loc main_arg1))
          (m ((c : Thread nD τ).loc main_arg2)) (((cfg0.win 3).blk t).view.emb y) := by
  have ht : t.val < 8 := lt_of_lt_of_eq t.isLt N_0
  idx_vars y
  obtain_idx j : S4096x4096 := [t.val * 512 + (y0 : ℕ), (y1 : ℕ)] with hj
  have hJ : ((cfg0.win 3).blk t).view.emb (ix2 y0 y1) = j := by blk_ext [idx t]
  rw [hJ]
  idx_vars j
  refine (pay_at _ _ _ y0 y1).trans (Eq.trans ?_ (ref_at _ _ _ j0 j1).symm)
  have e : j1 = y1 := Fin.ext hj1
  have hz : ∀ k : Fin 4096, (iblk m c 0 t : Vec Ideal S512x4096 .f32) (ix2 y0 k)
      = m ((c : Thread nD τ).loc main_arg0) (ix2 ⟨4096 + (j0 : ℕ), by omega⟩ k : S8192x4096.Idx) := fun k => by
    blk_point [iblk, V, idx t]
  have hg : (iblk m c 1 t : Vec Ideal S1x1x1x4096 .f32) (ix4 0 0 0 y1) = m ((c : Thread nD τ).loc main_arg1) (ix3 1 2 y1 : S2x3x4096.Idx) := by
    blk_point [iblk, V, idx t]
  have hb : (iblk m c 2 t : Vec Ideal S1x1x1x4096 .f32) (ix4 0 0 0 y1) = m ((c : Thread nD τ).loc main_arg2) (ix3 1 2 y1 : S2x3x4096.Idx) := by
    blk_point [iblk, V, idx t]
  rw [hg, hb, funext hz, e]

theorem final (c : Dev nD) : (dats m 0 c).arrAt 3 (cfgs 0).N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.Kernel6Ideal.LayerNorm

end
-- ==== Proof.ClaimLayerNorm.lean ====
module
public import proofs.«01_k».proof.Proof.LayerNormContext
public import proofs.«01_k».proof.Proof.LayerNormLatent
public import proofs.«01_k».proof.Defs
public import proofs.«01_k».proof.Proof.Gen.Reference5Ideal.Run
public import proofs.«01_k».proof.Proof.Gen.Reference6Ideal.Run
public import Idealize.ShloMosaic.Lib.Claim

@[expose] public section
noncomputable section
namespace Cert.Proof
open Idealize.ShloMosaic Idealize.SL.Sem

/-- The last layer norm of the context rows: kernel and reference agree everywhere. -/
theorem algebraic_ln_prompt : Cert.algebraic_Kernel5Ideal_Reference5Ideal := by
  pair_intro
  · run_from Cert.Kernel5Ideal.Gen.run_main m g
  · run_from Cert.Reference5Ideal.Value.run m' g'
    obtain ⟨a0, a1, a2⟩ := hagree c
    rw [Cert.Kernel5Ideal.LayerNorm.final m c, ← a0, ← a1, ← a2]
    rfl

/-- The last layer norm of the latent rows: kernel and reference agree everywhere. -/
theorem algebraic_ln_sample : Cert.algebraic_Kernel6Ideal_Reference6Ideal := by
  pair_intro
  · run_from Cert.Kernel6Ideal.Gen.run_main m g
  · run_from Cert.Reference6Ideal.Value.run m' g'
    obtain ⟨a0, a1, a2⟩ := hagree c
    rw [Cert.Kernel6Ideal.LayerNorm.final m c, ← a0, ← a1, ← a2]
    rfl

end Cert.Proof
end
end
-- ==== Proof.OddIn.lean ====
/- The input projection of the odd layer: the tiled product is the reference's composed term of the arguments. -/
module

public import proofs.«01_k».proof.Proof.Gen.Kernel7Ideal.Frame
public import proofs.«01_k».proof.Proof.Gen.Reference7Ideal
public import proofs.«01_k».proof.Proof.SwigluIn
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem

namespace Cert.Reference7Ideal.OddIn
open Cert.Reference7Ideal Cert.Reference7Ideal.Gen
open Cert.Reference3Ideal.Swiglu (row)

/-- The layer's weight. -/
def W (a2 : FVec Ideal S1x4096x10080 .f32) : FVec Ideal S4096x10080 .f32 := shapeCast _ a2 shapeCasts_S1x4096x10080_S4096x10080
/-- The context rows' product, and the latent rows'. -/
def prodP (a0 : FVec Ideal S16x256x4096 .f32) (w : FVec Ideal S4096x10080 .f32) : FVec Ideal S16x256x10080 .f32 :=
  Host.dotGeneral dot_S16x256x4096_S4096x10080_S16x256x10080_2_0_01_1_n_n none a0 w
def prodS (a1 : FVec Ideal S4x1024x4096 .f32) (w : FVec Ideal S4096x10080 .f32) : FVec Ideal S4x1024x10080 .f32 :=
  Host.dotGeneral dot_S4x1024x4096_S4096x10080_S4x1024x10080_2_0_01_1_n_n none a1 w
/-- The columns in their order. -/
def columns (P : FVec Ideal S4096x10080 .f32) : FVec Ideal S4096x10240 .f32 :=
  concatenate S4096x10240 1 [⟨S4096x6144, (extractStridedSlice S4096x6144 ![0, 0] P slices_S4096x10080_S4096x6144_0_0)⟩, ⟨S4096x3072, (extractStridedSlice S4096x3072 ![0, 7008] P slices_S4096x10080_S4096x3072_0_7008)⟩, ⟨S4096x480, (extractStridedSlice S4096x480 ![0, 6144] P slices_S4096x10080_S4096x480_0_6144)⟩, ⟨S4096x32, (broadcastInDim S4096x32 ![] bcast_S_S4096x32 (constant S_ .f32 0x00000000#32))⟩, ⟨S4096x384, (extractStridedSlice S4096x384 ![0, 6624] P slices_S4096x10080_S4096x384_0_6624)⟩, ⟨S4096x128, (broadcastInDim S4096x128 ![] bcast_S_S4096x128 (constant S_ .f32 0x00000000#32))⟩] concatenates_S4096x6144_S4096x3072_S4096x480_S4096x32_S4096x384_S4096x128_S4096x10240_d1
/-- The rows of both batches on top of each other. -/
def stack (A B : FVec Ideal S4096x10240 .f32) : FVec Ideal S8192x10240 .f32 :=
  concatenate S8192x10240 0 [⟨S4096x10240, A⟩, ⟨S4096x10240, B⟩] concatenates_S4096x10240_S4096x10240_S8192x10240_d0
/-- Rows of one batch as a matrix. -/
def flatP (P : FVec Ideal S16x256x10080 .f32) : FVec Ideal S4096x10080 .f32 := shapeCast _ P shapeCasts_S16x256x10080_S4096x10080
def flatS (P : FVec Ideal S4x1024x10080 .f32) : FVec Ideal S4096x10080 .f32 := shapeCast _ P shapeCasts_S4x1024x10080_S4096x10080
/-- The reference's result as a term of the arguments. -/
def REF (a0 : FVec Ideal S16x256x4096 .f32) (a1 : FVec Ideal S4x1024x4096 .f32) (a2 : FVec Ideal S1x4096x10080 .f32) : FVec Ideal S8192x10240 .f32 :=
  stack (columns (flatP (prodP a0 (W a2)))) (columns (flatS (prodS a1 (W a2))))

/-- A packed column: a source column, or zero. -/
def pick (f : Fin 10080 → EReal) (l : Fin 10240) : EReal :=
  if h1 : (l : ℕ) < 6144 then f ⟨(l : ℕ), by omega⟩
  else if h2 : (l : ℕ) - 6144 < 3072 then f ⟨7008 + ((l : ℕ) - 6144), by omega⟩
  else if h3 : (l : ℕ) - 6144 - 3072 < 480 then f ⟨6144 + ((l : ℕ) - 6144 - 3072), by omega⟩
  else if h4 : (l : ℕ) - 6144 - 3072 - 480 < 32 then 0
  else if h5 : (l : ℕ) - 6144 - 3072 - 480 - 32 < 384 then f ⟨6624 + ((l : ℕ) - 6144 - 3072 - 480 - 32), by omega⟩
  else 0

theorem val_eq (f : Fin 10080 → EReal) {i j : ℕ} (hi : i < 10080) (hj : j < 10080) (h : i = j) : f ⟨i, hi⟩ = f ⟨j, hj⟩ := by
  subst h
  rfl

/-- A sum of products with packed columns is the packed column of sums. -/
theorem pick_sum (x : Fin 4096 → EReal) (w : Fin 4096 → Fin 10080 → EReal) (l : Fin 10240) :
    ∑ k : Fin 4096, x k * pick (w k) l = pick (fun s => ∑ k : Fin 4096, x k * w k s) l := by
  unfold pick
  split
  · rfl
  split
  · rfl
  split
  · rfl
  split
  · simp only [mul_zero, Finset.sum_const_zero]
  split
  · rfl
  · simp only [mul_zero, Finset.sum_const_zero]

theorem W_at (a2 : FVec Ideal S1x4096x10080 .f32) (k : Fin 4096) (l : Fin 10080) : W a2 (ix2 k l) = a2 (ix3 0 k l) := by
  pointwise [W]
theorem prodP_at (a0 : FVec Ideal S16x256x4096 .f32) (w : FVec Ideal S4096x10080 .f32) (b : Fin 16) (n : Fin 256) (l : Fin 10080) :
    prodP a0 w (ix3 b n l) = ∑ k : Fin 4096, a0 (ix3 b n k) * w (ix2 k l) := by
  pointwise [prodP]
theorem prodS_at (a1 : FVec Ideal S4x1024x4096 .f32) (w : FVec Ideal S4096x10080 .f32) (b : Fin 4) (n : Fin 1024) (l : Fin 10080) :
    prodS a1 w (ix3 b n l) = ∑ k : Fin 4096, a1 (ix3 b n k) * w (ix2 k l) := by
  pointwise [prodS]
theorem flatP_at (P : FVec Ideal S16x256x10080 .f32) (r : Fin 4096) (l : Fin 10080) :
    flatP P (ix2 r l) = P (ix3 ⟨(r : ℕ) / 256, by omega⟩ ⟨(r : ℕ) % 256, by omega⟩ l) := by
  pointwise [flatP]
theorem flatS_at (P : FVec Ideal S4x1024x10080 .f32) (r : Fin 4096) (l : Fin 10080) :
    flatS P (ix2 r l) = P (ix3 ⟨(r : ℕ) / 1024, by omega⟩ ⟨(r : ℕ) % 1024, by omega⟩ l) := by
  pointwise [flatS]
theorem columns_at (P : FVec Ideal S4096x10080 .f32) (r : Fin 4096) (l : Fin 10240) :
    columns P (ix2 r l) = pick (fun s => P (ix2 r s)) l := by
  pointwise [columns, pick]
theorem stack_at (A B : FVec Ideal S4096x10240 .f32) (r : Fin 8192) (l : Fin 10240) :
    stack A B (ix2 r l) = if h : (r : ℕ) < 4096 then A (ix2 ⟨(r : ℕ), h⟩ l) else B (ix2 ⟨(r : ℕ) - 4096, by omega⟩ l) := by
  pointwise [stack]
theorem ref_at (a0 : FVec Ideal S16x256x4096 .f32) (a1 : FVec Ideal S4x1024x4096 .f32) (a2 : FVec Ideal S1x4096x10080 .f32) (r : Fin 8192) (l : Fin 10240) :
    REF a0 a1 a2 (ix2 r l) = ∑ k : Fin 4096, row a0 a1 r k * pick (fun s => a2 (ix3 0 k s)) l := by
  rw [pick_sum]
  unfold REF
  rw [stack_at]
  by_cases h : (r : ℕ) < 4096
  · rw [dif_pos h, columns_at]
    simp only [flatP_at, prodP_at, W_at, row, dif_pos h]
  · rw [dif_neg h, columns_at]
    simp only [flatS_at, prodS_at, W_at, row, dif_neg h]

end Cert.Reference7Ideal.OddIn

namespace Cert.Kernel7Ideal.OddIn
open Cert.Kernel7Ideal Cert.Kernel7Ideal.Gen
open Idealize.ShloMosaic.Pipeline (Dat)
open Cert.Reference7Ideal.OddIn (REF ref_at pick val_eq)
open Cert.Reference3Ideal.Swiglu (row)
open Cert.Kernel3Ideal.Swiglu (ROWS rows_at)

variable (m : (ℓ : Loc nD τ sig) → Buf (Elt Ideal) ℓ)

/-- Every window's block index, at all grid points. -/
theorem idx : ∀ t : Fin cfg0.N, win0_0.index t = ![t.val / 20, 0] ∧ win0_1.index t = ![t.val % 20, 0]
    ∧ win0_2.index t = ![t.val / 20, t.val % 20] :=
  (by decide +kernel : ∀ t : Fin grid0.N, _)

theorem V_rows (c : Dev nD) : V m c main_v3 = ROWS (m ((c : Thread nD τ).loc main_arg0)) (m ((c : Thread nD τ).loc main_arg1)) := by
  unfold V
  after_reads_simp
  rfl

/-- The packed weight. -/
def PACK (w : FVec Ideal S4096x10080 .f32) : FVec Ideal S4096x10240 .f32 :=
  concatenate S4096x10240 1 [⟨S4096x6144, (extractStridedSlice S4096x6144 ![0, 0] w slices_S4096x10080_S4096x6144_0_0)⟩, ⟨S4096x2048, (extractStridedSlice S4096x2048 ![0, 7008] w slices_S4096x10080_S4096x2048_0_7008)⟩, ⟨S4096x512, (extractStridedSlice S4096x512 ![0, 9056] w slices_S4096x10080_S4096x512_0_9056)⟩, ⟨S4096x512, (extractStridedSlice S4096x512 ![0, 9568] w slices_S4096x10080_S4096x512_0_9568)⟩, ⟨S4096x480, (extractStridedSlice S4096x480 ![0, 6144] w slices_S4096x10080_S4096x480_0_6144)⟩, ⟨S4096x32, (broadcastInDim S4096x32 ![] bcast_S_S4096x32 (constant S_ .f32 0x00000000#32))⟩, ⟨S4096x256, (extractStridedSlice S4096x256 ![0, 6624] w slices_S4096x10080_S4096x256_0_6624)⟩, ⟨S4096x128, (extractStridedSlice S4096x128 ![0, 6880] w slices_S4096x10080_S4096x128_0_6880)⟩, ⟨S4096x128, (broadcastInDim S4096x128 ![] bcast_S_S4096x128 (constant S_ .f32 0x00000000#32))⟩] concatenates_S4096x6144_S4096x2048_S4096x512_S4096x512_S4096x480_S4096x32_S4096x256_S4096x128_S4096x128_S4096x10240_d1
def PW (a2 : FVec Ideal S1x4096x10080 .f32) : FVec Ideal S10240x4096 .bf16 :=
  truncf .bf16 (transpose S10240x4096 [1, 0] (PACK (shapeCast S4096x10080 a2 shapeCasts_S1x4096x10080_S4096x10080)) transposes_S4096x10240_S10240x4096_1_0) bitsLt_bf16_f32

theorem V_weight (c : Dev nD) : V m c main_v16 = PW (m ((c : Thread nD τ).loc main_arg2)) := by
  unfold V
  after_reads_simp
  rfl

theorem pack_at (w : FVec Ideal S4096x10080 .f32) (k : Fin 4096) (l : Fin 10240) :
    PACK w (ix2 k l) = pick (fun s => w (ix2 k s)) l := by
  pointwise [PACK, pick]
  by_cases h1 : (l : ℕ) < 6144
  · rw [dif_pos h1, dif_pos h1]
  rw [dif_neg h1, dif_neg h1]
  by_cases h2 : (l : ℕ) - 6144 < 2048
  · rw [dif_pos h2, dif_pos (show (l : ℕ) - 6144 < 3072 by omega)]
  rw [dif_neg h2]
  by_cases h3 : (l : ℕ) - 6144 - 2048 < 512
  · rw [dif_pos h3, dif_pos (show (l : ℕ) - 6144 < 3072 by omega)]
    exact val_eq (fun s => w (ix2 k s)) _ _ (by omega)
  rw [dif_neg h3]
  by_cases h4 : (l : ℕ) - 6144 - 2048 - 512 < 512
  · rw [dif_pos h4, dif_pos (show (l : ℕ) - 6144 < 3072 by omega)]
    exact val_eq (fun s => w (ix2 k s)) _ _ (by omega)
  rw [dif_neg h4, dif_neg (show ¬(l : ℕ) - 6144 < 3072 by omega)]
  by_cases h5 : (l : ℕ) - 6144 - 2048 - 512 - 512 < 480
  · rw [dif_pos h5, dif_pos (show (l : ℕ) - 6144 - 3072 < 480 by omega)]
    exact val_eq (fun s => w (ix2 k s)) _ _ (by omega)
  rw [dif_neg h5, dif_neg (show ¬(l : ℕ) - 6144 - 3072 < 480 by omega)]
  by_cases h6 : (l : ℕ) - 6144 - 2048 - 512 - 512 - 480 < 32
  · rw [dif_pos h6, dif_pos (show (l : ℕ) - 6144 - 3072 - 480 < 32 by omega)]
  rw [dif_neg h6, dif_neg (show ¬(l : ℕ) - 6144 - 3072 - 480 < 32 by omega)]
  by_cases h7 : (l : ℕ) - 6144 - 2048 - 512 - 512 - 480 - 32 < 256
  · rw [dif_pos h7, dif_pos (show (l : ℕ) - 6144 - 3072 - 480 - 32 < 384 by omega)]
    exact val_eq (fun s => w (ix2 k s)) _ _ (by omega)
  rw [dif_neg h7]
  by_cases h8 : (l : ℕ) < 9984 + 128
  · rw [dif_pos (show (l : ℕ) - 6144 - 2048 - 512 - 512 - 480 - 32 - 256 < 128 by simp only [Nat.sub_sub, Nat.reduceAdd]; clear h7 h6 h5 h4 h3 h2 h1; omega),
      dif_pos (show (l : ℕ) - 6144 - 3072 - 480 - 32 < 384 by simp only [Nat.sub_sub, Nat.reduceAdd]; clear h7 h6 h5 h4 h3 h2 h1; omega)]
    exact val_eq (fun s => w (ix2 k s)) _ _ (by omega)
  rw [dif_neg (show ¬(l : ℕ) - 6144 - 2048 - 512 - 512 - 480 - 32 - 256 < 128 by simp only [Nat.sub_sub, Nat.reduceAdd]; clear h7 h6 h5 h4 h3 h2 h1; omega),
    dif_neg (show ¬(l : ℕ) - 6144 - 3072 - 480 - 32 < 384 by simp only [Nat.sub_sub, Nat.reduceAdd]; clear h7 h6 h5 h4 h3 h2 h1; omega)]
theorem PW_at (a2 : FVec Ideal S1x4096x10080 .f32) (l : Fin 10240) (k : Fin 4096) :
    PW a2 (ix2 l k) = pick (fun s => a2 (ix3 0 k s)) l := by
  have h : PW a2 (ix2 l k) = PACK (shapeCast S4096x10080 a2 shapeCasts_S1x4096x10080_S4096x10080) (ix2 k l) := by
    pointwise [PW]
  rw [h, pack_at]
  refine congrArg (fun f => pick f l) (funext fun s => ?_)
  pointwise []

theorem pay_at (x : Vec Ideal S1024x4096 .bf16) (w : Vec Ideal S512x4096 .bf16) (r : Fin 1024) (l : Fin 512) :
    k0_pay1 (F := Ideal) x w (ix2 r l) = ∑ k : Fin 4096, x (ix2 r k) * w (ix2 l k) := by
  pointwise [k0_pay1]

theorem point (c : Dev nD) (t : Fin cfg0.N) (y : S1024x512.Idx) :
    k0_pay1 (F := Ideal) (iblk m c 0 t) (iblk m c 1 t) y
      = REF (m ((c : Thread nD τ).loc main_arg0)) (m ((c : Thread nD τ).loc main_arg1))
          (m ((c : Thread nD τ).loc main_arg2)) (((cfg0.win 2).blk t).view.emb y) := by
  have ht : t.val < 160 := lt_of_lt_of_eq t.isLt N_0
  idx_vars y
  obtain_idx j : S8192x10240 := [t.val / 20 * 1024 + (y0 : ℕ), t.val % 20 * 512 + (y1 : ℕ)] with hj
  have hJ : ((cfg0.win 2).blk t).view.emb (ix2 y0 y1) = j := by blk_ext [idx t]
  rw [hJ]
  idx_vars j
  refine (pay_at _ _ y0 y1).trans (Eq.trans ?_ (ref_at _ _ _ j0 j1).symm)
  refine Finset.sum_congr rfl fun k _ => Ideal.mul_congr ?_ ?_
  · have h : (iblk m c 0 t : Vec Ideal S1024x4096 .bf16) (ix2 y0 k) = V m c main_v3 (ix2 j0 k : S8192x4096.Idx) := by
      blk_point [iblk, idx t]
    rw [h, V_rows]
    exact rows_at _ _ _ _
  · have h : (iblk m c 1 t : Vec Ideal S512x4096 .bf16) (ix2 y1 k) = V m c main_v16 (ix2 j1 k : S10240x4096.Idx) := by
      blk_point [iblk, idx t]
    rw [h, V_weight]
    exact PW_at _ _ _

theorem final (c : Dev nD) : (dats m 0 c).arrAt 2 (cfgs 0).N
    = REF (m ((c : Thread nD τ).loc main_arg0)) (m ((c : Thread nD τ).loc main_arg1)) (m ((c : Thread nD τ).loc main_arg2)) := by
  refine (dats m 0 c).arrAt_eq_of_covers 2 _ (by decide +kernel) fun t _ y => ?_
  blk_simp
  rw [after0_2]; frame_out
  exact point m c t y

end Cert.Kernel7Ideal.OddIn

end
-- ==== Proof.ClaimOddIn.lean ====
module
public import proofs.«01_k».proof.Proof.OddIn
public import proofs.«01_k».proof.Defs
public import proofs.«01_k».proof.Proof.Gen.Reference7Ideal.Run
public import Idealize.ShloMosaic.Lib.Claim

@[expose] public section
noncomputable section
namespace Cert.Proof
open Idealize.ShloMosaic Idealize.SL.Sem

/-- The odd layer's input projection: kernel and reference agree everywhere. -/
theorem algebraic_odd_in : Cert.algebraic_Kernel7Ideal_Reference7Ideal := by
  pair_intro
  · run_from Cert.Kernel7Ideal.Gen.run_main m g
  · run_from Cert.Reference7Ideal.Value.run m' g'
    obtain ⟨a0, a1, a2⟩ := hagree c
    rw [Cert.Kernel7Ideal.OddIn.final m c, ← a0, ← a1, ← a2]
    rfl

end Cert.Proof
end
end
-- ==== Proof.EvenIn.lean ====
/- The input projection of the even layer: the tiled product is the reference's composed term of the arguments. -/
module

public import proofs.«01_k».proof.Proof.Gen.Kernel8Ideal.Frame
public import proofs.«01_k».proof.Proof.Gen.Reference8Ideal
public import proofs.«01_k».proof.Proof.SwigluIn
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem

namespace Cert.Reference8Ideal.EvenIn
open Cert.Reference8Ideal Cert.Reference8Ideal.Gen
open Cert.Reference3Ideal.Swiglu (row)

/-- The layer's weight. -/
def W (a2 : FVec Ideal S1x4096x4096 .f32) : FVec Ideal S4096x4096 .f32 := shapeCast _ a2 shapeCasts_S1x4096x4096_S4096x4096
/-- The context rows' product, and the latent rows'. -/
def prodP (a0 : FVec Ideal S16x256x4096 .f32) (w : FVec Ideal S4096x4096 .f32) : FVec Ideal S16x256x4096 .f32 :=
  Host.dotGeneral dot_S16x256x4096_S4096x4096_S16x256x4096_2_0_01_1_n_n none a0 w
def prodS (a1 : FVec Ideal S4x1024x4096 .f32) (w : FVec Ideal S4096x4096 .f32) : FVec Ideal S4x1024x4096 .f32 :=
  Host.dotGeneral dot_S4x1024x4096_S4096x4096_S4x1024x4096_2_0_01_1_n_n none a1 w
/-- The rows of both batches on top of each other. -/
def stack (A : FVec Ideal S16x256x4096 .f32) (B : FVec Ideal S4x1024x4096 .f32) : FVec Ideal S8192x4096 .f32 :=
  concatenate S8192x4096 0 [⟨S4096x4096, (shapeCast _ A shapeCasts_S16x256x4096_S4096x4096)⟩, ⟨S4096x4096, (shapeCast _ B shapeCasts_S4x1024x4096_S4096x4096)⟩] concatenates_S4096x4096_S4096x4096_S8192x4096_d0
/-- The reference's result as a term of the arguments. -/
def REF (a0 : FVec Ideal S16x256x4096 .f32) (a1 : FVec Ideal S4x1024x4096 .f32) (a2 : FVec Ideal S1x4096x4096 .f32) : FVec Ideal S8192x4096 .f32 :=
  stack (prodP a0 (W a2)) (prodS a1 (W a2))

theorem W_at (a2 : FVec Ideal S1x4096x4096 .f32) (k l : Fin 4096) : W a2 (ix2 k l) = a2 (ix3 0 k l) := by
  pointwise [W]
theorem prodP_at (a0 : FVec Ideal S16x256x4096 .f32) (w : FVec Ideal S4096x4096 .f32) (b : Fin 16) (n : Fin 256) (l : Fin 4096) :
    prodP a0 w (ix3 b n l) = ∑ k : Fin 4096, a0 (ix3 b n k) * w (ix2 k l) := by
  pointwise [prodP]
theorem prodS_at (a1 : FVec Ideal S4x1024x4096 .f32) (w : FVec Ideal S4096x4096 .f32) (b : Fin 4) (n : Fin 1024) (l : Fin 4096) :
    prodS a1 w (ix3 b n l) = ∑ k : Fin 4096, a1 (ix3 b n k) * w (ix2 k l) := by
  pointwise [prodS]
theorem stack_at (A : FVec Ideal S16x256x4096 .f32) (B : FVec Ideal S4x1024x4096 .f32) (r : Fin 8192) (l : Fin 4096) :
    stack A B (ix2 r l) = if h : (r : ℕ) < 4096 then A (ix3 ⟨(r : ℕ) / 256, by omega⟩ ⟨(r : ℕ) % 256, by omega⟩ l)
      else B (ix3 ⟨((r : ℕ) - 4096) / 1024, by omega⟩ ⟨((r : ℕ) - 4096) % 1024, by omega⟩ l) := by
  pointwise [stack]
theorem ref_at (a0 : FVec Ideal S16x256x4096 .f32) (a1 : FVec Ideal S4x1024x4096 .f32) (a2 : FVec Ideal S1x4096x4096 .f32) (r : Fin 8192) (l : Fin 4096) :
    REF a0 a1 a2 (ix2 r l) = ∑ k : Fin 4096, row a0 a1 r k * a2 (ix3 0 k l) := by
  unfold REF
  rw [stack_at]
  by_cases h : (r : ℕ) < 4096
  · rw [dif_pos h, prodP_at]
    simp only [W_at, row, dif_pos h]
  · rw [dif_neg h, prodS_at]
    simp only [W_at, row, dif_neg h]

end Cert.Reference8Ideal.EvenIn

namespace Cert.Kernel8Ideal.EvenIn
open Cert.Kernel8Ideal Cert.Kernel8Ideal.Gen
open Idealize.ShloMosaic.Pipeline (Dat)
open Cert.Reference8Ideal.EvenIn (REF ref_at)
open Cert.Reference3Ideal.Swiglu (row)
open Cert.Kernel3Ideal.Swiglu (ROWS rows_at)

variable (m : (ℓ : Loc nD τ sig) → Buf (Elt Ideal) ℓ)

/-- Every window's block index, at all grid points. -/
theorem idx : ∀ t : Fin cfg0.N, win0_0.index t = ![t.val / 8, 0] ∧ win0_1.index t = ![0, t.val % 8]
    ∧ win0_2.index t = ![t.val / 8, t.val % 8] :=
  (by decide +kernel : ∀ t : Fin grid0.N, _)

theorem V_rows (c : Dev nD) : V m c main_v3 = ROWS (m ((c : Thread nD τ).loc main_arg0)) (m ((c : Thread nD τ).loc main_arg1)) := by
  unfold V
  after_reads_simp
  rfl

theorem pay_at (x : Vec Ideal S1024x4096 .bf16) (w : Vec Ideal S4096x512 .bf16) (r : Fin 1024) (l : Fin 512) :
    k0_pay1 (F := Ideal) x w (ix2 r l) = ∑ k : Fin 4096, x (ix2 r k) * w (ix2 k l) := by
  pointwise [k0_pay1]

theorem point (c : Dev nD) (t : Fin cfg0.N) (y : S1024x512.Idx) :
    k0_pay1 (F := Ideal) (iblk m c 0 t) (iblk m c 1 t) y
      = REF (m ((c : Thread nD τ).loc main_arg0)) (m ((c : Thread nD τ).loc main_arg1))
          (m ((c : Thread nD τ).loc main_arg2)) (((cfg0.win 2).blk t).view.emb y) := by
  have ht : t.val < 64 := lt_of_lt_of_eq t.isLt N_0
  idx_vars y
  obtain_idx j : S8192x4096 := [t.val / 8 * 1024 + (y0 : ℕ), t.val % 8 * 512 + (y1 : ℕ)] with hj
  have hJ : ((cfg0.win 2).blk t).view.emb (ix2 y0 y1) = j := by blk_ext [idx t]
  rw [hJ]
  idx_vars j
  refine (pay_at _ _ y0 y1).trans (Eq.trans ?_ (ref_at _ _ _ j0 j1).symm)
  refine Finset.sum_congr rfl fun k _ => Ideal.mul_congr ?_ ?_
  · have h : (iblk m c 0 t : Vec Ideal S1024x4096 .bf16) (ix2 y0 k) = V m c main_v3 (ix2 j0 k : S8192x4096.Idx) := by
      blk_point [iblk, idx t]
    rw [h, V_rows]
    exact rows_at _ _ _ _
  · blk_point [iblk, V, idx t]

theorem final (c : Dev nD) : (dats m 0 c).arrAt 2 (cfgs 0).N
    = REF (m ((c : Thread nD τ).loc main_arg0)) (m ((c : Thread nD τ).loc main_arg1)) (m ((c : Thread nD τ).loc main_arg2)) := by
  refine (dats m 0 c).arrAt_eq_of_covers 2 _ (by decide +kernel) fun t _ y => ?_
  blk_simp
  rw [after0_2]; frame_out
  exact point m c t y

end Cert.Kernel8Ideal.EvenIn

end
-- ==== Proof.ClaimEvenIn.lean ====
module
public import proofs.«01_k».proof.Proof.EvenIn
public import proofs.«01_k».proof.Defs
public import proofs.«01_k».proof.Proof.Gen.Reference8Ideal.Run
public import Idealize.ShloMosaic.Lib.Claim

@[expose] public section
noncomputable section
namespace Cert.Proof
open Idealize.ShloMosaic Idealize.SL.Sem

/-- The even layer's input projection: kernel and reference agree everywhere. -/
theorem algebraic_even_in : Cert.algebraic_Kernel8Ideal_Reference8Ideal := by
  pair_intro
  · run_from Cert.Kernel8Ideal.Gen.run_main m g
  · run_from Cert.Reference8Ideal.Value.run m' g'
    obtain ⟨a0, a1, a2⟩ := hagree c
    rw [Cert.Kernel8Ideal.EvenIn.final m c, ← a0, ← a1, ← a2]
    rfl

end Cert.Proof
end
end
-- ==== Proof.EvenOut.lean ====
/- The output projection of the even layer with its residual: the tiled kernel's result is the reference's composed term. -/
module

public import proofs.«01_k».proof.Proof.Gen.Kernel9Ideal.Frame
public import proofs.«01_k».proof.Proof.Gen.Reference9Ideal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Reference9Ideal.EvenOut
open Cert.Reference9Ideal Cert.Reference9Ideal.Gen

/-- The output product. -/
def prod (a0 : FVec Ideal S8192x4096 .f32) (a1 : FVec Ideal S1x4096x4096 .f32) : FVec Ideal S8192x4096 .f32 :=
  Host.dotGeneral dot_S8192x4096_S4096x4096_S8192x4096_1_0_0_1_n_n none a0 (shapeCast _ a1 shapeCasts_S1x4096x4096_S4096x4096)
/-- The scaled input plus the gated mixer output. -/
def resid (x Y : FVec Ideal S8192x4096 .f32) (ada : FVec Ideal S2x8x36864 .f32) : FVec Ideal S8192x4096 .f32 :=
  addf (mulf (broadcastInDim S8192x4096 ![] bcast_S_S8192x4096 (constant S_ .f32 0x3FB504F3#32)) x) (mulf (concatenate S8192x4096 0 [⟨S4096x4096, (shapeCast _ (broadcastInDim S1x4096x4096 ![0, 1, 2] bcast_S1x1x4096_S1x4096x4096_0_1_2 (broadcastInDim S1x1x4096 ![0, 2] bcast_S1x4096_S1x1x4096_0_2 (extractStridedSlice S1x4096 ![0, 0] (shapeCast _ (extractStridedSlice S8x1x1x4096 ![0, 1, 2, 0] (shapeCast _ (shapeCast _ (extractStridedSlice S1x8x36864 ![0, 0, 0] ada slices_S2x8x36864_S1x8x36864_0_0_0) shapeCasts_S1x8x36864_S8x36864) shapeCasts_S8x36864_S8x3x3x4096) slices_S8x3x3x4096_S8x1x1x4096_0_1_2_0) shapeCasts_S8x1x1x4096_S8x4096) slices_S8x4096_S1x4096_0_0))) shapeCasts_S1x4096x4096_S4096x4096)⟩, ⟨S4096x4096, (shapeCast _ (broadcastInDim S4x1024x4096 ![0, 1, 2] bcast_S4x1x4096_S4x1024x4096_0_1_2 (broadcastInDim S4x1x4096 ![0, 2] bcast_S4x4096_S4x1x4096_0_2 (extractStridedSlice S4x4096 ![1, 0] (shapeCast _ (extractStridedSlice S8x1x1x4096 ![0, 1, 2, 0] (shapeCast _ (shapeCast _ (extractStridedSlice S1x8x36864 ![0, 0, 0] ada slices_S2x8x36864_S1x8x36864_0_0_0) shapeCasts_S1x8x36864_S8x36864) shapeCasts_S8x36864_S8x3x3x4096) slices_S8x3x3x4096_S8x1x1x4096_0_1_2_0) shapeCasts_S8x1x1x4096_S8x4096) slices_S8x4096_S4x4096_1_0))) shapeCasts_S4x1024x4096_S4096x4096)⟩] concatenates_S4096x4096_S4096x4096_S8192x4096_d0) Y)
/-- The reference's result as a term of the arguments. -/
def REF (a0 : FVec Ideal S8192x4096 .f32) (a1 : FVec Ideal S1x4096x4096 .f32) (a2 : FVec Ideal S8192x4096 .f32) (a3 : FVec Ideal S2x8x36864 .f32) : FVec Ideal S8192x4096 .f32 := resid a2 (prod a0 a1) a3

theorem prod_at (a0 : FVec Ideal S8192x4096 .f32) (a1 : FVec Ideal S1x4096x4096 .f32) (r : Fin 8192) (l : Fin 4096) :
    prod a0 a1 (ix2 r l) = ∑ k : Fin 4096, a0 (ix2 r k) * a1 (ix3 0 k l) := by
  pointwise [prod]

theorem resid_at (x Y : FVec Ideal S8192x4096 .f32) (ada : FVec Ideal S2x8x36864 .f32) (r : Fin 8192) (l : Fin 4096) (g : Fin 8)
    (hg : (g : ℕ) = if (r : ℕ) < 4096 then 0 else 1 + ((r : ℕ) - 4096) / 1024) :
    resid x Y ada (ix2 r l) = Ideal.ofBits .f32 0x3FB504F3#32 * x (ix2 r l) + ada (ix3 0 g ⟨5 * 4096 + (l : ℕ), by omega⟩) * Y (ix2 r l) := by
  pointwise [resid]
  refine Ideal.add_congr rfl (Ideal.mul_congr ?_ rfl)
  split
  · rename_i h
    rw [if_pos h] at hg
    exact congrArg (fun z : Fin 8 => ada (ix3 0 z _)) (Fin.ext hg.symm)
  · rename_i h
    rw [if_neg h] at hg
    exact congrArg (fun z : Fin 8 => ada (ix3 0 z _)) (Fin.ext hg.symm)
theorem ref_at (a0 : FVec Ideal S8192x4096 .f32) (a1 : FVec Ideal S1x4096x4096 .f32) (a2 : FVec Ideal S8192x4096 .f32) (a3 : FVec Ideal S2x8x36864 .f32) (r : Fin 8192) (l : Fin 4096) (g : Fin 8)
    (hg : (g : ℕ) = if (r : ℕ) < 4096 then 0 else 1 + ((r : ℕ) - 4096) / 1024) :
    REF a0 a1 a2 a3 (ix2 r l) = Ideal.ofBits .f32 0x3FB504F3#32 * a2 (ix2 r l) + a3 (ix3 0 g ⟨5 * 4096 + (l : ℕ), by omega⟩) * (∑ k : Fin 4096, a0 (ix2 r k) * a1 (ix3 0 k l)) := by
  unfold REF
  rw [resid_at _ _ _ r l g hg, prod_at]

end Cert.Reference9Ideal.EvenOut

namespace Cert.Kernel9Ideal.EvenOut
open Cert.Kernel9Ideal Cert.Kernel9Ideal.Gen
open Idealize.ShloMosaic.Pipeline (Dat)
open Cert.Reference9Ideal.EvenOut (REF ref_at)

variable (m : (ℓ : Loc nD τ sig) → Buf (Elt Ideal) ℓ)

/-- The gate group of a row tile: the context first, then the samples, one tile each. -/
abbrev grp (r : ℕ) : ℕ := if r < 4 then 0 else 1 + (r - 4)

/-- Every window's block index, at all grid points. -/
theorem idx : ∀ t : Fin cfg0.N, win0_0.index t = ![t.val / 8, 0] ∧ win0_1.index t = ![0, t.val % 8]
    ∧ win0_2.index t = ![t.val / 8, t.val % 8] ∧ win0_3.index t = ![0, 5, grp (t.val / 8), 0, t.val % 8]
    ∧ win0_4.index t = ![t.val / 8, t.val % 8] :=
  (by decide +kernel : ∀ t : Fin grid0.N, _)

/-- What a point stores, read at an index. -/
theorem pay_at (v0 : FVec Ideal S1024x4096 .bf16) (v2 : FVec Ideal S4096x512 .bf16) (v5 : FVec Ideal S1024x512 .f32)
    (v8 : FVec Ideal S1x1x1x1x512 .f32) (r : Fin 1024) (l : Fin 512) :
    k0_pay1 (F := Ideal) v0 v2 v5 v8 (ix2 r l) = Ideal.ofBits .f32 0x3FB504F3#32 * v5 (ix2 r l)
      + v8 (ix5 0 0 0 0 l) * ∑ k : Fin 4096, v0 (ix2 r k) * v2 (ix2 k l) := by
  pointwise [k0_pay1]

theorem point (c : Dev nD) (t : Fin cfg0.N) (y : S1024x512.Idx) :
    k0_pay1 (F := Ideal) (iblk m c 0 t) (iblk m c 1 t) (iblk m c 2 t) (iblk m c 3 t) y
      = REF (m ((c : Thread nD τ).loc main_arg0))
          (m ((c : Thread nD τ).loc main_arg1))
          (m ((c : Thread nD τ).loc main_arg2))
          (m ((c : Thread nD τ).loc main_arg3))
          (((cfg0.win 4).blk t).view.emb y) := by
  have ht : t.val < 64 := lt_of_lt_of_eq t.isLt N_0
  idx_vars y
  obtain_idx j : S8192x4096 := [t.val / 8 * 1024 + (y0 : ℕ), t.val % 8 * 512 + (y1 : ℕ)] with hj
  have hJ : ((cfg0.win 4).blk t).view.emb (ix2 y0 y1) = j := by blk_ext [idx t]
  rw [hJ]
  idx_vars j
  refine (pay_at _ _ _ _ y0 y1).trans (Eq.trans ?_ (ref_at _ _ _ _ j0 j1 ⟨grp (t.val / 8), ?_⟩ ?_).symm)
  · blk_point [iblk, V, idx t]
  · show grp (t.val / 8) < 8
    unfold grp; split <;> omega
  · show grp (t.val / 8) = _
    unfold grp; split <;> split <;> omega

theorem final (c : Dev nD) : (dats m 0 c).arrAt 4 (cfgs 0).N
    = REF (m ((c : Thread nD τ).loc main_arg0))
          (m ((c : Thread nD τ).loc main_arg1))
          (m ((c : Thread nD τ).loc main_arg2))
          (m ((c : Thread nD τ).loc main_arg3)) := by
  refine (dats m 0 c).arrAt_eq_of_covers 4 _ (by decide +kernel) fun t _ y => ?_
  blk_simp
  rw [after0_4]; frame_out
  exact point m c t y

end Cert.Kernel9Ideal.EvenOut

end
-- ==== Proof.ClaimEvenOut.lean ====
module
public import proofs.«01_k».proof.Proof.EvenOut
public import proofs.«01_k».proof.Defs
public import proofs.«01_k».proof.Proof.Gen.Reference9Ideal.Run
public import Idealize.ShloMosaic.Lib.Claim

@[expose] public section
noncomputable section
namespace Cert.Proof
open Idealize.ShloMosaic Idealize.SL.Sem

/-- The even layer's output projection with its residual: kernel and reference agree everywhere. -/
theorem algebraic_even_out : Cert.algebraic_Kernel9Ideal_Reference9Ideal := by
  pair_intro
  · run_from Cert.Kernel9Ideal.Gen.run_main m g
  · run_from Cert.Reference9Ideal.Value.run m' g'
    obtain ⟨a0, a1, a2, a3⟩ := hagree c
    rw [Cert.Kernel9Ideal.EvenOut.final m c, ← a0, ← a1, ← a2, ← a3]
    rfl

end Cert.Proof
end
end
-- ==== Proof.OddOut.lean ====
/- The output projection of the odd layer with its residual: the tiled kernel's result is the reference's composed term. -/
module

public import proofs.«01_k».proof.Proof.Gen.Kernel10Ideal.Frame
public import proofs.«01_k».proof.Proof.Gen.Reference10Ideal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.Reference10Ideal.OddOut
open Cert.Reference10Ideal Cert.Reference10Ideal.Gen

/-- Both halves of the mixer's output, side by side. -/
def joined (a0 a1 : FVec Ideal S8192x2048 .f32) : FVec Ideal S8192x4096 .f32 :=
  concatenate S8192x4096 1 [⟨S8192x2048, a0⟩, ⟨S8192x2048, a1⟩] concatenates_S8192x2048_S8192x2048_S8192x4096_d1
/-- The output product. -/
def full (X : FVec Ideal S8192x4096 .f32) (a2 : FVec Ideal S1x4096x4096 .f32) : FVec Ideal S8192x4096 .f32 :=
  Host.dotGeneral dot_S8192x4096_S4096x4096_S8192x4096_1_0_0_1_n_n none X (shapeCast _ a2 shapeCasts_S1x4096x4096_S4096x4096)
def prod (a0 a1 : FVec Ideal S8192x2048 .f32) (a2 : FVec Ideal S1x4096x4096 .f32) : FVec Ideal S8192x4096 .f32 := full (joined a0 a1) a2
/-- The scaled input plus the gated mixer output. -/
def resid (x Y : FVec Ideal S8192x4096 .f32) (ada : FVec Ideal S2x8x36864 .f32) : FVec Ideal S8192x4096 .f32 :=
  addf (mulf (broadcastInDim S8192x4096 ![] bcast_S_S8192x4096 (constant S_ .f32 0x3FB504F3#32)) x) (mulf (concatenate S8192x4096 0 [⟨S4096x4096, (shapeCast _ (broadcastInDim S1x4096x4096 ![0, 1, 2] bcast_S1x1x4096_S1x4096x4096_0_1_2 (broadcastInDim S1x1x4096 ![0, 2] bcast_S1x4096_S1x1x4096_0_2 (extractStridedSlice S1x4096 ![0, 0] (shapeCast _ (extractStridedSlice S8x1x1x4096 ![0, 1, 2, 0] (shapeCast _ (shapeCast _ (extractStridedSlice S1x8x36864 ![1, 0, 0] ada slices_S2x8x36864_S1x8x36864_1_0_0) shapeCasts_S1x8x36864_S8x36864) shapeCasts_S8x36864_S8x3x3x4096) slices_S8x3x3x4096_S8x1x1x4096_0_1_2_0) shapeCasts_S8x1x1x4096_S8x4096) slices_S8x4096_S1x4096_0_0))) shapeCasts_S1x4096x4096_S4096x4096)⟩, ⟨S4096x4096, (shapeCast _ (broadcastInDim S4x1024x4096 ![0, 1, 2] bcast_S4x1x4096_S4x1024x4096_0_1_2 (broadcastInDim S4x1x4096 ![0, 2] bcast_S4x4096_S4x1x4096_0_2 (extractStridedSlice S4x4096 ![1, 0] (shapeCast _ (extractStridedSlice S8x1x1x4096 ![0, 1, 2, 0] (shapeCast _ (shapeCast _ (extractStridedSlice S1x8x36864 ![1, 0, 0] ada slices_S2x8x36864_S1x8x36864_1_0_0) shapeCasts_S1x8x36864_S8x36864) shapeCasts_S8x36864_S8x3x3x4096) slices_S8x3x3x4096_S8x1x1x4096_0_1_2_0) shapeCasts_S8x1x1x4096_S8x4096) slices_S8x4096_S4x4096_1_0))) shapeCasts_S4x1024x4096_S4096x4096)⟩] concatenates_S4096x4096_S4096x4096_S8192x4096_d0) Y)
/-- The reference's result as a term of the arguments. -/
def REF (a0 a1 : FVec Ideal S8192x2048 .f32) (a2 : FVec Ideal S1x4096x4096 .f32) (a3 : FVec Ideal S8192x4096 .f32) (a4 : FVec Ideal S2x8x36864 .f32) : FVec Ideal S8192x4096 .f32 := resid a3 (prod a0 a1 a2) a4

theorem joined_left (a0 a1 : FVec Ideal S8192x2048 .f32) (r : Fin 8192) (k : Fin 2048) :
    joined a0 a1 (ix2 r ⟨(k : ℕ), by omega⟩) = a0 (ix2 r k) := by
  pointwise [joined]
theorem joined_right (a0 a1 : FVec Ideal S8192x2048 .f32) (r : Fin 8192) (k : Fin 2048) :
    joined a0 a1 (ix2 r ⟨2048 + (k : ℕ), by omega⟩) = a1 (ix2 r k) := by
  pointwise [joined]
theorem full_at (X : FVec Ideal S8192x4096 .f32) (a2 : FVec Ideal S1x4096x4096 .f32) (r : Fin 8192) (l : Fin 4096) :
    full X a2 (ix2 r l) = ∑ k : Fin 4096, X (ix2 r k) * a2 (ix3 0 k l) := by
  pointwise [full]
theorem prod_at (a0 a1 : FVec Ideal S8192x2048 .f32) (a2 : FVec Ideal S1x4096x4096 .f32) (r : Fin 8192) (l : Fin 4096) :
    prod a0 a1 a2 (ix2 r l) = (∑ k : Fin 2048, a0 (ix2 r k) * a2 (ix3 0 ⟨(k : ℕ), by omega⟩ l)) + ∑ k : Fin 2048, a1 (ix2 r k) * a2 (ix3 0 ⟨2048 + (k : ℕ), by omega⟩ l) := by
  unfold prod
  rw [full_at]
  refine (Fin.sum_univ_add (a := 2048) (b := 2048) (fun k : Fin 4096 => joined a0 a1 (ix2 r k) * a2 (ix3 0 k l))).trans ?_
  refine Ideal.add_congr (Finset.sum_congr rfl fun k _ => ?_) (Finset.sum_congr rfl fun k _ => ?_)
  · exact Ideal.mul_congr (joined_left a0 a1 r k) rfl
  · exact Ideal.mul_congr (joined_right a0 a1 r k) rfl

theorem resid_at (x Y : FVec Ideal S8192x4096 .f32) (ada : FVec Ideal S2x8x36864 .f32) (r : Fin 8192) (l : Fin 4096) (g : Fin 8)
    (hg : (g : ℕ) = if (r : ℕ) < 4096 then 0 else 1 + ((r : ℕ) - 4096) / 1024) :
    resid x Y ada (ix2 r l) = Ideal.ofBits .f32 0x3FB504F3#32 * x (ix2 r l) + ada (ix3 1 g ⟨5 * 4096 + (l : ℕ), by omega⟩) * Y (ix2 r l) := by
  pointwise [resid]
  refine Ideal.add_congr rfl (Ideal.mul_congr ?_ rfl)
  split
  · rename_i h
    rw [if_pos h] at hg
    exact congrArg (fun z : Fin 8 => ada (ix3 1 z _)) (Fin.ext hg.symm)
  · rename_i h
    rw [if_neg h] at hg
    exact congrArg (fun z : Fin 8 => ada (ix3 1 z _)) (Fin.ext hg.symm)
theorem ref_at (a0 a1 : FVec Ideal S8192x2048 .f32) (a2 : FVec Ideal S1x4096x4096 .f32) (a3 : FVec Ideal S8192x4096 .f32) (a4 : FVec Ideal S2x8x36864 .f32) (r : Fin 8192) (l : Fin 4096) (g : Fin 8)
    (hg : (g : ℕ) = if (r : ℕ) < 4096 then 0 else 1 + ((r : ℕ) - 4096) / 1024) :
    REF a0 a1 a2 a3 a4 (ix2 r l) = Ideal.ofBits .f32 0x3FB504F3#32 * a3 (ix2 r l) + a4 (ix3 1 g ⟨5 * 4096 + (l : ℕ), by omega⟩) * ((∑ k : Fin 2048, a0 (ix2 r k) * a2 (ix3 0 ⟨(k : ℕ), by omega⟩ l)) + ∑ k : Fin 2048, a1 (ix2 r k) * a2 (ix3 0 ⟨2048 + (k : ℕ), by omega⟩ l)) := by
  unfold REF
  rw [resid_at _ _ _ r l g hg, prod_at]

end Cert.Reference10Ideal.OddOut

namespace Cert.Kernel10Ideal.OddOut
open Cert.Kernel10Ideal Cert.Kernel10Ideal.Gen
open Idealize.ShloMosaic.Pipeline (Dat)
open Cert.Reference10Ideal.OddOut (REF ref_at)

variable (m : (ℓ : Loc nD τ sig) → Buf (Elt Ideal) ℓ)

/-- The gate group of a row tile: the context first, then the samples, one tile each. -/
abbrev grp (r : ℕ) : ℕ := if r < 4 then 0 else 1 + (r - 4)

/-- Every window's block index, at all grid points. -/
theorem idx : ∀ t : Fin cfg0.N, win0_0.index t = ![t.val / 8, 0] ∧ win0_1.index t = ![t.val / 8, 0]
    ∧ win0_2.index t = ![0, t.val % 8] ∧ win0_3.index t = ![1, t.val % 8]
    ∧ win0_4.index t = ![t.val / 8, t.val % 8] ∧ win0_5.index t = ![1, 5, grp (t.val / 8), 0, t.val % 8]
    ∧ win0_6.index t = ![t.val / 8, t.val % 8] :=
  (by decide +kernel : ∀ t : Fin grid0.N, _)

/-- What a point stores, read at an index. -/
theorem pay_at (v0 : FVec Ideal S1024x2048 .bf16) (v2 : FVec Ideal S2048x512 .bf16) (v5 : FVec Ideal S1024x2048 .bf16)
    (v7 : FVec Ideal S2048x512 .bf16) (v11 : FVec Ideal S1024x512 .f32) (v14 : FVec Ideal S1x1x1x1x512 .f32) (r : Fin 1024) (l : Fin 512) :
    k0_pay1 (F := Ideal) v0 v2 v5 v7 v11 v14 (ix2 r l) = Ideal.ofBits .f32 0x3FB504F3#32 * v11 (ix2 r l)
      + v14 (ix5 0 0 0 0 l) * ((∑ k : Fin 2048, v0 (ix2 r k) * v2 (ix2 k l)) + ∑ k : Fin 2048, v5 (ix2 r k) * v7 (ix2 k l)) := by
  pointwise [k0_pay1]

theorem point (c : Dev nD) (t : Fin cfg0.N) (y : S1024x512.Idx) :
    k0_pay1 (F := Ideal) (iblk m c 0 t) (iblk m c 2 t) (iblk m c 1 t) (iblk m c 3 t) (iblk m c 4 t) (iblk m c 5 t) y
      = REF (m ((c : Thread nD τ).loc main_arg0))
          (m ((c : Thread nD τ).loc main_arg1))
          (m ((c : Thread nD τ).loc main_arg2))
          (m ((c : Thread nD τ).loc main_arg3))
          (m ((c : Thread nD τ).loc main_arg4))
          (((cfg0.win 6).blk t).view.emb y) := by
  have ht : t.val < 64 := lt_of_lt_of_eq t.isLt N_0
  idx_vars y
  obtain_idx j : S8192x4096 := [t.val / 8 * 1024 + (y0 : ℕ), t.val % 8 * 512 + (y1 : ℕ)] with hj
  have hJ : ((cfg0.win 6).blk t).view.emb (ix2 y0 y1) = j := by blk_ext [idx t]
  rw [hJ]
  idx_vars j
  refine (pay_at _ _ _ _ _ _ y0 y1).trans (Eq.trans ?_ (ref_at _ _ _ _ _ j0 j1 ⟨grp (t.val / 8), ?_⟩ ?_).symm)
  · blk_point [iblk, V, idx t]
  · show grp (t.val / 8) < 8
    unfold grp; split <;> omega
  · show grp (t.val / 8) = _
    unfold grp; split <;> split <;> omega

theorem final (c : Dev nD) : (dats m 0 c).arrAt 6 (cfgs 0).N
    = REF (m ((c : Thread nD τ).loc main_arg0))
          (m ((c : Thread nD τ).loc main_arg1))
          (m ((c : Thread nD τ).loc main_arg2))
          (m ((c : Thread nD τ).loc main_arg3))
          (m ((c : Thread nD τ).loc main_arg4)) := by
  refine (dats m 0 c).arrAt_eq_of_covers 6 _ (by decide +kernel) fun t _ y => ?_
  blk_simp
  rw [after0_6]; frame_out
  exact point m c t y

end Cert.Kernel10Ideal.OddOut

end
-- ==== Proof.ClaimOddOut.lean ====
module
public import proofs.«01_k».proof.Proof.OddOut
public import proofs.«01_k».proof.Defs
public import proofs.«01_k».proof.Proof.Gen.Reference10Ideal.Run
public import Idealize.ShloMosaic.Lib.Claim

@[expose] public section
noncomputable section
namespace Cert.Proof
open Idealize.ShloMosaic Idealize.SL.Sem

/-- The odd layer's output projection with its residual: kernel and reference agree everywhere. -/
theorem algebraic_odd_out : Cert.algebraic_Kernel10Ideal_Reference10Ideal := by
  pair_intro
  · run_from Cert.Kernel10Ideal.Gen.run_main m g
  · run_from Cert.Reference10Ideal.Value.run m' g'
    obtain ⟨a0, a1, a2, a3, a4⟩ := hagree c
    rw [Cert.Kernel10Ideal.OddOut.final m c, ← a0, ← a1, ← a2, ← a3, ← a4]
    rfl

end Cert.Proof
end
end
-- ==== Proof.Ada.lean ====
/- The modulation vectors: the kernel's result is the reference's composed term of the arguments. -/
module

public import proofs.«01_k».proof.Proof.Gen.Kernel11Ideal.Frame
public import proofs.«01_k».proof.Proof.Gen.Reference11Ideal
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem

namespace Cert.Reference11Ideal.Ada
open Cert.Reference11Ideal Cert.Reference11Ideal.Gen

/-- A number times its sigmoid. -/
def silu (x : EReal) : EReal := x * Ideal.div 1 (1 + Ideal.exp (-x))

/-- The context condition through silu. -/
def silP (a0 : FVec Ideal S4096 .f32) : FVec Ideal S1x4096 .f32 :=
  mulf (broadcastInDim S1x4096 ![1] bcast_S4096_S1x4096_1 a0) (Host.divf (broadcastInDim S1x4096 ![] bcast_S_S1x4096 (constant S_ .f32 0x3F800000#32)) (addf (broadcastInDim S1x4096 ![] bcast_S_S1x4096 (constant S_ .f32 0x3F800000#32)) (Host.exp (Host.negf (broadcastInDim S1x4096 ![1] bcast_S4096_S1x4096_1 a0)))))
/-- The sample conditions through silu. -/
def silS (a1 : FVec Ideal S4x4096 .f32) : FVec Ideal S4x4096 .f32 :=
  mulf a1 (Host.divf (broadcastInDim S4x4096 ![] bcast_S_S4x4096 (constant S_ .f32 0x3F800000#32)) (addf (broadcastInDim S4x4096 ![] bcast_S_S4x4096 (constant S_ .f32 0x3F800000#32)) (Host.exp (Host.negf a1))))
/-- The padding condition, zero, through silu. -/
def silZ : FVec Ideal S3x4096 .f32 :=
  mulf (broadcastInDim S3x4096 ![] bcast_S_S3x4096 (constant S_ .f32 0x00000000#32)) (Host.divf (broadcastInDim S3x4096 ![] bcast_S_S3x4096 (constant S_ .f32 0x3F800000#32)) (addf (broadcastInDim S3x4096 ![] bcast_S_S3x4096 (constant S_ .f32 0x3F800000#32)) (Host.exp (Host.negf (broadcastInDim S3x4096 ![] bcast_S_S3x4096 (constant S_ .f32 0x00000000#32))))))
/-- Layer 0's weight and its bias. -/
def W0 (a2 : FVec Ideal S2x4096x36864 .f32) : FVec Ideal S4096x36864 .f32 :=
  shapeCast _ (extractStridedSlice S1x4096x36864 ![0, 0, 0] a2 slices_S2x4096x36864_S1x4096x36864_0_0_0) shapeCasts_S1x4096x36864_S4096x36864
def B0 (a3 : FVec Ideal S2x36864 .f32) : FVec Ideal S36864 .f32 :=
  shapeCast _ (extractStridedSlice S1x36864 ![0, 0] a3 slices_S2x36864_S1x36864_0_0) shapeCasts_S1x36864_S36864
/-- Layer 1's weight and its bias. -/
def W1 (a2 : FVec Ideal S2x4096x36864 .f32) : FVec Ideal S4096x36864 .f32 :=
  shapeCast _ (extractStridedSlice S1x4096x36864 ![1, 0, 0] a2 slices_S2x4096x36864_S1x4096x36864_1_0_0) shapeCasts_S1x4096x36864_S4096x36864
def B1 (a3 : FVec Ideal S2x36864 .f32) : FVec Ideal S36864 .f32 :=
  shapeCast _ (extractStridedSlice S1x36864 ![1, 0] a3 slices_S2x36864_S1x36864_1_0) shapeCasts_S1x36864_S36864
/-- One layer's vectors of 1 condition, and both layers' on top of each other. -/
def vecP (s : FVec Ideal S1x4096 .f32) (w : FVec Ideal S4096x36864 .f32) (b : FVec Ideal S36864 .f32) : FVec Ideal S1x1x36864 .f32 :=
  broadcastInDim S1x1x36864 ![1, 2] bcast_S1x36864_S1x1x36864_1_2 (addf (Host.dotGeneral dot_S1x4096_S4096x36864_S1x36864_1_0_0_1_n_n none s w) (broadcastInDim S1x36864 ![1] bcast_S36864_S1x36864_1 b))
def twoP (A B : FVec Ideal S1x1x36864 .f32) : FVec Ideal S2x1x36864 .f32 :=
  concatenate S2x1x36864 0 [⟨S1x1x36864, A⟩, ⟨S1x1x36864, B⟩] concatenates_S1x1x36864_S1x1x36864_S2x1x36864_d0
/-- The two layers' vectors of these conditions. -/
def bothP (s : FVec Ideal S1x4096 .f32) (a2 : FVec Ideal S2x4096x36864 .f32) (a3 : FVec Ideal S2x36864 .f32) : FVec Ideal S2x1x36864 .f32 :=
  twoP (vecP s (W0 a2) (B0 a3)) (vecP s (W1 a2) (B1 a3))
/-- One layer's vectors of 4 conditions, and both layers' on top of each other. -/
def vecS (s : FVec Ideal S4x4096 .f32) (w : FVec Ideal S4096x36864 .f32) (b : FVec Ideal S36864 .f32) : FVec Ideal S1x4x36864 .f32 :=
  broadcastInDim S1x4x36864 ![1, 2] bcast_S4x36864_S1x4x36864_1_2 (addf (Host.dotGeneral dot_S4x4096_S4096x36864_S4x36864_1_0_0_1_n_n none s w) (broadcastInDim S4x36864 ![0, 1] bcast_S1x36864_S4x36864_0_1 (broadcastInDim S1x36864 ![1] bcast_S36864_S1x36864_1 b)))
def twoS (A B : FVec Ideal S1x4x36864 .f32) : FVec Ideal S2x4x36864 .f32 :=
  concatenate S2x4x36864 0 [⟨S1x4x36864, A⟩, ⟨S1x4x36864, B⟩] concatenates_S1x4x36864_S1x4x36864_S2x4x36864_d0
/-- The two layers' vectors of these conditions. -/
def bothS (s : FVec Ideal S4x4096 .f32) (a2 : FVec Ideal S2x4096x36864 .f32) (a3 : FVec Ideal S2x36864 .f32) : FVec Ideal S2x4x36864 .f32 :=
  twoS (vecS s (W0 a2) (B0 a3)) (vecS s (W1 a2) (B1 a3))
/-- One layer's vectors of 3 conditions, and both layers' on top of each other. -/
def vecZ (s : FVec Ideal S3x4096 .f32) (w : FVec Ideal S4096x36864 .f32) (b : FVec Ideal S36864 .f32) : FVec Ideal S1x3x36864 .f32 :=
  broadcastInDim S1x3x36864 ![1, 2] bcast_S3x36864_S1x3x36864_1_2 (addf (Host.dotGeneral dot_S3x4096_S4096x36864_S3x36864_1_0_0_1_n_n none s w) (broadcastInDim S3x36864 ![0, 1] bcast_S1x36864_S3x36864_0_1 (broadcastInDim S1x36864 ![1] bcast_S36864_S1x36864_1 b)))
def twoZ (A B : FVec Ideal S1x3x36864 .f32) : FVec Ideal S2x3x36864 .f32 :=
  concatenate S2x3x36864 0 [⟨S1x3x36864, A⟩, ⟨S1x3x36864, B⟩] concatenates_S1x3x36864_S1x3x36864_S2x3x36864_d0
/-- The two layers' vectors of these conditions. -/
def bothZ (s : FVec Ideal S3x4096 .f32) (a2 : FVec Ideal S2x4096x36864 .f32) (a3 : FVec Ideal S2x36864 .f32) : FVec Ideal S2x3x36864 .f32 :=
  twoZ (vecZ s (W0 a2) (B0 a3)) (vecZ s (W1 a2) (B1 a3))
/-- The three groups of conditions side by side. -/
def join (P : FVec Ideal S2x1x36864 .f32) (S : FVec Ideal S2x4x36864 .f32) (Z : FVec Ideal S2x3x36864 .f32) : FVec Ideal S2x8x36864 .f32 :=
  concatenate S2x8x36864 1 [⟨S2x1x36864, P⟩, ⟨S2x4x36864, S⟩, ⟨S2x3x36864, Z⟩] concatenates_S2x1x36864_S2x4x36864_S2x3x36864_S2x8x36864_d1
/-- The reference's result as a term of the arguments. -/
def REF (a0 : FVec Ideal S4096 .f32) (a1 : FVec Ideal S4x4096 .f32) (a2 : FVec Ideal S2x4096x36864 .f32) (a3 : FVec Ideal S2x36864 .f32) : FVec Ideal S2x8x36864 .f32 :=
  join (bothP (silP a0) a2 a3) (bothS (silS a1) a2 a3) (bothZ silZ a2 a3)

theorem silP_at (a0 : FVec Ideal S4096 .f32) (k : Fin 4096) : silP a0 (ix2 0 k) = silu (a0 (ix1 k)) := by
  pointwise [silP, silu]
theorem silS_at (a1 : FVec Ideal S4x4096 .f32) (r : Fin 4) (k : Fin 4096) : silS a1 (ix2 r k) = silu (a1 (ix2 r k)) := by
  pointwise [silS, silu]
theorem silZ_at (r : Fin 3) (k : Fin 4096) : silZ (ix2 r k) = silu 0 := by
  pointwise [silZ, silu]
theorem W0_at (a2 : FVec Ideal S2x4096x36864 .f32) (k : Fin 4096) (j : Fin 36864) : W0 a2 (ix2 k j) = a2 (ix3 0 k j) := by
  pointwise [W0]
theorem B0_at (a3 : FVec Ideal S2x36864 .f32) (j : Fin 36864) : B0 a3 (ix1 j) = a3 (ix2 0 j) := by
  pointwise [B0]
theorem W1_at (a2 : FVec Ideal S2x4096x36864 .f32) (k : Fin 4096) (j : Fin 36864) : W1 a2 (ix2 k j) = a2 (ix3 1 k j) := by
  pointwise [W1]
theorem B1_at (a3 : FVec Ideal S2x36864 .f32) (j : Fin 36864) : B1 a3 (ix1 j) = a3 (ix2 1 j) := by
  pointwise [B1]
theorem vecP_at (s : FVec Ideal S1x4096 .f32) (w : FVec Ideal S4096x36864 .f32) (b : FVec Ideal S36864 .f32) (r : Fin 1) (j : Fin 36864) :
    vecP s w b (ix3 0 r j) = (∑ k : Fin 4096, s (ix2 r k) * w (ix2 k j)) + b (ix1 j) := by
  obtain rfl : r = 0 := Subsingleton.elim _ _
  pointwise [vecP]
theorem twoP_at (A B : FVec Ideal S1x1x36864 .f32) (l : Fin 2) (r : Fin 1) (j : Fin 36864) :
    twoP A B (ix3 l r j) = if (l : ℕ) < 1 then A (ix3 0 r j) else B (ix3 0 r j) := by
  obtain rfl : r = 0 := Subsingleton.elim _ _
  pointwise [twoP]
  split_ifs
  · exact congrArg (fun z : Fin 1 => A (ix3 z _ j)) (Subsingleton.elim _ _)
  · exact congrArg (fun z : Fin 1 => B (ix3 z _ j)) (Subsingleton.elim _ _)
  · exact congrArg (fun z : Fin 1 => B (ix3 z _ j)) (Subsingleton.elim _ _)
theorem bothP_at (s : FVec Ideal S1x4096 .f32) (a2 : FVec Ideal S2x4096x36864 .f32) (a3 : FVec Ideal S2x36864 .f32) (l : Fin 2) (r : Fin 1) (j : Fin 36864) :
    bothP s a2 a3 (ix3 l r j) = (∑ k : Fin 4096, s (ix2 r k) * a2 (ix3 l k j)) + a3 (ix2 l j) := by
  unfold bothP
  rw [twoP_at, vecP_at, vecP_at]
  simp only [W0_at, W1_at, B0_at, B1_at]
  by_cases h : (l : ℕ) < 1
  · rw [if_pos h, show l = 0 from Fin.ext (by omega)]
  · rw [if_neg h, show l = 1 from Fin.ext (by omega)]
theorem vecS_at (s : FVec Ideal S4x4096 .f32) (w : FVec Ideal S4096x36864 .f32) (b : FVec Ideal S36864 .f32) (r : Fin 4) (j : Fin 36864) :
    vecS s w b (ix3 0 r j) = (∑ k : Fin 4096, s (ix2 r k) * w (ix2 k j)) + b (ix1 j) := by
  skip
  pointwise [vecS]
theorem twoS_at (A B : FVec Ideal S1x4x36864 .f32) (l : Fin 2) (r : Fin 4) (j : Fin 36864) :
    twoS A B (ix3 l r j) = if (l : ℕ) < 1 then A (ix3 0 r j) else B (ix3 0 r j) := by
  skip
  pointwise [twoS]
  split_ifs
  · exact congrArg (fun z : Fin 1 => A (ix3 z _ j)) (Subsingleton.elim _ _)
  · exact congrArg (fun z : Fin 1 => B (ix3 z _ j)) (Subsingleton.elim _ _)
  · exact congrArg (fun z : Fin 1 => B (ix3 z _ j)) (Subsingleton.elim _ _)
theorem bothS_at (s : FVec Ideal S4x4096 .f32) (a2 : FVec Ideal S2x4096x36864 .f32) (a3 : FVec Ideal S2x36864 .f32) (l : Fin 2) (r : Fin 4) (j : Fin 36864) :
    bothS s a2 a3 (ix3 l r j) = (∑ k : Fin 4096, s (ix2 r k) * a2 (ix3 l k j)) + a3 (ix2 l j) := by
  unfold bothS
  rw [twoS_at, vecS_at, vecS_at]
  simp only [W0_at, W1_at, B0_at, B1_at]
  by_cases h : (l : ℕ) < 1
  · rw [if_pos h, show l = 0 from Fin.ext (by omega)]
  · rw [if_neg h, show l = 1 from Fin.ext (by omega)]
theorem vecZ_at (s : FVec Ideal S3x4096 .f32) (w : FVec Ideal S4096x36864 .f32) (b : FVec Ideal S36864 .f32) (r : Fin 3) (j : Fin 36864) :
    vecZ s w b (ix3 0 r j) = (∑ k : Fin 4096, s (ix2 r k) * w (ix2 k j)) + b (ix1 j) := by
  skip
  pointwise [vecZ]
theorem twoZ_at (A B : FVec Ideal S1x3x36864 .f32) (l : Fin 2) (r : Fin 3) (j : Fin 36864) :
    twoZ A B (ix3 l r j) = if (l : ℕ) < 1 then A (ix3 0 r j) else B (ix3 0 r j) := by
  skip
  pointwise [twoZ]
  split_ifs
  · exact congrArg (fun z : Fin 1 => A (ix3 z _ j)) (Subsingleton.elim _ _)
  · exact congrArg (fun z : Fin 1 => B (ix3 z _ j)) (Subsingleton.elim _ _)
  · exact congrArg (fun z : Fin 1 => B (ix3 z _ j)) (Subsingleton.elim _ _)
theorem bothZ_at (s : FVec Ideal S3x4096 .f32) (a2 : FVec Ideal S2x4096x36864 .f32) (a3 : FVec Ideal S2x36864 .f32) (l : Fin 2) (r : Fin 3) (j : Fin 36864) :
    bothZ s a2 a3 (ix3 l r j) = (∑ k : Fin 4096, s (ix2 r k) * a2 (ix3 l k j)) + a3 (ix2 l j) := by
  unfold bothZ
  rw [twoZ_at, vecZ_at, vecZ_at]
  simp only [W0_at, W1_at, B0_at, B1_at]
  by_cases h : (l : ℕ) < 1
  · rw [if_pos h, show l = 0 from Fin.ext (by omega)]
  · rw [if_neg h, show l = 1 from Fin.ext (by omega)]
/-- The condition of a group: the context, the samples, and zero for the rest. -/
def group (a0 : FVec Ideal S4096 .f32) (a1 : FVec Ideal S4x4096 .f32) (r : Fin 8) (k : Fin 4096) : EReal :=
  if h0 : (r : ℕ) < 1 then a0 (ix1 k) else if h : (r : ℕ) - 1 < 4 then a1 (ix2 ⟨(r : ℕ) - 1, h⟩ k) else 0

theorem join_at (P : FVec Ideal S2x1x36864 .f32) (S : FVec Ideal S2x4x36864 .f32) (Z : FVec Ideal S2x3x36864 .f32) (l : Fin 2) (r : Fin 8) (j : Fin 36864) :
    join P S Z (ix3 l r j) = if h0 : (r : ℕ) < 1 then P (ix3 l ⟨(r : ℕ), h0⟩ j) else if h : (r : ℕ) - 1 < 4 then S (ix3 l ⟨(r : ℕ) - 1, h⟩ j)
      else Z (ix3 l ⟨(r : ℕ) - 1 - 4, by omega⟩ j) := by
  pointwise [join]

theorem ref_at (a0 : FVec Ideal S4096 .f32) (a1 : FVec Ideal S4x4096 .f32) (a2 : FVec Ideal S2x4096x36864 .f32) (a3 : FVec Ideal S2x36864 .f32)
    (l : Fin 2) (r : Fin 8) (j : Fin 36864) :
    REF a0 a1 a2 a3 (ix3 l r j) = (∑ k : Fin 4096, silu (group a0 a1 r k) * a2 (ix3 l k j)) + a3 (ix2 l j) := by
  unfold REF
  rw [join_at]
  by_cases h : (r : ℕ) < 1
  · rw [dif_pos h, bothP_at, show (⟨(r : ℕ), h⟩ : Fin 1) = 0 from Subsingleton.elim _ _]
    simp only [silP_at, group, dif_pos h]
  · by_cases h5 : (r : ℕ) - 1 < 4
    · rw [dif_neg h, dif_pos h5, bothS_at]
      simp only [silS_at, group, dif_neg h, dif_pos h5]
    · rw [dif_neg h, dif_neg h5, bothZ_at]
      simp only [silZ_at, group, dif_neg h, dif_neg h5]

end Cert.Reference11Ideal.Ada

namespace Cert.Kernel11Ideal.Ada
open Cert.Kernel11Ideal Cert.Kernel11Ideal.Gen
open Idealize.ShloMosaic.Pipeline (Dat)
open Cert.Reference11Ideal.Ada (REF ref_at group silu)

variable (m : (ℓ : Loc nD τ sig) → Buf (Elt Ideal) ℓ)

/-- Every window's block index, at all grid points. -/
theorem idx : ∀ t : Fin cfg0.N, win0_0.index t = ![0, 0] ∧ win0_1.index t = ![t.val / 72, 0, t.val % 72]
    ∧ win0_2.index t = ![t.val / 72, 0, t.val % 72] ∧ win0_3.index t = ![t.val / 72, 0, t.val % 72] :=
  (by decide +kernel : ∀ t : Fin grid0.N, _)

/-- The conditions, one above the other. -/
def COND (a0 : FVec Ideal S4096 .f32) (a1 : FVec Ideal S4x4096 .f32) : FVec Ideal S8x4096 .f32 :=
  concatenate S8x4096 0 [⟨S1x4096, broadcastInDim S1x4096 ![1] bcast_S4096_S1x4096_1 a0⟩, ⟨S4x4096, a1⟩, ⟨S3x4096, broadcastInDim S3x4096 ![] bcast_S_S3x4096 (constant S_ .f32 0x00000000#32)⟩] concatenates_S1x4096_S4x4096_S3x4096_S8x4096_d0

theorem V_cond (c : Dev nD) : V m c main_v2 = COND (m ((c : Thread nD τ).loc main_arg0)) (m ((c : Thread nD τ).loc main_arg1)) := by
  unfold V
  after_reads_simp
  rfl

theorem cond_at (a0 : FVec Ideal S4096 .f32) (a1 : FVec Ideal S4x4096 .f32) (r : Fin 8) (k : Fin 4096) :
    COND a0 a1 (ix2 r k) = group a0 a1 r k := by
  pointwise [COND, group]

theorem c_at (c : Dev nD) (t : Fin cfg0.N) (r : Fin 8) (k : Fin 4096) :
    (iblk m c 0 t : Vec Ideal S8x4096 .f32) (ix2 r k) = group (m ((c : Thread nD τ).loc main_arg0)) (m ((c : Thread nD τ).loc main_arg1)) r k := by
  have h : (iblk m c 0 t : Vec Ideal S8x4096 .f32) (ix2 r k) = V m c main_v2 (ix2 r k : S8x4096.Idx) := by
    blk_point [iblk, idx t]
  rw [h, V_cond]
  exact cond_at _ _ _ _

theorem pay_at (v : Vec Ideal S8x4096 .f32) (w : Vec Ideal S1x4096x512 .f32) (b : Vec Ideal S1x1x512 .f32) (r : Fin 8) (l : Fin 512) :
    k0_pay1 (F := Ideal) v w b (ix3 0 r l) = (∑ k : Fin 4096, silu (v (ix2 r k)) * w (ix3 0 k l)) + b (ix3 0 0 l) := by
  pointwise [k0_pay1, silu]
  rfl

theorem point (c : Dev nD) (t : Fin cfg0.N) (y : S1x8x512.Idx) :
    k0_pay1 (F := Ideal) (iblk m c 0 t) (iblk m c 1 t) (iblk m c 2 t) y
      = REF (m ((c : Thread nD τ).loc main_arg0)) (m ((c : Thread nD τ).loc main_arg1))
          (m ((c : Thread nD τ).loc main_arg2)) (m ((c : Thread nD τ).loc main_arg3)) (((cfg0.win 3).blk t).view.emb y) := by
  have ht : t.val < 144 := lt_of_lt_of_eq t.isLt N_0
  idx_vars y
  obtain rfl : y0 = 0 := Subsingleton.elim _ _
  obtain_idx j : S2x8x36864 := [t.val / 72, (y1 : ℕ), t.val % 72 * 512 + (y2 : ℕ)] with hj
  have hJ : ((cfg0.win 3).blk t).view.emb (ix3 0 y1 y2) = j := by blk_ext [idx t]
  rw [hJ]
  idx_vars j
  refine (pay_at _ _ _ y1 y2).trans (Eq.trans ?_ (ref_at _ _ _ _ j0 j1 j2).symm)
  have e : j1 = y1 := Fin.ext hj1
  have hw : ∀ k : Fin 4096, (iblk m c 1 t : Vec Ideal S1x4096x512 .f32) (ix3 0 k y2)
      = m ((c : Thread nD τ).loc main_arg2) (ix3 j0 k j2 : S2x4096x36864.Idx) := fun k => by
    blk_point [iblk, V, idx t]
  have hb : (iblk m c 2 t : Vec Ideal S1x1x512 .f32) (ix3 0 0 y2) = m ((c : Thread nD τ).loc main_arg3) (ix2 j0 j2 : S2x36864.Idx) := by
    blk_point [iblk, V, idx t]
  rw [hb]
  simp only [hw, c_at, e]

theorem final (c : Dev nD) : (dats m 0 c).arrAt 3 (cfgs 0).N
    = REF (m ((c : Thread nD τ).loc main_arg0)) (m ((c : Thread nD τ).loc main_arg1)) (m ((c : Thread nD τ).loc main_arg2)) (m ((c : Thread nD τ).loc main_arg3)) := by
  refine (dats m 0 c).arrAt_eq_of_covers 3 _ (by decide +kernel) fun t _ y => ?_
  blk_simp
  rw [after0_3]; frame_out
  exact point m c t y

end Cert.Kernel11Ideal.Ada

end
-- ==== Proof.ClaimAda.lean ====
module
public import proofs.«01_k».proof.Proof.Ada
public import proofs.«01_k».proof.Defs
public import proofs.«01_k».proof.Proof.Gen.Reference11Ideal.Run
public import Idealize.ShloMosaic.Lib.Claim

@[expose] public section
noncomputable section
namespace Cert.Proof
open Idealize.ShloMosaic Idealize.SL.Sem

/-- The modulation vectors: kernel and reference agree everywhere. -/
theorem algebraic_ada : Cert.algebraic_Kernel11Ideal_Reference11Ideal := by
  pair_intro
  · run_from Cert.Kernel11Ideal.Gen.run_main m g
  · run_from Cert.Reference11Ideal.Value.run m' g'
    obtain ⟨a0, a1, a2, a3⟩ := hagree c
    rw [Cert.Kernel11Ideal.Ada.final m c, ← a0, ← a1, ← a2, ← a3]
    rfl

end Cert.Proof
end
end
-- ==== Proof.Modulate.lean ====
/- The first modulation of the activations: the kernel's result is the reference's composed term of the arguments. -/
module

public import proofs.«01_k».proof.Proof.Gen.Kernel12Ideal.Frame
public import proofs.«01_k».proof.Proof.Gen.Reference12Ideal
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem

namespace Cert.Reference12Ideal.Modulate
open Cert.Reference12Ideal Cert.Reference12Ideal.Gen

/-- The groups' shift vectors and scale vectors of the first sublayer. -/
def shiftV (a2 : FVec Ideal S2x8x36864 .f32) : FVec Ideal S8x4096 .f32 :=
  (shapeCast _ (extractStridedSlice S8x1x1x4096 ![0, 0, 0, 0] (shapeCast _ (shapeCast _ (extractStridedSlice S1x8x36864 ![0, 0, 0] a2 slices_S2x8x36864_S1x8x36864_0_0_0) shapeCasts_S1x8x36864_S8x36864) shapeCasts_S8x36864_S8x3x3x4096) slices_S8x3x3x4096_S8x1x1x4096_0_0_0_0) shapeCasts_S8x1x1x4096_S8x4096)
def scaleV (a2 : FVec Ideal S2x8x36864 .f32) : FVec Ideal S8x4096 .f32 :=
  (shapeCast _ (extractStridedSlice S8x1x1x4096 ![0, 0, 1, 0] (shapeCast _ (shapeCast _ (extractStridedSlice S1x8x36864 ![0, 0, 0] a2 slices_S2x8x36864_S1x8x36864_0_0_0) shapeCasts_S1x8x36864_S8x36864) shapeCasts_S8x36864_S8x3x3x4096) slices_S8x3x3x4096_S8x1x1x4096_0_0_1_0) shapeCasts_S8x1x1x4096_S8x4096)
/-- The modulated rows of the context, and of the samples. -/
def modP (a0 : FVec Ideal S16x256x4096 .f32) (shift scale : FVec Ideal S8x4096 .f32) : FVec Ideal S4096x4096 .f32 :=
  (shapeCast _ (addf (mulf a0 (broadcastInDim S16x256x4096 ![0, 1, 2] bcast_S1x1x4096_S16x256x4096_0_1_2 (addf (broadcastInDim S1x1x4096 ![] bcast_S_S1x1x4096 (constant S_ .f32 0x3F800000#32)) (broadcastInDim S1x1x4096 ![0, 2] bcast_S1x4096_S1x1x4096_0_2 (extractStridedSlice S1x4096 ![0, 0] scale slices_S8x4096_S1x4096_0_0))))) (broadcastInDim S16x256x4096 ![0, 1, 2] bcast_S1x1x4096_S16x256x4096_0_1_2 (broadcastInDim S1x1x4096 ![0, 2] bcast_S1x4096_S1x1x4096_0_2 (extractStridedSlice S1x4096 ![0, 0] shift slices_S8x4096_S1x4096_0_0)))) shapeCasts_S16x256x4096_S4096x4096)
def modS (a1 : FVec Ideal S4x1024x4096 .f32) (shift scale : FVec Ideal S8x4096 .f32) : FVec Ideal S4096x4096 .f32 :=
  (shapeCast _ (addf (mulf a1 (broadcastInDim S4x1024x4096 ![0, 1, 2] bcast_S4x1x4096_S4x1024x4096_0_1_2 (addf (broadcastInDim S4x1x4096 ![] bcast_S_S4x1x4096 (constant S_ .f32 0x3F800000#32)) (broadcastInDim S4x1x4096 ![0, 2] bcast_S4x4096_S4x1x4096_0_2 (extractStridedSlice S4x4096 ![1, 0] scale slices_S8x4096_S4x4096_1_0))))) (broadcastInDim S4x1024x4096 ![0, 1, 2] bcast_S4x1x4096_S4x1024x4096_0_1_2 (broadcastInDim S4x1x4096 ![0, 2] bcast_S4x4096_S4x1x4096_0_2 (extractStridedSlice S4x4096 ![1, 0] shift slices_S8x4096_S4x4096_1_0)))) shapeCasts_S4x1024x4096_S4096x4096)
/-- Two blocks of rows on top of each other. -/
def stack (P S : FVec Ideal S4096x4096 .f32) : FVec Ideal S8192x4096 .bf16 :=
  truncf .bf16 (concatenate S8192x4096 0 [⟨S4096x4096, P⟩, ⟨S4096x4096, S⟩] concatenates_S4096x4096_S4096x4096_S8192x4096_d0) bitsLt_bf16_f32
/-- The reference's result as a term of the arguments. -/
def REF (a0 : FVec Ideal S16x256x4096 .f32) (a1 : FVec Ideal S4x1024x4096 .f32) (a2 : FVec Ideal S2x8x36864 .f32) : FVec Ideal S8192x4096 .bf16 :=
  stack (modP a0 (shiftV a2) (scaleV a2)) (modS a1 (shiftV a2) (scaleV a2))

theorem shiftV_at (a2 : FVec Ideal S2x8x36864 .f32) (g : Fin 8) (l : Fin 4096) : shiftV a2 (ix2 g l) = a2 (ix3 0 g ⟨(l : ℕ), by omega⟩) := by
  pointwise [shiftV]
theorem scaleV_at (a2 : FVec Ideal S2x8x36864 .f32) (g : Fin 8) (l : Fin 4096) : scaleV a2 (ix2 g l) = a2 (ix3 0 g ⟨1 * 4096 + (l : ℕ), by omega⟩) := by
  pointwise [scaleV]
theorem modP_at (a0 : FVec Ideal S16x256x4096 .f32) (shift scale : FVec Ideal S8x4096 .f32) (r : Fin 4096) (l : Fin 4096) :
    modP a0 shift scale (ix2 r l) = a0 (ix3 ⟨(r : ℕ) / 256, by omega⟩ ⟨(r : ℕ) % 256, by omega⟩ l) * (1 + scale (ix2 0 l)) + shift (ix2 0 l) := by
  pointwise [modP]
theorem modS_at (a1 : FVec Ideal S4x1024x4096 .f32) (shift scale : FVec Ideal S8x4096 .f32) (r : Fin 4096) (l : Fin 4096) :
    modS a1 shift scale (ix2 r l) = a1 (ix3 ⟨(r : ℕ) / 1024, by omega⟩ ⟨(r : ℕ) % 1024, by omega⟩ l) * (1 + scale (ix2 ⟨1 + (r : ℕ) / 1024, by omega⟩ l))
      + shift (ix2 ⟨1 + (r : ℕ) / 1024, by omega⟩ l) := by
  pointwise [modS]
theorem stack_at (A B : FVec Ideal S4096x4096 .f32) (r : Fin 8192) (l : Fin 4096) :
    stack A B (ix2 r l) = if h : (r : ℕ) < 4096 then A (ix2 ⟨(r : ℕ), h⟩ l) else B (ix2 ⟨(r : ℕ) - 4096, by omega⟩ l) := by
  pointwise [stack]

/-- One row of the two batches' activations, the context first. -/
def row (a0 : FVec Ideal S16x256x4096 .f32) (a1 : FVec Ideal S4x1024x4096 .f32) (r : Fin 8192) (k : Fin 4096) : EReal :=
  if h : (r : ℕ) < 4096 then a0 (ix3 ⟨(r : ℕ) / 256, by omega⟩ ⟨(r : ℕ) % 256, by omega⟩ k)
  else a1 (ix3 ⟨((r : ℕ) - 4096) / 1024, by omega⟩ ⟨((r : ℕ) - 4096) % 1024, by omega⟩ k)

theorem ref_at (a0 : FVec Ideal S16x256x4096 .f32) (a1 : FVec Ideal S4x1024x4096 .f32) (a2 : FVec Ideal S2x8x36864 .f32) (r : Fin 8192) (l : Fin 4096) (g : Fin 8)
    (hg : (g : ℕ) = if (r : ℕ) < 4096 then 0 else 1 + ((r : ℕ) - 4096) / 1024) :
    REF a0 a1 a2 (ix2 r l) = row a0 a1 r l * (1 + a2 (ix3 0 g ⟨1 * 4096 + (l : ℕ), by omega⟩)) + a2 (ix3 0 g ⟨(l : ℕ), by omega⟩) := by
  unfold REF
  rw [stack_at]
  by_cases h : (r : ℕ) < 4096
  · rw [if_pos h] at hg
    obtain rfl : g = 0 := Fin.ext hg
    rw [dif_pos h, modP_at, shiftV_at, scaleV_at, row, dif_pos h]
  · rw [if_neg h] at hg
    have e : g = ⟨1 + ((r : ℕ) - 4096) / 1024, by omega⟩ := Fin.ext hg
    rw [dif_neg h, modS_at, shiftV_at, scaleV_at, row, dif_neg h, e]

end Cert.Reference12Ideal.Modulate

namespace Cert.Kernel12Ideal.Modulate
open Cert.Kernel12Ideal Cert.Kernel12Ideal.Gen
open Idealize.ShloMosaic.Pipeline (Dat)
open Cert.Reference12Ideal.Modulate (REF ref_at row)

variable (m : (ℓ : Loc nD τ sig) → Buf (Elt Ideal) ℓ)

/-- The group of a row tile: the context first, then the samples, four tiles each. -/
abbrev grp (r : ℕ) : ℕ := if r < 16 then 0 else 1 + (r - 16) / 4

/-- Every window's block index, at all grid points. -/
theorem idx : ∀ t : Fin cfg0.N, win0_0.index t = ![min t.val 15, 0] ∧ win0_1.index t = ![t.val - 16, 0]
    ∧ win0_2.index t = ![0, 0, grp t.val, 0, 0] ∧ win0_3.index t = ![0, 1, grp t.val, 0, 0]
    ∧ win0_4.index t = ![t.val, 0] :=
  (by decide +kernel : ∀ t : Fin grid0.N, _)

/-- Whether a tile is one of the context's. -/
theorem first : ∀ t : Fin cfg0.N, Scalar.cmpi .slt (Scalar.muli (BitVec.ofNat 32 (grid0.coords t 0).val) 256#32) 4096#32
    = if t.val < 16 then 1#1 else 0#1 :=
  (by decide +kernel : ∀ t : Fin grid0.N, _)

/-- What a point stores, once its rows are chosen. -/
theorem pay_at (i : grid0.Coords) (b : BitVec 1) (hb : Scalar.cmpi .slt (Scalar.muli (BitVec.ofNat 32 (i 0).val) 256#32) 4096#32 = b)
    (x0 x1 : Vec Ideal S256x4096 .f32) (v7 v13 : Vec Ideal S1x1x1x1x4096 .f32) (r : Fin 256) (l : Fin 4096) :
    k0_pay1 (F := Ideal) i x0 x1 v7 v13 (ix2 r l) = (Scalar.select b x0 x1 : Vec Ideal S256x4096 .f32) (ix2 r l) * (1 + v7 (ix5 0 0 0 0 l)) + v13 (ix5 0 0 0 0 l) := by
  subst hb
  pointwise [k0_pay1]

theorem point (c : Dev nD) (t : Fin cfg0.N) (y : S256x4096.Idx) :
    k0_pay1 (F := Ideal) (grid0.coords t) (iblk m c 0 t) (iblk m c 1 t) (iblk m c 3 t) (iblk m c 2 t) y
      = REF (m ((c : Thread nD τ).loc main_arg0)) (m ((c : Thread nD τ).loc main_arg1))
          (m ((c : Thread nD τ).loc main_arg2)) (((cfg0.win 4).blk t).view.emb y) := by
  have ht : t.val < 32 := lt_of_lt_of_eq t.isLt N_0
  idx_vars y
  obtain_idx j : S8192x4096 := [t.val * 256 + (y0 : ℕ), (y1 : ℕ)] with hj
  have hJ : ((cfg0.win 4).blk t).view.emb (ix2 y0 y1) = j := by blk_ext [idx t]
  rw [hJ]
  idx_vars j
  refine (pay_at _ _ (first t) _ _ _ _ y0 y1).trans (Eq.trans ?_ (ref_at _ _ _ j0 j1 ⟨grp t.val, ?_⟩ ?_).symm)
  · have e : j1 = y1 := Fin.ext hj1
    have hs : (iblk m c 3 t : Vec Ideal S1x1x1x1x4096 .f32) (ix5 0 0 0 0 y1) = m ((c : Thread nD τ).loc main_arg2)
        (ix3 0 ⟨grp t.val, by unfold grp; split <;> omega⟩ ⟨1 * 4096 + (j1 : ℕ), by omega⟩ : S2x8x36864.Idx) := by
      blk_point [iblk, V, idx t]
    have hf : (iblk m c 2 t : Vec Ideal S1x1x1x1x4096 .f32) (ix5 0 0 0 0 y1) = m ((c : Thread nD τ).loc main_arg2)
        (ix3 0 ⟨grp t.val, by unfold grp; split <;> omega⟩ ⟨(j1 : ℕ), by omega⟩ : S2x8x36864.Idx) := by
      blk_point [iblk, V, idx t]
    rw [hs, hf]
    refine Ideal.add_congr (Ideal.mul_congr ?_ rfl) rfl
    by_cases h : t.val < 16
    · rw [if_pos h, row, dif_pos (by omega)]
      show (iblk m c 0 t : Vec Ideal S256x4096 .f32) (ix2 y0 y1) = _
      blk_point [iblk, V, idx t]
    · rw [if_neg h, row, dif_neg (by omega)]
      show (iblk m c 1 t : Vec Ideal S256x4096 .f32) (ix2 y0 y1) = _
      blk_point [iblk, V, idx t]
  · show grp t.val < 8
    unfold grp; split <;> omega
  · show grp t.val = _
    unfold grp; split <;> split <;> omega

theorem final (c : Dev nD) : (dats m 0 c).arrAt 4 (cfgs 0).N
    = REF (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]; frame_out
  exact point m c t y

end Cert.Kernel12Ideal.Modulate

end
-- ==== Proof.ClaimModulate.lean ====
module
public import proofs.«01_k».proof.Proof.Modulate
public import proofs.«01_k».proof.Defs
public import proofs.«01_k».proof.Proof.Gen.Reference12Ideal.Run
public import Idealize.ShloMosaic.Lib.Claim

@[expose] public section
noncomputable section
namespace Cert.Proof
open Idealize.ShloMosaic Idealize.SL.Sem

/-- The first modulation: kernel and reference agree everywhere. -/
theorem algebraic_modulate : Cert.algebraic_Kernel12Ideal_Reference12Ideal := by
  pair_intro
  · run_from Cert.Kernel12Ideal.Gen.run_main m g
  · run_from Cert.Reference12Ideal.Value.run m' g'
    obtain ⟨a0, a1, a2⟩ := hagree c
    rw [Cert.Kernel12Ideal.Modulate.final m c, ← a0, ← a1, ← a2]
    rfl

end Cert.Proof
end
end
-- ==== Proof.LnMod.lean ====
/- A layer norm inside the trunk and the modulated copy of its result: both results are the reference's composed terms. -/
module

public import proofs.«01_k».proof.Proof.Gen.Kernel13Ideal.Frame
public import proofs.«01_k».proof.Proof.Gen.Reference13Ideal
public import proofs.«01_k».proof.Proof.LayerNormContext
public import Idealize.ShloMosaic.Lib.Pipeline.ValueKit
public import Idealize.ShloMosaic.Lib.Pointwise
public import Idealize.ShloMosaic.Lib.Claim
public import Idealize.ShloMosaic.Lib.StableHlo.RunRead

@[expose] public section

set_option maxRecDepth 16384

noncomputable section

open Idealize.ShloMosaic Idealize.ShloMosaic.TcCoe Idealize.SL.Sem

namespace Cert.Reference13Ideal.LnMod
open Cert.Reference13Ideal Cert.Reference13Ideal.Gen
open Cert.Reference5Ideal.LayerNorm (avg normed)

/-- Each row's mean. -/
def mean (X : FVec Ideal S8192x4096 .f32) : FVec Ideal S8192x1 .f32 :=
  (Host.divf (broadcastInDim S8192x1 ![0] bcast_S8192_S8192x1_0 (Host.reduceAdd X (constant S_ .f32 0x00000000#32) reducesTo_S8192x4096_S8192_d1 h_S_)) (broadcastInDim S8192x1 ![] bcast_S_S8192x1 (constant S_ .f32 0x45800000#32)))
/-- The rows without their means. -/
def cen (X : FVec Ideal S8192x4096 .f32) : FVec Ideal S8192x4096 .f32 :=
  subf X (broadcastInDim S8192x4096 ![0, 1] bcast_S8192x1_S8192x4096_0_1 (mean X))
/-- The normed rows, scaled and shifted. -/
def scaled (C : FVec Ideal S8192x4096 .f32) (v : FVec Ideal S8192x1 .f32) (a2 a3 : FVec Ideal S2x3x4096 .f32) : FVec Ideal S8192x4096 .f32 :=
  addf (mulf (mulf C (broadcastInDim S8192x4096 ![0, 1] bcast_S8192x1_S8192x4096_0_1 (Host.rsqrt (addf v (broadcastInDim S8192x1 ![] bcast_S_S8192x1 (constant S_ .f32 0x3727C5AC#32)))))) (broadcastInDim S8192x4096 ![0, 1] bcast_S1x4096_S8192x4096_0_1 (broadcastInDim S1x4096 ![1] bcast_S4096_S1x4096_1 (shapeCast _ (extractStridedSlice S1x1x4096 ![1, 1, 0] a2 slices_S2x3x4096_S1x1x4096_1_1_0) shapeCasts_S1x1x4096_S4096)))) (broadcastInDim S8192x4096 ![0, 1] bcast_S1x4096_S8192x4096_0_1 (broadcastInDim S1x4096 ![1] bcast_S4096_S1x4096_1 (shapeCast _ (extractStridedSlice S1x1x4096 ![1, 1, 0] a3 slices_S2x3x4096_S1x1x4096_1_1_0) shapeCasts_S1x1x4096_S4096)))
/-- The reference's first result as a term of the arguments. -/
def REF (a0 : FVec Ideal S8192x4096 .f32) (a2 a3 : FVec Ideal S2x3x4096 .f32) : FVec Ideal S8192x4096 .f32 :=
  scaled (cen a0) (mean (mulf (cen a0) (cen a0))) a2 a3
/-- The groups' shift vectors and scale vectors of the next sublayer. -/
def shiftV (a1 : FVec Ideal S2x8x36864 .f32) : FVec Ideal S8x4096 .f32 :=
  (shapeCast _ (extractStridedSlice S8x1x1x4096 ![0, 2, 0, 0] (shapeCast _ (shapeCast _ (extractStridedSlice S1x8x36864 ![1, 0, 0] a1 slices_S2x8x36864_S1x8x36864_1_0_0) shapeCasts_S1x8x36864_S8x36864) shapeCasts_S8x36864_S8x3x3x4096) slices_S8x3x3x4096_S8x1x1x4096_0_2_0_0) shapeCasts_S8x1x1x4096_S8x4096)
def scaleV (a1 : FVec Ideal S2x8x36864 .f32) : FVec Ideal S8x4096 .f32 :=
  (shapeCast _ (extractStridedSlice S8x1x1x4096 ![0, 2, 1, 0] (shapeCast _ (shapeCast _ (extractStridedSlice S1x8x36864 ![1, 0, 0] a1 slices_S2x8x36864_S1x8x36864_1_0_0) shapeCasts_S1x8x36864_S8x36864) shapeCasts_S8x36864_S8x3x3x4096) slices_S8x3x3x4096_S8x1x1x4096_0_2_1_0) shapeCasts_S8x1x1x4096_S8x4096)
/-- The modulated rows of the context, and of the samples. -/
def modP (X : FVec Ideal S8192x4096 .f32) (shift scale : FVec Ideal S8x4096 .f32) : FVec Ideal S4096x4096 .f32 :=
  (shapeCast _ (addf (mulf (shapeCast _ (extractStridedSlice S4096x4096 ![0, 0] X slices_S8192x4096_S4096x4096_0_0) shapeCasts_S4096x4096_S1x4096x4096) (broadcastInDim S1x4096x4096 ![0, 1, 2] bcast_S1x1x4096_S1x4096x4096_0_1_2 (addf (broadcastInDim S1x1x4096 ![] bcast_S_S1x1x4096 (constant S_ .f32 0x3F800000#32)) (broadcastInDim S1x1x4096 ![0, 2] bcast_S1x4096_S1x1x4096_0_2 (extractStridedSlice S1x4096 ![0, 0] scale slices_S8x4096_S1x4096_0_0))))) (broadcastInDim S1x4096x4096 ![0, 1, 2] bcast_S1x1x4096_S1x4096x4096_0_1_2 (broadcastInDim S1x1x4096 ![0, 2] bcast_S1x4096_S1x1x4096_0_2 (extractStridedSlice S1x4096 ![0, 0] shift slices_S8x4096_S1x4096_0_0)))) shapeCasts_S1x4096x4096_S4096x4096)
def modS (X : FVec Ideal S8192x4096 .f32) (shift scale : FVec Ideal S8x4096 .f32) : FVec Ideal S4096x4096 .f32 :=
  (shapeCast _ (addf (mulf (shapeCast _ (extractStridedSlice S4096x4096 ![4096, 0] X slices_S8192x4096_S4096x4096_4096_0) shapeCasts_S4096x4096_S4x1024x4096) (broadcastInDim S4x1024x4096 ![0, 1, 2] bcast_S4x1x4096_S4x1024x4096_0_1_2 (addf (broadcastInDim S4x1x4096 ![] bcast_S_S4x1x4096 (constant S_ .f32 0x3F800000#32)) (broadcastInDim S4x1x4096 ![0, 2] bcast_S4x4096_S4x1x4096_0_2 (extractStridedSlice S4x4096 ![1, 0] scale slices_S8x4096_S4x4096_1_0))))) (broadcastInDim S4x1024x4096 ![0, 1, 2] bcast_S4x1x4096_S4x1024x4096_0_1_2 (broadcastInDim S4x1x4096 ![0, 2] bcast_S4x4096_S4x1x4096_0_2 (extractStridedSlice S4x4096 ![1, 0] shift slices_S8x4096_S4x4096_1_0)))) shapeCasts_S4x1024x4096_S4096x4096)
/-- Two blocks of rows on top of each other. -/
def stack (P S : FVec Ideal S4096x4096 .f32) : FVec Ideal S8192x4096 .bf16 :=
  truncf .bf16 (concatenate S8192x4096 0 [⟨S4096x4096, P⟩, ⟨S4096x4096, S⟩] concatenates_S4096x4096_S4096x4096_S8192x4096_d0) bitsLt_bf16_f32
/-- The modulated copy of normed rows. -/
def modulated (X : FVec Ideal S8192x4096 .f32) (a1 : FVec Ideal S2x8x36864 .f32) : FVec Ideal S8192x4096 .bf16 :=
  stack (modP X (shiftV a1) (scaleV a1)) (modS X (shiftV a1) (scaleV a1))
/-- The reference's second result as a term of the arguments. -/
def REFU (a0 : FVec Ideal S8192x4096 .f32) (a1 : FVec Ideal S2x8x36864 .f32) (a2 a3 : FVec Ideal S2x3x4096 .f32) : FVec Ideal S8192x4096 .bf16 :=
  modulated (REF a0 a2 a3) a1

theorem mean_at (X : FVec Ideal S8192x4096 .f32) (r : Fin 8192) : mean X (ix2 r 0) = avg (fun k => X (ix2 r k)) := by
  pointwise [mean, avg]
theorem cen_at (X : FVec Ideal S8192x4096 .f32) (r : Fin 8192) (l : Fin 4096) : cen X (ix2 r l) = X (ix2 r l) - avg (fun k => X (ix2 r k)) := by
  rw [← mean_at]
  pointwise [cen]
theorem scaled_at (C : FVec Ideal S8192x4096 .f32) (v : FVec Ideal S8192x1 .f32) (a2 a3 : FVec Ideal S2x3x4096 .f32) (r : Fin 8192) (l : Fin 4096) :
    scaled C v a2 a3 (ix2 r l) = C (ix2 r l) * Ideal.rsqrt (v (ix2 r 0) + Ideal.ofBits .f32 0x3727C5AC#32) * a2 (ix3 1 1 l) + a3 (ix3 1 1 l) := by
  pointwise [scaled]
theorem ref_at (a0 : FVec Ideal S8192x4096 .f32) (a2 a3 : FVec Ideal S2x3x4096 .f32) (r : Fin 8192) (l : Fin 4096) :
    REF a0 a2 a3 (ix2 r l) = normed (fun k => a0 (ix2 r k)) (a2 (ix3 1 1 l)) (a3 (ix3 1 1 l)) l := by
  unfold REF normed
  rw [scaled_at, mean_at]
  have h2 : ∀ k : Fin 4096, (mulf (cen a0) (cen a0) : FVec Ideal S8192x4096 .f32) (ix2 r k) = cen a0 (ix2 r k) * cen a0 (ix2 r k) := fun k => rfl
  simp only [h2, cen_at]

theorem shiftV_at (a1 : FVec Ideal S2x8x36864 .f32) (g : Fin 8) (l : Fin 4096) : shiftV a1 (ix2 g l) = a1 (ix3 1 g ⟨6 * 4096 + (l : ℕ), by omega⟩) := by
  pointwise [shiftV]
theorem scaleV_at (a1 : FVec Ideal S2x8x36864 .f32) (g : Fin 8) (l : Fin 4096) : scaleV a1 (ix2 g l) = a1 (ix3 1 g ⟨7 * 4096 + (l : ℕ), by omega⟩) := by
  pointwise [scaleV]
theorem modP_at (X : FVec Ideal S8192x4096 .f32) (shift scale : FVec Ideal S8x4096 .f32) (r : Fin 4096) (l : Fin 4096) :
    modP X shift scale (ix2 r l) = X (ix2 ⟨(r : ℕ), by omega⟩ l) * (1 + scale (ix2 0 l)) + shift (ix2 0 l) := by
  pointwise [modP]
theorem modS_at (X : FVec Ideal S8192x4096 .f32) (shift scale : FVec Ideal S8x4096 .f32) (r : Fin 4096) (l : Fin 4096) :
    modS X shift scale (ix2 r l) = X (ix2 ⟨4096 + (r : ℕ), by omega⟩ l) * (1 + scale (ix2 ⟨1 + (r : ℕ) / 1024, by omega⟩ l))
      + shift (ix2 ⟨1 + (r : ℕ) / 1024, by omega⟩ l) := by
  pointwise [modS]
theorem stack_at (A B : FVec Ideal S4096x4096 .f32) (r : Fin 8192) (l : Fin 4096) :
    stack A B (ix2 r l) = if h : (r : ℕ) < 4096 then A (ix2 ⟨(r : ℕ), h⟩ l) else B (ix2 ⟨(r : ℕ) - 4096, by omega⟩ l) := by
  pointwise [stack]

theorem modulated_at (X : FVec Ideal S8192x4096 .f32) (a1 : FVec Ideal S2x8x36864 .f32) (r : Fin 8192) (l : Fin 4096) (g : Fin 8)
    (hg : (g : ℕ) = if (r : ℕ) < 4096 then 0 else 1 + ((r : ℕ) - 4096) / 1024) :
    modulated X a1 (ix2 r l) = X (ix2 r l) * (1 + a1 (ix3 1 g ⟨7 * 4096 + (l : ℕ), by omega⟩)) + a1 (ix3 1 g ⟨6 * 4096 + (l : ℕ), by omega⟩) := by
  unfold modulated
  rw [stack_at]
  by_cases h : (r : ℕ) < 4096
  · rw [if_pos h] at hg
    obtain rfl : g = 0 := Fin.ext hg
    rw [dif_pos h, modP_at, shiftV_at, scaleV_at]
  · rw [if_neg h] at hg
    have e : g = ⟨1 + ((r : ℕ) - 4096) / 1024, by omega⟩ := Fin.ext hg
    have er : (⟨4096 + ((r : ℕ) - 4096), by omega⟩ : Fin 8192) = r := Fin.ext (by show 4096 + ((r : ℕ) - 4096) = r; omega)
    rw [dif_neg h, modS_at, shiftV_at, scaleV_at, e]
    exact congrArg (fun z : Fin 8192 => X (ix2 z l) * _ + _) er

end Cert.Reference13Ideal.LnMod

namespace Cert.Kernel13Ideal.LnMod
open Cert.Kernel13Ideal Cert.Kernel13Ideal.Gen
open Idealize.ShloMosaic.Pipeline (Dat)
open Cert.Reference13Ideal.LnMod (REF REFU ref_at modulated_at)
open Cert.Reference5Ideal.LayerNorm (normed avg)

variable (m : (ℓ : Loc nD τ sig) → Buf (Elt Ideal) ℓ)

/-- The group of a row tile: the context first, then the samples, two tiles each. -/
abbrev grp (r : ℕ) : ℕ := if r < 8 then 0 else 1 + (r - 8) / 2

/-- Every window's block index, at all grid points. -/
theorem idx : ∀ t : Fin cfg0.N, win0_0.index t = ![t.val, 0] ∧ win0_1.index t = ![1, 1, 0, 0]
    ∧ win0_2.index t = ![1, 1, 0, 0] ∧ win0_3.index t = ![1, 6, grp t.val, 0, 0] ∧ win0_4.index t = ![1, 7, grp t.val, 0, 0]
    ∧ win0_5.index t = ![t.val, 0] ∧ win0_6.index t = ![t.val, 0] :=
  (by decide +kernel : ∀ t : Fin grid0.N, _)

theorem pay2_at (z : Vec Ideal S512x4096 .f32) (g b : Vec Ideal S1x1x1x4096 .f32) (r : Fin 512) (l : Fin 4096) :
    k0_pay2 (F := Ideal) z g b (ix2 r l) = normed (fun k => z (ix2 r k)) (g (ix4 0 0 0 l)) (b (ix4 0 0 0 l)) l := by
  pointwise [k0_pay2, normed, avg]

/-- The product of the modulated copy. -/
theorem pay3_at (z : Vec Ideal S512x4096 .f32) (g b : Vec Ideal S1x1x1x4096 .f32) (s : Vec Ideal S1x1x1x1x4096 .f32) (r : Fin 512) (l : Fin 4096) :
    k0_pay3 (F := Ideal) z g b s (ix2 r l) = k0_pay2 (F := Ideal) z g b (ix2 r l) * (1 + s (ix5 0 0 0 0 l)) := by
  unfold k0_pay3
  generalize k0_pay2 (F := Ideal) z g b = q
  pointwise []

theorem pay1_at (q : FVec Ideal S512x4096 .f32) (s : Vec Ideal S1x1x1x1x4096 .f32) (r : Fin 512) (l : Fin 4096) :
    k0_pay1 (F := Ideal) q s (ix2 r l) = q (ix2 r l) + s (ix5 0 0 0 0 l) := by
  pointwise [k0_pay1]

/-- The normed rows that a point stores. -/
theorem point5 (c : Dev nD) (t : Fin cfg0.N) (y : S512x4096.Idx) :
    k0_pay2 (F := Ideal) (iblk m c 0 t) (iblk m c 1 t) (iblk m c 2 t) y
      = REF (m ((c : Thread nD τ).loc main_arg0)) (m ((c : Thread nD τ).loc main_arg2))
          (m ((c : Thread nD τ).loc main_arg3)) (((cfg0.win 5).blk t).view.emb y) := by
  have ht : t.val < 16 := lt_of_lt_of_eq t.isLt N_0
  idx_vars y
  obtain_idx j : S8192x4096 := [t.val * 512 + (y0 : ℕ), (y1 : ℕ)] with hj
  have hJ : ((cfg0.win 5).blk t).view.emb (ix2 y0 y1) = j := by blk_ext [idx t]
  rw [hJ]
  idx_vars j
  refine (pay2_at _ _ _ y0 y1).trans (Eq.trans ?_ (ref_at _ _ _ j0 j1).symm)
  have e : j1 = y1 := Fin.ext hj1
  have hz : ∀ k : Fin 4096, (iblk m c 0 t : Vec Ideal S512x4096 .f32) (ix2 y0 k)
      = m ((c : Thread nD τ).loc main_arg0) (ix2 j0 k : S8192x4096.Idx) := fun k => by
    blk_point [iblk, V, idx t]
  have hg : (iblk m c 1 t : Vec Ideal S1x1x1x4096 .f32) (ix4 0 0 0 y1) = m ((c : Thread nD τ).loc main_arg2) (ix3 1 1 y1 : S2x3x4096.Idx) := by
    blk_point [iblk, V, idx t]
  have hb : (iblk m c 2 t : Vec Ideal S1x1x1x4096 .f32) (ix4 0 0 0 y1) = m ((c : Thread nD τ).loc main_arg3) (ix3 1 1 y1 : S2x3x4096.Idx) := by
    blk_point [iblk, V, idx t]
  rw [hg, hb, funext hz, e]

/-- The modulated rows that a point stores. -/
theorem point6 (c : Dev nD) (t : Fin cfg0.N) (y : S512x4096.Idx) :
    k0_pay1 (F := Ideal) (k0_pay3 (F := Ideal) (iblk m c 0 t) (iblk m c 1 t) (iblk m c 2 t) (iblk m c 4 t)) (iblk m c 3 t) y
      = REFU (m ((c : Thread nD τ).loc main_arg0)) (m ((c : Thread nD τ).loc main_arg1)) (m ((c : Thread nD τ).loc main_arg2))
          (m ((c : Thread nD τ).loc main_arg3)) (((cfg0.win 6).blk t).view.emb y) := by
  have ht : t.val < 16 := lt_of_lt_of_eq t.isLt N_0
  have h5 := point5 m c t y
  idx_vars y
  obtain_idx j : S8192x4096 := [t.val * 512 + (y0 : ℕ), (y1 : ℕ)] with hj
  have hJ5 : ((cfg0.win 5).blk t).view.emb (ix2 y0 y1) = j := by blk_ext [idx t]
  have hJ : ((cfg0.win 6).blk t).view.emb (ix2 y0 y1) = j := by blk_ext [idx t]
  rw [hJ5] at h5
  rw [hJ]
  idx_vars j
  have hgl : grp t.val < 8 := by unfold grp; split <;> omega
  refine (pay1_at _ _ y0 y1).trans (Eq.trans ?_ (modulated_at _ _ j0 j1 ⟨grp t.val, hgl⟩ ?_).symm)
  · have hs : (iblk m c 4 t : Vec Ideal S1x1x1x1x4096 .f32) (ix5 0 0 0 0 y1) = m ((c : Thread nD τ).loc main_arg1)
        (ix3 1 ⟨grp t.val, hgl⟩ ⟨7 * 4096 + (j1 : ℕ), by omega⟩ : S2x8x36864.Idx) := by
      blk_point [iblk, V, idx t]
    have hf : (iblk m c 3 t : Vec Ideal S1x1x1x1x4096 .f32) (ix5 0 0 0 0 y1) = m ((c : Thread nD τ).loc main_arg1)
        (ix3 1 ⟨grp t.val, hgl⟩ ⟨6 * 4096 + (j1 : ℕ), by omega⟩ : S2x8x36864.Idx) := by
      blk_point [iblk, V, idx t]
    rw [hf]
    refine Ideal.add_congr ((pay3_at _ _ _ _ y0 y1).trans ?_) rfl
    rw [hs]
    exact Ideal.mul_congr h5 rfl
  · show grp t.val = _
    unfold grp; split <;> split <;> omega

theorem final5 (c : Dev nD) : (dats m 0 c).arrAt 5 (cfgs 0).N
    = REF (m ((c : Thread nD τ).loc main_arg0)) (m ((c : Thread nD τ).loc main_arg2)) (m ((c : Thread nD τ).loc main_arg3)) := by
  refine (dats m 0 c).arrAt_eq_of_covers 5 _ (by decide +kernel) fun t _ y => ?_
  blk_simp
  rw [after0_5]; frame_out
  exact point5 m c t y

theorem final6 (c : Dev nD) : (dats m 0 c).arrAt 6 (cfgs 0).N
    = REFU (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t _ y => ?_
  blk_simp
  rw [after0_6]; frame_out
  exact point6 m c t y

end Cert.Kernel13Ideal.LnMod

end
-- ==== Proof.ClaimLnMod.lean ====
module
public import proofs.«01_k».proof.Proof.LnMod
public import proofs.«01_k».proof.Defs
public import proofs.«01_k».proof.Proof.Gen.Reference13Ideal.Run
public import Idealize.ShloMosaic.Lib.Claim

@[expose] public section
noncomputable section
namespace Cert.Proof
open Idealize.ShloMosaic Idealize.SL.Sem

/-- A layer norm inside the trunk with its modulated copy: kernel and reference agree on both results everywhere. -/
theorem algebraic_ln_mod : Cert.algebraic_Kernel13Ideal_Reference13Ideal := by
  pair_intro
  · run_from Cert.Kernel13Ideal.Gen.run_main m g
  · run_from Cert.Reference13Ideal.Value.run m' g'
    · obtain ⟨a0, a1, a2, a3⟩ := hagree c
      rw [Cert.Kernel13Ideal.LnMod.final5 m c, ← a0, ← a2, ← a3]
      rfl
    · obtain ⟨a0, a1, a2, a3⟩ := hagree c
      rw [Cert.Kernel13Ideal.LnMod.final6 m c, ← a0, ← a1, ← a2, ← a3]
      rfl

end Cert.Proof
end
end
-- ==== Proof.HeadSum.lean ====
/- The mean over one head of 64 columns, taken as a product with a matrix of 1/64 inside each head and 0 elsewhere,
   of a row that is split in a rounded part and its remainder. -/
module

public import proofs.«01_k».proof.Proof.RealNums

@[expose] public section

noncomputable section

open Idealize.ShloMosaic

namespace Cert.HeadSum

open Cert.RealNums

/-- The product of a split row with one column of the matrix: the rounded part's sum and the remainder's. -/
def twoPart (x E : Fin 512 → EReal) : EReal := (∑ k, x k * E k) + ∑ k, (x k - x k) * E k

/-- Column `d` of the head of column `l`. -/
def inHead (l : Fin 512) (d : Fin 64) : Fin 512 := ⟨l.1 / 64 * 64 + d.1, by omega⟩

/-- A sum over 512 columns is the sum over the 8 heads of the sums over their 64 columns. -/
theorem sum_heads (f : Fin 512 → EReal) : (∑ k, f k) = ∑ a : Fin 8, ∑ d : Fin 64, f ⟨a.1 * 64 + d.1, by omega⟩ := by
  rw [← Fintype.sum_prod_type' (fun (a : Fin 8) (d : Fin 64) => f ⟨a.1 * 64 + d.1, by omega⟩)]
  refine (Fintype.sum_equiv (finProdFinEquiv (m := 8) (n := 64)) _ _ fun p => ?_).symm
  refine congrArg f (Fin.ext ?_)
  simp only [finProdFinEquiv_apply_val]
  omega

theorem sum_head {x E : Fin 512 → EReal} (l : Fin 512) (c : EReal) (hx : ∀ k, IsReal (x k)) (hc : IsReal c)
    (hE : ∀ k, E k = if k.1 / 64 = l.1 / 64 then c else 0) : (∑ k, x k * E k) = (∑ d, x (inHead l d)) * c := by
  rw [sum_heads, sum_mul_of_real (fun d => hx _) hc, Finset.sum_eq_single (⟨l.1 / 64, by omega⟩ : Fin 8)]
  · refine Finset.sum_congr rfl fun d _ => ?_
    rw [hE, if_pos (by show (l.1 / 64 * 64 + d.1) / 64 = l.1 / 64; omega)]
    rfl
  · intro a _ ha
    refine Finset.sum_eq_zero fun d _ => ?_
    rw [hE, if_neg, mul_zero]
    intro h
    refine ha (Fin.ext ?_)
    have h' : (a.1 * 64 + d.1) / 64 = l.1 / 64 := h
    show a.1 = l.1 / 64
    omega
  · intro h; exact absurd (Finset.mem_univ _) h

/-- Of a real row, the split product is the head's sum times the matrix's entry. -/
theorem twoPart_eq {x E : Fin 512 → EReal} (l : Fin 512) (c : EReal) (hx : ∀ k, IsReal (x k)) (hc : IsReal c)
    (hE : ∀ k, E k = if k.1 / 64 = l.1 / 64 then c else 0) : twoPart x E = (∑ d, x (inHead l d)) * c := by
  have hz : (∑ k, (x k - x k) * E k) = 0 := by
    refine Finset.sum_eq_zero fun k _ => ?_
    obtain ⟨r, hr⟩ := hx k
    rw [hr, ← EReal.coe_sub, sub_self, EReal.coe_zero, zero_mul]
  rw [twoPart, hz, add_zero, sum_head l c hx hc hE]

theorem bits_64 : Ideal.ofBits .f32 0x42800000#32 = ((64 : ℝ) : EReal) := by
  simp [Ideal.ofBits, Ideal.ieee, -EReal.coe_mul]; norm_num

theorem bits_64th : Ideal.ofBits .f32 0x3C800000#32 = ((1 / 64 : ℝ) : EReal) := by
  simp [Ideal.ofBits, Ideal.ieee, -EReal.coe_mul]; norm_num

/-- The split product with entries 1/64 is the head's sum divided by 64. -/
theorem twoPart_mean {x E : Fin 512 → EReal} (l : Fin 512) (hx : ∀ k, IsReal (x k))
    (hE : ∀ k, E k = if k.1 / 64 = l.1 / 64 then Ideal.ofBits .f32 0x3C800000#32 else 0) :
    twoPart x E = Ideal.div (∑ d, x (inHead l d)) (Ideal.ofBits .f32 0x42800000#32) := by
  rw [twoPart_eq l _ hx ⟨_, bits_64th⟩ hE, bits_64, bits_64th, Ideal.div_coe (by norm_num)]

/-- The split product times 64 is the head's sum. -/
theorem twoPart_sum {x E : Fin 512 → EReal} (l : Fin 512) (hx : ∀ k, IsReal (x k))
    (hE : ∀ k, E k = if k.1 / 64 = l.1 / 64 then Ideal.ofBits .f32 0x3C800000#32 else 0) :
    twoPart x E * Ideal.ofBits .f32 0x42800000#32 = ∑ d, x (inHead l d) := by
  rw [twoPart_eq l _ hx ⟨_, bits_64th⟩ hE, bits_64, bits_64th, mul_assoc, ← EReal.coe_mul]
  norm_num

theorem isReal_mean {x : Fin 64 → EReal} (hx : ∀ k, IsReal (x k)) :
    IsReal (Ideal.div (∑ d, x d) (Ideal.ofBits .f32 0x42800000#32)) := by
  rw [bits_64, Ideal.div_coe (by norm_num)]
  exact (IsReal.sum hx).mul ⟨_, rfl⟩

/-! ## The finish of one row -/

/-- The mean of one head. -/
def headMean (y : Fin 64 → EReal) : EReal := Ideal.div (∑ d, y d) (Ideal.ofBits .f32 0x42800000#32)

/-- Entry `d` of one head's normed row. -/
def headNorm (y : Fin 64 → EReal) (d : Fin 64) : EReal :=
  (y d - headMean y) * Ideal.rsqrt (headMean (fun k => (y k - headMean y) * (y k - headMean y)) + Ideal.ofBits .f32 0x3A27C5AC#32)

/-- Entry `d` of the finish of one head: the normed sum of the two directions with gain `a` and shift `b`, the bonus of the
    products `p` with the value `v`, and the gate `g`. -/
def finish (y p : Fin 64 → EReal) (a b v g : EReal) (d : Fin 64) : EReal := (headNorm y d * a + b + (∑ k, p k) * v) * g

/-- The same from split products with a matrix, column `l` of 512. -/
def finishSplit (y p : Fin 512 → EReal) (E : Fin 512 → Fin 512 → EReal) (a b v g : EReal) (l : Fin 512) : EReal :=
  ((y l - twoPart y (E · l)) * Ideal.rsqrt (twoPart (fun k => (y k - twoPart y (E · k)) * (y k - twoPart y (E · k))) (E · l)
      + Ideal.ofBits .f32 0x3A27C5AC#32) * a + b + twoPart p (E · l) * Ideal.ofBits .f32 0x42800000#32 * v) * g

/-- The head of a column of a column's head is that column's head. -/
theorem inHead_inHead (l : Fin 512) (d e : Fin 64) : inHead (inHead l d) e = inHead l e := by
  refine Fin.ext ?_
  show (l.1 / 64 * 64 + d.1) / 64 * 64 + e.1 = l.1 / 64 * 64 + e.1
  omega

theorem inHead_self (l : Fin 512) : inHead l ⟨l.1 % 64, by omega⟩ = l := by
  refine Fin.ext ?_
  show l.1 / 64 * 64 + l.1 % 64 = l.1
  omega

/-- THE FINISH OF ONE ROW: split products with the matrix of 1/64 inside each head are the heads' means and sums. -/
theorem finishSplit_eq {y p : Fin 512 → EReal} {E : Fin 512 → Fin 512 → EReal} (a b v g : EReal) (l : Fin 512)
    (hy : ∀ k, IsReal (y k)) (hp : ∀ k, IsReal (p k))
    (hE : ∀ k j, E k j = if k.1 / 64 = j.1 / 64 then Ideal.ofBits .f32 0x3C800000#32 else 0) :
    finishSplit y p E a b v g l = finish (fun d => y (inHead l d)) (fun d => p (inHead l d)) a b v g ⟨l.1 % 64, by omega⟩ := by
  have hm : ∀ j, twoPart y (E · j) = headMean (fun d => y (inHead j d)) := fun j => twoPart_mean j hy fun k => hE k j
  have hr : ∀ k, IsReal (y k - headMean (fun d => y (inHead k d))) := fun k => (hy k).sub (isReal_mean fun d => hy _)
  unfold finishSplit finish headNorm
  simp only [hm]
  rw [twoPart_mean l (fun k => (hr k).mul (hr k)) fun k => hE k l, twoPart_sum l hp fun k => hE k l, inHead_self]
  simp only [inHead_inHead]
  rfl

end Cert.HeadSum

end

end
-- ==== Proof.RwkvPost.lean ====
/- The finish of the recurrence: the tiled kernel's result is the reference's composed term where the two directions' sums,
   the receptance, the key and the bonus weights are real. -/
module

public import proofs.«01_k».proof.Proof.HeadSum
public import proofs.«01_k».proof.Proof.Gen.Kernel14Ideal.Frame
public import proofs.«01_k».proof.Proof.Gen.Reference14Ideal
public import proofs.«01_k».proof.Proof.Gen.Pre_finite_heads
public import Idealize.ShloMosaic.Lib.StableHlo.RunRead
public import Idealize.ShloMosaic.Lib.Pipeline.ValueKit
public import Idealize.ShloMosaic.Lib.Pointwise
public import Idealize.ShloMosaic.Lib.Claim
public import Idealize.ShloMosaic.Lib.ReduceAll

@[expose] public section

set_option maxRecDepth 16384

noncomputable section

open Idealize.ShloMosaic Idealize.ShloMosaic.TcCoe Idealize.SL.Sem

namespace Cert.Reference14Ideal.RwkvPost
open Cert.Reference14Ideal Cert.Reference14Ideal.Gen
open Cert.HeadSum

/-- The columns by heads, and the heads side by side. -/
def heads (t : FVec Ideal S8192x2048 .f32) : FVec Ideal S8192x32x64 .f32 := shapeCast _ t shapeCasts_S8192x2048_S8192x32x64
def flat (t : FVec Ideal S8192x32x64 .f32) : FVec Ideal S8192x2048 .f32 := shapeCast _ t shapeCasts_S8192x32x64_S8192x2048
/-- The sum over each head. -/
def sums (Y : FVec Ideal S8192x32x64 .f32) : FVec Ideal S8192x32x1 .f32 :=
  broadcastInDim S8192x32x1 ![0, 1] bcast_S8192x32_S8192x32x1_0_1 (Host.reduceAdd Y (constant S_ .f32 0x00000000#32) reducesTo_S8192x32x64_S8192x32_d2 h_S_)
/-- The mean over each head. -/
def mean (Y : FVec Ideal S8192x32x64 .f32) : FVec Ideal S8192x32x1 .f32 :=
  Host.divf (sums Y) (broadcastInDim S8192x32x1 ![] bcast_S_S8192x32x1 (constant S_ .f32 0x42800000#32))
/-- A number for each head, at each of its columns. -/
def wide (t : FVec Ideal S8192x32x1 .f32) : FVec Ideal S8192x32x64 .f32 := broadcastInDim S8192x32x64 ![0, 1, 2] bcast_S8192x32x1_S8192x32x64_0_1_2 t
/-- The heads without their means. -/
def cen (Y : FVec Ideal S8192x32x64 .f32) : FVec Ideal S8192x32x64 .f32 := subf Y (wide (mean Y))
/-- The normed heads, given the variances. -/
def normed (C : FVec Ideal S8192x32x64 .f32) (v : FVec Ideal S8192x32x1 .f32) : FVec Ideal S8192x32x64 .f32 :=
  mulf C (wide (Host.rsqrt (addf v (broadcastInDim S8192x32x1 ![] bcast_S_S8192x32x1 (constant S_ .f32 0x3A27C5AC#32)))))
/-- A vector of the columns, at each row. -/
def cols (a : FVec Ideal S1x2048 .f32) : FVec Ideal S8192x2048 .f32 :=
  broadcastInDim S8192x2048 ![0, 1] bcast_S1x2048_S8192x2048_0_1 (broadcastInDim S1x2048 ![1] bcast_S2048_S1x2048_1 (shapeCast _ a shapeCasts_S1x2048_S2048))
/-- The weighted products of receptance and key. -/
def prods (a2 a3 : FVec Ideal S8192x2048 .f32) (a8 : FVec Ideal S1x32x64 .f32) : FVec Ideal S8192x32x64 .f32 :=
  mulf (mulf (heads a2) (heads a3)) (broadcastInDim S8192x32x64 ![0, 1, 2] bcast_S1x32x64_S8192x32x64_0_1_2 (broadcastInDim S1x32x64 ![1, 2] bcast_S32x64_S1x32x64_1_2 (shapeCast _ a8 shapeCasts_S1x32x64_S32x64)))
/-- The gated sum of the normed rows and the bonus. -/
def gated (N B : FVec Ideal S8192x32x64 .f32) (a5 : FVec Ideal S8192x2048 .f32) (a6 a7 : FVec Ideal S1x2048 .f32) : FVec Ideal S8192x2048 .bf16 :=
  truncf .bf16 (mulf (addf (addf (mulf (flat N) (cols a6)) (cols a7)) (flat B)) a5) bitsLt_bf16_f32
/-- The reference's result as a term of the arguments. -/
def REF (a0 a1 a2 a3 a4 a5 : FVec Ideal S8192x2048 .f32) (a6 a7 : FVec Ideal S1x2048 .f32) (a8 : FVec Ideal S1x32x64 .f32) : FVec Ideal S8192x2048 .bf16 :=
  gated (normed (cen (heads (addf a0 a1))) (mean (mulf (cen (heads (addf a0 a1))) (cen (heads (addf a0 a1))))))
    (mulf (wide (sums (prods a2 a3 a8))) (heads a4)) a5 a6 a7

/-- Column `d` of head `h`. -/
abbrev col (h : Fin 32) (d : Fin 64) : Fin 2048 := ⟨(h : ℕ) * 64 + (d : ℕ), by omega⟩

theorem heads_at (t : FVec Ideal S8192x2048 .f32) (r : Fin 8192) (h : Fin 32) (d : Fin 64) : heads t (ix3 r h d) = t (ix2 r (col h d)) := by
  pointwise [heads]
theorem flat_at (t : FVec Ideal S8192x32x64 .f32) (r : Fin 8192) (h : Fin 32) (d : Fin 64) : flat t (ix2 r (col h d)) = t (ix3 r h d) := by
  pointwise [flat]
  exact congrArg t ((ix3_inj ..).2 ⟨rfl, Fin.ext (by dsimp only; omega), Fin.ext (by dsimp only; omega)⟩)
theorem sums_at (Y : FVec Ideal S8192x32x64 .f32) (r : Fin 8192) (h : Fin 32) : sums Y (ix3 r h 0) = ∑ d : Fin 64, Y (ix3 r h d) := by
  pointwise [sums]
theorem mean_at (Y : FVec Ideal S8192x32x64 .f32) (r : Fin 8192) (h : Fin 32) : mean Y (ix3 r h 0) = headMean (fun d => Y (ix3 r h d)) := by
  unfold headMean
  rw [← sums_at]
  pointwise [mean]
theorem wide_at (t : FVec Ideal S8192x32x1 .f32) (r : Fin 8192) (h : Fin 32) (d : Fin 64) : wide t (ix3 r h d) = t (ix3 r h 0) := by
  pointwise [wide]
theorem cen_at (Y : FVec Ideal S8192x32x64 .f32) (r : Fin 8192) (h : Fin 32) (d : Fin 64) :
    cen Y (ix3 r h d) = Y (ix3 r h d) - headMean (fun k => Y (ix3 r h k)) := by
  rw [← mean_at, ← wide_at (mean Y) r h d]
  rfl
theorem normed_at (C : FVec Ideal S8192x32x64 .f32) (v : FVec Ideal S8192x32x1 .f32) (r : Fin 8192) (h : Fin 32) (d : Fin 64) :
    normed C v (ix3 r h d) = C (ix3 r h d) * Ideal.rsqrt (v (ix3 r h 0) + Ideal.ofBits .f32 0x3A27C5AC#32) := by
  pointwise [normed, wide]
theorem cols_at (a : FVec Ideal S1x2048 .f32) (r : Fin 8192) (l : Fin 2048) : cols a (ix2 r l) = a (ix2 0 l) := by
  pointwise [cols]
theorem prods_at (a2 a3 : FVec Ideal S8192x2048 .f32) (a8 : FVec Ideal S1x32x64 .f32) (r : Fin 8192) (h : Fin 32) (d : Fin 64) :
    prods a2 a3 a8 (ix3 r h d) = a2 (ix2 r (col h d)) * a3 (ix2 r (col h d)) * a8 (ix3 0 h d) := by
  rw [← heads_at a2, ← heads_at a3]
  pointwise [prods]
theorem gated_at (N B : FVec Ideal S8192x32x64 .f32) (a5 : FVec Ideal S8192x2048 .f32) (a6 a7 : FVec Ideal S1x2048 .f32) (r : Fin 8192) (h : Fin 32) (d : Fin 64) :
    gated N B a5 a6 a7 (ix2 r (col h d)) = (N (ix3 r h d) * a6 (ix2 0 (col h d)) + a7 (ix2 0 (col h d)) + B (ix3 r h d)) * a5 (ix2 r (col h d)) := by
  rw [← flat_at N, ← flat_at B, ← cols_at a6 r, ← cols_at a7 r]
  rfl
/-- The reference's result at one column of one head. -/
theorem ref_at (a0 a1 a2 a3 a4 a5 : FVec Ideal S8192x2048 .f32) (a6 a7 : FVec Ideal S1x2048 .f32) (a8 : FVec Ideal S1x32x64 .f32)
    (r : Fin 8192) (h : Fin 32) (d : Fin 64) :
    REF a0 a1 a2 a3 a4 a5 a6 a7 a8 (ix2 r (col h d))
      = finish (fun k => a0 (ix2 r (col h k)) + a1 (ix2 r (col h k))) (fun k => a2 (ix2 r (col h k)) * a3 (ix2 r (col h k)) * a8 (ix3 0 h k))
          (a6 (ix2 0 (col h d))) (a7 (ix2 0 (col h d))) (a4 (ix2 r (col h d))) (a5 (ix2 r (col h d))) d := by
  unfold REF finish headNorm
  rw [gated_at, normed_at, mean_at]
  have h2 : ∀ k : Fin 64, (mulf (cen (heads (addf a0 a1))) (cen (heads (addf a0 a1))) : FVec Ideal S8192x32x64 .f32) (ix3 r h k)
      = cen (heads (addf a0 a1)) (ix3 r h k) * cen (heads (addf a0 a1)) (ix3 r h k) := fun k => rfl
  have h3 : (mulf (wide (sums (prods a2 a3 a8))) (heads a4) : FVec Ideal S8192x32x64 .f32) (ix3 r h d)
      = wide (sums (prods a2 a3 a8)) (ix3 r h d) * heads a4 (ix3 r h d) := rfl
  have h4 : ∀ k : Fin 64, heads (addf a0 a1) (ix3 r h k) = a0 (ix2 r (col h k)) + a1 (ix2 r (col h k)) := fun k => heads_at _ r h k
  simp only [h2, h3, cen_at, wide_at, sums_at, prods_at, h4, heads_at]

end Cert.Reference14Ideal.RwkvPost

namespace Cert.Kernel14Ideal.RwkvPost
open Cert.Kernel14Ideal Cert.Kernel14Ideal.Gen
open Idealize.ShloMosaic.Pipeline (Dat)
open Cert.RealNums Cert.HeadSum
open Cert.Reference14Ideal.RwkvPost (REF ref_at col)

variable (m : (ℓ : Loc nD τ sig) → Buf (Elt Ideal) ℓ)

/-! ## The operands prepared before the kernel starts -/

/-- A word over all 512 columns. -/
def every (w : BitVec 32) : IVec S512 32 := broadcastInDim S512 ![] bcast_S_S512 (constantI S_ 32 w)

/-- A column's head, as the kernel's host code computes it. -/
def headW : IVec S512 32 :=
  select (andi (cmpi .ne (signi (iotaInDim S512 32 0)) (broadcastInDim S512 ![] bcast_S_S512 (signi (constantI S_ 32 64#32))))
      (cmpi .ne (Host.remsi (iotaInDim S512 32 0) (every 64#32)) (every 0#32)))
    (subi (Host.divsi (iotaInDim S512 32 0) (every 64#32)) (every 1#32)) (Host.divsi (iotaInDim S512 32 0) (every 64#32))

/-- The matrix of the head means. -/
def headMat : FVec Ideal S512x512 .bf16 :=
  truncf .bf16 (mulf (uitofp .f32 (cmpi .eq (broadcastInDim S512x512 ![0, 1] bcast_S512x1_S512x512_0_1 (broadcastInDim S512x1 ![0] bcast_S512_S512x1_0 headW))
      (broadcastInDim S512x512 ![0, 1] bcast_S1x512_S512x512_0_1 (broadcastInDim S1x512 ![1] bcast_S512_S1x512_1 headW))))
    (broadcastInDim S512x512 ![] bcast_S_S512x512 (constant S_ .f32 0x3C800000#32))) bitsLt_bf16_f32

theorem headW_at (n : Fin 512) : headW (ix1 n) = BitVec.ofNat 32 (n.val / 64) := by
  pointwise [headW, every]
  revert n
  decide +kernel

theorem headMat_at (k l : Fin 512) : headMat (ix2 k l) = if (k : ℕ) / 64 = (l : ℕ) / 64 then Ideal.ofBits .f32 0x3C800000#32 else 0 := by
  pointwise [headMat]
  rw [headW_at, headW_at]
  by_cases h : (k : ℕ) / 64 = (l : ℕ) / 64
  · rw [if_pos h, h]
    have h1 : IntOp.cmpi CmpIPredicate.eq (BitVec.ofNat 32 ((l : ℕ) / 64)) (BitVec.ofNat 32 ((l : ℕ) / 64)) = 1#1 := by simp [IntOp.cmpi]
    rw [h1]
    have h2 : (FloatOps.uitofp FTy.f32 1#1 : Ideal .f32) = 1 := by
      show (((1#1 : BitVec 1).toNat : ℝ) : EReal) = 1
      simp
    rw [h2]
    exact one_mul _
  · rw [if_neg h]
    have hne : BitVec.ofNat 32 ((k : ℕ) / 64) ≠ BitVec.ofNat 32 ((l : ℕ) / 64) := fun e => h (by
      have e' := congrArg BitVec.toNat e
      simp only [BitVec.toNat_ofNat] at e'
      omega)
    have h1 : IntOp.cmpi CmpIPredicate.eq (BitVec.ofNat 32 ((k : ℕ) / 64)) (BitVec.ofNat 32 ((l : ℕ) / 64)) = 0#1 := by
      simp only [IntOp.cmpi, beq_eq_false_iff_ne.2 hne, BitVec.ofBool_false]
      rfl
    rw [h1]
    have h2 : (FloatOps.uitofp FTy.f32 0#1 : Ideal .f32) = 0 := by
      show (((0#1 : BitVec 1).toNat : ℝ) : EReal) = 0
      simp
    rw [h2]
    exact zero_mul _

theorem V_mat (c : Dev nD) : V m c main_v16 = headMat := by
  unfold V
  after_reads_simp
  rfl

theorem V_gain (c : Dev nD) : V m c main_v1
    = (broadcastInDim S1x2048 ![1] bcast_S2048_S1x2048_1 (shapeCast S2048 (m ((c : Thread nD τ).loc main_arg6) : FVec Ideal S1x2048 .f32) shapeCasts_S1x2048_S2048)) := by
  unfold V
  after_reads_simp
  rfl

theorem V_shift (c : Dev nD) : V m c main_v3
    = (broadcastInDim S1x2048 ![1] bcast_S2048_S1x2048_1 (shapeCast S2048 (m ((c : Thread nD τ).loc main_arg7) : FVec Ideal S1x2048 .f32) shapeCasts_S1x2048_S2048)) := by
  unfold V
  after_reads_simp
  rfl

theorem V_bonus (c : Dev nD) : V m c main_v5
    = (shapeCast S1x2048 (shapeCast S32x64 (m ((c : Thread nD τ).loc main_arg8) : FVec Ideal S1x32x64 .f32) shapeCasts_S1x32x64_S32x64) shapeCasts_S32x64_S1x2048) := by
  unfold V
  after_reads_simp
  rfl

theorem gain_at (c : Dev nD) (l : Fin 2048) : V m c main_v1 (ix2 0 l : S1x2048.Idx) = (m ((c : Thread nD τ).loc main_arg6) : FVec Ideal S1x2048 .f32) (ix2 0 l) := by
  rw [V_gain]
  pointwise
theorem shift_at (c : Dev nD) (l : Fin 2048) : V m c main_v3 (ix2 0 l : S1x2048.Idx) = (m ((c : Thread nD τ).loc main_arg7) : FVec Ideal S1x2048 .f32) (ix2 0 l) := by
  rw [V_shift]
  pointwise
theorem bonus_at (c : Dev nD) (h : Fin 32) (d : Fin 64) : V m c main_v5 (ix2 0 (col h d) : S1x2048.Idx)
    = (m ((c : Thread nD τ).loc main_arg8) : FVec Ideal S1x32x64 .f32) (ix3 0 h d) := by
  rw [V_bonus]
  pointwise
  exact congrArg (m ((c : Thread nD τ).loc main_arg8)) ((ix3_inj ..).2 ⟨rfl, Fin.ext (by dsimp only; omega), Fin.ext (by dsimp only; omega)⟩)

/-! ## One tile -/

/-- What a point stores, read at an index. -/
theorem pay_at (v0 v1 : FVec Ideal S512x512 .f32) (e : FVec Ideal S512x512 .bf16) (gg gb : FVec Ideal S1x512 .f32)
    (r k : FVec Ideal S512x512 .f32) (rk : FVec Ideal S1x512 .f32) (v g : FVec Ideal S512x512 .f32) (i l : Fin 512) :
    k0_pay1 (F := Ideal) (k0_pay2 e) (k0_pay3 v0 v1 e gg gb) (k0_pay4 r k) rk v g (ix2 i l)
      = finishSplit (fun j => v0 (ix2 i j) + v1 (ix2 i j)) (fun j => r (ix2 i j) * k (ix2 i j) * rk (ix2 0 j)) (fun a b => e (ix2 a b))
          (gg (ix2 0 l)) (gb (ix2 0 l)) (v (ix2 i l)) (g (ix2 i l)) l := by
  unfold finishSplit twoPart
  pointwise [k0_pay1, k0_pay2, k0_pay3, k0_pay4]

/-- Every window's block index, at all grid points. -/
theorem idx : ∀ t : Fin cfg0.N, win0_0.index t = ![t.val / 4, t.val % 4] ∧ win0_1.index t = ![t.val / 4, t.val % 4]
    ∧ win0_2.index t = ![t.val / 4, t.val % 4] ∧ win0_3.index t = ![t.val / 4, t.val % 4] ∧ win0_4.index t = ![t.val / 4, t.val % 4]
    ∧ win0_5.index t = ![t.val / 4, t.val % 4] ∧ win0_6.index t = ![0, t.val % 4] ∧ win0_7.index t = ![0, t.val % 4]
    ∧ win0_8.index t = ![0, t.val % 4] ∧ win0_9.index t = ![0, 0] ∧ win0_10.index t = ![t.val / 4, t.val % 4] :=
  (by decide +kernel : ∀ t : Fin grid0.N, _)

theorem yf_at (c : Dev nD) (t : Fin cfg0.N) (i j : Fin 512) (p : Fin 8192) (q : Fin 2048) (hp : (p : ℕ) = t.val / 4 * 512 + (i : ℕ))
    (hq : (q : ℕ) = t.val % 4 * 512 + (j : ℕ)) :
    (iblk m c 0 t : Vec Ideal S512x512 .f32) (ix2 i j) = m ((c : Thread nD τ).loc main_arg0) (ix2 p q : S8192x2048.Idx) := by
  have ht : t.val < 64 := lt_of_lt_of_eq t.isLt N_0
  obtain ⟨p, hp'⟩ := p
  obtain rfl : p = _ := hp
  obtain ⟨q, hq'⟩ := q
  obtain rfl : q = _ := hq
  blk_point [iblk, V, idx t]

theorem yb_at (c : Dev nD) (t : Fin cfg0.N) (i j : Fin 512) (p : Fin 8192) (q : Fin 2048) (hp : (p : ℕ) = t.val / 4 * 512 + (i : ℕ))
    (hq : (q : ℕ) = t.val % 4 * 512 + (j : ℕ)) :
    (iblk m c 1 t : Vec Ideal S512x512 .f32) (ix2 i j) = m ((c : Thread nD τ).loc main_arg1) (ix2 p q : S8192x2048.Idx) := by
  have ht : t.val < 64 := lt_of_lt_of_eq t.isLt N_0
  obtain ⟨p, hp'⟩ := p
  obtain rfl : p = _ := hp
  obtain ⟨q, hq'⟩ := q
  obtain rfl : q = _ := hq
  blk_point [iblk, V, idx t]

theorem r_at (c : Dev nD) (t : Fin cfg0.N) (i j : Fin 512) (p : Fin 8192) (q : Fin 2048) (hp : (p : ℕ) = t.val / 4 * 512 + (i : ℕ))
    (hq : (q : ℕ) = t.val % 4 * 512 + (j : ℕ)) :
    (iblk m c 2 t : Vec Ideal S512x512 .f32) (ix2 i j) = m ((c : Thread nD τ).loc main_arg2) (ix2 p q : S8192x2048.Idx) := by
  have ht : t.val < 64 := lt_of_lt_of_eq t.isLt N_0
  obtain ⟨p, hp'⟩ := p
  obtain rfl : p = _ := hp
  obtain ⟨q, hq'⟩ := q
  obtain rfl : q = _ := hq
  blk_point [iblk, V, idx t]

theorem k_at (c : Dev nD) (t : Fin cfg0.N) (i j : Fin 512) (p : Fin 8192) (q : Fin 2048) (hp : (p : ℕ) = t.val / 4 * 512 + (i : ℕ))
    (hq : (q : ℕ) = t.val % 4 * 512 + (j : ℕ)) :
    (iblk m c 3 t : Vec Ideal S512x512 .f32) (ix2 i j) = m ((c : Thread nD τ).loc main_arg3) (ix2 p q : S8192x2048.Idx) := by
  have ht : t.val < 64 := lt_of_lt_of_eq t.isLt N_0
  obtain ⟨p, hp'⟩ := p
  obtain rfl : p = _ := hp
  obtain ⟨q, hq'⟩ := q
  obtain rfl : q = _ := hq
  blk_point [iblk, V, idx t]

theorem v_at (c : Dev nD) (t : Fin cfg0.N) (i j : Fin 512) (p : Fin 8192) (q : Fin 2048) (hp : (p : ℕ) = t.val / 4 * 512 + (i : ℕ))
    (hq : (q : ℕ) = t.val % 4 * 512 + (j : ℕ)) :
    (iblk m c 4 t : Vec Ideal S512x512 .f32) (ix2 i j) = m ((c : Thread nD τ).loc main_arg4) (ix2 p q : S8192x2048.Idx) := by
  have ht : t.val < 64 := lt_of_lt_of_eq t.isLt N_0
  obtain ⟨p, hp'⟩ := p
  obtain rfl : p = _ := hp
  obtain ⟨q, hq'⟩ := q
  obtain rfl : q = _ := hq
  blk_point [iblk, V, idx t]

theorem g_at (c : Dev nD) (t : Fin cfg0.N) (i j : Fin 512) (p : Fin 8192) (q : Fin 2048) (hp : (p : ℕ) = t.val / 4 * 512 + (i : ℕ))
    (hq : (q : ℕ) = t.val % 4 * 512 + (j : ℕ)) :
    (iblk m c 5 t : Vec Ideal S512x512 .f32) (ix2 i j) = m ((c : Thread nD τ).loc main_arg5) (ix2 p q : S8192x2048.Idx) := by
  have ht : t.val < 64 := lt_of_lt_of_eq t.isLt N_0
  obtain ⟨p, hp'⟩ := p
  obtain rfl : p = _ := hp
  obtain ⟨q, hq'⟩ := q
  obtain rfl : q = _ := hq
  blk_point [iblk, V, idx t]

theorem gg_at (c : Dev nD) (t : Fin cfg0.N) (j : Fin 512) (q : Fin 2048) (hq : (q : ℕ) = t.val % 4 * 512 + (j : ℕ)) :
    (iblk m c 6 t : Vec Ideal S1x512 .f32) (ix2 0 j) = V m c main_v1 (ix2 0 q : S1x2048.Idx) := by
  obtain ⟨q, hq'⟩ := q
  obtain rfl : q = _ := hq
  blk_point [iblk, idx t]

theorem gb_at (c : Dev nD) (t : Fin cfg0.N) (j : Fin 512) (q : Fin 2048) (hq : (q : ℕ) = t.val % 4 * 512 + (j : ℕ)) :
    (iblk m c 7 t : Vec Ideal S1x512 .f32) (ix2 0 j) = V m c main_v3 (ix2 0 q : S1x2048.Idx) := by
  obtain ⟨q, hq'⟩ := q
  obtain rfl : q = _ := hq
  blk_point [iblk, idx t]

theorem rk_at (c : Dev nD) (t : Fin cfg0.N) (j : Fin 512) (q : Fin 2048) (hq : (q : ℕ) = t.val % 4 * 512 + (j : ℕ)) :
    (iblk m c 8 t : Vec Ideal S1x512 .f32) (ix2 0 j) = V m c main_v5 (ix2 0 q : S1x2048.Idx) := by
  obtain ⟨q, hq'⟩ := q
  obtain rfl : q = _ := hq
  blk_point [iblk, idx t]

theorem e_at (c : Dev nD) (t : Fin cfg0.N) (a b : Fin 512) : (iblk m c 9 t : Vec Ideal S512x512 .bf16) (ix2 a b)
    = if (a : ℕ) / 64 = (b : ℕ) / 64 then Ideal.ofBits .f32 0x3C800000#32 else 0 := by
  have h : (iblk m c 9 t : Vec Ideal S512x512 .bf16) (ix2 a b) = V m c main_v16 (ix2 a b : S512x512.Idx) := by
    blk_point [iblk, idx t]
  rw [h, V_mat, headMat_at]

/-! ## The result array -/

/-- Both directions' sums, receptance, key and bonus weights are real. -/
def RealHeads (c : Dev nD) : Prop :=
  (∀ i : S8192x2048.Idx, IsReal ((m ((c : Thread nD τ).loc main_arg0)) i)) ∧ (∀ i : S8192x2048.Idx, IsReal ((m ((c : Thread nD τ).loc main_arg1)) i))
    ∧ (∀ i : S8192x2048.Idx, IsReal ((m ((c : Thread nD τ).loc main_arg2)) i)) ∧ (∀ i : S8192x2048.Idx, IsReal ((m ((c : Thread nD τ).loc main_arg3)) i))
    ∧ ∀ i : S1x32x64.Idx, IsReal ((m ((c : Thread nD τ).loc main_arg8)) i)

/-- The result array, from the launch's arrays. -/
def OUT (c : Dev nD) : FVec Ideal S8192x2048 .bf16 :=
  REF (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

theorem finish_congr {y y' p p' : Fin 64 → EReal} {a a' b b' v v' g g' : EReal} {d d' : Fin 64} (hy : y = y') (hp : p = p') (ha : a = a')
    (hb : b = b') (hv : v = v') (hg : g = g') (hd : d = d') : finish y p a b v g d = finish y' p' a' b' v' g' d' := by
  rw [hy, hp, ha, hb, hv, hg, hd]

theorem point (c : Dev nD) (hg : RealHeads m c) (t : Fin cfg0.N) (y : S512x512.Idx) :
    k0_pay1 (F := Ideal) (k0_pay2 (iblk m c 9 t)) (k0_pay3 (iblk m c 0 t) (iblk m c 1 t) (iblk m c 9 t) (iblk m c 6 t) (iblk m c 7 t))
        (k0_pay4 (iblk m c 2 t) (iblk m c 3 t)) (iblk m c 8 t) (iblk m c 4 t) (iblk m c 5 t) y
      = OUT m c (((cfg0.win 10).blk t).view.emb y) := by
  have ht : t.val < 64 := lt_of_lt_of_eq t.isLt N_0
  idx_vars y
  have hJ : ((cfg0.win 10).blk t).view.emb (ix2 y0 y1) = (ix2 ⟨t.val / 4 * 512 + (y0 : ℕ), by omega⟩
      (col ⟨t.val % 4 * 8 + (y1 : ℕ) / 64, by omega⟩ ⟨(y1 : ℕ) % 64, by omega⟩) : S8192x2048.Idx) := by
    refine Eq.trans (b := (ix2 ⟨t.val / 4 * 512 + (y0 : ℕ), by omega⟩ ⟨t.val % 4 * 512 + (y1 : ℕ), by omega⟩ : S8192x2048.Idx)) ?_ ?_
    · blk_ext [idx t]
    · exact (ix2_inj ..).2 ⟨rfl, Fin.ext (by dsimp only; omega)⟩
  rw [hJ]
  have col_eq : ∀ j : Fin 512, ((col ⟨t.val % 4 * 8 + (j : ℕ) / 64, by omega⟩ ⟨(j : ℕ) % 64, by omega⟩ : Fin 2048) : ℕ) = t.val % 4 * 512 + (j : ℕ) :=
    fun j => by dsimp only; omega
  have col_in : ∀ d : Fin 64, ((col ⟨t.val % 4 * 8 + (y1 : ℕ) / 64, by omega⟩ d : Fin 2048) : ℕ) = t.val % 4 * 512 + (inHead y1 d : ℕ) :=
    fun d => by show (t.val % 4 * 8 + (y1 : ℕ) / 64) * 64 + (d : ℕ) = t.val % 4 * 512 + ((y1 : ℕ) / 64 * 64 + (d : ℕ)); omega
  have hp : ∀ i : Fin 512, (((⟨t.val / 4 * 512 + (i : ℕ), by omega⟩ : Fin 8192)) : ℕ) = t.val / 4 * 512 + (i : ℕ) := fun i => rfl
  refine (pay_at _ _ _ _ _ _ _ _ _ _ y0 y1).trans ((finishSplit_eq _ _ _ _ y1 (fun k => ?_) (fun k => ?_) (e_at m c t)).trans
    (Eq.trans ?_ (ref_at _ _ _ _ _ _ _ _ _ _ _ _).symm))
  · exact ((yf_at m c t y0 k _ _ (hp y0) (col_eq k)).symm ▸ hg.1 _).add ((yb_at m c t y0 k _ _ (hp y0) (col_eq k)).symm ▸ hg.2.1 _)
  · exact (((r_at m c t y0 k _ _ (hp y0) (col_eq k)).symm ▸ hg.2.2.1 _).mul ((k_at m c t y0 k _ _ (hp y0) (col_eq k)).symm ▸ hg.2.2.2.1 _)).mul
      (((rk_at m c t k _ (col_eq k)).trans (bonus_at m c _ _)).symm ▸ hg.2.2.2.2 _)
  · refine finish_congr (funext fun d => ?_) (funext fun d => ?_) ?_ ?_ ?_ ?_ rfl
    · exact Ideal.add_congr (yf_at m c t y0 _ _ _ (hp y0) (col_in d)) (yb_at m c t y0 _ _ _ (hp y0) (col_in d))
    · exact Ideal.mul_congr (Ideal.mul_congr (r_at m c t y0 _ _ _ (hp y0) (col_in d)) (k_at m c t y0 _ _ _ (hp y0) (col_in d)))
        ((rk_at m c t _ _ (col_in d)).trans (bonus_at m c _ _))
    · exact (gg_at m c t _ _ (col_eq y1)).trans (gain_at m c _)
    · exact (gb_at m c t _ _ (col_eq y1)).trans (shift_at m c _)
    · exact v_at m c t y0 _ _ _ (hp y0) (col_eq y1)
    · exact g_at m c t y0 _ _ _ (hp y0) (col_eq y1)

/-- THE RESULT ARRAY. -/
theorem final (c : Dev nD) (hg : RealHeads m c) : (dats m 0 c).arrAt 10 (cfgs 0).N = OUT m c := by
  refine (dats m 0 c).arrAt_eq_of_covers 10 _ (by decide +kernel) fun t _ y => ?_
  blk_simp
  rw [after0_10]; frame_out
  exact point m c hg t y

/-! ## The precondition -/

theorem heads_of_pre (a0 a1 a2 a3 a4 a5 : FVec Ideal S8192x2048 .f32) (a6 a7 : FVec Ideal S1x2048 .f32) (a8 : FVec Ideal S1x32x64 .f32)
    (h : Cert.Pre_finite_heads.fn (F := Ideal) a0 a1 a2 a3 a4 a5 a6 a7 a8 = fun _ => 1#1) :
    (∀ i, IsReal (a0 i)) ∧ (∀ i, IsReal (a1 i)) ∧ (∀ i, IsReal (a2 i)) ∧ (∀ i, IsReal (a3 i)) ∧ ∀ i, IsReal (a8 i) := by
  have h0 := congrFun h ix0
  unfold Cert.Pre_finite_heads.fn Cert.Pre_finite_heads.fn_part1 at h0
  dsimp only at h0
  obtain ⟨h0123, h8⟩ := IntOp.andi_eq_one.1 h0
  obtain ⟨h012, h3⟩ := IntOp.andi_eq_one.1 h0123
  obtain ⟨h01, h2⟩ := IntOp.andi_eq_one.1 h012
  obtain ⟨h00, h1⟩ := IntOp.andi_eq_one.1 h01
  exact ⟨fun i => real_of_abs_lt (Host.reduce_andi_all _ _ _ _ _ h00 i), fun i => real_of_abs_lt (Host.reduce_andi_all _ _ _ _ _ h1 i),
    fun i => real_of_abs_lt (Host.reduce_andi_all _ _ _ _ _ h2 i), fun i => real_of_abs_lt (Host.reduce_andi_all _ _ _ _ _ h3 i),
    fun i => real_of_abs_lt (Host.reduce_andi_all _ _ _ _ _ h8 i)⟩

end Cert.Kernel14Ideal.RwkvPost

end

end
-- ==== Proof.ClaimRwkvPost.lean ====
module
public import proofs.«01_k».proof.Proof.RwkvPost
public import proofs.«01_k».proof.Defs
public import proofs.«01_k».proof.Proof.Gen.Reference14Ideal.Run
public import Idealize.ShloMosaic.Lib.Claim

@[expose] public section
noncomputable section
namespace Cert.Proof
open Idealize.ShloMosaic Idealize.SL.Sem
open Cert.Reference14Ideal.RwkvPost (REF)

open Cert.Kernel14Ideal in
/-- What the kernel's run leaves in its result array, at real heads. -/
theorem kernel14_run (m : (ℓ : Loc nD τ sig) → Buf (Elt Ideal) ℓ) (g : Dev nD → PrngReg)
    (hg : ∀ c, Cert.Kernel14Ideal.RwkvPost.RealHeads m c) :
    θ_run defs (onTc (τ := τ) (main (F := Ideal))) ⟨m, fun _ => 0, g⟩ (fun r => ∀ c : Dev nD,
      r.2.mem ((c.tc : Thread nD τ).loc main_v17) = RwkvPost.OUT m c) :=
  (θ_run defs _ _).mono (fun _ h c => ((h c).1 10).trans (RwkvPost.final m c (hg c))) (Gen.run_main m g)

open Cert.Reference14Ideal in
set_option maxHeartbeats 4000000 in
/-- What the reference's run leaves in its result array. -/
theorem reference14_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v44) = REF (m (c.tc.loc main_arg0)) (m (c.tc.loc main_arg1)) (m (c.tc.loc main_arg2)) (m (c.tc.loc main_arg3))
        (m (c.tc.loc main_arg4)) (m (c.tc.loc main_arg5)) (m (c.tc.loc main_arg6)) (m (c.tc.loc main_arg7)) (m (c.tc.loc main_arg8))) :=
  (θ_run _ _ _).mono (fun r h c => (h c).1.trans rfl) (Value.run m g)

/-- The finish of the recurrence: kernel and reference agree. -/
theorem algebraic_rwkv_post : Cert.algebraic_Kernel14Ideal_Reference14Ideal_pre_finite_heads := by
  intro m g m' g' hpre hagree
  refine ⟨fun c => Cert.Kernel14Ideal.RwkvPost.OUT m c, ?_, ?_⟩
  · have hg : ∀ c, Cert.Kernel14Ideal.RwkvPost.RealHeads m c := fun c => Cert.Kernel14Ideal.RwkvPost.heads_of_pre _ _ _ _ _ _ _ _ _ (hpre c)
    exact (θ_run _ _ _).mono (fun r h c => ⟨h.1 c, h.2 c⟩) (θ_run_and (kernel14_run m g hg) (Cert.Kernel14Ideal.Gen.unchanged m g))
  · refine (θ_run _ _ _).mono (fun r h c => ?_) (θ_run_and (reference14_run m' g') (Cert.Reference14Ideal.Value.run m' g'))
    obtain ⟨a0, a1, a2, a3, a4, a5, a6, a7, a8⟩ := hagree c
    refine ⟨(h.1 c).trans ?_, (h.2 c).2⟩
    rw [a0, a1, a2, a3, a4, a5, a6, a7, a8]
    rfl

end Cert.Proof
end
end
-- ==== Proof.RwkvPrepRow.lean ====
/- One row of the recurrence's preparation: the token shift, the decay, the sigmoid and the heads' norms, as functions of
   the row's values, and the heads' norms taken from products with a matrix of ones inside each head. -/
module

public import proofs.«01_k».proof.Proof.HeadSum

@[expose] public section

noncomputable section

open Idealize.ShloMosaic

namespace Cert.RwkvPrep

open Cert.RealNums

/-- A token's value moved towards the mean of its two neighbours. -/
def tok (x p n mu : EReal) : EReal := x + (Ideal.ofBits .f32 0x3F000000#32 * (p + n) - x) * mu

theorem tok_congr {x x' p p' n n' mu mu' : EReal} (hx : x = x') (hp : p = p') (hn : n = n') (hm : mu = mu') :
    tok x p n mu = tok x' p' n' mu' := by
  rw [hx, hp, hn, hm]

/-- The shift of row `i` in a block of 1024 rows made of sequences of `s` rows. -/
def blkShift (s : ℕ) (x : Fin 1024 → EReal) (mu : EReal) (i : Fin 1024) : EReal :=
  tok (x i) (if (i : ℕ) % s = 0 then 0 else x ⟨((i : ℕ) + 1023) % 1024, by omega⟩)
    (if (i : ℕ) % s = s - 1 then 0 else x ⟨((i : ℕ) + 1) % 1024, by omega⟩) mu

/-- The sigmoid. -/
def sgm (x : EReal) : EReal := Ideal.div 1 (1 + Ideal.exp (-x))

/-- The log of a decay of its logit. -/
def lwOf (x : EReal) : EReal :=
  -Ideal.exp (-(max (-x) 0 + Ideal.log (1 + Ideal.exp (-max (-x) (- -x)))) - Ideal.ofBits .f32 0x3F000000#32)

/-- Entry `d` of one head scaled to length one. -/
def unit (x : Fin 64 → EReal) (d : Fin 64) : EReal := x d * Ideal.rsqrt ((∑ k, x k * x k) + Ideal.ofBits .f32 0x2B8CBCCC#32)

/-- The product of a split row with one column of the matrix: the rounded part's sum and the remainder's. -/
def twoPart (x E : Fin 256 → EReal) : EReal := (∑ k, x k * E k) + ∑ k, (x k - x k) * E k

/-- The same scaling from split products with a matrix, column `l` of 256. -/
def unitSplit (x : Fin 256 → EReal) (E : Fin 256 → Fin 256 → EReal) (l : Fin 256) : EReal :=
  x l * Ideal.rsqrt (twoPart (fun k => x k * x k) (E · l) + Ideal.ofBits .f32 0x2B8CBCCC#32)

/-- Column `d` of the head of column `l`. -/
def inHead (l : Fin 256) (d : Fin 64) : Fin 256 := ⟨l.1 / 64 * 64 + d.1, by omega⟩

/-- A sum over 256 columns is the sum over the 4 heads of the sums over their 64 columns. -/
theorem sum_heads (f : Fin 256 → EReal) : (∑ k, f k) = ∑ a : Fin 4, ∑ d : Fin 64, f ⟨a.1 * 64 + d.1, by omega⟩ := by
  rw [← Fintype.sum_prod_type' (fun (a : Fin 4) (d : Fin 64) => f ⟨a.1 * 64 + d.1, by omega⟩)]
  refine (Fintype.sum_equiv (finProdFinEquiv (m := 4) (n := 64)) _ _ fun p => ?_).symm
  refine congrArg f (Fin.ext ?_)
  simp only [finProdFinEquiv_apply_val]
  omega

theorem sum_head {x E : Fin 256 → EReal} (l : Fin 256)
    (hE : ∀ k, E k = if k.1 / 64 = l.1 / 64 then 1 else 0) : (∑ k, x k * E k) = ∑ d, x (inHead l d) := by
  rw [sum_heads, Finset.sum_eq_single (⟨l.1 / 64, by omega⟩ : Fin 4)]
  · refine Finset.sum_congr rfl fun d _ => ?_
    rw [hE, if_pos (by show (l.1 / 64 * 64 + d.1) / 64 = l.1 / 64; omega), mul_one]
    rfl
  · intro a _ ha
    refine Finset.sum_eq_zero fun d _ => ?_
    rw [hE, if_neg, mul_zero]
    intro h
    refine ha (Fin.ext ?_)
    have h' : (a.1 * 64 + d.1) / 64 = l.1 / 64 := h
    show a.1 = l.1 / 64
    omega
  · intro h; exact absurd (Finset.mem_univ _) h

/-- Of a real row, the split product is the head's sum. -/
theorem twoPart_eq {x E : Fin 256 → EReal} (l : Fin 256) (hx : ∀ k, IsReal (x k))
    (hE : ∀ k, E k = if k.1 / 64 = l.1 / 64 then 1 else 0) : twoPart x E = ∑ d, x (inHead l d) := by
  have hz : (∑ k, (x k - x k) * E k) = 0 := by
    refine Finset.sum_eq_zero fun k _ => ?_
    obtain ⟨r, hr⟩ := hx k
    rw [hr, ← EReal.coe_sub, sub_self, EReal.coe_zero, zero_mul]
  rw [twoPart, hz, add_zero, sum_head l hE]

/-- THE HEADS' NORMS: split products with the matrix of ones inside each head are the heads' sums of squares. -/
theorem unitSplit_eq {x : Fin 256 → EReal} {E : Fin 256 → Fin 256 → EReal} (l : Fin 256) (hx : ∀ k, IsReal (x k))
    (hE : ∀ k j, E k j = if k.1 / 64 = j.1 / 64 then 1 else 0) :
    unitSplit x E l = unit (fun d => x (inHead l d)) ⟨l.1 % 64, by omega⟩ := by
  have e : inHead l ⟨l.1 % 64, by omega⟩ = l := Fin.ext (by show l.1 / 64 * 64 + l.1 % 64 = l.1; omega)
  unfold unitSplit unit
  rw [twoPart_eq l (fun k => (hx k).mul (hx k)) fun k => hE k l]
  dsimp only
  rw [e]

theorem bits_half : Ideal.ofBits .f32 0x3F000000#32 = ((1 / 2 : ℝ) : EReal) := by
  simp [Ideal.ofBits, Ideal.ieee, -EReal.coe_mul]; norm_num

theorem isReal_half : IsReal (Ideal.ofBits .f32 0x3F000000#32) := ⟨_, bits_half⟩

theorem isReal_tok {x p n mu : EReal} (hx : IsReal x) (hp : IsReal p) (hn : IsReal n) (hm : IsReal mu) : IsReal (tok x p n mu) :=
  hx.add (((isReal_half.mul (hp.add hn)).sub hx).mul hm)

theorem isReal_blkShift {s : ℕ} {x : Fin 1024 → EReal} {mu : EReal} {i : Fin 1024} (hx : ∀ a, IsReal (x a)) (hm : IsReal mu) :
    IsReal (blkShift s x mu i) := by
  unfold blkShift
  refine isReal_tok (hx _) ?_ ?_ hm
  · split_ifs
    · exact ⟨0, rfl⟩
    · exact hx _
  · split_ifs
    · exact ⟨0, rfl⟩
    · exact hx _

end Cert.RwkvPrep

end

end
-- ==== Proof.RwkvPrepPay.lean ====
/- What the preparation's body computes from its blocks, read at an index. -/
module

public import proofs.«01_k».proof.Proof.RwkvPrepRow
public import proofs.«01_k».proof.Proof.Gen.Kernel15Ideal.Skeleton
public import Idealize.ShloMosaic.Lib.Pointwise

@[expose] public section

set_option maxRecDepth 16384

noncomputable section

open Idealize.ShloMosaic Idealize.ShloMosaic.TcCoe Idealize.SL.Sem

namespace Cert.Kernel15Ideal.RwkvPrep
open Cert.Kernel15Ideal Cert.Kernel15Ideal.Gen
open Cert.RwkvPrep

theorem lw_words (x : EReal) :
    0 - Ideal.exp (0 - (max (0 - x) 0 + Ideal.log (1 + Ideal.exp (0 - max (0 - x) (-(0 - x))))) - Ideal.ofBits .f32 0x3F000000#32) = lwOf x := by
  simp only [zero_sub, lwOf]

theorem first256 : ∀ i : Fin 1024, IntOp.cmpi .eq (Scalar.select (IntOp.andi (IntOp.xori (IntOp.cmpi .slt (IntOp.remsi .vector (BitVec.ofNat 32 (i : ℕ)) (Scalar.select (Scalar.cmpi .eq 256#32 0#32) 1#32 256#32)) 0#32) (Scalar.cmpi .slt (Scalar.select (Scalar.cmpi .eq 256#32 0#32) 1#32 256#32) 0#32)) (IntOp.cmpi .ne (IntOp.remsi .vector (BitVec.ofNat 32 (i : ℕ)) (Scalar.select (Scalar.cmpi .eq 256#32 0#32) 1#32 256#32)) 0#32)) (IntOp.addi (IntOp.remsi .vector (BitVec.ofNat 32 (i : ℕ)) (Scalar.select (Scalar.cmpi .eq 256#32 0#32) 1#32 256#32)) (Scalar.select (Scalar.cmpi .eq 256#32 0#32) 1#32 256#32)) (IntOp.remsi .vector (BitVec.ofNat 32 (i : ℕ)) (Scalar.select (Scalar.cmpi .eq 256#32 0#32) 1#32 256#32))) 0#32 = if (i : ℕ) % 256 = 0 then 1#1 else 0#1 := by decide +kernel
theorem last256 : ∀ i : Fin 1024, IntOp.cmpi .eq (Scalar.select (IntOp.andi (IntOp.xori (IntOp.cmpi .slt (IntOp.remsi .vector (BitVec.ofNat 32 (i : ℕ)) (Scalar.select (Scalar.cmpi .eq 256#32 0#32) 1#32 256#32)) 0#32) (Scalar.cmpi .slt (Scalar.select (Scalar.cmpi .eq 256#32 0#32) 1#32 256#32) 0#32)) (IntOp.cmpi .ne (IntOp.remsi .vector (BitVec.ofNat 32 (i : ℕ)) (Scalar.select (Scalar.cmpi .eq 256#32 0#32) 1#32 256#32)) 0#32)) (IntOp.addi (IntOp.remsi .vector (BitVec.ofNat 32 (i : ℕ)) (Scalar.select (Scalar.cmpi .eq 256#32 0#32) 1#32 256#32)) (Scalar.select (Scalar.cmpi .eq 256#32 0#32) 1#32 256#32)) (IntOp.remsi .vector (BitVec.ofNat 32 (i : ℕ)) (Scalar.select (Scalar.cmpi .eq 256#32 0#32) 1#32 256#32))) 255#32 = if (i : ℕ) % 256 = 255 then 1#1 else 0#1 := by decide +kernel

/-- The shift inside sequences of 256 rows: the position words pick the rows without a neighbour. -/
theorem shift256 (x : Fin 1024 → EReal) (mu : EReal) (i : Fin 1024) :
    x i + (Ideal.ofBits .f32 0x3F000000#32 * (Scalar.select (IntOp.cmpi .eq (Scalar.select (IntOp.andi (IntOp.xori (IntOp.cmpi .slt (IntOp.remsi .vector (BitVec.ofNat 32 (i : ℕ)) (Scalar.select (Scalar.cmpi .eq 256#32 0#32) 1#32 256#32)) 0#32) (Scalar.cmpi .slt (Scalar.select (Scalar.cmpi .eq 256#32 0#32) 1#32 256#32) 0#32)) (IntOp.cmpi .ne (IntOp.remsi .vector (BitVec.ofNat 32 (i : ℕ)) (Scalar.select (Scalar.cmpi .eq 256#32 0#32) 1#32 256#32)) 0#32)) (IntOp.addi (IntOp.remsi .vector (BitVec.ofNat 32 (i : ℕ)) (Scalar.select (Scalar.cmpi .eq 256#32 0#32) 1#32 256#32)) (Scalar.select (Scalar.cmpi .eq 256#32 0#32) 1#32 256#32)) (IntOp.remsi .vector (BitVec.ofNat 32 (i : ℕ)) (Scalar.select (Scalar.cmpi .eq 256#32 0#32) 1#32 256#32))) 0#32) 0 (x ⟨((i : ℕ) + 1024 - 1) % 1024, by omega⟩)
      + Scalar.select (IntOp.cmpi .eq (Scalar.select (IntOp.andi (IntOp.xori (IntOp.cmpi .slt (IntOp.remsi .vector (BitVec.ofNat 32 (i : ℕ)) (Scalar.select (Scalar.cmpi .eq 256#32 0#32) 1#32 256#32)) 0#32) (Scalar.cmpi .slt (Scalar.select (Scalar.cmpi .eq 256#32 0#32) 1#32 256#32) 0#32)) (IntOp.cmpi .ne (IntOp.remsi .vector (BitVec.ofNat 32 (i : ℕ)) (Scalar.select (Scalar.cmpi .eq 256#32 0#32) 1#32 256#32)) 0#32)) (IntOp.addi (IntOp.remsi .vector (BitVec.ofNat 32 (i : ℕ)) (Scalar.select (Scalar.cmpi .eq 256#32 0#32) 1#32 256#32)) (Scalar.select (Scalar.cmpi .eq 256#32 0#32) 1#32 256#32)) (IntOp.remsi .vector (BitVec.ofNat 32 (i : ℕ)) (Scalar.select (Scalar.cmpi .eq 256#32 0#32) 1#32 256#32))) 255#32) 0 (x ⟨((i : ℕ) + 1024 - 1023) % 1024, by omega⟩)) - x i) * mu = blkShift 256 x mu i := by
  have e1 : (⟨((i : ℕ) + 1024 - 1) % 1024, by omega⟩ : Fin 1024) = ⟨((i : ℕ) + 1023) % 1024, by omega⟩ := Fin.ext (by dsimp only; omega)
  have e2 : (⟨((i : ℕ) + 1024 - 1023) % 1024, by omega⟩ : Fin 1024) = ⟨((i : ℕ) + 1) % 1024, by omega⟩ := Fin.ext (by dsimp only; omega)
  rw [first256, last256, e1, e2]
  unfold blkShift tok
  split_ifs <;> rfl

theorem first1024 : ∀ i : Fin 1024, IntOp.cmpi .eq (Scalar.select (IntOp.andi (IntOp.xori (IntOp.cmpi .slt (IntOp.remsi .vector (BitVec.ofNat 32 (i : ℕ)) (Scalar.select (Scalar.cmpi .eq 1024#32 0#32) 1#32 1024#32)) 0#32) (Scalar.cmpi .slt (Scalar.select (Scalar.cmpi .eq 1024#32 0#32) 1#32 1024#32) 0#32)) (IntOp.cmpi .ne (IntOp.remsi .vector (BitVec.ofNat 32 (i : ℕ)) (Scalar.select (Scalar.cmpi .eq 1024#32 0#32) 1#32 1024#32)) 0#32)) (IntOp.addi (IntOp.remsi .vector (BitVec.ofNat 32 (i : ℕ)) (Scalar.select (Scalar.cmpi .eq 1024#32 0#32) 1#32 1024#32)) (Scalar.select (Scalar.cmpi .eq 1024#32 0#32) 1#32 1024#32)) (IntOp.remsi .vector (BitVec.ofNat 32 (i : ℕ)) (Scalar.select (Scalar.cmpi .eq 1024#32 0#32) 1#32 1024#32))) 0#32 = if (i : ℕ) % 1024 = 0 then 1#1 else 0#1 := by decide +kernel
theorem last1024 : ∀ i : Fin 1024, IntOp.cmpi .eq (Scalar.select (IntOp.andi (IntOp.xori (IntOp.cmpi .slt (IntOp.remsi .vector (BitVec.ofNat 32 (i : ℕ)) (Scalar.select (Scalar.cmpi .eq 1024#32 0#32) 1#32 1024#32)) 0#32) (Scalar.cmpi .slt (Scalar.select (Scalar.cmpi .eq 1024#32 0#32) 1#32 1024#32) 0#32)) (IntOp.cmpi .ne (IntOp.remsi .vector (BitVec.ofNat 32 (i : ℕ)) (Scalar.select (Scalar.cmpi .eq 1024#32 0#32) 1#32 1024#32)) 0#32)) (IntOp.addi (IntOp.remsi .vector (BitVec.ofNat 32 (i : ℕ)) (Scalar.select (Scalar.cmpi .eq 1024#32 0#32) 1#32 1024#32)) (Scalar.select (Scalar.cmpi .eq 1024#32 0#32) 1#32 1024#32)) (IntOp.remsi .vector (BitVec.ofNat 32 (i : ℕ)) (Scalar.select (Scalar.cmpi .eq 1024#32 0#32) 1#32 1024#32))) 1023#32 = if (i : ℕ) % 1024 = 1023 then 1#1 else 0#1 := by decide +kernel

/-- The shift inside sequences of 1024 rows: the position words pick the rows without a neighbour. -/
theorem shift1024 (x : Fin 1024 → EReal) (mu : EReal) (i : Fin 1024) :
    x i + (Ideal.ofBits .f32 0x3F000000#32 * (Scalar.select (IntOp.cmpi .eq (Scalar.select (IntOp.andi (IntOp.xori (IntOp.cmpi .slt (IntOp.remsi .vector (BitVec.ofNat 32 (i : ℕ)) (Scalar.select (Scalar.cmpi .eq 1024#32 0#32) 1#32 1024#32)) 0#32) (Scalar.cmpi .slt (Scalar.select (Scalar.cmpi .eq 1024#32 0#32) 1#32 1024#32) 0#32)) (IntOp.cmpi .ne (IntOp.remsi .vector (BitVec.ofNat 32 (i : ℕ)) (Scalar.select (Scalar.cmpi .eq 1024#32 0#32) 1#32 1024#32)) 0#32)) (IntOp.addi (IntOp.remsi .vector (BitVec.ofNat 32 (i : ℕ)) (Scalar.select (Scalar.cmpi .eq 1024#32 0#32) 1#32 1024#32)) (Scalar.select (Scalar.cmpi .eq 1024#32 0#32) 1#32 1024#32)) (IntOp.remsi .vector (BitVec.ofNat 32 (i : ℕ)) (Scalar.select (Scalar.cmpi .eq 1024#32 0#32) 1#32 1024#32))) 0#32) 0 (x ⟨((i : ℕ) + 1024 - 1) % 1024, by omega⟩)
      + Scalar.select (IntOp.cmpi .eq (Scalar.select (IntOp.andi (IntOp.xori (IntOp.cmpi .slt (IntOp.remsi .vector (BitVec.ofNat 32 (i : ℕ)) (Scalar.select (Scalar.cmpi .eq 1024#32 0#32) 1#32 1024#32)) 0#32) (Scalar.cmpi .slt (Scalar.select (Scalar.cmpi .eq 1024#32 0#32) 1#32 1024#32) 0#32)) (IntOp.cmpi .ne (IntOp.remsi .vector (BitVec.ofNat 32 (i : ℕ)) (Scalar.select (Scalar.cmpi .eq 1024#32 0#32) 1#32 1024#32)) 0#32)) (IntOp.addi (IntOp.remsi .vector (BitVec.ofNat 32 (i : ℕ)) (Scalar.select (Scalar.cmpi .eq 1024#32 0#32) 1#32 1024#32)) (Scalar.select (Scalar.cmpi .eq 1024#32 0#32) 1#32 1024#32)) (IntOp.remsi .vector (BitVec.ofNat 32 (i : ℕ)) (Scalar.select (Scalar.cmpi .eq 1024#32 0#32) 1#32 1024#32))) 1023#32) 0 (x ⟨((i : ℕ) + 1024 - 1023) % 1024, by omega⟩)) - x i) * mu = blkShift 1024 x mu i := by
  have e1 : (⟨((i : ℕ) + 1024 - 1) % 1024, by omega⟩ : Fin 1024) = ⟨((i : ℕ) + 1023) % 1024, by omega⟩ := Fin.ext (by dsimp only; omega)
  have e2 : (⟨((i : ℕ) + 1024 - 1023) % 1024, by omega⟩ : Fin 1024) = ⟨((i : ℕ) + 1) % 1024, by omega⟩ := Fin.ext (by dsimp only; omega)
  rw [first1024, last1024, e1, e2]
  unfold blkShift tok
  split_ifs <;> rfl

theorem sg256_at (x : FVec Ideal S1024x512 .f32) (mu : FVec Ideal S1x512 .f32) (i : Fin 1024) (j : Fin 512) : k0_pay2 (F := Ideal) (k0_pay1 x mu) (ix2 i j) = sgm (blkShift 256 (fun a => x (ix2 a j)) (mu (ix2 0 j)) i) := by
  pointwise [k0_pay2, k0_pay1]
  exact congrArg sgm (shift256 (fun a => x (ix2 a j)) (mu (ix2 0 j)) i)
theorem tw256_at (x : FVec Ideal S1024x256 .f32) (mu : FVec Ideal S1x256 .f32) (i : Fin 1024) (j : Fin 256) : k0_pay4 (F := Ideal) (k0_pay3 x mu) (ix2 i j) = Ideal.tanh (blkShift 256 (fun a => x (ix2 a j)) (mu (ix2 0 j)) i) := by
  pointwise [k0_pay4, k0_pay3]
  exact congrArg Ideal.tanh (shift256 (fun a => x (ix2 a j)) (mu (ix2 0 j)) i)
theorem al256_at (x : FVec Ideal S1024x128 .f32) (mu : FVec Ideal S1x128 .f32) (i : Fin 1024) (j : Fin 128) : k0_pay7 (F := Ideal) (k0_pay5 x) (k0_pay6 x mu) (ix2 i j) = blkShift 256 (fun a => x (ix2 a j)) (mu (ix2 0 j)) i := by
  pointwise [k0_pay7, k0_pay6, k0_pay5]
  exact (shift256 (fun a => x (ix2 a j)) (mu (ix2 0 j)) i)
theorem r256_at (x : FVec Ideal S1024x256 .f32) (mu : FVec Ideal S1x256 .f32) (i : Fin 1024) (j : Fin 256) : k0_pay10 (F := Ideal) (k0_pay8 x) (k0_pay9 x mu) (ix2 i j) = blkShift 256 (fun a => x (ix2 a j)) (mu (ix2 0 j)) i := by
  pointwise [k0_pay10, k0_pay9, k0_pay8]
  exact (shift256 (fun a => x (ix2 a j)) (mu (ix2 0 j)) i)
theorem k256_at (x : FVec Ideal S1024x256 .f32) (mu : FVec Ideal S1x256 .f32) (i : Fin 1024) (j : Fin 256) : k0_pay11 (F := Ideal) x mu (ix2 i j) = blkShift 256 (fun a => x (ix2 a j)) (mu (ix2 0 j)) i := by
  pointwise [k0_pay11]
  exact (shift256 (fun a => x (ix2 a j)) (mu (ix2 0 j)) i)
theorem v256_at (x : FVec Ideal S1024x256 .f32) (mu : FVec Ideal S1x256 .f32) (i : Fin 1024) (j : Fin 256) : k0_pay13 (F := Ideal) (k0_pay12 x) mu (ix2 i j) = blkShift 256 (fun a => x (ix2 a j)) (mu (ix2 0 j)) i := by
  pointwise [k0_pay13, k0_pay12]
  exact (shift256 (fun a => x (ix2 a j)) (mu (ix2 0 j)) i)
theorem lwa256_at (a : FVec Ideal S1x1x256 .f32) (x : FVec Ideal S1024x128 .bf16) (w : FVec Ideal S1x128x256 .bf16) (i : Fin 1024) (j : Fin 256) :
    k0_pay15 (F := Ideal) (k0_pay14 a) x w (ix3 0 i j) = lwOf (a (ix3 0 0 j) + ∑ k : Fin 128, x (ix2 i k) * w (ix3 0 k j)) := by
  pointwise [k0_pay15, k0_pay14]
  exact lw_words _
theorem lwb256_at (a : FVec Ideal S1x1x256 .f32) (x : FVec Ideal S1024x128 .bf16) (w : FVec Ideal S1x128x256 .bf16) (i : Fin 1024) (j : Fin 256) :
    k0_pay18 (F := Ideal) (k0_pay16 a x w) k0_pay17 (ix3 0 i j) = lwOf (a (ix3 0 0 j) + ∑ k : Fin 128, x (ix2 i k) * w (ix3 0 k j)) := by
  pointwise [k0_pay18, k0_pay17, k0_pay16]
  exact lw_words _
theorem a256_at (a : FVec Ideal S1x256 .f32) (x : FVec Ideal S1024x128 .bf16) (w : FVec Ideal S128x256 .bf16) (i : Fin 1024) (j : Fin 256) :
    k0_pay19 (F := Ideal) a x w (ix2 i j) = sgm (a (ix2 0 j) + ∑ k : Fin 128, x (ix2 i k) * w (ix2 k j)) := by
  unfold sgm
  pointwise [k0_pay19]
  rfl
theorem g256_at (x : FVec Ideal S1024x512 .bf16) (w : FVec Ideal S512x256 .bf16) (i : Fin 1024) (j : Fin 256) :
    k0_pay20 (F := Ideal) x w (ix2 i j) = ∑ k : Fin 512, x (ix2 i k) * w (ix2 k j) := by
  pointwise [k0_pay20]
theorem kk256_at (k : FVec Ideal S1024x256 .f32) (w : FVec Ideal S1x256 .f32) (E : FVec Ideal S256x256 .bf16) (i : Fin 1024) (j : Fin 256) :
    k0_pay21 (F := Ideal) k w E (ix2 i j) = unitSplit (fun l => k (ix2 i l) * w (ix2 0 l)) (fun a b => E (ix2 a b)) j := by
  unfold unitSplit twoPart
  pointwise [k0_pay21]
theorem ko256_at (k a : FVec Ideal S1024x256 .f32) (w : FVec Ideal S1x256 .f32) (i : Fin 1024) (j : Fin 256) :
    k0_pay22 (F := Ideal) k a w (ix2 i j) = k (ix2 i j) * (1 + (a (ix2 i j) - 1) * w (ix2 0 j)) := by
  pointwise [k0_pay22]
theorem kka256_at (k a : FVec Ideal S1024x256 .f32) (w : FVec Ideal S1x256 .f32) (E : FVec Ideal S256x256 .bf16) (i : Fin 1024) (j : Fin 256) :
    k0_pay23 (F := Ideal) k a w E (ix2 i j) = k0_pay21 (F := Ideal) k w E (ix2 i j) * a (ix2 i j) := rfl

theorem sg1024_at (x : FVec Ideal S1024x512 .f32) (mu : FVec Ideal S1x512 .f32) (i : Fin 1024) (j : Fin 512) : k0_pay25 (F := Ideal) (k0_pay24 x mu) (ix2 i j) = sgm (blkShift 1024 (fun a => x (ix2 a j)) (mu (ix2 0 j)) i) := by
  pointwise [k0_pay25, k0_pay24]
  exact congrArg sgm (shift1024 (fun a => x (ix2 a j)) (mu (ix2 0 j)) i)
theorem tw1024_at (x : FVec Ideal S1024x256 .f32) (mu : FVec Ideal S1x256 .f32) (i : Fin 1024) (j : Fin 256) : k0_pay27 (F := Ideal) (k0_pay26 x mu) (ix2 i j) = Ideal.tanh (blkShift 1024 (fun a => x (ix2 a j)) (mu (ix2 0 j)) i) := by
  pointwise [k0_pay27, k0_pay26]
  exact congrArg Ideal.tanh (shift1024 (fun a => x (ix2 a j)) (mu (ix2 0 j)) i)
theorem al1024_at (x : FVec Ideal S1024x128 .f32) (mu : FVec Ideal S1x128 .f32) (i : Fin 1024) (j : Fin 128) : k0_pay30 (F := Ideal) (k0_pay28 x) (k0_pay29 x mu) (ix2 i j) = blkShift 1024 (fun a => x (ix2 a j)) (mu (ix2 0 j)) i := by
  pointwise [k0_pay30, k0_pay29, k0_pay28]
  exact (shift1024 (fun a => x (ix2 a j)) (mu (ix2 0 j)) i)
theorem r1024_at (x : FVec Ideal S1024x256 .f32) (mu : FVec Ideal S1x256 .f32) (i : Fin 1024) (j : Fin 256) : k0_pay33 (F := Ideal) (k0_pay31 x) (k0_pay32 x mu) (ix2 i j) = blkShift 1024 (fun a => x (ix2 a j)) (mu (ix2 0 j)) i := by
  pointwise [k0_pay33, k0_pay32, k0_pay31]
  exact (shift1024 (fun a => x (ix2 a j)) (mu (ix2 0 j)) i)
theorem k1024_at (x : FVec Ideal S1024x256 .f32) (mu : FVec Ideal S1x256 .f32) (i : Fin 1024) (j : Fin 256) : k0_pay34 (F := Ideal) x mu (ix2 i j) = blkShift 1024 (fun a => x (ix2 a j)) (mu (ix2 0 j)) i := by
  pointwise [k0_pay34]
  exact (shift1024 (fun a => x (ix2 a j)) (mu (ix2 0 j)) i)
theorem v1024_at (x : FVec Ideal S1024x256 .f32) (mu : FVec Ideal S1x256 .f32) (i : Fin 1024) (j : Fin 256) : k0_pay36 (F := Ideal) (k0_pay35 x) mu (ix2 i j) = blkShift 1024 (fun a => x (ix2 a j)) (mu (ix2 0 j)) i := by
  pointwise [k0_pay36, k0_pay35]
  exact (shift1024 (fun a => x (ix2 a j)) (mu (ix2 0 j)) i)
theorem lwa1024_at (a : FVec Ideal S1x1x256 .f32) (x : FVec Ideal S1024x128 .bf16) (w : FVec Ideal S1x128x256 .bf16) (i : Fin 1024) (j : Fin 256) :
    k0_pay38 (F := Ideal) (k0_pay37 a) x w (ix3 0 i j) = lwOf (a (ix3 0 0 j) + ∑ k : Fin 128, x (ix2 i k) * w (ix3 0 k j)) := by
  pointwise [k0_pay38, k0_pay37]
  exact lw_words _
theorem lwb1024_at (a : FVec Ideal S1x1x256 .f32) (x : FVec Ideal S1024x128 .bf16) (w : FVec Ideal S1x128x256 .bf16) (i : Fin 1024) (j : Fin 256) :
    k0_pay41 (F := Ideal) (k0_pay39 a x w) k0_pay40 (ix3 0 i j) = lwOf (a (ix3 0 0 j) + ∑ k : Fin 128, x (ix2 i k) * w (ix3 0 k j)) := by
  pointwise [k0_pay41, k0_pay40, k0_pay39]
  exact lw_words _
theorem a1024_at (a : FVec Ideal S1x256 .f32) (x : FVec Ideal S1024x128 .bf16) (w : FVec Ideal S128x256 .bf16) (i : Fin 1024) (j : Fin 256) :
    k0_pay42 (F := Ideal) a x w (ix2 i j) = sgm (a (ix2 0 j) + ∑ k : Fin 128, x (ix2 i k) * w (ix2 k j)) := by
  unfold sgm
  pointwise [k0_pay42]
  rfl
theorem g1024_at (x : FVec Ideal S1024x512 .bf16) (w : FVec Ideal S512x256 .bf16) (i : Fin 1024) (j : Fin 256) :
    k0_pay43 (F := Ideal) x w (ix2 i j) = ∑ k : Fin 512, x (ix2 i k) * w (ix2 k j) := by
  pointwise [k0_pay43]
theorem kk1024_at (k : FVec Ideal S1024x256 .f32) (w : FVec Ideal S1x256 .f32) (E : FVec Ideal S256x256 .bf16) (i : Fin 1024) (j : Fin 256) :
    k0_pay44 (F := Ideal) k w E (ix2 i j) = unitSplit (fun l => k (ix2 i l) * w (ix2 0 l)) (fun a b => E (ix2 a b)) j := by
  unfold unitSplit twoPart
  pointwise [k0_pay44]
theorem ko1024_at (k a : FVec Ideal S1024x256 .f32) (w : FVec Ideal S1x256 .f32) (i : Fin 1024) (j : Fin 256) :
    k0_pay45 (F := Ideal) k a w (ix2 i j) = k (ix2 i j) * (1 + (a (ix2 i j) - 1) * w (ix2 0 j)) := by
  pointwise [k0_pay45]
theorem kka1024_at (k a : FVec Ideal S1024x256 .f32) (w : FVec Ideal S1x256 .f32) (E : FVec Ideal S256x256 .bf16) (i : Fin 1024) (j : Fin 256) :
    k0_pay46 (F := Ideal) k a w E (ix2 i j) = k0_pay44 (F := Ideal) k w E (ix2 i j) * a (ix2 i j) := rfl

end Cert.Kernel15Ideal.RwkvPrep

end

end
-- ==== Proof.RwkvPrepRef.lean ====
/- The recurrence's preparation: the reference's results as terms of the arguments, read at an index. -/
module

public import proofs.«01_k».proof.Proof.RwkvPrepRow
public import proofs.«01_k».proof.Proof.Gen.Reference15Ideal
public import Idealize.ShloMosaic.Lib.Pointwise

@[expose] public section

set_option maxRecDepth 16384

noncomputable section

open Idealize.ShloMosaic Idealize.ShloMosaic.TcCoe Idealize.SL.Sem

namespace Cert.Reference15Ideal.RwkvPrep
open Cert.Reference15Ideal Cert.Reference15Ideal.Gen
open Cert.RwkvPrep

/-! ## The token shift -/

def zeroP : FVec Ideal S16x1x7008 .f32 := broadcastInDim S16x1x7008 ![] bcast_S_S16x1x7008 (constant S_ .f32 0x00000000#32)
def zeroS : FVec Ideal S4x1x7008 .f32 := broadcastInDim S4x1x7008 ![] bcast_S_S4x1x7008 (constant S_ .f32 0x00000000#32)
/-- The rows before and after each row, of the context. -/
def prevP (X : FVec Ideal S16x256x7008 .f32) : FVec Ideal S16x256x7008 .f32 :=
  concatenate S16x256x7008 1 [⟨S16x1x7008, zeroP⟩, ⟨S16x255x7008, (extractStridedSlice S16x255x7008 ![0, 0, 0] X slices_S16x256x7008_S16x255x7008_0_0_0)⟩] concatenates_S16x1x7008_S16x255x7008_S16x256x7008_d1
def nextP (X : FVec Ideal S16x256x7008 .f32) : FVec Ideal S16x256x7008 .f32 :=
  concatenate S16x256x7008 1 [⟨S16x255x7008, (extractStridedSlice S16x255x7008 ![0, 1, 0] X slices_S16x256x7008_S16x255x7008_0_1_0)⟩, ⟨S16x1x7008, zeroP⟩] concatenates_S16x255x7008_S16x1x7008_S16x256x7008_d1
/-- The rows before and after each row, of the latent tokens. -/
def prevS (X : FVec Ideal S4x1024x7008 .f32) : FVec Ideal S4x1024x7008 .f32 :=
  concatenate S4x1024x7008 1 [⟨S4x1x7008, zeroS⟩, ⟨S4x1023x7008, (extractStridedSlice S4x1023x7008 ![0, 0, 0] X slices_S4x1024x7008_S4x1023x7008_0_0_0)⟩] concatenates_S4x1x7008_S4x1023x7008_S4x1024x7008_d1
def nextS (X : FVec Ideal S4x1024x7008 .f32) : FVec Ideal S4x1024x7008 .f32 :=
  concatenate S4x1024x7008 1 [⟨S4x1023x7008, (extractStridedSlice S4x1023x7008 ![0, 1, 0] X slices_S4x1024x7008_S4x1023x7008_0_1_0)⟩, ⟨S4x1x7008, zeroS⟩] concatenates_S4x1023x7008_S4x1x7008_S4x1024x7008_d1
/-- The columns that are shifted. -/
def colsP (a0 : FVec Ideal S16x256x10080 .f32) : FVec Ideal S16x256x7008 .f32 := extractStridedSlice S16x256x7008 ![0, 0, 0] a0 slices_S16x256x10080_S16x256x7008_0_0_0
def colsS (a1 : FVec Ideal S4x1024x10080 .f32) : FVec Ideal S4x1024x7008 .f32 := extractStridedSlice S4x1024x7008 ![0, 0, 0] a1 slices_S4x1024x10080_S4x1024x7008_0_0_0
def muv (a2 : FVec Ideal S1x7008 .f32) : FVec Ideal S1x1x7008 .f32 := broadcastInDim S1x1x7008 ![2] bcast_S7008_S1x1x7008_2 (shapeCast _ a2 shapeCasts_S1x7008_S7008)
/-- The shifted context, given its rows and their neighbours. -/
def mixP (X P N : FVec Ideal S16x256x7008 .f32) (mu : FVec Ideal S1x1x7008 .f32) : FVec Ideal S4096x7008 .f32 :=
  shapeCast _ (addf X (mulf (subf (mulf (broadcastInDim S16x256x7008 ![] bcast_S_S16x256x7008 (constant S_ .f32 0x3F000000#32)) (addf P N)) X) (broadcastInDim S16x256x7008 ![0, 1, 2] bcast_S1x1x7008_S16x256x7008_0_1_2 mu))) shapeCasts_S16x256x7008_S4096x7008
/-- The shifted latent tokens, given their rows and their neighbours. -/
def mixS (X P N : FVec Ideal S4x1024x7008 .f32) (mu : FVec Ideal S1x1x7008 .f32) : FVec Ideal S4096x7008 .f32 :=
  shapeCast _ (addf X (mulf (subf (mulf (broadcastInDim S4x1024x7008 ![] bcast_S_S4x1024x7008 (constant S_ .f32 0x3F000000#32)) (addf P N)) X) (broadcastInDim S4x1024x7008 ![0, 1, 2] bcast_S1x1x7008_S4x1024x7008_0_1_2 mu))) shapeCasts_S4x1024x7008_S4096x7008
/-- All rows. -/
def stack (A B : FVec Ideal S4096x7008 .f32) : FVec Ideal S8192x7008 .f32 :=
  concatenate S8192x7008 0 [⟨S4096x7008, A⟩, ⟨S4096x7008, B⟩] concatenates_S4096x7008_S4096x7008_S8192x7008_d0
/-- All shifted rows. -/
def PR (a0 : FVec Ideal S16x256x10080 .f32) (a1 : FVec Ideal S4x1024x10080 .f32) (a2 : FVec Ideal S1x7008 .f32) : FVec Ideal S8192x7008 .f32 :=
  stack (mixP (colsP a0) (prevP (colsP a0)) (nextP (colsP a0)) (muv a2)) (mixS (colsS a1) (prevS (colsS a1)) (nextS (colsS a1)) (muv a2))

/-- One row of the two batches, the context first. -/
def row (a0 : FVec Ideal S16x256x10080 .f32) (a1 : FVec Ideal S4x1024x10080 .f32) (r : Fin 8192) (k : Fin 10080) : EReal :=
  if h : (r : ℕ) < 4096 then a0 (ix3 ⟨(r : ℕ) / 256, by omega⟩ ⟨(r : ℕ) % 256, by omega⟩ k)
  else a1 (ix3 ⟨((r : ℕ) - 4096) / 1024, by omega⟩ ⟨((r : ℕ) - 4096) % 1024, by omega⟩ k)

/-- One shifted entry: the row's sequence has 256 rows in the context and 1024 after it. -/
def shifted (a0 : FVec Ideal S16x256x10080 .f32) (a1 : FVec Ideal S4x1024x10080 .f32) (a2 : FVec Ideal S1x7008 .f32) (r : Fin 8192) (k : Fin 7008) : EReal :=
  tok (row a0 a1 r ⟨(k : ℕ), by omega⟩)
    (if (r : ℕ) % (if (r : ℕ) < 4096 then 256 else 1024) = 0 then 0 else row a0 a1 ⟨((r : ℕ) + 8191) % 8192, by omega⟩ ⟨(k : ℕ), by omega⟩)
    (if (r : ℕ) % (if (r : ℕ) < 4096 then 256 else 1024) = (if (r : ℕ) < 4096 then 256 else 1024) - 1 then 0 else row a0 a1 ⟨((r : ℕ) + 1) % 8192, by omega⟩ ⟨(k : ℕ), by omega⟩)
    (a2 (ix2 0 k))

theorem prevP_at (a0 : FVec Ideal S16x256x10080 .f32) (b : Fin 16) (n : Fin 256) (k : Fin 7008) :
    prevP (colsP a0) (ix3 b n k) = if (n : ℕ) = 0 then 0 else a0 (ix3 b ⟨((n : ℕ) + 255) % 256, by omega⟩ ⟨(k : ℕ), by omega⟩) := by
  pointwise [prevP, colsP, zeroP]
  by_cases h : (n : ℕ) = 0
  · rw [dif_pos (by omega), if_pos h]
  · rw [dif_neg (by omega), if_neg h]
    exact congrArg a0 ((ix3_inj ..).2 ⟨rfl, Fin.ext (by dsimp only; omega), rfl⟩)
theorem nextP_at (a0 : FVec Ideal S16x256x10080 .f32) (b : Fin 16) (n : Fin 256) (k : Fin 7008) :
    nextP (colsP a0) (ix3 b n k) = if (n : ℕ) = 255 then 0 else a0 (ix3 b ⟨((n : ℕ) + 1) % 256, by omega⟩ ⟨(k : ℕ), by omega⟩) := by
  pointwise [nextP, colsP, zeroP]
  by_cases h : (n : ℕ) = 255
  · rw [dif_neg (by omega), if_pos h]
  · rw [dif_pos (by omega), if_neg h]
    exact congrArg a0 ((ix3_inj ..).2 ⟨rfl, Fin.ext (by dsimp only; omega), rfl⟩)
theorem prevS_at (a1 : FVec Ideal S4x1024x10080 .f32) (b : Fin 4) (n : Fin 1024) (k : Fin 7008) :
    prevS (colsS a1) (ix3 b n k) = if (n : ℕ) = 0 then 0 else a1 (ix3 b ⟨((n : ℕ) + 1023) % 1024, by omega⟩ ⟨(k : ℕ), by omega⟩) := by
  pointwise [prevS, colsS, zeroS]
  by_cases h : (n : ℕ) = 0
  · rw [dif_pos (by omega), if_pos h]
  · rw [dif_neg (by omega), if_neg h]
    exact congrArg a1 ((ix3_inj ..).2 ⟨rfl, Fin.ext (by dsimp only; omega), rfl⟩)
theorem nextS_at (a1 : FVec Ideal S4x1024x10080 .f32) (b : Fin 4) (n : Fin 1024) (k : Fin 7008) :
    nextS (colsS a1) (ix3 b n k) = if (n : ℕ) = 1023 then 0 else a1 (ix3 b ⟨((n : ℕ) + 1) % 1024, by omega⟩ ⟨(k : ℕ), by omega⟩) := by
  pointwise [nextS, colsS, zeroS]
  by_cases h : (n : ℕ) = 1023
  · rw [dif_neg (by omega), if_pos h]
  · rw [dif_pos (by omega), if_neg h]
    exact congrArg a1 ((ix3_inj ..).2 ⟨rfl, Fin.ext (by dsimp only; omega), rfl⟩)
theorem colsP_at (a0 : FVec Ideal S16x256x10080 .f32) (b : Fin 16) (n : Fin 256) (k : Fin 7008) :
    colsP a0 (ix3 b n k) = a0 (ix3 b n ⟨(k : ℕ), by omega⟩) := by
  pointwise [colsP]
theorem colsS_at (a1 : FVec Ideal S4x1024x10080 .f32) (b : Fin 4) (n : Fin 1024) (k : Fin 7008) :
    colsS a1 (ix3 b n k) = a1 (ix3 b n ⟨(k : ℕ), by omega⟩) := by
  pointwise [colsS]
theorem mixP_at (X P N : FVec Ideal S16x256x7008 .f32) (a2 : FVec Ideal S1x7008 .f32) (r : Fin 4096) (k : Fin 7008) :
    mixP X P N (muv a2) (ix2 r k) = tok (X (ix3 ⟨(r : ℕ) / 256, by omega⟩ ⟨(r : ℕ) % 256, by omega⟩ k)) (P (ix3 ⟨(r : ℕ) / 256, by omega⟩ ⟨(r : ℕ) % 256, by omega⟩ k))
      (N (ix3 ⟨(r : ℕ) / 256, by omega⟩ ⟨(r : ℕ) % 256, by omega⟩ k)) (a2 (ix2 0 k)) := by
  unfold tok
  pointwise [mixP, muv]
theorem mixS_at (X P N : FVec Ideal S4x1024x7008 .f32) (a2 : FVec Ideal S1x7008 .f32) (r : Fin 4096) (k : Fin 7008) :
    mixS X P N (muv a2) (ix2 r k) = tok (X (ix3 ⟨(r : ℕ) / 1024, by omega⟩ ⟨(r : ℕ) % 1024, by omega⟩ k)) (P (ix3 ⟨(r : ℕ) / 1024, by omega⟩ ⟨(r : ℕ) % 1024, by omega⟩ k))
      (N (ix3 ⟨(r : ℕ) / 1024, by omega⟩ ⟨(r : ℕ) % 1024, by omega⟩ k)) (a2 (ix2 0 k)) := by
  unfold tok
  pointwise [mixS, muv]
theorem stack_at (A B : FVec Ideal S4096x7008 .f32) (r : Fin 8192) (l : Fin 7008) :
    stack A B (ix2 r l) = if h : (r : ℕ) < 4096 then A (ix2 ⟨(r : ℕ), h⟩ l) else B (ix2 ⟨(r : ℕ) - 4096, by omega⟩ l) := by
  pointwise [stack]

/-- The shifted rows at an index. -/
theorem PR_at (a0 : FVec Ideal S16x256x10080 .f32) (a1 : FVec Ideal S4x1024x10080 .f32) (a2 : FVec Ideal S1x7008 .f32) (r : Fin 8192) (k : Fin 7008) :
    PR a0 a1 a2 (ix2 r k) = shifted a0 a1 a2 r k := by
  unfold PR shifted
  rw [stack_at]
  by_cases h : (r : ℕ) < 4096
  · rw [dif_pos h, mixP_at, colsP_at, prevP_at, nextP_at]
    simp only [if_pos h]
    refine tok_congr (by simp only [row, dif_pos h]) ?_ ?_ rfl
    · by_cases h0 : (r : ℕ) % 256 = 0
      · rw [if_pos h0, if_pos h0]
      · rw [if_neg h0, if_neg h0, row, dif_pos (by show ((r : ℕ) + 8191) % 8192 < 4096; omega)]
        exact congrArg a0 ((ix3_inj ..).2 ⟨Fin.ext (by dsimp only; omega), Fin.ext (by dsimp only; omega), rfl⟩)
    · by_cases h0 : (r : ℕ) % 256 = 255
      · rw [if_pos h0, if_pos h0]
      · rw [if_neg h0, if_neg h0, row, dif_pos (by show ((r : ℕ) + 1) % 8192 < 4096; omega)]
        exact congrArg a0 ((ix3_inj ..).2 ⟨Fin.ext (by dsimp only; omega), Fin.ext (by dsimp only; omega), rfl⟩)
  · rw [dif_neg h, mixS_at, colsS_at, prevS_at, nextS_at]
    simp only [if_neg h]
    refine tok_congr (by simp only [row, dif_neg h]) ?_ ?_ rfl
    · by_cases h0 : (r : ℕ) % 1024 = 0
      · rw [if_pos (by omega), if_pos h0]
      · rw [if_neg (by omega), if_neg h0, row, dif_neg (by show ¬((r : ℕ) + 8191) % 8192 < 4096; omega)]
        exact congrArg a1 ((ix3_inj ..).2 ⟨Fin.ext (by dsimp only; omega), Fin.ext (by dsimp only; omega), rfl⟩)
    · by_cases h0 : (r : ℕ) % 1024 = 1023
      · rw [if_pos (by omega), if_pos h0]
      · rw [if_neg (by omega), if_neg h0, row, dif_neg (by show ¬((r : ℕ) + 1) % 8192 < 4096; omega)]
        exact congrArg a1 ((ix3_inj ..).2 ⟨Fin.ext (by dsimp only; omega), Fin.ext (by dsimp only; omega), rfl⟩)

/-! ## The results, from the shifted rows -/

def one : FVec Ideal S8192x2048 .f32 := broadcastInDim S8192x2048 ![] bcast_S_S8192x2048 (constant S_ .f32 0x3F800000#32)
def zero : FVec Ideal S8192x2048 .f32 := broadcastInDim S8192x2048 ![] bcast_S_S8192x2048 (constant S_ .f32 0x00000000#32)
/-- A vector of the columns, at each row. -/
def vec (a : FVec Ideal S1x2048 .f32) : FVec Ideal S8192x2048 .f32 :=
  broadcastInDim S8192x2048 ![0, 1] bcast_S1x2048_S8192x2048_0_1 (broadcastInDim S1x2048 ![1] bcast_S2048_S1x2048_1 (shapeCast _ a shapeCasts_S1x2048_S2048))
/-- Receptance, key and value. -/
def RR (p : FVec Ideal S8192x7008 .f32) : FVec Ideal S8192x2048 .f32 := extractStridedSlice S8192x2048 ![0, 0] p slices_S8192x7008_S8192x2048_0_0
def KR (p : FVec Ideal S8192x7008 .f32) : FVec Ideal S8192x2048 .f32 := extractStridedSlice S8192x2048 ![0, 2048] p slices_S8192x7008_S8192x2048_0_2048
def VR (p : FVec Ideal S8192x7008 .f32) : FVec Ideal S8192x2048 .f32 := extractStridedSlice S8192x2048 ![0, 4096] p slices_S8192x7008_S8192x2048_0_4096
/-- The gate. -/
def GR (p : FVec Ideal S8192x7008 .f32) (a7 : FVec Ideal S1x480x2048 .f32) : FVec Ideal S8192x2048 .f32 :=
  Host.dotGeneral dot_S8192x480_S480x2048_S8192x2048_1_0_0_1_n_n none (Host.divf (broadcastInDim S8192x480 ![] bcast_S_S8192x480 (constant S_ .f32 0x3F800000#32)) (addf (broadcastInDim S8192x480 ![] bcast_S_S8192x480 (constant S_ .f32 0x3F800000#32)) (Host.exp (Host.negf (extractStridedSlice S8192x480 ![0, 6144] p slices_S8192x7008_S8192x480_0_6144))))) (shapeCast _ a7 shapeCasts_S1x480x2048_S480x2048)
/-- The learning rate. -/
def AR (p : FVec Ideal S8192x7008 .f32) (a5 : FVec Ideal S1x2048 .f32) (a6 : FVec Ideal S1x128x2048 .f32) : FVec Ideal S8192x2048 .f32 :=
  Host.divf one (addf one (Host.exp (Host.negf (addf (vec a5) (Host.dotGeneral dot_S8192x128_S128x2048_S8192x2048_1_0_0_1_n_n none (extractStridedSlice S8192x128 ![0, 6880] p slices_S8192x7008_S8192x128_0_6880) (shapeCast _ a6 shapeCasts_S1x128x2048_S128x2048))))))
/-- The key moved by the learning rate. -/
def KO (K A : FVec Ideal S8192x2048 .f32) (a9 : FVec Ideal S1x2048 .f32) : FVec Ideal S8192x2048 .f32 := mulf K (addf one (mulf (subf A one) (vec a9)))
/-- The keys of the heads, weighted. -/
def HK (K : FVec Ideal S8192x2048 .f32) (a8 : FVec Ideal S1x2048 .f32) : FVec Ideal S8192x32x64 .f32 := shapeCast _ (mulf K (vec a8)) shapeCasts_S8192x2048_S8192x32x64
/-- Each head scaled to length one. -/
def UK (H : FVec Ideal S8192x32x64 .f32) : FVec Ideal S8192x32x64 .f32 :=
  mulf H (broadcastInDim S8192x32x64 ![0, 1, 2] bcast_S8192x32x1_S8192x32x64_0_1_2 (Host.rsqrt (addf (broadcastInDim S8192x32x1 ![0, 1] bcast_S8192x32_S8192x32x1_0_1 (Host.reduceAdd (mulf H H) (constant S_ .f32 0x00000000#32) reducesTo_S8192x32x64_S8192x32_d2 h_S_)) (broadcastInDim S8192x32x1 ![] bcast_S_S8192x32x1 (constant S_ .f32 0x2B8CBCCC#32)))))
/-- The heads side by side. -/
def flat (t : FVec Ideal S8192x32x64 .f32) : FVec Ideal S8192x2048 .f32 := shapeCast _ t shapeCasts_S8192x32x64_S8192x2048
/-- The decay's logits of the two directions. -/
def tw (p : FVec Ideal S8192x7008 .f32) : FVec Ideal S8192x256 .f32 := Host.tanh (extractStridedSlice S8192x256 ![0, 6624] p slices_S8192x7008_S8192x256_0_6624)
def dec0 (T : FVec Ideal S8192x256 .f32) (a3 : FVec Ideal S1x2x2048 .f32) (a4 : FVec Ideal S1x2x128x2048 .f32) : FVec Ideal S8192x2048 .f32 :=
  addf (broadcastInDim S8192x2048 ![0, 1] bcast_S1x2048_S8192x2048_0_1 (broadcastInDim S1x2048 ![1] bcast_S2048_S1x2048_1 (shapeCast _ (extractStridedSlice S1x1x2048 ![0, 0, 0] a3 slices_S1x2x2048_S1x1x2048_0_0_0) shapeCasts_S1x1x2048_S2048))) (Host.dotGeneral dot_S8192x128_S128x2048_S8192x2048_1_0_0_1_n_n none (extractStridedSlice S8192x128 ![0, 0] T slices_S8192x256_S8192x128_0_0) (shapeCast _ (extractStridedSlice S1x1x128x2048 ![0, 0, 0, 0] a4 slices_S1x2x128x2048_S1x1x128x2048_0_0_0_0) shapeCasts_S1x1x128x2048_S128x2048))
def dec1 (T : FVec Ideal S8192x256 .f32) (a3 : FVec Ideal S1x2x2048 .f32) (a4 : FVec Ideal S1x2x128x2048 .f32) : FVec Ideal S8192x2048 .f32 :=
  addf (broadcastInDim S8192x2048 ![0, 1] bcast_S1x2048_S8192x2048_0_1 (broadcastInDim S1x2048 ![1] bcast_S2048_S1x2048_1 (shapeCast _ (extractStridedSlice S1x1x2048 ![0, 1, 0] a3 slices_S1x2x2048_S1x1x2048_0_1_0) shapeCasts_S1x1x2048_S2048))) (Host.dotGeneral dot_S8192x128_S128x2048_S8192x2048_1_0_0_1_n_n none (extractStridedSlice S8192x128 ![0, 128] T slices_S8192x256_S8192x128_0_128) (shapeCast _ (extractStridedSlice S1x1x128x2048 ![0, 1, 0, 0] a4 slices_S1x2x128x2048_S1x1x128x2048_0_1_0_0) shapeCasts_S1x1x128x2048_S128x2048))
/-- The softplus of the negated logit, and the log of the decay. -/
def softp (Z : FVec Ideal S8192x2048 .f32) : FVec Ideal S8192x2048 .f32 :=
  select (cmpf .une (subf Z zero) (subf Z zero)) (addf Z zero) (addf (maximumf Z zero) (Host.log1p (Host.exp (Host.negf (Host.absf (subf Z zero))))))
def lwd (D : FVec Ideal S8192x2048 .f32) : FVec Ideal S8192x2048 .f32 :=
  Host.negf (Host.exp (subf (Host.negf (softp (Host.negf D))) (broadcastInDim S8192x2048 ![] bcast_S_S8192x2048 (constant S_ .f32 0x3F000000#32))))
/-- Both directions. -/
def both (A B : FVec Ideal S8192x2048 .f32) : FVec Ideal S2x8192x2048 .f32 :=
  concatenate S2x8192x2048 0 [⟨S1x8192x2048, (broadcastInDim S1x8192x2048 ![1, 2] bcast_S8192x2048_S1x8192x2048_1_2 A)⟩, ⟨S1x8192x2048, (broadcastInDim S1x8192x2048 ![1, 2] bcast_S8192x2048_S1x8192x2048_1_2 B)⟩] concatenates_S1x8192x2048_S1x8192x2048_S2x8192x2048_d0
def LW (p : FVec Ideal S8192x7008 .f32) (a3 : FVec Ideal S1x2x2048 .f32) (a4 : FVec Ideal S1x2x128x2048 .f32) : FVec Ideal S2x8192x2048 .f32 :=
  both (lwd (dec0 (tw p) a3 a4)) (lwd (dec1 (tw p) a3 a4))

theorem RR_at (p : FVec Ideal S8192x7008 .f32) (r : Fin 8192) (l : Fin 2048) : RR p (ix2 r l) = p (ix2 r ⟨(l : ℕ), by omega⟩) := by
  pointwise [RR]
theorem KR_at (p : FVec Ideal S8192x7008 .f32) (r : Fin 8192) (l : Fin 2048) : KR p (ix2 r l) = p (ix2 r ⟨2048 + (l : ℕ), by omega⟩) := by
  pointwise [KR]
theorem VR_at (p : FVec Ideal S8192x7008 .f32) (r : Fin 8192) (l : Fin 2048) : VR p (ix2 r l) = p (ix2 r ⟨4096 + (l : ℕ), by omega⟩) := by
  pointwise [VR]
theorem GR_at (p : FVec Ideal S8192x7008 .f32) (a7 : FVec Ideal S1x480x2048 .f32) (r : Fin 8192) (l : Fin 2048) :
    GR p a7 (ix2 r l) = ∑ k : Fin 480, sgm (p (ix2 r ⟨6144 + (k : ℕ), by omega⟩)) * a7 (ix3 0 k l) := by
  unfold sgm
  pointwise [GR]
theorem AR_at (p : FVec Ideal S8192x7008 .f32) (a5 : FVec Ideal S1x2048 .f32) (a6 : FVec Ideal S1x128x2048 .f32) (r : Fin 8192) (l : Fin 2048) :
    AR p a5 a6 (ix2 r l) = sgm (a5 (ix2 0 l) + ∑ k : Fin 128, p (ix2 r ⟨6880 + (k : ℕ), by omega⟩) * a6 (ix3 0 k l)) := by
  unfold sgm
  pointwise [AR, one, vec]
theorem KO_at (K A : FVec Ideal S8192x2048 .f32) (a9 : FVec Ideal S1x2048 .f32) (r : Fin 8192) (l : Fin 2048) :
    KO K A a9 (ix2 r l) = K (ix2 r l) * (1 + (A (ix2 r l) - 1) * a9 (ix2 0 l)) := by
  pointwise [KO, one, vec]
/-- Column `d` of head `h`. -/
abbrev col (h : Fin 32) (d : Fin 64) : Fin 2048 := ⟨(h : ℕ) * 64 + (d : ℕ), by omega⟩
theorem HK_at (K : FVec Ideal S8192x2048 .f32) (a8 : FVec Ideal S1x2048 .f32) (r : Fin 8192) (h : Fin 32) (d : Fin 64) :
    HK K a8 (ix3 r h d) = K (ix2 r (col h d)) * a8 (ix2 0 (col h d)) := by
  pointwise [HK, vec]
theorem UK_at (H : FVec Ideal S8192x32x64 .f32) (r : Fin 8192) (h : Fin 32) (d : Fin 64) :
    UK H (ix3 r h d) = unit (fun k => H (ix3 r h k)) d := by
  unfold unit
  pointwise [UK]
theorem flat_at (t : FVec Ideal S8192x32x64 .f32) (r : Fin 8192) (h : Fin 32) (d : Fin 64) : flat t (ix2 r (col h d)) = t (ix3 r h d) := by
  pointwise [flat]
  exact congrArg t ((ix3_inj ..).2 ⟨rfl, Fin.ext (by dsimp only; omega), Fin.ext (by dsimp only; omega)⟩)
theorem tw_at (p : FVec Ideal S8192x7008 .f32) (r : Fin 8192) (k : Fin 256) : tw p (ix2 r k) = Ideal.tanh (p (ix2 r ⟨6624 + (k : ℕ), by omega⟩)) := by
  pointwise [tw]
theorem dec0_at (T : FVec Ideal S8192x256 .f32) (a3 : FVec Ideal S1x2x2048 .f32) (a4 : FVec Ideal S1x2x128x2048 .f32) (r : Fin 8192) (l : Fin 2048) :
    dec0 T a3 a4 (ix2 r l) = a3 (ix3 0 0 l) + ∑ k : Fin 128, T (ix2 r ⟨(k : ℕ), by omega⟩) * a4 (ix4 0 0 k l) := by
  pointwise [dec0]
theorem dec1_at (T : FVec Ideal S8192x256 .f32) (a3 : FVec Ideal S1x2x2048 .f32) (a4 : FVec Ideal S1x2x128x2048 .f32) (r : Fin 8192) (l : Fin 2048) :
    dec1 T a3 a4 (ix2 r l) = a3 (ix3 0 1 l) + ∑ k : Fin 128, T (ix2 r ⟨128 + (k : ℕ), by omega⟩) * a4 (ix4 0 1 k l) := by
  pointwise [dec1]
theorem lwd_at (D : FVec Ideal S8192x2048 .f32) (r : Fin 8192) (l : Fin 2048) : lwd D (ix2 r l) = lwOf (D (ix2 r l)) := by
  unfold lwOf
  pointwise [lwd, softp, zero]
  rw [if_neg (not_not.2 rfl)]
  rfl
theorem both_at0 (A B : FVec Ideal S8192x2048 .f32) (r : Fin 8192) (l : Fin 2048) : both A B (ix3 0 r l) = A (ix2 r l) := by
  pointwise [both]
theorem both_at1 (A B : FVec Ideal S8192x2048 .f32) (r : Fin 8192) (l : Fin 2048) : both A B (ix3 1 r l) = B (ix2 r l) := by
  pointwise [both]

end Cert.Reference15Ideal.RwkvPrep

end

end
-- ==== Proof.RwkvPrepIn.lean ====
/- The preparation's arrays as the region finds them, and its blocks, read at an index. -/
module

public import proofs.«01_k».proof.Proof.RwkvPrepRef
public import proofs.«01_k».proof.Proof.Gen.Kernel15Ideal.Frame.Runs
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem

namespace Cert.Kernel15Ideal.RwkvPrep
open Cert.Kernel15Ideal Cert.Kernel15Ideal.Gen
open Cert.RwkvPrep
open Cert.Reference15Ideal.RwkvPrep (row shifted PR PR_at)

variable (m : (ℓ : Loc nD τ sig) → Buf (Elt Ideal) ℓ)

/-- Every window's block index, at all grid points. -/
theorem idx : ∀ t : Fin cfg0.N, win0_0.index t = ![t.val / 8, t.val % 8] ∧ win0_1.index t = ![t.val / 8, 8 + t.val % 8]
    ∧ win0_2.index t = ![t.val / 8, 16 + t.val % 8] ∧ win0_3.index t = ![t.val / 8, 18] ∧ win0_4.index t = ![t.val / 8, 38]
    ∧ win0_5.index t = ![t.val / 8, 78] ∧ win0_6.index t = ![0, t.val % 8] ∧ win0_7.index t = ![0, 8 + t.val % 8]
    ∧ win0_8.index t = ![0, 16 + t.val % 8] ∧ win0_9.index t = ![0, 18] ∧ win0_10.index t = ![0, 38] ∧ win0_11.index t = ![0, 78]
    ∧ win0_12.index t = ![0, 0, t.val % 8] ∧ win0_13.index t = ![0, 0, t.val % 8] ∧ win0_14.index t = ![0, t.val % 8]
    ∧ win0_15.index t = ![0, t.val % 8] ∧ win0_16.index t = ![0, t.val % 8] ∧ win0_17.index t = ![0, t.val % 8]
    ∧ win0_18.index t = ![0, t.val % 8] ∧ win0_19.index t = ![0, 0] :=
  (by decide +kernel : ∀ t : Fin grid0.N, _)

theorem idxo : ∀ t : Fin cfg0.N, win0_20.index t = ![t.val / 8, t.val % 8] ∧ win0_21.index t = ![t.val / 8, t.val % 8] ∧ win0_22.index t = ![t.val / 8, t.val % 8]
    ∧ win0_23.index t = ![t.val / 8, t.val % 8] ∧ win0_24.index t = ![t.val / 8, t.val % 8] ∧ win0_25.index t = ![0, t.val / 8, t.val % 8]
    ∧ win0_26.index t = ![t.val / 8, t.val % 8] :=
  (by decide +kernel : ∀ t : Fin grid0.N, _)

/-- The two batches' rows, one above the other. -/
def ROWS (a0 : FVec Ideal S16x256x10080 .f32) (a1 : FVec Ideal S4x1024x10080 .f32) : FVec Ideal S8192x10080 .f32 :=
  concatenate S8192x10080 0 [⟨S4096x10080, shapeCast S4096x10080 a0 shapeCasts_S16x256x10080_S4096x10080⟩, ⟨S4096x10080, shapeCast S4096x10080 a1 shapeCasts_S4x1024x10080_S4096x10080⟩] concatenates_S4096x10080_S4096x10080_S8192x10080_d0
/-- The packed columns. -/
def PACK (x : FVec Ideal S8192x10080 .f32) : FVec Ideal S8192x10240 .f32 :=
  concatenate S8192x10240 1 [⟨S8192x6144, extractStridedSlice S8192x6144 ![0, 0] x slices_S8192x10080_S8192x6144_0_0⟩, ⟨S8192x2048, extractStridedSlice S8192x2048 ![0, 7008] x slices_S8192x10080_S8192x2048_0_7008⟩, ⟨S8192x512, extractStridedSlice S8192x512 ![0, 9056] x slices_S8192x10080_S8192x512_0_9056⟩, ⟨S8192x512, extractStridedSlice S8192x512 ![0, 9568] x slices_S8192x10080_S8192x512_0_9568⟩, ⟨S8192x480, extractStridedSlice S8192x480 ![0, 6144] x slices_S8192x10080_S8192x480_0_6144⟩, ⟨S8192x32, broadcastInDim S8192x32 ![] bcast_S_S8192x32 (constant S_ .f32 0x00000000#32)⟩, ⟨S8192x256, extractStridedSlice S8192x256 ![0, 6624] x slices_S8192x10080_S8192x256_0_6624⟩, ⟨S8192x128, extractStridedSlice S8192x128 ![0, 6880] x slices_S8192x10080_S8192x128_0_6880⟩, ⟨S8192x128, broadcastInDim S8192x128 ![] bcast_S_S8192x128 (constant S_ .f32 0x00000000#32)⟩] concatenates_S8192x6144_S8192x2048_S8192x512_S8192x512_S8192x480_S8192x32_S8192x256_S8192x128_S8192x128_S8192x10240_d1
/-- The shift's weights, packed the same way. -/
def MUF (a2 : FVec Ideal S1x7008 .f32) : FVec Ideal S7008 .f32 := shapeCast S7008 a2 shapeCasts_S1x7008_S7008
def MUP (x : FVec Ideal S7008 .f32) : FVec Ideal S1x10240 .f32 :=
  broadcastInDim S1x10240 ![1] bcast_S10240_S1x10240_1 (concatenate S10240 0 [⟨S6144, extractStridedSlice S6144 ![0] x slices_S7008_S6144_0⟩, ⟨S3072, broadcastInDim S3072 ![] bcast_S_S3072 (constant S_ .f32 0x00000000#32)⟩, ⟨S480, extractStridedSlice S480 ![6144] x slices_S7008_S480_6144⟩, ⟨S32, broadcastInDim S32 ![] bcast_S_S32 (constant S_ .f32 0x00000000#32)⟩, ⟨S256, extractStridedSlice S256 ![6624] x slices_S7008_S256_6624⟩, ⟨S128, extractStridedSlice S128 ![6880] x slices_S7008_S128_6880⟩, ⟨S128, broadcastInDim S128 ![] bcast_S_S128 (constant S_ .f32 0x00000000#32)⟩] concatenates_S6144_S3072_S480_S32_S256_S128_S128_S10240_d0)

theorem V_pack (c : Dev nD) : V m c main_v15 = PACK (ROWS (m ((c : Thread nD τ).loc main_arg0)) (m ((c : Thread nD τ).loc main_arg1))) := by
  unfold V
  after_reads_simp
  rfl
theorem V_mu (c : Dev nD) : V m c main_v25 = MUP (MUF (m ((c : Thread nD τ).loc main_arg2))) := by
  unfold V
  after_reads_simp
  rfl
theorem V_e (c : Dev nD) : (V m c main_v39 : FVec Ideal S256x256 .bf16) = truncf .bf16 (fun i => FloatOps.ofBits .f32 (lit0 (S256x256.rowMajor i)) : FVec Ideal S256x256 .f32) bitsLt_bf16_f32 := by
  unfold V
  after_reads_simp
  rfl
/-- The gate's second weight with its rows of zeros. -/
def GWP (a7 : FVec Ideal S1x480x2048 .f32) : FVec Ideal S512x2048 .bf16 :=
  truncf .bf16 (concatenate S512x2048 0 [⟨S480x2048, shapeCast S480x2048 a7 shapeCasts_S1x480x2048_S480x2048⟩, ⟨S32x2048, broadcastInDim S32x2048 ![] bcast_S_S32x2048 (constant S_ .f32 0x00000000#32)⟩] concatenates_S480x2048_S32x2048_S512x2048_d0) bitsLt_bf16_f32
theorem V_gw (c : Dev nD) : V m c main_v34 = GWP (m ((c : Thread nD τ).loc main_arg7)) := by
  unfold V
  after_reads_simp
  rfl

theorem ROWS_at (a0 : FVec Ideal S16x256x10080 .f32) (a1 : FVec Ideal S4x1024x10080 .f32) (r : Fin 8192) (k : Fin 10080) :
    ROWS a0 a1 (ix2 r k) = row a0 a1 r k := by
  pointwise [ROWS, row]
theorem PACK_rkv (x : FVec Ideal S8192x10080 .f32) (r : Fin 8192) (k : Fin 6144) : PACK x (ix2 r ⟨(k : ℕ), by omega⟩) = x (ix2 r ⟨(k : ℕ), by omega⟩) := by
  pointwise [PACK]
theorem PACK_g (x : FVec Ideal S8192x10080 .f32) (r : Fin 8192) (k : Fin 480) : PACK x (ix2 r ⟨9216 + (k : ℕ), by omega⟩) = x (ix2 r ⟨6144 + (k : ℕ), by omega⟩) := by
  pointwise [PACK]
  split_ifs <;> first | (exfalso; omega) | exact congrArg x ((ix2_inj ..).2 ⟨rfl, Fin.ext (by dsimp only; omega)⟩)
theorem PACK_w (x : FVec Ideal S8192x10080 .f32) (r : Fin 8192) (k : Fin 256) : PACK x (ix2 r ⟨9728 + (k : ℕ), by omega⟩) = x (ix2 r ⟨6624 + (k : ℕ), by omega⟩) := by
  pointwise [PACK]
  split_ifs <;> first | (exfalso; omega) | exact congrArg x ((ix2_inj ..).2 ⟨rfl, Fin.ext (by dsimp only; omega)⟩)
theorem PACK_a (x : FVec Ideal S8192x10080 .f32) (r : Fin 8192) (k : Fin 128) : PACK x (ix2 r ⟨9984 + (k : ℕ), by omega⟩) = x (ix2 r ⟨6880 + (k : ℕ), by omega⟩) := by
  pointwise [PACK]
  split_ifs <;> first | (exfalso; omega) | exact congrArg x ((ix2_inj ..).2 ⟨rfl, Fin.ext (by dsimp only; omega)⟩)
theorem MUP_rkv (a2 : FVec Ideal S1x7008 .f32) (k : Fin 6144) : MUP (MUF a2) (ix2 0 ⟨(k : ℕ), by omega⟩) = a2 (ix2 0 ⟨(k : ℕ), by omega⟩) := by
  pointwise [MUP, MUF]
theorem MUP_g (a2 : FVec Ideal S1x7008 .f32) (k : Fin 480) : MUP (MUF a2) (ix2 0 ⟨9216 + (k : ℕ), by omega⟩) = a2 (ix2 0 ⟨6144 + (k : ℕ), by omega⟩) := by
  pointwise [MUP, MUF]
  split_ifs <;> first | (exfalso; omega) | exact congrArg a2 ((ix2_inj ..).2 ⟨rfl, Fin.ext (by dsimp only; omega)⟩)
theorem MUP_w (a2 : FVec Ideal S1x7008 .f32) (k : Fin 256) : MUP (MUF a2) (ix2 0 ⟨9728 + (k : ℕ), by omega⟩) = a2 (ix2 0 ⟨6624 + (k : ℕ), by omega⟩) := by
  pointwise [MUP, MUF]
  split_ifs <;> first | (exfalso; omega) | exact congrArg a2 ((ix2_inj ..).2 ⟨rfl, Fin.ext (by dsimp only; omega)⟩)
theorem MUP_a (a2 : FVec Ideal S1x7008 .f32) (k : Fin 128) : MUP (MUF a2) (ix2 0 ⟨9984 + (k : ℕ), by omega⟩) = a2 (ix2 0 ⟨6880 + (k : ℕ), by omega⟩) := by
  pointwise [MUP, MUF]
  split_ifs <;> first | (exfalso; omega) | exact congrArg a2 ((ix2_inj ..).2 ⟨rfl, Fin.ext (by dsimp only; omega)⟩)
theorem GWP_at (a7 : FVec Ideal S1x480x2048 .f32) (k : Fin 512) (l : Fin 2048) :
    GWP a7 (ix2 k l) = if h : (k : ℕ) < 480 then a7 (ix3 0 ⟨(k : ℕ), h⟩ l) else 0 := by
  pointwise [GWP]

def W0 (a : FVec Ideal S1x2x2048 .f32) : FVec Ideal S2x1x2048 .f32 := broadcastInDim S2x1x2048 ![0, 2] bcast_S2x2048_S2x1x2048_0_2 (shapeCast S2x2048 a shapeCasts_S1x2x2048_S2x2048)
def W2 (a : FVec Ideal S1x2x128x2048 .f32) : FVec Ideal S2x128x2048 .bf16 := truncf .bf16 (shapeCast S2x128x2048 a shapeCasts_S1x2x128x2048_S2x128x2048) bitsLt_bf16_f32
def VECT (a : FVec Ideal S1x2048 .f32) : FVec Ideal S1x2048 .f32 := broadcastInDim S1x2048 ![1] bcast_S2048_S1x2048_1 (shapeCast S2048 a shapeCasts_S1x2048_S2048)
def AW (a : FVec Ideal S1x128x2048 .f32) : FVec Ideal S128x2048 .bf16 := truncf .bf16 (shapeCast S128x2048 a shapeCasts_S1x128x2048_S128x2048) bitsLt_bf16_f32
theorem W0_at (a : FVec Ideal S1x2x2048 .f32) (d : Fin 2) (l : Fin 2048) : W0 a (ix3 d 0 l) = a (ix3 0 d l) := by
  pointwise [W0]
theorem W2_at (a : FVec Ideal S1x2x128x2048 .f32) (d : Fin 2) (k : Fin 128) (l : Fin 2048) : W2 a (ix3 d k l) = a (ix4 0 d k l) := by
  pointwise [W2]
theorem VECT_at (a : FVec Ideal S1x2048 .f32) (l : Fin 2048) : VECT a (ix2 0 l) = a (ix2 0 l) := by
  pointwise [VECT]
theorem AW_at (a : FVec Ideal S1x128x2048 .f32) (k : Fin 128) (l : Fin 2048) : AW a (ix2 k l) = a (ix3 0 k l) := by
  pointwise [AW]
theorem V_w0 (c : Dev nD) : V m c main_v27 = W0 (m ((c : Thread nD τ).loc main_arg3)) := by
  unfold V
  after_reads_simp
  rfl
theorem V_w2 (c : Dev nD) : V m c main_v29 = W2 (m ((c : Thread nD τ).loc main_arg4)) := by
  unfold V
  after_reads_simp
  rfl
theorem V_a0 (c : Dev nD) : V m c main_v31 = VECT (m ((c : Thread nD τ).loc main_arg5)) := by
  unfold V
  after_reads_simp
  rfl
theorem V_aw (c : Dev nD) : V m c main_v33 = AW (m ((c : Thread nD τ).loc main_arg6)) := by
  unfold V
  after_reads_simp
  rfl
theorem V_kk (c : Dev nD) : V m c main_v36 = VECT (m ((c : Thread nD τ).loc main_arg8)) := by
  unfold V
  after_reads_simp
  rfl
theorem V_ka (c : Dev nD) : V m c main_v38 = VECT (m ((c : Thread nD τ).loc main_arg9)) := by
  unfold V
  after_reads_simp
  rfl
theorem N_lt (t : Fin cfg0.N) : t.val < 64 := lt_of_lt_of_eq t.isLt N_0

theorem pr_at (c : Dev nD) (t : Fin cfg0.N) (ht : t.val < 64) (i : Fin 1024) (j : Fin 256) :
    (iblk m c 0 t : Vec Ideal S1024x256 .f32) (ix2 i j) = row (m ((c : Thread nD τ).loc main_arg0)) (m ((c : Thread nD τ).loc main_arg1))
      ⟨t.val / 8 * 1024 + (i : ℕ), by omega⟩ ⟨t.val % 8 * 256 + (j : ℕ), by omega⟩ := by
  have h : (iblk m c 0 t : Vec Ideal S1024x256 .f32) (ix2 i j) = V m c main_v15
      (ix2 ⟨t.val / 8 * 1024 + (i : ℕ), by omega⟩ ⟨t.val % 8 * 256 + (j : ℕ), by omega⟩ : S8192x10240.Idx) := by
    blk_point [iblk, idx t]
  rw [h, V_pack]
  exact (PACK_rkv _ _ ⟨t.val % 8 * 256 + (j : ℕ), by omega⟩).trans (ROWS_at _ _ _ _)
theorem mur_at (c : Dev nD) (t : Fin cfg0.N) (ht : t.val < 64) (j : Fin 256) :
    (iblk m c 6 t : Vec Ideal S1x256 .f32) (ix2 0 j) = m ((c : Thread nD τ).loc main_arg2) (ix2 0 ⟨t.val % 8 * 256 + (j : ℕ), by omega⟩ : S1x7008.Idx) := by
  have h : (iblk m c 6 t : Vec Ideal S1x256 .f32) (ix2 0 j) = V m c main_v25 (ix2 0 ⟨t.val % 8 * 256 + (j : ℕ), by omega⟩ : S1x10240.Idx) := by
    blk_point [iblk, idx t]
  rw [h, V_mu]
  exact MUP_rkv _ ⟨t.val % 8 * 256 + (j : ℕ), by omega⟩
theorem pk_at (c : Dev nD) (t : Fin cfg0.N) (ht : t.val < 64) (i : Fin 1024) (j : Fin 256) :
    (iblk m c 1 t : Vec Ideal S1024x256 .f32) (ix2 i j) = row (m ((c : Thread nD τ).loc main_arg0)) (m ((c : Thread nD τ).loc main_arg1))
      ⟨t.val / 8 * 1024 + (i : ℕ), by omega⟩ ⟨2048 + (t.val % 8 * 256 + (j : ℕ)), by omega⟩ := by
  have h : (iblk m c 1 t : Vec Ideal S1024x256 .f32) (ix2 i j) = V m c main_v15
      (ix2 ⟨t.val / 8 * 1024 + (i : ℕ), by omega⟩ ⟨2048 + (t.val % 8 * 256 + (j : ℕ)), by omega⟩ : S8192x10240.Idx) := by
    blk_point [iblk, idx t]
  rw [h, V_pack]
  exact (PACK_rkv _ _ ⟨2048 + (t.val % 8 * 256 + (j : ℕ)), by omega⟩).trans (ROWS_at _ _ _ _)
theorem muk_at (c : Dev nD) (t : Fin cfg0.N) (ht : t.val < 64) (j : Fin 256) :
    (iblk m c 7 t : Vec Ideal S1x256 .f32) (ix2 0 j) = m ((c : Thread nD τ).loc main_arg2) (ix2 0 ⟨2048 + (t.val % 8 * 256 + (j : ℕ)), by omega⟩ : S1x7008.Idx) := by
  have h : (iblk m c 7 t : Vec Ideal S1x256 .f32) (ix2 0 j) = V m c main_v25 (ix2 0 ⟨2048 + (t.val % 8 * 256 + (j : ℕ)), by omega⟩ : S1x10240.Idx) := by
    blk_point [iblk, idx t]
  rw [h, V_mu]
  exact MUP_rkv _ ⟨2048 + (t.val % 8 * 256 + (j : ℕ)), by omega⟩
theorem pv_at (c : Dev nD) (t : Fin cfg0.N) (ht : t.val < 64) (i : Fin 1024) (j : Fin 256) :
    (iblk m c 2 t : Vec Ideal S1024x256 .f32) (ix2 i j) = row (m ((c : Thread nD τ).loc main_arg0)) (m ((c : Thread nD τ).loc main_arg1))
      ⟨t.val / 8 * 1024 + (i : ℕ), by omega⟩ ⟨4096 + (t.val % 8 * 256 + (j : ℕ)), by omega⟩ := by
  have h : (iblk m c 2 t : Vec Ideal S1024x256 .f32) (ix2 i j) = V m c main_v15
      (ix2 ⟨t.val / 8 * 1024 + (i : ℕ), by omega⟩ ⟨4096 + (t.val % 8 * 256 + (j : ℕ)), by omega⟩ : S8192x10240.Idx) := by
    blk_point [iblk, idx t]
  rw [h, V_pack]
  exact (PACK_rkv _ _ ⟨4096 + (t.val % 8 * 256 + (j : ℕ)), by omega⟩).trans (ROWS_at _ _ _ _)
theorem muv_at (c : Dev nD) (t : Fin cfg0.N) (ht : t.val < 64) (j : Fin 256) :
    (iblk m c 8 t : Vec Ideal S1x256 .f32) (ix2 0 j) = m ((c : Thread nD τ).loc main_arg2) (ix2 0 ⟨4096 + (t.val % 8 * 256 + (j : ℕ)), by omega⟩ : S1x7008.Idx) := by
  have h : (iblk m c 8 t : Vec Ideal S1x256 .f32) (ix2 0 j) = V m c main_v25 (ix2 0 ⟨4096 + (t.val % 8 * 256 + (j : ℕ)), by omega⟩ : S1x10240.Idx) := by
    blk_point [iblk, idx t]
  rw [h, V_mu]
  exact MUP_rkv _ ⟨4096 + (t.val % 8 * 256 + (j : ℕ)), by omega⟩
theorem pg_at (c : Dev nD) (t : Fin cfg0.N) (ht : t.val < 64) (i : Fin 1024) (j : Fin 480) :
    (iblk m c 3 t : Vec Ideal S1024x512 .f32) (ix2 i ⟨(j : ℕ), by omega⟩) = row (m ((c : Thread nD τ).loc main_arg0)) (m ((c : Thread nD τ).loc main_arg1))
      ⟨t.val / 8 * 1024 + (i : ℕ), by omega⟩ ⟨6144 + (j : ℕ), by omega⟩ := by
  have h : (iblk m c 3 t : Vec Ideal S1024x512 .f32) (ix2 i ⟨(j : ℕ), by omega⟩) = V m c main_v15
      (ix2 ⟨t.val / 8 * 1024 + (i : ℕ), by omega⟩ ⟨9216 + (j : ℕ), by omega⟩ : S8192x10240.Idx) := by
    blk_point [iblk, idx t]
  rw [h, V_pack]
  exact (PACK_g _ _ j).trans (ROWS_at _ _ _ _)
theorem mug_at (c : Dev nD) (t : Fin cfg0.N) (ht : t.val < 64) (j : Fin 480) :
    (iblk m c 9 t : Vec Ideal S1x512 .f32) (ix2 0 ⟨(j : ℕ), by omega⟩) = m ((c : Thread nD τ).loc main_arg2) (ix2 0 ⟨6144 + (j : ℕ), by omega⟩ : S1x7008.Idx) := by
  have h : (iblk m c 9 t : Vec Ideal S1x512 .f32) (ix2 0 ⟨(j : ℕ), by omega⟩) = V m c main_v25 (ix2 0 ⟨9216 + (j : ℕ), by omega⟩ : S1x10240.Idx) := by
    blk_point [iblk, idx t]
  rw [h, V_mu]
  exact MUP_g _ j
theorem pw_at (c : Dev nD) (t : Fin cfg0.N) (ht : t.val < 64) (i : Fin 1024) (j : Fin 256) :
    (iblk m c 4 t : Vec Ideal S1024x256 .f32) (ix2 i j) = row (m ((c : Thread nD τ).loc main_arg0)) (m ((c : Thread nD τ).loc main_arg1))
      ⟨t.val / 8 * 1024 + (i : ℕ), by omega⟩ ⟨6624 + (j : ℕ), by omega⟩ := by
  have h : (iblk m c 4 t : Vec Ideal S1024x256 .f32) (ix2 i j) = V m c main_v15
      (ix2 ⟨t.val / 8 * 1024 + (i : ℕ), by omega⟩ ⟨9728 + (j : ℕ), by omega⟩ : S8192x10240.Idx) := by
    blk_point [iblk, idx t]
  rw [h, V_pack]
  exact (PACK_w _ _ j).trans (ROWS_at _ _ _ _)
theorem muw_at (c : Dev nD) (t : Fin cfg0.N) (ht : t.val < 64) (j : Fin 256) :
    (iblk m c 10 t : Vec Ideal S1x256 .f32) (ix2 0 j) = m ((c : Thread nD τ).loc main_arg2) (ix2 0 ⟨6624 + (j : ℕ), by omega⟩ : S1x7008.Idx) := by
  have h : (iblk m c 10 t : Vec Ideal S1x256 .f32) (ix2 0 j) = V m c main_v25 (ix2 0 ⟨9728 + (j : ℕ), by omega⟩ : S1x10240.Idx) := by
    blk_point [iblk, idx t]
  rw [h, V_mu]
  exact MUP_w _ j
theorem pa_at (c : Dev nD) (t : Fin cfg0.N) (ht : t.val < 64) (i : Fin 1024) (j : Fin 128) :
    (iblk m c 5 t : Vec Ideal S1024x128 .f32) (ix2 i j) = row (m ((c : Thread nD τ).loc main_arg0)) (m ((c : Thread nD τ).loc main_arg1))
      ⟨t.val / 8 * 1024 + (i : ℕ), by omega⟩ ⟨6880 + (j : ℕ), by omega⟩ := by
  have h : (iblk m c 5 t : Vec Ideal S1024x128 .f32) (ix2 i j) = V m c main_v15
      (ix2 ⟨t.val / 8 * 1024 + (i : ℕ), by omega⟩ ⟨9984 + (j : ℕ), by omega⟩ : S8192x10240.Idx) := by
    blk_point [iblk, idx t]
  rw [h, V_pack]
  exact (PACK_a _ _ j).trans (ROWS_at _ _ _ _)
theorem mua_at (c : Dev nD) (t : Fin cfg0.N) (ht : t.val < 64) (j : Fin 128) :
    (iblk m c 11 t : Vec Ideal S1x128 .f32) (ix2 0 j) = m ((c : Thread nD τ).loc main_arg2) (ix2 0 ⟨6880 + (j : ℕ), by omega⟩ : S1x7008.Idx) := by
  have h : (iblk m c 11 t : Vec Ideal S1x128 .f32) (ix2 0 j) = V m c main_v25 (ix2 0 ⟨9984 + (j : ℕ), by omega⟩ : S1x10240.Idx) := by
    blk_point [iblk, idx t]
  rw [h, V_mu]
  exact MUP_a _ j
theorem w0_at (c : Dev nD) (t : Fin cfg0.N) (ht : t.val < 64) (d : Fin 2) (j : Fin 256) :
    (iblk m c 12 t : Vec Ideal S2x1x256 .f32) (ix3 d 0 j) = m ((c : Thread nD τ).loc main_arg3) (ix3 0 d ⟨t.val % 8 * 256 + (j : ℕ), by omega⟩ : S1x2x2048.Idx) := by
  have h : (iblk m c 12 t : Vec Ideal S2x1x256 .f32) (ix3 d 0 j) = V m c main_v27 (ix3 d 0 ⟨t.val % 8 * 256 + (j : ℕ), by omega⟩ : S2x1x2048.Idx) := by
    blk_point [iblk, idx t]
  rw [h, V_w0]
  exact W0_at _ _ _
theorem w2_at (c : Dev nD) (t : Fin cfg0.N) (ht : t.val < 64) (d : Fin 2) (k : Fin 128) (j : Fin 256) :
    (iblk m c 13 t : Vec Ideal S2x128x256 .bf16) (ix3 d k j) = m ((c : Thread nD τ).loc main_arg4) (ix4 0 d k ⟨t.val % 8 * 256 + (j : ℕ), by omega⟩ : S1x2x128x2048.Idx) := by
  have h : (iblk m c 13 t : Vec Ideal S2x128x256 .bf16) (ix3 d k j) = V m c main_v29 (ix3 d k ⟨t.val % 8 * 256 + (j : ℕ), by omega⟩ : S2x128x2048.Idx) := by
    blk_point [iblk, idx t]
  rw [h, V_w2]
  exact W2_at _ _ _ _
theorem a0_at (c : Dev nD) (t : Fin cfg0.N) (ht : t.val < 64) (j : Fin 256) :
    (iblk m c 14 t : Vec Ideal S1x256 .f32) (ix2 0 j) = m ((c : Thread nD τ).loc main_arg5) (ix2 0 ⟨t.val % 8 * 256 + (j : ℕ), by omega⟩ : S1x2048.Idx) := by
  have h : (iblk m c 14 t : Vec Ideal S1x256 .f32) (ix2 0 j) = V m c main_v31 (ix2 0 ⟨t.val % 8 * 256 + (j : ℕ), by omega⟩ : S1x2048.Idx) := by
    blk_point [iblk, idx t]
  rw [h, V_a0]
  exact VECT_at _ _
theorem aw_at (c : Dev nD) (t : Fin cfg0.N) (ht : t.val < 64) (k : Fin 128) (j : Fin 256) :
    (iblk m c 15 t : Vec Ideal S128x256 .bf16) (ix2 k j) = m ((c : Thread nD τ).loc main_arg6) (ix3 0 k ⟨t.val % 8 * 256 + (j : ℕ), by omega⟩ : S1x128x2048.Idx) := by
  have h : (iblk m c 15 t : Vec Ideal S128x256 .bf16) (ix2 k j) = V m c main_v33 (ix2 k ⟨t.val % 8 * 256 + (j : ℕ), by omega⟩ : S128x2048.Idx) := by
    blk_point [iblk, idx t]
  rw [h, V_aw]
  exact AW_at _ _ _
theorem kw_at (c : Dev nD) (t : Fin cfg0.N) (ht : t.val < 64) (j : Fin 256) :
    (iblk m c 17 t : Vec Ideal S1x256 .f32) (ix2 0 j) = m ((c : Thread nD τ).loc main_arg8) (ix2 0 ⟨t.val % 8 * 256 + (j : ℕ), by omega⟩ : S1x2048.Idx) := by
  have h : (iblk m c 17 t : Vec Ideal S1x256 .f32) (ix2 0 j) = V m c main_v36 (ix2 0 ⟨t.val % 8 * 256 + (j : ℕ), by omega⟩ : S1x2048.Idx) := by
    blk_point [iblk, idx t]
  rw [h, V_kk]
  exact VECT_at _ _
theorem ka_at (c : Dev nD) (t : Fin cfg0.N) (ht : t.val < 64) (j : Fin 256) :
    (iblk m c 18 t : Vec Ideal S1x256 .f32) (ix2 0 j) = m ((c : Thread nD τ).loc main_arg9) (ix2 0 ⟨t.val % 8 * 256 + (j : ℕ), by omega⟩ : S1x2048.Idx) := by
  have h : (iblk m c 18 t : Vec Ideal S1x256 .f32) (ix2 0 j) = V m c main_v38 (ix2 0 ⟨t.val % 8 * 256 + (j : ℕ), by omega⟩ : S1x2048.Idx) := by
    blk_point [iblk, idx t]
  rw [h, V_ka]
  exact VECT_at _ _
theorem gw_at (c : Dev nD) (t : Fin cfg0.N) (ht : t.val < 64) (k : Fin 512) (j : Fin 256) :
    (iblk m c 16 t : Vec Ideal S512x256 .bf16) (ix2 k j)
      = (if h : (k : ℕ) < 480 then (m ((c : Thread nD τ).loc main_arg7) : FVec Ideal S1x480x2048 .f32) (ix3 0 ⟨(k : ℕ), h⟩ ⟨t.val % 8 * 256 + (j : ℕ), by omega⟩) else 0 : EReal) := by
  have h : (iblk m c 16 t : Vec Ideal S512x256 .bf16) (ix2 k j) = V m c main_v34 (ix2 k ⟨t.val % 8 * 256 + (j : ℕ), by omega⟩ : S512x2048.Idx) := by
    blk_point [iblk, idx t]
  rw [h, V_gw]
  exact GWP_at _ _ _
end Cert.Kernel15Ideal.RwkvPrep

end

end
-- ==== Proof.RwkvPrepOut.lean ====
/- What each point leaves in its outputs' buffers, over what the scratches then hold. -/
module

public import proofs.«01_k».proof.Proof.RwkvPrepAt
public import proofs.«01_k».proof.Proof.RwkvPrepPay
public import proofs.«01_k».proof.Proof.RwkvPrepIn
public import Idealize.ShloMosaic.Lib.Pipeline.ValueKit

@[expose] public section

set_option maxRecDepth 16384

noncomputable section

open Idealize.ShloMosaic Idealize.ShloMosaic.TcCoe Idealize.SL.Sem

namespace Cert.Kernel15Ideal.RwkvPrep
open Cert.Kernel15Ideal Cert.Kernel15Ideal.Gen
open Cert.RwkvPrep Cert.RealNums
open Cert.Reference15Ideal.RwkvPrep

variable (m : (ℓ : Loc nD τ sig) → Buf (Elt Ideal) ℓ)

theorem readCov_ld {Val : EltTy → Type} [∀ e, Nonempty (Val e)] {S : Shape} {e : EltTy} {sg : RefSig} {κ : Kind} {sp : Space} (v : View sg κ sp S e)
    {off : Fin S.rank → Nat} (inb : ∀ a, off a + S.size a ≤ S.size a) (w : S.Idx → Val e) (R : Rect S) (h : ∀ a, off a = 0) :
    v.readCov [(⟨Rect.unit off S.size inb, w⟩ : View.Piece Val S e)] R.toLoadRect = View.ld w R := by
  obtain rfl : off = fun _ => 0 := funext h
  rw [View.readCov_eq_canon_ld _ _ _ (fun y => ⟨_, List.mem_cons_self, by
    show y ∈ (Rect.whole S).set; rw [Rect.set_whole]; exact Finset.mem_univ y⟩), View.canon_cons_unit_lit' inb w [] (fun _ => rfl)]

/-- The logs of the decays a point stores, both directions. -/
abbrev lwst256 (w0 : Vec Ideal S2x1x256 .f32) (T : Vec Ideal S1024x256 .bf16) (w2 : Vec Ideal S2x128x256 .bf16) : Vec Ideal S2x1024x256 .f32 :=
  View.canon
      [⟨Rect.unit ![1, 0, 0] ![1, 1024, 256] inb_S2x1024x256_S1x1024x256_1_0_0,
          k0_pay18 (F := Ideal)
            (k0_pay16 (View.ld w0 (Rect.unit ![1, 0, 0] ![1, 1, 256] inb_S2x1x256_S1x1x256_1_0_0))
              (View.ld T (Rect.unit ![0, 128] ![1024, 128] inb_S1024x256_S1024x128_0_128))
              (View.ld w2 (Rect.unit ![1, 0, 0] ![1, 128, 256] inb_S2x128x256_S1x128x256_1_0_0)))
            k0_pay17⟩,
        ⟨Rect.unit ![0, 0, 0] ![1, 1024, 256] inb_S2x1024x256_S1x1024x256_0_0_0,
          k0_pay15 (F := Ideal) (k0_pay14 (View.ld w0 (Rect.unit ![0, 0, 0] ![1, 1, 256] inb_S2x1x256_S1x1x256_0_0_0)))
            (View.ld T (Rect.unit ![0, 0] ![1024, 128] inb_S1024x256_S1024x128_0_0))
            (View.ld w2 (Rect.unit ![0, 0, 0] ![1, 128, 256] inb_S2x128x256_S1x128x256_0_0_0))⟩]
abbrev lwst1024 (w0 : Vec Ideal S2x1x256 .f32) (T : Vec Ideal S1024x256 .bf16) (w2 : Vec Ideal S2x128x256 .bf16) : Vec Ideal S2x1024x256 .f32 :=
  View.canon
      [⟨Rect.unit ![1, 0, 0] ![1, 1024, 256] inb_S2x1024x256_S1x1024x256_1_0_0,
          k0_pay41 (F := Ideal)
            (k0_pay39 (View.ld w0 (Rect.unit ![1, 0, 0] ![1, 1, 256] inb_S2x1x256_S1x1x256_1_0_0))
              (View.ld T (Rect.unit ![0, 128] ![1024, 128] inb_S1024x256_S1024x128_0_128))
              (View.ld w2 (Rect.unit ![1, 0, 0] ![1, 128, 256] inb_S2x128x256_S1x128x256_1_0_0)))
            k0_pay40⟩,
        ⟨Rect.unit ![0, 0, 0] ![1, 1024, 256] inb_S2x1024x256_S1x1024x256_0_0_0,
          k0_pay38 (F := Ideal) (k0_pay37 (View.ld w0 (Rect.unit ![0, 0, 0] ![1, 1, 256] inb_S2x1x256_S1x1x256_0_0_0)))
            (View.ld T (Rect.unit ![0, 0] ![1024, 128] inb_S1024x256_S1024x128_0_0))
            (View.ld w2 (Rect.unit ![0, 0, 0] ![1, 128, 256] inb_S2x128x256_S1x128x256_0_0_0))⟩]
theorem o0_256 (c : Dev nD) (t : Fin cfg0.N) (h : t.val < 32) : (outsAt0 m c t.val t.isLt).1 = k0_pay10 (F := Ideal) (k0_pay8 (iblk m c 0 t)) (k0_pay9 (iblk m c 0 t) (iblk m c 6 t)) := by
  by_cases h1 : t.val % 8 = 0
  · rw [outsAt0_A m c t h h1 (by omega)]
    frame_out
  · rw [outsAt0_B m c t h h1 (by omega)]
    frame_out
theorem o1_256 (c : Dev nD) (t : Fin cfg0.N) (h : t.val < 32) : (outsAt0 m c t.val t.isLt).2.1 = k0_pay22 (F := Ideal) (k0_pay11 (F := Ideal) (iblk m c 1 t) (iblk m c 7 t)) (k0_pay19 (F := Ideal) (iblk m c 14 t) (outsAt0 m c t.val t.isLt).2.2.2.2.2.2.2.2.2 (iblk m c 15 t)) (iblk m c 18 t) := by
  by_cases h1 : t.val % 8 = 0
  · rw [outsAt0_A m c t h h1 (by omega)]
    frame_out
  · rw [outsAt0_B m c t h h1 (by omega)]
    frame_out
    unfold sout0_B_2
    rw [(Memref.isWhole_whole cc0_scratch2).read_unread]
theorem o2_256 (c : Dev nD) (t : Fin cfg0.N) (h : t.val < 32) : (outsAt0 m c t.val t.isLt).2.2.1 = k0_pay13 (F := Ideal) (k0_pay12 (iblk m c 2 t)) (iblk m c 8 t) := by
  by_cases h1 : t.val % 8 = 0
  · rw [outsAt0_A m c t h h1 (by omega)]
    frame_out
  · rw [outsAt0_B m c t h h1 (by omega)]
    frame_out
theorem o3_256 (c : Dev nD) (t : Fin cfg0.N) (h : t.val < 32) : (outsAt0 m c t.val t.isLt).2.2.2.1 = k0_pay21 (F := Ideal) (k0_pay11 (F := Ideal) (iblk m c 1 t) (iblk m c 7 t)) (iblk m c 17 t) (iblk m c 19 t) := by
  by_cases h1 : t.val % 8 = 0
  · rw [outsAt0_A m c t h h1 (by omega)]
    frame_out
  · rw [outsAt0_B m c t h h1 (by omega)]
    frame_out
theorem o4_256 (c : Dev nD) (t : Fin cfg0.N) (h : t.val < 32) : (outsAt0 m c t.val t.isLt).2.2.2.2.1 = k0_pay23 (F := Ideal) (k0_pay11 (F := Ideal) (iblk m c 1 t) (iblk m c 7 t)) (k0_pay19 (F := Ideal) (iblk m c 14 t) (outsAt0 m c t.val t.isLt).2.2.2.2.2.2.2.2.2 (iblk m c 15 t)) (iblk m c 17 t) (iblk m c 19 t) := by
  by_cases h1 : t.val % 8 = 0
  · rw [outsAt0_A m c t h h1 (by omega)]
    frame_out
  · rw [outsAt0_B m c t h h1 (by omega)]
    frame_out
    unfold sout0_B_2
    rw [(Memref.isWhole_whole cc0_scratch2).read_unread]
theorem o5_256 (c : Dev nD) (t : Fin cfg0.N) (h : t.val < 32) : (outsAt0 m c t.val t.isLt).2.2.2.2.2.1 = lwst256 (iblk m c 12 t) (outsAt0 m c t.val t.isLt).2.2.2.2.2.2.2.2.1 (iblk m c 13 t) := by
  by_cases h1 : t.val % 8 = 0
  · rw [outsAt0_A m c t h h1 (by omega)]
    frame_out
    rw [readCov_ld, readCov_ld] <;> decide
  · rw [outsAt0_B m c t h h1 (by omega)]
    frame_out
    unfold sout0_B_1
    rw [(Memref.isWhole_whole cc0_scratch1).read_unread]
theorem o6_256 (c : Dev nD) (t : Fin cfg0.N) (h : t.val < 32) : (outsAt0 m c t.val t.isLt).2.2.2.2.2.2.1 = k0_pay20 (F := Ideal) (outsAt0 m c t.val t.isLt).2.2.2.2.2.2.2.1 (iblk m c 16 t) := by
  by_cases h1 : t.val % 8 = 0
  · rw [outsAt0_A m c t h h1 (by omega)]
    frame_out
  · rw [outsAt0_B m c t h h1 (by omega)]
    frame_out
    unfold sout0_B_0
    rw [(Memref.isWhole_whole cc0_scratch0).read_unread]
theorem s0_256 (c : Dev nD) (t : Fin cfg0.N) (h : t.val < 32) (h1 : t.val % 8 = 0) : (outsAt0 m c t.val t.isLt).2.2.2.2.2.2.2.1 = k0_pay2 (F := Ideal) (k0_pay1 (iblk m c 3 t) (iblk m c 9 t)) := by
  rw [outsAt0_A m c t h h1 (by omega)]
  frame_out
theorem c0_256 (c : Dev nD) (t : Fin cfg0.N) (h : t.val < 32) (h1 : ¬t.val % 8 = 0) : (outsAt0 m c t.val t.isLt).2.2.2.2.2.2.2.1 = (outsAt0 m c (t.val - 1) (Nat.lt_of_le_of_lt (Nat.sub_le _ _) t.isLt)).2.2.2.2.2.2.2.1 := by
  rw [outsAt0_B m c t h h1 (by omega)]
  rfl
theorem s1_256 (c : Dev nD) (t : Fin cfg0.N) (h : t.val < 32) (h1 : t.val % 8 = 0) : (outsAt0 m c t.val t.isLt).2.2.2.2.2.2.2.2.1 = k0_pay4 (F := Ideal) (k0_pay3 (iblk m c 4 t) (iblk m c 10 t)) := by
  rw [outsAt0_A m c t h h1 (by omega)]
  frame_out
theorem c1_256 (c : Dev nD) (t : Fin cfg0.N) (h : t.val < 32) (h1 : ¬t.val % 8 = 0) : (outsAt0 m c t.val t.isLt).2.2.2.2.2.2.2.2.1 = (outsAt0 m c (t.val - 1) (Nat.lt_of_le_of_lt (Nat.sub_le _ _) t.isLt)).2.2.2.2.2.2.2.2.1 := by
  rw [outsAt0_B m c t h h1 (by omega)]
  rfl
theorem s2_256 (c : Dev nD) (t : Fin cfg0.N) (h : t.val < 32) (h1 : t.val % 8 = 0) : (outsAt0 m c t.val t.isLt).2.2.2.2.2.2.2.2.2 = k0_pay7 (F := Ideal) (k0_pay5 (iblk m c 5 t)) (k0_pay6 (iblk m c 5 t) (iblk m c 11 t)) := by
  rw [outsAt0_A m c t h h1 (by omega)]
  frame_out
theorem c2_256 (c : Dev nD) (t : Fin cfg0.N) (h : t.val < 32) (h1 : ¬t.val % 8 = 0) : (outsAt0 m c t.val t.isLt).2.2.2.2.2.2.2.2.2 = (outsAt0 m c (t.val - 1) (Nat.lt_of_le_of_lt (Nat.sub_le _ _) t.isLt)).2.2.2.2.2.2.2.2.2 := by
  rw [outsAt0_B m c t h h1 (by omega)]
  rfl
theorem o0_1024 (c : Dev nD) (t : Fin cfg0.N) (h : ¬t.val < 32) : (outsAt0 m c t.val t.isLt).1 = k0_pay33 (F := Ideal) (k0_pay31 (iblk m c 0 t)) (k0_pay32 (iblk m c 0 t) (iblk m c 6 t)) := by
  by_cases h1 : t.val % 8 = 0
  · rw [outsAt0_C m c t h (by omega) h1]
    frame_out
  · rw [outsAt0_D m c t h (by omega) h1]
    frame_out
theorem o1_1024 (c : Dev nD) (t : Fin cfg0.N) (h : ¬t.val < 32) : (outsAt0 m c t.val t.isLt).2.1 = k0_pay45 (F := Ideal) (k0_pay34 (F := Ideal) (iblk m c 1 t) (iblk m c 7 t)) (k0_pay42 (F := Ideal) (iblk m c 14 t) (outsAt0 m c t.val t.isLt).2.2.2.2.2.2.2.2.2 (iblk m c 15 t)) (iblk m c 18 t) := by
  by_cases h1 : t.val % 8 = 0
  · rw [outsAt0_C m c t h (by omega) h1]
    frame_out
  · rw [outsAt0_D m c t h (by omega) h1]
    frame_out
    unfold sout0_D_2
    rw [(Memref.isWhole_whole cc0_scratch2).read_unread]
theorem o2_1024 (c : Dev nD) (t : Fin cfg0.N) (h : ¬t.val < 32) : (outsAt0 m c t.val t.isLt).2.2.1 = k0_pay36 (F := Ideal) (k0_pay35 (iblk m c 2 t)) (iblk m c 8 t) := by
  by_cases h1 : t.val % 8 = 0
  · rw [outsAt0_C m c t h (by omega) h1]
    frame_out
  · rw [outsAt0_D m c t h (by omega) h1]
    frame_out
theorem o3_1024 (c : Dev nD) (t : Fin cfg0.N) (h : ¬t.val < 32) : (outsAt0 m c t.val t.isLt).2.2.2.1 = k0_pay44 (F := Ideal) (k0_pay34 (F := Ideal) (iblk m c 1 t) (iblk m c 7 t)) (iblk m c 17 t) (iblk m c 19 t) := by
  by_cases h1 : t.val % 8 = 0
  · rw [outsAt0_C m c t h (by omega) h1]
    frame_out
  · rw [outsAt0_D m c t h (by omega) h1]
    frame_out
theorem o4_1024 (c : Dev nD) (t : Fin cfg0.N) (h : ¬t.val < 32) : (outsAt0 m c t.val t.isLt).2.2.2.2.1 = k0_pay46 (F := Ideal) (k0_pay34 (F := Ideal) (iblk m c 1 t) (iblk m c 7 t)) (k0_pay42 (F := Ideal) (iblk m c 14 t) (outsAt0 m c t.val t.isLt).2.2.2.2.2.2.2.2.2 (iblk m c 15 t)) (iblk m c 17 t) (iblk m c 19 t) := by
  by_cases h1 : t.val % 8 = 0
  · rw [outsAt0_C m c t h (by omega) h1]
    frame_out
  · rw [outsAt0_D m c t h (by omega) h1]
    frame_out
    unfold sout0_D_2
    rw [(Memref.isWhole_whole cc0_scratch2).read_unread]
theorem o5_1024 (c : Dev nD) (t : Fin cfg0.N) (h : ¬t.val < 32) : (outsAt0 m c t.val t.isLt).2.2.2.2.2.1 = lwst1024 (iblk m c 12 t) (outsAt0 m c t.val t.isLt).2.2.2.2.2.2.2.2.1 (iblk m c 13 t) := by
  by_cases h1 : t.val % 8 = 0
  · rw [outsAt0_C m c t h (by omega) h1]
    frame_out
    rw [readCov_ld, readCov_ld] <;> decide
  · rw [outsAt0_D m c t h (by omega) h1]
    frame_out
    unfold sout0_D_1
    rw [(Memref.isWhole_whole cc0_scratch1).read_unread]
theorem o6_1024 (c : Dev nD) (t : Fin cfg0.N) (h : ¬t.val < 32) : (outsAt0 m c t.val t.isLt).2.2.2.2.2.2.1 = k0_pay43 (F := Ideal) (outsAt0 m c t.val t.isLt).2.2.2.2.2.2.2.1 (iblk m c 16 t) := by
  by_cases h1 : t.val % 8 = 0
  · rw [outsAt0_C m c t h (by omega) h1]
    frame_out
  · rw [outsAt0_D m c t h (by omega) h1]
    frame_out
    unfold sout0_D_0
    rw [(Memref.isWhole_whole cc0_scratch0).read_unread]
theorem s0_1024 (c : Dev nD) (t : Fin cfg0.N) (h : ¬t.val < 32) (h1 : t.val % 8 = 0) : (outsAt0 m c t.val t.isLt).2.2.2.2.2.2.2.1 = k0_pay25 (F := Ideal) (k0_pay24 (iblk m c 3 t) (iblk m c 9 t)) := by
  rw [outsAt0_C m c t h (by omega) h1]
  frame_out
theorem c0_1024 (c : Dev nD) (t : Fin cfg0.N) (h : ¬t.val < 32) (h1 : ¬t.val % 8 = 0) : (outsAt0 m c t.val t.isLt).2.2.2.2.2.2.2.1 = (outsAt0 m c (t.val - 1) (Nat.lt_of_le_of_lt (Nat.sub_le _ _) t.isLt)).2.2.2.2.2.2.2.1 := by
  rw [outsAt0_D m c t h (by omega) h1]
  rfl
theorem s1_1024 (c : Dev nD) (t : Fin cfg0.N) (h : ¬t.val < 32) (h1 : t.val % 8 = 0) : (outsAt0 m c t.val t.isLt).2.2.2.2.2.2.2.2.1 = k0_pay27 (F := Ideal) (k0_pay26 (iblk m c 4 t) (iblk m c 10 t)) := by
  rw [outsAt0_C m c t h (by omega) h1]
  frame_out
theorem c1_1024 (c : Dev nD) (t : Fin cfg0.N) (h : ¬t.val < 32) (h1 : ¬t.val % 8 = 0) : (outsAt0 m c t.val t.isLt).2.2.2.2.2.2.2.2.1 = (outsAt0 m c (t.val - 1) (Nat.lt_of_le_of_lt (Nat.sub_le _ _) t.isLt)).2.2.2.2.2.2.2.2.1 := by
  rw [outsAt0_D m c t h (by omega) h1]
  rfl
theorem s2_1024 (c : Dev nD) (t : Fin cfg0.N) (h : ¬t.val < 32) (h1 : t.val % 8 = 0) : (outsAt0 m c t.val t.isLt).2.2.2.2.2.2.2.2.2 = k0_pay30 (F := Ideal) (k0_pay28 (iblk m c 5 t)) (k0_pay29 (iblk m c 5 t) (iblk m c 11 t)) := by
  rw [outsAt0_C m c t h (by omega) h1]
  frame_out
theorem c2_1024 (c : Dev nD) (t : Fin cfg0.N) (h : ¬t.val < 32) (h1 : ¬t.val % 8 = 0) : (outsAt0 m c t.val t.isLt).2.2.2.2.2.2.2.2.2 = (outsAt0 m c (t.val - 1) (Nat.lt_of_le_of_lt (Nat.sub_le _ _) t.isLt)).2.2.2.2.2.2.2.2.2 := by
  rw [outsAt0_D m c t h (by omega) h1]
  rfl

end Cert.Kernel15Ideal.RwkvPrep

end

end
-- ==== Proof.RwkvPrepVal.lean ====
/- The preparation's seven outputs at a point, read at an index: the reference's terms. -/
module

public import proofs.«01_k».proof.Proof.RwkvPrepOut

@[expose] public section

set_option maxRecDepth 16384

noncomputable section

open Idealize.ShloMosaic Idealize.ShloMosaic.TcCoe Idealize.SL.Sem

namespace Cert.Kernel15Ideal.RwkvPrep
open Cert.Kernel15Ideal Cert.Kernel15Ideal.Gen
open Cert.RwkvPrep Cert.RealNums
open Cert.Reference15Ideal.RwkvPrep

variable (m : (ℓ : Loc nD τ sig) → Buf (Elt Ideal) ℓ)

/-- The shift inside a block, of rows of the batches, is the reference's. -/
theorem shift_lo (a0 : FVec Ideal S16x256x10080 .f32) (a1 : FVec Ideal S4x1024x10080 .f32) (a2 : FVec Ideal S1x7008 .f32) (n : ℕ) (h : n < 32) (i : Fin 1024) (k : Fin 7008)
    (x : Fin 1024 → EReal) (mu : EReal) (hx : ∀ a : Fin 1024, x a = row a0 a1 ⟨n / 8 * 1024 + (a : ℕ), by omega⟩ ⟨(k : ℕ), by omega⟩) (hm : mu = a2 (ix2 0 k)) :
    blkShift 256 x mu i = PR a0 a1 a2 (ix2 ⟨n / 8 * 1024 + (i : ℕ), by omega⟩ k) := by
  rw [PR_at]
  unfold blkShift shifted
  simp only [hx, hm]
  have hl : n / 8 * 1024 + (i : ℕ) < 4096 := by omega
  refine tok_congr rfl ?_ ?_ rfl
  · rw [if_pos hl]
    by_cases h0 : (i : ℕ) % 256 = 0
    · rw [if_pos h0, if_pos (by omega)]
    · rw [if_neg h0, if_neg (by omega)]
      exact congrArg (fun z => row a0 a1 z _) (Fin.ext (by dsimp only; omega))
  · rw [if_pos hl]
    by_cases h0 : (i : ℕ) % 256 = 256 - 1
    · rw [if_pos h0, if_pos (by omega)]
    · rw [if_neg h0, if_neg (by omega)]
      exact congrArg (fun z => row a0 a1 z _) (Fin.ext (by dsimp only; omega))
theorem shift_hi (a0 : FVec Ideal S16x256x10080 .f32) (a1 : FVec Ideal S4x1024x10080 .f32) (a2 : FVec Ideal S1x7008 .f32) (n : ℕ) (h : ¬n < 32) (hn : n < 64) (i : Fin 1024) (k : Fin 7008)
    (x : Fin 1024 → EReal) (mu : EReal) (hx : ∀ a : Fin 1024, x a = row a0 a1 ⟨n / 8 * 1024 + (a : ℕ), by omega⟩ ⟨(k : ℕ), by omega⟩) (hm : mu = a2 (ix2 0 k)) :
    blkShift 1024 x mu i = PR a0 a1 a2 (ix2 ⟨n / 8 * 1024 + (i : ℕ), by omega⟩ k) := by
  rw [PR_at]
  unfold blkShift shifted
  simp only [hx, hm]
  have hl : ¬n / 8 * 1024 + (i : ℕ) < 4096 := by omega
  refine tok_congr rfl ?_ ?_ rfl
  · rw [if_neg hl]
    by_cases h0 : (i : ℕ) % 1024 = 0
    · rw [if_pos h0, if_pos (by omega)]
    · rw [if_neg h0, if_neg (by omega)]
      exact congrArg (fun z => row a0 a1 z _) (Fin.ext (by dsimp only; omega))
  · rw [if_neg hl]
    by_cases h0 : (i : ℕ) % 1024 = 1024 - 1
    · rw [if_pos h0, if_pos (by omega)]
    · rw [if_neg h0, if_neg (by omega)]
      exact congrArg (fun z => row a0 a1 z _) (Fin.ext (by dsimp only; omega))

/-- The shifted rows of the arguments. -/
abbrev PRm (m : (ℓ : Loc nD τ sig) → Buf (Elt Ideal) ℓ) (c : Dev nD) : FVec Ideal Cert.Reference15Ideal.S8192x7008 .f32 := PR (m ((c : Thread nD τ).loc main_arg0)) (m ((c : Thread nD τ).loc main_arg1)) (m ((c : Thread nD τ).loc main_arg2))

/-- What the scratches hold at a point: the row block's gate inputs, decay inputs and rate inputs. -/
structure Held (c : Dev nD) (t : Fin cfg0.N) (ht : t.val < 64) : Prop where
  sg : ∀ (i : Fin 1024) (j : Fin 480), (outsAt0 m c t.val t.isLt).2.2.2.2.2.2.2.1 (ix2 i ⟨(j : ℕ), by omega⟩) = sgm (PRm m c (ix2 ⟨t.val / 8 * 1024 + (i : ℕ), by omega⟩ ⟨6144 + (j : ℕ), by omega⟩))
  tw : ∀ (i : Fin 1024) (j : Fin 256), (outsAt0 m c t.val t.isLt).2.2.2.2.2.2.2.2.1 (ix2 i j) = Ideal.tanh (PRm m c (ix2 ⟨t.val / 8 * 1024 + (i : ℕ), by omega⟩ ⟨6624 + (j : ℕ), by omega⟩))
  al : ∀ (i : Fin 1024) (j : Fin 128), (outsAt0 m c t.val t.isLt).2.2.2.2.2.2.2.2.2 (ix2 i j) = PRm m c (ix2 ⟨t.val / 8 * 1024 + (i : ℕ), by omega⟩ ⟨6880 + (j : ℕ), by omega⟩)

theorem held_A (c : Dev nD) (t : Fin cfg0.N) (ht : t.val < 64) (h : t.val < 32) (h1 : t.val % 8 = 0) : Held m c t ht := by
  refine ⟨fun i j => ?_, fun i j => ?_, fun i j => ?_⟩
  · rw [s0_256 m c t h h1]
    refine (sg256_at _ _ i _).trans (congrArg sgm ?_)
    exact shift_lo _ _ _ t.val h i ⟨6144 + (j : ℕ), by omega⟩ _ _ (fun a => pg_at m c t ht a j) (mug_at m c t ht j)
  · rw [s1_256 m c t h h1]
    refine (tw256_at _ _ i j).trans (congrArg Ideal.tanh ?_)
    exact shift_lo _ _ _ t.val h i ⟨6624 + (j : ℕ), by omega⟩ _ _ (fun a => pw_at m c t ht a j) (muw_at m c t ht j)
  · rw [s2_256 m c t h h1]
    refine (al256_at _ _ i j).trans ?_
    exact shift_lo _ _ _ t.val h i ⟨6880 + (j : ℕ), by omega⟩ _ _ (fun a => pa_at m c t ht a j) (mua_at m c t ht j)
theorem held_C (c : Dev nD) (t : Fin cfg0.N) (ht : t.val < 64) (h : ¬t.val < 32) (h1 : t.val % 8 = 0) : Held m c t ht := by
  refine ⟨fun i j => ?_, fun i j => ?_, fun i j => ?_⟩
  · rw [s0_1024 m c t h h1]
    refine (sg1024_at _ _ i _).trans (congrArg sgm ?_)
    exact shift_hi _ _ _ t.val h ht i ⟨6144 + (j : ℕ), by omega⟩ _ _ (fun a => pg_at m c t ht a j) (mug_at m c t ht j)
  · rw [s1_1024 m c t h h1]
    refine (tw1024_at _ _ i j).trans (congrArg Ideal.tanh ?_)
    exact shift_hi _ _ _ t.val h ht i ⟨6624 + (j : ℕ), by omega⟩ _ _ (fun a => pw_at m c t ht a j) (muw_at m c t ht j)
  · rw [s2_1024 m c t h h1]
    refine (al1024_at _ _ i j).trans ?_
    exact shift_hi _ _ _ t.val h ht i ⟨6880 + (j : ℕ), by omega⟩ _ _ (fun a => pa_at m c t ht a j) (mua_at m c t ht j)

theorem held (c : Dev nD) : ∀ (n : ℕ) (hn : n < cfg0.N) (h64 : n < 64), Held m c ⟨n, hn⟩ h64 := by
  intro n
  induction n with
  | zero =>
    intro hn h64
    exact held_A m c ⟨0, hn⟩ h64 (by dsimp only; omega) rfl
  | succ n ih =>
    intro hn h64
    by_cases h1 : (n + 1) % 8 = 0
    · by_cases h : n + 1 < 32
      · exact held_A m c ⟨n + 1, hn⟩ h64 h h1
      · exact held_C m c ⟨n + 1, hn⟩ h64 h h1
    · have ih' := ih (by omega) (by omega)
      have e : (n + 1) / 8 = n / 8 := by omega
      by_cases h : n + 1 < 32
      · refine ⟨fun i j => ?_, fun i j => ?_, fun i j => ?_⟩
        · rw [c0_256 m c ⟨n + 1, hn⟩ h h1]
          simp only [e]
          exact ih'.sg i j
        · rw [c1_256 m c ⟨n + 1, hn⟩ h h1]
          simp only [e]
          exact ih'.tw i j
        · rw [c2_256 m c ⟨n + 1, hn⟩ h h1]
          simp only [e]
          exact ih'.al i j
      · refine ⟨fun i j => ?_, fun i j => ?_, fun i j => ?_⟩
        · rw [c0_1024 m c ⟨n + 1, hn⟩ h h1]
          simp only [e]
          exact ih'.sg i j
        · rw [c1_1024 m c ⟨n + 1, hn⟩ h h1]
          simp only [e]
          exact ih'.tw i j
        · rw [c2_1024 m c ⟨n + 1, hn⟩ h h1]
          simp only [e]
          exact ih'.al i j

/-- A sum over 512 terms, the last 32 of which are zero. -/
theorem sum512 (f : Fin 512 → EReal) (hf : ∀ k : Fin 512, ¬(k : ℕ) < 480 → f k = 0) : (∑ k, f k) = ∑ k : Fin 480, f ⟨(k : ℕ), by omega⟩ := by
  rw [show (∑ k, f k) = ∑ k : Fin (480 + 32), f k from rfl, Fin.sum_univ_add,
    Finset.sum_eq_zero (s := Finset.univ) (f := fun k : Fin 32 => f (Fin.natAdd 480 k)) fun k _ => hf _ (by show ¬480 + (k : ℕ) < 480; omega), add_zero]
  rfl

/-- The keys and the weights the scaling of the heads reads are real numbers. -/
structure RealKeys (c : Dev nD) : Prop where
  p0 : ∀ i, IsReal ((m ((c : Thread nD τ).loc main_arg0) : FVec Ideal S16x256x10080 .f32) i)
  p1 : ∀ i, IsReal ((m ((c : Thread nD τ).loc main_arg1) : FVec Ideal S4x1024x10080 .f32) i)
  mu : ∀ i, IsReal ((m ((c : Thread nD τ).loc main_arg2) : FVec Ideal S1x7008 .f32) i)
  kk : ∀ i, IsReal ((m ((c : Thread nD τ).loc main_arg8) : FVec Ideal S1x2048 .f32) i)

theorem isReal_row (c : Dev nD) (hR : RealKeys m c) (r : Fin 8192) (k : Fin 10080) :
    IsReal (row (m ((c : Thread nD τ).loc main_arg0)) (m ((c : Thread nD τ).loc main_arg1)) r k) := by
  unfold row
  split_ifs
  · exact hR.p0 _
  · exact hR.p1 _

/-- The reference's seven results of the arguments. -/
abbrev Am (m : (ℓ : Loc nD τ sig) → Buf (Elt Ideal) ℓ) (c : Dev nD) : FVec Ideal S8192x2048 .f32 := AR (PRm m c) (m ((c : Thread nD τ).loc main_arg5)) (m ((c : Thread nD τ).loc main_arg6))
abbrev KKm (m : (ℓ : Loc nD τ sig) → Buf (Elt Ideal) ℓ) (c : Dev nD) : FVec Ideal S8192x2048 .f32 := flat (UK (HK (KR (PRm m c)) (m ((c : Thread nD τ).loc main_arg8))))

theorem r_256 (c : Dev nD) (t : Fin cfg0.N) (ht : t.val < 64) (h : t.val < 32) (i : Fin 1024) (j : Fin 256) : (outsAt0 m c t.val t.isLt).1 (ix2 i j) = RR (PRm m c) (ix2 ⟨t.val / 8 * 1024 + (i : ℕ), by omega⟩ ⟨t.val % 8 * 256 + (j : ℕ), by omega⟩) := by
  rw [o0_256 m c t h, RR_at]
  refine (r256_at _ _ i j).trans ?_
  exact shift_lo _ _ _ t.val h i ⟨t.val % 8 * 256 + (j : ℕ), by omega⟩ _ _ (fun a => pr_at m c t ht a j) (mur_at m c t ht j)
theorem v_256 (c : Dev nD) (t : Fin cfg0.N) (ht : t.val < 64) (h : t.val < 32) (i : Fin 1024) (j : Fin 256) : (outsAt0 m c t.val t.isLt).2.2.1 (ix2 i j) = VR (PRm m c) (ix2 ⟨t.val / 8 * 1024 + (i : ℕ), by omega⟩ ⟨t.val % 8 * 256 + (j : ℕ), by omega⟩) := by
  rw [o2_256 m c t h, VR_at]
  refine (v256_at _ _ i j).trans ?_
  exact shift_lo _ _ _ t.val h i ⟨4096 + (t.val % 8 * 256 + (j : ℕ)), by omega⟩ _ _ (fun a => pv_at m c t ht a j) (muv_at m c t ht j)
theorem key_256 (c : Dev nD) (t : Fin cfg0.N) (ht : t.val < 64) (h : t.val < 32) (i : Fin 1024) (j : Fin 256) : (k0_pay11 (F := Ideal) (iblk m c 1 t) (iblk m c 7 t)) (ix2 i j) = KR (PRm m c) (ix2 ⟨t.val / 8 * 1024 + (i : ℕ), by omega⟩ ⟨t.val % 8 * 256 + (j : ℕ), by omega⟩) := by
  rw [KR_at]
  refine (k256_at _ _ i j).trans ?_
  exact shift_lo _ _ _ t.val h i ⟨2048 + (t.val % 8 * 256 + (j : ℕ)), by omega⟩ _ _ (fun a => pk_at m c t ht a j) (muk_at m c t ht j)
theorem keyReal_256 (c : Dev nD) (t : Fin cfg0.N) (ht : t.val < 64) (hR : RealKeys m c) (i : Fin 1024) (j : Fin 256) : IsReal ((k0_pay11 (F := Ideal) (iblk m c 1 t) (iblk m c 7 t)) (ix2 i j)) := by
  rw [k256_at]
  refine isReal_blkShift (fun a => ?_) ?_
  · rw [pk_at m c t ht]
    exact isReal_row m c hR _ _
  · rw [muk_at m c t ht]
    exact hR.mu _
theorem rate_256 (c : Dev nD) (t : Fin cfg0.N) (ht : t.val < 64) (i : Fin 1024) (j : Fin 256) : (k0_pay19 (F := Ideal) (iblk m c 14 t) (outsAt0 m c t.val t.isLt).2.2.2.2.2.2.2.2.2 (iblk m c 15 t)) (ix2 i j) = Am m c (ix2 ⟨t.val / 8 * 1024 + (i : ℕ), by omega⟩ ⟨t.val % 8 * 256 + (j : ℕ), by omega⟩) := by
  refine (a256_at _ _ _ i j).trans (Eq.trans ?_ (AR_at _ _ _ _ _).symm)
  refine congrArg sgm (congrArg₂ (· + ·) (a0_at m c t ht j) (Finset.sum_congr rfl fun k _ => Ideal.mul_congr ?_ (aw_at m c t ht k j)))
  exact (held m c t.val t.isLt ht).al i k
theorem ko_256 (c : Dev nD) (t : Fin cfg0.N) (ht : t.val < 64) (h : t.val < 32) (i : Fin 1024) (j : Fin 256) : (outsAt0 m c t.val t.isLt).2.1 (ix2 i j) = KO (KR (PRm m c)) (Am m c) (m ((c : Thread nD τ).loc main_arg9)) (ix2 ⟨t.val / 8 * 1024 + (i : ℕ), by omega⟩ ⟨t.val % 8 * 256 + (j : ℕ), by omega⟩) := by
  rw [o1_256 m c t h, KO_at]
  refine (ko256_at _ _ _ i j).trans ?_
  rw [key_256 m c t ht h, rate_256 m c t ht, ka_at m c t ht]
theorem kk_256 (c : Dev nD) (t : Fin cfg0.N) (ht : t.val < 64) (h : t.val < 32) (hR : RealKeys m c) (hE : ∀ a b : Fin 256, ((iblk m c 19 t) : Vec Ideal S256x256 .bf16) (ix2 a b) = (if (a : ℕ) / 64 = (b : ℕ) / 64 then 1 else 0 : EReal)) (i : Fin 1024) (j : Fin 256) :
    k0_pay21 (F := Ideal) (k0_pay11 (F := Ideal) (iblk m c 1 t) (iblk m c 7 t)) (iblk m c 17 t) (iblk m c 19 t) (ix2 i j) = KKm m c (ix2 ⟨t.val / 8 * 1024 + (i : ℕ), by omega⟩ ⟨t.val % 8 * 256 + (j : ℕ), by omega⟩) := by
  refine (kk256_at _ _ _ i j).trans ?_
  rw [unitSplit_eq j (fun l => (keyReal_256 m c t ht hR i l).mul (by rw [kw_at m c t ht]; exact hR.kk _)) hE]
  have e : (⟨t.val % 8 * 256 + (j : ℕ), by omega⟩ : Fin 2048) = col ⟨t.val % 8 * 4 + (j : ℕ) / 64, by omega⟩ ⟨(j : ℕ) % 64, by omega⟩ := Fin.ext (by dsimp only; omega)
  rw [e]
  refine Eq.trans ?_ ((flat_at _ _ _ _).trans (UK_at _ _ _ _)).symm
  refine congrArg (fun f => unit f _) (funext fun d => ?_)
  rw [HK_at, key_256 m c t ht h, kw_at m c t ht]
  have e' : (⟨t.val % 8 * 256 + (inHead j d : ℕ), by omega⟩ : Fin 2048) = col ⟨t.val % 8 * 4 + (j : ℕ) / 64, by omega⟩ d := Fin.ext (by show t.val % 8 * 256 + ((j : ℕ) / 64 * 64 + (d : ℕ)) = (t.val % 8 * 4 + (j : ℕ) / 64) * 64 + (d : ℕ); omega)
  rw [e']
theorem kko_256 (c : Dev nD) (t : Fin cfg0.N) (ht : t.val < 64) (h : t.val < 32) (hR : RealKeys m c) (hE : ∀ a b : Fin 256, ((iblk m c 19 t) : Vec Ideal S256x256 .bf16) (ix2 a b) = (if (a : ℕ) / 64 = (b : ℕ) / 64 then 1 else 0 : EReal)) (i : Fin 1024) (j : Fin 256) :
    (outsAt0 m c t.val t.isLt).2.2.2.1 (ix2 i j) = KKm m c (ix2 ⟨t.val / 8 * 1024 + (i : ℕ), by omega⟩ ⟨t.val % 8 * 256 + (j : ℕ), by omega⟩) := by
  rw [o3_256 m c t h]
  exact kk_256 m c t ht h hR hE i j
theorem kka_256 (c : Dev nD) (t : Fin cfg0.N) (ht : t.val < 64) (h : t.val < 32) (hR : RealKeys m c) (hE : ∀ a b : Fin 256, ((iblk m c 19 t) : Vec Ideal S256x256 .bf16) (ix2 a b) = (if (a : ℕ) / 64 = (b : ℕ) / 64 then 1 else 0 : EReal)) (i : Fin 1024) (j : Fin 256) :
    (outsAt0 m c t.val t.isLt).2.2.2.2.1 (ix2 i j) = mulf (KKm m c) (Am m c) (ix2 ⟨t.val / 8 * 1024 + (i : ℕ), by omega⟩ ⟨t.val % 8 * 256 + (j : ℕ), by omega⟩) := by
  rw [o4_256 m c t h]
  refine (kka256_at _ _ _ _ i j).trans ?_
  exact Ideal.mul_congr (kk_256 m c t ht h hR hE i j) (rate_256 m c t ht i j)
theorem g_256 (c : Dev nD) (t : Fin cfg0.N) (ht : t.val < 64) (h : t.val < 32) (i : Fin 1024) (j : Fin 256) : (outsAt0 m c t.val t.isLt).2.2.2.2.2.2.1 (ix2 i j) = GR (PRm m c) (m ((c : Thread nD τ).loc main_arg7)) (ix2 ⟨t.val / 8 * 1024 + (i : ℕ), by omega⟩ ⟨t.val % 8 * 256 + (j : ℕ), by omega⟩) := by
  rw [o6_256 m c t h, GR_at]
  refine (g256_at _ _ i j).trans ((sum512 _ fun k hk => ?_).trans (Finset.sum_congr rfl fun k _ => Ideal.mul_congr ?_ ?_))
  · rw [gw_at m c t ht, dif_neg hk]
    exact mul_zero _
  · exact (held m c t.val t.isLt ht).sg i k
  · rw [gw_at m c t ht, dif_pos k.isLt]
theorem lw_256 (c : Dev nD) (t : Fin cfg0.N) (ht : t.val < 64) (h : t.val < 32) (d : Fin 2) (i : Fin 1024) (j : Fin 256) : (outsAt0 m c t.val t.isLt).2.2.2.2.2.1 (ix3 d i j) = LW (PRm m c) (m ((c : Thread nD τ).loc main_arg3)) (m ((c : Thread nD τ).loc main_arg4)) (ix3 d ⟨t.val / 8 * 1024 + (i : ℕ), by omega⟩ ⟨t.val % 8 * 256 + (j : ℕ), by omega⟩) := by
  rw [o5_256 m c t h]
  have hT := (held m c t.val t.isLt ht).tw
  generalize (outsAt0 m c t.val t.isLt).2.2.2.2.2.2.2.2.1 = T at hT ⊢
  unfold LW
  unfold lwst256
  canon_tiles x hx
  all_goals idx_vars x
  case piece0 =>
    replace hx0 : (d : ℕ) = 1 + (x0 : ℕ) := hx0
    obtain rfl : d = 1 := Fin.ext (by show (d : ℕ) = 1; omega)
    obtain rfl : x0 = 0 := Subsingleton.elim _ _
    obtain rfl : x1 = i := Fin.ext (by have h1 : (i : ℕ) = (x1 : ℕ) := hx1; omega)
    obtain rfl : x2 = j := Fin.ext (by have h1 : (j : ℕ) = (x2 : ℕ) := hx2; omega)
    rw [both_at1, lwd_at, dec1_at]
    refine (lwb256_at _ _ _ x1 x2).trans ?_
    refine congrArg lwOf (congrArg₂ (· + ·) ((View.ld_unit_apply_of _ _ _ _ _ (ix3 1 0 x2) (by intro a; fin_cases a <;> simp)).trans (w0_at m c t ht 1 x2)) (Finset.sum_congr rfl fun k _ => Ideal.mul_congr ?_ ((View.ld_unit_apply_of _ _ _ _ _ (ix3 1 k x2) (by intro a; fin_cases a <;> simp)).trans (w2_at m c t ht 1 k x2))))
    rw [tw_at]
    exact (View.ld_unit_apply_of _ _ _ _ _ (ix2 x1 ⟨128 + (k : ℕ), by omega⟩) (by intro a; fin_cases a <;> simp)).trans (hT x1 ⟨128 + (k : ℕ), by omega⟩)
  case piece1 =>
    replace hx0 : (d : ℕ) = (x0 : ℕ) := hx0
    obtain rfl : d = 0 := Fin.ext (by show (d : ℕ) = 0; omega)
    obtain rfl : x0 = 0 := Subsingleton.elim _ _
    obtain rfl : x1 = i := Fin.ext (by have h1 : (i : ℕ) = (x1 : ℕ) := hx1; omega)
    obtain rfl : x2 = j := Fin.ext (by have h1 : (j : ℕ) = (x2 : ℕ) := hx2; omega)
    rw [both_at0, lwd_at, dec0_at]
    refine (lwa256_at _ _ _ x1 x2).trans ?_
    refine congrArg lwOf (congrArg₂ (· + ·) ((View.ld_unit_apply_of _ _ _ _ _ (ix3 0 0 x2) (by intro a; fin_cases a <;> simp)).trans (w0_at m c t ht 0 x2)) (Finset.sum_congr rfl fun k _ => Ideal.mul_congr ?_ ((View.ld_unit_apply_of _ _ _ _ _ (ix3 0 k x2) (by intro a; fin_cases a <;> simp)).trans (w2_at m c t ht 0 k x2))))
    rw [tw_at]
    exact (View.ld_unit_apply_of _ _ _ _ _ (ix2 x1 ⟨(k : ℕ), by omega⟩) (by intro a; fin_cases a <;> simp)).trans (hT x1 ⟨(k : ℕ), by omega⟩)
theorem r_1024 (c : Dev nD) (t : Fin cfg0.N) (ht : t.val < 64) (h : ¬t.val < 32) (i : Fin 1024) (j : Fin 256) : (outsAt0 m c t.val t.isLt).1 (ix2 i j) = RR (PRm m c) (ix2 ⟨t.val / 8 * 1024 + (i : ℕ), by omega⟩ ⟨t.val % 8 * 256 + (j : ℕ), by omega⟩) := by
  rw [o0_1024 m c t h, RR_at]
  refine (r1024_at _ _ i j).trans ?_
  exact shift_hi _ _ _ t.val h ht i ⟨t.val % 8 * 256 + (j : ℕ), by omega⟩ _ _ (fun a => pr_at m c t ht a j) (mur_at m c t ht j)
theorem v_1024 (c : Dev nD) (t : Fin cfg0.N) (ht : t.val < 64) (h : ¬t.val < 32) (i : Fin 1024) (j : Fin 256) : (outsAt0 m c t.val t.isLt).2.2.1 (ix2 i j) = VR (PRm m c) (ix2 ⟨t.val / 8 * 1024 + (i : ℕ), by omega⟩ ⟨t.val % 8 * 256 + (j : ℕ), by omega⟩) := by
  rw [o2_1024 m c t h, VR_at]
  refine (v1024_at _ _ i j).trans ?_
  exact shift_hi _ _ _ t.val h ht i ⟨4096 + (t.val % 8 * 256 + (j : ℕ)), by omega⟩ _ _ (fun a => pv_at m c t ht a j) (muv_at m c t ht j)
theorem key_1024 (c : Dev nD) (t : Fin cfg0.N) (ht : t.val < 64) (h : ¬t.val < 32) (i : Fin 1024) (j : Fin 256) : (k0_pay34 (F := Ideal) (iblk m c 1 t) (iblk m c 7 t)) (ix2 i j) = KR (PRm m c) (ix2 ⟨t.val / 8 * 1024 + (i : ℕ), by omega⟩ ⟨t.val % 8 * 256 + (j : ℕ), by omega⟩) := by
  rw [KR_at]
  refine (k1024_at _ _ i j).trans ?_
  exact shift_hi _ _ _ t.val h ht i ⟨2048 + (t.val % 8 * 256 + (j : ℕ)), by omega⟩ _ _ (fun a => pk_at m c t ht a j) (muk_at m c t ht j)
theorem keyReal_1024 (c : Dev nD) (t : Fin cfg0.N) (ht : t.val < 64) (hR : RealKeys m c) (i : Fin 1024) (j : Fin 256) : IsReal ((k0_pay34 (F := Ideal) (iblk m c 1 t) (iblk m c 7 t)) (ix2 i j)) := by
  rw [k1024_at]
  refine isReal_blkShift (fun a => ?_) ?_
  · rw [pk_at m c t ht]
    exact isReal_row m c hR _ _
  · rw [muk_at m c t ht]
    exact hR.mu _
theorem rate_1024 (c : Dev nD) (t : Fin cfg0.N) (ht : t.val < 64) (i : Fin 1024) (j : Fin 256) : (k0_pay42 (F := Ideal) (iblk m c 14 t) (outsAt0 m c t.val t.isLt).2.2.2.2.2.2.2.2.2 (iblk m c 15 t)) (ix2 i j) = Am m c (ix2 ⟨t.val / 8 * 1024 + (i : ℕ), by omega⟩ ⟨t.val % 8 * 256 + (j : ℕ), by omega⟩) := by
  refine (a1024_at _ _ _ i j).trans (Eq.trans ?_ (AR_at _ _ _ _ _).symm)
  refine congrArg sgm (congrArg₂ (· + ·) (a0_at m c t ht j) (Finset.sum_congr rfl fun k _ => Ideal.mul_congr ?_ (aw_at m c t ht k j)))
  exact (held m c t.val t.isLt ht).al i k
theorem ko_1024 (c : Dev nD) (t : Fin cfg0.N) (ht : t.val < 64) (h : ¬t.val < 32) (i : Fin 1024) (j : Fin 256) : (outsAt0 m c t.val t.isLt).2.1 (ix2 i j) = KO (KR (PRm m c)) (Am m c) (m ((c : Thread nD τ).loc main_arg9)) (ix2 ⟨t.val / 8 * 1024 + (i : ℕ), by omega⟩ ⟨t.val % 8 * 256 + (j : ℕ), by omega⟩) := by
  rw [o1_1024 m c t h, KO_at]
  refine (ko1024_at _ _ _ i j).trans ?_
  rw [key_1024 m c t ht h, rate_1024 m c t ht, ka_at m c t ht]
theorem kk_1024 (c : Dev nD) (t : Fin cfg0.N) (ht : t.val < 64) (h : ¬t.val < 32) (hR : RealKeys m c) (hE : ∀ a b : Fin 256, ((iblk m c 19 t) : Vec Ideal S256x256 .bf16) (ix2 a b) = (if (a : ℕ) / 64 = (b : ℕ) / 64 then 1 else 0 : EReal)) (i : Fin 1024) (j : Fin 256) :
    k0_pay44 (F := Ideal) (k0_pay34 (F := Ideal) (iblk m c 1 t) (iblk m c 7 t)) (iblk m c 17 t) (iblk m c 19 t) (ix2 i j) = KKm m c (ix2 ⟨t.val / 8 * 1024 + (i : ℕ), by omega⟩ ⟨t.val % 8 * 256 + (j : ℕ), by omega⟩) := by
  refine (kk1024_at _ _ _ i j).trans ?_
  rw [unitSplit_eq j (fun l => (keyReal_1024 m c t ht hR i l).mul (by rw [kw_at m c t ht]; exact hR.kk _)) hE]
  have e : (⟨t.val % 8 * 256 + (j : ℕ), by omega⟩ : Fin 2048) = col ⟨t.val % 8 * 4 + (j : ℕ) / 64, by omega⟩ ⟨(j : ℕ) % 64, by omega⟩ := Fin.ext (by dsimp only; omega)
  rw [e]
  refine Eq.trans ?_ ((flat_at _ _ _ _).trans (UK_at _ _ _ _)).symm
  refine congrArg (fun f => unit f _) (funext fun d => ?_)
  rw [HK_at, key_1024 m c t ht h, kw_at m c t ht]
  have e' : (⟨t.val % 8 * 256 + (inHead j d : ℕ), by omega⟩ : Fin 2048) = col ⟨t.val % 8 * 4 + (j : ℕ) / 64, by omega⟩ d := Fin.ext (by show t.val % 8 * 256 + ((j : ℕ) / 64 * 64 + (d : ℕ)) = (t.val % 8 * 4 + (j : ℕ) / 64) * 64 + (d : ℕ); omega)
  rw [e']
theorem kko_1024 (c : Dev nD) (t : Fin cfg0.N) (ht : t.val < 64) (h : ¬t.val < 32) (hR : RealKeys m c) (hE : ∀ a b : Fin 256, ((iblk m c 19 t) : Vec Ideal S256x256 .bf16) (ix2 a b) = (if (a : ℕ) / 64 = (b : ℕ) / 64 then 1 else 0 : EReal)) (i : Fin 1024) (j : Fin 256) :
    (outsAt0 m c t.val t.isLt).2.2.2.1 (ix2 i j) = KKm m c (ix2 ⟨t.val / 8 * 1024 + (i : ℕ), by omega⟩ ⟨t.val % 8 * 256 + (j : ℕ), by omega⟩) := by
  rw [o3_1024 m c t h]
  exact kk_1024 m c t ht h hR hE i j
theorem kka_1024 (c : Dev nD) (t : Fin cfg0.N) (ht : t.val < 64) (h : ¬t.val < 32) (hR : RealKeys m c) (hE : ∀ a b : Fin 256, ((iblk m c 19 t) : Vec Ideal S256x256 .bf16) (ix2 a b) = (if (a : ℕ) / 64 = (b : ℕ) / 64 then 1 else 0 : EReal)) (i : Fin 1024) (j : Fin 256) :
    (outsAt0 m c t.val t.isLt).2.2.2.2.1 (ix2 i j) = mulf (KKm m c) (Am m c) (ix2 ⟨t.val / 8 * 1024 + (i : ℕ), by omega⟩ ⟨t.val % 8 * 256 + (j : ℕ), by omega⟩) := by
  rw [o4_1024 m c t h]
  refine (kka1024_at _ _ _ _ i j).trans ?_
  exact Ideal.mul_congr (kk_1024 m c t ht h hR hE i j) (rate_1024 m c t ht i j)
theorem g_1024 (c : Dev nD) (t : Fin cfg0.N) (ht : t.val < 64) (h : ¬t.val < 32) (i : Fin 1024) (j : Fin 256) : (outsAt0 m c t.val t.isLt).2.2.2.2.2.2.1 (ix2 i j) = GR (PRm m c) (m ((c : Thread nD τ).loc main_arg7)) (ix2 ⟨t.val / 8 * 1024 + (i : ℕ), by omega⟩ ⟨t.val % 8 * 256 + (j : ℕ), by omega⟩) := by
  rw [o6_1024 m c t h, GR_at]
  refine (g1024_at _ _ i j).trans ((sum512 _ fun k hk => ?_).trans (Finset.sum_congr rfl fun k _ => Ideal.mul_congr ?_ ?_))
  · rw [gw_at m c t ht, dif_neg hk]
    exact mul_zero _
  · exact (held m c t.val t.isLt ht).sg i k
  · rw [gw_at m c t ht, dif_pos k.isLt]
theorem lw_1024 (c : Dev nD) (t : Fin cfg0.N) (ht : t.val < 64) (h : ¬t.val < 32) (d : Fin 2) (i : Fin 1024) (j : Fin 256) : (outsAt0 m c t.val t.isLt).2.2.2.2.2.1 (ix3 d i j) = LW (PRm m c) (m ((c : Thread nD τ).loc main_arg3)) (m ((c : Thread nD τ).loc main_arg4)) (ix3 d ⟨t.val / 8 * 1024 + (i : ℕ), by omega⟩ ⟨t.val % 8 * 256 + (j : ℕ), by omega⟩) := by
  rw [o5_1024 m c t h]
  have hT := (held m c t.val t.isLt ht).tw
  generalize (outsAt0 m c t.val t.isLt).2.2.2.2.2.2.2.2.1 = T at hT ⊢
  unfold LW
  unfold lwst1024
  canon_tiles x hx
  all_goals idx_vars x
  case piece0 =>
    replace hx0 : (d : ℕ) = 1 + (x0 : ℕ) := hx0
    obtain rfl : d = 1 := Fin.ext (by show (d : ℕ) = 1; omega)
    obtain rfl : x0 = 0 := Subsingleton.elim _ _
    obtain rfl : x1 = i := Fin.ext (by have h1 : (i : ℕ) = (x1 : ℕ) := hx1; omega)
    obtain rfl : x2 = j := Fin.ext (by have h1 : (j : ℕ) = (x2 : ℕ) := hx2; omega)
    rw [both_at1, lwd_at, dec1_at]
    refine (lwb1024_at _ _ _ x1 x2).trans ?_
    refine congrArg lwOf (congrArg₂ (· + ·) ((View.ld_unit_apply_of _ _ _ _ _ (ix3 1 0 x2) (by intro a; fin_cases a <;> simp)).trans (w0_at m c t ht 1 x2)) (Finset.sum_congr rfl fun k _ => Ideal.mul_congr ?_ ((View.ld_unit_apply_of _ _ _ _ _ (ix3 1 k x2) (by intro a; fin_cases a <;> simp)).trans (w2_at m c t ht 1 k x2))))
    rw [tw_at]
    exact (View.ld_unit_apply_of _ _ _ _ _ (ix2 x1 ⟨128 + (k : ℕ), by omega⟩) (by intro a; fin_cases a <;> simp)).trans (hT x1 ⟨128 + (k : ℕ), by omega⟩)
  case piece1 =>
    replace hx0 : (d : ℕ) = (x0 : ℕ) := hx0
    obtain rfl : d = 0 := Fin.ext (by show (d : ℕ) = 0; omega)
    obtain rfl : x0 = 0 := Subsingleton.elim _ _
    obtain rfl : x1 = i := Fin.ext (by have h1 : (i : ℕ) = (x1 : ℕ) := hx1; omega)
    obtain rfl : x2 = j := Fin.ext (by have h1 : (j : ℕ) = (x2 : ℕ) := hx2; omega)
    rw [both_at0, lwd_at, dec0_at]
    refine (lwa1024_at _ _ _ x1 x2).trans ?_
    refine congrArg lwOf (congrArg₂ (· + ·) ((View.ld_unit_apply_of _ _ _ _ _ (ix3 0 0 x2) (by intro a; fin_cases a <;> simp)).trans (w0_at m c t ht 0 x2)) (Finset.sum_congr rfl fun k _ => Ideal.mul_congr ?_ ((View.ld_unit_apply_of _ _ _ _ _ (ix3 0 k x2) (by intro a; fin_cases a <;> simp)).trans (w2_at m c t ht 0 k x2))))
    rw [tw_at]
    exact (View.ld_unit_apply_of _ _ _ _ _ (ix2 x1 ⟨(k : ℕ), by omega⟩) (by intro a; fin_cases a <;> simp)).trans (hT x1 ⟨(k : ℕ), by omega⟩)

end Cert.Kernel15Ideal.RwkvPrep

end

end
-- ==== Proof.RwkvPrepFin.lean ====
/- The preparation's seven result arrays. -/
module

public import proofs.«01_k».proof.Proof.RwkvPrepVal

@[expose] public section

set_option maxRecDepth 16384

noncomputable section

open Idealize.ShloMosaic Idealize.ShloMosaic.TcCoe Idealize.SL.Sem

namespace Cert.Kernel15Ideal.RwkvPrep
open Cert.Kernel15Ideal Cert.Kernel15Ideal.Gen
open Cert.RwkvPrep Cert.RealNums
open Cert.Reference15Ideal.RwkvPrep

variable (m : (ℓ : Loc nD τ sig) → Buf (Elt Ideal) ℓ)

theorem point20 (c : Dev nD)  (t : Fin cfg0.N) (y : S1024x256.Idx) :
    (outsAt0 m c t.val t.isLt).1 y = (RR (PRm m c)) (((cfg0.win 20).blk t).view.emb y) := by
  have ht := N_lt t
  idx_vars y
  have b0 : t.val / 8 * 1024 + (y0 : ℕ) < 8192 := by omega
  have b1 : t.val % 8 * 256 + (y1 : ℕ) < 2048 := by omega
  obtain_idx j : S8192x2048 := [t.val / 8 * 1024 + (y0 : ℕ), t.val % 8 * 256 + (y1 : ℕ)] with hj
  have hJ : ((cfg0.win 20).blk t).view.emb (ix2 y0 y1) = j := by blk_ext [idxo t]
  rw [hJ]
  idx_vars j
  rw [show j0 = ⟨t.val / 8 * 1024 + (y0 : ℕ), b0⟩ from Fin.ext hj0, show j1 = ⟨t.val % 8 * 256 + (y1 : ℕ), b1⟩ from Fin.ext hj1]
  by_cases h : t.val < 32
  · exact r_256 m c t ht h y0 y1
  · exact r_1024 m c t ht h y0 y1
theorem final20 (c : Dev nD)  : (dats m 0 c).arrAt 20 (cfgs 0).N = RR (PRm m c) := by
  refine (dats m 0 c).arrAt_eq_of_covers 20 _ (by decide +kernel) fun t _ y => ?_
  blk_simp
  rw [after0_20]
  exact point20 m c t y

theorem point21 (c : Dev nD)  (t : Fin cfg0.N) (y : S1024x256.Idx) :
    (outsAt0 m c t.val t.isLt).2.1 y = (KO (KR (PRm m c)) (Am m c) (m ((c : Thread nD τ).loc main_arg9))) (((cfg0.win 21).blk t).view.emb y) := by
  have ht := N_lt t
  idx_vars y
  have b0 : t.val / 8 * 1024 + (y0 : ℕ) < 8192 := by omega
  have b1 : t.val % 8 * 256 + (y1 : ℕ) < 2048 := by omega
  obtain_idx j : S8192x2048 := [t.val / 8 * 1024 + (y0 : ℕ), t.val % 8 * 256 + (y1 : ℕ)] with hj
  have hJ : ((cfg0.win 21).blk t).view.emb (ix2 y0 y1) = j := by blk_ext [idxo t]
  rw [hJ]
  idx_vars j
  rw [show j0 = ⟨t.val / 8 * 1024 + (y0 : ℕ), b0⟩ from Fin.ext hj0, show j1 = ⟨t.val % 8 * 256 + (y1 : ℕ), b1⟩ from Fin.ext hj1]
  by_cases h : t.val < 32
  · exact ko_256 m c t ht h y0 y1
  · exact ko_1024 m c t ht h y0 y1
theorem final21 (c : Dev nD)  : (dats m 0 c).arrAt 21 (cfgs 0).N = KO (KR (PRm m c)) (Am m c) (m ((c : Thread nD τ).loc main_arg9)) := by
  refine (dats m 0 c).arrAt_eq_of_covers 21 _ (by decide +kernel) fun t _ y => ?_
  blk_simp
  rw [after0_21]
  exact point21 m c t y

theorem point22 (c : Dev nD)  (t : Fin cfg0.N) (y : S1024x256.Idx) :
    (outsAt0 m c t.val t.isLt).2.2.1 y = (VR (PRm m c)) (((cfg0.win 22).blk t).view.emb y) := by
  have ht := N_lt t
  idx_vars y
  have b0 : t.val / 8 * 1024 + (y0 : ℕ) < 8192 := by omega
  have b1 : t.val % 8 * 256 + (y1 : ℕ) < 2048 := by omega
  obtain_idx j : S8192x2048 := [t.val / 8 * 1024 + (y0 : ℕ), t.val % 8 * 256 + (y1 : ℕ)] with hj
  have hJ : ((cfg0.win 22).blk t).view.emb (ix2 y0 y1) = j := by blk_ext [idxo t]
  rw [hJ]
  idx_vars j
  rw [show j0 = ⟨t.val / 8 * 1024 + (y0 : ℕ), b0⟩ from Fin.ext hj0, show j1 = ⟨t.val % 8 * 256 + (y1 : ℕ), b1⟩ from Fin.ext hj1]
  by_cases h : t.val < 32
  · exact v_256 m c t ht h y0 y1
  · exact v_1024 m c t ht h y0 y1
theorem final22 (c : Dev nD)  : (dats m 0 c).arrAt 22 (cfgs 0).N = VR (PRm m c) := by
  refine (dats m 0 c).arrAt_eq_of_covers 22 _ (by decide +kernel) fun t _ y => ?_
  blk_simp
  rw [after0_22]
  exact point22 m c t y

theorem point23 (c : Dev nD) (hR : RealKeys m c) (hE : ∀ (t : Fin cfg0.N) (a b : Fin 256), ((iblk m c 19 t) : Vec Ideal S256x256 .bf16) (ix2 a b) = (if (a : ℕ) / 64 = (b : ℕ) / 64 then 1 else 0 : EReal)) (t : Fin cfg0.N) (y : S1024x256.Idx) :
    (outsAt0 m c t.val t.isLt).2.2.2.1 y = (KKm m c) (((cfg0.win 23).blk t).view.emb y) := by
  have ht := N_lt t
  idx_vars y
  have b0 : t.val / 8 * 1024 + (y0 : ℕ) < 8192 := by omega
  have b1 : t.val % 8 * 256 + (y1 : ℕ) < 2048 := by omega
  obtain_idx j : S8192x2048 := [t.val / 8 * 1024 + (y0 : ℕ), t.val % 8 * 256 + (y1 : ℕ)] with hj
  have hJ : ((cfg0.win 23).blk t).view.emb (ix2 y0 y1) = j := by blk_ext [idxo t]
  rw [hJ]
  idx_vars j
  rw [show j0 = ⟨t.val / 8 * 1024 + (y0 : ℕ), b0⟩ from Fin.ext hj0, show j1 = ⟨t.val % 8 * 256 + (y1 : ℕ), b1⟩ from Fin.ext hj1]
  by_cases h : t.val < 32
  · exact kko_256 m c t ht h hR (hE t) y0 y1
  · exact kko_1024 m c t ht h hR (hE t) y0 y1
theorem final23 (c : Dev nD) (hR : RealKeys m c) (hE : ∀ (t : Fin cfg0.N) (a b : Fin 256), ((iblk m c 19 t) : Vec Ideal S256x256 .bf16) (ix2 a b) = (if (a : ℕ) / 64 = (b : ℕ) / 64 then 1 else 0 : EReal)) : (dats m 0 c).arrAt 23 (cfgs 0).N = KKm m c := by
  refine (dats m 0 c).arrAt_eq_of_covers 23 _ (by decide +kernel) fun t _ y => ?_
  blk_simp
  rw [after0_23]
  exact point23 m c hR hE t y

theorem point24 (c : Dev nD) (hR : RealKeys m c) (hE : ∀ (t : Fin cfg0.N) (a b : Fin 256), ((iblk m c 19 t) : Vec Ideal S256x256 .bf16) (ix2 a b) = (if (a : ℕ) / 64 = (b : ℕ) / 64 then 1 else 0 : EReal)) (t : Fin cfg0.N) (y : S1024x256.Idx) :
    (outsAt0 m c t.val t.isLt).2.2.2.2.1 y = (mulf (KKm m c) (Am m c)) (((cfg0.win 24).blk t).view.emb y) := by
  have ht := N_lt t
  idx_vars y
  have b0 : t.val / 8 * 1024 + (y0 : ℕ) < 8192 := by omega
  have b1 : t.val % 8 * 256 + (y1 : ℕ) < 2048 := by omega
  obtain_idx j : S8192x2048 := [t.val / 8 * 1024 + (y0 : ℕ), t.val % 8 * 256 + (y1 : ℕ)] with hj
  have hJ : ((cfg0.win 24).blk t).view.emb (ix2 y0 y1) = j := by blk_ext [idxo t]
  rw [hJ]
  idx_vars j
  rw [show j0 = ⟨t.val / 8 * 1024 + (y0 : ℕ), b0⟩ from Fin.ext hj0, show j1 = ⟨t.val % 8 * 256 + (y1 : ℕ), b1⟩ from Fin.ext hj1]
  by_cases h : t.val < 32
  · exact kka_256 m c t ht h hR (hE t) y0 y1
  · exact kka_1024 m c t ht h hR (hE t) y0 y1
theorem final24 (c : Dev nD) (hR : RealKeys m c) (hE : ∀ (t : Fin cfg0.N) (a b : Fin 256), ((iblk m c 19 t) : Vec Ideal S256x256 .bf16) (ix2 a b) = (if (a : ℕ) / 64 = (b : ℕ) / 64 then 1 else 0 : EReal)) : (dats m 0 c).arrAt 24 (cfgs 0).N = mulf (KKm m c) (Am m c) := by
  refine (dats m 0 c).arrAt_eq_of_covers 24 _ (by decide +kernel) fun t _ y => ?_
  blk_simp
  rw [after0_24]
  exact point24 m c hR hE t y

theorem point25 (c : Dev nD)  (t : Fin cfg0.N) (y : S2x1024x256.Idx) :
    (outsAt0 m c t.val t.isLt).2.2.2.2.2.1 y = (LW (PRm m c) (m ((c : Thread nD τ).loc main_arg3)) (m ((c : Thread nD τ).loc main_arg4))) (((cfg0.win 25).blk t).view.emb y) := by
  have ht := N_lt t
  idx_vars y
  have b0 : t.val / 8 * 1024 + (y1 : ℕ) < 8192 := by omega
  have b1 : t.val % 8 * 256 + (y2 : ℕ) < 2048 := by omega
  obtain_idx j : S2x8192x2048 := [(y0 : ℕ), t.val / 8 * 1024 + (y1 : ℕ), t.val % 8 * 256 + (y2 : ℕ)] with hj
  have hJ : ((cfg0.win 25).blk t).view.emb (ix3 y0 y1 y2) = j := by blk_ext [idxo t]
  rw [hJ]
  idx_vars j
  rw [show j0 = y0 from Fin.ext hj0, show j1 = ⟨t.val / 8 * 1024 + (y1 : ℕ), b0⟩ from Fin.ext hj1, show j2 = ⟨t.val % 8 * 256 + (y2 : ℕ), b1⟩ from Fin.ext hj2]
  by_cases h : t.val < 32
  · exact lw_256 m c t ht h y0 y1 y2
  · exact lw_1024 m c t ht h y0 y1 y2
theorem final25 (c : Dev nD)  : (dats m 0 c).arrAt 25 (cfgs 0).N = LW (PRm m c) (m ((c : Thread nD τ).loc main_arg3)) (m ((c : Thread nD τ).loc main_arg4)) := by
  refine (dats m 0 c).arrAt_eq_of_covers 25 _ (by decide +kernel) fun t _ y => ?_
  blk_simp
  rw [after0_25]
  exact point25 m c t y

theorem point26 (c : Dev nD)  (t : Fin cfg0.N) (y : S1024x256.Idx) :
    (outsAt0 m c t.val t.isLt).2.2.2.2.2.2.1 y = (GR (PRm m c) (m ((c : Thread nD τ).loc main_arg7))) (((cfg0.win 26).blk t).view.emb y) := by
  have ht := N_lt t
  idx_vars y
  have b0 : t.val / 8 * 1024 + (y0 : ℕ) < 8192 := by omega
  have b1 : t.val % 8 * 256 + (y1 : ℕ) < 2048 := by omega
  obtain_idx j : S8192x2048 := [t.val / 8 * 1024 + (y0 : ℕ), t.val % 8 * 256 + (y1 : ℕ)] with hj
  have hJ : ((cfg0.win 26).blk t).view.emb (ix2 y0 y1) = j := by blk_ext [idxo t]
  rw [hJ]
  idx_vars j
  rw [show j0 = ⟨t.val / 8 * 1024 + (y0 : ℕ), b0⟩ from Fin.ext hj0, show j1 = ⟨t.val % 8 * 256 + (y1 : ℕ), b1⟩ from Fin.ext hj1]
  by_cases h : t.val < 32
  · exact g_256 m c t ht h y0 y1
  · exact g_1024 m c t ht h y0 y1
theorem final26 (c : Dev nD)  : (dats m 0 c).arrAt 26 (cfgs 0).N = GR (PRm m c) (m ((c : Thread nD τ).loc main_arg7)) := by
  refine (dats m 0 c).arrAt_eq_of_covers 26 _ (by decide +kernel) fun t _ y => ?_
  blk_simp
  rw [after0_26]
  exact point26 m c t y

end Cert.Kernel15Ideal.RwkvPrep

end

end
-- ==== Proof.RwkvPrepLit.lean ====
/- The matrix the kernel is given: ones inside each head of 64, read at an index. -/
module

public import proofs.«01_k».proof.Kernel15Ideal
public import Idealize.ShloMosaic.Lib.Pointwise

@[expose] public section

set_option maxRecDepth 100000

noncomputable section

open Idealize.ShloMosaic

namespace Cert.Kernel15Ideal.RwkvPrep
open Cert.Kernel15Ideal

theorem lit_0 : ∀ a : Fin 16, ∀ b : Fin 256, lit0 ⟨(0 + (a : ℕ)) * 256 + (b : ℕ), by omega⟩ = if (0 + (a : ℕ)) / 64 = (b : ℕ) / 64 then 0x3F800000#32 else 0x00000000#32 := by
  decide +kernel
theorem lit_1 : ∀ a : Fin 16, ∀ b : Fin 256, lit0 ⟨(16 + (a : ℕ)) * 256 + (b : ℕ), by omega⟩ = if (16 + (a : ℕ)) / 64 = (b : ℕ) / 64 then 0x3F800000#32 else 0x00000000#32 := by
  decide +kernel
theorem lit_2 : ∀ a : Fin 16, ∀ b : Fin 256, lit0 ⟨(32 + (a : ℕ)) * 256 + (b : ℕ), by omega⟩ = if (32 + (a : ℕ)) / 64 = (b : ℕ) / 64 then 0x3F800000#32 else 0x00000000#32 := by
  decide +kernel
theorem lit_3 : ∀ a : Fin 16, ∀ b : Fin 256, lit0 ⟨(48 + (a : ℕ)) * 256 + (b : ℕ), by omega⟩ = if (48 + (a : ℕ)) / 64 = (b : ℕ) / 64 then 0x3F800000#32 else 0x00000000#32 := by
  decide +kernel
theorem lit_4 : ∀ a : Fin 16, ∀ b : Fin 256, lit0 ⟨(64 + (a : ℕ)) * 256 + (b : ℕ), by omega⟩ = if (64 + (a : ℕ)) / 64 = (b : ℕ) / 64 then 0x3F800000#32 else 0x00000000#32 := by
  decide +kernel
theorem lit_5 : ∀ a : Fin 16, ∀ b : Fin 256, lit0 ⟨(80 + (a : ℕ)) * 256 + (b : ℕ), by omega⟩ = if (80 + (a : ℕ)) / 64 = (b : ℕ) / 64 then 0x3F800000#32 else 0x00000000#32 := by
  decide +kernel
theorem lit_6 : ∀ a : Fin 16, ∀ b : Fin 256, lit0 ⟨(96 + (a : ℕ)) * 256 + (b : ℕ), by omega⟩ = if (96 + (a : ℕ)) / 64 = (b : ℕ) / 64 then 0x3F800000#32 else 0x00000000#32 := by
  decide +kernel
theorem lit_7 : ∀ a : Fin 16, ∀ b : Fin 256, lit0 ⟨(112 + (a : ℕ)) * 256 + (b : ℕ), by omega⟩ = if (112 + (a : ℕ)) / 64 = (b : ℕ) / 64 then 0x3F800000#32 else 0x00000000#32 := by
  decide +kernel
theorem lit_8 : ∀ a : Fin 16, ∀ b : Fin 256, lit0 ⟨(128 + (a : ℕ)) * 256 + (b : ℕ), by omega⟩ = if (128 + (a : ℕ)) / 64 = (b : ℕ) / 64 then 0x3F800000#32 else 0x00000000#32 := by
  decide +kernel
theorem lit_9 : ∀ a : Fin 16, ∀ b : Fin 256, lit0 ⟨(144 + (a : ℕ)) * 256 + (b : ℕ), by omega⟩ = if (144 + (a : ℕ)) / 64 = (b : ℕ) / 64 then 0x3F800000#32 else 0x00000000#32 := by
  decide +kernel
theorem lit_10 : ∀ a : Fin 16, ∀ b : Fin 256, lit0 ⟨(160 + (a : ℕ)) * 256 + (b : ℕ), by omega⟩ = if (160 + (a : ℕ)) / 64 = (b : ℕ) / 64 then 0x3F800000#32 else 0x00000000#32 := by
  decide +kernel
theorem lit_11 : ∀ a : Fin 16, ∀ b : Fin 256, lit0 ⟨(176 + (a : ℕ)) * 256 + (b : ℕ), by omega⟩ = if (176 + (a : ℕ)) / 64 = (b : ℕ) / 64 then 0x3F800000#32 else 0x00000000#32 := by
  decide +kernel
theorem lit_12 : ∀ a : Fin 16, ∀ b : Fin 256, lit0 ⟨(192 + (a : ℕ)) * 256 + (b : ℕ), by omega⟩ = if (192 + (a : ℕ)) / 64 = (b : ℕ) / 64 then 0x3F800000#32 else 0x00000000#32 := by
  decide +kernel
theorem lit_13 : ∀ a : Fin 16, ∀ b : Fin 256, lit0 ⟨(208 + (a : ℕ)) * 256 + (b : ℕ), by omega⟩ = if (208 + (a : ℕ)) / 64 = (b : ℕ) / 64 then 0x3F800000#32 else 0x00000000#32 := by
  decide +kernel
theorem lit_14 : ∀ a : Fin 16, ∀ b : Fin 256, lit0 ⟨(224 + (a : ℕ)) * 256 + (b : ℕ), by omega⟩ = if (224 + (a : ℕ)) / 64 = (b : ℕ) / 64 then 0x3F800000#32 else 0x00000000#32 := by
  decide +kernel
theorem lit_15 : ∀ a : Fin 16, ∀ b : Fin 256, lit0 ⟨(240 + (a : ℕ)) * 256 + (b : ℕ), by omega⟩ = if (240 + (a : ℕ)) / 64 = (b : ℕ) / 64 then 0x3F800000#32 else 0x00000000#32 := by
  decide +kernel

theorem lit_at (a b : Fin 256) (n : Fin 65536) (hn : (n : ℕ) = (a : ℕ) * 256 + (b : ℕ)) : lit0 n = if (a : ℕ) / 64 = (b : ℕ) / 64 then 0x3F800000#32 else 0x00000000#32 := by
  obtain ⟨n, hn'⟩ := n
  dsimp only at hn
  subst hn
  have e := Nat.div_add_mod (a : ℕ) 16
  have hr : (a : ℕ) % 16 < 16 := Nat.mod_lt _ (by omega)
  have hq : (a : ℕ) / 16 < 16 := by omega
  generalize (a : ℕ) / 16 = q at e hq
  generalize (a : ℕ) % 16 = r at e hr
  interval_cases q
  · have h := lit_0 ⟨r, hr⟩ b
    dsimp only at h
    have e' : (a : ℕ) = 0 + r := by omega
    simp only [e']
    exact h
  · have h := lit_1 ⟨r, hr⟩ b
    dsimp only at h
    have e' : (a : ℕ) = 16 + r := by omega
    simp only [e']
    exact h
  · have h := lit_2 ⟨r, hr⟩ b
    dsimp only at h
    have e' : (a : ℕ) = 32 + r := by omega
    simp only [e']
    exact h
  · have h := lit_3 ⟨r, hr⟩ b
    dsimp only at h
    have e' : (a : ℕ) = 48 + r := by omega
    simp only [e']
    exact h
  · have h := lit_4 ⟨r, hr⟩ b
    dsimp only at h
    have e' : (a : ℕ) = 64 + r := by omega
    simp only [e']
    exact h
  · have h := lit_5 ⟨r, hr⟩ b
    dsimp only at h
    have e' : (a : ℕ) = 80 + r := by omega
    simp only [e']
    exact h
  · have h := lit_6 ⟨r, hr⟩ b
    dsimp only at h
    have e' : (a : ℕ) = 96 + r := by omega
    simp only [e']
    exact h
  · have h := lit_7 ⟨r, hr⟩ b
    dsimp only at h
    have e' : (a : ℕ) = 112 + r := by omega
    simp only [e']
    exact h
  · have h := lit_8 ⟨r, hr⟩ b
    dsimp only at h
    have e' : (a : ℕ) = 128 + r := by omega
    simp only [e']
    exact h
  · have h := lit_9 ⟨r, hr⟩ b
    dsimp only at h
    have e' : (a : ℕ) = 144 + r := by omega
    simp only [e']
    exact h
  · have h := lit_10 ⟨r, hr⟩ b
    dsimp only at h
    have e' : (a : ℕ) = 160 + r := by omega
    simp only [e']
    exact h
  · have h := lit_11 ⟨r, hr⟩ b
    dsimp only at h
    have e' : (a : ℕ) = 176 + r := by omega
    simp only [e']
    exact h
  · have h := lit_12 ⟨r, hr⟩ b
    dsimp only at h
    have e' : (a : ℕ) = 192 + r := by omega
    simp only [e']
    exact h
  · have h := lit_13 ⟨r, hr⟩ b
    dsimp only at h
    have e' : (a : ℕ) = 208 + r := by omega
    simp only [e']
    exact h
  · have h := lit_14 ⟨r, hr⟩ b
    dsimp only at h
    have e' : (a : ℕ) = 224 + r := by omega
    simp only [e']
    exact h
  · have h := lit_15 ⟨r, hr⟩ b
    dsimp only at h
    have e' : (a : ℕ) = 240 + r := by omega
    simp only [e']
    exact h

end Cert.Kernel15Ideal.RwkvPrep

end

end
-- ==== Proof.RwkvPrepE.lean ====
/- The blocks of the matrix of heads. -/
module

public import proofs.«01_k».proof.Proof.RwkvPrepIn
public import proofs.«01_k».proof.Proof.RwkvPrepLit

@[expose] public section

set_option maxRecDepth 16384

noncomputable section

open Idealize.ShloMosaic Idealize.ShloMosaic.TcCoe Idealize.SL.Sem

namespace Cert.Kernel15Ideal.RwkvPrep
open Cert.Kernel15Ideal Cert.Kernel15Ideal.Gen
open Cert.RwkvPrep
open Cert.Reference15Ideal.RwkvPrep (row shifted PR PR_at)

variable (m : (ℓ : Loc nD τ sig) → Buf (Elt Ideal) ℓ)

/-- ONES INSIDE EACH HEAD. -/
theorem E_at (a b : Fin 256) : (truncf .bf16 (fun i => FloatOps.ofBits .f32 (lit0 (S256x256.rowMajor i)) : FVec Ideal S256x256 .f32) bitsLt_bf16_f32 : FVec Ideal S256x256 .bf16) (ix2 a b)
    = if (a : ℕ) / 64 = (b : ℕ) / 64 then 1 else 0 := by
  have h : (S256x256.rowMajor (ix2 a b)).val = (a : ℕ) * 256 + (b : ℕ) := Shape.rowMajor_val_two _
  show Ideal.ofBits .f32 (lit0 (S256x256.rowMajor (ix2 a b))) = _
  rw [lit_at a b _ h]
  split_ifs
  · exact Ideal.ofBits_one_f32
  · exact Ideal.ofBits_zero_f32
theorem e_blk (c : Dev nD) (t : Fin cfg0.N) (a b : Fin 256) :
    (iblk m c 19 t : Vec Ideal S256x256 .bf16) (ix2 a b) = (if (a : ℕ) / 64 = (b : ℕ) / 64 then 1 else 0 : EReal) := by
  have h : (iblk m c 19 t : Vec Ideal S256x256 .bf16) (ix2 a b) = V m c main_v39 (ix2 a b : S256x256.Idx) := by
    blk_point [iblk, idx t]
  rw [h, V_e]
  exact E_at a b

end Cert.Kernel15Ideal.RwkvPrep

end

end
-- ==== Proof.RwkvPrepPre.lean ====
/- What the precondition of the preparation says of the arguments. -/
module

public import proofs.«01_k».proof.Proof.RwkvPrepVal
public import proofs.«01_k».proof.Proof.Gen.Pre_finite_keys_in
public import Idealize.ShloMosaic.Lib.ReduceAll

@[expose] public section

set_option maxRecDepth 16384

noncomputable section

open Idealize.ShloMosaic Idealize.ShloMosaic.TcCoe Idealize.SL.Sem

namespace Cert.Kernel15Ideal.RwkvPrep
open Cert.Kernel15Ideal
open Cert.RealNums

theorem keys_of_pre (a0 : FVec Ideal S16x256x10080 .f32) (a1 : FVec Ideal S4x1024x10080 .f32) (a2 : FVec Ideal S1x7008 .f32) (a3 : FVec Ideal S1x2x2048 .f32)
    (a4 : FVec Ideal S1x2x128x2048 .f32) (a5 : FVec Ideal S1x2048 .f32) (a6 : FVec Ideal S1x128x2048 .f32) (a7 : FVec Ideal S1x480x2048 .f32) (a8 a9 : FVec Ideal S1x2048 .f32)
    (h : Cert.Pre_finite_keys_in.fn (F := Ideal) a0 a1 a2 a3 a4 a5 a6 a7 a8 a9 = fun _ => 1#1) :
    (∀ i, IsReal (a0 i)) ∧ (∀ i, IsReal (a1 i)) ∧ (∀ i, IsReal (a2 i)) ∧ ∀ i, IsReal (a8 i) := by
  have h0 := congrFun h ix0
  unfold Cert.Pre_finite_keys_in.fn Cert.Pre_finite_keys_in.fn_part1 at h0
  dsimp only at h0
  obtain ⟨h012, h3⟩ := IntOp.andi_eq_one.1 h0
  obtain ⟨h01, h2⟩ := IntOp.andi_eq_one.1 h012
  obtain ⟨h00, h1⟩ := IntOp.andi_eq_one.1 h01
  exact ⟨fun i => real_of_abs_lt (Host.reduce_andi_all _ _ _ _ _ h00 i), fun i => real_of_abs_lt (Host.reduce_andi_all _ _ _ _ _ h1 i),
    fun i => real_of_abs_lt (Host.reduce_andi_all _ _ _ _ _ h2 i), fun i => real_of_abs_lt (Host.reduce_andi_all _ _ _ _ _ h3 i)⟩

theorem realKeys_of_pre (m : (ℓ : Loc nD τ sig) → Buf (Elt Ideal) ℓ) (c : Dev nD)
    (h : Cert.Pre_finite_keys_in.fn (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      (m ((c.tc : Thread nD τ).loc main_arg7)) (m ((c.tc : Thread nD τ).loc main_arg8)) (m ((c.tc : Thread nD τ).loc main_arg9)) = fun _ => 1#1) : RealKeys m c := by
  obtain ⟨h0, h1, h2, h8⟩ := keys_of_pre _ _ _ _ _ _ _ _ _ _ h
  exact ⟨h0, h1, h2, h8⟩

end Cert.Kernel15Ideal.RwkvPrep

end

end
-- ==== Proof.RwkvPrepRun.lean ====
/- What the kernel's run of the preparation leaves in its seven result arrays. -/
module

public import proofs.«01_k».proof.Proof.RwkvPrepFin
public import proofs.«01_k».proof.Proof.RwkvPrepE
public import proofs.«01_k».proof.Proof.RwkvPrepPre
public import proofs.«01_k».proof.Proof.RwkvPrepFrame
public import Idealize.ShloMosaic.Lib.Claim

@[expose] public section

set_option maxRecDepth 16384

noncomputable section

open Idealize.ShloMosaic Idealize.ShloMosaic.TcCoe Idealize.SL.Sem

namespace Cert.Kernel15Ideal.RwkvPrep
open Cert.Kernel15Ideal
open Cert.Reference15Ideal.RwkvPrep

set_option maxHeartbeats 4000000 in
/-- At real keys, the seven arrays are those of the reference's mathematics. -/
theorem kernel15_run (m : (ℓ : Loc nD τ sig) → Buf (Elt Ideal) ℓ) (g : Dev nD → PrngReg) (hR : ∀ c, RealKeys m c) :
    θ_run defs (onTc (τ := τ) (main (F := Ideal))) ⟨m, fun _ => 0, g⟩ (fun r => ∀ c : Dev nD,
      r.2.mem ((c.tc : Thread nD τ).loc main_v40_0) = RR (PRm m c)
      ∧ r.2.mem ((c.tc : Thread nD τ).loc main_v40_1) = KO (KR (PRm m c)) (Am m c) (m ((c.tc : Thread nD τ).loc main_arg9))
      ∧ r.2.mem ((c.tc : Thread nD τ).loc main_v40_2) = VR (PRm m c)
      ∧ r.2.mem ((c.tc : Thread nD τ).loc main_v40_3) = KKm m c
      ∧ r.2.mem ((c.tc : Thread nD τ).loc main_v40_4) = mulf (KKm m c) (Am m c)
      ∧ r.2.mem ((c.tc : Thread nD τ).loc main_v40_5) = LW (PRm m c) (m ((c.tc : Thread nD τ).loc main_arg3)) (m ((c.tc : Thread nD τ).loc main_arg4))
      ∧ r.2.mem ((c.tc : Thread nD τ).loc main_v40_6) = GR (PRm m c) (m ((c.tc : Thread nD τ).loc main_arg7))) :=
  (θ_run defs _ _).mono (fun _ h c =>
    ⟨((h c).1 20).trans (final20 m c), ((h c).1 21).trans (final21 m c), ((h c).1 22).trans (final22 m c),
      ((h c).1 23).trans (final23 m c (hR c) (fun t a b => e_blk m c t a b)),
      ((h c).1 24).trans (final24 m c (hR c) (fun t a b => e_blk m c t a b)),
      ((h c).1 25).trans (final25 m c), ((h c).1 26).trans (final26 m c)⟩) (Gen.run_main m g)

end Cert.Kernel15Ideal.RwkvPrep

end

end
-- ==== Proof.RwkvPrepRefRun.lean ====
/- What the reference's run of the preparation leaves in its seven result arrays. -/
module

public import proofs.«01_k».proof.Proof.RwkvPrepRef
public import proofs.«01_k».proof.Proof.RwkvPrepRefOps
public import Idealize.ShloMosaic.Lib.Claim

@[expose] public section

set_option maxRecDepth 16384

noncomputable section

open Idealize.ShloMosaic Idealize.ShloMosaic.TcCoe Idealize.SL.Sem

namespace Cert.Reference15Ideal.RwkvPrep
open Cert.Reference15Ideal

variable (m : (ℓ : Loc nD τ sig) → Buf (Elt Ideal) ℓ)

/-- The shifted rows and the learning rate of the arguments. -/
abbrev PRr (m : (ℓ : Loc nD τ sig) → Buf (Elt Ideal) ℓ) (c : Dev nD) : FVec Ideal S8192x7008 .f32 :=
  PR (m ((c.tc : Thread nD τ).loc main_arg0)) (m ((c.tc : Thread nD τ).loc main_arg1)) (m ((c.tc : Thread nD τ).loc main_arg2))
abbrev ARr (m : (ℓ : Loc nD τ sig) → Buf (Elt Ideal) ℓ) (c : Dev nD) : FVec Ideal S8192x2048 .f32 :=
  AR (PRr m c) (m ((c.tc : Thread nD τ).loc main_arg5)) (m ((c.tc : Thread nD τ).loc main_arg6))
abbrev KKr (m : (ℓ : Loc nD τ sig) → Buf (Elt Ideal) ℓ) (c : Dev nD) : FVec Ideal S8192x2048 .f32 :=
  flat (UK (HK (KR (PRr m c)) (m ((c.tc : Thread nD τ).loc main_arg8))))

set_option maxHeartbeats 4000000 in
theorem reference15_run (g : Dev nD → PrngReg) :
    θ_run (defs (F := Ideal)) (onTc (τ := τ) (main (F := Ideal))) ⟨m, fun _ => 0, g⟩ (fun r => ∀ c : Dev nD,
      r.2.mem ((c.tc : Thread nD τ).loc main_v35) = RR (PRr m c)
      ∧ r.2.mem ((c.tc : Thread nD τ).loc main_v119) = KO (KR (PRr m c)) (ARr m c) (m ((c.tc : Thread nD τ).loc main_arg9))
      ∧ r.2.mem ((c.tc : Thread nD τ).loc main_v37) = VR (PRr m c)
      ∧ r.2.mem ((c.tc : Thread nD τ).loc main_v110) = KKr m c
      ∧ r.2.mem ((c.tc : Thread nD τ).loc main_v120) = mulf (KKr m c) (ARr m c)
      ∧ r.2.mem ((c.tc : Thread nD τ).loc main_v76) = LW (PRr m c) (m ((c.tc : Thread nD τ).loc main_arg3)) (m ((c.tc : Thread nD τ).loc main_arg4))
      ∧ r.2.mem ((c.tc : Thread nD τ).loc main_v96) = GR (PRr m c) (m ((c.tc : Thread nD τ).loc main_arg7))) :=
  (θ_run _ _ _).mono (fun r h c => by
    obtain ⟨h0, h1, h2, h3, h4, h5, h6, -⟩ := h c
    exact ⟨h0.trans rfl, h1.trans rfl, h2.trans rfl, h3.trans rfl, h4.trans rfl, h5.trans rfl, h6.trans rfl⟩) (Value.run m g)

end Cert.Reference15Ideal.RwkvPrep

end

end
-- ==== Proof.ClaimRwkvPrep.lean ====
/- The preparation of the recurrence: the kernel and the reference leave the same seven arrays. -/
module

public import proofs.«01_k».proof.Proof.RwkvPrepRun
public import proofs.«01_k».proof.Proof.RwkvPrepRefRun
public import proofs.«01_k».proof.Defs
public import Idealize.ShloMosaic.Lib.Claim

@[expose] public section

set_option maxRecDepth 16384

noncomputable section

namespace Cert.Proof

open Idealize.ShloMosaic Idealize.SL.Sem
open Cert.Reference15Ideal.RwkvPrep Cert.Kernel15Ideal.RwkvPrep

set_option maxHeartbeats 8000000 in
/-- The preparation of the recurrence: kernel and reference agree. -/
theorem algebraic_rwkv_prep : Cert.algebraic_Kernel15Ideal_Reference15Ideal_pre_finite_keys_in := by
  intro m g m' g' hpre hagree
  refine ⟨fun c => RR (PRm m c), fun c => KO (KR (PRm m c)) (Am m c) (m (c.tc.loc Cert.Kernel15Ideal.main_arg9)), fun c => VR (PRm m c),
    fun c => KKm m c, fun c => mulf (KKm m c) (Am m c),
    fun c => LW (PRm m c) (m (c.tc.loc Cert.Kernel15Ideal.main_arg3)) (m (c.tc.loc Cert.Kernel15Ideal.main_arg4)),
    fun c => GR (PRm m c) (m (c.tc.loc Cert.Kernel15Ideal.main_arg7)), ?_, ?_⟩
  · have hR : ∀ c, RealKeys m c := fun c => realKeys_of_pre m c (hpre c)
    refine (θ_run _ _ _).mono (fun r h c => ?_) (θ_run_and (kernel15_run m g hR) (Cert.Kernel15Ideal.Gen.unchanged m g))
    obtain ⟨h0, h1, h2, h3, h4, h5, h6⟩ := h.1 c
    exact ⟨h0, h1, h2, h3, h4, h5, h6, h.2 c⟩
  · refine (θ_run _ _ _).mono (fun r h c => ?_) (θ_run_and (reference15_run m' g') (Cert.Reference15Ideal.Value.run m' g'))
    obtain ⟨a0, a1, a2, a3, a4, a5, a6, a7, a8, a9⟩ := hagree c
    obtain ⟨h0, h1, h2, h3, h4, h5, h6⟩ := h.1 c
    have hP : PRr m' c = PRm m c := by
      unfold PRr PRm
      rw [a0, a1, a2]
    have hA : ARr m' c = Am m c := by
      unfold ARr Am
      rw [hP, a5, a6]
    have hK : KKr m' c = KKm m c := by
      unfold KKr KKm
      rw [hP, a8]
    refine ⟨h0.trans ?_, h1.trans ?_, h2.trans ?_, h3.trans hK, h4.trans ?_, h5.trans ?_, h6.trans ?_, (h.2 c).2.2.2.2.2.2.2⟩
    · rw [hP]
    · rw [hP, hA, a9]
    · rw [hP]
    · rw [hK, hA]
    · rw [hP, a3, a4]
    · rw [hP, a7]

end Cert.Proof

end

end
-- ==== Proof.lean ====
/- The whole claim: the frames of every program, and the equality of each kernel with its reference. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Kernel14.Frame
public import proofs.«01_k».proof.Proof.Gen.Kernel14Ideal.Frame
public import proofs.«01_k».proof.Proof.Gen.Reference14Ideal.Run
public import proofs.«01_k».proof.Proof.RwkvDevFrame
public import proofs.«01_k».proof.Proof.RwkvPrepFrame
public import proofs.«01_k».proof.Proof.RwkvPrepRefOps
public import proofs.«01_k».proof.Proof.Gen.Pre_finite_gains
public import proofs.«01_k».proof.Proof.Gen.Pre_finite_keys
public import proofs.«01_k».proof.Proof.Gen.Pre_finite_heads
public import proofs.«01_k».proof.Proof.Gen.Pre_finite_keys_in
public import proofs.«01_k».proof.Proof.Gen.On_rows_written
public import proofs.«01_k».proof.Proof.ClaimAttnPrompt
public import proofs.«01_k».proof.Proof.ClaimAttnSample
public import proofs.«01_k».proof.Proof.ClaimSwigluIn
public import proofs.«01_k».proof.Proof.ClaimFfnOut
public import proofs.«01_k».proof.Proof.ClaimLayerNorm
public import proofs.«01_k».proof.Proof.ClaimOddIn
public import proofs.«01_k».proof.Proof.ClaimEvenIn
public import proofs.«01_k».proof.Proof.ClaimEvenOut
public import proofs.«01_k».proof.Proof.ClaimOddOut
public import proofs.«01_k».proof.Proof.ClaimAda
public import proofs.«01_k».proof.Proof.ClaimModulate
public import proofs.«01_k».proof.Proof.ClaimLnMod
public import proofs.«01_k».proof.Proof.ClaimRwkvPost
public import proofs.«01_k».proof.Proof.ClaimRwkvPrep
public import Idealize.ShloMosaic.Lib.Claim
public import Idealize.ShloMosaic.Lib.Quiescent

@[expose] public section

noncomputable section

namespace Cert.Proof

open Idealize.ShloMosaic Idealize.SL.Sem

/-- The reference program ReferenceIdeal leaves its arguments and the counters as they were. -/
theorem frame_ReferenceIdeal (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r =>
      (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨fun c => (h c).2.2.2, sem_eq_zero_of_no_sems rfl r.2⟩) (Cert.ReferenceIdeal.Value.run m g)

/-- The reference program Reference2Ideal leaves its arguments and the counters as they were. -/
theorem frame_Reference2Ideal (m : (ℓ : Loc Cert.Reference2Ideal.nD Cert.Reference2Ideal.τ Cert.Reference2Ideal.sig) → Buf (Elt Ideal) ℓ) (g : Dev Cert.Reference2Ideal.nD → PrngReg) :
    θ_run (Cert.Reference2Ideal.defs (F := Ideal)) (onTc (τ := Cert.Reference2Ideal.τ) (Cert.Reference2Ideal.main (F := Ideal))) ⟨m, fun _ => 0, g⟩ (fun r =>
      (∀ c : Dev Cert.Reference2Ideal.nD,
        r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
        ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
        ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
        ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
        ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
        ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0) :=
  (θ_run _ _ _).mono (fun r h => ⟨fun c => (h c).2, sem_eq_zero_of_no_sems rfl r.2⟩) (Cert.Reference2Ideal.Value.run m g)

/-- The reference program Reference3Ideal leaves its arguments and the counters as they were. -/
theorem frame_Reference3Ideal (m : (ℓ : Loc Cert.Reference3Ideal.nD Cert.Reference3Ideal.τ Cert.Reference3Ideal.sig) → Buf (Elt Ideal) ℓ) (g : Dev Cert.Reference3Ideal.nD → PrngReg) :
    θ_run (Cert.Reference3Ideal.defs (F := Ideal)) (onTc (τ := Cert.Reference3Ideal.τ) (Cert.Reference3Ideal.main (F := Ideal))) ⟨m, fun _ => 0, g⟩ (fun r =>
      (∀ c : Dev Cert.Reference3Ideal.nD,
        r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
        ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
        ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0) :=
  (θ_run _ _ _).mono (fun r h => ⟨fun c => (h c).2.2, sem_eq_zero_of_no_sems rfl r.2⟩) (Cert.Reference3Ideal.Value.run m g)

/-- The reference program Reference4Ideal leaves its arguments and the counters as they were. -/
theorem frame_Reference4Ideal (m : (ℓ : Loc Cert.Reference4Ideal.nD Cert.Reference4Ideal.τ Cert.Reference4Ideal.sig) → Buf (Elt Ideal) ℓ) (g : Dev Cert.Reference4Ideal.nD → PrngReg) :
    θ_run (Cert.Reference4Ideal.defs (F := Ideal)) (onTc (τ := Cert.Reference4Ideal.τ) (Cert.Reference4Ideal.main (F := Ideal))) ⟨m, fun _ => 0, g⟩ (fun r =>
      (∀ c : Dev Cert.Reference4Ideal.nD,
        r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
        ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
        ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
        ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0) :=
  (θ_run _ _ _).mono (fun r h => ⟨fun c => (h c).2, sem_eq_zero_of_no_sems rfl r.2⟩) (Cert.Reference4Ideal.Value.run m g)

/-- The reference program Reference5Ideal leaves its arguments and the counters as they were. -/
theorem frame_Reference5Ideal (m : (ℓ : Loc Cert.Reference5Ideal.nD Cert.Reference5Ideal.τ Cert.Reference5Ideal.sig) → Buf (Elt Ideal) ℓ) (g : Dev Cert.Reference5Ideal.nD → PrngReg) :
    θ_run (Cert.Reference5Ideal.defs (F := Ideal)) (onTc (τ := Cert.Reference5Ideal.τ) (Cert.Reference5Ideal.main (F := Ideal))) ⟨m, fun _ => 0, g⟩ (fun r =>
      (∀ c : Dev Cert.Reference5Ideal.nD,
        r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
        ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
        ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0) :=
  (θ_run _ _ _).mono (fun r h => ⟨fun c => (h c).2, sem_eq_zero_of_no_sems rfl r.2⟩) (Cert.Reference5Ideal.Value.run m g)

/-- The reference program Reference6Ideal leaves its arguments and the counters as they were. -/
theorem frame_Reference6Ideal (m : (ℓ : Loc Cert.Reference6Ideal.nD Cert.Reference6Ideal.τ Cert.Reference6Ideal.sig) → Buf (Elt Ideal) ℓ) (g : Dev Cert.Reference6Ideal.nD → PrngReg) :
    θ_run (Cert.Reference6Ideal.defs (F := Ideal)) (onTc (τ := Cert.Reference6Ideal.τ) (Cert.Reference6Ideal.main (F := Ideal))) ⟨m, fun _ => 0, g⟩ (fun r =>
      (∀ c : Dev Cert.Reference6Ideal.nD,
        r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
        ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
        ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0) :=
  (θ_run _ _ _).mono (fun r h => ⟨fun c => (h c).2, sem_eq_zero_of_no_sems rfl r.2⟩) (Cert.Reference6Ideal.Value.run m g)

/-- The reference program Reference7Ideal leaves its arguments and the counters as they were. -/
theorem frame_Reference7Ideal (m : (ℓ : Loc Cert.Reference7Ideal.nD Cert.Reference7Ideal.τ Cert.Reference7Ideal.sig) → Buf (Elt Ideal) ℓ) (g : Dev Cert.Reference7Ideal.nD → PrngReg) :
    θ_run (Cert.Reference7Ideal.defs (F := Ideal)) (onTc (τ := Cert.Reference7Ideal.τ) (Cert.Reference7Ideal.main (F := Ideal))) ⟨m, fun _ => 0, g⟩ (fun r =>
      (∀ c : Dev Cert.Reference7Ideal.nD,
        r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
        ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
        ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0) :=
  (θ_run _ _ _).mono (fun r h => ⟨fun c => (h c).2, sem_eq_zero_of_no_sems rfl r.2⟩) (Cert.Reference7Ideal.Value.run m g)

/-- The reference program Reference8Ideal leaves its arguments and the counters as they were. -/
theorem frame_Reference8Ideal (m : (ℓ : Loc Cert.Reference8Ideal.nD Cert.Reference8Ideal.τ Cert.Reference8Ideal.sig) → Buf (Elt Ideal) ℓ) (g : Dev Cert.Reference8Ideal.nD → PrngReg) :
    θ_run (Cert.Reference8Ideal.defs (F := Ideal)) (onTc (τ := Cert.Reference8Ideal.τ) (Cert.Reference8Ideal.main (F := Ideal))) ⟨m, fun _ => 0, g⟩ (fun r =>
      (∀ c : Dev Cert.Reference8Ideal.nD,
        r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
        ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
        ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0) :=
  (θ_run _ _ _).mono (fun r h => ⟨fun c => (h c).2, sem_eq_zero_of_no_sems rfl r.2⟩) (Cert.Reference8Ideal.Value.run m g)

/-- The reference program Reference9Ideal leaves its arguments and the counters as they were. -/
theorem frame_Reference9Ideal (m : (ℓ : Loc Cert.Reference9Ideal.nD Cert.Reference9Ideal.τ Cert.Reference9Ideal.sig) → Buf (Elt Ideal) ℓ) (g : Dev Cert.Reference9Ideal.nD → PrngReg) :
    θ_run (Cert.Reference9Ideal.defs (F := Ideal)) (onTc (τ := Cert.Reference9Ideal.τ) (Cert.Reference9Ideal.main (F := Ideal))) ⟨m, fun _ => 0, g⟩ (fun r =>
      (∀ c : Dev Cert.Reference9Ideal.nD,
        r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
        ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
        ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
        ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0) :=
  (θ_run _ _ _).mono (fun r h => ⟨fun c => (h c).2, sem_eq_zero_of_no_sems rfl r.2⟩) (Cert.Reference9Ideal.Value.run m g)

/-- The reference program Reference10Ideal leaves its arguments and the counters as they were. -/
theorem frame_Reference10Ideal (m : (ℓ : Loc Cert.Reference10Ideal.nD Cert.Reference10Ideal.τ Cert.Reference10Ideal.sig) → Buf (Elt Ideal) ℓ) (g : Dev Cert.Reference10Ideal.nD → PrngReg) :
    θ_run (Cert.Reference10Ideal.defs (F := Ideal)) (onTc (τ := Cert.Reference10Ideal.τ) (Cert.Reference10Ideal.main (F := Ideal))) ⟨m, fun _ => 0, g⟩ (fun r =>
      (∀ c : Dev Cert.Reference10Ideal.nD,
        r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
        ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
        ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
        ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
        ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0) :=
  (θ_run _ _ _).mono (fun r h => ⟨fun c => (h c).2, sem_eq_zero_of_no_sems rfl r.2⟩) (Cert.Reference10Ideal.Value.run m g)

/-- The reference program Reference11Ideal leaves its arguments and the counters as they were. -/
theorem frame_Reference11Ideal (m : (ℓ : Loc Cert.Reference11Ideal.nD Cert.Reference11Ideal.τ Cert.Reference11Ideal.sig) → Buf (Elt Ideal) ℓ) (g : Dev Cert.Reference11Ideal.nD → PrngReg) :
    θ_run (Cert.Reference11Ideal.defs (F := Ideal)) (onTc (τ := Cert.Reference11Ideal.τ) (Cert.Reference11Ideal.main (F := Ideal))) ⟨m, fun _ => 0, g⟩ (fun r =>
      (∀ c : Dev Cert.Reference11Ideal.nD,
        r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
        ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
        ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
        ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0) :=
  (θ_run _ _ _).mono (fun r h => ⟨fun c => (h c).2, sem_eq_zero_of_no_sems rfl r.2⟩) (Cert.Reference11Ideal.Value.run m g)

/-- The reference program Reference12Ideal leaves its arguments and the counters as they were. -/
theorem frame_Reference12Ideal (m : (ℓ : Loc Cert.Reference12Ideal.nD Cert.Reference12Ideal.τ Cert.Reference12Ideal.sig) → Buf (Elt Ideal) ℓ) (g : Dev Cert.Reference12Ideal.nD → PrngReg) :
    θ_run (Cert.Reference12Ideal.defs (F := Ideal)) (onTc (τ := Cert.Reference12Ideal.τ) (Cert.Reference12Ideal.main (F := Ideal))) ⟨m, fun _ => 0, g⟩ (fun r =>
      (∀ c : Dev Cert.Reference12Ideal.nD,
        r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
        ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
        ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0) :=
  (θ_run _ _ _).mono (fun r h => ⟨fun c => (h c).2, sem_eq_zero_of_no_sems rfl r.2⟩) (Cert.Reference12Ideal.Value.run m g)

/-- The reference program Reference13Ideal leaves its arguments and the counters as they were. -/
theorem frame_Reference13Ideal (m : (ℓ : Loc Cert.Reference13Ideal.nD Cert.Reference13Ideal.τ Cert.Reference13Ideal.sig) → Buf (Elt Ideal) ℓ) (g : Dev Cert.Reference13Ideal.nD → PrngReg) :
    θ_run (Cert.Reference13Ideal.defs (F := Ideal)) (onTc (τ := Cert.Reference13Ideal.τ) (Cert.Reference13Ideal.main (F := Ideal))) ⟨m, fun _ => 0, g⟩ (fun r =>
      (∀ c : Dev Cert.Reference13Ideal.nD,
        r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
        ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
        ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
        ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0) :=
  (θ_run _ _ _).mono (fun r h => ⟨fun c => (h c).2.2, sem_eq_zero_of_no_sems rfl r.2⟩) (Cert.Reference13Ideal.Value.run m g)

/-- The reference program Reference14Ideal leaves its arguments and the counters as they were. -/
theorem frame_Reference14Ideal (m : (ℓ : Loc Cert.Reference14Ideal.nD Cert.Reference14Ideal.τ Cert.Reference14Ideal.sig) → Buf (Elt Ideal) ℓ) (g : Dev Cert.Reference14Ideal.nD → PrngReg) :
    θ_run (Cert.Reference14Ideal.defs (F := Ideal)) (onTc (τ := Cert.Reference14Ideal.τ) (Cert.Reference14Ideal.main (F := Ideal))) ⟨m, fun _ => 0, g⟩ (fun r =>
      (∀ c : Dev Cert.Reference14Ideal.nD,
        r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
        ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
        ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
        ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
        ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
        ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
        ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
        ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7)
        ∧ r.2.mem ((c.tc : Thread Cert.Reference14Ideal.nD Cert.Reference14Ideal.τ).loc Cert.Reference14Ideal.main_arg8) = m ((c.tc : Thread Cert.Reference14Ideal.nD Cert.Reference14Ideal.τ).loc Cert.Reference14Ideal.main_arg8))
      ∧ r.2.sem = fun _ => 0) :=
  (θ_run _ _ _).mono (fun r h => ⟨fun c => (h c).2, sem_eq_zero_of_no_sems rfl r.2⟩) (Cert.Reference14Ideal.Value.run m g)

/-- The reference program Reference15Ideal leaves its arguments and the counters as they were. -/
theorem frame_Reference15Ideal (m : (ℓ : Loc Cert.Reference15Ideal.nD Cert.Reference15Ideal.τ Cert.Reference15Ideal.sig) → Buf (Elt Ideal) ℓ) (g : Dev Cert.Reference15Ideal.nD → PrngReg) :
    θ_run (Cert.Reference15Ideal.defs (F := Ideal)) (onTc (τ := Cert.Reference15Ideal.τ) (Cert.Reference15Ideal.main (F := Ideal))) ⟨m, fun _ => 0, g⟩ (fun r =>
      (∀ c : Dev Cert.Reference15Ideal.nD,
        r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
        ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
        ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
        ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
        ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
        ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
        ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6)
        ∧ r.2.mem ((c.tc : Thread Cert.Reference15Ideal.nD Cert.Reference15Ideal.τ).loc Cert.Reference15Ideal.main_arg7) = m ((c.tc : Thread Cert.Reference15Ideal.nD Cert.Reference15Ideal.τ).loc Cert.Reference15Ideal.main_arg7)
        ∧ r.2.mem ((c.tc : Thread Cert.Reference15Ideal.nD Cert.Reference15Ideal.τ).loc Cert.Reference15Ideal.main_arg8) = m ((c.tc : Thread Cert.Reference15Ideal.nD Cert.Reference15Ideal.τ).loc Cert.Reference15Ideal.main_arg8)
        ∧ r.2.mem ((c.tc : Thread Cert.Reference15Ideal.nD Cert.Reference15Ideal.τ).loc Cert.Reference15Ideal.main_arg9) = m ((c.tc : Thread Cert.Reference15Ideal.nD Cert.Reference15Ideal.τ).loc Cert.Reference15Ideal.main_arg9))
      ∧ r.2.sem = fun _ => 0) :=
  (θ_run _ _ _).mono (fun r h => ⟨fun c => (h c).2.2.2.2.2.2.2, sem_eq_zero_of_no_sems rfl r.2⟩) (Cert.Reference15Ideal.Value.run m g)

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Pre_finite_gains.Gen.facts, Cert.Pre_finite_keys.Gen.facts, Cert.Pre_finite_heads.Gen.facts, Cert.Pre_finite_keys_in.Gen.facts, Cert.On_rows_written.Gen.facts,
  fun m g _ => Cert.Kernel.Gen.frame m g,
  fun m g _ => Cert.KernelIdeal.Gen.frame m g,
  fun m g _ => Cert.KernelIdeal.Gen.frame m g,
  fun m g _ => frame_ReferenceIdeal m g,
  fun m g _ => frame_ReferenceIdeal m g,
  fun m g _ => Cert.Kernel2.Gen.frame m g,
  fun m g _ => Cert.Kernel2Ideal.Gen.frame m g,
  fun m g _ => Cert.Kernel2Ideal.Gen.frame m g,
  fun m g _ => frame_Reference2Ideal m g,
  fun m g _ => frame_Reference2Ideal m g,
  fun m g _ => Cert.Kernel3.Gen.frame m g,
  fun m g _ => Cert.Kernel3Ideal.Gen.frame m g,
  fun m g _ => frame_Reference3Ideal m g,
  fun m g _ => Cert.Kernel4.Gen.frame m g,
  fun m g _ => Cert.Kernel4Ideal.Gen.frame m g,
  fun m g _ => frame_Reference4Ideal m g,
  fun m g _ => Cert.Kernel5.Gen.frame m g,
  fun m g _ => Cert.Kernel5Ideal.Gen.frame m g,
  fun m g _ => frame_Reference5Ideal m g,
  fun m g _ => Cert.Kernel6.Gen.frame m g,
  fun m g _ => Cert.Kernel6Ideal.Gen.frame m g,
  fun m g _ => frame_Reference6Ideal m g,
  fun m g _ => Cert.Kernel7.Gen.frame m g,
  fun m g _ => Cert.Kernel7Ideal.Gen.frame m g,
  fun m g _ => frame_Reference7Ideal m g,
  fun m g _ => Cert.Kernel8.Gen.frame m g,
  fun m g _ => Cert.Kernel8Ideal.Gen.frame m g,
  fun m g _ => frame_Reference8Ideal m g,
  fun m g _ => Cert.Kernel9.Gen.frame m g,
  fun m g _ => Cert.Kernel9Ideal.Gen.frame m g,
  fun m g _ => frame_Reference9Ideal m g,
  fun m g _ => Cert.Kernel10.Gen.frame m g,
  fun m g _ => Cert.Kernel10Ideal.Gen.frame m g,
  fun m g _ => frame_Reference10Ideal m g,
  fun m g _ => Cert.Kernel11.Gen.frame m g,
  fun m g _ => Cert.Kernel11Ideal.Gen.frame m g,
  fun m g _ => frame_Reference11Ideal m g,
  fun m g _ => Cert.Kernel12.Gen.frame m g,
  fun m g _ => Cert.Kernel12Ideal.Gen.frame m g,
  fun m g _ => frame_Reference12Ideal m g,
  fun m g _ => Cert.Kernel13.Gen.frame m g,
  fun m g _ => Cert.Kernel13Ideal.Gen.frame m g,
  fun m g _ => frame_Reference13Ideal m g,
  fun m g _ => Cert.Kernel14.Gen.frame m g,
  fun m g _ => Cert.Kernel14Ideal.Gen.frame m g,
  fun m g _ => Cert.Kernel14Ideal.Gen.frame m g,
  fun m g _ => frame_Reference14Ideal m g,
  fun m g _ => frame_Reference14Ideal m g,
  fun m g _ => Cert.Kernel15.Gen.frame m g,
  fun m g _ => Cert.Kernel15Ideal.Gen.frame m g,
  fun m g _ => Cert.Kernel15Ideal.Gen.frame m g,
  fun m g _ => frame_Reference15Ideal m g,
  fun m g _ => frame_Reference15Ideal m g,
  trivial,
  algebraic_attn_prompt,
  trivial,
  algebraic_attn_sample,
  trivial,
  algebraic_swiglu_in,
  trivial,
  algebraic_ffn_out,
  trivial,
  algebraic_ln_prompt,
  trivial,
  algebraic_ln_sample,
  trivial,
  algebraic_odd_in,
  trivial,
  algebraic_even_in,
  trivial,
  algebraic_even_out,
  trivial,
  algebraic_odd_out,
  trivial,
  algebraic_ada,
  trivial,
  algebraic_modulate,
  trivial,
  algebraic_ln_mod,
  trivial,
  algebraic_rwkv_post,
  trivial,
  algebraic_rwkv_prep⟩

end Cert.Proof

end

end
